-- ==== Defs.lean ====
def Pre_Kernel [hPre_ranged : Cert.Pre_ranged.Facts] (m : (ℓ : Loc Cert.Kernel.nD Cert.Kernel.τ Cert.Kernel.sig) → Buf (Elt Bits) ℓ) : Prop :=
  ∀ c : Dev Cert.Kernel.nD,
    (Cert.Pre_ranged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ranged : Cert.Pre_ranged.Facts] (m : (ℓ : Loc Cert.KernelIdeal.nD Cert.KernelIdeal.τ Cert.KernelIdeal.sig) → Buf (Elt Ideal) ℓ) : Prop :=
  ∀ c : Dev Cert.KernelIdeal.nD,
    (Cert.Pre_ranged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ranged : Cert.Pre_ranged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ranged : Cert.Pre_ranged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ranged : Cert.Pre_ranged.Facts) (hPre_valid : Cert.Pre_valid.Facts),
    quiescent_Kernel (hKernel := hKernel) (hPre_ranged := hPre_ranged)
    ∧ quiescent_KernelIdeal (hKernelIdeal := hKernelIdeal) (hPre_ranged := hPre_ranged)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_ranged.lean ====
abbrev S100000x128 : Shape := ⟨2, ![100000, 128]⟩
abbrev S100000 : Shape := ⟨1, ![100000]⟩
abbrev S128 : Shape := ⟨1, ![128]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_valid.lean ====
abbrev S100000x128 : Shape := ⟨2, ![100000, 128]⟩
abbrev S100000 : Shape := ⟨1, ![100000]⟩
abbrev S128 : Shape := ⟨1, ![128]⟩
abbrev S1 : Shape := ⟨1, ![1]⟩
abbrev S_ : Shape := ⟨0, ![]⟩
abbrev S99999 : Shape := ⟨1, ![99999]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  slices_S100000_S99999_0 : S100000.Slices ![0] S99999
  slices_S100000_S99999_1 : S100000.Slices ![1] S99999
  reducesTo_S99999_S_d0 : S99999.ReducesTo [0] S_

variable [Facts]

def fn_part1 {F : FTy → Type} [FloatOps F] (main_arg1 : IVec S100000 32) (main_v13 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_c_6 : IVec S_ 32 := constantI S_ 32 256#32
  let main_v17 : IVec S100000 32 := broadcastInDim S100000 ![] bcast_S_S100000 main_c_6
  let main_v18 : IVec S100000 1 := cmpi .slt main_arg1 main_v17
  let main_c_7 : IVec S_ 1 := constantI S_ 1 1#1
  let main_v19 : IVec S_ 1 := (fun x v => Host.reduce IntOp.andi x v reducesTo_S100000_S_d0 h_S_) main_v18 main_c_7
  let main_v20 : IVec S_ 1 := andi main_v16 main_v19
  let main_v21 : IVec S_ 1 := andi main_v13 main_v20
  let main_v22 : IVec S99999 32 := (extractStridedSlice S99999 ![0] · slices_S100000_S99999_0) main_arg1
  let main_v23 : IVec S99999 32 := (extractStridedSlice S99999 ![1] · slices_S100000_S99999_1) main_arg1
  let main_v24 : IVec S99999 1 := cmpi .sle main_v22 main_v23
  let main_c_8 : IVec S_ 1 := constantI S_ 1 1#1
  let main_v25 : IVec S_ 1 := (fun x v => Host.reduce IntOp.andi x v reducesTo_S99999_S_d0 h_S_) main_v24 main_c_8
  let main_v26 : IVec S_ 1 := andi main_v21 main_v25
  main_v26

def fn {F : FTy → Type} [FloatOps F] (main_arg0 : FVec F S100000x128 .f32) (main_arg1 : IVec S100000 32) (main_arg2 : FVec F S128 .f32) (main_arg3 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 1 := constantI S_ 1 1#1
  fn_part1 (F := F) main_arg1 main_v13 main_v15 main_c_5
-- ==== Kernel.lean ====
abbrev S100000x128 : Shape := ⟨2, ![100000, 128]⟩
abbrev S100000 : Shape := ⟨1, ![100000]⟩
abbrev S128 : Shape := ⟨1, ![128]⟩
abbrev S1 : Shape := ⟨1, ![1]⟩
abbrev S128x1 : Shape := ⟨2, ![128, 1]⟩
abbrev S1x1 : Shape := ⟨2, ![1, 1]⟩
abbrev S100000x1 : Shape := ⟨2, ![100000, 1]⟩
abbrev S20000x128 : Shape := ⟨2, ![20000, 128]⟩
abbrev S20000x1 : Shape := ⟨2, ![20000, 1]⟩
abbrev S32x256x128 : Shape := ⟨3, ![32, 256, 128]⟩
abbrev S32x256 : Shape := ⟨2, ![32, 256]⟩
abbrev S3136 : Shape := ⟨1, ![3136]⟩
abbrev S256x16 : Shape := ⟨2, ![256, 16]⟩
abbrev S256 : Shape := ⟨1, ![256]⟩
abbrev S256x128 : Shape := ⟨2, ![256, 128]⟩
abbrev S112x128 : Shape := ⟨2, ![112, 128]⟩
abbrev S_ : Shape := ⟨0, ![]⟩
abbrev S16 : Shape := ⟨1, ![16]⟩
abbrev S2784 : Shape := ⟨1, ![2784]⟩
abbrev S1x16 : Shape := ⟨2, ![1, 16]⟩
abbrev S96x128 : Shape := ⟨2, ![96, 128]⟩
abbrev S1x256x128 : Shape := ⟨3, ![1, 256, 128]⟩
abbrev S1x256 : Shape := ⟨2, ![1, 256]⟩
abbrev S256x1 : Shape := ⟨2, ![256, 1]⟩

abbrev nBuf : Table → Nat
  | .hbm => 11
  | .local .tc .vmem => 9
  | .local .scVector .vmem => 8
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S128, .f32⟩
  | .hbm, ⟨3, _⟩ => ⟨S1, .f32⟩
  | .hbm, ⟨4, _⟩ => ⟨S128x1, .f32⟩
  | .hbm, ⟨5, _⟩ => ⟨S1x1, .f32⟩
  | .hbm, ⟨6, _⟩ => ⟨S100000x1, .f32⟩
  | .hbm, ⟨7, _⟩ => ⟨S100000, .f32⟩
  | .hbm, ⟨8, _⟩ => ⟨S32x256x128, .f32⟩
  | .hbm, ⟨9, _⟩ => ⟨S32x256, .f32⟩
  | .hbm, ⟨10, _⟩ => ⟨S256x128, .f32⟩
  | .local .tc .vmem, ⟨0, _⟩ => ⟨S20000x128, .f32⟩
  | .local .tc .vmem, ⟨1, _⟩ => ⟨S20000x128, .f32⟩
  | .local .tc .vmem, ⟨2, _⟩ => ⟨S128x1, .f32⟩
  | .local .tc .vmem, ⟨3, _⟩ => ⟨S1x1, .f32⟩
  | .local .tc .vmem, ⟨4, _⟩ => ⟨S20000x1, .f32⟩
  | .local .tc .vmem, ⟨5, _⟩ => ⟨S20000x1, .f32⟩
  | .local .tc .vmem, ⟨6, _⟩ => ⟨S32x256x128, .f32⟩
  | .local .tc .vmem, ⟨7, _⟩ => ⟨S32x256, .f32⟩
  | .local .tc .vmem, ⟨8, _⟩ => ⟨S256x128, .f32⟩
  | .local .scVector .vmem, ⟨0, _⟩ => ⟨S3136, .i32⟩
  | .local .scVector .vmem, ⟨1, _⟩ => ⟨S3136, .f32⟩
  | .local .scVector .vmem, ⟨2, _⟩ => ⟨S3136, .f32⟩
  | .local .scVector .vmem, ⟨3, _⟩ => ⟨S256x16, .f32⟩
  | .local .scVector .vmem, ⟨4, _⟩ => ⟨S256, .f32⟩
  | .local .scVector .vmem, ⟨5, _⟩ => ⟨S256x128, .f32⟩
  | .local .scVector .vmem, ⟨6, _⟩ => ⟨S112x128, .f32⟩
  | .local .scVector .vmem, ⟨7, _⟩ => ⟨S112x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_arg0_scv : Ref sig .scVector := ⟨.hbm, 0, rfl⟩
abbrev main_arg1_scv : Ref sig .scVector := ⟨.hbm, 1, rfl⟩
abbrev main_v3_scv : Ref sig .scVector := ⟨.hbm, 7, rfl⟩
abbrev main_v4_0_scv : Ref sig .scVector := ⟨.hbm, 8, rfl⟩
abbrev main_v4_1_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 14
abbrev cc2_sem1_0 : DmaSem sig := 15
abbrev cc2_sem2_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond1 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_0 : BitVec 32 := 31#32
  let v6 : BitVec 1 := Scalar.cmpi .slt v1 c31_i32_0
  let v7 : BitVec 32 := Scalar.extui v6
  let c0_i32 : BitVec 32 := 0#32
  let v8 : BitVec 1 := Scalar.cmpi .ne v7 c0_i32
  v8

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  ![v3.toNat]
def k1_cond2 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_1 : BitVec 32 := 31#32
  let v9 : BitVec 1 := Scalar.cmpi .eq v1 c31_i32_1
  let v10 : BitVec 32 := Scalar.extui v9
  let c0_i32_2 : BitVec 32 := 0#32
  let v11 : BitVec 1 := Scalar.cmpi .ne v10 c0_i32_2
  v11

def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  ![v3.toNat]
@[reducible] def k1_t1_loop : Scf.Loop 32 :=
  let c0_i32_4 : BitVec 32 := 0#32
  let c256_i32 : BitVec 32 := 256#32
  let v12 : BitVec 32 := Scalar.addi c0_i32_4 c256_i32
  let c1_i32 : BitVec 32 := 1#32
  ⟨c0_i32_4, v12, c1_i32⟩
def k1_off3 (k1_t1 : Fin k1_t1_loop.trips) : Fin 2 → Nat :=
  let c0_i32_4 : BitVec 32 := 0#32
  let c1_i32 : BitVec 32 := 1#32
  let arg16 : BitVec 32 := Scf.iv c0_i32_4 c1_i32 k1_t1
  let v41 : Index := Scalar.indexCast arg16
  let c0 : Index := 0#32
  ![v41.toNat, 0]
@[reducible] def k1_t2_loop (i : grid1.Coords) : Scf.Loop 32 :=
  let c0_i32_6 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v4 : BitVec 1 := Scalar.cmpi .eq v1 c31_i32
  let c174_i32 : BitVec 32 := 174#32
  let c196_i32 : BitVec 32 := 196#32
  let v5 : BitVec 32 := Scalar.select v4 c174_i32 c196_i32
  let v14 : BitVec 32 := Scalar.subi v5 c0_i32_6
  let c1_i32_8 : BitVec 32 := 1#32
  let v16 : BitVec 32 := Scalar.divsi v14 c1_i32_8
  let v17 : BitVec 32 := Scalar.muli v16 c1_i32_8
  let v18 : BitVec 32 := Scalar.addi c0_i32_6 v17
  let c1_i32_9 : BitVec 32 := 1#32
  ⟨c0_i32_6, v18, c1_i32_9⟩
def k1_off4 (i : grid1.Coords) (k1_t2 : Fin (k1_t2_loop i).trips) : Fin 1 → Nat :=
  let c0_i32_6 : BitVec 32 := 0#32
  let c1_i32_9 : BitVec 32 := 1#32
  let arg16 : BitVec 32 := Scf.iv c0_i32_6 c1_i32_9 k1_t2
  let c16_i32_32 : BitVec 32 := 16#32
  let v40 : BitVec 32 := Scalar.muli arg16 c16_i32_32
  let v41 : Index := Scalar.indexCast v40
  ![v41.toNat]

def k1_chk1 (v2 : IVec S16 32) (v42 : IVec S16 32) : Prop :=
  (∀ a x, ((![v42, v2] : Fin 2 → IVec S16 32) a x).toNat < S256x16.size a)
theorem k1_idx1_inb : ∀ (v2 : IVec S16 32) (v42 : IVec S16 32) (k1_hw1 : k1_chk1 v2 v42), ∀ a x, ((![v42, v2] : Fin 2 → IVec S16 32) a x).toNat < S256x16.size a := fun v2 v42 k1_hw1 => k1_hw1
@[reducible] def k1_t3_loop (i : grid1.Coords) : Scf.Loop 32 :=
  let c0_i32_6 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v4 : BitVec 1 := Scalar.cmpi .eq v1 c31_i32
  let c174_i32 : BitVec 32 := 174#32
  let c196_i32 : BitVec 32 := 196#32
  let v5 : BitVec 32 := Scalar.select v4 c174_i32 c196_i32
  let v14 : BitVec 32 := Scalar.subi v5 c0_i32_6
  let c1_i32_8 : BitVec 32 := 1#32
  let v16 : BitVec 32 := Scalar.divsi v14 c1_i32_8
  let v17 : BitVec 32 := Scalar.muli v16 c1_i32_8
  let v18 : BitVec 32 := Scalar.addi c0_i32_6 v17
  let v15 : BitVec 32 := Scalar.addi c0_i32_6 v14
  let c1_i32_10 : BitVec 32 := 1#32
  ⟨v18, v15, c1_i32_10⟩
def k1_off5 (i : grid1.Coords) (k1_t3 : Fin (k1_t3_loop i).trips) : Fin 1 → Nat :=
  let c0_i32_6 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v4 : BitVec 1 := Scalar.cmpi .eq v1 c31_i32
  let c174_i32 : BitVec 32 := 174#32
  let c196_i32 : BitVec 32 := 196#32
  let v5 : BitVec 32 := Scalar.select v4 c174_i32 c196_i32
  let v14 : BitVec 32 := Scalar.subi v5 c0_i32_6
  let c1_i32_8 : BitVec 32 := 1#32
  let v16 : BitVec 32 := Scalar.divsi v14 c1_i32_8
  let v17 : BitVec 32 := Scalar.muli v16 c1_i32_8
  let v18 : BitVec 32 := Scalar.addi c0_i32_6 v17
  let c1_i32_10 : BitVec 32 := 1#32
  let arg16 : BitVec 32 := Scf.iv v18 c1_i32_10 k1_t3
  let c16_i32_32 : BitVec 32 := 16#32
  let v40 : BitVec 32 := Scalar.muli arg16 c16_i32_32
  let v41 : Index := Scalar.indexCast v40
  ![v41.toNat]

def k1_chk2 (i : grid1.Coords) (v2 : IVec S16 32) (k1_t3 : Fin (k1_t3_loop i).trips) (v42 : IVec S16 32) : Prop :=
  (∀ a x, ((![v42, v2] : Fin 2 → IVec S16 32) a x).toNat < S256x16.size a)
theorem k1_idx2_inb : ∀ (i : grid1.Coords) (v2 : IVec S16 32) (k1_t3 : Fin (k1_t3_loop i).trips) (v42 : IVec S16 32) (k1_hw2 : k1_chk2 i v2 k1_t3 v42), ∀ a x, ((![v42, v2] : Fin 2 → IVec S16 32) a x).toNat < S256x16.size a := fun i v2 k1_t3 v42 k1_hw2 => k1_hw2
@[reducible] def k1_t4_loop : Scf.Loop 32 :=
  let c0_i32_12 : BitVec 32 := 0#32
  let c16_i32_13 : BitVec 32 := 16#32
  let v21 : BitVec 32 := Scalar.addi c0_i32_12 c16_i32_13
  let c1_i32_14 : BitVec 32 := 1#32
  ⟨c0_i32_12, v21, c1_i32_14⟩

def k1_chk3 (v42 : IVec S16 32) (v44 : IVec S16 32) : Prop :=
  (∀ a x, ((![v42, v44] : Fin 2 → IVec S16 32) a x).toNat < S256x16.size a)
theorem k1_idx3_inb : ∀ (v42 : IVec S16 32) (v44 : IVec S16 32) (k1_hw3 : k1_chk3 v42 v44), ∀ a x, ((![v42, v44] : Fin 2 → IVec S16 32) a x).toNat < S256x16.size a := fun v42 v44 k1_hw3 => k1_hw3

def k1_chk4 (v42 : IVec S16 32) (v47 : IVec S16 32) : Prop :=
  (∀ a x, ((![v42, v47] : Fin 2 → IVec S16 32) a x).toNat < S256x16.size a)
theorem k1_idx4_inb : ∀ (v42 : IVec S16 32) (v47 : IVec S16 32) (k1_hw4 : k1_chk4 v42 v47), ∀ a x, ((![v42, v47] : Fin 2 → IVec S16 32) a x).toNat < S256x16.size a := fun v42 v47 k1_hw4 => k1_hw4

def k1_chk5 (v42 : IVec S16 32) (v50 : IVec S16 32) : Prop :=
  (∀ a x, ((![v42, v50] : Fin 2 → IVec S16 32) a x).toNat < S256x16.size a)
theorem k1_idx5_inb : ∀ (v42 : IVec S16 32) (v50 : IVec S16 32) (k1_hw5 : k1_chk5 v42 v50), ∀ a x, ((![v42, v50] : Fin 2 → IVec S16 32) a x).toNat < S256x16.size a := fun v42 v50 k1_hw5 => k1_hw5

def k1_chk6 (v42 : IVec S16 32) (v53 : IVec S16 32) : Prop :=
  (∀ a x, ((![v42, v53] : Fin 2 → IVec S16 32) a x).toNat < S256x16.size a)
theorem k1_idx6_inb : ∀ (v42 : IVec S16 32) (v53 : IVec S16 32) (k1_hw6 : k1_chk6 v42 v53), ∀ a x, ((![v42, v53] : Fin 2 → IVec S16 32) a x).toNat < S256x16.size a := fun v42 v53 k1_hw6 => k1_hw6

def k1_chk7 (v42 : IVec S16 32) (v56 : IVec S16 32) : Prop :=
  (∀ a x, ((![v42, v56] : Fin 2 → IVec S16 32) a x).toNat < S256x16.size a)
theorem k1_idx7_inb : ∀ (v42 : IVec S16 32) (v56 : IVec S16 32) (k1_hw7 : k1_chk7 v42 v56), ∀ a x, ((![v42, v56] : Fin 2 → IVec S16 32) a x).toNat < S256x16.size a := fun v42 v56 k1_hw7 => k1_hw7

def k1_chk8 (v42 : IVec S16 32) (v59 : IVec S16 32) : Prop :=
  (∀ a x, ((![v42, v59] : Fin 2 → IVec S16 32) a x).toNat < S256x16.size a)
theorem k1_idx8_inb : ∀ (v42 : IVec S16 32) (v59 : IVec S16 32) (k1_hw8 : k1_chk8 v42 v59), ∀ a x, ((![v42, v59] : Fin 2 → IVec S16 32) a x).toNat < S256x16.size a := fun v42 v59 k1_hw8 => k1_hw8

def k1_chk9 (v42 : IVec S16 32) (v62 : IVec S16 32) : Prop :=
  (∀ a x, ((![v42, v62] : Fin 2 → IVec S16 32) a x).toNat < S256x16.size a)
theorem k1_idx9_inb : ∀ (v42 : IVec S16 32) (v62 : IVec S16 32) (k1_hw9 : k1_chk9 v42 v62), ∀ a x, ((![v42, v62] : Fin 2 → IVec S16 32) a x).toNat < S256x16.size a := fun v42 v62 k1_hw9 => k1_hw9

def k1_chk10 (v42 : IVec S16 32) (v65 : IVec S16 32) : Prop :=
  (∀ a x, ((![v42, v65] : Fin 2 → IVec S16 32) a x).toNat < S256x16.size a)
theorem k1_idx10_inb : ∀ (v42 : IVec S16 32) (v65 : IVec S16 32) (k1_hw10 : k1_chk10 v42 v65), ∀ a x, ((![v42, v65] : Fin 2 → IVec S16 32) a x).toNat < S256x16.size a := fun v42 v65 k1_hw10 => k1_hw10

def k1_chk11 (v42 : IVec S16 32) (v68 : IVec S16 32) : Prop :=
  (∀ a x, ((![v42, v68] : Fin 2 → IVec S16 32) a x).toNat < S256x16.size a)
theorem k1_idx11_inb : ∀ (v42 : IVec S16 32) (v68 : IVec S16 32) (k1_hw11 : k1_chk11 v42 v68), ∀ a x, ((![v42, v68] : Fin 2 → IVec S16 32) a x).toNat < S256x16.size a := fun v42 v68 k1_hw11 => k1_hw11

def k1_chk12 (v42 : IVec S16 32) (v71 : IVec S16 32) : Prop :=
  (∀ a x, ((![v42, v71] : Fin 2 → IVec S16 32) a x).toNat < S256x16.size a)
theorem k1_idx12_inb : ∀ (v42 : IVec S16 32) (v71 : IVec S16 32) (k1_hw12 : k1_chk12 v42 v71), ∀ a x, ((![v42, v71] : Fin 2 → IVec S16 32) a x).toNat < S256x16.size a := fun v42 v71 k1_hw12 => k1_hw12

def k1_chk13 (v42 : IVec S16 32) (v74 : IVec S16 32) : Prop :=
  (∀ a x, ((![v42, v74] : Fin 2 → IVec S16 32) a x).toNat < S256x16.size a)
theorem k1_idx13_inb : ∀ (v42 : IVec S16 32) (v74 : IVec S16 32) (k1_hw13 : k1_chk13 v42 v74), ∀ a x, ((![v42, v74] : Fin 2 → IVec S16 32) a x).toNat < S256x16.size a := fun v42 v74 k1_hw13 => k1_hw13

def k1_chk14 (v42 : IVec S16 32) (v77 : IVec S16 32) : Prop :=
  (∀ a x, ((![v42, v77] : Fin 2 → IVec S16 32) a x).toNat < S256x16.size a)
theorem k1_idx14_inb : ∀ (v42 : IVec S16 32) (v77 : IVec S16 32) (k1_hw14 : k1_chk14 v42 v77), ∀ a x, ((![v42, v77] : Fin 2 → IVec S16 32) a x).toNat < S256x16.size a := fun v42 v77 k1_hw14 => k1_hw14

def k1_chk15 (v42 : IVec S16 32) (v80 : IVec S16 32) : Prop :=
  (∀ a x, ((![v42, v80] : Fin 2 → IVec S16 32) a x).toNat < S256x16.size a)
theorem k1_idx15_inb : ∀ (v42 : IVec S16 32) (v80 : IVec S16 32) (k1_hw15 : k1_chk15 v42 v80), ∀ a x, ((![v42, v80] : Fin 2 → IVec S16 32) a x).toNat < S256x16.size a := fun v42 v80 k1_hw15 => k1_hw15

def k1_chk16 (v42 : IVec S16 32) (v83 : IVec S16 32) : Prop :=
  (∀ a x, ((![v42, v83] : Fin 2 → IVec S16 32) a x).toNat < S256x16.size a)
theorem k1_idx16_inb : ∀ (v42 : IVec S16 32) (v83 : IVec S16 32) (k1_hw16 : k1_chk16 v42 v83), ∀ a x, ((![v42, v83] : Fin 2 → IVec S16 32) a x).toNat < S256x16.size a := fun v42 v83 k1_hw16 => k1_hw16

def k1_chk17 (v42 : IVec S16 32) (v86 : IVec S16 32) : Prop :=
  (∀ a x, ((![v42, v86] : Fin 2 → IVec S16 32) a x).toNat < S256x16.size a)
theorem k1_idx17_inb : ∀ (v42 : IVec S16 32) (v86 : IVec S16 32) (k1_hw17 : k1_chk17 v42 v86), ∀ a x, ((![v42, v86] : Fin 2 → IVec S16 32) a x).toNat < S256x16.size a := fun v42 v86 k1_hw17 => k1_hw17

def k1_chk18 (v42 : IVec S16 32) (v89 : IVec S16 32) : Prop :=
  (∀ a x, ((![v42, v89] : Fin 2 → IVec S16 32) a x).toNat < S256x16.size a)
theorem k1_idx18_inb : ∀ (v42 : IVec S16 32) (v89 : IVec S16 32) (k1_hw18 : k1_chk18 v42 v89), ∀ a x, ((![v42, v89] : Fin 2 → IVec S16 32) a x).toNat < S256x16.size a := fun v42 v89 k1_hw18 => k1_hw18
def k1_off6 (k1_t4 : Fin k1_t4_loop.trips) : Fin 1 → Nat :=
  let c0_i32_12 : BitVec 32 := 0#32
  let c1_i32_14 : BitVec 32 := 1#32
  let arg16 : BitVec 32 := Scf.iv c0_i32_12 c1_i32_14 k1_t4
  let c16_i32_35 : BitVec 32 := 16#32
  let v92 : BitVec 32 := Scalar.muli arg16 c16_i32_35
  let v93 : Index := Scalar.indexCast v92
  ![v93.toNat]
@[reducible] def k1_t5_loop : Scf.Loop 32 :=
  let c0_i32_17 : BitVec 32 := 0#32
  let c256_i32_18 : BitVec 32 := 256#32
  let v23 : BitVec 32 := Scalar.addi c0_i32_17 c256_i32_18
  let c1_i32_19 : BitVec 32 := 1#32
  ⟨c0_i32_17, v23, c1_i32_19⟩
def k1_off7 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v41 : Index := Scalar.indexCast arg16
  let c0 : Index := 0#32
  ![v41.toNat, 0]
def k1_off8 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v44 : Index := Scalar.indexCast arg16
  let c16 : Index := 16#32
  ![v44.toNat, 16]
def k1_off9 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v47 : Index := Scalar.indexCast arg16
  let c32 : Index := 32#32
  ![v47.toNat, 32]
def k1_off10 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v50 : Index := Scalar.indexCast arg16
  let c48 : Index := 48#32
  ![v50.toNat, 48]
def k1_off11 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v53 : Index := Scalar.indexCast arg16
  let c64 : Index := 64#32
  ![v53.toNat, 64]
def k1_off12 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v56 : Index := Scalar.indexCast arg16
  let c80 : Index := 80#32
  ![v56.toNat, 80]
def k1_off13 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v59 : Index := Scalar.indexCast arg16
  let c96 : Index := 96#32
  ![v59.toNat, 96]
def k1_off14 (k1_t5 : Fin k1_t5_loop.trips) : Fin 2 → Nat :=
  let c0_i32_17 : BitVec 32 := 0#32
  let c1_i32_19 : BitVec 32 := 1#32
  let arg16 : BitVec 32 := Scf.iv c0_i32_17 c1_i32_19 k1_t5
  let v62 : Index := Scalar.indexCast arg16
  let c112 : Index := 112#32
  ![v62.toNat, 112]
def k1_off15 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_22 : BitVec 32 := 0#32
  let v27 : BitVec 32 := Scalar.addi v3 c0_i32_22
  let c0_i32_23 : BitVec 32 := 0#32
  ![v27.toNat, 0]
@[reducible] def k1_t6_loop (i : grid1.Coords) : Scf.Loop 32 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_28 : BitVec 32 := 1#32
  ⟨c0_i32_25, v34, c1_i32_28⟩
def k1_cond3 (i : grid1.Coords) (k1_t6 : Fin (k1_t6_loop i).trips) : BitVec 1 :=
  let c0_i32_25 : BitVec 32 := 0#32
  let c1_i32_28 : BitVec 32 := 1#32
  let arg16 : BitVec 32 := Scf.iv c0_i32_25 c1_i32_28 k1_t6
  let c2_i32 : BitVec 32 := 2#32
  let c0_i32_32 : BitVec 32 := 0#32
  let v40 : BitVec 1 := Scalar.cmpi .eq c2_i32 c0_i32_32
  let c1_i32_33 : BitVec 32 := 1#32
  let v41 : BitVec 32 := Scalar.select v40 c1_i32_33 c2_i32
  let v42 : BitVec 32 := Scalar.remsi arg16 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let c0_i32_37 : BitVec 32 := 0#32
  let v50 : BitVec 1 := Scalar.cmpi .eq v49 c0_i32_37
  let v51 : BitVec 32 := Scalar.extui v50
  let c0_i32_38 : BitVec 32 := 0#32
  let v52 : BitVec 1 := Scalar.cmpi .ne v51 c0_i32_38
  v52

def k1_off16 (i : grid1.Coords) (k1_t6 : Fin (k1_t6_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c1_i32_28 : BitVec 32 := 1#32
  let arg16 : BitVec 32 := Scf.iv c0_i32_25 c1_i32_28 k1_t6
  let c112_i32 : BitVec 32 := 112#32
  let v66 : BitVec 32 := Scalar.muli arg16 c112_i32
  let v67 : BitVec 32 := Scalar.addi v3 v66
  let c0_i32_48 : BitVec 32 := 0#32
  ![v67.toNat, 0]
def k1_cond4 (i : grid1.Coords) (k1_t6 : Fin (k1_t6_loop i).trips) : BitVec 1 :=
  let c0_i32_25 : BitVec 32 := 0#32
  let c1_i32_28 : BitVec 32 := 1#32
  let arg16 : BitVec 32 := Scf.iv c0_i32_25 c1_i32_28 k1_t6
  let c1_i32_50 : BitVec 32 := 1#32
  let v70 : BitVec 32 := Scalar.addi arg16 c1_i32_50
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v71 : BitVec 1 := Scalar.cmpi .slt v70 v26
  let v72 : BitVec 32 := Scalar.extui v71
  let c0_i32_51 : BitVec 32 := 0#32
  let v73 : BitVec 1 := Scalar.cmpi .ne v72 c0_i32_51
  v73

def k1_off17 (i : grid1.Coords) (k1_t6 : Fin (k1_t6_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c1_i32_28 : BitVec 32 := 1#32
  let arg16 : BitVec 32 := Scf.iv c0_i32_25 c1_i32_28 k1_t6
  let c1_i32_56 : BitVec 32 := 1#32
  let v76 : BitVec 32 := Scalar.addi arg16 c1_i32_56
  let c112_i32_57 : BitVec 32 := 112#32
  let v77 : BitVec 32 := Scalar.muli v76 c112_i32_57
  let v78 : BitVec 32 := Scalar.addi v3 v77
  let c0_i32_58 : BitVec 32 := 0#32
  ![v78.toNat, 0]
@[reducible] def k1_t7_loop : Scf.Loop 32 :=
  let c0_i32_53 : BitVec 32 := 0#32
  let c7_i32 : BitVec 32 := 7#32
  let v74 : BitVec 32 := Scalar.addi c0_i32_53 c7_i32
  let c1_i32_54 : BitVec 32 := 1#32
  ⟨c0_i32_53, v74, c1_i32_54⟩
def k1_off18 (i : grid1.Coords) (k1_t6 : Fin (k1_t6_loop i).trips) (k1_t7 : Fin k1_t7_loop.trips) : Fin 1 → Nat :=
  let c0_i32_25 : BitVec 32 := 0#32
  let c1_i32_28 : BitVec 32 := 1#32
  let arg16 : BitVec 32 := Scf.iv c0_i32_25 c1_i32_28 k1_t6
  let c7_i32_56 : BitVec 32 := 7#32
  let v76 : BitVec 32 := Scalar.muli arg16 c7_i32_56
  let c0_i32_53 : BitVec 32 := 0#32
  let c1_i32_54 : BitVec 32 := 1#32
  let arg18 : BitVec 32 := Scf.iv c0_i32_53 c1_i32_54 k1_t7
  let v77 : BitVec 32 := Scalar.addi v76 arg18
  let c16_i32_57 : BitVec 32 := 16#32
  let v78 : BitVec 32 := Scalar.muli v77 c16_i32_57
  let v79 : Index := Scalar.indexCast v78
  ![v79.toNat]
def k1_off19 (k1_t7 : Fin k1_t7_loop.trips) (c0_i32_70 : BitVec 32) : Fin 2 → Nat :=
  let c0_i32_53 : BitVec 32 := 0#32
  let c1_i32_54 : BitVec 32 := 1#32
  let arg18 : BitVec 32 := Scf.iv c0_i32_53 c1_i32_54 k1_t7
  let c16_i32_69 : BitVec 32 := 16#32
  let v104 : BitVec 32 := Scalar.muli arg18 c16_i32_69
  let v105 : BitVec 32 := Scalar.addi v104 c0_i32_70
  let v106 : Index := Scalar.indexCast v105
  let c0 : Index := 0#32
  ![v106.toNat, 0]
def k1_off20 (k1_t7 : Fin k1_t7_loop.trips) (c0_i32_72 : BitVec 32) : Fin 2 → Nat :=
  let c0_i32_53 : BitVec 32 := 0#32
  let c1_i32_54 : BitVec 32 := 1#32
  let arg18 : BitVec 32 := Scf.iv c0_i32_53 c1_i32_54 k1_t7
  let c16_i32_71 : BitVec 32 := 16#32
  let v111 : BitVec 32 := Scalar.muli arg18 c16_i32_71
  let v112 : BitVec 32 := Scalar.addi v111 c0_i32_72
  let v113 : Index := Scalar.indexCast v112
  let c16 : Index := 16#32
  ![v113.toNat, 16]
def k1_off21 (k1_t7 : Fin k1_t7_loop.trips) (c0_i32_74 : BitVec 32) : Fin 2 → Nat :=
  let c0_i32_53 : BitVec 32 := 0#32
  let c1_i32_54 : BitVec 32 := 1#32
  let arg18 : BitVec 32 := Scf.iv c0_i32_53 c1_i32_54 k1_t7
  let c16_i32_73 : BitVec 32 := 16#32
  let v118 : BitVec 32 := Scalar.muli arg18 c16_i32_73
  let v119 : BitVec 32 := Scalar.addi v118 c0_i32_74
  let v120 : Index := Scalar.indexCast v119
  let c32 : Index := 32#32
  ![v120.toNat, 32]
def k1_off22 (k1_t7 : Fin k1_t7_loop.trips) (c0_i32_76 : BitVec 32) : Fin 2 → Nat :=
  let c0_i32_53 : BitVec 32 := 0#32
  let c1_i32_54 : BitVec 32 := 1#32
  let arg18 : BitVec 32 := Scf.iv c0_i32_53 c1_i32_54 k1_t7
  let c16_i32_75 : BitVec 32 := 16#32
  let v125 : BitVec 32 := Scalar.muli arg18 c16_i32_75
  let v126 : BitVec 32 := Scalar.addi v125 c0_i32_76
  let v127 : Index := Scalar.indexCast v126
  let c48 : Index := 48#32
  ![v127.toNat, 48]
def k1_off23 (k1_t7 : Fin k1_t7_loop.trips) (c0_i32_78 : BitVec 32) : Fin 2 → Nat :=
  let c0_i32_53 : BitVec 32 := 0#32
  let c1_i32_54 : BitVec 32 := 1#32
  let arg18 : BitVec 32 := Scf.iv c0_i32_53 c1_i32_54 k1_t7
  let c16_i32_77 : BitVec 32 := 16#32
  let v132 : BitVec 32 := Scalar.muli arg18 c16_i32_77
  let v133 : BitVec 32 := Scalar.addi v132 c0_i32_78
  let v134 : Index := Scalar.indexCast v133
  let c64 : Index := 64#32
  ![v134.toNat, 64]
def k1_off24 (k1_t7 : Fin k1_t7_loop.trips) (c0_i32_80 : BitVec 32) : Fin 2 → Nat :=
  let c0_i32_53 : BitVec 32 := 0#32
  let c1_i32_54 : BitVec 32 := 1#32
  let arg18 : BitVec 32 := Scf.iv c0_i32_53 c1_i32_54 k1_t7
  let c16_i32_79 : BitVec 32 := 16#32
  let v139 : BitVec 32 := Scalar.muli arg18 c16_i32_79
  let v140 : BitVec 32 := Scalar.addi v139 c0_i32_80
  let v141 : Index := Scalar.indexCast v140
  let c80 : Index := 80#32
  ![v141.toNat, 80]
def k1_off25 (k1_t7 : Fin k1_t7_loop.trips) (c0_i32_82 : BitVec 32) : Fin 2 → Nat :=
  let c0_i32_53 : BitVec 32 := 0#32
  let c1_i32_54 : BitVec 32 := 1#32
  let arg18 : BitVec 32 := Scf.iv c0_i32_53 c1_i32_54 k1_t7
  let c16_i32_81 : BitVec 32 := 16#32
  let v146 : BitVec 32 := Scalar.muli arg18 c16_i32_81
  let v147 : BitVec 32 := Scalar.addi v146 c0_i32_82
  let v148 : Index := Scalar.indexCast v147
  let c96 : Index := 96#32
  ![v148.toNat, 96]
def k1_off26 (k1_t7 : Fin k1_t7_loop.trips) (c0_i32_84 : BitVec 32) : Fin 2 → Nat :=
  let c0_i32_53 : BitVec 32 := 0#32
  let c1_i32_54 : BitVec 32 := 1#32
  let arg18 : BitVec 32 := Scf.iv c0_i32_53 c1_i32_54 k1_t7
  let c16_i32_83 : BitVec 32 := 16#32
  let v153 : BitVec 32 := Scalar.muli arg18 c16_i32_83
  let v154 : BitVec 32 := Scalar.addi v153 c0_i32_84
  let v155 : Index := Scalar.indexCast v154
  let c112 : Index := 112#32
  ![v155.toNat, 112]
def k1_off27 (v85 : BitVec 32) : Fin 2 → Nat :=
  let v1030 : Index := Scalar.indexCast v85
  let c0_433 : Index := 0#32
  ![v1030.toNat, 0]
def k1_cond5 (v85 : BitVec 32) (v87 : BitVec 32) : BitVec 1 :=
  let v88 : BitVec 1 := Scalar.cmpi .eq v85 v87
  let v89 : BitVec 32 := Scalar.extui v88
  let c0_i32_59 : BitVec 32 := 0#32
  let v90 : BitVec 1 := Scalar.cmpi .ne v89 c0_i32_59
  v90

def k1_off28 (v85 : BitVec 32) : Fin 2 → Nat :=
  let v1035 : Index := Scalar.indexCast v85
  let c16_435 : Index := 16#32
  ![v1035.toNat, 16]
def k1_off29 (v85 : BitVec 32) : Fin 2 → Nat :=
  let v1040 : Index := Scalar.indexCast v85
  let c32_437 : Index := 32#32
  ![v1040.toNat, 32]
def k1_off30 (v85 : BitVec 32) : Fin 2 → Nat :=
  let v1045 : Index := Scalar.indexCast v85
  let c48_439 : Index := 48#32
  ![v1045.toNat, 48]
def k1_off31 (v85 : BitVec 32) : Fin 2 → Nat :=
  let v1050 : Index := Scalar.indexCast v85
  let c64_441 : Index := 64#32
  ![v1050.toNat, 64]
def k1_off32 (v85 : BitVec 32) : Fin 2 → Nat :=
  let v1055 : Index := Scalar.indexCast v85
  let c80_443 : Index := 80#32
  ![v1055.toNat, 80]
def k1_off33 (v85 : BitVec 32) : Fin 2 → Nat :=
  let v1060 : Index := Scalar.indexCast v85
  let c96_445 : Index := 96#32
  ![v1060.toNat, 96]
def k1_off34 (v85 : BitVec 32) : Fin 2 → Nat :=
  let v1065 : Index := Scalar.indexCast v85
  let c112_447 : Index := 112#32
  ![v1065.toNat, 112]

def k1_chk19 (i : grid1.Coords) (k1_t6 : Fin (k1_t6_loop i).trips) (v85 : BitVec 32) (v87 : BitVec 32) : Prop :=
  (∀ (k1_h3 : k1_cond3 i k1_t6 = 1#1), ∀ (k1_h5 : k1_cond5 v85 v87 = 1#1), ∀ a, (k1_off27 v85) a + S1x16.size a ≤ S256x128.size a) ∧
  (∀ (k1_h3 : k1_cond3 i k1_t6 = 1#1), ∀ (k1_h5 : k1_cond5 v85 v87 = 1#1), ∀ a, (k1_off28 v85) a + S1x16.size a ≤ S256x128.size a) ∧
  (∀ (k1_h3 : k1_cond3 i k1_t6 = 1#1), ∀ (k1_h5 : k1_cond5 v85 v87 = 1#1), ∀ a, (k1_off29 v85) a + S1x16.size a ≤ S256x128.size a) ∧
  (∀ (k1_h3 : k1_cond3 i k1_t6 = 1#1), ∀ (k1_h5 : k1_cond5 v85 v87 = 1#1), ∀ a, (k1_off30 v85) a + S1x16.size a ≤ S256x128.size a) ∧
  (∀ (k1_h3 : k1_cond3 i k1_t6 = 1#1), ∀ (k1_h5 : k1_cond5 v85 v87 = 1#1), ∀ a, (k1_off31 v85) a + S1x16.size a ≤ S256x128.size a) ∧
  (∀ (k1_h3 : k1_cond3 i k1_t6 = 1#1), ∀ (k1_h5 : k1_cond5 v85 v87 = 1#1), ∀ a, (k1_off32 v85) a + S1x16.size a ≤ S256x128.size a) ∧
  (∀ (k1_h3 : k1_cond3 i k1_t6 = 1#1), ∀ (k1_h5 : k1_cond5 v85 v87 = 1#1), ∀ a, (k1_off33 v85) a + S1x16.size a ≤ S256x128.size a) ∧
  (∀ (k1_h3 : k1_cond3 i k1_t6 = 1#1), ∀ (k1_h5 : k1_cond5 v85 v87 = 1#1), ∀ a, (k1_off34 v85) a + S1x16.size a ≤ S256x128.size a)
theorem k1_off27_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off27 v85) a + S1x16.size a ≤ S256x128.size a := fun i k1_t6 v85 v87 k1_hw19 k1_h3 k1_h5 => k1_hw19.1 k1_h3 k1_h5
theorem k1_off28_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off28 v85) a + S1x16.size a ≤ S256x128.size a := fun i k1_t6 v85 v87 k1_hw19 k1_h3 k1_h5 => k1_hw19.2.1 k1_h3 k1_h5
theorem k1_off29_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off29 v85) a + S1x16.size a ≤ S256x128.size a := fun i k1_t6 v85 v87 k1_hw19 k1_h3 k1_h5 => k1_hw19.2.2.1 k1_h3 k1_h5
theorem k1_off30_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off30 v85) a + S1x16.size a ≤ S256x128.size a := fun i k1_t6 v85 v87 k1_hw19 k1_h3 k1_h5 => k1_hw19.2.2.2.1 k1_h3 k1_h5
theorem k1_off31_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off31 v85) a + S1x16.size a ≤ S256x128.size a := fun i k1_t6 v85 v87 k1_hw19 k1_h3 k1_h5 => k1_hw19.2.2.2.2.1 k1_h3 k1_h5
theorem k1_off32_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off32 v85) a + S1x16.size a ≤ S256x128.size a := fun i k1_t6 v85 v87 k1_hw19 k1_h3 k1_h5 => k1_hw19.2.2.2.2.2.1 k1_h3 k1_h5
theorem k1_off33_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off33 v85) a + S1x16.size a ≤ S256x128.size a := fun i k1_t6 v85 v87 k1_hw19 k1_h3 k1_h5 => k1_hw19.2.2.2.2.2.2.1 k1_h3 k1_h5
theorem k1_off34_inb : ∀ (i : grid1.Coords) (k1_t6 : Fin (k1_t6_loop i).trips) (v85 : BitVec 32) (v87 : BitVec 32) (k1_hw19 : k1_chk19 i k1_t6 v85 v87), ∀ (k1_h3 : k1_cond3 i k1_t6 = 1#1), ∀ (k1_h5 : k1_cond5 v85 v87 = 1#1), ∀ a, (k1_off34 v85) a + S1x16.size a ≤ S256x128.size a := fun i k1_t6 v85 v87 k1_hw19 k1_h3 k1_h5 => k1_hw19.2.2.2.2.2.2.2 k1_h3 k1_h5

def k1_off35 (v95 : BitVec 32) : Fin 2 → Nat :=
  let v98 : Index := Scalar.indexCast v95
  let c0 : Index := 0#32
  ![v98.toNat, 0]
def k1_cond6 (v85 : BitVec 32) (v87 : BitVec 32) : BitVec 1 :=
  let v91 : BitVec 1 := Scalar.cmpi .ne v85 v87
  let v92 : BitVec 32 := Scalar.extui v91
  let c0_i32_60 : BitVec 32 := 0#32
  let v93 : BitVec 1 := Scalar.cmpi .ne v92 c0_i32_60
  v93

def k1_off36 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_62 : BitVec 32 := 16#32
  let v100 : BitVec 32 := Scalar.muli arg18 c16_i32_62
  let c0_i32_63 : BitVec 32 := 0#32
  let v101 : BitVec 32 := Scalar.addi v100 c0_i32_63
  let v102 : Index := Scalar.indexCast v101
  let c0_64 : Index := 0#32
  ![v102.toNat, 0]
def k1_off37 (v95 : BitVec 32) : Fin 2 → Nat :=
  let v109 : Index := Scalar.indexCast v95
  let c16 : Index := 16#32
  ![v109.toNat, 16]
def k1_off38 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_66 : BitVec 32 := 16#32
  let v111 : BitVec 32 := Scalar.muli arg18 c16_i32_66
  let c0_i32_67 : BitVec 32 := 0#32
  let v112 : BitVec 32 := Scalar.addi v111 c0_i32_67
  let v113 : Index := Scalar.indexCast v112
  let c16_68 : Index := 16#32
  ![v113.toNat, 16]
def k1_off39 (v95 : BitVec 32) : Fin 2 → Nat :=
  let v120 : Index := Scalar.indexCast v95
  let c32 : Index := 32#32
  ![v120.toNat, 32]
def k1_off40 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_70 : BitVec 32 := 16#32
  let v122 : BitVec 32 := Scalar.muli arg18 c16_i32_70
  let c0_i32_71 : BitVec 32 := 0#32
  let v123 : BitVec 32 := Scalar.addi v122 c0_i32_71
  let v124 : Index := Scalar.indexCast v123
  let c32_72 : Index := 32#32
  ![v124.toNat, 32]
def k1_off41 (v95 : BitVec 32) : Fin 2 → Nat :=
  let v131 : Index := Scalar.indexCast v95
  let c48 : Index := 48#32
  ![v131.toNat, 48]
def k1_off42 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_74 : BitVec 32 := 16#32
  let v133 : BitVec 32 := Scalar.muli arg18 c16_i32_74
  let c0_i32_75 : BitVec 32 := 0#32
  let v134 : BitVec 32 := Scalar.addi v133 c0_i32_75
  let v135 : Index := Scalar.indexCast v134
  let c48_76 : Index := 48#32
  ![v135.toNat, 48]
def k1_off43 (v95 : BitVec 32) : Fin 2 → Nat :=
  let v142 : Index := Scalar.indexCast v95
  let c64 : Index := 64#32
  ![v142.toNat, 64]
def k1_off44 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_78 : BitVec 32 := 16#32
  let v144 : BitVec 32 := Scalar.muli arg18 c16_i32_78
  let c0_i32_79 : BitVec 32 := 0#32
  let v145 : BitVec 32 := Scalar.addi v144 c0_i32_79
  let v146 : Index := Scalar.indexCast v145
  let c64_80 : Index := 64#32
  ![v146.toNat, 64]
def k1_off45 (v95 : BitVec 32) : Fin 2 → Nat :=
  let v153 : Index := Scalar.indexCast v95
  let c80 : Index := 80#32
  ![v153.toNat, 80]
def k1_off46 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_82 : BitVec 32 := 16#32
  let v155 : BitVec 32 := Scalar.muli arg18 c16_i32_82
  let c0_i32_83 : BitVec 32 := 0#32
  let v156 : BitVec 32 := Scalar.addi v155 c0_i32_83
  let v157 : Index := Scalar.indexCast v156
  let c80_84 : Index := 80#32
  ![v157.toNat, 80]
def k1_off47 (v95 : BitVec 32) : Fin 2 → Nat :=
  let v164 : Index := Scalar.indexCast v95
  let c96 : Index := 96#32
  ![v164.toNat, 96]
def k1_off48 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_86 : BitVec 32 := 16#32
  let v166 : BitVec 32 := Scalar.muli arg18 c16_i32_86
  let c0_i32_87 : BitVec 32 := 0#32
  let v167 : BitVec 32 := Scalar.addi v166 c0_i32_87
  let v168 : Index := Scalar.indexCast v167
  let c96_88 : Index := 96#32
  ![v168.toNat, 96]
def k1_off49 (v95 : BitVec 32) : Fin 2 → Nat :=
  let v175 : Index := Scalar.indexCast v95
  let c112 : Index := 112#32
  ![v175.toNat, 112]

def k1_chk20 (i : grid1.Coords) (k1_t6 : Fin (k1_t6_loop i).trips) (v85 : BitVec 32) (v87 : BitVec 32) (v95 : BitVec 32) : Prop :=
  (∀ (k1_h3 : k1_cond3 i k1_t6 = 1#1), ∀ (k1_h6 : k1_cond6 v85 v87 = 1#1), ∀ a, (k1_off35 v95) a + S1x16.size a ≤ S256x128.size a) ∧
  (∀ (k1_h3 : k1_cond3 i k1_t6 = 1#1), ∀ (k1_h6 : k1_cond6 v85 v87 = 1#1), ∀ a, (k1_off37 v95) a + S1x16.size a ≤ S256x128.size a) ∧
  (∀ (k1_h3 : k1_cond3 i k1_t6 = 1#1), ∀ (k1_h6 : k1_cond6 v85 v87 = 1#1), ∀ a, (k1_off39 v95) a + S1x16.size a ≤ S256x128.size a) ∧
  (∀ (k1_h3 : k1_cond3 i k1_t6 = 1#1), ∀ (k1_h6 : k1_cond6 v85 v87 = 1#1), ∀ a, (k1_off41 v95) a + S1x16.size a ≤ S256x128.size a) ∧
  (∀ (k1_h3 : k1_cond3 i k1_t6 = 1#1), ∀ (k1_h6 : k1_cond6 v85 v87 = 1#1), ∀ a, (k1_off43 v95) a + S1x16.size a ≤ S256x128.size a) ∧
  (∀ (k1_h3 : k1_cond3 i k1_t6 = 1#1), ∀ (k1_h6 : k1_cond6 v85 v87 = 1#1), ∀ a, (k1_off45 v95) a + S1x16.size a ≤ S256x128.size a) ∧
  (∀ (k1_h3 : k1_cond3 i k1_t6 = 1#1), ∀ (k1_h6 : k1_cond6 v85 v87 = 1#1), ∀ a, (k1_off47 v95) a + S1x16.size a ≤ S256x128.size a) ∧
  (∀ (k1_h3 : k1_cond3 i k1_t6 = 1#1), ∀ (k1_h6 : k1_cond6 v85 v87 = 1#1), ∀ a, (k1_off49 v95) a + S1x16.size a ≤ S256x128.size a)
theorem k1_off35_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off35 v95) a + S1x16.size a ≤ S256x128.size a := fun i k1_t6 v85 v87 v95 k1_hw20 k1_h3 k1_h6 => k1_hw20.1 k1_h3 k1_h6
theorem k1_off37_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off37 v95) a + S1x16.size a ≤ S256x128.size a := fun i k1_t6 v85 v87 v95 k1_hw20 k1_h3 k1_h6 => k1_hw20.2.1 k1_h3 k1_h6
theorem k1_off39_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off39 v95) a + S1x16.size a ≤ S256x128.size a := fun i k1_t6 v85 v87 v95 k1_hw20 k1_h3 k1_h6 => k1_hw20.2.2.1 k1_h3 k1_h6
theorem k1_off41_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off41 v95) a + S1x16.size a ≤ S256x128.size a := fun i k1_t6 v85 v87 v95 k1_hw20 k1_h3 k1_h6 => k1_hw20.2.2.2.1 k1_h3 k1_h6
theorem k1_off43_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off43 v95) a + S1x16.size a ≤ S256x128.size a := fun i k1_t6 v85 v87 v95 k1_hw20 k1_h3 k1_h6 => k1_hw20.2.2.2.2.1 k1_h3 k1_h6
theorem k1_off45_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off45 v95) a + S1x16.size a ≤ S256x128.size a := fun i k1_t6 v85 v87 v95 k1_hw20 k1_h3 k1_h6 => k1_hw20.2.2.2.2.2.1 k1_h3 k1_h6
theorem k1_off47_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off47 v95) a + S1x16.size a ≤ S256x128.size a := fun i k1_t6 v85 v87 v95 k1_hw20 k1_h3 k1_h6 => k1_hw20.2.2.2.2.2.2.1 k1_h3 k1_h6
theorem k1_off49_inb : ∀ (i : grid1.Coords) (k1_t6 : Fin (k1_t6_loop i).trips) (v85 : BitVec 32) (v87 : BitVec 32) (v95 : BitVec 32) (k1_hw20 : k1_chk20 i k1_t6 v85 v87 v95), ∀ (k1_h3 : k1_cond3 i k1_t6 = 1#1), ∀ (k1_h6 : k1_cond6 v85 v87 = 1#1), ∀ a, (k1_off49 v95) a + S1x16.size a ≤ S256x128.size a := fun i k1_t6 v85 v87 v95 k1_hw20 k1_h3 k1_h6 => k1_hw20.2.2.2.2.2.2.2 k1_h3 k1_h6

def k1_off50 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_90 : BitVec 32 := 16#32
  let v177 : BitVec 32 := Scalar.muli arg18 c16_i32_90
  let c0_i32_91 : BitVec 32 := 0#32
  let v178 : BitVec 32 := Scalar.addi v177 c0_i32_91
  let v179 : Index := Scalar.indexCast v178
  let c112_92 : Index := 112#32
  ![v179.toNat, 112]
def k1_off51 (v187 : BitVec 32) : Fin 2 → Nat :=
  let v190 : Index := Scalar.indexCast v187
  let c0_94 : Index := 0#32
  ![v190.toNat, 0]

def k1_off52 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_95 : BitVec 32 := 16#32
  let v192 : BitVec 32 := Scalar.muli arg18 c16_i32_95
  let c1_i32_96 : BitVec 32 := 1#32
  let v193 : BitVec 32 := Scalar.addi v192 c1_i32_96
  let v194 : Index := Scalar.indexCast v193
  let c0_97 : Index := 0#32
  ![v194.toNat, 0]
def k1_off53 (v187 : BitVec 32) : Fin 2 → Nat :=
  let v201 : Index := Scalar.indexCast v187
  let c16_99 : Index := 16#32
  ![v201.toNat, 16]
def k1_off54 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_100 : BitVec 32 := 16#32
  let v203 : BitVec 32 := Scalar.muli arg18 c16_i32_100
  let c1_i32_101 : BitVec 32 := 1#32
  let v204 : BitVec 32 := Scalar.addi v203 c1_i32_101
  let v205 : Index := Scalar.indexCast v204
  let c16_102 : Index := 16#32
  ![v205.toNat, 16]
def k1_off55 (v187 : BitVec 32) : Fin 2 → Nat :=
  let v212 : Index := Scalar.indexCast v187
  let c32_104 : Index := 32#32
  ![v212.toNat, 32]
def k1_off56 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_105 : BitVec 32 := 16#32
  let v214 : BitVec 32 := Scalar.muli arg18 c16_i32_105
  let c1_i32_106 : BitVec 32 := 1#32
  let v215 : BitVec 32 := Scalar.addi v214 c1_i32_106
  let v216 : Index := Scalar.indexCast v215
  let c32_107 : Index := 32#32
  ![v216.toNat, 32]
def k1_off57 (v187 : BitVec 32) : Fin 2 → Nat :=
  let v223 : Index := Scalar.indexCast v187
  let c48_109 : Index := 48#32
  ![v223.toNat, 48]
def k1_off58 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_110 : BitVec 32 := 16#32
  let v225 : BitVec 32 := Scalar.muli arg18 c16_i32_110
  let c1_i32_111 : BitVec 32 := 1#32
  let v226 : BitVec 32 := Scalar.addi v225 c1_i32_111
  let v227 : Index := Scalar.indexCast v226
  let c48_112 : Index := 48#32
  ![v227.toNat, 48]
def k1_off59 (v187 : BitVec 32) : Fin 2 → Nat :=
  let v234 : Index := Scalar.indexCast v187
  let c64_114 : Index := 64#32
  ![v234.toNat, 64]
def k1_off60 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_115 : BitVec 32 := 16#32
  let v236 : BitVec 32 := Scalar.muli arg18 c16_i32_115
  let c1_i32_116 : BitVec 32 := 1#32
  let v237 : BitVec 32 := Scalar.addi v236 c1_i32_116
  let v238 : Index := Scalar.indexCast v237
  let c64_117 : Index := 64#32
  ![v238.toNat, 64]
def k1_off61 (v187 : BitVec 32) : Fin 2 → Nat :=
  let v245 : Index := Scalar.indexCast v187
  let c80_119 : Index := 80#32
  ![v245.toNat, 80]
def k1_off62 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_120 : BitVec 32 := 16#32
  let v247 : BitVec 32 := Scalar.muli arg18 c16_i32_120
  let c1_i32_121 : BitVec 32 := 1#32
  let v248 : BitVec 32 := Scalar.addi v247 c1_i32_121
  let v249 : Index := Scalar.indexCast v248
  let c80_122 : Index := 80#32
  ![v249.toNat, 80]
def k1_off63 (v187 : BitVec 32) : Fin 2 → Nat :=
  let v256 : Index := Scalar.indexCast v187
  let c96_124 : Index := 96#32
  ![v256.toNat, 96]
def k1_off64 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_125 : BitVec 32 := 16#32
  let v258 : BitVec 32 := Scalar.muli arg18 c16_i32_125
  let c1_i32_126 : BitVec 32 := 1#32
  let v259 : BitVec 32 := Scalar.addi v258 c1_i32_126
  let v260 : Index := Scalar.indexCast v259
  let c96_127 : Index := 96#32
  ![v260.toNat, 96]
def k1_off65 (v187 : BitVec 32) : Fin 2 → Nat :=
  let v267 : Index := Scalar.indexCast v187
  let c112_129 : Index := 112#32
  ![v267.toNat, 112]

def k1_chk21 (i : grid1.Coords) (k1_t6 : Fin (k1_t6_loop i).trips) (v85 : BitVec 32) (v87 : BitVec 32) (v187 : BitVec 32) : Prop :=
  (∀ (k1_h3 : k1_cond3 i k1_t6 = 1#1), ∀ (k1_h6 : k1_cond6 v85 v87 = 1#1), ∀ a, (k1_off51 v187) a + S1x16.size a ≤ S256x128.size a) ∧
  (∀ (k1_h3 : k1_cond3 i k1_t6 = 1#1), ∀ (k1_h6 : k1_cond6 v85 v87 = 1#1), ∀ a, (k1_off53 v187) a + S1x16.size a ≤ S256x128.size a) ∧
  (∀ (k1_h3 : k1_cond3 i k1_t6 = 1#1), ∀ (k1_h6 : k1_cond6 v85 v87 = 1#1), ∀ a, (k1_off55 v187) a + S1x16.size a ≤ S256x128.size a) ∧
  (∀ (k1_h3 : k1_cond3 i k1_t6 = 1#1), ∀ (k1_h6 : k1_cond6 v85 v87 = 1#1), ∀ a, (k1_off57 v187) a + S1x16.size a ≤ S256x128.size a) ∧
  (∀ (k1_h3 : k1_cond3 i k1_t6 = 1#1), ∀ (k1_h6 : k1_cond6 v85 v87 = 1#1), ∀ a, (k1_off59 v187) a + S1x16.size a ≤ S256x128.size a) ∧
  (∀ (k1_h3 : k1_cond3 i k1_t6 = 1#1), ∀ (k1_h6 : k1_cond6 v85 v87 = 1#1), ∀ a, (k1_off61 v187) a + S1x16.size a ≤ S256x128.size a) ∧
  (∀ (k1_h3 : k1_cond3 i k1_t6 = 1#1), ∀ (k1_h6 : k1_cond6 v85 v87 = 1#1), ∀ a, (k1_off63 v187) a + S1x16.size a ≤ S256x128.size a) ∧
  (∀ (k1_h3 : k1_cond3 i k1_t6 = 1#1), ∀ (k1_h6 : k1_cond6 v85 v87 = 1#1), ∀ a, (k1_off65 v187) a + S1x16.size a ≤ S256x128.size a)
theorem k1_off51_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off51 v187) a + S1x16.size a ≤ S256x128.size a := fun i k1_t6 v85 v87 v187 k1_hw21 k1_h3 k1_h6 => k1_hw21.1 k1_h3 k1_h6
theorem k1_off53_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off53 v187) a + S1x16.size a ≤ S256x128.size a := fun i k1_t6 v85 v87 v187 k1_hw21 k1_h3 k1_h6 => k1_hw21.2.1 k1_h3 k1_h6
theorem k1_off55_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off55 v187) a + S1x16.size a ≤ S256x128.size a := fun i k1_t6 v85 v87 v187 k1_hw21 k1_h3 k1_h6 => k1_hw21.2.2.1 k1_h3 k1_h6
theorem k1_off57_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off57 v187) a + S1x16.size a ≤ S256x128.size a := fun i k1_t6 v85 v87 v187 k1_hw21 k1_h3 k1_h6 => k1_hw21.2.2.2.1 k1_h3 k1_h6
theorem k1_off59_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off59 v187) a + S1x16.size a ≤ S256x128.size a := fun i k1_t6 v85 v87 v187 k1_hw21 k1_h3 k1_h6 => k1_hw21.2.2.2.2.1 k1_h3 k1_h6
theorem k1_off61_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off61 v187) a + S1x16.size a ≤ S256x128.size a := fun i k1_t6 v85 v87 v187 k1_hw21 k1_h3 k1_h6 => k1_hw21.2.2.2.2.2.1 k1_h3 k1_h6
theorem k1_off63_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off63 v187) a + S1x16.size a ≤ S256x128.size a := fun i k1_t6 v85 v87 v187 k1_hw21 k1_h3 k1_h6 => k1_hw21.2.2.2.2.2.2.1 k1_h3 k1_h6
theorem k1_off65_inb : ∀ (i : grid1.Coords) (k1_t6 : Fin (k1_t6_loop i).trips) (v85 : BitVec 32) (v87 : BitVec 32) (v187 : BitVec 32) (k1_hw21 : k1_chk21 i k1_t6 v85 v87 v187), ∀ (k1_h3 : k1_cond3 i k1_t6 = 1#1), ∀ (k1_h6 : k1_cond6 v85 v87 = 1#1), ∀ a, (k1_off65 v187) a + S1x16.size a ≤ S256x128.size a := fun i k1_t6 v85 v87 v187 k1_hw21 k1_h3 k1_h6 => k1_hw21.2.2.2.2.2.2.2 k1_h3 k1_h6

def k1_off66 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_130 : BitVec 32 := 16#32
  let v269 : BitVec 32 := Scalar.muli arg18 c16_i32_130
  let c1_i32_131 : BitVec 32 := 1#32
  let v270 : BitVec 32 := Scalar.addi v269 c1_i32_131
  let v271 : Index := Scalar.indexCast v270
  let c112_132 : Index := 112#32
  ![v271.toNat, 112]
def k1_off67 (v279 : BitVec 32) : Fin 2 → Nat :=
  let v282 : Index := Scalar.indexCast v279
  let c0_134 : Index := 0#32
  ![v282.toNat, 0]

def k1_off68 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_135 : BitVec 32 := 16#32
  let v284 : BitVec 32 := Scalar.muli arg18 c16_i32_135
  let c2_i32_136 : BitVec 32 := 2#32
  let v285 : BitVec 32 := Scalar.addi v284 c2_i32_136
  let v286 : Index := Scalar.indexCast v285
  let c0_137 : Index := 0#32
  ![v286.toNat, 0]
def k1_off69 (v279 : BitVec 32) : Fin 2 → Nat :=
  let v293 : Index := Scalar.indexCast v279
  let c16_139 : Index := 16#32
  ![v293.toNat, 16]
def k1_off70 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_140 : BitVec 32 := 16#32
  let v295 : BitVec 32 := Scalar.muli arg18 c16_i32_140
  let c2_i32_141 : BitVec 32 := 2#32
  let v296 : BitVec 32 := Scalar.addi v295 c2_i32_141
  let v297 : Index := Scalar.indexCast v296
  let c16_142 : Index := 16#32
  ![v297.toNat, 16]
def k1_off71 (v279 : BitVec 32) : Fin 2 → Nat :=
  let v304 : Index := Scalar.indexCast v279
  let c32_144 : Index := 32#32
  ![v304.toNat, 32]
def k1_off72 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_145 : BitVec 32 := 16#32
  let v306 : BitVec 32 := Scalar.muli arg18 c16_i32_145
  let c2_i32_146 : BitVec 32 := 2#32
  let v307 : BitVec 32 := Scalar.addi v306 c2_i32_146
  let v308 : Index := Scalar.indexCast v307
  let c32_147 : Index := 32#32
  ![v308.toNat, 32]
def k1_off73 (v279 : BitVec 32) : Fin 2 → Nat :=
  let v315 : Index := Scalar.indexCast v279
  let c48_149 : Index := 48#32
  ![v315.toNat, 48]
def k1_off74 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_150 : BitVec 32 := 16#32
  let v317 : BitVec 32 := Scalar.muli arg18 c16_i32_150
  let c2_i32_151 : BitVec 32 := 2#32
  let v318 : BitVec 32 := Scalar.addi v317 c2_i32_151
  let v319 : Index := Scalar.indexCast v318
  let c48_152 : Index := 48#32
  ![v319.toNat, 48]
def k1_off75 (v279 : BitVec 32) : Fin 2 → Nat :=
  let v326 : Index := Scalar.indexCast v279
  let c64_154 : Index := 64#32
  ![v326.toNat, 64]
def k1_off76 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_155 : BitVec 32 := 16#32
  let v328 : BitVec 32 := Scalar.muli arg18 c16_i32_155
  let c2_i32_156 : BitVec 32 := 2#32
  let v329 : BitVec 32 := Scalar.addi v328 c2_i32_156
  let v330 : Index := Scalar.indexCast v329
  let c64_157 : Index := 64#32
  ![v330.toNat, 64]
def k1_off77 (v279 : BitVec 32) : Fin 2 → Nat :=
  let v337 : Index := Scalar.indexCast v279
  let c80_159 : Index := 80#32
  ![v337.toNat, 80]
def k1_off78 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_160 : BitVec 32 := 16#32
  let v339 : BitVec 32 := Scalar.muli arg18 c16_i32_160
  let c2_i32_161 : BitVec 32 := 2#32
  let v340 : BitVec 32 := Scalar.addi v339 c2_i32_161
  let v341 : Index := Scalar.indexCast v340
  let c80_162 : Index := 80#32
  ![v341.toNat, 80]
def k1_off79 (v279 : BitVec 32) : Fin 2 → Nat :=
  let v348 : Index := Scalar.indexCast v279
  let c96_164 : Index := 96#32
  ![v348.toNat, 96]
def k1_off80 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_165 : BitVec 32 := 16#32
  let v350 : BitVec 32 := Scalar.muli arg18 c16_i32_165
  let c2_i32_166 : BitVec 32 := 2#32
  let v351 : BitVec 32 := Scalar.addi v350 c2_i32_166
  let v352 : Index := Scalar.indexCast v351
  let c96_167 : Index := 96#32
  ![v352.toNat, 96]
def k1_off81 (v279 : BitVec 32) : Fin 2 → Nat :=
  let v359 : Index := Scalar.indexCast v279
  let c112_169 : Index := 112#32
  ![v359.toNat, 112]

def k1_chk22 (i : grid1.Coords) (k1_t6 : Fin (k1_t6_loop i).trips) (v85 : BitVec 32) (v87 : BitVec 32) (v279 : BitVec 32) : Prop :=
  (∀ (k1_h3 : k1_cond3 i k1_t6 = 1#1), ∀ (k1_h6 : k1_cond6 v85 v87 = 1#1), ∀ a, (k1_off67 v279) a + S1x16.size a ≤ S256x128.size a) ∧
  (∀ (k1_h3 : k1_cond3 i k1_t6 = 1#1), ∀ (k1_h6 : k1_cond6 v85 v87 = 1#1), ∀ a, (k1_off69 v279) a + S1x16.size a ≤ S256x128.size a) ∧
  (∀ (k1_h3 : k1_cond3 i k1_t6 = 1#1), ∀ (k1_h6 : k1_cond6 v85 v87 = 1#1), ∀ a, (k1_off71 v279) a + S1x16.size a ≤ S256x128.size a) ∧
  (∀ (k1_h3 : k1_cond3 i k1_t6 = 1#1), ∀ (k1_h6 : k1_cond6 v85 v87 = 1#1), ∀ a, (k1_off73 v279) a + S1x16.size a ≤ S256x128.size a) ∧
  (∀ (k1_h3 : k1_cond3 i k1_t6 = 1#1), ∀ (k1_h6 : k1_cond6 v85 v87 = 1#1), ∀ a, (k1_off75 v279) a + S1x16.size a ≤ S256x128.size a) ∧
  (∀ (k1_h3 : k1_cond3 i k1_t6 = 1#1), ∀ (k1_h6 : k1_cond6 v85 v87 = 1#1), ∀ a, (k1_off77 v279) a + S1x16.size a ≤ S256x128.size a) ∧
  (∀ (k1_h3 : k1_cond3 i k1_t6 = 1#1), ∀ (k1_h6 : k1_cond6 v85 v87 = 1#1), ∀ a, (k1_off79 v279) a + S1x16.size a ≤ S256x128.size a) ∧
  (∀ (k1_h3 : k1_cond3 i k1_t6 = 1#1), ∀ (k1_h6 : k1_cond6 v85 v87 = 1#1), ∀ a, (k1_off81 v279) a + S1x16.size a ≤ S256x128.size a)
theorem k1_off67_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off67 v279) a + S1x16.size a ≤ S256x128.size a := fun i k1_t6 v85 v87 v279 k1_hw22 k1_h3 k1_h6 => k1_hw22.1 k1_h3 k1_h6
theorem k1_off69_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off69 v279) a + S1x16.size a ≤ S256x128.size a := fun i k1_t6 v85 v87 v279 k1_hw22 k1_h3 k1_h6 => k1_hw22.2.1 k1_h3 k1_h6
theorem k1_off71_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off71 v279) a + S1x16.size a ≤ S256x128.size a := fun i k1_t6 v85 v87 v279 k1_hw22 k1_h3 k1_h6 => k1_hw22.2.2.1 k1_h3 k1_h6
theorem k1_off73_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off73 v279) a + S1x16.size a ≤ S256x128.size a := fun i k1_t6 v85 v87 v279 k1_hw22 k1_h3 k1_h6 => k1_hw22.2.2.2.1 k1_h3 k1_h6
theorem k1_off75_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off75 v279) a + S1x16.size a ≤ S256x128.size a := fun i k1_t6 v85 v87 v279 k1_hw22 k1_h3 k1_h6 => k1_hw22.2.2.2.2.1 k1_h3 k1_h6
theorem k1_off77_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off77 v279) a + S1x16.size a ≤ S256x128.size a := fun i k1_t6 v85 v87 v279 k1_hw22 k1_h3 k1_h6 => k1_hw22.2.2.2.2.2.1 k1_h3 k1_h6
theorem k1_off79_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off79 v279) a + S1x16.size a ≤ S256x128.size a := fun i k1_t6 v85 v87 v279 k1_hw22 k1_h3 k1_h6 => k1_hw22.2.2.2.2.2.2.1 k1_h3 k1_h6
theorem k1_off81_inb : ∀ (i : grid1.Coords) (k1_t6 : Fin (k1_t6_loop i).trips) (v85 : BitVec 32) (v87 : BitVec 32) (v279 : BitVec 32) (k1_hw22 : k1_chk22 i k1_t6 v85 v87 v279), ∀ (k1_h3 : k1_cond3 i k1_t6 = 1#1), ∀ (k1_h6 : k1_cond6 v85 v87 = 1#1), ∀ a, (k1_off81 v279) a + S1x16.size a ≤ S256x128.size a := fun i k1_t6 v85 v87 v279 k1_hw22 k1_h3 k1_h6 => k1_hw22.2.2.2.2.2.2.2 k1_h3 k1_h6

def k1_off82 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_170 : BitVec 32 := 16#32
  let v361 : BitVec 32 := Scalar.muli arg18 c16_i32_170
  let c2_i32_171 : BitVec 32 := 2#32
  let v362 : BitVec 32 := Scalar.addi v361 c2_i32_171
  let v363 : Index := Scalar.indexCast v362
  let c112_172 : Index := 112#32
  ![v363.toNat, 112]
def k1_off83 (v371 : BitVec 32) : Fin 2 → Nat :=
  let v374 : Index := Scalar.indexCast v371
  let c0_174 : Index := 0#32
  ![v374.toNat, 0]

def k1_off84 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_175 : BitVec 32 := 16#32
  let v376 : BitVec 32 := Scalar.muli arg18 c16_i32_175
  let c3_i32 : BitVec 32 := 3#32
  let v377 : BitVec 32 := Scalar.addi v376 c3_i32
  let v378 : Index := Scalar.indexCast v377
  let c0_176 : Index := 0#32
  ![v378.toNat, 0]
def k1_off85 (v371 : BitVec 32) : Fin 2 → Nat :=
  let v385 : Index := Scalar.indexCast v371
  let c16_178 : Index := 16#32
  ![v385.toNat, 16]
def k1_off86 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_179 : BitVec 32 := 16#32
  let v387 : BitVec 32 := Scalar.muli arg18 c16_i32_179
  let c3_i32_180 : BitVec 32 := 3#32
  let v388 : BitVec 32 := Scalar.addi v387 c3_i32_180
  let v389 : Index := Scalar.indexCast v388
  let c16_181 : Index := 16#32
  ![v389.toNat, 16]
def k1_off87 (v371 : BitVec 32) : Fin 2 → Nat :=
  let v396 : Index := Scalar.indexCast v371
  let c32_183 : Index := 32#32
  ![v396.toNat, 32]
def k1_off88 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_184 : BitVec 32 := 16#32
  let v398 : BitVec 32 := Scalar.muli arg18 c16_i32_184
  let c3_i32_185 : BitVec 32 := 3#32
  let v399 : BitVec 32 := Scalar.addi v398 c3_i32_185
  let v400 : Index := Scalar.indexCast v399
  let c32_186 : Index := 32#32
  ![v400.toNat, 32]
def k1_off89 (v371 : BitVec 32) : Fin 2 → Nat :=
  let v407 : Index := Scalar.indexCast v371
  let c48_188 : Index := 48#32
  ![v407.toNat, 48]
def k1_off90 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_189 : BitVec 32 := 16#32
  let v409 : BitVec 32 := Scalar.muli arg18 c16_i32_189
  let c3_i32_190 : BitVec 32 := 3#32
  let v410 : BitVec 32 := Scalar.addi v409 c3_i32_190
  let v411 : Index := Scalar.indexCast v410
  let c48_191 : Index := 48#32
  ![v411.toNat, 48]
def k1_off91 (v371 : BitVec 32) : Fin 2 → Nat :=
  let v418 : Index := Scalar.indexCast v371
  let c64_193 : Index := 64#32
  ![v418.toNat, 64]
def k1_off92 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_194 : BitVec 32 := 16#32
  let v420 : BitVec 32 := Scalar.muli arg18 c16_i32_194
  let c3_i32_195 : BitVec 32 := 3#32
  let v421 : BitVec 32 := Scalar.addi v420 c3_i32_195
  let v422 : Index := Scalar.indexCast v421
  let c64_196 : Index := 64#32
  ![v422.toNat, 64]
def k1_off93 (v371 : BitVec 32) : Fin 2 → Nat :=
  let v429 : Index := Scalar.indexCast v371
  let c80_198 : Index := 80#32
  ![v429.toNat, 80]
def k1_off94 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_199 : BitVec 32 := 16#32
  let v431 : BitVec 32 := Scalar.muli arg18 c16_i32_199
  let c3_i32_200 : BitVec 32 := 3#32
  let v432 : BitVec 32 := Scalar.addi v431 c3_i32_200
  let v433 : Index := Scalar.indexCast v432
  let c80_201 : Index := 80#32
  ![v433.toNat, 80]
def k1_off95 (v371 : BitVec 32) : Fin 2 → Nat :=
  let v440 : Index := Scalar.indexCast v371
  let c96_203 : Index := 96#32
  ![v440.toNat, 96]
def k1_off96 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_204 : BitVec 32 := 16#32
  let v442 : BitVec 32 := Scalar.muli arg18 c16_i32_204
  let c3_i32_205 : BitVec 32 := 3#32
  let v443 : BitVec 32 := Scalar.addi v442 c3_i32_205
  let v444 : Index := Scalar.indexCast v443
  let c96_206 : Index := 96#32
  ![v444.toNat, 96]
def k1_off97 (v371 : BitVec 32) : Fin 2 → Nat :=
  let v451 : Index := Scalar.indexCast v371
  let c112_208 : Index := 112#32
  ![v451.toNat, 112]

def k1_chk23 (i : grid1.Coords) (k1_t6 : Fin (k1_t6_loop i).trips) (v85 : BitVec 32) (v87 : BitVec 32) (v371 : BitVec 32) : Prop :=
  (∀ (k1_h3 : k1_cond3 i k1_t6 = 1#1), ∀ (k1_h6 : k1_cond6 v85 v87 = 1#1), ∀ a, (k1_off83 v371) a + S1x16.size a ≤ S256x128.size a) ∧
  (∀ (k1_h3 : k1_cond3 i k1_t6 = 1#1), ∀ (k1_h6 : k1_cond6 v85 v87 = 1#1), ∀ a, (k1_off85 v371) a + S1x16.size a ≤ S256x128.size a) ∧
  (∀ (k1_h3 : k1_cond3 i k1_t6 = 1#1), ∀ (k1_h6 : k1_cond6 v85 v87 = 1#1), ∀ a, (k1_off87 v371) a + S1x16.size a ≤ S256x128.size a) ∧
  (∀ (k1_h3 : k1_cond3 i k1_t6 = 1#1), ∀ (k1_h6 : k1_cond6 v85 v87 = 1#1), ∀ a, (k1_off89 v371) a + S1x16.size a ≤ S256x128.size a) ∧
  (∀ (k1_h3 : k1_cond3 i k1_t6 = 1#1), ∀ (k1_h6 : k1_cond6 v85 v87 = 1#1), ∀ a, (k1_off91 v371) a + S1x16.size a ≤ S256x128.size a) ∧
  (∀ (k1_h3 : k1_cond3 i k1_t6 = 1#1), ∀ (k1_h6 : k1_cond6 v85 v87 = 1#1), ∀ a, (k1_off93 v371) a + S1x16.size a ≤ S256x128.size a) ∧
  (∀ (k1_h3 : k1_cond3 i k1_t6 = 1#1), ∀ (k1_h6 : k1_cond6 v85 v87 = 1#1), ∀ a, (k1_off95 v371) a + S1x16.size a ≤ S256x128.size a) ∧
  (∀ (k1_h3 : k1_cond3 i k1_t6 = 1#1), ∀ (k1_h6 : k1_cond6 v85 v87 = 1#1), ∀ a, (k1_off97 v371) a + S1x16.size a ≤ S256x128.size a)
theorem k1_off83_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off83 v371) a + S1x16.size a ≤ S256x128.size a := fun i k1_t6 v85 v87 v371 k1_hw23 k1_h3 k1_h6 => k1_hw23.1 k1_h3 k1_h6
theorem k1_off85_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off85 v371) a + S1x16.size a ≤ S256x128.size a := fun i k1_t6 v85 v87 v371 k1_hw23 k1_h3 k1_h6 => k1_hw23.2.1 k1_h3 k1_h6
theorem k1_off87_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off87 v371) a + S1x16.size a ≤ S256x128.size a := fun i k1_t6 v85 v87 v371 k1_hw23 k1_h3 k1_h6 => k1_hw23.2.2.1 k1_h3 k1_h6
theorem k1_off89_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off89 v371) a + S1x16.size a ≤ S256x128.size a := fun i k1_t6 v85 v87 v371 k1_hw23 k1_h3 k1_h6 => k1_hw23.2.2.2.1 k1_h3 k1_h6
theorem k1_off91_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off91 v371) a + S1x16.size a ≤ S256x128.size a := fun i k1_t6 v85 v87 v371 k1_hw23 k1_h3 k1_h6 => k1_hw23.2.2.2.2.1 k1_h3 k1_h6
theorem k1_off93_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off93 v371) a + S1x16.size a ≤ S256x128.size a := fun i k1_t6 v85 v87 v371 k1_hw23 k1_h3 k1_h6 => k1_hw23.2.2.2.2.2.1 k1_h3 k1_h6
theorem k1_off95_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off95 v371) a + S1x16.size a ≤ S256x128.size a := fun i k1_t6 v85 v87 v371 k1_hw23 k1_h3 k1_h6 => k1_hw23.2.2.2.2.2.2.1 k1_h3 k1_h6
theorem k1_off97_inb : ∀ (i : grid1.Coords) (k1_t6 : Fin (k1_t6_loop i).trips) (v85 : BitVec 32) (v87 : BitVec 32) (v371 : BitVec 32) (k1_hw23 : k1_chk23 i k1_t6 v85 v87 v371), ∀ (k1_h3 : k1_cond3 i k1_t6 = 1#1), ∀ (k1_h6 : k1_cond6 v85 v87 = 1#1), ∀ a, (k1_off97 v371) a + S1x16.size a ≤ S256x128.size a := fun i k1_t6 v85 v87 v371 k1_hw23 k1_h3 k1_h6 => k1_hw23.2.2.2.2.2.2.2 k1_h3 k1_h6

def k1_off98 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_209 : BitVec 32 := 16#32
  let v453 : BitVec 32 := Scalar.muli arg18 c16_i32_209
  let c3_i32_210 : BitVec 32 := 3#32
  let v454 : BitVec 32 := Scalar.addi v453 c3_i32_210
  let v455 : Index := Scalar.indexCast v454
  let c112_211 : Index := 112#32
  ![v455.toNat, 112]
def k1_off99 (v463 : BitVec 32) : Fin 2 → Nat :=
  let v466 : Index := Scalar.indexCast v463
  let c0_213 : Index := 0#32
  ![v466.toNat, 0]

def k1_off100 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_214 : BitVec 32 := 16#32
  let v468 : BitVec 32 := Scalar.muli arg18 c16_i32_214
  let c4_i32 : BitVec 32 := 4#32
  let v469 : BitVec 32 := Scalar.addi v468 c4_i32
  let v470 : Index := Scalar.indexCast v469
  let c0_215 : Index := 0#32
  ![v470.toNat, 0]
def k1_off101 (v463 : BitVec 32) : Fin 2 → Nat :=
  let v477 : Index := Scalar.indexCast v463
  let c16_217 : Index := 16#32
  ![v477.toNat, 16]
def k1_off102 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_218 : BitVec 32 := 16#32
  let v479 : BitVec 32 := Scalar.muli arg18 c16_i32_218
  let c4_i32_219 : BitVec 32 := 4#32
  let v480 : BitVec 32 := Scalar.addi v479 c4_i32_219
  let v481 : Index := Scalar.indexCast v480
  let c16_220 : Index := 16#32
  ![v481.toNat, 16]
def k1_off103 (v463 : BitVec 32) : Fin 2 → Nat :=
  let v488 : Index := Scalar.indexCast v463
  let c32_222 : Index := 32#32
  ![v488.toNat, 32]
def k1_off104 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_223 : BitVec 32 := 16#32
  let v490 : BitVec 32 := Scalar.muli arg18 c16_i32_223
  let c4_i32_224 : BitVec 32 := 4#32
  let v491 : BitVec 32 := Scalar.addi v490 c4_i32_224
  let v492 : Index := Scalar.indexCast v491
  let c32_225 : Index := 32#32
  ![v492.toNat, 32]
def k1_off105 (v463 : BitVec 32) : Fin 2 → Nat :=
  let v499 : Index := Scalar.indexCast v463
  let c48_227 : Index := 48#32
  ![v499.toNat, 48]
def k1_off106 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_228 : BitVec 32 := 16#32
  let v501 : BitVec 32 := Scalar.muli arg18 c16_i32_228
  let c4_i32_229 : BitVec 32 := 4#32
  let v502 : BitVec 32 := Scalar.addi v501 c4_i32_229
  let v503 : Index := Scalar.indexCast v502
  let c48_230 : Index := 48#32
  ![v503.toNat, 48]
def k1_off107 (v463 : BitVec 32) : Fin 2 → Nat :=
  let v510 : Index := Scalar.indexCast v463
  let c64_232 : Index := 64#32
  ![v510.toNat, 64]
def k1_off108 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_233 : BitVec 32 := 16#32
  let v512 : BitVec 32 := Scalar.muli arg18 c16_i32_233
  let c4_i32_234 : BitVec 32 := 4#32
  let v513 : BitVec 32 := Scalar.addi v512 c4_i32_234
  let v514 : Index := Scalar.indexCast v513
  let c64_235 : Index := 64#32
  ![v514.toNat, 64]
def k1_off109 (v463 : BitVec 32) : Fin 2 → Nat :=
  let v521 : Index := Scalar.indexCast v463
  let c80_237 : Index := 80#32
  ![v521.toNat, 80]
def k1_off110 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_238 : BitVec 32 := 16#32
  let v523 : BitVec 32 := Scalar.muli arg18 c16_i32_238
  let c4_i32_239 : BitVec 32 := 4#32
  let v524 : BitVec 32 := Scalar.addi v523 c4_i32_239
  let v525 : Index := Scalar.indexCast v524
  let c80_240 : Index := 80#32
  ![v525.toNat, 80]
def k1_off111 (v463 : BitVec 32) : Fin 2 → Nat :=
  let v532 : Index := Scalar.indexCast v463
  let c96_242 : Index := 96#32
  ![v532.toNat, 96]
def k1_off112 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_243 : BitVec 32 := 16#32
  let v534 : BitVec 32 := Scalar.muli arg18 c16_i32_243
  let c4_i32_244 : BitVec 32 := 4#32
  let v535 : BitVec 32 := Scalar.addi v534 c4_i32_244
  let v536 : Index := Scalar.indexCast v535
  let c96_245 : Index := 96#32
  ![v536.toNat, 96]
def k1_off113 (v463 : BitVec 32) : Fin 2 → Nat :=
  let v543 : Index := Scalar.indexCast v463
  let c112_247 : Index := 112#32
  ![v543.toNat, 112]

def k1_chk24 (i : grid1.Coords) (k1_t6 : Fin (k1_t6_loop i).trips) (v85 : BitVec 32) (v87 : BitVec 32) (v463 : BitVec 32) : Prop :=
  (∀ (k1_h3 : k1_cond3 i k1_t6 = 1#1), ∀ (k1_h6 : k1_cond6 v85 v87 = 1#1), ∀ a, (k1_off99 v463) a + S1x16.size a ≤ S256x128.size a) ∧
  (∀ (k1_h3 : k1_cond3 i k1_t6 = 1#1), ∀ (k1_h6 : k1_cond6 v85 v87 = 1#1), ∀ a, (k1_off101 v463) a + S1x16.size a ≤ S256x128.size a) ∧
  (∀ (k1_h3 : k1_cond3 i k1_t6 = 1#1), ∀ (k1_h6 : k1_cond6 v85 v87 = 1#1), ∀ a, (k1_off103 v463) a + S1x16.size a ≤ S256x128.size a) ∧
  (∀ (k1_h3 : k1_cond3 i k1_t6 = 1#1), ∀ (k1_h6 : k1_cond6 v85 v87 = 1#1), ∀ a, (k1_off105 v463) a + S1x16.size a ≤ S256x128.size a) ∧
  (∀ (k1_h3 : k1_cond3 i k1_t6 = 1#1), ∀ (k1_h6 : k1_cond6 v85 v87 = 1#1), ∀ a, (k1_off107 v463) a + S1x16.size a ≤ S256x128.size a) ∧
  (∀ (k1_h3 : k1_cond3 i k1_t6 = 1#1), ∀ (k1_h6 : k1_cond6 v85 v87 = 1#1), ∀ a, (k1_off109 v463) a + S1x16.size a ≤ S256x128.size a) ∧
  (∀ (k1_h3 : k1_cond3 i k1_t6 = 1#1), ∀ (k1_h6 : k1_cond6 v85 v87 = 1#1), ∀ a, (k1_off111 v463) a + S1x16.size a ≤ S256x128.size a) ∧
  (∀ (k1_h3 : k1_cond3 i k1_t6 = 1#1), ∀ (k1_h6 : k1_cond6 v85 v87 = 1#1), ∀ a, (k1_off113 v463) a + S1x16.size a ≤ S256x128.size a)
theorem k1_off99_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off99 v463) a + S1x16.size a ≤ S256x128.size a := fun i k1_t6 v85 v87 v463 k1_hw24 k1_h3 k1_h6 => k1_hw24.1 k1_h3 k1_h6
theorem k1_off101_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off101 v463) a + S1x16.size a ≤ S256x128.size a := fun i k1_t6 v85 v87 v463 k1_hw24 k1_h3 k1_h6 => k1_hw24.2.1 k1_h3 k1_h6
theorem k1_off103_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off103 v463) a + S1x16.size a ≤ S256x128.size a := fun i k1_t6 v85 v87 v463 k1_hw24 k1_h3 k1_h6 => k1_hw24.2.2.1 k1_h3 k1_h6
theorem k1_off105_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off105 v463) a + S1x16.size a ≤ S256x128.size a := fun i k1_t6 v85 v87 v463 k1_hw24 k1_h3 k1_h6 => k1_hw24.2.2.2.1 k1_h3 k1_h6
theorem k1_off107_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off107 v463) a + S1x16.size a ≤ S256x128.size a := fun i k1_t6 v85 v87 v463 k1_hw24 k1_h3 k1_h6 => k1_hw24.2.2.2.2.1 k1_h3 k1_h6
theorem k1_off109_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off109 v463) a + S1x16.size a ≤ S256x128.size a := fun i k1_t6 v85 v87 v463 k1_hw24 k1_h3 k1_h6 => k1_hw24.2.2.2.2.2.1 k1_h3 k1_h6
theorem k1_off111_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off111 v463) a + S1x16.size a ≤ S256x128.size a := fun i k1_t6 v85 v87 v463 k1_hw24 k1_h3 k1_h6 => k1_hw24.2.2.2.2.2.2.1 k1_h3 k1_h6
theorem k1_off113_inb : ∀ (i : grid1.Coords) (k1_t6 : Fin (k1_t6_loop i).trips) (v85 : BitVec 32) (v87 : BitVec 32) (v463 : BitVec 32) (k1_hw24 : k1_chk24 i k1_t6 v85 v87 v463), ∀ (k1_h3 : k1_cond3 i k1_t6 = 1#1), ∀ (k1_h6 : k1_cond6 v85 v87 = 1#1), ∀ a, (k1_off113 v463) a + S1x16.size a ≤ S256x128.size a := fun i k1_t6 v85 v87 v463 k1_hw24 k1_h3 k1_h6 => k1_hw24.2.2.2.2.2.2.2 k1_h3 k1_h6

def k1_off114 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_248 : BitVec 32 := 16#32
  let v545 : BitVec 32 := Scalar.muli arg18 c16_i32_248
  let c4_i32_249 : BitVec 32 := 4#32
  let v546 : BitVec 32 := Scalar.addi v545 c4_i32_249
  let v547 : Index := Scalar.indexCast v546
  let c112_250 : Index := 112#32
  ![v547.toNat, 112]
def k1_off115 (v555 : BitVec 32) : Fin 2 → Nat :=
  let v558 : Index := Scalar.indexCast v555
  let c0_252 : Index := 0#32
  ![v558.toNat, 0]

def k1_off116 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_253 : BitVec 32 := 16#32
  let v560 : BitVec 32 := Scalar.muli arg18 c16_i32_253
  let c5_i32 : BitVec 32 := 5#32
  let v561 : BitVec 32 := Scalar.addi v560 c5_i32
  let v562 : Index := Scalar.indexCast v561
  let c0_254 : Index := 0#32
  ![v562.toNat, 0]
def k1_off117 (v555 : BitVec 32) : Fin 2 → Nat :=
  let v569 : Index := Scalar.indexCast v555
  let c16_256 : Index := 16#32
  ![v569.toNat, 16]
def k1_off118 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_257 : BitVec 32 := 16#32
  let v571 : BitVec 32 := Scalar.muli arg18 c16_i32_257
  let c5_i32_258 : BitVec 32 := 5#32
  let v572 : BitVec 32 := Scalar.addi v571 c5_i32_258
  let v573 : Index := Scalar.indexCast v572
  let c16_259 : Index := 16#32
  ![v573.toNat, 16]
def k1_off119 (v555 : BitVec 32) : Fin 2 → Nat :=
  let v580 : Index := Scalar.indexCast v555
  let c32_261 : Index := 32#32
  ![v580.toNat, 32]
def k1_off120 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_262 : BitVec 32 := 16#32
  let v582 : BitVec 32 := Scalar.muli arg18 c16_i32_262
  let c5_i32_263 : BitVec 32 := 5#32
  let v583 : BitVec 32 := Scalar.addi v582 c5_i32_263
  let v584 : Index := Scalar.indexCast v583
  let c32_264 : Index := 32#32
  ![v584.toNat, 32]
def k1_off121 (v555 : BitVec 32) : Fin 2 → Nat :=
  let v591 : Index := Scalar.indexCast v555
  let c48_266 : Index := 48#32
  ![v591.toNat, 48]
def k1_off122 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_267 : BitVec 32 := 16#32
  let v593 : BitVec 32 := Scalar.muli arg18 c16_i32_267
  let c5_i32_268 : BitVec 32 := 5#32
  let v594 : BitVec 32 := Scalar.addi v593 c5_i32_268
  let v595 : Index := Scalar.indexCast v594
  let c48_269 : Index := 48#32
  ![v595.toNat, 48]
def k1_off123 (v555 : BitVec 32) : Fin 2 → Nat :=
  let v602 : Index := Scalar.indexCast v555
  let c64_271 : Index := 64#32
  ![v602.toNat, 64]
def k1_off124 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_272 : BitVec 32 := 16#32
  let v604 : BitVec 32 := Scalar.muli arg18 c16_i32_272
  let c5_i32_273 : BitVec 32 := 5#32
  let v605 : BitVec 32 := Scalar.addi v604 c5_i32_273
  let v606 : Index := Scalar.indexCast v605
  let c64_274 : Index := 64#32
  ![v606.toNat, 64]
def k1_off125 (v555 : BitVec 32) : Fin 2 → Nat :=
  let v613 : Index := Scalar.indexCast v555
  let c80_276 : Index := 80#32
  ![v613.toNat, 80]
def k1_off126 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_277 : BitVec 32 := 16#32
  let v615 : BitVec 32 := Scalar.muli arg18 c16_i32_277
  let c5_i32_278 : BitVec 32 := 5#32
  let v616 : BitVec 32 := Scalar.addi v615 c5_i32_278
  let v617 : Index := Scalar.indexCast v616
  let c80_279 : Index := 80#32
  ![v617.toNat, 80]
def k1_off127 (v555 : BitVec 32) : Fin 2 → Nat :=
  let v624 : Index := Scalar.indexCast v555
  let c96_281 : Index := 96#32
  ![v624.toNat, 96]
def k1_off128 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_282 : BitVec 32 := 16#32
  let v626 : BitVec 32 := Scalar.muli arg18 c16_i32_282
  let c5_i32_283 : BitVec 32 := 5#32
  let v627 : BitVec 32 := Scalar.addi v626 c5_i32_283
  let v628 : Index := Scalar.indexCast v627
  let c96_284 : Index := 96#32
  ![v628.toNat, 96]
def k1_off129 (v555 : BitVec 32) : Fin 2 → Nat :=
  let v635 : Index := Scalar.indexCast v555
  let c112_286 : Index := 112#32
  ![v635.toNat, 112]

def k1_chk25 (i : grid1.Coords) (k1_t6 : Fin (k1_t6_loop i).trips) (v85 : BitVec 32) (v87 : BitVec 32) (v555 : BitVec 32) : Prop :=
  (∀ (k1_h3 : k1_cond3 i k1_t6 = 1#1), ∀ (k1_h6 : k1_cond6 v85 v87 = 1#1), ∀ a, (k1_off115 v555) a + S1x16.size a ≤ S256x128.size a) ∧
  (∀ (k1_h3 : k1_cond3 i k1_t6 = 1#1), ∀ (k1_h6 : k1_cond6 v85 v87 = 1#1), ∀ a, (k1_off117 v555) a + S1x16.size a ≤ S256x128.size a) ∧
  (∀ (k1_h3 : k1_cond3 i k1_t6 = 1#1), ∀ (k1_h6 : k1_cond6 v85 v87 = 1#1), ∀ a, (k1_off119 v555) a + S1x16.size a ≤ S256x128.size a) ∧
  (∀ (k1_h3 : k1_cond3 i k1_t6 = 1#1), ∀ (k1_h6 : k1_cond6 v85 v87 = 1#1), ∀ a, (k1_off121 v555) a + S1x16.size a ≤ S256x128.size a) ∧
  (∀ (k1_h3 : k1_cond3 i k1_t6 = 1#1), ∀ (k1_h6 : k1_cond6 v85 v87 = 1#1), ∀ a, (k1_off123 v555) a + S1x16.size a ≤ S256x128.size a) ∧
  (∀ (k1_h3 : k1_cond3 i k1_t6 = 1#1), ∀ (k1_h6 : k1_cond6 v85 v87 = 1#1), ∀ a, (k1_off125 v555) a + S1x16.size a ≤ S256x128.size a) ∧
  (∀ (k1_h3 : k1_cond3 i k1_t6 = 1#1), ∀ (k1_h6 : k1_cond6 v85 v87 = 1#1), ∀ a, (k1_off127 v555) a + S1x16.size a ≤ S256x128.size a) ∧
  (∀ (k1_h3 : k1_cond3 i k1_t6 = 1#1), ∀ (k1_h6 : k1_cond6 v85 v87 = 1#1), ∀ a, (k1_off129 v555) a + S1x16.size a ≤ S256x128.size a)
theorem k1_off115_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off115 v555) a + S1x16.size a ≤ S256x128.size a := fun i k1_t6 v85 v87 v555 k1_hw25 k1_h3 k1_h6 => k1_hw25.1 k1_h3 k1_h6
theorem k1_off117_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off117 v555) a + S1x16.size a ≤ S256x128.size a := fun i k1_t6 v85 v87 v555 k1_hw25 k1_h3 k1_h6 => k1_hw25.2.1 k1_h3 k1_h6
theorem k1_off119_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off119 v555) a + S1x16.size a ≤ S256x128.size a := fun i k1_t6 v85 v87 v555 k1_hw25 k1_h3 k1_h6 => k1_hw25.2.2.1 k1_h3 k1_h6
theorem k1_off121_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off121 v555) a + S1x16.size a ≤ S256x128.size a := fun i k1_t6 v85 v87 v555 k1_hw25 k1_h3 k1_h6 => k1_hw25.2.2.2.1 k1_h3 k1_h6
theorem k1_off123_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off123 v555) a + S1x16.size a ≤ S256x128.size a := fun i k1_t6 v85 v87 v555 k1_hw25 k1_h3 k1_h6 => k1_hw25.2.2.2.2.1 k1_h3 k1_h6
theorem k1_off125_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off125 v555) a + S1x16.size a ≤ S256x128.size a := fun i k1_t6 v85 v87 v555 k1_hw25 k1_h3 k1_h6 => k1_hw25.2.2.2.2.2.1 k1_h3 k1_h6
theorem k1_off127_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off127 v555) a + S1x16.size a ≤ S256x128.size a := fun i k1_t6 v85 v87 v555 k1_hw25 k1_h3 k1_h6 => k1_hw25.2.2.2.2.2.2.1 k1_h3 k1_h6
theorem k1_off129_inb : ∀ (i : grid1.Coords) (k1_t6 : Fin (k1_t6_loop i).trips) (v85 : BitVec 32) (v87 : BitVec 32) (v555 : BitVec 32) (k1_hw25 : k1_chk25 i k1_t6 v85 v87 v555), ∀ (k1_h3 : k1_cond3 i k1_t6 = 1#1), ∀ (k1_h6 : k1_cond6 v85 v87 = 1#1), ∀ a, (k1_off129 v555) a + S1x16.size a ≤ S256x128.size a := fun i k1_t6 v85 v87 v555 k1_hw25 k1_h3 k1_h6 => k1_hw25.2.2.2.2.2.2.2 k1_h3 k1_h6

def k1_off130 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_287 : BitVec 32 := 16#32
  let v637 : BitVec 32 := Scalar.muli arg18 c16_i32_287
  let c5_i32_288 : BitVec 32 := 5#32
  let v638 : BitVec 32 := Scalar.addi v637 c5_i32_288
  let v639 : Index := Scalar.indexCast v638
  let c112_289 : Index := 112#32
  ![v639.toNat, 112]
def k1_off131 (v647 : BitVec 32) : Fin 2 → Nat :=
  let v650 : Index := Scalar.indexCast v647
  let c0_291 : Index := 0#32
  ![v650.toNat, 0]

def k1_off132 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_292 : BitVec 32 := 16#32
  let v652 : BitVec 32 := Scalar.muli arg18 c16_i32_292
  let c6_i32 : BitVec 32 := 6#32
  let v653 : BitVec 32 := Scalar.addi v652 c6_i32
  let v654 : Index := Scalar.indexCast v653
  let c0_293 : Index := 0#32
  ![v654.toNat, 0]
def k1_off133 (v647 : BitVec 32) : Fin 2 → Nat :=
  let v661 : Index := Scalar.indexCast v647
  let c16_295 : Index := 16#32
  ![v661.toNat, 16]
def k1_off134 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_296 : BitVec 32 := 16#32
  let v663 : BitVec 32 := Scalar.muli arg18 c16_i32_296
  let c6_i32_297 : BitVec 32 := 6#32
  let v664 : BitVec 32 := Scalar.addi v663 c6_i32_297
  let v665 : Index := Scalar.indexCast v664
  let c16_298 : Index := 16#32
  ![v665.toNat, 16]
def k1_off135 (v647 : BitVec 32) : Fin 2 → Nat :=
  let v672 : Index := Scalar.indexCast v647
  let c32_300 : Index := 32#32
  ![v672.toNat, 32]
def k1_off136 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_301 : BitVec 32 := 16#32
  let v674 : BitVec 32 := Scalar.muli arg18 c16_i32_301
  let c6_i32_302 : BitVec 32 := 6#32
  let v675 : BitVec 32 := Scalar.addi v674 c6_i32_302
  let v676 : Index := Scalar.indexCast v675
  let c32_303 : Index := 32#32
  ![v676.toNat, 32]
def k1_off137 (v647 : BitVec 32) : Fin 2 → Nat :=
  let v683 : Index := Scalar.indexCast v647
  let c48_305 : Index := 48#32
  ![v683.toNat, 48]
def k1_off138 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_306 : BitVec 32 := 16#32
  let v685 : BitVec 32 := Scalar.muli arg18 c16_i32_306
  let c6_i32_307 : BitVec 32 := 6#32
  let v686 : BitVec 32 := Scalar.addi v685 c6_i32_307
  let v687 : Index := Scalar.indexCast v686
  let c48_308 : Index := 48#32
  ![v687.toNat, 48]
def k1_off139 (v647 : BitVec 32) : Fin 2 → Nat :=
  let v694 : Index := Scalar.indexCast v647
  let c64_310 : Index := 64#32
  ![v694.toNat, 64]
def k1_off140 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_311 : BitVec 32 := 16#32
  let v696 : BitVec 32 := Scalar.muli arg18 c16_i32_311
  let c6_i32_312 : BitVec 32 := 6#32
  let v697 : BitVec 32 := Scalar.addi v696 c6_i32_312
  let v698 : Index := Scalar.indexCast v697
  let c64_313 : Index := 64#32
  ![v698.toNat, 64]
def k1_off141 (v647 : BitVec 32) : Fin 2 → Nat :=
  let v705 : Index := Scalar.indexCast v647
  let c80_315 : Index := 80#32
  ![v705.toNat, 80]
def k1_off142 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_316 : BitVec 32 := 16#32
  let v707 : BitVec 32 := Scalar.muli arg18 c16_i32_316
  let c6_i32_317 : BitVec 32 := 6#32
  let v708 : BitVec 32 := Scalar.addi v707 c6_i32_317
  let v709 : Index := Scalar.indexCast v708
  let c80_318 : Index := 80#32
  ![v709.toNat, 80]
def k1_off143 (v647 : BitVec 32) : Fin 2 → Nat :=
  let v716 : Index := Scalar.indexCast v647
  let c96_320 : Index := 96#32
  ![v716.toNat, 96]
def k1_off144 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_321 : BitVec 32 := 16#32
  let v718 : BitVec 32 := Scalar.muli arg18 c16_i32_321
  let c6_i32_322 : BitVec 32 := 6#32
  let v719 : BitVec 32 := Scalar.addi v718 c6_i32_322
  let v720 : Index := Scalar.indexCast v719
  let c96_323 : Index := 96#32
  ![v720.toNat, 96]
def k1_off145 (v647 : BitVec 32) : Fin 2 → Nat :=
  let v727 : Index := Scalar.indexCast v647
  let c112_325 : Index := 112#32
  ![v727.toNat, 112]

def k1_chk26 (i : grid1.Coords) (k1_t6 : Fin (k1_t6_loop i).trips) (v85 : BitVec 32) (v87 : BitVec 32) (v647 : BitVec 32) : Prop :=
  (∀ (k1_h3 : k1_cond3 i k1_t6 = 1#1), ∀ (k1_h6 : k1_cond6 v85 v87 = 1#1), ∀ a, (k1_off131 v647) a + S1x16.size a ≤ S256x128.size a) ∧
  (∀ (k1_h3 : k1_cond3 i k1_t6 = 1#1), ∀ (k1_h6 : k1_cond6 v85 v87 = 1#1), ∀ a, (k1_off133 v647) a + S1x16.size a ≤ S256x128.size a) ∧
  (∀ (k1_h3 : k1_cond3 i k1_t6 = 1#1), ∀ (k1_h6 : k1_cond6 v85 v87 = 1#1), ∀ a, (k1_off135 v647) a + S1x16.size a ≤ S256x128.size a) ∧
  (∀ (k1_h3 : k1_cond3 i k1_t6 = 1#1), ∀ (k1_h6 : k1_cond6 v85 v87 = 1#1), ∀ a, (k1_off137 v647) a + S1x16.size a ≤ S256x128.size a) ∧
  (∀ (k1_h3 : k1_cond3 i k1_t6 = 1#1), ∀ (k1_h6 : k1_cond6 v85 v87 = 1#1), ∀ a, (k1_off139 v647) a + S1x16.size a ≤ S256x128.size a) ∧
  (∀ (k1_h3 : k1_cond3 i k1_t6 = 1#1), ∀ (k1_h6 : k1_cond6 v85 v87 = 1#1), ∀ a, (k1_off141 v647) a + S1x16.size a ≤ S256x128.size a) ∧
  (∀ (k1_h3 : k1_cond3 i k1_t6 = 1#1), ∀ (k1_h6 : k1_cond6 v85 v87 = 1#1), ∀ a, (k1_off143 v647) a + S1x16.size a ≤ S256x128.size a) ∧
  (∀ (k1_h3 : k1_cond3 i k1_t6 = 1#1), ∀ (k1_h6 : k1_cond6 v85 v87 = 1#1), ∀ a, (k1_off145 v647) a + S1x16.size a ≤ S256x128.size a)
theorem k1_off131_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off131 v647) a + S1x16.size a ≤ S256x128.size a := fun i k1_t6 v85 v87 v647 k1_hw26 k1_h3 k1_h6 => k1_hw26.1 k1_h3 k1_h6
theorem k1_off133_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off133 v647) a + S1x16.size a ≤ S256x128.size a := fun i k1_t6 v85 v87 v647 k1_hw26 k1_h3 k1_h6 => k1_hw26.2.1 k1_h3 k1_h6
theorem k1_off135_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off135 v647) a + S1x16.size a ≤ S256x128.size a := fun i k1_t6 v85 v87 v647 k1_hw26 k1_h3 k1_h6 => k1_hw26.2.2.1 k1_h3 k1_h6
theorem k1_off137_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off137 v647) a + S1x16.size a ≤ S256x128.size a := fun i k1_t6 v85 v87 v647 k1_hw26 k1_h3 k1_h6 => k1_hw26.2.2.2.1 k1_h3 k1_h6
theorem k1_off139_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off139 v647) a + S1x16.size a ≤ S256x128.size a := fun i k1_t6 v85 v87 v647 k1_hw26 k1_h3 k1_h6 => k1_hw26.2.2.2.2.1 k1_h3 k1_h6
theorem k1_off141_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off141 v647) a + S1x16.size a ≤ S256x128.size a := fun i k1_t6 v85 v87 v647 k1_hw26 k1_h3 k1_h6 => k1_hw26.2.2.2.2.2.1 k1_h3 k1_h6
theorem k1_off143_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off143 v647) a + S1x16.size a ≤ S256x128.size a := fun i k1_t6 v85 v87 v647 k1_hw26 k1_h3 k1_h6 => k1_hw26.2.2.2.2.2.2.1 k1_h3 k1_h6
theorem k1_off145_inb : ∀ (i : grid1.Coords) (k1_t6 : Fin (k1_t6_loop i).trips) (v85 : BitVec 32) (v87 : BitVec 32) (v647 : BitVec 32) (k1_hw26 : k1_chk26 i k1_t6 v85 v87 v647), ∀ (k1_h3 : k1_cond3 i k1_t6 = 1#1), ∀ (k1_h6 : k1_cond6 v85 v87 = 1#1), ∀ a, (k1_off145 v647) a + S1x16.size a ≤ S256x128.size a := fun i k1_t6 v85 v87 v647 k1_hw26 k1_h3 k1_h6 => k1_hw26.2.2.2.2.2.2.2 k1_h3 k1_h6

def k1_off146 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_326 : BitVec 32 := 16#32
  let v729 : BitVec 32 := Scalar.muli arg18 c16_i32_326
  let c6_i32_327 : BitVec 32 := 6#32
  let v730 : BitVec 32 := Scalar.addi v729 c6_i32_327
  let v731 : Index := Scalar.indexCast v730
  let c112_328 : Index := 112#32
  ![v731.toNat, 112]
def k1_off147 (v739 : BitVec 32) : Fin 2 → Nat :=
  let v742 : Index := Scalar.indexCast v739
  let c0_330 : Index := 0#32
  ![v742.toNat, 0]

def k1_off148 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_331 : BitVec 32 := 16#32
  let v744 : BitVec 32 := Scalar.muli arg18 c16_i32_331
  let c7_i32_332 : BitVec 32 := 7#32
  let v745 : BitVec 32 := Scalar.addi v744 c7_i32_332
  let v746 : Index := Scalar.indexCast v745
  let c0_333 : Index := 0#32
  ![v746.toNat, 0]
def k1_off149 (v739 : BitVec 32) : Fin 2 → Nat :=
  let v753 : Index := Scalar.indexCast v739
  let c16_335 : Index := 16#32
  ![v753.toNat, 16]
def k1_off150 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_336 : BitVec 32 := 16#32
  let v755 : BitVec 32 := Scalar.muli arg18 c16_i32_336
  let c7_i32_337 : BitVec 32 := 7#32
  let v756 : BitVec 32 := Scalar.addi v755 c7_i32_337
  let v757 : Index := Scalar.indexCast v756
  let c16_338 : Index := 16#32
  ![v757.toNat, 16]
def k1_off151 (v739 : BitVec 32) : Fin 2 → Nat :=
  let v764 : Index := Scalar.indexCast v739
  let c32_340 : Index := 32#32
  ![v764.toNat, 32]
def k1_off152 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_341 : BitVec 32 := 16#32
  let v766 : BitVec 32 := Scalar.muli arg18 c16_i32_341
  let c7_i32_342 : BitVec 32 := 7#32
  let v767 : BitVec 32 := Scalar.addi v766 c7_i32_342
  let v768 : Index := Scalar.indexCast v767
  let c32_343 : Index := 32#32
  ![v768.toNat, 32]
def k1_off153 (v739 : BitVec 32) : Fin 2 → Nat :=
  let v775 : Index := Scalar.indexCast v739
  let c48_345 : Index := 48#32
  ![v775.toNat, 48]
def k1_off154 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_346 : BitVec 32 := 16#32
  let v777 : BitVec 32 := Scalar.muli arg18 c16_i32_346
  let c7_i32_347 : BitVec 32 := 7#32
  let v778 : BitVec 32 := Scalar.addi v777 c7_i32_347
  let v779 : Index := Scalar.indexCast v778
  let c48_348 : Index := 48#32
  ![v779.toNat, 48]
def k1_off155 (v739 : BitVec 32) : Fin 2 → Nat :=
  let v786 : Index := Scalar.indexCast v739
  let c64_350 : Index := 64#32
  ![v786.toNat, 64]
def k1_off156 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_351 : BitVec 32 := 16#32
  let v788 : BitVec 32 := Scalar.muli arg18 c16_i32_351
  let c7_i32_352 : BitVec 32 := 7#32
  let v789 : BitVec 32 := Scalar.addi v788 c7_i32_352
  let v790 : Index := Scalar.indexCast v789
  let c64_353 : Index := 64#32
  ![v790.toNat, 64]
def k1_off157 (v739 : BitVec 32) : Fin 2 → Nat :=
  let v797 : Index := Scalar.indexCast v739
  let c80_355 : Index := 80#32
  ![v797.toNat, 80]
def k1_off158 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_356 : BitVec 32 := 16#32
  let v799 : BitVec 32 := Scalar.muli arg18 c16_i32_356
  let c7_i32_357 : BitVec 32 := 7#32
  let v800 : BitVec 32 := Scalar.addi v799 c7_i32_357
  let v801 : Index := Scalar.indexCast v800
  let c80_358 : Index := 80#32
  ![v801.toNat, 80]
def k1_off159 (v739 : BitVec 32) : Fin 2 → Nat :=
  let v808 : Index := Scalar.indexCast v739
  let c96_360 : Index := 96#32
  ![v808.toNat, 96]
def k1_off160 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_361 : BitVec 32 := 16#32
  let v810 : BitVec 32 := Scalar.muli arg18 c16_i32_361
  let c7_i32_362 : BitVec 32 := 7#32
  let v811 : BitVec 32 := Scalar.addi v810 c7_i32_362
  let v812 : Index := Scalar.indexCast v811
  let c96_363 : Index := 96#32
  ![v812.toNat, 96]
def k1_off161 (v739 : BitVec 32) : Fin 2 → Nat :=
  let v819 : Index := Scalar.indexCast v739
  let c112_365 : Index := 112#32
  ![v819.toNat, 112]

def k1_chk27 (i : grid1.Coords) (k1_t6 : Fin (k1_t6_loop i).trips) (v85 : BitVec 32) (v87 : BitVec 32) (v739 : BitVec 32) : Prop :=
  (∀ (k1_h3 : k1_cond3 i k1_t6 = 1#1), ∀ (k1_h6 : k1_cond6 v85 v87 = 1#1), ∀ a, (k1_off147 v739) a + S1x16.size a ≤ S256x128.size a) ∧
  (∀ (k1_h3 : k1_cond3 i k1_t6 = 1#1), ∀ (k1_h6 : k1_cond6 v85 v87 = 1#1), ∀ a, (k1_off149 v739) a + S1x16.size a ≤ S256x128.size a) ∧
  (∀ (k1_h3 : k1_cond3 i k1_t6 = 1#1), ∀ (k1_h6 : k1_cond6 v85 v87 = 1#1), ∀ a, (k1_off151 v739) a + S1x16.size a ≤ S256x128.size a) ∧
  (∀ (k1_h3 : k1_cond3 i k1_t6 = 1#1), ∀ (k1_h6 : k1_cond6 v85 v87 = 1#1), ∀ a, (k1_off153 v739) a + S1x16.size a ≤ S256x128.size a) ∧
  (∀ (k1_h3 : k1_cond3 i k1_t6 = 1#1), ∀ (k1_h6 : k1_cond6 v85 v87 = 1#1), ∀ a, (k1_off155 v739) a + S1x16.size a ≤ S256x128.size a) ∧
  (∀ (k1_h3 : k1_cond3 i k1_t6 = 1#1), ∀ (k1_h6 : k1_cond6 v85 v87 = 1#1), ∀ a, (k1_off157 v739) a + S1x16.size a ≤ S256x128.size a) ∧
  (∀ (k1_h3 : k1_cond3 i k1_t6 = 1#1), ∀ (k1_h6 : k1_cond6 v85 v87 = 1#1), ∀ a, (k1_off159 v739) a + S1x16.size a ≤ S256x128.size a) ∧
  (∀ (k1_h3 : k1_cond3 i k1_t6 = 1#1), ∀ (k1_h6 : k1_cond6 v85 v87 = 1#1), ∀ a, (k1_off161 v739) a + S1x16.size a ≤ S256x128.size a)
theorem k1_off147_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off147 v739) a + S1x16.size a ≤ S256x128.size a := fun i k1_t6 v85 v87 v739 k1_hw27 k1_h3 k1_h6 => k1_hw27.1 k1_h3 k1_h6
theorem k1_off149_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off149 v739) a + S1x16.size a ≤ S256x128.size a := fun i k1_t6 v85 v87 v739 k1_hw27 k1_h3 k1_h6 => k1_hw27.2.1 k1_h3 k1_h6
theorem k1_off151_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off151 v739) a + S1x16.size a ≤ S256x128.size a := fun i k1_t6 v85 v87 v739 k1_hw27 k1_h3 k1_h6 => k1_hw27.2.2.1 k1_h3 k1_h6
theorem k1_off153_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off153 v739) a + S1x16.size a ≤ S256x128.size a := fun i k1_t6 v85 v87 v739 k1_hw27 k1_h3 k1_h6 => k1_hw27.2.2.2.1 k1_h3 k1_h6
theorem k1_off155_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off155 v739) a + S1x16.size a ≤ S256x128.size a := fun i k1_t6 v85 v87 v739 k1_hw27 k1_h3 k1_h6 => k1_hw27.2.2.2.2.1 k1_h3 k1_h6
theorem k1_off157_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off157 v739) a + S1x16.size a ≤ S256x128.size a := fun i k1_t6 v85 v87 v739 k1_hw27 k1_h3 k1_h6 => k1_hw27.2.2.2.2.2.1 k1_h3 k1_h6
theorem k1_off159_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off159 v739) a + S1x16.size a ≤ S256x128.size a := fun i k1_t6 v85 v87 v739 k1_hw27 k1_h3 k1_h6 => k1_hw27.2.2.2.2.2.2.1 k1_h3 k1_h6
theorem k1_off161_inb : ∀ (i : grid1.Coords) (k1_t6 : Fin (k1_t6_loop i).trips) (v85 : BitVec 32) (v87 : BitVec 32) (v739 : BitVec 32) (k1_hw27 : k1_chk27 i k1_t6 v85 v87 v739), ∀ (k1_h3 : k1_cond3 i k1_t6 = 1#1), ∀ (k1_h6 : k1_cond6 v85 v87 = 1#1), ∀ a, (k1_off161 v739) a + S1x16.size a ≤ S256x128.size a := fun i k1_t6 v85 v87 v739 k1_hw27 k1_h3 k1_h6 => k1_hw27.2.2.2.2.2.2.2 k1_h3 k1_h6

def k1_off162 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_366 : BitVec 32 := 16#32
  let v821 : BitVec 32 := Scalar.muli arg18 c16_i32_366
  let c7_i32_367 : BitVec 32 := 7#32
  let v822 : BitVec 32 := Scalar.addi v821 c7_i32_367
  let v823 : Index := Scalar.indexCast v822
  let c112_368 : Index := 112#32
  ![v823.toNat, 112]
def k1_off163 (v831 : BitVec 32) : Fin 2 → Nat :=
  let v834 : Index := Scalar.indexCast v831
  let c0_370 : Index := 0#32
  ![v834.toNat, 0]

def k1_off164 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_371 : BitVec 32 := 16#32
  let v836 : BitVec 32 := Scalar.muli arg18 c16_i32_371
  let c8_i32 : BitVec 32 := 8#32
  let v837 : BitVec 32 := Scalar.addi v836 c8_i32
  let v838 : Index := Scalar.indexCast v837
  let c0_372 : Index := 0#32
  ![v838.toNat, 0]
def k1_off165 (v831 : BitVec 32) : Fin 2 → Nat :=
  let v845 : Index := Scalar.indexCast v831
  let c16_374 : Index := 16#32
  ![v845.toNat, 16]
def k1_off166 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_375 : BitVec 32 := 16#32
  let v847 : BitVec 32 := Scalar.muli arg18 c16_i32_375
  let c8_i32_376 : BitVec 32 := 8#32
  let v848 : BitVec 32 := Scalar.addi v847 c8_i32_376
  let v849 : Index := Scalar.indexCast v848
  let c16_377 : Index := 16#32
  ![v849.toNat, 16]
def k1_off167 (v831 : BitVec 32) : Fin 2 → Nat :=
  let v856 : Index := Scalar.indexCast v831
  let c32_379 : Index := 32#32
  ![v856.toNat, 32]
def k1_off168 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_380 : BitVec 32 := 16#32
  let v858 : BitVec 32 := Scalar.muli arg18 c16_i32_380
  let c8_i32_381 : BitVec 32 := 8#32
  let v859 : BitVec 32 := Scalar.addi v858 c8_i32_381
  let v860 : Index := Scalar.indexCast v859
  let c32_382 : Index := 32#32
  ![v860.toNat, 32]
def k1_off169 (v831 : BitVec 32) : Fin 2 → Nat :=
  let v867 : Index := Scalar.indexCast v831
  let c48_384 : Index := 48#32
  ![v867.toNat, 48]
def k1_off170 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_385 : BitVec 32 := 16#32
  let v869 : BitVec 32 := Scalar.muli arg18 c16_i32_385
  let c8_i32_386 : BitVec 32 := 8#32
  let v870 : BitVec 32 := Scalar.addi v869 c8_i32_386
  let v871 : Index := Scalar.indexCast v870
  let c48_387 : Index := 48#32
  ![v871.toNat, 48]
def k1_off171 (v831 : BitVec 32) : Fin 2 → Nat :=
  let v878 : Index := Scalar.indexCast v831
  let c64_389 : Index := 64#32
  ![v878.toNat, 64]
def k1_off172 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_390 : BitVec 32 := 16#32
  let v880 : BitVec 32 := Scalar.muli arg18 c16_i32_390
  let c8_i32_391 : BitVec 32 := 8#32
  let v881 : BitVec 32 := Scalar.addi v880 c8_i32_391
  let v882 : Index := Scalar.indexCast v881
  let c64_392 : Index := 64#32
  ![v882.toNat, 64]
def k1_off173 (v831 : BitVec 32) : Fin 2 → Nat :=
  let v889 : Index := Scalar.indexCast v831
  let c80_394 : Index := 80#32
  ![v889.toNat, 80]
def k1_off174 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_395 : BitVec 32 := 16#32
  let v891 : BitVec 32 := Scalar.muli arg18 c16_i32_395
  let c8_i32_396 : BitVec 32 := 8#32
  let v892 : BitVec 32 := Scalar.addi v891 c8_i32_396
  let v893 : Index := Scalar.indexCast v892
  let c80_397 : Index := 80#32
  ![v893.toNat, 80]
def k1_off175 (v831 : BitVec 32) : Fin 2 → Nat :=
  let v900 : Index := Scalar.indexCast v831
  let c96_399 : Index := 96#32
  ![v900.toNat, 96]
def k1_off176 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_400 : BitVec 32 := 16#32
  let v902 : BitVec 32 := Scalar.muli arg18 c16_i32_400
  let c8_i32_401 : BitVec 32 := 8#32
  let v903 : BitVec 32 := Scalar.addi v902 c8_i32_401
  let v904 : Index := Scalar.indexCast v903
  let c96_402 : Index := 96#32
  ![v904.toNat, 96]
def k1_off177 (v831 : BitVec 32) : Fin 2 → Nat :=
  let v911 : Index := Scalar.indexCast v831
  let c112_404 : Index := 112#32
  ![v911.toNat, 112]

def k1_chk28 (i : grid1.Coords) (k1_t6 : Fin (k1_t6_loop i).trips) (v85 : BitVec 32) (v87 : BitVec 32) (v831 : BitVec 32) : Prop :=
  (∀ (k1_h3 : k1_cond3 i k1_t6 = 1#1), ∀ (k1_h6 : k1_cond6 v85 v87 = 1#1), ∀ a, (k1_off163 v831) a + S1x16.size a ≤ S256x128.size a) ∧
  (∀ (k1_h3 : k1_cond3 i k1_t6 = 1#1), ∀ (k1_h6 : k1_cond6 v85 v87 = 1#1), ∀ a, (k1_off165 v831) a + S1x16.size a ≤ S256x128.size a) ∧
  (∀ (k1_h3 : k1_cond3 i k1_t6 = 1#1), ∀ (k1_h6 : k1_cond6 v85 v87 = 1#1), ∀ a, (k1_off167 v831) a + S1x16.size a ≤ S256x128.size a) ∧
  (∀ (k1_h3 : k1_cond3 i k1_t6 = 1#1), ∀ (k1_h6 : k1_cond6 v85 v87 = 1#1), ∀ a, (k1_off169 v831) a + S1x16.size a ≤ S256x128.size a) ∧
  (∀ (k1_h3 : k1_cond3 i k1_t6 = 1#1), ∀ (k1_h6 : k1_cond6 v85 v87 = 1#1), ∀ a, (k1_off171 v831) a + S1x16.size a ≤ S256x128.size a) ∧
  (∀ (k1_h3 : k1_cond3 i k1_t6 = 1#1), ∀ (k1_h6 : k1_cond6 v85 v87 = 1#1), ∀ a, (k1_off173 v831) a + S1x16.size a ≤ S256x128.size a) ∧
  (∀ (k1_h3 : k1_cond3 i k1_t6 = 1#1), ∀ (k1_h6 : k1_cond6 v85 v87 = 1#1), ∀ a, (k1_off175 v831) a + S1x16.size a ≤ S256x128.size a) ∧
  (∀ (k1_h3 : k1_cond3 i k1_t6 = 1#1), ∀ (k1_h6 : k1_cond6 v85 v87 = 1#1), ∀ a, (k1_off177 v831) a + S1x16.size a ≤ S256x128.size a)
theorem k1_off163_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off163 v831) a + S1x16.size a ≤ S256x128.size a := fun i k1_t6 v85 v87 v831 k1_hw28 k1_h3 k1_h6 => k1_hw28.1 k1_h3 k1_h6
theorem k1_off165_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off165 v831) a + S1x16.size a ≤ S256x128.size a := fun i k1_t6 v85 v87 v831 k1_hw28 k1_h3 k1_h6 => k1_hw28.2.1 k1_h3 k1_h6
theorem k1_off167_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off167 v831) a + S1x16.size a ≤ S256x128.size a := fun i k1_t6 v85 v87 v831 k1_hw28 k1_h3 k1_h6 => k1_hw28.2.2.1 k1_h3 k1_h6
theorem k1_off169_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off169 v831) a + S1x16.size a ≤ S256x128.size a := fun i k1_t6 v85 v87 v831 k1_hw28 k1_h3 k1_h6 => k1_hw28.2.2.2.1 k1_h3 k1_h6
theorem k1_off171_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off171 v831) a + S1x16.size a ≤ S256x128.size a := fun i k1_t6 v85 v87 v831 k1_hw28 k1_h3 k1_h6 => k1_hw28.2.2.2.2.1 k1_h3 k1_h6
theorem k1_off173_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off173 v831) a + S1x16.size a ≤ S256x128.size a := fun i k1_t6 v85 v87 v831 k1_hw28 k1_h3 k1_h6 => k1_hw28.2.2.2.2.2.1 k1_h3 k1_h6
theorem k1_off175_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off175 v831) a + S1x16.size a ≤ S256x128.size a := fun i k1_t6 v85 v87 v831 k1_hw28 k1_h3 k1_h6 => k1_hw28.2.2.2.2.2.2.1 k1_h3 k1_h6
theorem k1_off177_inb : ∀ (i : grid1.Coords) (k1_t6 : Fin (k1_t6_loop i).trips) (v85 : BitVec 32) (v87 : BitVec 32) (v831 : BitVec 32) (k1_hw28 : k1_chk28 i k1_t6 v85 v87 v831), ∀ (k1_h3 : k1_cond3 i k1_t6 = 1#1), ∀ (k1_h6 : k1_cond6 v85 v87 = 1#1), ∀ a, (k1_off177 v831) a + S1x16.size a ≤ S256x128.size a := fun i k1_t6 v85 v87 v831 k1_hw28 k1_h3 k1_h6 => k1_hw28.2.2.2.2.2.2.2 k1_h3 k1_h6

def k1_off178 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_405 : BitVec 32 := 16#32
  let v913 : BitVec 32 := Scalar.muli arg18 c16_i32_405
  let c8_i32_406 : BitVec 32 := 8#32
  let v914 : BitVec 32 := Scalar.addi v913 c8_i32_406
  let v915 : Index := Scalar.indexCast v914
  let c112_407 : Index := 112#32
  ![v915.toNat, 112]
def k1_off179 (v923 : BitVec 32) : Fin 2 → Nat :=
  let v926 : Index := Scalar.indexCast v923
  let c0_409 : Index := 0#32
  ![v926.toNat, 0]

def k1_off180 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_410 : BitVec 32 := 16#32
  let v928 : BitVec 32 := Scalar.muli arg18 c16_i32_410
  let c9_i32 : BitVec 32 := 9#32
  let v929 : BitVec 32 := Scalar.addi v928 c9_i32
  let v930 : Index := Scalar.indexCast v929
  let c0_411 : Index := 0#32
  ![v930.toNat, 0]
def k1_off181 (v923 : BitVec 32) : Fin 2 → Nat :=
  let v937 : Index := Scalar.indexCast v923
  let c16_413 : Index := 16#32
  ![v937.toNat, 16]
def k1_off182 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_414 : BitVec 32 := 16#32
  let v939 : BitVec 32 := Scalar.muli arg18 c16_i32_414
  let c9_i32_415 : BitVec 32 := 9#32
  let v940 : BitVec 32 := Scalar.addi v939 c9_i32_415
  let v941 : Index := Scalar.indexCast v940
  let c16_416 : Index := 16#32
  ![v941.toNat, 16]
def k1_off183 (v923 : BitVec 32) : Fin 2 → Nat :=
  let v948 : Index := Scalar.indexCast v923
  let c32_418 : Index := 32#32
  ![v948.toNat, 32]
def k1_off184 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_419 : BitVec 32 := 16#32
  let v950 : BitVec 32 := Scalar.muli arg18 c16_i32_419
  let c9_i32_420 : BitVec 32 := 9#32
  let v951 : BitVec 32 := Scalar.addi v950 c9_i32_420
  let v952 : Index := Scalar.indexCast v951
  let c32_421 : Index := 32#32
  ![v952.toNat, 32]
def k1_off185 (v923 : BitVec 32) : Fin 2 → Nat :=
  let v959 : Index := Scalar.indexCast v923
  let c48_423 : Index := 48#32
  ![v959.toNat, 48]
def k1_off186 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_424 : BitVec 32 := 16#32
  let v961 : BitVec 32 := Scalar.muli arg18 c16_i32_424
  let c9_i32_425 : BitVec 32 := 9#32
  let v962 : BitVec 32 := Scalar.addi v961 c9_i32_425
  let v963 : Index := Scalar.indexCast v962
  let c48_426 : Index := 48#32
  ![v963.toNat, 48]
def k1_off187 (v923 : BitVec 32) : Fin 2 → Nat :=
  let v970 : Index := Scalar.indexCast v923
  let c64_428 : Index := 64#32
  ![v970.toNat, 64]
def k1_off188 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_429 : BitVec 32 := 16#32
  let v972 : BitVec 32 := Scalar.muli arg18 c16_i32_429
  let c9_i32_430 : BitVec 32 := 9#32
  let v973 : BitVec 32 := Scalar.addi v972 c9_i32_430
  let v974 : Index := Scalar.indexCast v973
  let c64_431 : Index := 64#32
  ![v974.toNat, 64]
def k1_off189 (v923 : BitVec 32) : Fin 2 → Nat :=
  let v981 : Index := Scalar.indexCast v923
  let c80_433 : Index := 80#32
  ![v981.toNat, 80]
def k1_off190 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_434 : BitVec 32 := 16#32
  let v983 : BitVec 32 := Scalar.muli arg18 c16_i32_434
  let c9_i32_435 : BitVec 32 := 9#32
  let v984 : BitVec 32 := Scalar.addi v983 c9_i32_435
  let v985 : Index := Scalar.indexCast v984
  let c80_436 : Index := 80#32
  ![v985.toNat, 80]
def k1_off191 (v923 : BitVec 32) : Fin 2 → Nat :=
  let v992 : Index := Scalar.indexCast v923
  let c96_438 : Index := 96#32
  ![v992.toNat, 96]
def k1_off192 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_439 : BitVec 32 := 16#32
  let v994 : BitVec 32 := Scalar.muli arg18 c16_i32_439
  let c9_i32_440 : BitVec 32 := 9#32
  let v995 : BitVec 32 := Scalar.addi v994 c9_i32_440
  let v996 : Index := Scalar.indexCast v995
  let c96_441 : Index := 96#32
  ![v996.toNat, 96]
def k1_off193 (v923 : BitVec 32) : Fin 2 → Nat :=
  let v1003 : Index := Scalar.indexCast v923
  let c112_443 : Index := 112#32
  ![v1003.toNat, 112]

def k1_chk29 (i : grid1.Coords) (k1_t6 : Fin (k1_t6_loop i).trips) (v85 : BitVec 32) (v87 : BitVec 32) (v923 : BitVec 32) : Prop :=
  (∀ (k1_h3 : k1_cond3 i k1_t6 = 1#1), ∀ (k1_h6 : k1_cond6 v85 v87 = 1#1), ∀ a, (k1_off179 v923) a + S1x16.size a ≤ S256x128.size a) ∧
  (∀ (k1_h3 : k1_cond3 i k1_t6 = 1#1), ∀ (k1_h6 : k1_cond6 v85 v87 = 1#1), ∀ a, (k1_off181 v923) a + S1x16.size a ≤ S256x128.size a) ∧
  (∀ (k1_h3 : k1_cond3 i k1_t6 = 1#1), ∀ (k1_h6 : k1_cond6 v85 v87 = 1#1), ∀ a, (k1_off183 v923) a + S1x16.size a ≤ S256x128.size a) ∧
  (∀ (k1_h3 : k1_cond3 i k1_t6 = 1#1), ∀ (k1_h6 : k1_cond6 v85 v87 = 1#1), ∀ a, (k1_off185 v923) a + S1x16.size a ≤ S256x128.size a) ∧
  (∀ (k1_h3 : k1_cond3 i k1_t6 = 1#1), ∀ (k1_h6 : k1_cond6 v85 v87 = 1#1), ∀ a, (k1_off187 v923) a + S1x16.size a ≤ S256x128.size a) ∧
  (∀ (k1_h3 : k1_cond3 i k1_t6 = 1#1), ∀ (k1_h6 : k1_cond6 v85 v87 = 1#1), ∀ a, (k1_off189 v923) a + S1x16.size a ≤ S256x128.size a) ∧
  (∀ (k1_h3 : k1_cond3 i k1_t6 = 1#1), ∀ (k1_h6 : k1_cond6 v85 v87 = 1#1), ∀ a, (k1_off191 v923) a + S1x16.size a ≤ S256x128.size a) ∧
  (∀ (k1_h3 : k1_cond3 i k1_t6 = 1#1), ∀ (k1_h6 : k1_cond6 v85 v87 = 1#1), ∀ a, (k1_off193 v923) a + S1x16.size a ≤ S256x128.size a)
theorem k1_off179_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off179 v923) a + S1x16.size a ≤ S256x128.size a := fun i k1_t6 v85 v87 v923 k1_hw29 k1_h3 k1_h6 => k1_hw29.1 k1_h3 k1_h6
theorem k1_off181_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off181 v923) a + S1x16.size a ≤ S256x128.size a := fun i k1_t6 v85 v87 v923 k1_hw29 k1_h3 k1_h6 => k1_hw29.2.1 k1_h3 k1_h6
theorem k1_off183_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off183 v923) a + S1x16.size a ≤ S256x128.size a := fun i k1_t6 v85 v87 v923 k1_hw29 k1_h3 k1_h6 => k1_hw29.2.2.1 k1_h3 k1_h6
theorem k1_off185_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off185 v923) a + S1x16.size a ≤ S256x128.size a := fun i k1_t6 v85 v87 v923 k1_hw29 k1_h3 k1_h6 => k1_hw29.2.2.2.1 k1_h3 k1_h6
theorem k1_off187_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off187 v923) a + S1x16.size a ≤ S256x128.size a := fun i k1_t6 v85 v87 v923 k1_hw29 k1_h3 k1_h6 => k1_hw29.2.2.2.2.1 k1_h3 k1_h6
theorem k1_off189_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off189 v923) a + S1x16.size a ≤ S256x128.size a := fun i k1_t6 v85 v87 v923 k1_hw29 k1_h3 k1_h6 => k1_hw29.2.2.2.2.2.1 k1_h3 k1_h6
theorem k1_off191_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off191 v923) a + S1x16.size a ≤ S256x128.size a := fun i k1_t6 v85 v87 v923 k1_hw29 k1_h3 k1_h6 => k1_hw29.2.2.2.2.2.2.1 k1_h3 k1_h6
theorem k1_off193_inb : ∀ (i : grid1.Coords) (k1_t6 : Fin (k1_t6_loop i).trips) (v85 : BitVec 32) (v87 : BitVec 32) (v923 : BitVec 32) (k1_hw29 : k1_chk29 i k1_t6 v85 v87 v923), ∀ (k1_h3 : k1_cond3 i k1_t6 = 1#1), ∀ (k1_h6 : k1_cond6 v85 v87 = 1#1), ∀ a, (k1_off193 v923) a + S1x16.size a ≤ S256x128.size a := fun i k1_t6 v85 v87 v923 k1_hw29 k1_h3 k1_h6 => k1_hw29.2.2.2.2.2.2.2 k1_h3 k1_h6

def k1_off194 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_444 : BitVec 32 := 16#32
  let v1005 : BitVec 32 := Scalar.muli arg18 c16_i32_444
  let c9_i32_445 : BitVec 32 := 9#32
  let v1006 : BitVec 32 := Scalar.addi v1005 c9_i32_445
  let v1007 : Index := Scalar.indexCast v1006
  let c112_446 : Index := 112#32
  ![v1007.toNat, 112]
def k1_off195 (v1015 : BitVec 32) : Fin 2 → Nat :=
  let v1018 : Index := Scalar.indexCast v1015
  let c0_448 : Index := 0#32
  ![v1018.toNat, 0]

def k1_off196 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_449 : BitVec 32 := 16#32
  let v1020 : BitVec 32 := Scalar.muli arg18 c16_i32_449
  let c10_i32 : BitVec 32 := 10#32
  let v1021 : BitVec 32 := Scalar.addi v1020 c10_i32
  let v1022 : Index := Scalar.indexCast v1021
  let c0_450 : Index := 0#32
  ![v1022.toNat, 0]
def k1_off197 (v1015 : BitVec 32) : Fin 2 → Nat :=
  let v1029 : Index := Scalar.indexCast v1015
  let c16_452 : Index := 16#32
  ![v1029.toNat, 16]
def k1_off198 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_453 : BitVec 32 := 16#32
  let v1031 : BitVec 32 := Scalar.muli arg18 c16_i32_453
  let c10_i32_454 : BitVec 32 := 10#32
  let v1032 : BitVec 32 := Scalar.addi v1031 c10_i32_454
  let v1033 : Index := Scalar.indexCast v1032
  let c16_455 : Index := 16#32
  ![v1033.toNat, 16]
def k1_off199 (v1015 : BitVec 32) : Fin 2 → Nat :=
  let v1040 : Index := Scalar.indexCast v1015
  let c32_457 : Index := 32#32
  ![v1040.toNat, 32]
def k1_off200 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_458 : BitVec 32 := 16#32
  let v1042 : BitVec 32 := Scalar.muli arg18 c16_i32_458
  let c10_i32_459 : BitVec 32 := 10#32
  let v1043 : BitVec 32 := Scalar.addi v1042 c10_i32_459
  let v1044 : Index := Scalar.indexCast v1043
  let c32_460 : Index := 32#32
  ![v1044.toNat, 32]
def k1_off201 (v1015 : BitVec 32) : Fin 2 → Nat :=
  let v1051 : Index := Scalar.indexCast v1015
  let c48_462 : Index := 48#32
  ![v1051.toNat, 48]
def k1_off202 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_463 : BitVec 32 := 16#32
  let v1053 : BitVec 32 := Scalar.muli arg18 c16_i32_463
  let c10_i32_464 : BitVec 32 := 10#32
  let v1054 : BitVec 32 := Scalar.addi v1053 c10_i32_464
  let v1055 : Index := Scalar.indexCast v1054
  let c48_465 : Index := 48#32
  ![v1055.toNat, 48]
def k1_off203 (v1015 : BitVec 32) : Fin 2 → Nat :=
  let v1062 : Index := Scalar.indexCast v1015
  let c64_467 : Index := 64#32
  ![v1062.toNat, 64]
def k1_off204 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_468 : BitVec 32 := 16#32
  let v1064 : BitVec 32 := Scalar.muli arg18 c16_i32_468
  let c10_i32_469 : BitVec 32 := 10#32
  let v1065 : BitVec 32 := Scalar.addi v1064 c10_i32_469
  let v1066 : Index := Scalar.indexCast v1065
  let c64_470 : Index := 64#32
  ![v1066.toNat, 64]
def k1_off205 (v1015 : BitVec 32) : Fin 2 → Nat :=
  let v1073 : Index := Scalar.indexCast v1015
  let c80_472 : Index := 80#32
  ![v1073.toNat, 80]
def k1_off206 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_473 : BitVec 32 := 16#32
  let v1075 : BitVec 32 := Scalar.muli arg18 c16_i32_473
  let c10_i32_474 : BitVec 32 := 10#32
  let v1076 : BitVec 32 := Scalar.addi v1075 c10_i32_474
  let v1077 : Index := Scalar.indexCast v1076
  let c80_475 : Index := 80#32
  ![v1077.toNat, 80]
def k1_off207 (v1015 : BitVec 32) : Fin 2 → Nat :=
  let v1084 : Index := Scalar.indexCast v1015
  let c96_477 : Index := 96#32
  ![v1084.toNat, 96]
def k1_off208 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_478 : BitVec 32 := 16#32
  let v1086 : BitVec 32 := Scalar.muli arg18 c16_i32_478
  let c10_i32_479 : BitVec 32 := 10#32
  let v1087 : BitVec 32 := Scalar.addi v1086 c10_i32_479
  let v1088 : Index := Scalar.indexCast v1087
  let c96_480 : Index := 96#32
  ![v1088.toNat, 96]
def k1_off209 (v1015 : BitVec 32) : Fin 2 → Nat :=
  let v1095 : Index := Scalar.indexCast v1015
  let c112_482 : Index := 112#32
  ![v1095.toNat, 112]

def k1_chk30 (i : grid1.Coords) (k1_t6 : Fin (k1_t6_loop i).trips) (v85 : BitVec 32) (v87 : BitVec 32) (v1015 : BitVec 32) : Prop :=
  (∀ (k1_h3 : k1_cond3 i k1_t6 = 1#1), ∀ (k1_h6 : k1_cond6 v85 v87 = 1#1), ∀ a, (k1_off195 v1015) a + S1x16.size a ≤ S256x128.size a) ∧
  (∀ (k1_h3 : k1_cond3 i k1_t6 = 1#1), ∀ (k1_h6 : k1_cond6 v85 v87 = 1#1), ∀ a, (k1_off197 v1015) a + S1x16.size a ≤ S256x128.size a) ∧
  (∀ (k1_h3 : k1_cond3 i k1_t6 = 1#1), ∀ (k1_h6 : k1_cond6 v85 v87 = 1#1), ∀ a, (k1_off199 v1015) a + S1x16.size a ≤ S256x128.size a) ∧
  (∀ (k1_h3 : k1_cond3 i k1_t6 = 1#1), ∀ (k1_h6 : k1_cond6 v85 v87 = 1#1), ∀ a, (k1_off201 v1015) a + S1x16.size a ≤ S256x128.size a) ∧
  (∀ (k1_h3 : k1_cond3 i k1_t6 = 1#1), ∀ (k1_h6 : k1_cond6 v85 v87 = 1#1), ∀ a, (k1_off203 v1015) a + S1x16.size a ≤ S256x128.size a) ∧
  (∀ (k1_h3 : k1_cond3 i k1_t6 = 1#1), ∀ (k1_h6 : k1_cond6 v85 v87 = 1#1), ∀ a, (k1_off205 v1015) a + S1x16.size a ≤ S256x128.size a) ∧
  (∀ (k1_h3 : k1_cond3 i k1_t6 = 1#1), ∀ (k1_h6 : k1_cond6 v85 v87 = 1#1), ∀ a, (k1_off207 v1015) a + S1x16.size a ≤ S256x128.size a) ∧
  (∀ (k1_h3 : k1_cond3 i k1_t6 = 1#1), ∀ (k1_h6 : k1_cond6 v85 v87 = 1#1), ∀ a, (k1_off209 v1015) a + S1x16.size a ≤ S256x128.size a)
theorem k1_off195_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off195 v1015) a + S1x16.size a ≤ S256x128.size a := fun i k1_t6 v85 v87 v1015 k1_hw30 k1_h3 k1_h6 => k1_hw30.1 k1_h3 k1_h6
theorem k1_off197_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off197 v1015) a + S1x16.size a ≤ S256x128.size a := fun i k1_t6 v85 v87 v1015 k1_hw30 k1_h3 k1_h6 => k1_hw30.2.1 k1_h3 k1_h6
theorem k1_off199_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off199 v1015) a + S1x16.size a ≤ S256x128.size a := fun i k1_t6 v85 v87 v1015 k1_hw30 k1_h3 k1_h6 => k1_hw30.2.2.1 k1_h3 k1_h6
theorem k1_off201_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off201 v1015) a + S1x16.size a ≤ S256x128.size a := fun i k1_t6 v85 v87 v1015 k1_hw30 k1_h3 k1_h6 => k1_hw30.2.2.2.1 k1_h3 k1_h6
theorem k1_off203_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off203 v1015) a + S1x16.size a ≤ S256x128.size a := fun i k1_t6 v85 v87 v1015 k1_hw30 k1_h3 k1_h6 => k1_hw30.2.2.2.2.1 k1_h3 k1_h6
theorem k1_off205_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off205 v1015) a + S1x16.size a ≤ S256x128.size a := fun i k1_t6 v85 v87 v1015 k1_hw30 k1_h3 k1_h6 => k1_hw30.2.2.2.2.2.1 k1_h3 k1_h6
theorem k1_off207_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off207 v1015) a + S1x16.size a ≤ S256x128.size a := fun i k1_t6 v85 v87 v1015 k1_hw30 k1_h3 k1_h6 => k1_hw30.2.2.2.2.2.2.1 k1_h3 k1_h6
theorem k1_off209_inb : ∀ (i : grid1.Coords) (k1_t6 : Fin (k1_t6_loop i).trips) (v85 : BitVec 32) (v87 : BitVec 32) (v1015 : BitVec 32) (k1_hw30 : k1_chk30 i k1_t6 v85 v87 v1015), ∀ (k1_h3 : k1_cond3 i k1_t6 = 1#1), ∀ (k1_h6 : k1_cond6 v85 v87 = 1#1), ∀ a, (k1_off209 v1015) a + S1x16.size a ≤ S256x128.size a := fun i k1_t6 v85 v87 v1015 k1_hw30 k1_h3 k1_h6 => k1_hw30.2.2.2.2.2.2.2 k1_h3 k1_h6

def k1_off210 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_483 : BitVec 32 := 16#32
  let v1097 : BitVec 32 := Scalar.muli arg18 c16_i32_483
  let c10_i32_484 : BitVec 32 := 10#32
  let v1098 : BitVec 32 := Scalar.addi v1097 c10_i32_484
  let v1099 : Index := Scalar.indexCast v1098
  let c112_485 : Index := 112#32
  ![v1099.toNat, 112]
def k1_off211 (v1107 : BitVec 32) : Fin 2 → Nat :=
  let v1110 : Index := Scalar.indexCast v1107
  let c0_487 : Index := 0#32
  ![v1110.toNat, 0]

def k1_off212 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_488 : BitVec 32 := 16#32
  let v1112 : BitVec 32 := Scalar.muli arg18 c16_i32_488
  let c11_i32 : BitVec 32 := 11#32
  let v1113 : BitVec 32 := Scalar.addi v1112 c11_i32
  let v1114 : Index := Scalar.indexCast v1113
  let c0_489 : Index := 0#32
  ![v1114.toNat, 0]
def k1_off213 (v1107 : BitVec 32) : Fin 2 → Nat :=
  let v1121 : Index := Scalar.indexCast v1107
  let c16_491 : Index := 16#32
  ![v1121.toNat, 16]
def k1_off214 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_492 : BitVec 32 := 16#32
  let v1123 : BitVec 32 := Scalar.muli arg18 c16_i32_492
  let c11_i32_493 : BitVec 32 := 11#32
  let v1124 : BitVec 32 := Scalar.addi v1123 c11_i32_493
  let v1125 : Index := Scalar.indexCast v1124
  let c16_494 : Index := 16#32
  ![v1125.toNat, 16]
def k1_off215 (v1107 : BitVec 32) : Fin 2 → Nat :=
  let v1132 : Index := Scalar.indexCast v1107
  let c32_496 : Index := 32#32
  ![v1132.toNat, 32]
def k1_off216 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_497 : BitVec 32 := 16#32
  let v1134 : BitVec 32 := Scalar.muli arg18 c16_i32_497
  let c11_i32_498 : BitVec 32 := 11#32
  let v1135 : BitVec 32 := Scalar.addi v1134 c11_i32_498
  let v1136 : Index := Scalar.indexCast v1135
  let c32_499 : Index := 32#32
  ![v1136.toNat, 32]
def k1_off217 (v1107 : BitVec 32) : Fin 2 → Nat :=
  let v1143 : Index := Scalar.indexCast v1107
  let c48_501 : Index := 48#32
  ![v1143.toNat, 48]
def k1_off218 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_502 : BitVec 32 := 16#32
  let v1145 : BitVec 32 := Scalar.muli arg18 c16_i32_502
  let c11_i32_503 : BitVec 32 := 11#32
  let v1146 : BitVec 32 := Scalar.addi v1145 c11_i32_503
  let v1147 : Index := Scalar.indexCast v1146
  let c48_504 : Index := 48#32
  ![v1147.toNat, 48]
def k1_off219 (v1107 : BitVec 32) : Fin 2 → Nat :=
  let v1154 : Index := Scalar.indexCast v1107
  let c64_506 : Index := 64#32
  ![v1154.toNat, 64]
def k1_off220 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_507 : BitVec 32 := 16#32
  let v1156 : BitVec 32 := Scalar.muli arg18 c16_i32_507
  let c11_i32_508 : BitVec 32 := 11#32
  let v1157 : BitVec 32 := Scalar.addi v1156 c11_i32_508
  let v1158 : Index := Scalar.indexCast v1157
  let c64_509 : Index := 64#32
  ![v1158.toNat, 64]
def k1_off221 (v1107 : BitVec 32) : Fin 2 → Nat :=
  let v1165 : Index := Scalar.indexCast v1107
  let c80_511 : Index := 80#32
  ![v1165.toNat, 80]
def k1_off222 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_512 : BitVec 32 := 16#32
  let v1167 : BitVec 32 := Scalar.muli arg18 c16_i32_512
  let c11_i32_513 : BitVec 32 := 11#32
  let v1168 : BitVec 32 := Scalar.addi v1167 c11_i32_513
  let v1169 : Index := Scalar.indexCast v1168
  let c80_514 : Index := 80#32
  ![v1169.toNat, 80]
def k1_off223 (v1107 : BitVec 32) : Fin 2 → Nat :=
  let v1176 : Index := Scalar.indexCast v1107
  let c96_516 : Index := 96#32
  ![v1176.toNat, 96]
def k1_off224 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_517 : BitVec 32 := 16#32
  let v1178 : BitVec 32 := Scalar.muli arg18 c16_i32_517
  let c11_i32_518 : BitVec 32 := 11#32
  let v1179 : BitVec 32 := Scalar.addi v1178 c11_i32_518
  let v1180 : Index := Scalar.indexCast v1179
  let c96_519 : Index := 96#32
  ![v1180.toNat, 96]
def k1_off225 (v1107 : BitVec 32) : Fin 2 → Nat :=
  let v1187 : Index := Scalar.indexCast v1107
  let c112_521 : Index := 112#32
  ![v1187.toNat, 112]

def k1_chk31 (i : grid1.Coords) (k1_t6 : Fin (k1_t6_loop i).trips) (v85 : BitVec 32) (v87 : BitVec 32) (v1107 : BitVec 32) : Prop :=
  (∀ (k1_h3 : k1_cond3 i k1_t6 = 1#1), ∀ (k1_h6 : k1_cond6 v85 v87 = 1#1), ∀ a, (k1_off211 v1107) a + S1x16.size a ≤ S256x128.size a) ∧
  (∀ (k1_h3 : k1_cond3 i k1_t6 = 1#1), ∀ (k1_h6 : k1_cond6 v85 v87 = 1#1), ∀ a, (k1_off213 v1107) a + S1x16.size a ≤ S256x128.size a) ∧
  (∀ (k1_h3 : k1_cond3 i k1_t6 = 1#1), ∀ (k1_h6 : k1_cond6 v85 v87 = 1#1), ∀ a, (k1_off215 v1107) a + S1x16.size a ≤ S256x128.size a) ∧
  (∀ (k1_h3 : k1_cond3 i k1_t6 = 1#1), ∀ (k1_h6 : k1_cond6 v85 v87 = 1#1), ∀ a, (k1_off217 v1107) a + S1x16.size a ≤ S256x128.size a) ∧
  (∀ (k1_h3 : k1_cond3 i k1_t6 = 1#1), ∀ (k1_h6 : k1_cond6 v85 v87 = 1#1), ∀ a, (k1_off219 v1107) a + S1x16.size a ≤ S256x128.size a) ∧
  (∀ (k1_h3 : k1_cond3 i k1_t6 = 1#1), ∀ (k1_h6 : k1_cond6 v85 v87 = 1#1), ∀ a, (k1_off221 v1107) a + S1x16.size a ≤ S256x128.size a) ∧
  (∀ (k1_h3 : k1_cond3 i k1_t6 = 1#1), ∀ (k1_h6 : k1_cond6 v85 v87 = 1#1), ∀ a, (k1_off223 v1107) a + S1x16.size a ≤ S256x128.size a) ∧
  (∀ (k1_h3 : k1_cond3 i k1_t6 = 1#1), ∀ (k1_h6 : k1_cond6 v85 v87 = 1#1), ∀ a, (k1_off225 v1107) a + S1x16.size a ≤ S256x128.size a)
theorem k1_off211_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off211 v1107) a + S1x16.size a ≤ S256x128.size a := fun i k1_t6 v85 v87 v1107 k1_hw31 k1_h3 k1_h6 => k1_hw31.1 k1_h3 k1_h6
theorem k1_off213_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off213 v1107) a + S1x16.size a ≤ S256x128.size a := fun i k1_t6 v85 v87 v1107 k1_hw31 k1_h3 k1_h6 => k1_hw31.2.1 k1_h3 k1_h6
theorem k1_off215_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off215 v1107) a + S1x16.size a ≤ S256x128.size a := fun i k1_t6 v85 v87 v1107 k1_hw31 k1_h3 k1_h6 => k1_hw31.2.2.1 k1_h3 k1_h6
theorem k1_off217_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off217 v1107) a + S1x16.size a ≤ S256x128.size a := fun i k1_t6 v85 v87 v1107 k1_hw31 k1_h3 k1_h6 => k1_hw31.2.2.2.1 k1_h3 k1_h6
theorem k1_off219_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off219 v1107) a + S1x16.size a ≤ S256x128.size a := fun i k1_t6 v85 v87 v1107 k1_hw31 k1_h3 k1_h6 => k1_hw31.2.2.2.2.1 k1_h3 k1_h6
theorem k1_off221_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off221 v1107) a + S1x16.size a ≤ S256x128.size a := fun i k1_t6 v85 v87 v1107 k1_hw31 k1_h3 k1_h6 => k1_hw31.2.2.2.2.2.1 k1_h3 k1_h6
theorem k1_off223_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off223 v1107) a + S1x16.size a ≤ S256x128.size a := fun i k1_t6 v85 v87 v1107 k1_hw31 k1_h3 k1_h6 => k1_hw31.2.2.2.2.2.2.1 k1_h3 k1_h6
theorem k1_off225_inb : ∀ (i : grid1.Coords) (k1_t6 : Fin (k1_t6_loop i).trips) (v85 : BitVec 32) (v87 : BitVec 32) (v1107 : BitVec 32) (k1_hw31 : k1_chk31 i k1_t6 v85 v87 v1107), ∀ (k1_h3 : k1_cond3 i k1_t6 = 1#1), ∀ (k1_h6 : k1_cond6 v85 v87 = 1#1), ∀ a, (k1_off225 v1107) a + S1x16.size a ≤ S256x128.size a := fun i k1_t6 v85 v87 v1107 k1_hw31 k1_h3 k1_h6 => k1_hw31.2.2.2.2.2.2.2 k1_h3 k1_h6

def k1_off226 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_522 : BitVec 32 := 16#32
  let v1189 : BitVec 32 := Scalar.muli arg18 c16_i32_522
  let c11_i32_523 : BitVec 32 := 11#32
  let v1190 : BitVec 32 := Scalar.addi v1189 c11_i32_523
  let v1191 : Index := Scalar.indexCast v1190
  let c112_524 : Index := 112#32
  ![v1191.toNat, 112]
def k1_off227 (v1199 : BitVec 32) : Fin 2 → Nat :=
  let v1202 : Index := Scalar.indexCast v1199
  let c0_526 : Index := 0#32
  ![v1202.toNat, 0]

def k1_off228 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_527 : BitVec 32 := 16#32
  let v1204 : BitVec 32 := Scalar.muli arg18 c16_i32_527
  let c12_i32 : BitVec 32 := 12#32
  let v1205 : BitVec 32 := Scalar.addi v1204 c12_i32
  let v1206 : Index := Scalar.indexCast v1205
  let c0_528 : Index := 0#32
  ![v1206.toNat, 0]
def k1_off229 (v1199 : BitVec 32) : Fin 2 → Nat :=
  let v1213 : Index := Scalar.indexCast v1199
  let c16_530 : Index := 16#32
  ![v1213.toNat, 16]
def k1_off230 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_531 : BitVec 32 := 16#32
  let v1215 : BitVec 32 := Scalar.muli arg18 c16_i32_531
  let c12_i32_532 : BitVec 32 := 12#32
  let v1216 : BitVec 32 := Scalar.addi v1215 c12_i32_532
  let v1217 : Index := Scalar.indexCast v1216
  let c16_533 : Index := 16#32
  ![v1217.toNat, 16]
def k1_off231 (v1199 : BitVec 32) : Fin 2 → Nat :=
  let v1224 : Index := Scalar.indexCast v1199
  let c32_535 : Index := 32#32
  ![v1224.toNat, 32]
def k1_off232 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_536 : BitVec 32 := 16#32
  let v1226 : BitVec 32 := Scalar.muli arg18 c16_i32_536
  let c12_i32_537 : BitVec 32 := 12#32
  let v1227 : BitVec 32 := Scalar.addi v1226 c12_i32_537
  let v1228 : Index := Scalar.indexCast v1227
  let c32_538 : Index := 32#32
  ![v1228.toNat, 32]
def k1_off233 (v1199 : BitVec 32) : Fin 2 → Nat :=
  let v1235 : Index := Scalar.indexCast v1199
  let c48_540 : Index := 48#32
  ![v1235.toNat, 48]
def k1_off234 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_541 : BitVec 32 := 16#32
  let v1237 : BitVec 32 := Scalar.muli arg18 c16_i32_541
  let c12_i32_542 : BitVec 32 := 12#32
  let v1238 : BitVec 32 := Scalar.addi v1237 c12_i32_542
  let v1239 : Index := Scalar.indexCast v1238
  let c48_543 : Index := 48#32
  ![v1239.toNat, 48]
def k1_off235 (v1199 : BitVec 32) : Fin 2 → Nat :=
  let v1246 : Index := Scalar.indexCast v1199
  let c64_545 : Index := 64#32
  ![v1246.toNat, 64]
def k1_off236 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_546 : BitVec 32 := 16#32
  let v1248 : BitVec 32 := Scalar.muli arg18 c16_i32_546
  let c12_i32_547 : BitVec 32 := 12#32
  let v1249 : BitVec 32 := Scalar.addi v1248 c12_i32_547
  let v1250 : Index := Scalar.indexCast v1249
  let c64_548 : Index := 64#32
  ![v1250.toNat, 64]
def k1_off237 (v1199 : BitVec 32) : Fin 2 → Nat :=
  let v1257 : Index := Scalar.indexCast v1199
  let c80_550 : Index := 80#32
  ![v1257.toNat, 80]
def k1_off238 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_551 : BitVec 32 := 16#32
  let v1259 : BitVec 32 := Scalar.muli arg18 c16_i32_551
  let c12_i32_552 : BitVec 32 := 12#32
  let v1260 : BitVec 32 := Scalar.addi v1259 c12_i32_552
  let v1261 : Index := Scalar.indexCast v1260
  let c80_553 : Index := 80#32
  ![v1261.toNat, 80]
def k1_off239 (v1199 : BitVec 32) : Fin 2 → Nat :=
  let v1268 : Index := Scalar.indexCast v1199
  let c96_555 : Index := 96#32
  ![v1268.toNat, 96]
def k1_off240 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_556 : BitVec 32 := 16#32
  let v1270 : BitVec 32 := Scalar.muli arg18 c16_i32_556
  let c12_i32_557 : BitVec 32 := 12#32
  let v1271 : BitVec 32 := Scalar.addi v1270 c12_i32_557
  let v1272 : Index := Scalar.indexCast v1271
  let c96_558 : Index := 96#32
  ![v1272.toNat, 96]
def k1_off241 (v1199 : BitVec 32) : Fin 2 → Nat :=
  let v1279 : Index := Scalar.indexCast v1199
  let c112_560 : Index := 112#32
  ![v1279.toNat, 112]

def k1_chk32 (i : grid1.Coords) (k1_t6 : Fin (k1_t6_loop i).trips) (v85 : BitVec 32) (v87 : BitVec 32) (v1199 : BitVec 32) : Prop :=
  (∀ (k1_h3 : k1_cond3 i k1_t6 = 1#1), ∀ (k1_h6 : k1_cond6 v85 v87 = 1#1), ∀ a, (k1_off227 v1199) a + S1x16.size a ≤ S256x128.size a) ∧
  (∀ (k1_h3 : k1_cond3 i k1_t6 = 1#1), ∀ (k1_h6 : k1_cond6 v85 v87 = 1#1), ∀ a, (k1_off229 v1199) a + S1x16.size a ≤ S256x128.size a) ∧
  (∀ (k1_h3 : k1_cond3 i k1_t6 = 1#1), ∀ (k1_h6 : k1_cond6 v85 v87 = 1#1), ∀ a, (k1_off231 v1199) a + S1x16.size a ≤ S256x128.size a) ∧
  (∀ (k1_h3 : k1_cond3 i k1_t6 = 1#1), ∀ (k1_h6 : k1_cond6 v85 v87 = 1#1), ∀ a, (k1_off233 v1199) a + S1x16.size a ≤ S256x128.size a) ∧
  (∀ (k1_h3 : k1_cond3 i k1_t6 = 1#1), ∀ (k1_h6 : k1_cond6 v85 v87 = 1#1), ∀ a, (k1_off235 v1199) a + S1x16.size a ≤ S256x128.size a) ∧
  (∀ (k1_h3 : k1_cond3 i k1_t6 = 1#1), ∀ (k1_h6 : k1_cond6 v85 v87 = 1#1), ∀ a, (k1_off237 v1199) a + S1x16.size a ≤ S256x128.size a) ∧
  (∀ (k1_h3 : k1_cond3 i k1_t6 = 1#1), ∀ (k1_h6 : k1_cond6 v85 v87 = 1#1), ∀ a, (k1_off239 v1199) a + S1x16.size a ≤ S256x128.size a) ∧
  (∀ (k1_h3 : k1_cond3 i k1_t6 = 1#1), ∀ (k1_h6 : k1_cond6 v85 v87 = 1#1), ∀ a, (k1_off241 v1199) a + S1x16.size a ≤ S256x128.size a)
theorem k1_off227_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off227 v1199) a + S1x16.size a ≤ S256x128.size a := fun i k1_t6 v85 v87 v1199 k1_hw32 k1_h3 k1_h6 => k1_hw32.1 k1_h3 k1_h6
theorem k1_off229_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off229 v1199) a + S1x16.size a ≤ S256x128.size a := fun i k1_t6 v85 v87 v1199 k1_hw32 k1_h3 k1_h6 => k1_hw32.2.1 k1_h3 k1_h6
theorem k1_off231_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off231 v1199) a + S1x16.size a ≤ S256x128.size a := fun i k1_t6 v85 v87 v1199 k1_hw32 k1_h3 k1_h6 => k1_hw32.2.2.1 k1_h3 k1_h6
theorem k1_off233_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off233 v1199) a + S1x16.size a ≤ S256x128.size a := fun i k1_t6 v85 v87 v1199 k1_hw32 k1_h3 k1_h6 => k1_hw32.2.2.2.1 k1_h3 k1_h6
theorem k1_off235_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off235 v1199) a + S1x16.size a ≤ S256x128.size a := fun i k1_t6 v85 v87 v1199 k1_hw32 k1_h3 k1_h6 => k1_hw32.2.2.2.2.1 k1_h3 k1_h6
theorem k1_off237_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off237 v1199) a + S1x16.size a ≤ S256x128.size a := fun i k1_t6 v85 v87 v1199 k1_hw32 k1_h3 k1_h6 => k1_hw32.2.2.2.2.2.1 k1_h3 k1_h6
theorem k1_off239_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off239 v1199) a + S1x16.size a ≤ S256x128.size a := fun i k1_t6 v85 v87 v1199 k1_hw32 k1_h3 k1_h6 => k1_hw32.2.2.2.2.2.2.1 k1_h3 k1_h6
theorem k1_off241_inb : ∀ (i : grid1.Coords) (k1_t6 : Fin (k1_t6_loop i).trips) (v85 : BitVec 32) (v87 : BitVec 32) (v1199 : BitVec 32) (k1_hw32 : k1_chk32 i k1_t6 v85 v87 v1199), ∀ (k1_h3 : k1_cond3 i k1_t6 = 1#1), ∀ (k1_h6 : k1_cond6 v85 v87 = 1#1), ∀ a, (k1_off241 v1199) a + S1x16.size a ≤ S256x128.size a := fun i k1_t6 v85 v87 v1199 k1_hw32 k1_h3 k1_h6 => k1_hw32.2.2.2.2.2.2.2 k1_h3 k1_h6

def k1_off242 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_561 : BitVec 32 := 16#32
  let v1281 : BitVec 32 := Scalar.muli arg18 c16_i32_561
  let c12_i32_562 : BitVec 32 := 12#32
  let v1282 : BitVec 32 := Scalar.addi v1281 c12_i32_562
  let v1283 : Index := Scalar.indexCast v1282
  let c112_563 : Index := 112#32
  ![v1283.toNat, 112]
def k1_off243 (v1291 : BitVec 32) : Fin 2 → Nat :=
  let v1294 : Index := Scalar.indexCast v1291
  let c0_565 : Index := 0#32
  ![v1294.toNat, 0]

def k1_off244 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_566 : BitVec 32 := 16#32
  let v1296 : BitVec 32 := Scalar.muli arg18 c16_i32_566
  let c13_i32 : BitVec 32 := 13#32
  let v1297 : BitVec 32 := Scalar.addi v1296 c13_i32
  let v1298 : Index := Scalar.indexCast v1297
  let c0_567 : Index := 0#32
  ![v1298.toNat, 0]
def k1_off245 (v1291 : BitVec 32) : Fin 2 → Nat :=
  let v1305 : Index := Scalar.indexCast v1291
  let c16_569 : Index := 16#32
  ![v1305.toNat, 16]
def k1_off246 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_570 : BitVec 32 := 16#32
  let v1307 : BitVec 32 := Scalar.muli arg18 c16_i32_570
  let c13_i32_571 : BitVec 32 := 13#32
  let v1308 : BitVec 32 := Scalar.addi v1307 c13_i32_571
  let v1309 : Index := Scalar.indexCast v1308
  let c16_572 : Index := 16#32
  ![v1309.toNat, 16]
def k1_off247 (v1291 : BitVec 32) : Fin 2 → Nat :=
  let v1316 : Index := Scalar.indexCast v1291
  let c32_574 : Index := 32#32
  ![v1316.toNat, 32]
def k1_off248 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_575 : BitVec 32 := 16#32
  let v1318 : BitVec 32 := Scalar.muli arg18 c16_i32_575
  let c13_i32_576 : BitVec 32 := 13#32
  let v1319 : BitVec 32 := Scalar.addi v1318 c13_i32_576
  let v1320 : Index := Scalar.indexCast v1319
  let c32_577 : Index := 32#32
  ![v1320.toNat, 32]
def k1_off249 (v1291 : BitVec 32) : Fin 2 → Nat :=
  let v1327 : Index := Scalar.indexCast v1291
  let c48_579 : Index := 48#32
  ![v1327.toNat, 48]
def k1_off250 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_580 : BitVec 32 := 16#32
  let v1329 : BitVec 32 := Scalar.muli arg18 c16_i32_580
  let c13_i32_581 : BitVec 32 := 13#32
  let v1330 : BitVec 32 := Scalar.addi v1329 c13_i32_581
  let v1331 : Index := Scalar.indexCast v1330
  let c48_582 : Index := 48#32
  ![v1331.toNat, 48]
def k1_off251 (v1291 : BitVec 32) : Fin 2 → Nat :=
  let v1338 : Index := Scalar.indexCast v1291
  let c64_584 : Index := 64#32
  ![v1338.toNat, 64]
def k1_off252 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_585 : BitVec 32 := 16#32
  let v1340 : BitVec 32 := Scalar.muli arg18 c16_i32_585
  let c13_i32_586 : BitVec 32 := 13#32
  let v1341 : BitVec 32 := Scalar.addi v1340 c13_i32_586
  let v1342 : Index := Scalar.indexCast v1341
  let c64_587 : Index := 64#32
  ![v1342.toNat, 64]
def k1_off253 (v1291 : BitVec 32) : Fin 2 → Nat :=
  let v1349 : Index := Scalar.indexCast v1291
  let c80_589 : Index := 80#32
  ![v1349.toNat, 80]
def k1_off254 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_590 : BitVec 32 := 16#32
  let v1351 : BitVec 32 := Scalar.muli arg18 c16_i32_590
  let c13_i32_591 : BitVec 32 := 13#32
  let v1352 : BitVec 32 := Scalar.addi v1351 c13_i32_591
  let v1353 : Index := Scalar.indexCast v1352
  let c80_592 : Index := 80#32
  ![v1353.toNat, 80]
def k1_off255 (v1291 : BitVec 32) : Fin 2 → Nat :=
  let v1360 : Index := Scalar.indexCast v1291
  let c96_594 : Index := 96#32
  ![v1360.toNat, 96]
def k1_off256 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_595 : BitVec 32 := 16#32
  let v1362 : BitVec 32 := Scalar.muli arg18 c16_i32_595
  let c13_i32_596 : BitVec 32 := 13#32
  let v1363 : BitVec 32 := Scalar.addi v1362 c13_i32_596
  let v1364 : Index := Scalar.indexCast v1363
  let c96_597 : Index := 96#32
  ![v1364.toNat, 96]
def k1_off257 (v1291 : BitVec 32) : Fin 2 → Nat :=
  let v1371 : Index := Scalar.indexCast v1291
  let c112_599 : Index := 112#32
  ![v1371.toNat, 112]

def k1_chk33 (i : grid1.Coords) (k1_t6 : Fin (k1_t6_loop i).trips) (v85 : BitVec 32) (v87 : BitVec 32) (v1291 : BitVec 32) : Prop :=
  (∀ (k1_h3 : k1_cond3 i k1_t6 = 1#1), ∀ (k1_h6 : k1_cond6 v85 v87 = 1#1), ∀ a, (k1_off243 v1291) a + S1x16.size a ≤ S256x128.size a) ∧
  (∀ (k1_h3 : k1_cond3 i k1_t6 = 1#1), ∀ (k1_h6 : k1_cond6 v85 v87 = 1#1), ∀ a, (k1_off245 v1291) a + S1x16.size a ≤ S256x128.size a) ∧
  (∀ (k1_h3 : k1_cond3 i k1_t6 = 1#1), ∀ (k1_h6 : k1_cond6 v85 v87 = 1#1), ∀ a, (k1_off247 v1291) a + S1x16.size a ≤ S256x128.size a) ∧
  (∀ (k1_h3 : k1_cond3 i k1_t6 = 1#1), ∀ (k1_h6 : k1_cond6 v85 v87 = 1#1), ∀ a, (k1_off249 v1291) a + S1x16.size a ≤ S256x128.size a) ∧
  (∀ (k1_h3 : k1_cond3 i k1_t6 = 1#1), ∀ (k1_h6 : k1_cond6 v85 v87 = 1#1), ∀ a, (k1_off251 v1291) a + S1x16.size a ≤ S256x128.size a) ∧
  (∀ (k1_h3 : k1_cond3 i k1_t6 = 1#1), ∀ (k1_h6 : k1_cond6 v85 v87 = 1#1), ∀ a, (k1_off253 v1291) a + S1x16.size a ≤ S256x128.size a) ∧
  (∀ (k1_h3 : k1_cond3 i k1_t6 = 1#1), ∀ (k1_h6 : k1_cond6 v85 v87 = 1#1), ∀ a, (k1_off255 v1291) a + S1x16.size a ≤ S256x128.size a) ∧
  (∀ (k1_h3 : k1_cond3 i k1_t6 = 1#1), ∀ (k1_h6 : k1_cond6 v85 v87 = 1#1), ∀ a, (k1_off257 v1291) a + S1x16.size a ≤ S256x128.size a)
theorem k1_off243_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off243 v1291) a + S1x16.size a ≤ S256x128.size a := fun i k1_t6 v85 v87 v1291 k1_hw33 k1_h3 k1_h6 => k1_hw33.1 k1_h3 k1_h6
theorem k1_off245_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off245 v1291) a + S1x16.size a ≤ S256x128.size a := fun i k1_t6 v85 v87 v1291 k1_hw33 k1_h3 k1_h6 => k1_hw33.2.1 k1_h3 k1_h6
theorem k1_off247_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off247 v1291) a + S1x16.size a ≤ S256x128.size a := fun i k1_t6 v85 v87 v1291 k1_hw33 k1_h3 k1_h6 => k1_hw33.2.2.1 k1_h3 k1_h6
theorem k1_off249_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off249 v1291) a + S1x16.size a ≤ S256x128.size a := fun i k1_t6 v85 v87 v1291 k1_hw33 k1_h3 k1_h6 => k1_hw33.2.2.2.1 k1_h3 k1_h6
theorem k1_off251_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off251 v1291) a + S1x16.size a ≤ S256x128.size a := fun i k1_t6 v85 v87 v1291 k1_hw33 k1_h3 k1_h6 => k1_hw33.2.2.2.2.1 k1_h3 k1_h6
theorem k1_off253_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off253 v1291) a + S1x16.size a ≤ S256x128.size a := fun i k1_t6 v85 v87 v1291 k1_hw33 k1_h3 k1_h6 => k1_hw33.2.2.2.2.2.1 k1_h3 k1_h6
theorem k1_off255_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off255 v1291) a + S1x16.size a ≤ S256x128.size a := fun i k1_t6 v85 v87 v1291 k1_hw33 k1_h3 k1_h6 => k1_hw33.2.2.2.2.2.2.1 k1_h3 k1_h6
theorem k1_off257_inb : ∀ (i : grid1.Coords) (k1_t6 : Fin (k1_t6_loop i).trips) (v85 : BitVec 32) (v87 : BitVec 32) (v1291 : BitVec 32) (k1_hw33 : k1_chk33 i k1_t6 v85 v87 v1291), ∀ (k1_h3 : k1_cond3 i k1_t6 = 1#1), ∀ (k1_h6 : k1_cond6 v85 v87 = 1#1), ∀ a, (k1_off257 v1291) a + S1x16.size a ≤ S256x128.size a := fun i k1_t6 v85 v87 v1291 k1_hw33 k1_h3 k1_h6 => k1_hw33.2.2.2.2.2.2.2 k1_h3 k1_h6

def k1_off258 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_600 : BitVec 32 := 16#32
  let v1373 : BitVec 32 := Scalar.muli arg18 c16_i32_600
  let c13_i32_601 : BitVec 32 := 13#32
  let v1374 : BitVec 32 := Scalar.addi v1373 c13_i32_601
  let v1375 : Index := Scalar.indexCast v1374
  let c112_602 : Index := 112#32
  ![v1375.toNat, 112]
def k1_off259 (v1383 : BitVec 32) : Fin 2 → Nat :=
  let v1386 : Index := Scalar.indexCast v1383
  let c0_604 : Index := 0#32
  ![v1386.toNat, 0]

def k1_off260 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_605 : BitVec 32 := 16#32
  let v1388 : BitVec 32 := Scalar.muli arg18 c16_i32_605
  let c14_i32 : BitVec 32 := 14#32
  let v1389 : BitVec 32 := Scalar.addi v1388 c14_i32
  let v1390 : Index := Scalar.indexCast v1389
  let c0_606 : Index := 0#32
  ![v1390.toNat, 0]
def k1_off261 (v1383 : BitVec 32) : Fin 2 → Nat :=
  let v1397 : Index := Scalar.indexCast v1383
  let c16_608 : Index := 16#32
  ![v1397.toNat, 16]
def k1_off262 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_609 : BitVec 32 := 16#32
  let v1399 : BitVec 32 := Scalar.muli arg18 c16_i32_609
  let c14_i32_610 : BitVec 32 := 14#32
  let v1400 : BitVec 32 := Scalar.addi v1399 c14_i32_610
  let v1401 : Index := Scalar.indexCast v1400
  let c16_611 : Index := 16#32
  ![v1401.toNat, 16]
def k1_off263 (v1383 : BitVec 32) : Fin 2 → Nat :=
  let v1408 : Index := Scalar.indexCast v1383
  let c32_613 : Index := 32#32
  ![v1408.toNat, 32]
def k1_off264 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_614 : BitVec 32 := 16#32
  let v1410 : BitVec 32 := Scalar.muli arg18 c16_i32_614
  let c14_i32_615 : BitVec 32 := 14#32
  let v1411 : BitVec 32 := Scalar.addi v1410 c14_i32_615
  let v1412 : Index := Scalar.indexCast v1411
  let c32_616 : Index := 32#32
  ![v1412.toNat, 32]
def k1_off265 (v1383 : BitVec 32) : Fin 2 → Nat :=
  let v1419 : Index := Scalar.indexCast v1383
  let c48_618 : Index := 48#32
  ![v1419.toNat, 48]
def k1_off266 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_619 : BitVec 32 := 16#32
  let v1421 : BitVec 32 := Scalar.muli arg18 c16_i32_619
  let c14_i32_620 : BitVec 32 := 14#32
  let v1422 : BitVec 32 := Scalar.addi v1421 c14_i32_620
  let v1423 : Index := Scalar.indexCast v1422
  let c48_621 : Index := 48#32
  ![v1423.toNat, 48]
def k1_off267 (v1383 : BitVec 32) : Fin 2 → Nat :=
  let v1430 : Index := Scalar.indexCast v1383
  let c64_623 : Index := 64#32
  ![v1430.toNat, 64]
def k1_off268 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_624 : BitVec 32 := 16#32
  let v1432 : BitVec 32 := Scalar.muli arg18 c16_i32_624
  let c14_i32_625 : BitVec 32 := 14#32
  let v1433 : BitVec 32 := Scalar.addi v1432 c14_i32_625
  let v1434 : Index := Scalar.indexCast v1433
  let c64_626 : Index := 64#32
  ![v1434.toNat, 64]
def k1_off269 (v1383 : BitVec 32) : Fin 2 → Nat :=
  let v1441 : Index := Scalar.indexCast v1383
  let c80_628 : Index := 80#32
  ![v1441.toNat, 80]
def k1_off270 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_629 : BitVec 32 := 16#32
  let v1443 : BitVec 32 := Scalar.muli arg18 c16_i32_629
  let c14_i32_630 : BitVec 32 := 14#32
  let v1444 : BitVec 32 := Scalar.addi v1443 c14_i32_630
  let v1445 : Index := Scalar.indexCast v1444
  let c80_631 : Index := 80#32
  ![v1445.toNat, 80]
def k1_off271 (v1383 : BitVec 32) : Fin 2 → Nat :=
  let v1452 : Index := Scalar.indexCast v1383
  let c96_633 : Index := 96#32
  ![v1452.toNat, 96]
def k1_off272 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_634 : BitVec 32 := 16#32
  let v1454 : BitVec 32 := Scalar.muli arg18 c16_i32_634
  let c14_i32_635 : BitVec 32 := 14#32
  let v1455 : BitVec 32 := Scalar.addi v1454 c14_i32_635
  let v1456 : Index := Scalar.indexCast v1455
  let c96_636 : Index := 96#32
  ![v1456.toNat, 96]
def k1_off273 (v1383 : BitVec 32) : Fin 2 → Nat :=
  let v1463 : Index := Scalar.indexCast v1383
  let c112_638 : Index := 112#32
  ![v1463.toNat, 112]

def k1_chk34 (i : grid1.Coords) (k1_t6 : Fin (k1_t6_loop i).trips) (v85 : BitVec 32) (v87 : BitVec 32) (v1383 : BitVec 32) : Prop :=
  (∀ (k1_h3 : k1_cond3 i k1_t6 = 1#1), ∀ (k1_h6 : k1_cond6 v85 v87 = 1#1), ∀ a, (k1_off259 v1383) a + S1x16.size a ≤ S256x128.size a) ∧
  (∀ (k1_h3 : k1_cond3 i k1_t6 = 1#1), ∀ (k1_h6 : k1_cond6 v85 v87 = 1#1), ∀ a, (k1_off261 v1383) a + S1x16.size a ≤ S256x128.size a) ∧
  (∀ (k1_h3 : k1_cond3 i k1_t6 = 1#1), ∀ (k1_h6 : k1_cond6 v85 v87 = 1#1), ∀ a, (k1_off263 v1383) a + S1x16.size a ≤ S256x128.size a) ∧
  (∀ (k1_h3 : k1_cond3 i k1_t6 = 1#1), ∀ (k1_h6 : k1_cond6 v85 v87 = 1#1), ∀ a, (k1_off265 v1383) a + S1x16.size a ≤ S256x128.size a) ∧
  (∀ (k1_h3 : k1_cond3 i k1_t6 = 1#1), ∀ (k1_h6 : k1_cond6 v85 v87 = 1#1), ∀ a, (k1_off267 v1383) a + S1x16.size a ≤ S256x128.size a) ∧
  (∀ (k1_h3 : k1_cond3 i k1_t6 = 1#1), ∀ (k1_h6 : k1_cond6 v85 v87 = 1#1), ∀ a, (k1_off269 v1383) a + S1x16.size a ≤ S256x128.size a) ∧
  (∀ (k1_h3 : k1_cond3 i k1_t6 = 1#1), ∀ (k1_h6 : k1_cond6 v85 v87 = 1#1), ∀ a, (k1_off271 v1383) a + S1x16.size a ≤ S256x128.size a) ∧
  (∀ (k1_h3 : k1_cond3 i k1_t6 = 1#1), ∀ (k1_h6 : k1_cond6 v85 v87 = 1#1), ∀ a, (k1_off273 v1383) a + S1x16.size a ≤ S256x128.size a)
theorem k1_off259_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off259 v1383) a + S1x16.size a ≤ S256x128.size a := fun i k1_t6 v85 v87 v1383 k1_hw34 k1_h3 k1_h6 => k1_hw34.1 k1_h3 k1_h6
theorem k1_off261_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off261 v1383) a + S1x16.size a ≤ S256x128.size a := fun i k1_t6 v85 v87 v1383 k1_hw34 k1_h3 k1_h6 => k1_hw34.2.1 k1_h3 k1_h6
theorem k1_off263_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off263 v1383) a + S1x16.size a ≤ S256x128.size a := fun i k1_t6 v85 v87 v1383 k1_hw34 k1_h3 k1_h6 => k1_hw34.2.2.1 k1_h3 k1_h6
theorem k1_off265_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off265 v1383) a + S1x16.size a ≤ S256x128.size a := fun i k1_t6 v85 v87 v1383 k1_hw34 k1_h3 k1_h6 => k1_hw34.2.2.2.1 k1_h3 k1_h6
theorem k1_off267_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off267 v1383) a + S1x16.size a ≤ S256x128.size a := fun i k1_t6 v85 v87 v1383 k1_hw34 k1_h3 k1_h6 => k1_hw34.2.2.2.2.1 k1_h3 k1_h6
theorem k1_off269_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off269 v1383) a + S1x16.size a ≤ S256x128.size a := fun i k1_t6 v85 v87 v1383 k1_hw34 k1_h3 k1_h6 => k1_hw34.2.2.2.2.2.1 k1_h3 k1_h6
theorem k1_off271_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off271 v1383) a + S1x16.size a ≤ S256x128.size a := fun i k1_t6 v85 v87 v1383 k1_hw34 k1_h3 k1_h6 => k1_hw34.2.2.2.2.2.2.1 k1_h3 k1_h6
theorem k1_off273_inb : ∀ (i : grid1.Coords) (k1_t6 : Fin (k1_t6_loop i).trips) (v85 : BitVec 32) (v87 : BitVec 32) (v1383 : BitVec 32) (k1_hw34 : k1_chk34 i k1_t6 v85 v87 v1383), ∀ (k1_h3 : k1_cond3 i k1_t6 = 1#1), ∀ (k1_h6 : k1_cond6 v85 v87 = 1#1), ∀ a, (k1_off273 v1383) a + S1x16.size a ≤ S256x128.size a := fun i k1_t6 v85 v87 v1383 k1_hw34 k1_h3 k1_h6 => k1_hw34.2.2.2.2.2.2.2 k1_h3 k1_h6

def k1_off274 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_639 : BitVec 32 := 16#32
  let v1465 : BitVec 32 := Scalar.muli arg18 c16_i32_639
  let c14_i32_640 : BitVec 32 := 14#32
  let v1466 : BitVec 32 := Scalar.addi v1465 c14_i32_640
  let v1467 : Index := Scalar.indexCast v1466
  let c112_641 : Index := 112#32
  ![v1467.toNat, 112]
def k1_off275 (v1475 : BitVec 32) : Fin 2 → Nat :=
  let v1478 : Index := Scalar.indexCast v1475
  let c0_643 : Index := 0#32
  ![v1478.toNat, 0]

def k1_off276 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_644 : BitVec 32 := 16#32
  let v1480 : BitVec 32 := Scalar.muli arg18 c16_i32_644
  let c15_i32 : BitVec 32 := 15#32
  let v1481 : BitVec 32 := Scalar.addi v1480 c15_i32
  let v1482 : Index := Scalar.indexCast v1481
  let c0_645 : Index := 0#32
  ![v1482.toNat, 0]
def k1_off277 (v1475 : BitVec 32) : Fin 2 → Nat :=
  let v1489 : Index := Scalar.indexCast v1475
  let c16_647 : Index := 16#32
  ![v1489.toNat, 16]
def k1_off278 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_648 : BitVec 32 := 16#32
  let v1491 : BitVec 32 := Scalar.muli arg18 c16_i32_648
  let c15_i32_649 : BitVec 32 := 15#32
  let v1492 : BitVec 32 := Scalar.addi v1491 c15_i32_649
  let v1493 : Index := Scalar.indexCast v1492
  let c16_650 : Index := 16#32
  ![v1493.toNat, 16]
def k1_off279 (v1475 : BitVec 32) : Fin 2 → Nat :=
  let v1500 : Index := Scalar.indexCast v1475
  let c32_652 : Index := 32#32
  ![v1500.toNat, 32]
def k1_off280 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_653 : BitVec 32 := 16#32
  let v1502 : BitVec 32 := Scalar.muli arg18 c16_i32_653
  let c15_i32_654 : BitVec 32 := 15#32
  let v1503 : BitVec 32 := Scalar.addi v1502 c15_i32_654
  let v1504 : Index := Scalar.indexCast v1503
  let c32_655 : Index := 32#32
  ![v1504.toNat, 32]
def k1_off281 (v1475 : BitVec 32) : Fin 2 → Nat :=
  let v1511 : Index := Scalar.indexCast v1475
  let c48_657 : Index := 48#32
  ![v1511.toNat, 48]
def k1_off282 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_658 : BitVec 32 := 16#32
  let v1513 : BitVec 32 := Scalar.muli arg18 c16_i32_658
  let c15_i32_659 : BitVec 32 := 15#32
  let v1514 : BitVec 32 := Scalar.addi v1513 c15_i32_659
  let v1515 : Index := Scalar.indexCast v1514
  let c48_660 : Index := 48#32
  ![v1515.toNat, 48]
def k1_off283 (v1475 : BitVec 32) : Fin 2 → Nat :=
  let v1522 : Index := Scalar.indexCast v1475
  let c64_662 : Index := 64#32
  ![v1522.toNat, 64]
def k1_off284 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_663 : BitVec 32 := 16#32
  let v1524 : BitVec 32 := Scalar.muli arg18 c16_i32_663
  let c15_i32_664 : BitVec 32 := 15#32
  let v1525 : BitVec 32 := Scalar.addi v1524 c15_i32_664
  let v1526 : Index := Scalar.indexCast v1525
  let c64_665 : Index := 64#32
  ![v1526.toNat, 64]
def k1_off285 (v1475 : BitVec 32) : Fin 2 → Nat :=
  let v1533 : Index := Scalar.indexCast v1475
  let c80_667 : Index := 80#32
  ![v1533.toNat, 80]
def k1_off286 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_668 : BitVec 32 := 16#32
  let v1535 : BitVec 32 := Scalar.muli arg18 c16_i32_668
  let c15_i32_669 : BitVec 32 := 15#32
  let v1536 : BitVec 32 := Scalar.addi v1535 c15_i32_669
  let v1537 : Index := Scalar.indexCast v1536
  let c80_670 : Index := 80#32
  ![v1537.toNat, 80]
def k1_off287 (v1475 : BitVec 32) : Fin 2 → Nat :=
  let v1544 : Index := Scalar.indexCast v1475
  let c96_672 : Index := 96#32
  ![v1544.toNat, 96]
def k1_off288 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_673 : BitVec 32 := 16#32
  let v1546 : BitVec 32 := Scalar.muli arg18 c16_i32_673
  let c15_i32_674 : BitVec 32 := 15#32
  let v1547 : BitVec 32 := Scalar.addi v1546 c15_i32_674
  let v1548 : Index := Scalar.indexCast v1547
  let c96_675 : Index := 96#32
  ![v1548.toNat, 96]
def k1_off289 (v1475 : BitVec 32) : Fin 2 → Nat :=
  let v1555 : Index := Scalar.indexCast v1475
  let c112_677 : Index := 112#32
  ![v1555.toNat, 112]

def k1_chk35 (i : grid1.Coords) (k1_t6 : Fin (k1_t6_loop i).trips) (v85 : BitVec 32) (v87 : BitVec 32) (v1475 : BitVec 32) : Prop :=
  (∀ (k1_h3 : k1_cond3 i k1_t6 = 1#1), ∀ (k1_h6 : k1_cond6 v85 v87 = 1#1), ∀ a, (k1_off275 v1475) a + S1x16.size a ≤ S256x128.size a) ∧
  (∀ (k1_h3 : k1_cond3 i k1_t6 = 1#1), ∀ (k1_h6 : k1_cond6 v85 v87 = 1#1), ∀ a, (k1_off277 v1475) a + S1x16.size a ≤ S256x128.size a) ∧
  (∀ (k1_h3 : k1_cond3 i k1_t6 = 1#1), ∀ (k1_h6 : k1_cond6 v85 v87 = 1#1), ∀ a, (k1_off279 v1475) a + S1x16.size a ≤ S256x128.size a) ∧
  (∀ (k1_h3 : k1_cond3 i k1_t6 = 1#1), ∀ (k1_h6 : k1_cond6 v85 v87 = 1#1), ∀ a, (k1_off281 v1475) a + S1x16.size a ≤ S256x128.size a) ∧
  (∀ (k1_h3 : k1_cond3 i k1_t6 = 1#1), ∀ (k1_h6 : k1_cond6 v85 v87 = 1#1), ∀ a, (k1_off283 v1475) a + S1x16.size a ≤ S256x128.size a) ∧
  (∀ (k1_h3 : k1_cond3 i k1_t6 = 1#1), ∀ (k1_h6 : k1_cond6 v85 v87 = 1#1), ∀ a, (k1_off285 v1475) a + S1x16.size a ≤ S256x128.size a) ∧
  (∀ (k1_h3 : k1_cond3 i k1_t6 = 1#1), ∀ (k1_h6 : k1_cond6 v85 v87 = 1#1), ∀ a, (k1_off287 v1475) a + S1x16.size a ≤ S256x128.size a) ∧
  (∀ (k1_h3 : k1_cond3 i k1_t6 = 1#1), ∀ (k1_h6 : k1_cond6 v85 v87 = 1#1), ∀ a, (k1_off289 v1475) a + S1x16.size a ≤ S256x128.size a)
theorem k1_off275_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off275 v1475) a + S1x16.size a ≤ S256x128.size a := fun i k1_t6 v85 v87 v1475 k1_hw35 k1_h3 k1_h6 => k1_hw35.1 k1_h3 k1_h6
theorem k1_off277_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off277 v1475) a + S1x16.size a ≤ S256x128.size a := fun i k1_t6 v85 v87 v1475 k1_hw35 k1_h3 k1_h6 => k1_hw35.2.1 k1_h3 k1_h6
theorem k1_off279_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off279 v1475) a + S1x16.size a ≤ S256x128.size a := fun i k1_t6 v85 v87 v1475 k1_hw35 k1_h3 k1_h6 => k1_hw35.2.2.1 k1_h3 k1_h6
theorem k1_off281_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off281 v1475) a + S1x16.size a ≤ S256x128.size a := fun i k1_t6 v85 v87 v1475 k1_hw35 k1_h3 k1_h6 => k1_hw35.2.2.2.1 k1_h3 k1_h6
theorem k1_off283_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off283 v1475) a + S1x16.size a ≤ S256x128.size a := fun i k1_t6 v85 v87 v1475 k1_hw35 k1_h3 k1_h6 => k1_hw35.2.2.2.2.1 k1_h3 k1_h6
theorem k1_off285_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off285 v1475) a + S1x16.size a ≤ S256x128.size a := fun i k1_t6 v85 v87 v1475 k1_hw35 k1_h3 k1_h6 => k1_hw35.2.2.2.2.2.1 k1_h3 k1_h6
theorem k1_off287_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off287 v1475) a + S1x16.size a ≤ S256x128.size a := fun i k1_t6 v85 v87 v1475 k1_hw35 k1_h3 k1_h6 => k1_hw35.2.2.2.2.2.2.1 k1_h3 k1_h6
theorem k1_off289_inb : ∀ (i : grid1.Coords) (k1_t6 : Fin (k1_t6_loop i).trips) (v85 : BitVec 32) (v87 : BitVec 32) (v1475 : BitVec 32) (k1_hw35 : k1_chk35 i k1_t6 v85 v87 v1475), ∀ (k1_h3 : k1_cond3 i k1_t6 = 1#1), ∀ (k1_h6 : k1_cond6 v85 v87 = 1#1), ∀ a, (k1_off289 v1475) a + S1x16.size a ≤ S256x128.size a := fun i k1_t6 v85 v87 v1475 k1_hw35 k1_h3 k1_h6 => k1_hw35.2.2.2.2.2.2.2 k1_h3 k1_h6

def k1_off290 (k1_t7 : Fin k1_t7_loop.trips) : Fin 2 → Nat :=
  let c0_i32_53 : BitVec 32 := 0#32
  let c1_i32_54 : BitVec 32 := 1#32
  let arg18 : BitVec 32 := Scf.iv c0_i32_53 c1_i32_54 k1_t7
  let c16_i32_678 : BitVec 32 := 16#32
  let v1557 : BitVec 32 := Scalar.muli arg18 c16_i32_678
  let c15_i32_679 : BitVec 32 := 15#32
  let v1558 : BitVec 32 := Scalar.addi v1557 c15_i32_679
  let v1559 : Index := Scalar.indexCast v1558
  let c112_680 : Index := 112#32
  ![v1559.toNat, 112]
def k1_cond7 (i : grid1.Coords) (k1_t6 : Fin (k1_t6_loop i).trips) : BitVec 1 :=
  let c0_i32_25 : BitVec 32 := 0#32
  let c1_i32_28 : BitVec 32 := 1#32
  let arg16 : BitVec 32 := Scf.iv c0_i32_25 c1_i32_28 k1_t6
  let c2_i32_39 : BitVec 32 := 2#32
  let c0_i32_40 : BitVec 32 := 0#32
  let v53 : BitVec 1 := Scalar.cmpi .eq c2_i32_39 c0_i32_40
  let c1_i32_41 : BitVec 32 := 1#32
  let v54 : BitVec 32 := Scalar.select v53 c1_i32_41 c2_i32_39
  let v55 : BitVec 32 := Scalar.remsi arg16 v54
  let c0_i32_43 : BitVec 32 := 0#32
  let v57 : BitVec 1 := Scalar.cmpi .slt v55 c0_i32_43
  let c0_i32_44 : BitVec 32 := 0#32
  let v58 : BitVec 1 := Scalar.cmpi .slt v54 c0_i32_44
  let v59 : BitVec 1 := Scalar.xori v57 v58
  let c0_i32_42 : BitVec 32 := 0#32
  let v56 : BitVec 1 := Scalar.cmpi .ne v55 c0_i32_42
  let v60 : BitVec 1 := Scalar.andi v59 v56
  let v61 : BitVec 32 := Scalar.addi v55 v54
  let v62 : BitVec 32 := Scalar.select v60 v61 v55
  let c1_i32_45 : BitVec 32 := 1#32
  let v63 : BitVec 1 := Scalar.cmpi .eq v62 c1_i32_45
  let v64 : BitVec 32 := Scalar.extui v63
  let c0_i32_46 : BitVec 32 := 0#32
  let v65 : BitVec 1 := Scalar.cmpi .ne v64 c0_i32_46
  v65

def k1_off291 (i : grid1.Coords) (k1_t6 : Fin (k1_t6_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c1_i32_28 : BitVec 32 := 1#32
  let arg16 : BitVec 32 := Scf.iv c0_i32_25 c1_i32_28 k1_t6
  let c112_i32 : BitVec 32 := 112#32
  let v66 : BitVec 32 := Scalar.muli arg16 c112_i32
  let v67 : BitVec 32 := Scalar.addi v3 v66
  let c0_i32_48 : BitVec 32 := 0#32
  ![v67.toNat, 0]
def k1_cond8 (i : grid1.Coords) (k1_t6 : Fin (k1_t6_loop i).trips) : BitVec 1 :=
  let c0_i32_25 : BitVec 32 := 0#32
  let c1_i32_28 : BitVec 32 := 1#32
  let arg16 : BitVec 32 := Scf.iv c0_i32_25 c1_i32_28 k1_t6
  let c1_i32_50 : BitVec 32 := 1#32
  let v70 : BitVec 32 := Scalar.addi arg16 c1_i32_50
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v71 : BitVec 1 := Scalar.cmpi .slt v70 v26
  let v72 : BitVec 32 := Scalar.extui v71
  let c0_i32_51 : BitVec 32 := 0#32
  let v73 : BitVec 1 := Scalar.cmpi .ne v72 c0_i32_51
  v73

def k1_off292 (i : grid1.Coords) (k1_t6 : Fin (k1_t6_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c1_i32_28 : BitVec 32 := 1#32
  let arg16 : BitVec 32 := Scf.iv c0_i32_25 c1_i32_28 k1_t6
  let c1_i32_56 : BitVec 32 := 1#32
  let v76 : BitVec 32 := Scalar.addi arg16 c1_i32_56
  let c112_i32_57 : BitVec 32 := 112#32
  let v77 : BitVec 32 := Scalar.muli v76 c112_i32_57
  let v78 : BitVec 32 := Scalar.addi v3 v77
  let c0_i32_58 : BitVec 32 := 0#32
  ![v78.toNat, 0]
@[reducible] def k1_t8_loop : Scf.Loop 32 :=
  let c0_i32_53 : BitVec 32 := 0#32
  let c7_i32 : BitVec 32 := 7#32
  let v74 : BitVec 32 := Scalar.addi c0_i32_53 c7_i32
  let c1_i32_54 : BitVec 32 := 1#32
  ⟨c0_i32_53, v74, c1_i32_54⟩
def k1_off293 (i : grid1.Coords) (k1_t6 : Fin (k1_t6_loop i).trips) (k1_t8 : Fin k1_t8_loop.trips) : Fin 1 → Nat :=
  let c0_i32_25 : BitVec 32 := 0#32
  let c1_i32_28 : BitVec 32 := 1#32
  let arg16 : BitVec 32 := Scf.iv c0_i32_25 c1_i32_28 k1_t6
  let c7_i32_56 : BitVec 32 := 7#32
  let v76 : BitVec 32 := Scalar.muli arg16 c7_i32_56
  let c0_i32_53 : BitVec 32 := 0#32
  let c1_i32_54 : BitVec 32 := 1#32
  let arg18 : BitVec 32 := Scf.iv c0_i32_53 c1_i32_54 k1_t8
  let v77 : BitVec 32 := Scalar.addi v76 arg18
  let c16_i32_57 : BitVec 32 := 16#32
  let v78 : BitVec 32 := Scalar.muli v77 c16_i32_57
  let v79 : Index := Scalar.indexCast v78
  ![v79.toNat]
def k1_off294 (k1_t8 : Fin k1_t8_loop.trips) (c0_i32_70 : BitVec 32) : Fin 2 → Nat :=
  let c0_i32_53 : BitVec 32 := 0#32
  let c1_i32_54 : BitVec 32 := 1#32
  let arg18 : BitVec 32 := Scf.iv c0_i32_53 c1_i32_54 k1_t8
  let c16_i32_69 : BitVec 32 := 16#32
  let v104 : BitVec 32 := Scalar.muli arg18 c16_i32_69
  let v105 : BitVec 32 := Scalar.addi v104 c0_i32_70
  let v106 : Index := Scalar.indexCast v105
  let c0 : Index := 0#32
  ![v106.toNat, 0]
def k1_off295 (k1_t8 : Fin k1_t8_loop.trips) (c0_i32_72 : BitVec 32) : Fin 2 → Nat :=
  let c0_i32_53 : BitVec 32 := 0#32
  let c1_i32_54 : BitVec 32 := 1#32
  let arg18 : BitVec 32 := Scf.iv c0_i32_53 c1_i32_54 k1_t8
  let c16_i32_71 : BitVec 32 := 16#32
  let v111 : BitVec 32 := Scalar.muli arg18 c16_i32_71
  let v112 : BitVec 32 := Scalar.addi v111 c0_i32_72
  let v113 : Index := Scalar.indexCast v112
  let c16 : Index := 16#32
  ![v113.toNat, 16]
def k1_off296 (k1_t8 : Fin k1_t8_loop.trips) (c0_i32_74 : BitVec 32) : Fin 2 → Nat :=
  let c0_i32_53 : BitVec 32 := 0#32
  let c1_i32_54 : BitVec 32 := 1#32
  let arg18 : BitVec 32 := Scf.iv c0_i32_53 c1_i32_54 k1_t8
  let c16_i32_73 : BitVec 32 := 16#32
  let v118 : BitVec 32 := Scalar.muli arg18 c16_i32_73
  let v119 : BitVec 32 := Scalar.addi v118 c0_i32_74
  let v120 : Index := Scalar.indexCast v119
  let c32 : Index := 32#32
  ![v120.toNat, 32]
def k1_off297 (k1_t8 : Fin k1_t8_loop.trips) (c0_i32_76 : BitVec 32) : Fin 2 → Nat :=
  let c0_i32_53 : BitVec 32 := 0#32
  let c1_i32_54 : BitVec 32 := 1#32
  let arg18 : BitVec 32 := Scf.iv c0_i32_53 c1_i32_54 k1_t8
  let c16_i32_75 : BitVec 32 := 16#32
  let v125 : BitVec 32 := Scalar.muli arg18 c16_i32_75
  let v126 : BitVec 32 := Scalar.addi v125 c0_i32_76
  let v127 : Index := Scalar.indexCast v126
  let c48 : Index := 48#32
  ![v127.toNat, 48]
def k1_off298 (k1_t8 : Fin k1_t8_loop.trips) (c0_i32_78 : BitVec 32) : Fin 2 → Nat :=
  let c0_i32_53 : BitVec 32 := 0#32
  let c1_i32_54 : BitVec 32 := 1#32
  let arg18 : BitVec 32 := Scf.iv c0_i32_53 c1_i32_54 k1_t8
  let c16_i32_77 : BitVec 32 := 16#32
  let v132 : BitVec 32 := Scalar.muli arg18 c16_i32_77
  let v133 : BitVec 32 := Scalar.addi v132 c0_i32_78
  let v134 : Index := Scalar.indexCast v133
  let c64 : Index := 64#32
  ![v134.toNat, 64]
def k1_off299 (k1_t8 : Fin k1_t8_loop.trips) (c0_i32_80 : BitVec 32) : Fin 2 → Nat :=
  let c0_i32_53 : BitVec 32 := 0#32
  let c1_i32_54 : BitVec 32 := 1#32
  let arg18 : BitVec 32 := Scf.iv c0_i32_53 c1_i32_54 k1_t8
  let c16_i32_79 : BitVec 32 := 16#32
  let v139 : BitVec 32 := Scalar.muli arg18 c16_i32_79
  let v140 : BitVec 32 := Scalar.addi v139 c0_i32_80
  let v141 : Index := Scalar.indexCast v140
  let c80 : Index := 80#32
  ![v141.toNat, 80]
def k1_off300 (k1_t8 : Fin k1_t8_loop.trips) (c0_i32_82 : BitVec 32) : Fin 2 → Nat :=
  let c0_i32_53 : BitVec 32 := 0#32
  let c1_i32_54 : BitVec 32 := 1#32
  let arg18 : BitVec 32 := Scf.iv c0_i32_53 c1_i32_54 k1_t8
  let c16_i32_81 : BitVec 32 := 16#32
  let v146 : BitVec 32 := Scalar.muli arg18 c16_i32_81
  let v147 : BitVec 32 := Scalar.addi v146 c0_i32_82
  let v148 : Index := Scalar.indexCast v147
  let c96 : Index := 96#32
  ![v148.toNat, 96]
def k1_off301 (k1_t8 : Fin k1_t8_loop.trips) (c0_i32_84 : BitVec 32) : Fin 2 → Nat :=
  let c0_i32_53 : BitVec 32 := 0#32
  let c1_i32_54 : BitVec 32 := 1#32
  let arg18 : BitVec 32 := Scf.iv c0_i32_53 c1_i32_54 k1_t8
  let c16_i32_83 : BitVec 32 := 16#32
  let v153 : BitVec 32 := Scalar.muli arg18 c16_i32_83
  let v154 : BitVec 32 := Scalar.addi v153 c0_i32_84
  let v155 : Index := Scalar.indexCast v154
  let c112 : Index := 112#32
  ![v155.toNat, 112]
def k1_off302 (v85 : BitVec 32) : Fin 2 → Nat :=
  let v1030 : Index := Scalar.indexCast v85
  let c0_433 : Index := 0#32
  ![v1030.toNat, 0]
def k1_cond9 (v85 : BitVec 32) (v87 : BitVec 32) : BitVec 1 :=
  let v88 : BitVec 1 := Scalar.cmpi .eq v85 v87
  let v89 : BitVec 32 := Scalar.extui v88
  let c0_i32_59 : BitVec 32 := 0#32
  let v90 : BitVec 1 := Scalar.cmpi .ne v89 c0_i32_59
  v90

def k1_off303 (v85 : BitVec 32) : Fin 2 → Nat :=
  let v1035 : Index := Scalar.indexCast v85
  let c16_435 : Index := 16#32
  ![v1035.toNat, 16]
def k1_off304 (v85 : BitVec 32) : Fin 2 → Nat :=
  let v1040 : Index := Scalar.indexCast v85
  let c32_437 : Index := 32#32
  ![v1040.toNat, 32]
def k1_off305 (v85 : BitVec 32) : Fin 2 → Nat :=
  let v1045 : Index := Scalar.indexCast v85
  let c48_439 : Index := 48#32
  ![v1045.toNat, 48]
def k1_off306 (v85 : BitVec 32) : Fin 2 → Nat :=
  let v1050 : Index := Scalar.indexCast v85
  let c64_441 : Index := 64#32
  ![v1050.toNat, 64]
def k1_off307 (v85 : BitVec 32) : Fin 2 → Nat :=
  let v1055 : Index := Scalar.indexCast v85
  let c80_443 : Index := 80#32
  ![v1055.toNat, 80]
def k1_off308 (v85 : BitVec 32) : Fin 2 → Nat :=
  let v1060 : Index := Scalar.indexCast v85
  let c96_445 : Index := 96#32
  ![v1060.toNat, 96]
def k1_off309 (v85 : BitVec 32) : Fin 2 → Nat :=
  let v1065 : Index := Scalar.indexCast v85
  let c112_447 : Index := 112#32
  ![v1065.toNat, 112]

def k1_chk36 (i : grid1.Coords) (k1_t6 : Fin (k1_t6_loop i).trips) (v85 : BitVec 32) (v87 : BitVec 32) : Prop :=
  (∀ (k1_h7 : k1_cond7 i k1_t6 = 1#1), ∀ (k1_h9 : k1_cond9 v85 v87 = 1#1), ∀ a, (k1_off302 v85) a + S1x16.size a ≤ S256x128.size a) ∧
  (∀ (k1_h7 : k1_cond7 i k1_t6 = 1#1), ∀ (k1_h9 : k1_cond9 v85 v87 = 1#1), ∀ a, (k1_off303 v85) a + S1x16.size a ≤ S256x128.size a) ∧
  (∀ (k1_h7 : k1_cond7 i k1_t6 = 1#1), ∀ (k1_h9 : k1_cond9 v85 v87 = 1#1), ∀ a, (k1_off304 v85) a + S1x16.size a ≤ S256x128.size a) ∧
  (∀ (k1_h7 : k1_cond7 i k1_t6 = 1#1), ∀ (k1_h9 : k1_cond9 v85 v87 = 1#1), ∀ a, (k1_off305 v85) a + S1x16.size a ≤ S256x128.size a) ∧
  (∀ (k1_h7 : k1_cond7 i k1_t6 = 1#1), ∀ (k1_h9 : k1_cond9 v85 v87 = 1#1), ∀ a, (k1_off306 v85) a + S1x16.size a ≤ S256x128.size a) ∧
  (∀ (k1_h7 : k1_cond7 i k1_t6 = 1#1), ∀ (k1_h9 : k1_cond9 v85 v87 = 1#1), ∀ a, (k1_off307 v85) a + S1x16.size a ≤ S256x128.size a) ∧
  (∀ (k1_h7 : k1_cond7 i k1_t6 = 1#1), ∀ (k1_h9 : k1_cond9 v85 v87 = 1#1), ∀ a, (k1_off308 v85) a + S1x16.size a ≤ S256x128.size a) ∧
  (∀ (k1_h7 : k1_cond7 i k1_t6 = 1#1), ∀ (k1_h9 : k1_cond9 v85 v87 = 1#1), ∀ a, (k1_off309 v85) a + S1x16.size a ≤ S256x128.size a)
theorem k1_off302_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off302 v85) a + S1x16.size a ≤ S256x128.size a := fun i k1_t6 v85 v87 k1_hw36 k1_h7 k1_h9 => k1_hw36.1 k1_h7 k1_h9
theorem k1_off303_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off303 v85) a + S1x16.size a ≤ S256x128.size a := fun i k1_t6 v85 v87 k1_hw36 k1_h7 k1_h9 => k1_hw36.2.1 k1_h7 k1_h9
theorem k1_off304_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off304 v85) a + S1x16.size a ≤ S256x128.size a := fun i k1_t6 v85 v87 k1_hw36 k1_h7 k1_h9 => k1_hw36.2.2.1 k1_h7 k1_h9
theorem k1_off305_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off305 v85) a + S1x16.size a ≤ S256x128.size a := fun i k1_t6 v85 v87 k1_hw36 k1_h7 k1_h9 => k1_hw36.2.2.2.1 k1_h7 k1_h9
theorem k1_off306_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off306 v85) a + S1x16.size a ≤ S256x128.size a := fun i k1_t6 v85 v87 k1_hw36 k1_h7 k1_h9 => k1_hw36.2.2.2.2.1 k1_h7 k1_h9
theorem k1_off307_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off307 v85) a + S1x16.size a ≤ S256x128.size a := fun i k1_t6 v85 v87 k1_hw36 k1_h7 k1_h9 => k1_hw36.2.2.2.2.2.1 k1_h7 k1_h9
theorem k1_off308_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off308 v85) a + S1x16.size a ≤ S256x128.size a := fun i k1_t6 v85 v87 k1_hw36 k1_h7 k1_h9 => k1_hw36.2.2.2.2.2.2.1 k1_h7 k1_h9
theorem k1_off309_inb : ∀ (i : grid1.Coords) (k1_t6 : Fin (k1_t6_loop i).trips) (v85 : BitVec 32) (v87 : BitVec 32) (k1_hw36 : k1_chk36 i k1_t6 v85 v87), ∀ (k1_h7 : k1_cond7 i k1_t6 = 1#1), ∀ (k1_h9 : k1_cond9 v85 v87 = 1#1), ∀ a, (k1_off309 v85) a + S1x16.size a ≤ S256x128.size a := fun i k1_t6 v85 v87 k1_hw36 k1_h7 k1_h9 => k1_hw36.2.2.2.2.2.2.2 k1_h7 k1_h9

def k1_off310 (v95 : BitVec 32) : Fin 2 → Nat :=
  let v98 : Index := Scalar.indexCast v95
  let c0 : Index := 0#32
  ![v98.toNat, 0]
def k1_cond10 (v85 : BitVec 32) (v87 : BitVec 32) : BitVec 1 :=
  let v91 : BitVec 1 := Scalar.cmpi .ne v85 v87
  let v92 : BitVec 32 := Scalar.extui v91
  let c0_i32_60 : BitVec 32 := 0#32
  let v93 : BitVec 1 := Scalar.cmpi .ne v92 c0_i32_60
  v93

def k1_off311 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_62 : BitVec 32 := 16#32
  let v100 : BitVec 32 := Scalar.muli arg18 c16_i32_62
  let c0_i32_63 : BitVec 32 := 0#32
  let v101 : BitVec 32 := Scalar.addi v100 c0_i32_63
  let v102 : Index := Scalar.indexCast v101
  let c0_64 : Index := 0#32
  ![v102.toNat, 0]
def k1_off312 (v95 : BitVec 32) : Fin 2 → Nat :=
  let v109 : Index := Scalar.indexCast v95
  let c16 : Index := 16#32
  ![v109.toNat, 16]
def k1_off313 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_66 : BitVec 32 := 16#32
  let v111 : BitVec 32 := Scalar.muli arg18 c16_i32_66
  let c0_i32_67 : BitVec 32 := 0#32
  let v112 : BitVec 32 := Scalar.addi v111 c0_i32_67
  let v113 : Index := Scalar.indexCast v112
  let c16_68 : Index := 16#32
  ![v113.toNat, 16]
def k1_off314 (v95 : BitVec 32) : Fin 2 → Nat :=
  let v120 : Index := Scalar.indexCast v95
  let c32 : Index := 32#32
  ![v120.toNat, 32]
def k1_off315 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_70 : BitVec 32 := 16#32
  let v122 : BitVec 32 := Scalar.muli arg18 c16_i32_70
  let c0_i32_71 : BitVec 32 := 0#32
  let v123 : BitVec 32 := Scalar.addi v122 c0_i32_71
  let v124 : Index := Scalar.indexCast v123
  let c32_72 : Index := 32#32
  ![v124.toNat, 32]
def k1_off316 (v95 : BitVec 32) : Fin 2 → Nat :=
  let v131 : Index := Scalar.indexCast v95
  let c48 : Index := 48#32
  ![v131.toNat, 48]
def k1_off317 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_74 : BitVec 32 := 16#32
  let v133 : BitVec 32 := Scalar.muli arg18 c16_i32_74
  let c0_i32_75 : BitVec 32 := 0#32
  let v134 : BitVec 32 := Scalar.addi v133 c0_i32_75
  let v135 : Index := Scalar.indexCast v134
  let c48_76 : Index := 48#32
  ![v135.toNat, 48]
def k1_off318 (v95 : BitVec 32) : Fin 2 → Nat :=
  let v142 : Index := Scalar.indexCast v95
  let c64 : Index := 64#32
  ![v142.toNat, 64]
def k1_off319 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_78 : BitVec 32 := 16#32
  let v144 : BitVec 32 := Scalar.muli arg18 c16_i32_78
  let c0_i32_79 : BitVec 32 := 0#32
  let v145 : BitVec 32 := Scalar.addi v144 c0_i32_79
  let v146 : Index := Scalar.indexCast v145
  let c64_80 : Index := 64#32
  ![v146.toNat, 64]
def k1_off320 (v95 : BitVec 32) : Fin 2 → Nat :=
  let v153 : Index := Scalar.indexCast v95
  let c80 : Index := 80#32
  ![v153.toNat, 80]
def k1_off321 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_82 : BitVec 32 := 16#32
  let v155 : BitVec 32 := Scalar.muli arg18 c16_i32_82
  let c0_i32_83 : BitVec 32 := 0#32
  let v156 : BitVec 32 := Scalar.addi v155 c0_i32_83
  let v157 : Index := Scalar.indexCast v156
  let c80_84 : Index := 80#32
  ![v157.toNat, 80]
def k1_off322 (v95 : BitVec 32) : Fin 2 → Nat :=
  let v164 : Index := Scalar.indexCast v95
  let c96 : Index := 96#32
  ![v164.toNat, 96]
def k1_off323 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_86 : BitVec 32 := 16#32
  let v166 : BitVec 32 := Scalar.muli arg18 c16_i32_86
  let c0_i32_87 : BitVec 32 := 0#32
  let v167 : BitVec 32 := Scalar.addi v166 c0_i32_87
  let v168 : Index := Scalar.indexCast v167
  let c96_88 : Index := 96#32
  ![v168.toNat, 96]
def k1_off324 (v95 : BitVec 32) : Fin 2 → Nat :=
  let v175 : Index := Scalar.indexCast v95
  let c112 : Index := 112#32
  ![v175.toNat, 112]

def k1_chk37 (i : grid1.Coords) (k1_t6 : Fin (k1_t6_loop i).trips) (v85 : BitVec 32) (v87 : BitVec 32) (v95 : BitVec 32) : Prop :=
  (∀ (k1_h7 : k1_cond7 i k1_t6 = 1#1), ∀ (k1_h10 : k1_cond10 v85 v87 = 1#1), ∀ a, (k1_off310 v95) a + S1x16.size a ≤ S256x128.size a) ∧
  (∀ (k1_h7 : k1_cond7 i k1_t6 = 1#1), ∀ (k1_h10 : k1_cond10 v85 v87 = 1#1), ∀ a, (k1_off312 v95) a + S1x16.size a ≤ S256x128.size a) ∧
  (∀ (k1_h7 : k1_cond7 i k1_t6 = 1#1), ∀ (k1_h10 : k1_cond10 v85 v87 = 1#1), ∀ a, (k1_off314 v95) a + S1x16.size a ≤ S256x128.size a) ∧
  (∀ (k1_h7 : k1_cond7 i k1_t6 = 1#1), ∀ (k1_h10 : k1_cond10 v85 v87 = 1#1), ∀ a, (k1_off316 v95) a + S1x16.size a ≤ S256x128.size a) ∧
  (∀ (k1_h7 : k1_cond7 i k1_t6 = 1#1), ∀ (k1_h10 : k1_cond10 v85 v87 = 1#1), ∀ a, (k1_off318 v95) a + S1x16.size a ≤ S256x128.size a) ∧
  (∀ (k1_h7 : k1_cond7 i k1_t6 = 1#1), ∀ (k1_h10 : k1_cond10 v85 v87 = 1#1), ∀ a, (k1_off320 v95) a + S1x16.size a ≤ S256x128.size a) ∧
  (∀ (k1_h7 : k1_cond7 i k1_t6 = 1#1), ∀ (k1_h10 : k1_cond10 v85 v87 = 1#1), ∀ a, (k1_off322 v95) a + S1x16.size a ≤ S256x128.size a) ∧
  (∀ (k1_h7 : k1_cond7 i k1_t6 = 1#1), ∀ (k1_h10 : k1_cond10 v85 v87 = 1#1), ∀ a, (k1_off324 v95) a + S1x16.size a ≤ S256x128.size a)
theorem k1_off310_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off310 v95) a + S1x16.size a ≤ S256x128.size a := fun i k1_t6 v85 v87 v95 k1_hw37 k1_h7 k1_h10 => k1_hw37.1 k1_h7 k1_h10
theorem k1_off312_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off312 v95) a + S1x16.size a ≤ S256x128.size a := fun i k1_t6 v85 v87 v95 k1_hw37 k1_h7 k1_h10 => k1_hw37.2.1 k1_h7 k1_h10
theorem k1_off314_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off314 v95) a + S1x16.size a ≤ S256x128.size a := fun i k1_t6 v85 v87 v95 k1_hw37 k1_h7 k1_h10 => k1_hw37.2.2.1 k1_h7 k1_h10
theorem k1_off316_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off316 v95) a + S1x16.size a ≤ S256x128.size a := fun i k1_t6 v85 v87 v95 k1_hw37 k1_h7 k1_h10 => k1_hw37.2.2.2.1 k1_h7 k1_h10
theorem k1_off318_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off318 v95) a + S1x16.size a ≤ S256x128.size a := fun i k1_t6 v85 v87 v95 k1_hw37 k1_h7 k1_h10 => k1_hw37.2.2.2.2.1 k1_h7 k1_h10
theorem k1_off320_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off320 v95) a + S1x16.size a ≤ S256x128.size a := fun i k1_t6 v85 v87 v95 k1_hw37 k1_h7 k1_h10 => k1_hw37.2.2.2.2.2.1 k1_h7 k1_h10
theorem k1_off322_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off322 v95) a + S1x16.size a ≤ S256x128.size a := fun i k1_t6 v85 v87 v95 k1_hw37 k1_h7 k1_h10 => k1_hw37.2.2.2.2.2.2.1 k1_h7 k1_h10
theorem k1_off324_inb : ∀ (i : grid1.Coords) (k1_t6 : Fin (k1_t6_loop i).trips) (v85 : BitVec 32) (v87 : BitVec 32) (v95 : BitVec 32) (k1_hw37 : k1_chk37 i k1_t6 v85 v87 v95), ∀ (k1_h7 : k1_cond7 i k1_t6 = 1#1), ∀ (k1_h10 : k1_cond10 v85 v87 = 1#1), ∀ a, (k1_off324 v95) a + S1x16.size a ≤ S256x128.size a := fun i k1_t6 v85 v87 v95 k1_hw37 k1_h7 k1_h10 => k1_hw37.2.2.2.2.2.2.2 k1_h7 k1_h10

def k1_off325 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_90 : BitVec 32 := 16#32
  let v177 : BitVec 32 := Scalar.muli arg18 c16_i32_90
  let c0_i32_91 : BitVec 32 := 0#32
  let v178 : BitVec 32 := Scalar.addi v177 c0_i32_91
  let v179 : Index := Scalar.indexCast v178
  let c112_92 : Index := 112#32
  ![v179.toNat, 112]
def k1_off326 (v187 : BitVec 32) : Fin 2 → Nat :=
  let v190 : Index := Scalar.indexCast v187
  let c0_94 : Index := 0#32
  ![v190.toNat, 0]

def k1_off327 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_95 : BitVec 32 := 16#32
  let v192 : BitVec 32 := Scalar.muli arg18 c16_i32_95
  let c1_i32_96 : BitVec 32 := 1#32
  let v193 : BitVec 32 := Scalar.addi v192 c1_i32_96
  let v194 : Index := Scalar.indexCast v193
  let c0_97 : Index := 0#32
  ![v194.toNat, 0]
def k1_off328 (v187 : BitVec 32) : Fin 2 → Nat :=
  let v201 : Index := Scalar.indexCast v187
  let c16_99 : Index := 16#32
  ![v201.toNat, 16]
def k1_off329 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_100 : BitVec 32 := 16#32
  let v203 : BitVec 32 := Scalar.muli arg18 c16_i32_100
  let c1_i32_101 : BitVec 32 := 1#32
  let v204 : BitVec 32 := Scalar.addi v203 c1_i32_101
  let v205 : Index := Scalar.indexCast v204
  let c16_102 : Index := 16#32
  ![v205.toNat, 16]
def k1_off330 (v187 : BitVec 32) : Fin 2 → Nat :=
  let v212 : Index := Scalar.indexCast v187
  let c32_104 : Index := 32#32
  ![v212.toNat, 32]
def k1_off331 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_105 : BitVec 32 := 16#32
  let v214 : BitVec 32 := Scalar.muli arg18 c16_i32_105
  let c1_i32_106 : BitVec 32 := 1#32
  let v215 : BitVec 32 := Scalar.addi v214 c1_i32_106
  let v216 : Index := Scalar.indexCast v215
  let c32_107 : Index := 32#32
  ![v216.toNat, 32]
def k1_off332 (v187 : BitVec 32) : Fin 2 → Nat :=
  let v223 : Index := Scalar.indexCast v187
  let c48_109 : Index := 48#32
  ![v223.toNat, 48]
def k1_off333 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_110 : BitVec 32 := 16#32
  let v225 : BitVec 32 := Scalar.muli arg18 c16_i32_110
  let c1_i32_111 : BitVec 32 := 1#32
  let v226 : BitVec 32 := Scalar.addi v225 c1_i32_111
  let v227 : Index := Scalar.indexCast v226
  let c48_112 : Index := 48#32
  ![v227.toNat, 48]
def k1_off334 (v187 : BitVec 32) : Fin 2 → Nat :=
  let v234 : Index := Scalar.indexCast v187
  let c64_114 : Index := 64#32
  ![v234.toNat, 64]
def k1_off335 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_115 : BitVec 32 := 16#32
  let v236 : BitVec 32 := Scalar.muli arg18 c16_i32_115
  let c1_i32_116 : BitVec 32 := 1#32
  let v237 : BitVec 32 := Scalar.addi v236 c1_i32_116
  let v238 : Index := Scalar.indexCast v237
  let c64_117 : Index := 64#32
  ![v238.toNat, 64]
def k1_off336 (v187 : BitVec 32) : Fin 2 → Nat :=
  let v245 : Index := Scalar.indexCast v187
  let c80_119 : Index := 80#32
  ![v245.toNat, 80]
def k1_off337 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_120 : BitVec 32 := 16#32
  let v247 : BitVec 32 := Scalar.muli arg18 c16_i32_120
  let c1_i32_121 : BitVec 32 := 1#32
  let v248 : BitVec 32 := Scalar.addi v247 c1_i32_121
  let v249 : Index := Scalar.indexCast v248
  let c80_122 : Index := 80#32
  ![v249.toNat, 80]
def k1_off338 (v187 : BitVec 32) : Fin 2 → Nat :=
  let v256 : Index := Scalar.indexCast v187
  let c96_124 : Index := 96#32
  ![v256.toNat, 96]
def k1_off339 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_125 : BitVec 32 := 16#32
  let v258 : BitVec 32 := Scalar.muli arg18 c16_i32_125
  let c1_i32_126 : BitVec 32 := 1#32
  let v259 : BitVec 32 := Scalar.addi v258 c1_i32_126
  let v260 : Index := Scalar.indexCast v259
  let c96_127 : Index := 96#32
  ![v260.toNat, 96]
def k1_off340 (v187 : BitVec 32) : Fin 2 → Nat :=
  let v267 : Index := Scalar.indexCast v187
  let c112_129 : Index := 112#32
  ![v267.toNat, 112]

def k1_chk38 (i : grid1.Coords) (k1_t6 : Fin (k1_t6_loop i).trips) (v85 : BitVec 32) (v87 : BitVec 32) (v187 : BitVec 32) : Prop :=
  (∀ (k1_h7 : k1_cond7 i k1_t6 = 1#1), ∀ (k1_h10 : k1_cond10 v85 v87 = 1#1), ∀ a, (k1_off326 v187) a + S1x16.size a ≤ S256x128.size a) ∧
  (∀ (k1_h7 : k1_cond7 i k1_t6 = 1#1), ∀ (k1_h10 : k1_cond10 v85 v87 = 1#1), ∀ a, (k1_off328 v187) a + S1x16.size a ≤ S256x128.size a) ∧
  (∀ (k1_h7 : k1_cond7 i k1_t6 = 1#1), ∀ (k1_h10 : k1_cond10 v85 v87 = 1#1), ∀ a, (k1_off330 v187) a + S1x16.size a ≤ S256x128.size a) ∧
  (∀ (k1_h7 : k1_cond7 i k1_t6 = 1#1), ∀ (k1_h10 : k1_cond10 v85 v87 = 1#1), ∀ a, (k1_off332 v187) a + S1x16.size a ≤ S256x128.size a) ∧
  (∀ (k1_h7 : k1_cond7 i k1_t6 = 1#1), ∀ (k1_h10 : k1_cond10 v85 v87 = 1#1), ∀ a, (k1_off334 v187) a + S1x16.size a ≤ S256x128.size a) ∧
  (∀ (k1_h7 : k1_cond7 i k1_t6 = 1#1), ∀ (k1_h10 : k1_cond10 v85 v87 = 1#1), ∀ a, (k1_off336 v187) a + S1x16.size a ≤ S256x128.size a) ∧
  (∀ (k1_h7 : k1_cond7 i k1_t6 = 1#1), ∀ (k1_h10 : k1_cond10 v85 v87 = 1#1), ∀ a, (k1_off338 v187) a + S1x16.size a ≤ S256x128.size a) ∧
  (∀ (k1_h7 : k1_cond7 i k1_t6 = 1#1), ∀ (k1_h10 : k1_cond10 v85 v87 = 1#1), ∀ a, (k1_off340 v187) a + S1x16.size a ≤ S256x128.size a)
theorem k1_off326_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off326 v187) a + S1x16.size a ≤ S256x128.size a := fun i k1_t6 v85 v87 v187 k1_hw38 k1_h7 k1_h10 => k1_hw38.1 k1_h7 k1_h10
theorem k1_off328_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off328 v187) a + S1x16.size a ≤ S256x128.size a := fun i k1_t6 v85 v87 v187 k1_hw38 k1_h7 k1_h10 => k1_hw38.2.1 k1_h7 k1_h10
theorem k1_off330_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off330 v187) a + S1x16.size a ≤ S256x128.size a := fun i k1_t6 v85 v87 v187 k1_hw38 k1_h7 k1_h10 => k1_hw38.2.2.1 k1_h7 k1_h10
theorem k1_off332_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off332 v187) a + S1x16.size a ≤ S256x128.size a := fun i k1_t6 v85 v87 v187 k1_hw38 k1_h7 k1_h10 => k1_hw38.2.2.2.1 k1_h7 k1_h10
theorem k1_off334_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off334 v187) a + S1x16.size a ≤ S256x128.size a := fun i k1_t6 v85 v87 v187 k1_hw38 k1_h7 k1_h10 => k1_hw38.2.2.2.2.1 k1_h7 k1_h10
theorem k1_off336_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off336 v187) a + S1x16.size a ≤ S256x128.size a := fun i k1_t6 v85 v87 v187 k1_hw38 k1_h7 k1_h10 => k1_hw38.2.2.2.2.2.1 k1_h7 k1_h10
theorem k1_off338_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off338 v187) a + S1x16.size a ≤ S256x128.size a := fun i k1_t6 v85 v87 v187 k1_hw38 k1_h7 k1_h10 => k1_hw38.2.2.2.2.2.2.1 k1_h7 k1_h10
theorem k1_off340_inb : ∀ (i : grid1.Coords) (k1_t6 : Fin (k1_t6_loop i).trips) (v85 : BitVec 32) (v87 : BitVec 32) (v187 : BitVec 32) (k1_hw38 : k1_chk38 i k1_t6 v85 v87 v187), ∀ (k1_h7 : k1_cond7 i k1_t6 = 1#1), ∀ (k1_h10 : k1_cond10 v85 v87 = 1#1), ∀ a, (k1_off340 v187) a + S1x16.size a ≤ S256x128.size a := fun i k1_t6 v85 v87 v187 k1_hw38 k1_h7 k1_h10 => k1_hw38.2.2.2.2.2.2.2 k1_h7 k1_h10

def k1_off341 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_130 : BitVec 32 := 16#32
  let v269 : BitVec 32 := Scalar.muli arg18 c16_i32_130
  let c1_i32_131 : BitVec 32 := 1#32
  let v270 : BitVec 32 := Scalar.addi v269 c1_i32_131
  let v271 : Index := Scalar.indexCast v270
  let c112_132 : Index := 112#32
  ![v271.toNat, 112]
def k1_off342 (v279 : BitVec 32) : Fin 2 → Nat :=
  let v282 : Index := Scalar.indexCast v279
  let c0_134 : Index := 0#32
  ![v282.toNat, 0]

def k1_off343 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_135 : BitVec 32 := 16#32
  let v284 : BitVec 32 := Scalar.muli arg18 c16_i32_135
  let c2_i32_136 : BitVec 32 := 2#32
  let v285 : BitVec 32 := Scalar.addi v284 c2_i32_136
  let v286 : Index := Scalar.indexCast v285
  let c0_137 : Index := 0#32
  ![v286.toNat, 0]
def k1_off344 (v279 : BitVec 32) : Fin 2 → Nat :=
  let v293 : Index := Scalar.indexCast v279
  let c16_139 : Index := 16#32
  ![v293.toNat, 16]
def k1_off345 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_140 : BitVec 32 := 16#32
  let v295 : BitVec 32 := Scalar.muli arg18 c16_i32_140
  let c2_i32_141 : BitVec 32 := 2#32
  let v296 : BitVec 32 := Scalar.addi v295 c2_i32_141
  let v297 : Index := Scalar.indexCast v296
  let c16_142 : Index := 16#32
  ![v297.toNat, 16]
def k1_off346 (v279 : BitVec 32) : Fin 2 → Nat :=
  let v304 : Index := Scalar.indexCast v279
  let c32_144 : Index := 32#32
  ![v304.toNat, 32]
def k1_off347 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_145 : BitVec 32 := 16#32
  let v306 : BitVec 32 := Scalar.muli arg18 c16_i32_145
  let c2_i32_146 : BitVec 32 := 2#32
  let v307 : BitVec 32 := Scalar.addi v306 c2_i32_146
  let v308 : Index := Scalar.indexCast v307
  let c32_147 : Index := 32#32
  ![v308.toNat, 32]
def k1_off348 (v279 : BitVec 32) : Fin 2 → Nat :=
  let v315 : Index := Scalar.indexCast v279
  let c48_149 : Index := 48#32
  ![v315.toNat, 48]
def k1_off349 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_150 : BitVec 32 := 16#32
  let v317 : BitVec 32 := Scalar.muli arg18 c16_i32_150
  let c2_i32_151 : BitVec 32 := 2#32
  let v318 : BitVec 32 := Scalar.addi v317 c2_i32_151
  let v319 : Index := Scalar.indexCast v318
  let c48_152 : Index := 48#32
  ![v319.toNat, 48]
def k1_off350 (v279 : BitVec 32) : Fin 2 → Nat :=
  let v326 : Index := Scalar.indexCast v279
  let c64_154 : Index := 64#32
  ![v326.toNat, 64]
def k1_off351 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_155 : BitVec 32 := 16#32
  let v328 : BitVec 32 := Scalar.muli arg18 c16_i32_155
  let c2_i32_156 : BitVec 32 := 2#32
  let v329 : BitVec 32 := Scalar.addi v328 c2_i32_156
  let v330 : Index := Scalar.indexCast v329
  let c64_157 : Index := 64#32
  ![v330.toNat, 64]
def k1_off352 (v279 : BitVec 32) : Fin 2 → Nat :=
  let v337 : Index := Scalar.indexCast v279
  let c80_159 : Index := 80#32
  ![v337.toNat, 80]
def k1_off353 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_160 : BitVec 32 := 16#32
  let v339 : BitVec 32 := Scalar.muli arg18 c16_i32_160
  let c2_i32_161 : BitVec 32 := 2#32
  let v340 : BitVec 32 := Scalar.addi v339 c2_i32_161
  let v341 : Index := Scalar.indexCast v340
  let c80_162 : Index := 80#32
  ![v341.toNat, 80]
def k1_off354 (v279 : BitVec 32) : Fin 2 → Nat :=
  let v348 : Index := Scalar.indexCast v279
  let c96_164 : Index := 96#32
  ![v348.toNat, 96]
def k1_off355 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_165 : BitVec 32 := 16#32
  let v350 : BitVec 32 := Scalar.muli arg18 c16_i32_165
  let c2_i32_166 : BitVec 32 := 2#32
  let v351 : BitVec 32 := Scalar.addi v350 c2_i32_166
  let v352 : Index := Scalar.indexCast v351
  let c96_167 : Index := 96#32
  ![v352.toNat, 96]
def k1_off356 (v279 : BitVec 32) : Fin 2 → Nat :=
  let v359 : Index := Scalar.indexCast v279
  let c112_169 : Index := 112#32
  ![v359.toNat, 112]

def k1_chk39 (i : grid1.Coords) (k1_t6 : Fin (k1_t6_loop i).trips) (v85 : BitVec 32) (v87 : BitVec 32) (v279 : BitVec 32) : Prop :=
  (∀ (k1_h7 : k1_cond7 i k1_t6 = 1#1), ∀ (k1_h10 : k1_cond10 v85 v87 = 1#1), ∀ a, (k1_off342 v279) a + S1x16.size a ≤ S256x128.size a) ∧
  (∀ (k1_h7 : k1_cond7 i k1_t6 = 1#1), ∀ (k1_h10 : k1_cond10 v85 v87 = 1#1), ∀ a, (k1_off344 v279) a + S1x16.size a ≤ S256x128.size a) ∧
  (∀ (k1_h7 : k1_cond7 i k1_t6 = 1#1), ∀ (k1_h10 : k1_cond10 v85 v87 = 1#1), ∀ a, (k1_off346 v279) a + S1x16.size a ≤ S256x128.size a) ∧
  (∀ (k1_h7 : k1_cond7 i k1_t6 = 1#1), ∀ (k1_h10 : k1_cond10 v85 v87 = 1#1), ∀ a, (k1_off348 v279) a + S1x16.size a ≤ S256x128.size a) ∧
  (∀ (k1_h7 : k1_cond7 i k1_t6 = 1#1), ∀ (k1_h10 : k1_cond10 v85 v87 = 1#1), ∀ a, (k1_off350 v279) a + S1x16.size a ≤ S256x128.size a) ∧
  (∀ (k1_h7 : k1_cond7 i k1_t6 = 1#1), ∀ (k1_h10 : k1_cond10 v85 v87 = 1#1), ∀ a, (k1_off352 v279) a + S1x16.size a ≤ S256x128.size a) ∧
  (∀ (k1_h7 : k1_cond7 i k1_t6 = 1#1), ∀ (k1_h10 : k1_cond10 v85 v87 = 1#1), ∀ a, (k1_off354 v279) a + S1x16.size a ≤ S256x128.size a) ∧
  (∀ (k1_h7 : k1_cond7 i k1_t6 = 1#1), ∀ (k1_h10 : k1_cond10 v85 v87 = 1#1), ∀ a, (k1_off356 v279) a + S1x16.size a ≤ S256x128.size a)
theorem k1_off342_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off342 v279) a + S1x16.size a ≤ S256x128.size a := fun i k1_t6 v85 v87 v279 k1_hw39 k1_h7 k1_h10 => k1_hw39.1 k1_h7 k1_h10
theorem k1_off344_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off344 v279) a + S1x16.size a ≤ S256x128.size a := fun i k1_t6 v85 v87 v279 k1_hw39 k1_h7 k1_h10 => k1_hw39.2.1 k1_h7 k1_h10
theorem k1_off346_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off346 v279) a + S1x16.size a ≤ S256x128.size a := fun i k1_t6 v85 v87 v279 k1_hw39 k1_h7 k1_h10 => k1_hw39.2.2.1 k1_h7 k1_h10
theorem k1_off348_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off348 v279) a + S1x16.size a ≤ S256x128.size a := fun i k1_t6 v85 v87 v279 k1_hw39 k1_h7 k1_h10 => k1_hw39.2.2.2.1 k1_h7 k1_h10
theorem k1_off350_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off350 v279) a + S1x16.size a ≤ S256x128.size a := fun i k1_t6 v85 v87 v279 k1_hw39 k1_h7 k1_h10 => k1_hw39.2.2.2.2.1 k1_h7 k1_h10
theorem k1_off352_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off352 v279) a + S1x16.size a ≤ S256x128.size a := fun i k1_t6 v85 v87 v279 k1_hw39 k1_h7 k1_h10 => k1_hw39.2.2.2.2.2.1 k1_h7 k1_h10
theorem k1_off354_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off354 v279) a + S1x16.size a ≤ S256x128.size a := fun i k1_t6 v85 v87 v279 k1_hw39 k1_h7 k1_h10 => k1_hw39.2.2.2.2.2.2.1 k1_h7 k1_h10
theorem k1_off356_inb : ∀ (i : grid1.Coords) (k1_t6 : Fin (k1_t6_loop i).trips) (v85 : BitVec 32) (v87 : BitVec 32) (v279 : BitVec 32) (k1_hw39 : k1_chk39 i k1_t6 v85 v87 v279), ∀ (k1_h7 : k1_cond7 i k1_t6 = 1#1), ∀ (k1_h10 : k1_cond10 v85 v87 = 1#1), ∀ a, (k1_off356 v279) a + S1x16.size a ≤ S256x128.size a := fun i k1_t6 v85 v87 v279 k1_hw39 k1_h7 k1_h10 => k1_hw39.2.2.2.2.2.2.2 k1_h7 k1_h10

def k1_off357 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_170 : BitVec 32 := 16#32
  let v361 : BitVec 32 := Scalar.muli arg18 c16_i32_170
  let c2_i32_171 : BitVec 32 := 2#32
  let v362 : BitVec 32 := Scalar.addi v361 c2_i32_171
  let v363 : Index := Scalar.indexCast v362
  let c112_172 : Index := 112#32
  ![v363.toNat, 112]
def k1_off358 (v371 : BitVec 32) : Fin 2 → Nat :=
  let v374 : Index := Scalar.indexCast v371
  let c0_174 : Index := 0#32
  ![v374.toNat, 0]

def k1_off359 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_175 : BitVec 32 := 16#32
  let v376 : BitVec 32 := Scalar.muli arg18 c16_i32_175
  let c3_i32 : BitVec 32 := 3#32
  let v377 : BitVec 32 := Scalar.addi v376 c3_i32
  let v378 : Index := Scalar.indexCast v377
  let c0_176 : Index := 0#32
  ![v378.toNat, 0]
def k1_off360 (v371 : BitVec 32) : Fin 2 → Nat :=
  let v385 : Index := Scalar.indexCast v371
  let c16_178 : Index := 16#32
  ![v385.toNat, 16]
def k1_off361 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_179 : BitVec 32 := 16#32
  let v387 : BitVec 32 := Scalar.muli arg18 c16_i32_179
  let c3_i32_180 : BitVec 32 := 3#32
  let v388 : BitVec 32 := Scalar.addi v387 c3_i32_180
  let v389 : Index := Scalar.indexCast v388
  let c16_181 : Index := 16#32
  ![v389.toNat, 16]
def k1_off362 (v371 : BitVec 32) : Fin 2 → Nat :=
  let v396 : Index := Scalar.indexCast v371
  let c32_183 : Index := 32#32
  ![v396.toNat, 32]
def k1_off363 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_184 : BitVec 32 := 16#32
  let v398 : BitVec 32 := Scalar.muli arg18 c16_i32_184
  let c3_i32_185 : BitVec 32 := 3#32
  let v399 : BitVec 32 := Scalar.addi v398 c3_i32_185
  let v400 : Index := Scalar.indexCast v399
  let c32_186 : Index := 32#32
  ![v400.toNat, 32]
def k1_off364 (v371 : BitVec 32) : Fin 2 → Nat :=
  let v407 : Index := Scalar.indexCast v371
  let c48_188 : Index := 48#32
  ![v407.toNat, 48]
def k1_off365 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_189 : BitVec 32 := 16#32
  let v409 : BitVec 32 := Scalar.muli arg18 c16_i32_189
  let c3_i32_190 : BitVec 32 := 3#32
  let v410 : BitVec 32 := Scalar.addi v409 c3_i32_190
  let v411 : Index := Scalar.indexCast v410
  let c48_191 : Index := 48#32
  ![v411.toNat, 48]
def k1_off366 (v371 : BitVec 32) : Fin 2 → Nat :=
  let v418 : Index := Scalar.indexCast v371
  let c64_193 : Index := 64#32
  ![v418.toNat, 64]
def k1_off367 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_194 : BitVec 32 := 16#32
  let v420 : BitVec 32 := Scalar.muli arg18 c16_i32_194
  let c3_i32_195 : BitVec 32 := 3#32
  let v421 : BitVec 32 := Scalar.addi v420 c3_i32_195
  let v422 : Index := Scalar.indexCast v421
  let c64_196 : Index := 64#32
  ![v422.toNat, 64]
def k1_off368 (v371 : BitVec 32) : Fin 2 → Nat :=
  let v429 : Index := Scalar.indexCast v371
  let c80_198 : Index := 80#32
  ![v429.toNat, 80]
def k1_off369 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_199 : BitVec 32 := 16#32
  let v431 : BitVec 32 := Scalar.muli arg18 c16_i32_199
  let c3_i32_200 : BitVec 32 := 3#32
  let v432 : BitVec 32 := Scalar.addi v431 c3_i32_200
  let v433 : Index := Scalar.indexCast v432
  let c80_201 : Index := 80#32
  ![v433.toNat, 80]
def k1_off370 (v371 : BitVec 32) : Fin 2 → Nat :=
  let v440 : Index := Scalar.indexCast v371
  let c96_203 : Index := 96#32
  ![v440.toNat, 96]
def k1_off371 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_204 : BitVec 32 := 16#32
  let v442 : BitVec 32 := Scalar.muli arg18 c16_i32_204
  let c3_i32_205 : BitVec 32 := 3#32
  let v443 : BitVec 32 := Scalar.addi v442 c3_i32_205
  let v444 : Index := Scalar.indexCast v443
  let c96_206 : Index := 96#32
  ![v444.toNat, 96]
def k1_off372 (v371 : BitVec 32) : Fin 2 → Nat :=
  let v451 : Index := Scalar.indexCast v371
  let c112_208 : Index := 112#32
  ![v451.toNat, 112]

def k1_chk40 (i : grid1.Coords) (k1_t6 : Fin (k1_t6_loop i).trips) (v85 : BitVec 32) (v87 : BitVec 32) (v371 : BitVec 32) : Prop :=
  (∀ (k1_h7 : k1_cond7 i k1_t6 = 1#1), ∀ (k1_h10 : k1_cond10 v85 v87 = 1#1), ∀ a, (k1_off358 v371) a + S1x16.size a ≤ S256x128.size a) ∧
  (∀ (k1_h7 : k1_cond7 i k1_t6 = 1#1), ∀ (k1_h10 : k1_cond10 v85 v87 = 1#1), ∀ a, (k1_off360 v371) a + S1x16.size a ≤ S256x128.size a) ∧
  (∀ (k1_h7 : k1_cond7 i k1_t6 = 1#1), ∀ (k1_h10 : k1_cond10 v85 v87 = 1#1), ∀ a, (k1_off362 v371) a + S1x16.size a ≤ S256x128.size a) ∧
  (∀ (k1_h7 : k1_cond7 i k1_t6 = 1#1), ∀ (k1_h10 : k1_cond10 v85 v87 = 1#1), ∀ a, (k1_off364 v371) a + S1x16.size a ≤ S256x128.size a) ∧
  (∀ (k1_h7 : k1_cond7 i k1_t6 = 1#1), ∀ (k1_h10 : k1_cond10 v85 v87 = 1#1), ∀ a, (k1_off366 v371) a + S1x16.size a ≤ S256x128.size a) ∧
  (∀ (k1_h7 : k1_cond7 i k1_t6 = 1#1), ∀ (k1_h10 : k1_cond10 v85 v87 = 1#1), ∀ a, (k1_off368 v371) a + S1x16.size a ≤ S256x128.size a) ∧
  (∀ (k1_h7 : k1_cond7 i k1_t6 = 1#1), ∀ (k1_h10 : k1_cond10 v85 v87 = 1#1), ∀ a, (k1_off370 v371) a + S1x16.size a ≤ S256x128.size a) ∧
  (∀ (k1_h7 : k1_cond7 i k1_t6 = 1#1), ∀ (k1_h10 : k1_cond10 v85 v87 = 1#1), ∀ a, (k1_off372 v371) a + S1x16.size a ≤ S256x128.size a)
theorem k1_off358_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off358 v371) a + S1x16.size a ≤ S256x128.size a := fun i k1_t6 v85 v87 v371 k1_hw40 k1_h7 k1_h10 => k1_hw40.1 k1_h7 k1_h10
theorem k1_off360_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off360 v371) a + S1x16.size a ≤ S256x128.size a := fun i k1_t6 v85 v87 v371 k1_hw40 k1_h7 k1_h10 => k1_hw40.2.1 k1_h7 k1_h10
theorem k1_off362_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off362 v371) a + S1x16.size a ≤ S256x128.size a := fun i k1_t6 v85 v87 v371 k1_hw40 k1_h7 k1_h10 => k1_hw40.2.2.1 k1_h7 k1_h10
theorem k1_off364_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off364 v371) a + S1x16.size a ≤ S256x128.size a := fun i k1_t6 v85 v87 v371 k1_hw40 k1_h7 k1_h10 => k1_hw40.2.2.2.1 k1_h7 k1_h10
theorem k1_off366_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off366 v371) a + S1x16.size a ≤ S256x128.size a := fun i k1_t6 v85 v87 v371 k1_hw40 k1_h7 k1_h10 => k1_hw40.2.2.2.2.1 k1_h7 k1_h10
theorem k1_off368_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off368 v371) a + S1x16.size a ≤ S256x128.size a := fun i k1_t6 v85 v87 v371 k1_hw40 k1_h7 k1_h10 => k1_hw40.2.2.2.2.2.1 k1_h7 k1_h10
theorem k1_off370_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off370 v371) a + S1x16.size a ≤ S256x128.size a := fun i k1_t6 v85 v87 v371 k1_hw40 k1_h7 k1_h10 => k1_hw40.2.2.2.2.2.2.1 k1_h7 k1_h10
theorem k1_off372_inb : ∀ (i : grid1.Coords) (k1_t6 : Fin (k1_t6_loop i).trips) (v85 : BitVec 32) (v87 : BitVec 32) (v371 : BitVec 32) (k1_hw40 : k1_chk40 i k1_t6 v85 v87 v371), ∀ (k1_h7 : k1_cond7 i k1_t6 = 1#1), ∀ (k1_h10 : k1_cond10 v85 v87 = 1#1), ∀ a, (k1_off372 v371) a + S1x16.size a ≤ S256x128.size a := fun i k1_t6 v85 v87 v371 k1_hw40 k1_h7 k1_h10 => k1_hw40.2.2.2.2.2.2.2 k1_h7 k1_h10

def k1_off373 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_209 : BitVec 32 := 16#32
  let v453 : BitVec 32 := Scalar.muli arg18 c16_i32_209
  let c3_i32_210 : BitVec 32 := 3#32
  let v454 : BitVec 32 := Scalar.addi v453 c3_i32_210
  let v455 : Index := Scalar.indexCast v454
  let c112_211 : Index := 112#32
  ![v455.toNat, 112]
def k1_off374 (v463 : BitVec 32) : Fin 2 → Nat :=
  let v466 : Index := Scalar.indexCast v463
  let c0_213 : Index := 0#32
  ![v466.toNat, 0]

def k1_off375 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_214 : BitVec 32 := 16#32
  let v468 : BitVec 32 := Scalar.muli arg18 c16_i32_214
  let c4_i32 : BitVec 32 := 4#32
  let v469 : BitVec 32 := Scalar.addi v468 c4_i32
  let v470 : Index := Scalar.indexCast v469
  let c0_215 : Index := 0#32
  ![v470.toNat, 0]
def k1_off376 (v463 : BitVec 32) : Fin 2 → Nat :=
  let v477 : Index := Scalar.indexCast v463
  let c16_217 : Index := 16#32
  ![v477.toNat, 16]
def k1_off377 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_218 : BitVec 32 := 16#32
  let v479 : BitVec 32 := Scalar.muli arg18 c16_i32_218
  let c4_i32_219 : BitVec 32 := 4#32
  let v480 : BitVec 32 := Scalar.addi v479 c4_i32_219
  let v481 : Index := Scalar.indexCast v480
  let c16_220 : Index := 16#32
  ![v481.toNat, 16]
def k1_off378 (v463 : BitVec 32) : Fin 2 → Nat :=
  let v488 : Index := Scalar.indexCast v463
  let c32_222 : Index := 32#32
  ![v488.toNat, 32]
def k1_off379 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_223 : BitVec 32 := 16#32
  let v490 : BitVec 32 := Scalar.muli arg18 c16_i32_223
  let c4_i32_224 : BitVec 32 := 4#32
  let v491 : BitVec 32 := Scalar.addi v490 c4_i32_224
  let v492 : Index := Scalar.indexCast v491
  let c32_225 : Index := 32#32
  ![v492.toNat, 32]
def k1_off380 (v463 : BitVec 32) : Fin 2 → Nat :=
  let v499 : Index := Scalar.indexCast v463
  let c48_227 : Index := 48#32
  ![v499.toNat, 48]
def k1_off381 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_228 : BitVec 32 := 16#32
  let v501 : BitVec 32 := Scalar.muli arg18 c16_i32_228
  let c4_i32_229 : BitVec 32 := 4#32
  let v502 : BitVec 32 := Scalar.addi v501 c4_i32_229
  let v503 : Index := Scalar.indexCast v502
  let c48_230 : Index := 48#32
  ![v503.toNat, 48]
def k1_off382 (v463 : BitVec 32) : Fin 2 → Nat :=
  let v510 : Index := Scalar.indexCast v463
  let c64_232 : Index := 64#32
  ![v510.toNat, 64]
def k1_off383 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_233 : BitVec 32 := 16#32
  let v512 : BitVec 32 := Scalar.muli arg18 c16_i32_233
  let c4_i32_234 : BitVec 32 := 4#32
  let v513 : BitVec 32 := Scalar.addi v512 c4_i32_234
  let v514 : Index := Scalar.indexCast v513
  let c64_235 : Index := 64#32
  ![v514.toNat, 64]
def k1_off384 (v463 : BitVec 32) : Fin 2 → Nat :=
  let v521 : Index := Scalar.indexCast v463
  let c80_237 : Index := 80#32
  ![v521.toNat, 80]
def k1_off385 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_238 : BitVec 32 := 16#32
  let v523 : BitVec 32 := Scalar.muli arg18 c16_i32_238
  let c4_i32_239 : BitVec 32 := 4#32
  let v524 : BitVec 32 := Scalar.addi v523 c4_i32_239
  let v525 : Index := Scalar.indexCast v524
  let c80_240 : Index := 80#32
  ![v525.toNat, 80]
def k1_off386 (v463 : BitVec 32) : Fin 2 → Nat :=
  let v532 : Index := Scalar.indexCast v463
  let c96_242 : Index := 96#32
  ![v532.toNat, 96]
def k1_off387 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_243 : BitVec 32 := 16#32
  let v534 : BitVec 32 := Scalar.muli arg18 c16_i32_243
  let c4_i32_244 : BitVec 32 := 4#32
  let v535 : BitVec 32 := Scalar.addi v534 c4_i32_244
  let v536 : Index := Scalar.indexCast v535
  let c96_245 : Index := 96#32
  ![v536.toNat, 96]
def k1_off388 (v463 : BitVec 32) : Fin 2 → Nat :=
  let v543 : Index := Scalar.indexCast v463
  let c112_247 : Index := 112#32
  ![v543.toNat, 112]

def k1_chk41 (i : grid1.Coords) (k1_t6 : Fin (k1_t6_loop i).trips) (v85 : BitVec 32) (v87 : BitVec 32) (v463 : BitVec 32) : Prop :=
  (∀ (k1_h7 : k1_cond7 i k1_t6 = 1#1), ∀ (k1_h10 : k1_cond10 v85 v87 = 1#1), ∀ a, (k1_off374 v463) a + S1x16.size a ≤ S256x128.size a) ∧
  (∀ (k1_h7 : k1_cond7 i k1_t6 = 1#1), ∀ (k1_h10 : k1_cond10 v85 v87 = 1#1), ∀ a, (k1_off376 v463) a + S1x16.size a ≤ S256x128.size a) ∧
  (∀ (k1_h7 : k1_cond7 i k1_t6 = 1#1), ∀ (k1_h10 : k1_cond10 v85 v87 = 1#1), ∀ a, (k1_off378 v463) a + S1x16.size a ≤ S256x128.size a) ∧
  (∀ (k1_h7 : k1_cond7 i k1_t6 = 1#1), ∀ (k1_h10 : k1_cond10 v85 v87 = 1#1), ∀ a, (k1_off380 v463) a + S1x16.size a ≤ S256x128.size a) ∧
  (∀ (k1_h7 : k1_cond7 i k1_t6 = 1#1), ∀ (k1_h10 : k1_cond10 v85 v87 = 1#1), ∀ a, (k1_off382 v463) a + S1x16.size a ≤ S256x128.size a) ∧
  (∀ (k1_h7 : k1_cond7 i k1_t6 = 1#1), ∀ (k1_h10 : k1_cond10 v85 v87 = 1#1), ∀ a, (k1_off384 v463) a + S1x16.size a ≤ S256x128.size a) ∧
  (∀ (k1_h7 : k1_cond7 i k1_t6 = 1#1), ∀ (k1_h10 : k1_cond10 v85 v87 = 1#1), ∀ a, (k1_off386 v463) a + S1x16.size a ≤ S256x128.size a) ∧
  (∀ (k1_h7 : k1_cond7 i k1_t6 = 1#1), ∀ (k1_h10 : k1_cond10 v85 v87 = 1#1), ∀ a, (k1_off388 v463) a + S1x16.size a ≤ S256x128.size a)
theorem k1_off374_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off374 v463) a + S1x16.size a ≤ S256x128.size a := fun i k1_t6 v85 v87 v463 k1_hw41 k1_h7 k1_h10 => k1_hw41.1 k1_h7 k1_h10
theorem k1_off376_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off376 v463) a + S1x16.size a ≤ S256x128.size a := fun i k1_t6 v85 v87 v463 k1_hw41 k1_h7 k1_h10 => k1_hw41.2.1 k1_h7 k1_h10
theorem k1_off378_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off378 v463) a + S1x16.size a ≤ S256x128.size a := fun i k1_t6 v85 v87 v463 k1_hw41 k1_h7 k1_h10 => k1_hw41.2.2.1 k1_h7 k1_h10
theorem k1_off380_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off380 v463) a + S1x16.size a ≤ S256x128.size a := fun i k1_t6 v85 v87 v463 k1_hw41 k1_h7 k1_h10 => k1_hw41.2.2.2.1 k1_h7 k1_h10
theorem k1_off382_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off382 v463) a + S1x16.size a ≤ S256x128.size a := fun i k1_t6 v85 v87 v463 k1_hw41 k1_h7 k1_h10 => k1_hw41.2.2.2.2.1 k1_h7 k1_h10
theorem k1_off384_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off384 v463) a + S1x16.size a ≤ S256x128.size a := fun i k1_t6 v85 v87 v463 k1_hw41 k1_h7 k1_h10 => k1_hw41.2.2.2.2.2.1 k1_h7 k1_h10
theorem k1_off386_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off386 v463) a + S1x16.size a ≤ S256x128.size a := fun i k1_t6 v85 v87 v463 k1_hw41 k1_h7 k1_h10 => k1_hw41.2.2.2.2.2.2.1 k1_h7 k1_h10
theorem k1_off388_inb : ∀ (i : grid1.Coords) (k1_t6 : Fin (k1_t6_loop i).trips) (v85 : BitVec 32) (v87 : BitVec 32) (v463 : BitVec 32) (k1_hw41 : k1_chk41 i k1_t6 v85 v87 v463), ∀ (k1_h7 : k1_cond7 i k1_t6 = 1#1), ∀ (k1_h10 : k1_cond10 v85 v87 = 1#1), ∀ a, (k1_off388 v463) a + S1x16.size a ≤ S256x128.size a := fun i k1_t6 v85 v87 v463 k1_hw41 k1_h7 k1_h10 => k1_hw41.2.2.2.2.2.2.2 k1_h7 k1_h10

def k1_off389 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_248 : BitVec 32 := 16#32
  let v545 : BitVec 32 := Scalar.muli arg18 c16_i32_248
  let c4_i32_249 : BitVec 32 := 4#32
  let v546 : BitVec 32 := Scalar.addi v545 c4_i32_249
  let v547 : Index := Scalar.indexCast v546
  let c112_250 : Index := 112#32
  ![v547.toNat, 112]
def k1_off390 (v555 : BitVec 32) : Fin 2 → Nat :=
  let v558 : Index := Scalar.indexCast v555
  let c0_252 : Index := 0#32
  ![v558.toNat, 0]

def k1_off391 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_253 : BitVec 32 := 16#32
  let v560 : BitVec 32 := Scalar.muli arg18 c16_i32_253
  let c5_i32 : BitVec 32 := 5#32
  let v561 : BitVec 32 := Scalar.addi v560 c5_i32
  let v562 : Index := Scalar.indexCast v561
  let c0_254 : Index := 0#32
  ![v562.toNat, 0]
def k1_off392 (v555 : BitVec 32) : Fin 2 → Nat :=
  let v569 : Index := Scalar.indexCast v555
  let c16_256 : Index := 16#32
  ![v569.toNat, 16]
def k1_off393 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_257 : BitVec 32 := 16#32
  let v571 : BitVec 32 := Scalar.muli arg18 c16_i32_257
  let c5_i32_258 : BitVec 32 := 5#32
  let v572 : BitVec 32 := Scalar.addi v571 c5_i32_258
  let v573 : Index := Scalar.indexCast v572
  let c16_259 : Index := 16#32
  ![v573.toNat, 16]
def k1_off394 (v555 : BitVec 32) : Fin 2 → Nat :=
  let v580 : Index := Scalar.indexCast v555
  let c32_261 : Index := 32#32
  ![v580.toNat, 32]
def k1_off395 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_262 : BitVec 32 := 16#32
  let v582 : BitVec 32 := Scalar.muli arg18 c16_i32_262
  let c5_i32_263 : BitVec 32 := 5#32
  let v583 : BitVec 32 := Scalar.addi v582 c5_i32_263
  let v584 : Index := Scalar.indexCast v583
  let c32_264 : Index := 32#32
  ![v584.toNat, 32]
def k1_off396 (v555 : BitVec 32) : Fin 2 → Nat :=
  let v591 : Index := Scalar.indexCast v555
  let c48_266 : Index := 48#32
  ![v591.toNat, 48]
def k1_off397 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_267 : BitVec 32 := 16#32
  let v593 : BitVec 32 := Scalar.muli arg18 c16_i32_267
  let c5_i32_268 : BitVec 32 := 5#32
  let v594 : BitVec 32 := Scalar.addi v593 c5_i32_268
  let v595 : Index := Scalar.indexCast v594
  let c48_269 : Index := 48#32
  ![v595.toNat, 48]
def k1_off398 (v555 : BitVec 32) : Fin 2 → Nat :=
  let v602 : Index := Scalar.indexCast v555
  let c64_271 : Index := 64#32
  ![v602.toNat, 64]
def k1_off399 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_272 : BitVec 32 := 16#32
  let v604 : BitVec 32 := Scalar.muli arg18 c16_i32_272
  let c5_i32_273 : BitVec 32 := 5#32
  let v605 : BitVec 32 := Scalar.addi v604 c5_i32_273
  let v606 : Index := Scalar.indexCast v605
  let c64_274 : Index := 64#32
  ![v606.toNat, 64]
def k1_off400 (v555 : BitVec 32) : Fin 2 → Nat :=
  let v613 : Index := Scalar.indexCast v555
  let c80_276 : Index := 80#32
  ![v613.toNat, 80]
def k1_off401 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_277 : BitVec 32 := 16#32
  let v615 : BitVec 32 := Scalar.muli arg18 c16_i32_277
  let c5_i32_278 : BitVec 32 := 5#32
  let v616 : BitVec 32 := Scalar.addi v615 c5_i32_278
  let v617 : Index := Scalar.indexCast v616
  let c80_279 : Index := 80#32
  ![v617.toNat, 80]
def k1_off402 (v555 : BitVec 32) : Fin 2 → Nat :=
  let v624 : Index := Scalar.indexCast v555
  let c96_281 : Index := 96#32
  ![v624.toNat, 96]
def k1_off403 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_282 : BitVec 32 := 16#32
  let v626 : BitVec 32 := Scalar.muli arg18 c16_i32_282
  let c5_i32_283 : BitVec 32 := 5#32
  let v627 : BitVec 32 := Scalar.addi v626 c5_i32_283
  let v628 : Index := Scalar.indexCast v627
  let c96_284 : Index := 96#32
  ![v628.toNat, 96]
def k1_off404 (v555 : BitVec 32) : Fin 2 → Nat :=
  let v635 : Index := Scalar.indexCast v555
  let c112_286 : Index := 112#32
  ![v635.toNat, 112]

def k1_chk42 (i : grid1.Coords) (k1_t6 : Fin (k1_t6_loop i).trips) (v85 : BitVec 32) (v87 : BitVec 32) (v555 : BitVec 32) : Prop :=
  (∀ (k1_h7 : k1_cond7 i k1_t6 = 1#1), ∀ (k1_h10 : k1_cond10 v85 v87 = 1#1), ∀ a, (k1_off390 v555) a + S1x16.size a ≤ S256x128.size a) ∧
  (∀ (k1_h7 : k1_cond7 i k1_t6 = 1#1), ∀ (k1_h10 : k1_cond10 v85 v87 = 1#1), ∀ a, (k1_off392 v555) a + S1x16.size a ≤ S256x128.size a) ∧
  (∀ (k1_h7 : k1_cond7 i k1_t6 = 1#1), ∀ (k1_h10 : k1_cond10 v85 v87 = 1#1), ∀ a, (k1_off394 v555) a + S1x16.size a ≤ S256x128.size a) ∧
  (∀ (k1_h7 : k1_cond7 i k1_t6 = 1#1), ∀ (k1_h10 : k1_cond10 v85 v87 = 1#1), ∀ a, (k1_off396 v555) a + S1x16.size a ≤ S256x128.size a) ∧
  (∀ (k1_h7 : k1_cond7 i k1_t6 = 1#1), ∀ (k1_h10 : k1_cond10 v85 v87 = 1#1), ∀ a, (k1_off398 v555) a + S1x16.size a ≤ S256x128.size a) ∧
  (∀ (k1_h7 : k1_cond7 i k1_t6 = 1#1), ∀ (k1_h10 : k1_cond10 v85 v87 = 1#1), ∀ a, (k1_off400 v555) a + S1x16.size a ≤ S256x128.size a) ∧
  (∀ (k1_h7 : k1_cond7 i k1_t6 = 1#1), ∀ (k1_h10 : k1_cond10 v85 v87 = 1#1), ∀ a, (k1_off402 v555) a + S1x16.size a ≤ S256x128.size a) ∧
  (∀ (k1_h7 : k1_cond7 i k1_t6 = 1#1), ∀ (k1_h10 : k1_cond10 v85 v87 = 1#1), ∀ a, (k1_off404 v555) a + S1x16.size a ≤ S256x128.size a)
theorem k1_off390_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off390 v555) a + S1x16.size a ≤ S256x128.size a := fun i k1_t6 v85 v87 v555 k1_hw42 k1_h7 k1_h10 => k1_hw42.1 k1_h7 k1_h10
theorem k1_off392_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off392 v555) a + S1x16.size a ≤ S256x128.size a := fun i k1_t6 v85 v87 v555 k1_hw42 k1_h7 k1_h10 => k1_hw42.2.1 k1_h7 k1_h10
theorem k1_off394_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off394 v555) a + S1x16.size a ≤ S256x128.size a := fun i k1_t6 v85 v87 v555 k1_hw42 k1_h7 k1_h10 => k1_hw42.2.2.1 k1_h7 k1_h10
theorem k1_off396_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off396 v555) a + S1x16.size a ≤ S256x128.size a := fun i k1_t6 v85 v87 v555 k1_hw42 k1_h7 k1_h10 => k1_hw42.2.2.2.1 k1_h7 k1_h10
theorem k1_off398_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off398 v555) a + S1x16.size a ≤ S256x128.size a := fun i k1_t6 v85 v87 v555 k1_hw42 k1_h7 k1_h10 => k1_hw42.2.2.2.2.1 k1_h7 k1_h10
theorem k1_off400_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off400 v555) a + S1x16.size a ≤ S256x128.size a := fun i k1_t6 v85 v87 v555 k1_hw42 k1_h7 k1_h10 => k1_hw42.2.2.2.2.2.1 k1_h7 k1_h10
theorem k1_off402_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off402 v555) a + S1x16.size a ≤ S256x128.size a := fun i k1_t6 v85 v87 v555 k1_hw42 k1_h7 k1_h10 => k1_hw42.2.2.2.2.2.2.1 k1_h7 k1_h10
theorem k1_off404_inb : ∀ (i : grid1.Coords) (k1_t6 : Fin (k1_t6_loop i).trips) (v85 : BitVec 32) (v87 : BitVec 32) (v555 : BitVec 32) (k1_hw42 : k1_chk42 i k1_t6 v85 v87 v555), ∀ (k1_h7 : k1_cond7 i k1_t6 = 1#1), ∀ (k1_h10 : k1_cond10 v85 v87 = 1#1), ∀ a, (k1_off404 v555) a + S1x16.size a ≤ S256x128.size a := fun i k1_t6 v85 v87 v555 k1_hw42 k1_h7 k1_h10 => k1_hw42.2.2.2.2.2.2.2 k1_h7 k1_h10

def k1_off405 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_287 : BitVec 32 := 16#32
  let v637 : BitVec 32 := Scalar.muli arg18 c16_i32_287
  let c5_i32_288 : BitVec 32 := 5#32
  let v638 : BitVec 32 := Scalar.addi v637 c5_i32_288
  let v639 : Index := Scalar.indexCast v638
  let c112_289 : Index := 112#32
  ![v639.toNat, 112]
def k1_off406 (v647 : BitVec 32) : Fin 2 → Nat :=
  let v650 : Index := Scalar.indexCast v647
  let c0_291 : Index := 0#32
  ![v650.toNat, 0]

def k1_off407 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_292 : BitVec 32 := 16#32
  let v652 : BitVec 32 := Scalar.muli arg18 c16_i32_292
  let c6_i32 : BitVec 32 := 6#32
  let v653 : BitVec 32 := Scalar.addi v652 c6_i32
  let v654 : Index := Scalar.indexCast v653
  let c0_293 : Index := 0#32
  ![v654.toNat, 0]
def k1_off408 (v647 : BitVec 32) : Fin 2 → Nat :=
  let v661 : Index := Scalar.indexCast v647
  let c16_295 : Index := 16#32
  ![v661.toNat, 16]
def k1_off409 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_296 : BitVec 32 := 16#32
  let v663 : BitVec 32 := Scalar.muli arg18 c16_i32_296
  let c6_i32_297 : BitVec 32 := 6#32
  let v664 : BitVec 32 := Scalar.addi v663 c6_i32_297
  let v665 : Index := Scalar.indexCast v664
  let c16_298 : Index := 16#32
  ![v665.toNat, 16]
def k1_off410 (v647 : BitVec 32) : Fin 2 → Nat :=
  let v672 : Index := Scalar.indexCast v647
  let c32_300 : Index := 32#32
  ![v672.toNat, 32]
def k1_off411 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_301 : BitVec 32 := 16#32
  let v674 : BitVec 32 := Scalar.muli arg18 c16_i32_301
  let c6_i32_302 : BitVec 32 := 6#32
  let v675 : BitVec 32 := Scalar.addi v674 c6_i32_302
  let v676 : Index := Scalar.indexCast v675
  let c32_303 : Index := 32#32
  ![v676.toNat, 32]
def k1_off412 (v647 : BitVec 32) : Fin 2 → Nat :=
  let v683 : Index := Scalar.indexCast v647
  let c48_305 : Index := 48#32
  ![v683.toNat, 48]
def k1_off413 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_306 : BitVec 32 := 16#32
  let v685 : BitVec 32 := Scalar.muli arg18 c16_i32_306
  let c6_i32_307 : BitVec 32 := 6#32
  let v686 : BitVec 32 := Scalar.addi v685 c6_i32_307
  let v687 : Index := Scalar.indexCast v686
  let c48_308 : Index := 48#32
  ![v687.toNat, 48]
def k1_off414 (v647 : BitVec 32) : Fin 2 → Nat :=
  let v694 : Index := Scalar.indexCast v647
  let c64_310 : Index := 64#32
  ![v694.toNat, 64]
def k1_off415 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_311 : BitVec 32 := 16#32
  let v696 : BitVec 32 := Scalar.muli arg18 c16_i32_311
  let c6_i32_312 : BitVec 32 := 6#32
  let v697 : BitVec 32 := Scalar.addi v696 c6_i32_312
  let v698 : Index := Scalar.indexCast v697
  let c64_313 : Index := 64#32
  ![v698.toNat, 64]
def k1_off416 (v647 : BitVec 32) : Fin 2 → Nat :=
  let v705 : Index := Scalar.indexCast v647
  let c80_315 : Index := 80#32
  ![v705.toNat, 80]
def k1_off417 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_316 : BitVec 32 := 16#32
  let v707 : BitVec 32 := Scalar.muli arg18 c16_i32_316
  let c6_i32_317 : BitVec 32 := 6#32
  let v708 : BitVec 32 := Scalar.addi v707 c6_i32_317
  let v709 : Index := Scalar.indexCast v708
  let c80_318 : Index := 80#32
  ![v709.toNat, 80]
def k1_off418 (v647 : BitVec 32) : Fin 2 → Nat :=
  let v716 : Index := Scalar.indexCast v647
  let c96_320 : Index := 96#32
  ![v716.toNat, 96]
def k1_off419 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_321 : BitVec 32 := 16#32
  let v718 : BitVec 32 := Scalar.muli arg18 c16_i32_321
  let c6_i32_322 : BitVec 32 := 6#32
  let v719 : BitVec 32 := Scalar.addi v718 c6_i32_322
  let v720 : Index := Scalar.indexCast v719
  let c96_323 : Index := 96#32
  ![v720.toNat, 96]
def k1_off420 (v647 : BitVec 32) : Fin 2 → Nat :=
  let v727 : Index := Scalar.indexCast v647
  let c112_325 : Index := 112#32
  ![v727.toNat, 112]

def k1_chk43 (i : grid1.Coords) (k1_t6 : Fin (k1_t6_loop i).trips) (v85 : BitVec 32) (v87 : BitVec 32) (v647 : BitVec 32) : Prop :=
  (∀ (k1_h7 : k1_cond7 i k1_t6 = 1#1), ∀ (k1_h10 : k1_cond10 v85 v87 = 1#1), ∀ a, (k1_off406 v647) a + S1x16.size a ≤ S256x128.size a) ∧
  (∀ (k1_h7 : k1_cond7 i k1_t6 = 1#1), ∀ (k1_h10 : k1_cond10 v85 v87 = 1#1), ∀ a, (k1_off408 v647) a + S1x16.size a ≤ S256x128.size a) ∧
  (∀ (k1_h7 : k1_cond7 i k1_t6 = 1#1), ∀ (k1_h10 : k1_cond10 v85 v87 = 1#1), ∀ a, (k1_off410 v647) a + S1x16.size a ≤ S256x128.size a) ∧
  (∀ (k1_h7 : k1_cond7 i k1_t6 = 1#1), ∀ (k1_h10 : k1_cond10 v85 v87 = 1#1), ∀ a, (k1_off412 v647) a + S1x16.size a ≤ S256x128.size a) ∧
  (∀ (k1_h7 : k1_cond7 i k1_t6 = 1#1), ∀ (k1_h10 : k1_cond10 v85 v87 = 1#1), ∀ a, (k1_off414 v647) a + S1x16.size a ≤ S256x128.size a) ∧
  (∀ (k1_h7 : k1_cond7 i k1_t6 = 1#1), ∀ (k1_h10 : k1_cond10 v85 v87 = 1#1), ∀ a, (k1_off416 v647) a + S1x16.size a ≤ S256x128.size a) ∧
  (∀ (k1_h7 : k1_cond7 i k1_t6 = 1#1), ∀ (k1_h10 : k1_cond10 v85 v87 = 1#1), ∀ a, (k1_off418 v647) a + S1x16.size a ≤ S256x128.size a) ∧
  (∀ (k1_h7 : k1_cond7 i k1_t6 = 1#1), ∀ (k1_h10 : k1_cond10 v85 v87 = 1#1), ∀ a, (k1_off420 v647) a + S1x16.size a ≤ S256x128.size a)
theorem k1_off406_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off406 v647) a + S1x16.size a ≤ S256x128.size a := fun i k1_t6 v85 v87 v647 k1_hw43 k1_h7 k1_h10 => k1_hw43.1 k1_h7 k1_h10
theorem k1_off408_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off408 v647) a + S1x16.size a ≤ S256x128.size a := fun i k1_t6 v85 v87 v647 k1_hw43 k1_h7 k1_h10 => k1_hw43.2.1 k1_h7 k1_h10
theorem k1_off410_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off410 v647) a + S1x16.size a ≤ S256x128.size a := fun i k1_t6 v85 v87 v647 k1_hw43 k1_h7 k1_h10 => k1_hw43.2.2.1 k1_h7 k1_h10
theorem k1_off412_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off412 v647) a + S1x16.size a ≤ S256x128.size a := fun i k1_t6 v85 v87 v647 k1_hw43 k1_h7 k1_h10 => k1_hw43.2.2.2.1 k1_h7 k1_h10
theorem k1_off414_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off414 v647) a + S1x16.size a ≤ S256x128.size a := fun i k1_t6 v85 v87 v647 k1_hw43 k1_h7 k1_h10 => k1_hw43.2.2.2.2.1 k1_h7 k1_h10
theorem k1_off416_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off416 v647) a + S1x16.size a ≤ S256x128.size a := fun i k1_t6 v85 v87 v647 k1_hw43 k1_h7 k1_h10 => k1_hw43.2.2.2.2.2.1 k1_h7 k1_h10
theorem k1_off418_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off418 v647) a + S1x16.size a ≤ S256x128.size a := fun i k1_t6 v85 v87 v647 k1_hw43 k1_h7 k1_h10 => k1_hw43.2.2.2.2.2.2.1 k1_h7 k1_h10
theorem k1_off420_inb : ∀ (i : grid1.Coords) (k1_t6 : Fin (k1_t6_loop i).trips) (v85 : BitVec 32) (v87 : BitVec 32) (v647 : BitVec 32) (k1_hw43 : k1_chk43 i k1_t6 v85 v87 v647), ∀ (k1_h7 : k1_cond7 i k1_t6 = 1#1), ∀ (k1_h10 : k1_cond10 v85 v87 = 1#1), ∀ a, (k1_off420 v647) a + S1x16.size a ≤ S256x128.size a := fun i k1_t6 v85 v87 v647 k1_hw43 k1_h7 k1_h10 => k1_hw43.2.2.2.2.2.2.2 k1_h7 k1_h10

def k1_off421 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_326 : BitVec 32 := 16#32
  let v729 : BitVec 32 := Scalar.muli arg18 c16_i32_326
  let c6_i32_327 : BitVec 32 := 6#32
  let v730 : BitVec 32 := Scalar.addi v729 c6_i32_327
  let v731 : Index := Scalar.indexCast v730
  let c112_328 : Index := 112#32
  ![v731.toNat, 112]
def k1_off422 (v739 : BitVec 32) : Fin 2 → Nat :=
  let v742 : Index := Scalar.indexCast v739
  let c0_330 : Index := 0#32
  ![v742.toNat, 0]

def k1_off423 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_331 : BitVec 32 := 16#32
  let v744 : BitVec 32 := Scalar.muli arg18 c16_i32_331
  let c7_i32_332 : BitVec 32 := 7#32
  let v745 : BitVec 32 := Scalar.addi v744 c7_i32_332
  let v746 : Index := Scalar.indexCast v745
  let c0_333 : Index := 0#32
  ![v746.toNat, 0]
def k1_off424 (v739 : BitVec 32) : Fin 2 → Nat :=
  let v753 : Index := Scalar.indexCast v739
  let c16_335 : Index := 16#32
  ![v753.toNat, 16]
def k1_off425 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_336 : BitVec 32 := 16#32
  let v755 : BitVec 32 := Scalar.muli arg18 c16_i32_336
  let c7_i32_337 : BitVec 32 := 7#32
  let v756 : BitVec 32 := Scalar.addi v755 c7_i32_337
  let v757 : Index := Scalar.indexCast v756
  let c16_338 : Index := 16#32
  ![v757.toNat, 16]
def k1_off426 (v739 : BitVec 32) : Fin 2 → Nat :=
  let v764 : Index := Scalar.indexCast v739
  let c32_340 : Index := 32#32
  ![v764.toNat, 32]
def k1_off427 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_341 : BitVec 32 := 16#32
  let v766 : BitVec 32 := Scalar.muli arg18 c16_i32_341
  let c7_i32_342 : BitVec 32 := 7#32
  let v767 : BitVec 32 := Scalar.addi v766 c7_i32_342
  let v768 : Index := Scalar.indexCast v767
  let c32_343 : Index := 32#32
  ![v768.toNat, 32]
def k1_off428 (v739 : BitVec 32) : Fin 2 → Nat :=
  let v775 : Index := Scalar.indexCast v739
  let c48_345 : Index := 48#32
  ![v775.toNat, 48]
def k1_off429 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_346 : BitVec 32 := 16#32
  let v777 : BitVec 32 := Scalar.muli arg18 c16_i32_346
  let c7_i32_347 : BitVec 32 := 7#32
  let v778 : BitVec 32 := Scalar.addi v777 c7_i32_347
  let v779 : Index := Scalar.indexCast v778
  let c48_348 : Index := 48#32
  ![v779.toNat, 48]
def k1_off430 (v739 : BitVec 32) : Fin 2 → Nat :=
  let v786 : Index := Scalar.indexCast v739
  let c64_350 : Index := 64#32
  ![v786.toNat, 64]
def k1_off431 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_351 : BitVec 32 := 16#32
  let v788 : BitVec 32 := Scalar.muli arg18 c16_i32_351
  let c7_i32_352 : BitVec 32 := 7#32
  let v789 : BitVec 32 := Scalar.addi v788 c7_i32_352
  let v790 : Index := Scalar.indexCast v789
  let c64_353 : Index := 64#32
  ![v790.toNat, 64]
def k1_off432 (v739 : BitVec 32) : Fin 2 → Nat :=
  let v797 : Index := Scalar.indexCast v739
  let c80_355 : Index := 80#32
  ![v797.toNat, 80]
def k1_off433 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_356 : BitVec 32 := 16#32
  let v799 : BitVec 32 := Scalar.muli arg18 c16_i32_356
  let c7_i32_357 : BitVec 32 := 7#32
  let v800 : BitVec 32 := Scalar.addi v799 c7_i32_357
  let v801 : Index := Scalar.indexCast v800
  let c80_358 : Index := 80#32
  ![v801.toNat, 80]
def k1_off434 (v739 : BitVec 32) : Fin 2 → Nat :=
  let v808 : Index := Scalar.indexCast v739
  let c96_360 : Index := 96#32
  ![v808.toNat, 96]
def k1_off435 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_361 : BitVec 32 := 16#32
  let v810 : BitVec 32 := Scalar.muli arg18 c16_i32_361
  let c7_i32_362 : BitVec 32 := 7#32
  let v811 : BitVec 32 := Scalar.addi v810 c7_i32_362
  let v812 : Index := Scalar.indexCast v811
  let c96_363 : Index := 96#32
  ![v812.toNat, 96]
def k1_off436 (v739 : BitVec 32) : Fin 2 → Nat :=
  let v819 : Index := Scalar.indexCast v739
  let c112_365 : Index := 112#32
  ![v819.toNat, 112]

def k1_chk44 (i : grid1.Coords) (k1_t6 : Fin (k1_t6_loop i).trips) (v85 : BitVec 32) (v87 : BitVec 32) (v739 : BitVec 32) : Prop :=
  (∀ (k1_h7 : k1_cond7 i k1_t6 = 1#1), ∀ (k1_h10 : k1_cond10 v85 v87 = 1#1), ∀ a, (k1_off422 v739) a + S1x16.size a ≤ S256x128.size a) ∧
  (∀ (k1_h7 : k1_cond7 i k1_t6 = 1#1), ∀ (k1_h10 : k1_cond10 v85 v87 = 1#1), ∀ a, (k1_off424 v739) a + S1x16.size a ≤ S256x128.size a) ∧
  (∀ (k1_h7 : k1_cond7 i k1_t6 = 1#1), ∀ (k1_h10 : k1_cond10 v85 v87 = 1#1), ∀ a, (k1_off426 v739) a + S1x16.size a ≤ S256x128.size a) ∧
  (∀ (k1_h7 : k1_cond7 i k1_t6 = 1#1), ∀ (k1_h10 : k1_cond10 v85 v87 = 1#1), ∀ a, (k1_off428 v739) a + S1x16.size a ≤ S256x128.size a) ∧
  (∀ (k1_h7 : k1_cond7 i k1_t6 = 1#1), ∀ (k1_h10 : k1_cond10 v85 v87 = 1#1), ∀ a, (k1_off430 v739) a + S1x16.size a ≤ S256x128.size a) ∧
  (∀ (k1_h7 : k1_cond7 i k1_t6 = 1#1), ∀ (k1_h10 : k1_cond10 v85 v87 = 1#1), ∀ a, (k1_off432 v739) a + S1x16.size a ≤ S256x128.size a) ∧
  (∀ (k1_h7 : k1_cond7 i k1_t6 = 1#1), ∀ (k1_h10 : k1_cond10 v85 v87 = 1#1), ∀ a, (k1_off434 v739) a + S1x16.size a ≤ S256x128.size a) ∧
  (∀ (k1_h7 : k1_cond7 i k1_t6 = 1#1), ∀ (k1_h10 : k1_cond10 v85 v87 = 1#1), ∀ a, (k1_off436 v739) a + S1x16.size a ≤ S256x128.size a)
theorem k1_off422_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off422 v739) a + S1x16.size a ≤ S256x128.size a := fun i k1_t6 v85 v87 v739 k1_hw44 k1_h7 k1_h10 => k1_hw44.1 k1_h7 k1_h10
theorem k1_off424_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off424 v739) a + S1x16.size a ≤ S256x128.size a := fun i k1_t6 v85 v87 v739 k1_hw44 k1_h7 k1_h10 => k1_hw44.2.1 k1_h7 k1_h10
theorem k1_off426_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off426 v739) a + S1x16.size a ≤ S256x128.size a := fun i k1_t6 v85 v87 v739 k1_hw44 k1_h7 k1_h10 => k1_hw44.2.2.1 k1_h7 k1_h10
theorem k1_off428_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off428 v739) a + S1x16.size a ≤ S256x128.size a := fun i k1_t6 v85 v87 v739 k1_hw44 k1_h7 k1_h10 => k1_hw44.2.2.2.1 k1_h7 k1_h10
theorem k1_off430_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off430 v739) a + S1x16.size a ≤ S256x128.size a := fun i k1_t6 v85 v87 v739 k1_hw44 k1_h7 k1_h10 => k1_hw44.2.2.2.2.1 k1_h7 k1_h10
theorem k1_off432_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off432 v739) a + S1x16.size a ≤ S256x128.size a := fun i k1_t6 v85 v87 v739 k1_hw44 k1_h7 k1_h10 => k1_hw44.2.2.2.2.2.1 k1_h7 k1_h10
theorem k1_off434_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off434 v739) a + S1x16.size a ≤ S256x128.size a := fun i k1_t6 v85 v87 v739 k1_hw44 k1_h7 k1_h10 => k1_hw44.2.2.2.2.2.2.1 k1_h7 k1_h10
theorem k1_off436_inb : ∀ (i : grid1.Coords) (k1_t6 : Fin (k1_t6_loop i).trips) (v85 : BitVec 32) (v87 : BitVec 32) (v739 : BitVec 32) (k1_hw44 : k1_chk44 i k1_t6 v85 v87 v739), ∀ (k1_h7 : k1_cond7 i k1_t6 = 1#1), ∀ (k1_h10 : k1_cond10 v85 v87 = 1#1), ∀ a, (k1_off436 v739) a + S1x16.size a ≤ S256x128.size a := fun i k1_t6 v85 v87 v739 k1_hw44 k1_h7 k1_h10 => k1_hw44.2.2.2.2.2.2.2 k1_h7 k1_h10

def k1_off437 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_366 : BitVec 32 := 16#32
  let v821 : BitVec 32 := Scalar.muli arg18 c16_i32_366
  let c7_i32_367 : BitVec 32 := 7#32
  let v822 : BitVec 32 := Scalar.addi v821 c7_i32_367
  let v823 : Index := Scalar.indexCast v822
  let c112_368 : Index := 112#32
  ![v823.toNat, 112]
def k1_off438 (v831 : BitVec 32) : Fin 2 → Nat :=
  let v834 : Index := Scalar.indexCast v831
  let c0_370 : Index := 0#32
  ![v834.toNat, 0]

def k1_off439 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_371 : BitVec 32 := 16#32
  let v836 : BitVec 32 := Scalar.muli arg18 c16_i32_371
  let c8_i32 : BitVec 32 := 8#32
  let v837 : BitVec 32 := Scalar.addi v836 c8_i32
  let v838 : Index := Scalar.indexCast v837
  let c0_372 : Index := 0#32
  ![v838.toNat, 0]
def k1_off440 (v831 : BitVec 32) : Fin 2 → Nat :=
  let v845 : Index := Scalar.indexCast v831
  let c16_374 : Index := 16#32
  ![v845.toNat, 16]
def k1_off441 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_375 : BitVec 32 := 16#32
  let v847 : BitVec 32 := Scalar.muli arg18 c16_i32_375
  let c8_i32_376 : BitVec 32 := 8#32
  let v848 : BitVec 32 := Scalar.addi v847 c8_i32_376
  let v849 : Index := Scalar.indexCast v848
  let c16_377 : Index := 16#32
  ![v849.toNat, 16]
def k1_off442 (v831 : BitVec 32) : Fin 2 → Nat :=
  let v856 : Index := Scalar.indexCast v831
  let c32_379 : Index := 32#32
  ![v856.toNat, 32]
def k1_off443 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_380 : BitVec 32 := 16#32
  let v858 : BitVec 32 := Scalar.muli arg18 c16_i32_380
  let c8_i32_381 : BitVec 32 := 8#32
  let v859 : BitVec 32 := Scalar.addi v858 c8_i32_381
  let v860 : Index := Scalar.indexCast v859
  let c32_382 : Index := 32#32
  ![v860.toNat, 32]
def k1_off444 (v831 : BitVec 32) : Fin 2 → Nat :=
  let v867 : Index := Scalar.indexCast v831
  let c48_384 : Index := 48#32
  ![v867.toNat, 48]
def k1_off445 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_385 : BitVec 32 := 16#32
  let v869 : BitVec 32 := Scalar.muli arg18 c16_i32_385
  let c8_i32_386 : BitVec 32 := 8#32
  let v870 : BitVec 32 := Scalar.addi v869 c8_i32_386
  let v871 : Index := Scalar.indexCast v870
  let c48_387 : Index := 48#32
  ![v871.toNat, 48]
def k1_off446 (v831 : BitVec 32) : Fin 2 → Nat :=
  let v878 : Index := Scalar.indexCast v831
  let c64_389 : Index := 64#32
  ![v878.toNat, 64]
def k1_off447 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_390 : BitVec 32 := 16#32
  let v880 : BitVec 32 := Scalar.muli arg18 c16_i32_390
  let c8_i32_391 : BitVec 32 := 8#32
  let v881 : BitVec 32 := Scalar.addi v880 c8_i32_391
  let v882 : Index := Scalar.indexCast v881
  let c64_392 : Index := 64#32
  ![v882.toNat, 64]
def k1_off448 (v831 : BitVec 32) : Fin 2 → Nat :=
  let v889 : Index := Scalar.indexCast v831
  let c80_394 : Index := 80#32
  ![v889.toNat, 80]
def k1_off449 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_395 : BitVec 32 := 16#32
  let v891 : BitVec 32 := Scalar.muli arg18 c16_i32_395
  let c8_i32_396 : BitVec 32 := 8#32
  let v892 : BitVec 32 := Scalar.addi v891 c8_i32_396
  let v893 : Index := Scalar.indexCast v892
  let c80_397 : Index := 80#32
  ![v893.toNat, 80]
def k1_off450 (v831 : BitVec 32) : Fin 2 → Nat :=
  let v900 : Index := Scalar.indexCast v831
  let c96_399 : Index := 96#32
  ![v900.toNat, 96]
def k1_off451 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_400 : BitVec 32 := 16#32
  let v902 : BitVec 32 := Scalar.muli arg18 c16_i32_400
  let c8_i32_401 : BitVec 32 := 8#32
  let v903 : BitVec 32 := Scalar.addi v902 c8_i32_401
  let v904 : Index := Scalar.indexCast v903
  let c96_402 : Index := 96#32
  ![v904.toNat, 96]
def k1_off452 (v831 : BitVec 32) : Fin 2 → Nat :=
  let v911 : Index := Scalar.indexCast v831
  let c112_404 : Index := 112#32
  ![v911.toNat, 112]

def k1_chk45 (i : grid1.Coords) (k1_t6 : Fin (k1_t6_loop i).trips) (v85 : BitVec 32) (v87 : BitVec 32) (v831 : BitVec 32) : Prop :=
  (∀ (k1_h7 : k1_cond7 i k1_t6 = 1#1), ∀ (k1_h10 : k1_cond10 v85 v87 = 1#1), ∀ a, (k1_off438 v831) a + S1x16.size a ≤ S256x128.size a) ∧
  (∀ (k1_h7 : k1_cond7 i k1_t6 = 1#1), ∀ (k1_h10 : k1_cond10 v85 v87 = 1#1), ∀ a, (k1_off440 v831) a + S1x16.size a ≤ S256x128.size a) ∧
  (∀ (k1_h7 : k1_cond7 i k1_t6 = 1#1), ∀ (k1_h10 : k1_cond10 v85 v87 = 1#1), ∀ a, (k1_off442 v831) a + S1x16.size a ≤ S256x128.size a) ∧
  (∀ (k1_h7 : k1_cond7 i k1_t6 = 1#1), ∀ (k1_h10 : k1_cond10 v85 v87 = 1#1), ∀ a, (k1_off444 v831) a + S1x16.size a ≤ S256x128.size a) ∧
  (∀ (k1_h7 : k1_cond7 i k1_t6 = 1#1), ∀ (k1_h10 : k1_cond10 v85 v87 = 1#1), ∀ a, (k1_off446 v831) a + S1x16.size a ≤ S256x128.size a) ∧
  (∀ (k1_h7 : k1_cond7 i k1_t6 = 1#1), ∀ (k1_h10 : k1_cond10 v85 v87 = 1#1), ∀ a, (k1_off448 v831) a + S1x16.size a ≤ S256x128.size a) ∧
  (∀ (k1_h7 : k1_cond7 i k1_t6 = 1#1), ∀ (k1_h10 : k1_cond10 v85 v87 = 1#1), ∀ a, (k1_off450 v831) a + S1x16.size a ≤ S256x128.size a) ∧
  (∀ (k1_h7 : k1_cond7 i k1_t6 = 1#1), ∀ (k1_h10 : k1_cond10 v85 v87 = 1#1), ∀ a, (k1_off452 v831) a + S1x16.size a ≤ S256x128.size a)
theorem k1_off438_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off438 v831) a + S1x16.size a ≤ S256x128.size a := fun i k1_t6 v85 v87 v831 k1_hw45 k1_h7 k1_h10 => k1_hw45.1 k1_h7 k1_h10
theorem k1_off440_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off440 v831) a + S1x16.size a ≤ S256x128.size a := fun i k1_t6 v85 v87 v831 k1_hw45 k1_h7 k1_h10 => k1_hw45.2.1 k1_h7 k1_h10
theorem k1_off442_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off442 v831) a + S1x16.size a ≤ S256x128.size a := fun i k1_t6 v85 v87 v831 k1_hw45 k1_h7 k1_h10 => k1_hw45.2.2.1 k1_h7 k1_h10
theorem k1_off444_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off444 v831) a + S1x16.size a ≤ S256x128.size a := fun i k1_t6 v85 v87 v831 k1_hw45 k1_h7 k1_h10 => k1_hw45.2.2.2.1 k1_h7 k1_h10
theorem k1_off446_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off446 v831) a + S1x16.size a ≤ S256x128.size a := fun i k1_t6 v85 v87 v831 k1_hw45 k1_h7 k1_h10 => k1_hw45.2.2.2.2.1 k1_h7 k1_h10
theorem k1_off448_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off448 v831) a + S1x16.size a ≤ S256x128.size a := fun i k1_t6 v85 v87 v831 k1_hw45 k1_h7 k1_h10 => k1_hw45.2.2.2.2.2.1 k1_h7 k1_h10
theorem k1_off450_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off450 v831) a + S1x16.size a ≤ S256x128.size a := fun i k1_t6 v85 v87 v831 k1_hw45 k1_h7 k1_h10 => k1_hw45.2.2.2.2.2.2.1 k1_h7 k1_h10
theorem k1_off452_inb : ∀ (i : grid1.Coords) (k1_t6 : Fin (k1_t6_loop i).trips) (v85 : BitVec 32) (v87 : BitVec 32) (v831 : BitVec 32) (k1_hw45 : k1_chk45 i k1_t6 v85 v87 v831), ∀ (k1_h7 : k1_cond7 i k1_t6 = 1#1), ∀ (k1_h10 : k1_cond10 v85 v87 = 1#1), ∀ a, (k1_off452 v831) a + S1x16.size a ≤ S256x128.size a := fun i k1_t6 v85 v87 v831 k1_hw45 k1_h7 k1_h10 => k1_hw45.2.2.2.2.2.2.2 k1_h7 k1_h10

def k1_off453 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_405 : BitVec 32 := 16#32
  let v913 : BitVec 32 := Scalar.muli arg18 c16_i32_405
  let c8_i32_406 : BitVec 32 := 8#32
  let v914 : BitVec 32 := Scalar.addi v913 c8_i32_406
  let v915 : Index := Scalar.indexCast v914
  let c112_407 : Index := 112#32
  ![v915.toNat, 112]
def k1_off454 (v923 : BitVec 32) : Fin 2 → Nat :=
  let v926 : Index := Scalar.indexCast v923
  let c0_409 : Index := 0#32
  ![v926.toNat, 0]

def k1_off455 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_410 : BitVec 32 := 16#32
  let v928 : BitVec 32 := Scalar.muli arg18 c16_i32_410
  let c9_i32 : BitVec 32 := 9#32
  let v929 : BitVec 32 := Scalar.addi v928 c9_i32
  let v930 : Index := Scalar.indexCast v929
  let c0_411 : Index := 0#32
  ![v930.toNat, 0]
def k1_off456 (v923 : BitVec 32) : Fin 2 → Nat :=
  let v937 : Index := Scalar.indexCast v923
  let c16_413 : Index := 16#32
  ![v937.toNat, 16]
def k1_off457 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_414 : BitVec 32 := 16#32
  let v939 : BitVec 32 := Scalar.muli arg18 c16_i32_414
  let c9_i32_415 : BitVec 32 := 9#32
  let v940 : BitVec 32 := Scalar.addi v939 c9_i32_415
  let v941 : Index := Scalar.indexCast v940
  let c16_416 : Index := 16#32
  ![v941.toNat, 16]
def k1_off458 (v923 : BitVec 32) : Fin 2 → Nat :=
  let v948 : Index := Scalar.indexCast v923
  let c32_418 : Index := 32#32
  ![v948.toNat, 32]
def k1_off459 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_419 : BitVec 32 := 16#32
  let v950 : BitVec 32 := Scalar.muli arg18 c16_i32_419
  let c9_i32_420 : BitVec 32 := 9#32
  let v951 : BitVec 32 := Scalar.addi v950 c9_i32_420
  let v952 : Index := Scalar.indexCast v951
  let c32_421 : Index := 32#32
  ![v952.toNat, 32]
def k1_off460 (v923 : BitVec 32) : Fin 2 → Nat :=
  let v959 : Index := Scalar.indexCast v923
  let c48_423 : Index := 48#32
  ![v959.toNat, 48]
def k1_off461 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_424 : BitVec 32 := 16#32
  let v961 : BitVec 32 := Scalar.muli arg18 c16_i32_424
  let c9_i32_425 : BitVec 32 := 9#32
  let v962 : BitVec 32 := Scalar.addi v961 c9_i32_425
  let v963 : Index := Scalar.indexCast v962
  let c48_426 : Index := 48#32
  ![v963.toNat, 48]
def k1_off462 (v923 : BitVec 32) : Fin 2 → Nat :=
  let v970 : Index := Scalar.indexCast v923
  let c64_428 : Index := 64#32
  ![v970.toNat, 64]
def k1_off463 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_429 : BitVec 32 := 16#32
  let v972 : BitVec 32 := Scalar.muli arg18 c16_i32_429
  let c9_i32_430 : BitVec 32 := 9#32
  let v973 : BitVec 32 := Scalar.addi v972 c9_i32_430
  let v974 : Index := Scalar.indexCast v973
  let c64_431 : Index := 64#32
  ![v974.toNat, 64]
def k1_off464 (v923 : BitVec 32) : Fin 2 → Nat :=
  let v981 : Index := Scalar.indexCast v923
  let c80_433 : Index := 80#32
  ![v981.toNat, 80]
def k1_off465 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_434 : BitVec 32 := 16#32
  let v983 : BitVec 32 := Scalar.muli arg18 c16_i32_434
  let c9_i32_435 : BitVec 32 := 9#32
  let v984 : BitVec 32 := Scalar.addi v983 c9_i32_435
  let v985 : Index := Scalar.indexCast v984
  let c80_436 : Index := 80#32
  ![v985.toNat, 80]
def k1_off466 (v923 : BitVec 32) : Fin 2 → Nat :=
  let v992 : Index := Scalar.indexCast v923
  let c96_438 : Index := 96#32
  ![v992.toNat, 96]
def k1_off467 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_439 : BitVec 32 := 16#32
  let v994 : BitVec 32 := Scalar.muli arg18 c16_i32_439
  let c9_i32_440 : BitVec 32 := 9#32
  let v995 : BitVec 32 := Scalar.addi v994 c9_i32_440
  let v996 : Index := Scalar.indexCast v995
  let c96_441 : Index := 96#32
  ![v996.toNat, 96]
def k1_off468 (v923 : BitVec 32) : Fin 2 → Nat :=
  let v1003 : Index := Scalar.indexCast v923
  let c112_443 : Index := 112#32
  ![v1003.toNat, 112]

def k1_chk46 (i : grid1.Coords) (k1_t6 : Fin (k1_t6_loop i).trips) (v85 : BitVec 32) (v87 : BitVec 32) (v923 : BitVec 32) : Prop :=
  (∀ (k1_h7 : k1_cond7 i k1_t6 = 1#1), ∀ (k1_h10 : k1_cond10 v85 v87 = 1#1), ∀ a, (k1_off454 v923) a + S1x16.size a ≤ S256x128.size a) ∧
  (∀ (k1_h7 : k1_cond7 i k1_t6 = 1#1), ∀ (k1_h10 : k1_cond10 v85 v87 = 1#1), ∀ a, (k1_off456 v923) a + S1x16.size a ≤ S256x128.size a) ∧
  (∀ (k1_h7 : k1_cond7 i k1_t6 = 1#1), ∀ (k1_h10 : k1_cond10 v85 v87 = 1#1), ∀ a, (k1_off458 v923) a + S1x16.size a ≤ S256x128.size a) ∧
  (∀ (k1_h7 : k1_cond7 i k1_t6 = 1#1), ∀ (k1_h10 : k1_cond10 v85 v87 = 1#1), ∀ a, (k1_off460 v923) a + S1x16.size a ≤ S256x128.size a) ∧
  (∀ (k1_h7 : k1_cond7 i k1_t6 = 1#1), ∀ (k1_h10 : k1_cond10 v85 v87 = 1#1), ∀ a, (k1_off462 v923) a + S1x16.size a ≤ S256x128.size a) ∧
  (∀ (k1_h7 : k1_cond7 i k1_t6 = 1#1), ∀ (k1_h10 : k1_cond10 v85 v87 = 1#1), ∀ a, (k1_off464 v923) a + S1x16.size a ≤ S256x128.size a) ∧
  (∀ (k1_h7 : k1_cond7 i k1_t6 = 1#1), ∀ (k1_h10 : k1_cond10 v85 v87 = 1#1), ∀ a, (k1_off466 v923) a + S1x16.size a ≤ S256x128.size a) ∧
  (∀ (k1_h7 : k1_cond7 i k1_t6 = 1#1), ∀ (k1_h10 : k1_cond10 v85 v87 = 1#1), ∀ a, (k1_off468 v923) a + S1x16.size a ≤ S256x128.size a)
theorem k1_off454_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off454 v923) a + S1x16.size a ≤ S256x128.size a := fun i k1_t6 v85 v87 v923 k1_hw46 k1_h7 k1_h10 => k1_hw46.1 k1_h7 k1_h10
theorem k1_off456_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off456 v923) a + S1x16.size a ≤ S256x128.size a := fun i k1_t6 v85 v87 v923 k1_hw46 k1_h7 k1_h10 => k1_hw46.2.1 k1_h7 k1_h10
theorem k1_off458_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off458 v923) a + S1x16.size a ≤ S256x128.size a := fun i k1_t6 v85 v87 v923 k1_hw46 k1_h7 k1_h10 => k1_hw46.2.2.1 k1_h7 k1_h10
theorem k1_off460_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off460 v923) a + S1x16.size a ≤ S256x128.size a := fun i k1_t6 v85 v87 v923 k1_hw46 k1_h7 k1_h10 => k1_hw46.2.2.2.1 k1_h7 k1_h10
theorem k1_off462_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off462 v923) a + S1x16.size a ≤ S256x128.size a := fun i k1_t6 v85 v87 v923 k1_hw46 k1_h7 k1_h10 => k1_hw46.2.2.2.2.1 k1_h7 k1_h10
theorem k1_off464_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off464 v923) a + S1x16.size a ≤ S256x128.size a := fun i k1_t6 v85 v87 v923 k1_hw46 k1_h7 k1_h10 => k1_hw46.2.2.2.2.2.1 k1_h7 k1_h10
theorem k1_off466_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off466 v923) a + S1x16.size a ≤ S256x128.size a := fun i k1_t6 v85 v87 v923 k1_hw46 k1_h7 k1_h10 => k1_hw46.2.2.2.2.2.2.1 k1_h7 k1_h10
theorem k1_off468_inb : ∀ (i : grid1.Coords) (k1_t6 : Fin (k1_t6_loop i).trips) (v85 : BitVec 32) (v87 : BitVec 32) (v923 : BitVec 32) (k1_hw46 : k1_chk46 i k1_t6 v85 v87 v923), ∀ (k1_h7 : k1_cond7 i k1_t6 = 1#1), ∀ (k1_h10 : k1_cond10 v85 v87 = 1#1), ∀ a, (k1_off468 v923) a + S1x16.size a ≤ S256x128.size a := fun i k1_t6 v85 v87 v923 k1_hw46 k1_h7 k1_h10 => k1_hw46.2.2.2.2.2.2.2 k1_h7 k1_h10

def k1_off469 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_444 : BitVec 32 := 16#32
  let v1005 : BitVec 32 := Scalar.muli arg18 c16_i32_444
  let c9_i32_445 : BitVec 32 := 9#32
  let v1006 : BitVec 32 := Scalar.addi v1005 c9_i32_445
  let v1007 : Index := Scalar.indexCast v1006
  let c112_446 : Index := 112#32
  ![v1007.toNat, 112]
def k1_off470 (v1015 : BitVec 32) : Fin 2 → Nat :=
  let v1018 : Index := Scalar.indexCast v1015
  let c0_448 : Index := 0#32
  ![v1018.toNat, 0]

def k1_off471 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_449 : BitVec 32 := 16#32
  let v1020 : BitVec 32 := Scalar.muli arg18 c16_i32_449
  let c10_i32 : BitVec 32 := 10#32
  let v1021 : BitVec 32 := Scalar.addi v1020 c10_i32
  let v1022 : Index := Scalar.indexCast v1021
  let c0_450 : Index := 0#32
  ![v1022.toNat, 0]
def k1_off472 (v1015 : BitVec 32) : Fin 2 → Nat :=
  let v1029 : Index := Scalar.indexCast v1015
  let c16_452 : Index := 16#32
  ![v1029.toNat, 16]
def k1_off473 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_453 : BitVec 32 := 16#32
  let v1031 : BitVec 32 := Scalar.muli arg18 c16_i32_453
  let c10_i32_454 : BitVec 32 := 10#32
  let v1032 : BitVec 32 := Scalar.addi v1031 c10_i32_454
  let v1033 : Index := Scalar.indexCast v1032
  let c16_455 : Index := 16#32
  ![v1033.toNat, 16]
def k1_off474 (v1015 : BitVec 32) : Fin 2 → Nat :=
  let v1040 : Index := Scalar.indexCast v1015
  let c32_457 : Index := 32#32
  ![v1040.toNat, 32]
def k1_off475 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_458 : BitVec 32 := 16#32
  let v1042 : BitVec 32 := Scalar.muli arg18 c16_i32_458
  let c10_i32_459 : BitVec 32 := 10#32
  let v1043 : BitVec 32 := Scalar.addi v1042 c10_i32_459
  let v1044 : Index := Scalar.indexCast v1043
  let c32_460 : Index := 32#32
  ![v1044.toNat, 32]
def k1_off476 (v1015 : BitVec 32) : Fin 2 → Nat :=
  let v1051 : Index := Scalar.indexCast v1015
  let c48_462 : Index := 48#32
  ![v1051.toNat, 48]
def k1_off477 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_463 : BitVec 32 := 16#32
  let v1053 : BitVec 32 := Scalar.muli arg18 c16_i32_463
  let c10_i32_464 : BitVec 32 := 10#32
  let v1054 : BitVec 32 := Scalar.addi v1053 c10_i32_464
  let v1055 : Index := Scalar.indexCast v1054
  let c48_465 : Index := 48#32
  ![v1055.toNat, 48]
def k1_off478 (v1015 : BitVec 32) : Fin 2 → Nat :=
  let v1062 : Index := Scalar.indexCast v1015
  let c64_467 : Index := 64#32
  ![v1062.toNat, 64]
def k1_off479 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_468 : BitVec 32 := 16#32
  let v1064 : BitVec 32 := Scalar.muli arg18 c16_i32_468
  let c10_i32_469 : BitVec 32 := 10#32
  let v1065 : BitVec 32 := Scalar.addi v1064 c10_i32_469
  let v1066 : Index := Scalar.indexCast v1065
  let c64_470 : Index := 64#32
  ![v1066.toNat, 64]
def k1_off480 (v1015 : BitVec 32) : Fin 2 → Nat :=
  let v1073 : Index := Scalar.indexCast v1015
  let c80_472 : Index := 80#32
  ![v1073.toNat, 80]
def k1_off481 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_473 : BitVec 32 := 16#32
  let v1075 : BitVec 32 := Scalar.muli arg18 c16_i32_473
  let c10_i32_474 : BitVec 32 := 10#32
  let v1076 : BitVec 32 := Scalar.addi v1075 c10_i32_474
  let v1077 : Index := Scalar.indexCast v1076
  let c80_475 : Index := 80#32
  ![v1077.toNat, 80]
def k1_off482 (v1015 : BitVec 32) : Fin 2 → Nat :=
  let v1084 : Index := Scalar.indexCast v1015
  let c96_477 : Index := 96#32
  ![v1084.toNat, 96]
def k1_off483 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_478 : BitVec 32 := 16#32
  let v1086 : BitVec 32 := Scalar.muli arg18 c16_i32_478
  let c10_i32_479 : BitVec 32 := 10#32
  let v1087 : BitVec 32 := Scalar.addi v1086 c10_i32_479
  let v1088 : Index := Scalar.indexCast v1087
  let c96_480 : Index := 96#32
  ![v1088.toNat, 96]
def k1_off484 (v1015 : BitVec 32) : Fin 2 → Nat :=
  let v1095 : Index := Scalar.indexCast v1015
  let c112_482 : Index := 112#32
  ![v1095.toNat, 112]

def k1_chk47 (i : grid1.Coords) (k1_t6 : Fin (k1_t6_loop i).trips) (v85 : BitVec 32) (v87 : BitVec 32) (v1015 : BitVec 32) : Prop :=
  (∀ (k1_h7 : k1_cond7 i k1_t6 = 1#1), ∀ (k1_h10 : k1_cond10 v85 v87 = 1#1), ∀ a, (k1_off470 v1015) a + S1x16.size a ≤ S256x128.size a) ∧
  (∀ (k1_h7 : k1_cond7 i k1_t6 = 1#1), ∀ (k1_h10 : k1_cond10 v85 v87 = 1#1), ∀ a, (k1_off472 v1015) a + S1x16.size a ≤ S256x128.size a) ∧
  (∀ (k1_h7 : k1_cond7 i k1_t6 = 1#1), ∀ (k1_h10 : k1_cond10 v85 v87 = 1#1), ∀ a, (k1_off474 v1015) a + S1x16.size a ≤ S256x128.size a) ∧
  (∀ (k1_h7 : k1_cond7 i k1_t6 = 1#1), ∀ (k1_h10 : k1_cond10 v85 v87 = 1#1), ∀ a, (k1_off476 v1015) a + S1x16.size a ≤ S256x128.size a) ∧
  (∀ (k1_h7 : k1_cond7 i k1_t6 = 1#1), ∀ (k1_h10 : k1_cond10 v85 v87 = 1#1), ∀ a, (k1_off478 v1015) a + S1x16.size a ≤ S256x128.size a) ∧
  (∀ (k1_h7 : k1_cond7 i k1_t6 = 1#1), ∀ (k1_h10 : k1_cond10 v85 v87 = 1#1), ∀ a, (k1_off480 v1015) a + S1x16.size a ≤ S256x128.size a) ∧
  (∀ (k1_h7 : k1_cond7 i k1_t6 = 1#1), ∀ (k1_h10 : k1_cond10 v85 v87 = 1#1), ∀ a, (k1_off482 v1015) a + S1x16.size a ≤ S256x128.size a) ∧
  (∀ (k1_h7 : k1_cond7 i k1_t6 = 1#1), ∀ (k1_h10 : k1_cond10 v85 v87 = 1#1), ∀ a, (k1_off484 v1015) a + S1x16.size a ≤ S256x128.size a)
theorem k1_off470_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off470 v1015) a + S1x16.size a ≤ S256x128.size a := fun i k1_t6 v85 v87 v1015 k1_hw47 k1_h7 k1_h10 => k1_hw47.1 k1_h7 k1_h10
theorem k1_off472_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off472 v1015) a + S1x16.size a ≤ S256x128.size a := fun i k1_t6 v85 v87 v1015 k1_hw47 k1_h7 k1_h10 => k1_hw47.2.1 k1_h7 k1_h10
theorem k1_off474_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off474 v1015) a + S1x16.size a ≤ S256x128.size a := fun i k1_t6 v85 v87 v1015 k1_hw47 k1_h7 k1_h10 => k1_hw47.2.2.1 k1_h7 k1_h10
theorem k1_off476_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off476 v1015) a + S1x16.size a ≤ S256x128.size a := fun i k1_t6 v85 v87 v1015 k1_hw47 k1_h7 k1_h10 => k1_hw47.2.2.2.1 k1_h7 k1_h10
theorem k1_off478_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off478 v1015) a + S1x16.size a ≤ S256x128.size a := fun i k1_t6 v85 v87 v1015 k1_hw47 k1_h7 k1_h10 => k1_hw47.2.2.2.2.1 k1_h7 k1_h10
theorem k1_off480_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off480 v1015) a + S1x16.size a ≤ S256x128.size a := fun i k1_t6 v85 v87 v1015 k1_hw47 k1_h7 k1_h10 => k1_hw47.2.2.2.2.2.1 k1_h7 k1_h10
theorem k1_off482_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off482 v1015) a + S1x16.size a ≤ S256x128.size a := fun i k1_t6 v85 v87 v1015 k1_hw47 k1_h7 k1_h10 => k1_hw47.2.2.2.2.2.2.1 k1_h7 k1_h10
theorem k1_off484_inb : ∀ (i : grid1.Coords) (k1_t6 : Fin (k1_t6_loop i).trips) (v85 : BitVec 32) (v87 : BitVec 32) (v1015 : BitVec 32) (k1_hw47 : k1_chk47 i k1_t6 v85 v87 v1015), ∀ (k1_h7 : k1_cond7 i k1_t6 = 1#1), ∀ (k1_h10 : k1_cond10 v85 v87 = 1#1), ∀ a, (k1_off484 v1015) a + S1x16.size a ≤ S256x128.size a := fun i k1_t6 v85 v87 v1015 k1_hw47 k1_h7 k1_h10 => k1_hw47.2.2.2.2.2.2.2 k1_h7 k1_h10

def k1_off485 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_483 : BitVec 32 := 16#32
  let v1097 : BitVec 32 := Scalar.muli arg18 c16_i32_483
  let c10_i32_484 : BitVec 32 := 10#32
  let v1098 : BitVec 32 := Scalar.addi v1097 c10_i32_484
  let v1099 : Index := Scalar.indexCast v1098
  let c112_485 : Index := 112#32
  ![v1099.toNat, 112]
def k1_off486 (v1107 : BitVec 32) : Fin 2 → Nat :=
  let v1110 : Index := Scalar.indexCast v1107
  let c0_487 : Index := 0#32
  ![v1110.toNat, 0]

def k1_off487 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_488 : BitVec 32 := 16#32
  let v1112 : BitVec 32 := Scalar.muli arg18 c16_i32_488
  let c11_i32 : BitVec 32 := 11#32
  let v1113 : BitVec 32 := Scalar.addi v1112 c11_i32
  let v1114 : Index := Scalar.indexCast v1113
  let c0_489 : Index := 0#32
  ![v1114.toNat, 0]
def k1_off488 (v1107 : BitVec 32) : Fin 2 → Nat :=
  let v1121 : Index := Scalar.indexCast v1107
  let c16_491 : Index := 16#32
  ![v1121.toNat, 16]
def k1_off489 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_492 : BitVec 32 := 16#32
  let v1123 : BitVec 32 := Scalar.muli arg18 c16_i32_492
  let c11_i32_493 : BitVec 32 := 11#32
  let v1124 : BitVec 32 := Scalar.addi v1123 c11_i32_493
  let v1125 : Index := Scalar.indexCast v1124
  let c16_494 : Index := 16#32
  ![v1125.toNat, 16]
def k1_off490 (v1107 : BitVec 32) : Fin 2 → Nat :=
  let v1132 : Index := Scalar.indexCast v1107
  let c32_496 : Index := 32#32
  ![v1132.toNat, 32]
def k1_off491 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_497 : BitVec 32 := 16#32
  let v1134 : BitVec 32 := Scalar.muli arg18 c16_i32_497
  let c11_i32_498 : BitVec 32 := 11#32
  let v1135 : BitVec 32 := Scalar.addi v1134 c11_i32_498
  let v1136 : Index := Scalar.indexCast v1135
  let c32_499 : Index := 32#32
  ![v1136.toNat, 32]
def k1_off492 (v1107 : BitVec 32) : Fin 2 → Nat :=
  let v1143 : Index := Scalar.indexCast v1107
  let c48_501 : Index := 48#32
  ![v1143.toNat, 48]
def k1_off493 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_502 : BitVec 32 := 16#32
  let v1145 : BitVec 32 := Scalar.muli arg18 c16_i32_502
  let c11_i32_503 : BitVec 32 := 11#32
  let v1146 : BitVec 32 := Scalar.addi v1145 c11_i32_503
  let v1147 : Index := Scalar.indexCast v1146
  let c48_504 : Index := 48#32
  ![v1147.toNat, 48]
def k1_off494 (v1107 : BitVec 32) : Fin 2 → Nat :=
  let v1154 : Index := Scalar.indexCast v1107
  let c64_506 : Index := 64#32
  ![v1154.toNat, 64]
def k1_off495 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_507 : BitVec 32 := 16#32
  let v1156 : BitVec 32 := Scalar.muli arg18 c16_i32_507
  let c11_i32_508 : BitVec 32 := 11#32
  let v1157 : BitVec 32 := Scalar.addi v1156 c11_i32_508
  let v1158 : Index := Scalar.indexCast v1157
  let c64_509 : Index := 64#32
  ![v1158.toNat, 64]
def k1_off496 (v1107 : BitVec 32) : Fin 2 → Nat :=
  let v1165 : Index := Scalar.indexCast v1107
  let c80_511 : Index := 80#32
  ![v1165.toNat, 80]
def k1_off497 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_512 : BitVec 32 := 16#32
  let v1167 : BitVec 32 := Scalar.muli arg18 c16_i32_512
  let c11_i32_513 : BitVec 32 := 11#32
  let v1168 : BitVec 32 := Scalar.addi v1167 c11_i32_513
  let v1169 : Index := Scalar.indexCast v1168
  let c80_514 : Index := 80#32
  ![v1169.toNat, 80]
def k1_off498 (v1107 : BitVec 32) : Fin 2 → Nat :=
  let v1176 : Index := Scalar.indexCast v1107
  let c96_516 : Index := 96#32
  ![v1176.toNat, 96]
def k1_off499 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_517 : BitVec 32 := 16#32
  let v1178 : BitVec 32 := Scalar.muli arg18 c16_i32_517
  let c11_i32_518 : BitVec 32 := 11#32
  let v1179 : BitVec 32 := Scalar.addi v1178 c11_i32_518
  let v1180 : Index := Scalar.indexCast v1179
  let c96_519 : Index := 96#32
  ![v1180.toNat, 96]
def k1_off500 (v1107 : BitVec 32) : Fin 2 → Nat :=
  let v1187 : Index := Scalar.indexCast v1107
  let c112_521 : Index := 112#32
  ![v1187.toNat, 112]

def k1_chk48 (i : grid1.Coords) (k1_t6 : Fin (k1_t6_loop i).trips) (v85 : BitVec 32) (v87 : BitVec 32) (v1107 : BitVec 32) : Prop :=
  (∀ (k1_h7 : k1_cond7 i k1_t6 = 1#1), ∀ (k1_h10 : k1_cond10 v85 v87 = 1#1), ∀ a, (k1_off486 v1107) a + S1x16.size a ≤ S256x128.size a) ∧
  (∀ (k1_h7 : k1_cond7 i k1_t6 = 1#1), ∀ (k1_h10 : k1_cond10 v85 v87 = 1#1), ∀ a, (k1_off488 v1107) a + S1x16.size a ≤ S256x128.size a) ∧
  (∀ (k1_h7 : k1_cond7 i k1_t6 = 1#1), ∀ (k1_h10 : k1_cond10 v85 v87 = 1#1), ∀ a, (k1_off490 v1107) a + S1x16.size a ≤ S256x128.size a) ∧
  (∀ (k1_h7 : k1_cond7 i k1_t6 = 1#1), ∀ (k1_h10 : k1_cond10 v85 v87 = 1#1), ∀ a, (k1_off492 v1107) a + S1x16.size a ≤ S256x128.size a) ∧
  (∀ (k1_h7 : k1_cond7 i k1_t6 = 1#1), ∀ (k1_h10 : k1_cond10 v85 v87 = 1#1), ∀ a, (k1_off494 v1107) a + S1x16.size a ≤ S256x128.size a) ∧
  (∀ (k1_h7 : k1_cond7 i k1_t6 = 1#1), ∀ (k1_h10 : k1_cond10 v85 v87 = 1#1), ∀ a, (k1_off496 v1107) a + S1x16.size a ≤ S256x128.size a) ∧
  (∀ (k1_h7 : k1_cond7 i k1_t6 = 1#1), ∀ (k1_h10 : k1_cond10 v85 v87 = 1#1), ∀ a, (k1_off498 v1107) a + S1x16.size a ≤ S256x128.size a) ∧
  (∀ (k1_h7 : k1_cond7 i k1_t6 = 1#1), ∀ (k1_h10 : k1_cond10 v85 v87 = 1#1), ∀ a, (k1_off500 v1107) a + S1x16.size a ≤ S256x128.size a)
theorem k1_off486_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off486 v1107) a + S1x16.size a ≤ S256x128.size a := fun i k1_t6 v85 v87 v1107 k1_hw48 k1_h7 k1_h10 => k1_hw48.1 k1_h7 k1_h10
theorem k1_off488_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off488 v1107) a + S1x16.size a ≤ S256x128.size a := fun i k1_t6 v85 v87 v1107 k1_hw48 k1_h7 k1_h10 => k1_hw48.2.1 k1_h7 k1_h10
theorem k1_off490_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off490 v1107) a + S1x16.size a ≤ S256x128.size a := fun i k1_t6 v85 v87 v1107 k1_hw48 k1_h7 k1_h10 => k1_hw48.2.2.1 k1_h7 k1_h10
theorem k1_off492_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off492 v1107) a + S1x16.size a ≤ S256x128.size a := fun i k1_t6 v85 v87 v1107 k1_hw48 k1_h7 k1_h10 => k1_hw48.2.2.2.1 k1_h7 k1_h10
theorem k1_off494_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off494 v1107) a + S1x16.size a ≤ S256x128.size a := fun i k1_t6 v85 v87 v1107 k1_hw48 k1_h7 k1_h10 => k1_hw48.2.2.2.2.1 k1_h7 k1_h10
theorem k1_off496_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off496 v1107) a + S1x16.size a ≤ S256x128.size a := fun i k1_t6 v85 v87 v1107 k1_hw48 k1_h7 k1_h10 => k1_hw48.2.2.2.2.2.1 k1_h7 k1_h10
theorem k1_off498_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off498 v1107) a + S1x16.size a ≤ S256x128.size a := fun i k1_t6 v85 v87 v1107 k1_hw48 k1_h7 k1_h10 => k1_hw48.2.2.2.2.2.2.1 k1_h7 k1_h10
theorem k1_off500_inb : ∀ (i : grid1.Coords) (k1_t6 : Fin (k1_t6_loop i).trips) (v85 : BitVec 32) (v87 : BitVec 32) (v1107 : BitVec 32) (k1_hw48 : k1_chk48 i k1_t6 v85 v87 v1107), ∀ (k1_h7 : k1_cond7 i k1_t6 = 1#1), ∀ (k1_h10 : k1_cond10 v85 v87 = 1#1), ∀ a, (k1_off500 v1107) a + S1x16.size a ≤ S256x128.size a := fun i k1_t6 v85 v87 v1107 k1_hw48 k1_h7 k1_h10 => k1_hw48.2.2.2.2.2.2.2 k1_h7 k1_h10

def k1_off501 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_522 : BitVec 32 := 16#32
  let v1189 : BitVec 32 := Scalar.muli arg18 c16_i32_522
  let c11_i32_523 : BitVec 32 := 11#32
  let v1190 : BitVec 32 := Scalar.addi v1189 c11_i32_523
  let v1191 : Index := Scalar.indexCast v1190
  let c112_524 : Index := 112#32
  ![v1191.toNat, 112]
def k1_off502 (v1199 : BitVec 32) : Fin 2 → Nat :=
  let v1202 : Index := Scalar.indexCast v1199
  let c0_526 : Index := 0#32
  ![v1202.toNat, 0]

def k1_off503 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_527 : BitVec 32 := 16#32
  let v1204 : BitVec 32 := Scalar.muli arg18 c16_i32_527
  let c12_i32 : BitVec 32 := 12#32
  let v1205 : BitVec 32 := Scalar.addi v1204 c12_i32
  let v1206 : Index := Scalar.indexCast v1205
  let c0_528 : Index := 0#32
  ![v1206.toNat, 0]
def k1_off504 (v1199 : BitVec 32) : Fin 2 → Nat :=
  let v1213 : Index := Scalar.indexCast v1199
  let c16_530 : Index := 16#32
  ![v1213.toNat, 16]
def k1_off505 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_531 : BitVec 32 := 16#32
  let v1215 : BitVec 32 := Scalar.muli arg18 c16_i32_531
  let c12_i32_532 : BitVec 32 := 12#32
  let v1216 : BitVec 32 := Scalar.addi v1215 c12_i32_532
  let v1217 : Index := Scalar.indexCast v1216
  let c16_533 : Index := 16#32
  ![v1217.toNat, 16]
def k1_off506 (v1199 : BitVec 32) : Fin 2 → Nat :=
  let v1224 : Index := Scalar.indexCast v1199
  let c32_535 : Index := 32#32
  ![v1224.toNat, 32]
def k1_off507 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_536 : BitVec 32 := 16#32
  let v1226 : BitVec 32 := Scalar.muli arg18 c16_i32_536
  let c12_i32_537 : BitVec 32 := 12#32
  let v1227 : BitVec 32 := Scalar.addi v1226 c12_i32_537
  let v1228 : Index := Scalar.indexCast v1227
  let c32_538 : Index := 32#32
  ![v1228.toNat, 32]
def k1_off508 (v1199 : BitVec 32) : Fin 2 → Nat :=
  let v1235 : Index := Scalar.indexCast v1199
  let c48_540 : Index := 48#32
  ![v1235.toNat, 48]
def k1_off509 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_541 : BitVec 32 := 16#32
  let v1237 : BitVec 32 := Scalar.muli arg18 c16_i32_541
  let c12_i32_542 : BitVec 32 := 12#32
  let v1238 : BitVec 32 := Scalar.addi v1237 c12_i32_542
  let v1239 : Index := Scalar.indexCast v1238
  let c48_543 : Index := 48#32
  ![v1239.toNat, 48]
def k1_off510 (v1199 : BitVec 32) : Fin 2 → Nat :=
  let v1246 : Index := Scalar.indexCast v1199
  let c64_545 : Index := 64#32
  ![v1246.toNat, 64]
def k1_off511 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_546 : BitVec 32 := 16#32
  let v1248 : BitVec 32 := Scalar.muli arg18 c16_i32_546
  let c12_i32_547 : BitVec 32 := 12#32
  let v1249 : BitVec 32 := Scalar.addi v1248 c12_i32_547
  let v1250 : Index := Scalar.indexCast v1249
  let c64_548 : Index := 64#32
  ![v1250.toNat, 64]
def k1_off512 (v1199 : BitVec 32) : Fin 2 → Nat :=
  let v1257 : Index := Scalar.indexCast v1199
  let c80_550 : Index := 80#32
  ![v1257.toNat, 80]
def k1_off513 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_551 : BitVec 32 := 16#32
  let v1259 : BitVec 32 := Scalar.muli arg18 c16_i32_551
  let c12_i32_552 : BitVec 32 := 12#32
  let v1260 : BitVec 32 := Scalar.addi v1259 c12_i32_552
  let v1261 : Index := Scalar.indexCast v1260
  let c80_553 : Index := 80#32
  ![v1261.toNat, 80]
def k1_off514 (v1199 : BitVec 32) : Fin 2 → Nat :=
  let v1268 : Index := Scalar.indexCast v1199
  let c96_555 : Index := 96#32
  ![v1268.toNat, 96]
def k1_off515 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_556 : BitVec 32 := 16#32
  let v1270 : BitVec 32 := Scalar.muli arg18 c16_i32_556
  let c12_i32_557 : BitVec 32 := 12#32
  let v1271 : BitVec 32 := Scalar.addi v1270 c12_i32_557
  let v1272 : Index := Scalar.indexCast v1271
  let c96_558 : Index := 96#32
  ![v1272.toNat, 96]
def k1_off516 (v1199 : BitVec 32) : Fin 2 → Nat :=
  let v1279 : Index := Scalar.indexCast v1199
  let c112_560 : Index := 112#32
  ![v1279.toNat, 112]

def k1_chk49 (i : grid1.Coords) (k1_t6 : Fin (k1_t6_loop i).trips) (v85 : BitVec 32) (v87 : BitVec 32) (v1199 : BitVec 32) : Prop :=
  (∀ (k1_h7 : k1_cond7 i k1_t6 = 1#1), ∀ (k1_h10 : k1_cond10 v85 v87 = 1#1), ∀ a, (k1_off502 v1199) a + S1x16.size a ≤ S256x128.size a) ∧
  (∀ (k1_h7 : k1_cond7 i k1_t6 = 1#1), ∀ (k1_h10 : k1_cond10 v85 v87 = 1#1), ∀ a, (k1_off504 v1199) a + S1x16.size a ≤ S256x128.size a) ∧
  (∀ (k1_h7 : k1_cond7 i k1_t6 = 1#1), ∀ (k1_h10 : k1_cond10 v85 v87 = 1#1), ∀ a, (k1_off506 v1199) a + S1x16.size a ≤ S256x128.size a) ∧
  (∀ (k1_h7 : k1_cond7 i k1_t6 = 1#1), ∀ (k1_h10 : k1_cond10 v85 v87 = 1#1), ∀ a, (k1_off508 v1199) a + S1x16.size a ≤ S256x128.size a) ∧
  (∀ (k1_h7 : k1_cond7 i k1_t6 = 1#1), ∀ (k1_h10 : k1_cond10 v85 v87 = 1#1), ∀ a, (k1_off510 v1199) a + S1x16.size a ≤ S256x128.size a) ∧
  (∀ (k1_h7 : k1_cond7 i k1_t6 = 1#1), ∀ (k1_h10 : k1_cond10 v85 v87 = 1#1), ∀ a, (k1_off512 v1199) a + S1x16.size a ≤ S256x128.size a) ∧
  (∀ (k1_h7 : k1_cond7 i k1_t6 = 1#1), ∀ (k1_h10 : k1_cond10 v85 v87 = 1#1), ∀ a, (k1_off514 v1199) a + S1x16.size a ≤ S256x128.size a) ∧
  (∀ (k1_h7 : k1_cond7 i k1_t6 = 1#1), ∀ (k1_h10 : k1_cond10 v85 v87 = 1#1), ∀ a, (k1_off516 v1199) a + S1x16.size a ≤ S256x128.size a)
theorem k1_off502_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off502 v1199) a + S1x16.size a ≤ S256x128.size a := fun i k1_t6 v85 v87 v1199 k1_hw49 k1_h7 k1_h10 => k1_hw49.1 k1_h7 k1_h10
theorem k1_off504_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off504 v1199) a + S1x16.size a ≤ S256x128.size a := fun i k1_t6 v85 v87 v1199 k1_hw49 k1_h7 k1_h10 => k1_hw49.2.1 k1_h7 k1_h10
theorem k1_off506_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off506 v1199) a + S1x16.size a ≤ S256x128.size a := fun i k1_t6 v85 v87 v1199 k1_hw49 k1_h7 k1_h10 => k1_hw49.2.2.1 k1_h7 k1_h10
theorem k1_off508_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off508 v1199) a + S1x16.size a ≤ S256x128.size a := fun i k1_t6 v85 v87 v1199 k1_hw49 k1_h7 k1_h10 => k1_hw49.2.2.2.1 k1_h7 k1_h10
theorem k1_off510_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off510 v1199) a + S1x16.size a ≤ S256x128.size a := fun i k1_t6 v85 v87 v1199 k1_hw49 k1_h7 k1_h10 => k1_hw49.2.2.2.2.1 k1_h7 k1_h10
theorem k1_off512_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off512 v1199) a + S1x16.size a ≤ S256x128.size a := fun i k1_t6 v85 v87 v1199 k1_hw49 k1_h7 k1_h10 => k1_hw49.2.2.2.2.2.1 k1_h7 k1_h10
theorem k1_off514_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off514 v1199) a + S1x16.size a ≤ S256x128.size a := fun i k1_t6 v85 v87 v1199 k1_hw49 k1_h7 k1_h10 => k1_hw49.2.2.2.2.2.2.1 k1_h7 k1_h10
theorem k1_off516_inb : ∀ (i : grid1.Coords) (k1_t6 : Fin (k1_t6_loop i).trips) (v85 : BitVec 32) (v87 : BitVec 32) (v1199 : BitVec 32) (k1_hw49 : k1_chk49 i k1_t6 v85 v87 v1199), ∀ (k1_h7 : k1_cond7 i k1_t6 = 1#1), ∀ (k1_h10 : k1_cond10 v85 v87 = 1#1), ∀ a, (k1_off516 v1199) a + S1x16.size a ≤ S256x128.size a := fun i k1_t6 v85 v87 v1199 k1_hw49 k1_h7 k1_h10 => k1_hw49.2.2.2.2.2.2.2 k1_h7 k1_h10

def k1_off517 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_561 : BitVec 32 := 16#32
  let v1281 : BitVec 32 := Scalar.muli arg18 c16_i32_561
  let c12_i32_562 : BitVec 32 := 12#32
  let v1282 : BitVec 32 := Scalar.addi v1281 c12_i32_562
  let v1283 : Index := Scalar.indexCast v1282
  let c112_563 : Index := 112#32
  ![v1283.toNat, 112]
def k1_off518 (v1291 : BitVec 32) : Fin 2 → Nat :=
  let v1294 : Index := Scalar.indexCast v1291
  let c0_565 : Index := 0#32
  ![v1294.toNat, 0]

def k1_off519 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_566 : BitVec 32 := 16#32
  let v1296 : BitVec 32 := Scalar.muli arg18 c16_i32_566
  let c13_i32 : BitVec 32 := 13#32
  let v1297 : BitVec 32 := Scalar.addi v1296 c13_i32
  let v1298 : Index := Scalar.indexCast v1297
  let c0_567 : Index := 0#32
  ![v1298.toNat, 0]
def k1_off520 (v1291 : BitVec 32) : Fin 2 → Nat :=
  let v1305 : Index := Scalar.indexCast v1291
  let c16_569 : Index := 16#32
  ![v1305.toNat, 16]
def k1_off521 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_570 : BitVec 32 := 16#32
  let v1307 : BitVec 32 := Scalar.muli arg18 c16_i32_570
  let c13_i32_571 : BitVec 32 := 13#32
  let v1308 : BitVec 32 := Scalar.addi v1307 c13_i32_571
  let v1309 : Index := Scalar.indexCast v1308
  let c16_572 : Index := 16#32
  ![v1309.toNat, 16]
def k1_off522 (v1291 : BitVec 32) : Fin 2 → Nat :=
  let v1316 : Index := Scalar.indexCast v1291
  let c32_574 : Index := 32#32
  ![v1316.toNat, 32]
def k1_off523 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_575 : BitVec 32 := 16#32
  let v1318 : BitVec 32 := Scalar.muli arg18 c16_i32_575
  let c13_i32_576 : BitVec 32 := 13#32
  let v1319 : BitVec 32 := Scalar.addi v1318 c13_i32_576
  let v1320 : Index := Scalar.indexCast v1319
  let c32_577 : Index := 32#32
  ![v1320.toNat, 32]
def k1_off524 (v1291 : BitVec 32) : Fin 2 → Nat :=
  let v1327 : Index := Scalar.indexCast v1291
  let c48_579 : Index := 48#32
  ![v1327.toNat, 48]
def k1_off525 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_580 : BitVec 32 := 16#32
  let v1329 : BitVec 32 := Scalar.muli arg18 c16_i32_580
  let c13_i32_581 : BitVec 32 := 13#32
  let v1330 : BitVec 32 := Scalar.addi v1329 c13_i32_581
  let v1331 : Index := Scalar.indexCast v1330
  let c48_582 : Index := 48#32
  ![v1331.toNat, 48]
def k1_off526 (v1291 : BitVec 32) : Fin 2 → Nat :=
  let v1338 : Index := Scalar.indexCast v1291
  let c64_584 : Index := 64#32
  ![v1338.toNat, 64]
def k1_off527 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_585 : BitVec 32 := 16#32
  let v1340 : BitVec 32 := Scalar.muli arg18 c16_i32_585
  let c13_i32_586 : BitVec 32 := 13#32
  let v1341 : BitVec 32 := Scalar.addi v1340 c13_i32_586
  let v1342 : Index := Scalar.indexCast v1341
  let c64_587 : Index := 64#32
  ![v1342.toNat, 64]
def k1_off528 (v1291 : BitVec 32) : Fin 2 → Nat :=
  let v1349 : Index := Scalar.indexCast v1291
  let c80_589 : Index := 80#32
  ![v1349.toNat, 80]
def k1_off529 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_590 : BitVec 32 := 16#32
  let v1351 : BitVec 32 := Scalar.muli arg18 c16_i32_590
  let c13_i32_591 : BitVec 32 := 13#32
  let v1352 : BitVec 32 := Scalar.addi v1351 c13_i32_591
  let v1353 : Index := Scalar.indexCast v1352
  let c80_592 : Index := 80#32
  ![v1353.toNat, 80]
def k1_off530 (v1291 : BitVec 32) : Fin 2 → Nat :=
  let v1360 : Index := Scalar.indexCast v1291
  let c96_594 : Index := 96#32
  ![v1360.toNat, 96]
def k1_off531 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_595 : BitVec 32 := 16#32
  let v1362 : BitVec 32 := Scalar.muli arg18 c16_i32_595
  let c13_i32_596 : BitVec 32 := 13#32
  let v1363 : BitVec 32 := Scalar.addi v1362 c13_i32_596
  let v1364 : Index := Scalar.indexCast v1363
  let c96_597 : Index := 96#32
  ![v1364.toNat, 96]
def k1_off532 (v1291 : BitVec 32) : Fin 2 → Nat :=
  let v1371 : Index := Scalar.indexCast v1291
  let c112_599 : Index := 112#32
  ![v1371.toNat, 112]

def k1_chk50 (i : grid1.Coords) (k1_t6 : Fin (k1_t6_loop i).trips) (v85 : BitVec 32) (v87 : BitVec 32) (v1291 : BitVec 32) : Prop :=
  (∀ (k1_h7 : k1_cond7 i k1_t6 = 1#1), ∀ (k1_h10 : k1_cond10 v85 v87 = 1#1), ∀ a, (k1_off518 v1291) a + S1x16.size a ≤ S256x128.size a) ∧
  (∀ (k1_h7 : k1_cond7 i k1_t6 = 1#1), ∀ (k1_h10 : k1_cond10 v85 v87 = 1#1), ∀ a, (k1_off520 v1291) a + S1x16.size a ≤ S256x128.size a) ∧
  (∀ (k1_h7 : k1_cond7 i k1_t6 = 1#1), ∀ (k1_h10 : k1_cond10 v85 v87 = 1#1), ∀ a, (k1_off522 v1291) a + S1x16.size a ≤ S256x128.size a) ∧
  (∀ (k1_h7 : k1_cond7 i k1_t6 = 1#1), ∀ (k1_h10 : k1_cond10 v85 v87 = 1#1), ∀ a, (k1_off524 v1291) a + S1x16.size a ≤ S256x128.size a) ∧
  (∀ (k1_h7 : k1_cond7 i k1_t6 = 1#1), ∀ (k1_h10 : k1_cond10 v85 v87 = 1#1), ∀ a, (k1_off526 v1291) a + S1x16.size a ≤ S256x128.size a) ∧
  (∀ (k1_h7 : k1_cond7 i k1_t6 = 1#1), ∀ (k1_h10 : k1_cond10 v85 v87 = 1#1), ∀ a, (k1_off528 v1291) a + S1x16.size a ≤ S256x128.size a) ∧
  (∀ (k1_h7 : k1_cond7 i k1_t6 = 1#1), ∀ (k1_h10 : k1_cond10 v85 v87 = 1#1), ∀ a, (k1_off530 v1291) a + S1x16.size a ≤ S256x128.size a) ∧
  (∀ (k1_h7 : k1_cond7 i k1_t6 = 1#1), ∀ (k1_h10 : k1_cond10 v85 v87 = 1#1), ∀ a, (k1_off532 v1291) a + S1x16.size a ≤ S256x128.size a)
theorem k1_off518_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off518 v1291) a + S1x16.size a ≤ S256x128.size a := fun i k1_t6 v85 v87 v1291 k1_hw50 k1_h7 k1_h10 => k1_hw50.1 k1_h7 k1_h10
theorem k1_off520_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off520 v1291) a + S1x16.size a ≤ S256x128.size a := fun i k1_t6 v85 v87 v1291 k1_hw50 k1_h7 k1_h10 => k1_hw50.2.1 k1_h7 k1_h10
theorem k1_off522_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off522 v1291) a + S1x16.size a ≤ S256x128.size a := fun i k1_t6 v85 v87 v1291 k1_hw50 k1_h7 k1_h10 => k1_hw50.2.2.1 k1_h7 k1_h10
theorem k1_off524_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off524 v1291) a + S1x16.size a ≤ S256x128.size a := fun i k1_t6 v85 v87 v1291 k1_hw50 k1_h7 k1_h10 => k1_hw50.2.2.2.1 k1_h7 k1_h10
theorem k1_off526_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off526 v1291) a + S1x16.size a ≤ S256x128.size a := fun i k1_t6 v85 v87 v1291 k1_hw50 k1_h7 k1_h10 => k1_hw50.2.2.2.2.1 k1_h7 k1_h10
theorem k1_off528_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off528 v1291) a + S1x16.size a ≤ S256x128.size a := fun i k1_t6 v85 v87 v1291 k1_hw50 k1_h7 k1_h10 => k1_hw50.2.2.2.2.2.1 k1_h7 k1_h10
theorem k1_off530_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off530 v1291) a + S1x16.size a ≤ S256x128.size a := fun i k1_t6 v85 v87 v1291 k1_hw50 k1_h7 k1_h10 => k1_hw50.2.2.2.2.2.2.1 k1_h7 k1_h10
theorem k1_off532_inb : ∀ (i : grid1.Coords) (k1_t6 : Fin (k1_t6_loop i).trips) (v85 : BitVec 32) (v87 : BitVec 32) (v1291 : BitVec 32) (k1_hw50 : k1_chk50 i k1_t6 v85 v87 v1291), ∀ (k1_h7 : k1_cond7 i k1_t6 = 1#1), ∀ (k1_h10 : k1_cond10 v85 v87 = 1#1), ∀ a, (k1_off532 v1291) a + S1x16.size a ≤ S256x128.size a := fun i k1_t6 v85 v87 v1291 k1_hw50 k1_h7 k1_h10 => k1_hw50.2.2.2.2.2.2.2 k1_h7 k1_h10

def k1_off533 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_600 : BitVec 32 := 16#32
  let v1373 : BitVec 32 := Scalar.muli arg18 c16_i32_600
  let c13_i32_601 : BitVec 32 := 13#32
  let v1374 : BitVec 32 := Scalar.addi v1373 c13_i32_601
  let v1375 : Index := Scalar.indexCast v1374
  let c112_602 : Index := 112#32
  ![v1375.toNat, 112]
def k1_off534 (v1383 : BitVec 32) : Fin 2 → Nat :=
  let v1386 : Index := Scalar.indexCast v1383
  let c0_604 : Index := 0#32
  ![v1386.toNat, 0]

def k1_off535 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_605 : BitVec 32 := 16#32
  let v1388 : BitVec 32 := Scalar.muli arg18 c16_i32_605
  let c14_i32 : BitVec 32 := 14#32
  let v1389 : BitVec 32 := Scalar.addi v1388 c14_i32
  let v1390 : Index := Scalar.indexCast v1389
  let c0_606 : Index := 0#32
  ![v1390.toNat, 0]
def k1_off536 (v1383 : BitVec 32) : Fin 2 → Nat :=
  let v1397 : Index := Scalar.indexCast v1383
  let c16_608 : Index := 16#32
  ![v1397.toNat, 16]
def k1_off537 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_609 : BitVec 32 := 16#32
  let v1399 : BitVec 32 := Scalar.muli arg18 c16_i32_609
  let c14_i32_610 : BitVec 32 := 14#32
  let v1400 : BitVec 32 := Scalar.addi v1399 c14_i32_610
  let v1401 : Index := Scalar.indexCast v1400
  let c16_611 : Index := 16#32
  ![v1401.toNat, 16]
def k1_off538 (v1383 : BitVec 32) : Fin 2 → Nat :=
  let v1408 : Index := Scalar.indexCast v1383
  let c32_613 : Index := 32#32
  ![v1408.toNat, 32]
def k1_off539 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_614 : BitVec 32 := 16#32
  let v1410 : BitVec 32 := Scalar.muli arg18 c16_i32_614
  let c14_i32_615 : BitVec 32 := 14#32
  let v1411 : BitVec 32 := Scalar.addi v1410 c14_i32_615
  let v1412 : Index := Scalar.indexCast v1411
  let c32_616 : Index := 32#32
  ![v1412.toNat, 32]
def k1_off540 (v1383 : BitVec 32) : Fin 2 → Nat :=
  let v1419 : Index := Scalar.indexCast v1383
  let c48_618 : Index := 48#32
  ![v1419.toNat, 48]
def k1_off541 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_619 : BitVec 32 := 16#32
  let v1421 : BitVec 32 := Scalar.muli arg18 c16_i32_619
  let c14_i32_620 : BitVec 32 := 14#32
  let v1422 : BitVec 32 := Scalar.addi v1421 c14_i32_620
  let v1423 : Index := Scalar.indexCast v1422
  let c48_621 : Index := 48#32
  ![v1423.toNat, 48]
def k1_off542 (v1383 : BitVec 32) : Fin 2 → Nat :=
  let v1430 : Index := Scalar.indexCast v1383
  let c64_623 : Index := 64#32
  ![v1430.toNat, 64]
def k1_off543 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_624 : BitVec 32 := 16#32
  let v1432 : BitVec 32 := Scalar.muli arg18 c16_i32_624
  let c14_i32_625 : BitVec 32 := 14#32
  let v1433 : BitVec 32 := Scalar.addi v1432 c14_i32_625
  let v1434 : Index := Scalar.indexCast v1433
  let c64_626 : Index := 64#32
  ![v1434.toNat, 64]
def k1_off544 (v1383 : BitVec 32) : Fin 2 → Nat :=
  let v1441 : Index := Scalar.indexCast v1383
  let c80_628 : Index := 80#32
  ![v1441.toNat, 80]
def k1_off545 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_629 : BitVec 32 := 16#32
  let v1443 : BitVec 32 := Scalar.muli arg18 c16_i32_629
  let c14_i32_630 : BitVec 32 := 14#32
  let v1444 : BitVec 32 := Scalar.addi v1443 c14_i32_630
  let v1445 : Index := Scalar.indexCast v1444
  let c80_631 : Index := 80#32
  ![v1445.toNat, 80]
def k1_off546 (v1383 : BitVec 32) : Fin 2 → Nat :=
  let v1452 : Index := Scalar.indexCast v1383
  let c96_633 : Index := 96#32
  ![v1452.toNat, 96]
def k1_off547 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_634 : BitVec 32 := 16#32
  let v1454 : BitVec 32 := Scalar.muli arg18 c16_i32_634
  let c14_i32_635 : BitVec 32 := 14#32
  let v1455 : BitVec 32 := Scalar.addi v1454 c14_i32_635
  let v1456 : Index := Scalar.indexCast v1455
  let c96_636 : Index := 96#32
  ![v1456.toNat, 96]
def k1_off548 (v1383 : BitVec 32) : Fin 2 → Nat :=
  let v1463 : Index := Scalar.indexCast v1383
  let c112_638 : Index := 112#32
  ![v1463.toNat, 112]

def k1_chk51 (i : grid1.Coords) (k1_t6 : Fin (k1_t6_loop i).trips) (v85 : BitVec 32) (v87 : BitVec 32) (v1383 : BitVec 32) : Prop :=
  (∀ (k1_h7 : k1_cond7 i k1_t6 = 1#1), ∀ (k1_h10 : k1_cond10 v85 v87 = 1#1), ∀ a, (k1_off534 v1383) a + S1x16.size a ≤ S256x128.size a) ∧
  (∀ (k1_h7 : k1_cond7 i k1_t6 = 1#1), ∀ (k1_h10 : k1_cond10 v85 v87 = 1#1), ∀ a, (k1_off536 v1383) a + S1x16.size a ≤ S256x128.size a) ∧
  (∀ (k1_h7 : k1_cond7 i k1_t6 = 1#1), ∀ (k1_h10 : k1_cond10 v85 v87 = 1#1), ∀ a, (k1_off538 v1383) a + S1x16.size a ≤ S256x128.size a) ∧
  (∀ (k1_h7 : k1_cond7 i k1_t6 = 1#1), ∀ (k1_h10 : k1_cond10 v85 v87 = 1#1), ∀ a, (k1_off540 v1383) a + S1x16.size a ≤ S256x128.size a) ∧
  (∀ (k1_h7 : k1_cond7 i k1_t6 = 1#1), ∀ (k1_h10 : k1_cond10 v85 v87 = 1#1), ∀ a, (k1_off542 v1383) a + S1x16.size a ≤ S256x128.size a) ∧
  (∀ (k1_h7 : k1_cond7 i k1_t6 = 1#1), ∀ (k1_h10 : k1_cond10 v85 v87 = 1#1), ∀ a, (k1_off544 v1383) a + S1x16.size a ≤ S256x128.size a) ∧
  (∀ (k1_h7 : k1_cond7 i k1_t6 = 1#1), ∀ (k1_h10 : k1_cond10 v85 v87 = 1#1), ∀ a, (k1_off546 v1383) a + S1x16.size a ≤ S256x128.size a) ∧
  (∀ (k1_h7 : k1_cond7 i k1_t6 = 1#1), ∀ (k1_h10 : k1_cond10 v85 v87 = 1#1), ∀ a, (k1_off548 v1383) a + S1x16.size a ≤ S256x128.size a)
theorem k1_off534_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off534 v1383) a + S1x16.size a ≤ S256x128.size a := fun i k1_t6 v85 v87 v1383 k1_hw51 k1_h7 k1_h10 => k1_hw51.1 k1_h7 k1_h10
theorem k1_off536_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off536 v1383) a + S1x16.size a ≤ S256x128.size a := fun i k1_t6 v85 v87 v1383 k1_hw51 k1_h7 k1_h10 => k1_hw51.2.1 k1_h7 k1_h10
theorem k1_off538_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off538 v1383) a + S1x16.size a ≤ S256x128.size a := fun i k1_t6 v85 v87 v1383 k1_hw51 k1_h7 k1_h10 => k1_hw51.2.2.1 k1_h7 k1_h10
theorem k1_off540_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off540 v1383) a + S1x16.size a ≤ S256x128.size a := fun i k1_t6 v85 v87 v1383 k1_hw51 k1_h7 k1_h10 => k1_hw51.2.2.2.1 k1_h7 k1_h10
theorem k1_off542_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off542 v1383) a + S1x16.size a ≤ S256x128.size a := fun i k1_t6 v85 v87 v1383 k1_hw51 k1_h7 k1_h10 => k1_hw51.2.2.2.2.1 k1_h7 k1_h10
theorem k1_off544_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off544 v1383) a + S1x16.size a ≤ S256x128.size a := fun i k1_t6 v85 v87 v1383 k1_hw51 k1_h7 k1_h10 => k1_hw51.2.2.2.2.2.1 k1_h7 k1_h10
theorem k1_off546_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off546 v1383) a + S1x16.size a ≤ S256x128.size a := fun i k1_t6 v85 v87 v1383 k1_hw51 k1_h7 k1_h10 => k1_hw51.2.2.2.2.2.2.1 k1_h7 k1_h10
theorem k1_off548_inb : ∀ (i : grid1.Coords) (k1_t6 : Fin (k1_t6_loop i).trips) (v85 : BitVec 32) (v87 : BitVec 32) (v1383 : BitVec 32) (k1_hw51 : k1_chk51 i k1_t6 v85 v87 v1383), ∀ (k1_h7 : k1_cond7 i k1_t6 = 1#1), ∀ (k1_h10 : k1_cond10 v85 v87 = 1#1), ∀ a, (k1_off548 v1383) a + S1x16.size a ≤ S256x128.size a := fun i k1_t6 v85 v87 v1383 k1_hw51 k1_h7 k1_h10 => k1_hw51.2.2.2.2.2.2.2 k1_h7 k1_h10

def k1_off549 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_639 : BitVec 32 := 16#32
  let v1465 : BitVec 32 := Scalar.muli arg18 c16_i32_639
  let c14_i32_640 : BitVec 32 := 14#32
  let v1466 : BitVec 32 := Scalar.addi v1465 c14_i32_640
  let v1467 : Index := Scalar.indexCast v1466
  let c112_641 : Index := 112#32
  ![v1467.toNat, 112]
def k1_off550 (v1475 : BitVec 32) : Fin 2 → Nat :=
  let v1478 : Index := Scalar.indexCast v1475
  let c0_643 : Index := 0#32
  ![v1478.toNat, 0]

def k1_off551 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_644 : BitVec 32 := 16#32
  let v1480 : BitVec 32 := Scalar.muli arg18 c16_i32_644
  let c15_i32 : BitVec 32 := 15#32
  let v1481 : BitVec 32 := Scalar.addi v1480 c15_i32
  let v1482 : Index := Scalar.indexCast v1481
  let c0_645 : Index := 0#32
  ![v1482.toNat, 0]
def k1_off552 (v1475 : BitVec 32) : Fin 2 → Nat :=
  let v1489 : Index := Scalar.indexCast v1475
  let c16_647 : Index := 16#32
  ![v1489.toNat, 16]
def k1_off553 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_648 : BitVec 32 := 16#32
  let v1491 : BitVec 32 := Scalar.muli arg18 c16_i32_648
  let c15_i32_649 : BitVec 32 := 15#32
  let v1492 : BitVec 32 := Scalar.addi v1491 c15_i32_649
  let v1493 : Index := Scalar.indexCast v1492
  let c16_650 : Index := 16#32
  ![v1493.toNat, 16]
def k1_off554 (v1475 : BitVec 32) : Fin 2 → Nat :=
  let v1500 : Index := Scalar.indexCast v1475
  let c32_652 : Index := 32#32
  ![v1500.toNat, 32]
def k1_off555 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_653 : BitVec 32 := 16#32
  let v1502 : BitVec 32 := Scalar.muli arg18 c16_i32_653
  let c15_i32_654 : BitVec 32 := 15#32
  let v1503 : BitVec 32 := Scalar.addi v1502 c15_i32_654
  let v1504 : Index := Scalar.indexCast v1503
  let c32_655 : Index := 32#32
  ![v1504.toNat, 32]
def k1_off556 (v1475 : BitVec 32) : Fin 2 → Nat :=
  let v1511 : Index := Scalar.indexCast v1475
  let c48_657 : Index := 48#32
  ![v1511.toNat, 48]
def k1_off557 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_658 : BitVec 32 := 16#32
  let v1513 : BitVec 32 := Scalar.muli arg18 c16_i32_658
  let c15_i32_659 : BitVec 32 := 15#32
  let v1514 : BitVec 32 := Scalar.addi v1513 c15_i32_659
  let v1515 : Index := Scalar.indexCast v1514
  let c48_660 : Index := 48#32
  ![v1515.toNat, 48]
def k1_off558 (v1475 : BitVec 32) : Fin 2 → Nat :=
  let v1522 : Index := Scalar.indexCast v1475
  let c64_662 : Index := 64#32
  ![v1522.toNat, 64]
def k1_off559 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_663 : BitVec 32 := 16#32
  let v1524 : BitVec 32 := Scalar.muli arg18 c16_i32_663
  let c15_i32_664 : BitVec 32 := 15#32
  let v1525 : BitVec 32 := Scalar.addi v1524 c15_i32_664
  let v1526 : Index := Scalar.indexCast v1525
  let c64_665 : Index := 64#32
  ![v1526.toNat, 64]
def k1_off560 (v1475 : BitVec 32) : Fin 2 → Nat :=
  let v1533 : Index := Scalar.indexCast v1475
  let c80_667 : Index := 80#32
  ![v1533.toNat, 80]
def k1_off561 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_668 : BitVec 32 := 16#32
  let v1535 : BitVec 32 := Scalar.muli arg18 c16_i32_668
  let c15_i32_669 : BitVec 32 := 15#32
  let v1536 : BitVec 32 := Scalar.addi v1535 c15_i32_669
  let v1537 : Index := Scalar.indexCast v1536
  let c80_670 : Index := 80#32
  ![v1537.toNat, 80]
def k1_off562 (v1475 : BitVec 32) : Fin 2 → Nat :=
  let v1544 : Index := Scalar.indexCast v1475
  let c96_672 : Index := 96#32
  ![v1544.toNat, 96]
def k1_off563 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_673 : BitVec 32 := 16#32
  let v1546 : BitVec 32 := Scalar.muli arg18 c16_i32_673
  let c15_i32_674 : BitVec 32 := 15#32
  let v1547 : BitVec 32 := Scalar.addi v1546 c15_i32_674
  let v1548 : Index := Scalar.indexCast v1547
  let c96_675 : Index := 96#32
  ![v1548.toNat, 96]
def k1_off564 (v1475 : BitVec 32) : Fin 2 → Nat :=
  let v1555 : Index := Scalar.indexCast v1475
  let c112_677 : Index := 112#32
  ![v1555.toNat, 112]

def k1_chk52 (i : grid1.Coords) (k1_t6 : Fin (k1_t6_loop i).trips) (v85 : BitVec 32) (v87 : BitVec 32) (v1475 : BitVec 32) : Prop :=
  (∀ (k1_h7 : k1_cond7 i k1_t6 = 1#1), ∀ (k1_h10 : k1_cond10 v85 v87 = 1#1), ∀ a, (k1_off550 v1475) a + S1x16.size a ≤ S256x128.size a) ∧
  (∀ (k1_h7 : k1_cond7 i k1_t6 = 1#1), ∀ (k1_h10 : k1_cond10 v85 v87 = 1#1), ∀ a, (k1_off552 v1475) a + S1x16.size a ≤ S256x128.size a) ∧
  (∀ (k1_h7 : k1_cond7 i k1_t6 = 1#1), ∀ (k1_h10 : k1_cond10 v85 v87 = 1#1), ∀ a, (k1_off554 v1475) a + S1x16.size a ≤ S256x128.size a) ∧
  (∀ (k1_h7 : k1_cond7 i k1_t6 = 1#1), ∀ (k1_h10 : k1_cond10 v85 v87 = 1#1), ∀ a, (k1_off556 v1475) a + S1x16.size a ≤ S256x128.size a) ∧
  (∀ (k1_h7 : k1_cond7 i k1_t6 = 1#1), ∀ (k1_h10 : k1_cond10 v85 v87 = 1#1), ∀ a, (k1_off558 v1475) a + S1x16.size a ≤ S256x128.size a) ∧
  (∀ (k1_h7 : k1_cond7 i k1_t6 = 1#1), ∀ (k1_h10 : k1_cond10 v85 v87 = 1#1), ∀ a, (k1_off560 v1475) a + S1x16.size a ≤ S256x128.size a) ∧
  (∀ (k1_h7 : k1_cond7 i k1_t6 = 1#1), ∀ (k1_h10 : k1_cond10 v85 v87 = 1#1), ∀ a, (k1_off562 v1475) a + S1x16.size a ≤ S256x128.size a) ∧
  (∀ (k1_h7 : k1_cond7 i k1_t6 = 1#1), ∀ (k1_h10 : k1_cond10 v85 v87 = 1#1), ∀ a, (k1_off564 v1475) a + S1x16.size a ≤ S256x128.size a)
theorem k1_off550_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off550 v1475) a + S1x16.size a ≤ S256x128.size a := fun i k1_t6 v85 v87 v1475 k1_hw52 k1_h7 k1_h10 => k1_hw52.1 k1_h7 k1_h10
theorem k1_off552_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off552 v1475) a + S1x16.size a ≤ S256x128.size a := fun i k1_t6 v85 v87 v1475 k1_hw52 k1_h7 k1_h10 => k1_hw52.2.1 k1_h7 k1_h10
theorem k1_off554_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off554 v1475) a + S1x16.size a ≤ S256x128.size a := fun i k1_t6 v85 v87 v1475 k1_hw52 k1_h7 k1_h10 => k1_hw52.2.2.1 k1_h7 k1_h10
theorem k1_off556_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off556 v1475) a + S1x16.size a ≤ S256x128.size a := fun i k1_t6 v85 v87 v1475 k1_hw52 k1_h7 k1_h10 => k1_hw52.2.2.2.1 k1_h7 k1_h10
theorem k1_off558_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off558 v1475) a + S1x16.size a ≤ S256x128.size a := fun i k1_t6 v85 v87 v1475 k1_hw52 k1_h7 k1_h10 => k1_hw52.2.2.2.2.1 k1_h7 k1_h10
theorem k1_off560_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off560 v1475) a + S1x16.size a ≤ S256x128.size a := fun i k1_t6 v85 v87 v1475 k1_hw52 k1_h7 k1_h10 => k1_hw52.2.2.2.2.2.1 k1_h7 k1_h10
theorem k1_off562_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off562 v1475) a + S1x16.size a ≤ S256x128.size a := fun i k1_t6 v85 v87 v1475 k1_hw52 k1_h7 k1_h10 => k1_hw52.2.2.2.2.2.2.1 k1_h7 k1_h10
theorem k1_off564_inb : ∀ (i : grid1.Coords) (k1_t6 : Fin (k1_t6_loop i).trips) (v85 : BitVec 32) (v87 : BitVec 32) (v1475 : BitVec 32) (k1_hw52 : k1_chk52 i k1_t6 v85 v87 v1475), ∀ (k1_h7 : k1_cond7 i k1_t6 = 1#1), ∀ (k1_h10 : k1_cond10 v85 v87 = 1#1), ∀ a, (k1_off564 v1475) a + S1x16.size a ≤ S256x128.size a := fun i k1_t6 v85 v87 v1475 k1_hw52 k1_h7 k1_h10 => k1_hw52.2.2.2.2.2.2.2 k1_h7 k1_h10

def k1_off565 (k1_t8 : Fin k1_t8_loop.trips) : Fin 2 → Nat :=
  let c0_i32_53 : BitVec 32 := 0#32
  let c1_i32_54 : BitVec 32 := 1#32
  let arg18 : BitVec 32 := Scf.iv c0_i32_53 c1_i32_54 k1_t8
  let c16_i32_678 : BitVec 32 := 16#32
  let v1557 : BitVec 32 := Scalar.muli arg18 c16_i32_678
  let c15_i32_679 : BitVec 32 := 15#32
  let v1558 : BitVec 32 := Scalar.addi v1557 c15_i32_679
  let v1559 : Index := Scalar.indexCast v1558
  let c112_680 : Index := 112#32
  ![v1559.toNat, 112]
@[reducible] def k1_t9_loop (i : grid1.Coords) : Scf.Loop 32 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let v31 : BitVec 32 := Scalar.addi c0_i32_25 v30
  let c1_i32_29 : BitVec 32 := 1#32
  ⟨v34, v31, c1_i32_29⟩
def k1_cond11 (i : grid1.Coords) (k1_t9 : Fin (k1_t9_loop i).trips) : BitVec 1 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c2_i32 : BitVec 32 := 2#32
  let c0_i32_32 : BitVec 32 := 0#32
  let v40 : BitVec 1 := Scalar.cmpi .eq c2_i32 c0_i32_32
  let c1_i32_33 : BitVec 32 := 1#32
  let v41 : BitVec 32 := Scalar.select v40 c1_i32_33 c2_i32
  let v42 : BitVec 32 := Scalar.remsi arg16 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let c0_i32_37 : BitVec 32 := 0#32
  let v50 : BitVec 1 := Scalar.cmpi .eq v49 c0_i32_37
  let v51 : BitVec 32 := Scalar.extui v50
  let c0_i32_38 : BitVec 32 := 0#32
  let v52 : BitVec 1 := Scalar.cmpi .ne v51 c0_i32_38
  v52

def k1_off566 (i : grid1.Coords) (k1_t9 : Fin (k1_t9_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c112_i32 : BitVec 32 := 112#32
  let v66 : BitVec 32 := Scalar.muli arg16 c112_i32
  let v67 : BitVec 32 := Scalar.addi v3 v66
  let c0_i32_48 : BitVec 32 := 0#32
  ![v67.toNat, 0]
def k1_cond12 (i : grid1.Coords) (k1_t9 : Fin (k1_t9_loop i).trips) : BitVec 1 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c1_i32_50 : BitVec 32 := 1#32
  let v70 : BitVec 32 := Scalar.addi arg16 c1_i32_50
  let v71 : BitVec 1 := Scalar.cmpi .slt v70 v26
  let v72 : BitVec 32 := Scalar.extui v71
  let c0_i32_51 : BitVec 32 := 0#32
  let v73 : BitVec 1 := Scalar.cmpi .ne v72 c0_i32_51
  v73

def k1_off567 (i : grid1.Coords) (k1_t9 : Fin (k1_t9_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c1_i32_56 : BitVec 32 := 1#32
  let v76 : BitVec 32 := Scalar.addi arg16 c1_i32_56
  let c112_i32_57 : BitVec 32 := 112#32
  let v77 : BitVec 32 := Scalar.muli v76 c112_i32_57
  let v78 : BitVec 32 := Scalar.addi v3 v77
  let c0_i32_58 : BitVec 32 := 0#32
  ![v78.toNat, 0]
@[reducible] def k1_t10_loop : Scf.Loop 32 :=
  let c0_i32_53 : BitVec 32 := 0#32
  let c7_i32 : BitVec 32 := 7#32
  let v74 : BitVec 32 := Scalar.addi c0_i32_53 c7_i32
  let c1_i32_54 : BitVec 32 := 1#32
  ⟨c0_i32_53, v74, c1_i32_54⟩
def k1_off568 (i : grid1.Coords) (k1_t9 : Fin (k1_t9_loop i).trips) (k1_t10 : Fin k1_t10_loop.trips) : Fin 1 → Nat :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c7_i32_56 : BitVec 32 := 7#32
  let v76 : BitVec 32 := Scalar.muli arg16 c7_i32_56
  let c0_i32_53 : BitVec 32 := 0#32
  let c1_i32_54 : BitVec 32 := 1#32
  let arg18 : BitVec 32 := Scf.iv c0_i32_53 c1_i32_54 k1_t10
  let v77 : BitVec 32 := Scalar.addi v76 arg18
  let c16_i32_57 : BitVec 32 := 16#32
  let v78 : BitVec 32 := Scalar.muli v77 c16_i32_57
  let v79 : Index := Scalar.indexCast v78
  ![v79.toNat]
def k1_off569 (k1_t10 : Fin k1_t10_loop.trips) (c0_i32_70 : BitVec 32) : Fin 2 → Nat :=
  let c0_i32_53 : BitVec 32 := 0#32
  let c1_i32_54 : BitVec 32 := 1#32
  let arg18 : BitVec 32 := Scf.iv c0_i32_53 c1_i32_54 k1_t10
  let c16_i32_69 : BitVec 32 := 16#32
  let v104 : BitVec 32 := Scalar.muli arg18 c16_i32_69
  let v105 : BitVec 32 := Scalar.addi v104 c0_i32_70
  let v106 : Index := Scalar.indexCast v105
  let c0 : Index := 0#32
  ![v106.toNat, 0]
def k1_off570 (k1_t10 : Fin k1_t10_loop.trips) (c0_i32_72 : BitVec 32) : Fin 2 → Nat :=
  let c0_i32_53 : BitVec 32 := 0#32
  let c1_i32_54 : BitVec 32 := 1#32
  let arg18 : BitVec 32 := Scf.iv c0_i32_53 c1_i32_54 k1_t10
  let c16_i32_71 : BitVec 32 := 16#32
  let v111 : BitVec 32 := Scalar.muli arg18 c16_i32_71
  let v112 : BitVec 32 := Scalar.addi v111 c0_i32_72
  let v113 : Index := Scalar.indexCast v112
  let c16 : Index := 16#32
  ![v113.toNat, 16]
def k1_off571 (k1_t10 : Fin k1_t10_loop.trips) (c0_i32_74 : BitVec 32) : Fin 2 → Nat :=
  let c0_i32_53 : BitVec 32 := 0#32
  let c1_i32_54 : BitVec 32 := 1#32
  let arg18 : BitVec 32 := Scf.iv c0_i32_53 c1_i32_54 k1_t10
  let c16_i32_73 : BitVec 32 := 16#32
  let v118 : BitVec 32 := Scalar.muli arg18 c16_i32_73
  let v119 : BitVec 32 := Scalar.addi v118 c0_i32_74
  let v120 : Index := Scalar.indexCast v119
  let c32 : Index := 32#32
  ![v120.toNat, 32]
def k1_off572 (k1_t10 : Fin k1_t10_loop.trips) (c0_i32_76 : BitVec 32) : Fin 2 → Nat :=
  let c0_i32_53 : BitVec 32 := 0#32
  let c1_i32_54 : BitVec 32 := 1#32
  let arg18 : BitVec 32 := Scf.iv c0_i32_53 c1_i32_54 k1_t10
  let c16_i32_75 : BitVec 32 := 16#32
  let v125 : BitVec 32 := Scalar.muli arg18 c16_i32_75
  let v126 : BitVec 32 := Scalar.addi v125 c0_i32_76
  let v127 : Index := Scalar.indexCast v126
  let c48 : Index := 48#32
  ![v127.toNat, 48]
def k1_off573 (k1_t10 : Fin k1_t10_loop.trips) (c0_i32_78 : BitVec 32) : Fin 2 → Nat :=
  let c0_i32_53 : BitVec 32 := 0#32
  let c1_i32_54 : BitVec 32 := 1#32
  let arg18 : BitVec 32 := Scf.iv c0_i32_53 c1_i32_54 k1_t10
  let c16_i32_77 : BitVec 32 := 16#32
  let v132 : BitVec 32 := Scalar.muli arg18 c16_i32_77
  let v133 : BitVec 32 := Scalar.addi v132 c0_i32_78
  let v134 : Index := Scalar.indexCast v133
  let c64 : Index := 64#32
  ![v134.toNat, 64]
def k1_off574 (k1_t10 : Fin k1_t10_loop.trips) (c0_i32_80 : BitVec 32) : Fin 2 → Nat :=
  let c0_i32_53 : BitVec 32 := 0#32
  let c1_i32_54 : BitVec 32 := 1#32
  let arg18 : BitVec 32 := Scf.iv c0_i32_53 c1_i32_54 k1_t10
  let c16_i32_79 : BitVec 32 := 16#32
  let v139 : BitVec 32 := Scalar.muli arg18 c16_i32_79
  let v140 : BitVec 32 := Scalar.addi v139 c0_i32_80
  let v141 : Index := Scalar.indexCast v140
  let c80 : Index := 80#32
  ![v141.toNat, 80]
def k1_off575 (k1_t10 : Fin k1_t10_loop.trips) (c0_i32_82 : BitVec 32) : Fin 2 → Nat :=
  let c0_i32_53 : BitVec 32 := 0#32
  let c1_i32_54 : BitVec 32 := 1#32
  let arg18 : BitVec 32 := Scf.iv c0_i32_53 c1_i32_54 k1_t10
  let c16_i32_81 : BitVec 32 := 16#32
  let v146 : BitVec 32 := Scalar.muli arg18 c16_i32_81
  let v147 : BitVec 32 := Scalar.addi v146 c0_i32_82
  let v148 : Index := Scalar.indexCast v147
  let c96 : Index := 96#32
  ![v148.toNat, 96]
def k1_off576 (k1_t10 : Fin k1_t10_loop.trips) (c0_i32_84 : BitVec 32) : Fin 2 → Nat :=
  let c0_i32_53 : BitVec 32 := 0#32
  let c1_i32_54 : BitVec 32 := 1#32
  let arg18 : BitVec 32 := Scf.iv c0_i32_53 c1_i32_54 k1_t10
  let c16_i32_83 : BitVec 32 := 16#32
  let v153 : BitVec 32 := Scalar.muli arg18 c16_i32_83
  let v154 : BitVec 32 := Scalar.addi v153 c0_i32_84
  let v155 : Index := Scalar.indexCast v154
  let c112 : Index := 112#32
  ![v155.toNat, 112]
def k1_off577 (v85 : BitVec 32) : Fin 2 → Nat :=
  let v1030 : Index := Scalar.indexCast v85
  let c0_433 : Index := 0#32
  ![v1030.toNat, 0]
def k1_cond13 (v85 : BitVec 32) (v87 : BitVec 32) : BitVec 1 :=
  let v88 : BitVec 1 := Scalar.cmpi .eq v85 v87
  let v89 : BitVec 32 := Scalar.extui v88
  let c0_i32_59 : BitVec 32 := 0#32
  let v90 : BitVec 1 := Scalar.cmpi .ne v89 c0_i32_59
  v90

def k1_off578 (v85 : BitVec 32) : Fin 2 → Nat :=
  let v1035 : Index := Scalar.indexCast v85
  let c16_435 : Index := 16#32
  ![v1035.toNat, 16]
def k1_off579 (v85 : BitVec 32) : Fin 2 → Nat :=
  let v1040 : Index := Scalar.indexCast v85
  let c32_437 : Index := 32#32
  ![v1040.toNat, 32]
def k1_off580 (v85 : BitVec 32) : Fin 2 → Nat :=
  let v1045 : Index := Scalar.indexCast v85
  let c48_439 : Index := 48#32
  ![v1045.toNat, 48]
def k1_off581 (v85 : BitVec 32) : Fin 2 → Nat :=
  let v1050 : Index := Scalar.indexCast v85
  let c64_441 : Index := 64#32
  ![v1050.toNat, 64]
def k1_off582 (v85 : BitVec 32) : Fin 2 → Nat :=
  let v1055 : Index := Scalar.indexCast v85
  let c80_443 : Index := 80#32
  ![v1055.toNat, 80]
def k1_off583 (v85 : BitVec 32) : Fin 2 → Nat :=
  let v1060 : Index := Scalar.indexCast v85
  let c96_445 : Index := 96#32
  ![v1060.toNat, 96]
def k1_off584 (v85 : BitVec 32) : Fin 2 → Nat :=
  let v1065 : Index := Scalar.indexCast v85
  let c112_447 : Index := 112#32
  ![v1065.toNat, 112]

def k1_chk53 (i : grid1.Coords) (k1_t9 : Fin (k1_t9_loop i).trips) (v85 : BitVec 32) (v87 : BitVec 32) : Prop :=
  (∀ (k1_h11 : k1_cond11 i k1_t9 = 1#1), ∀ (k1_h13 : k1_cond13 v85 v87 = 1#1), ∀ a, (k1_off577 v85) a + S1x16.size a ≤ S256x128.size a) ∧
  (∀ (k1_h11 : k1_cond11 i k1_t9 = 1#1), ∀ (k1_h13 : k1_cond13 v85 v87 = 1#1), ∀ a, (k1_off578 v85) a + S1x16.size a ≤ S256x128.size a) ∧
  (∀ (k1_h11 : k1_cond11 i k1_t9 = 1#1), ∀ (k1_h13 : k1_cond13 v85 v87 = 1#1), ∀ a, (k1_off579 v85) a + S1x16.size a ≤ S256x128.size a) ∧
  (∀ (k1_h11 : k1_cond11 i k1_t9 = 1#1), ∀ (k1_h13 : k1_cond13 v85 v87 = 1#1), ∀ a, (k1_off580 v85) a + S1x16.size a ≤ S256x128.size a) ∧
  (∀ (k1_h11 : k1_cond11 i k1_t9 = 1#1), ∀ (k1_h13 : k1_cond13 v85 v87 = 1#1), ∀ a, (k1_off581 v85) a + S1x16.size a ≤ S256x128.size a) ∧
  (∀ (k1_h11 : k1_cond11 i k1_t9 = 1#1), ∀ (k1_h13 : k1_cond13 v85 v87 = 1#1), ∀ a, (k1_off582 v85) a + S1x16.size a ≤ S256x128.size a) ∧
  (∀ (k1_h11 : k1_cond11 i k1_t9 = 1#1), ∀ (k1_h13 : k1_cond13 v85 v87 = 1#1), ∀ a, (k1_off583 v85) a + S1x16.size a ≤ S256x128.size a) ∧
  (∀ (k1_h11 : k1_cond11 i k1_t9 = 1#1), ∀ (k1_h13 : k1_cond13 v85 v87 = 1#1), ∀ a, (k1_off584 v85) a + S1x16.size a ≤ S256x128.size a)
theorem k1_off577_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off577 v85) a + S1x16.size a ≤ S256x128.size a := fun i k1_t9 v85 v87 k1_hw53 k1_h11 k1_h13 => k1_hw53.1 k1_h11 k1_h13
theorem k1_off578_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off578 v85) a + S1x16.size a ≤ S256x128.size a := fun i k1_t9 v85 v87 k1_hw53 k1_h11 k1_h13 => k1_hw53.2.1 k1_h11 k1_h13
theorem k1_off579_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off579 v85) a + S1x16.size a ≤ S256x128.size a := fun i k1_t9 v85 v87 k1_hw53 k1_h11 k1_h13 => k1_hw53.2.2.1 k1_h11 k1_h13
theorem k1_off580_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off580 v85) a + S1x16.size a ≤ S256x128.size a := fun i k1_t9 v85 v87 k1_hw53 k1_h11 k1_h13 => k1_hw53.2.2.2.1 k1_h11 k1_h13
theorem k1_off581_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off581 v85) a + S1x16.size a ≤ S256x128.size a := fun i k1_t9 v85 v87 k1_hw53 k1_h11 k1_h13 => k1_hw53.2.2.2.2.1 k1_h11 k1_h13
theorem k1_off582_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off582 v85) a + S1x16.size a ≤ S256x128.size a := fun i k1_t9 v85 v87 k1_hw53 k1_h11 k1_h13 => k1_hw53.2.2.2.2.2.1 k1_h11 k1_h13
theorem k1_off583_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off583 v85) a + S1x16.size a ≤ S256x128.size a := fun i k1_t9 v85 v87 k1_hw53 k1_h11 k1_h13 => k1_hw53.2.2.2.2.2.2.1 k1_h11 k1_h13
theorem k1_off584_inb : ∀ (i : grid1.Coords) (k1_t9 : Fin (k1_t9_loop i).trips) (v85 : BitVec 32) (v87 : BitVec 32) (k1_hw53 : k1_chk53 i k1_t9 v85 v87), ∀ (k1_h11 : k1_cond11 i k1_t9 = 1#1), ∀ (k1_h13 : k1_cond13 v85 v87 = 1#1), ∀ a, (k1_off584 v85) a + S1x16.size a ≤ S256x128.size a := fun i k1_t9 v85 v87 k1_hw53 k1_h11 k1_h13 => k1_hw53.2.2.2.2.2.2.2 k1_h11 k1_h13

def k1_off585 (v95 : BitVec 32) : Fin 2 → Nat :=
  let v98 : Index := Scalar.indexCast v95
  let c0 : Index := 0#32
  ![v98.toNat, 0]
def k1_cond14 (v85 : BitVec 32) (v87 : BitVec 32) : BitVec 1 :=
  let v91 : BitVec 1 := Scalar.cmpi .ne v85 v87
  let v92 : BitVec 32 := Scalar.extui v91
  let c0_i32_60 : BitVec 32 := 0#32
  let v93 : BitVec 1 := Scalar.cmpi .ne v92 c0_i32_60
  v93

def k1_off586 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_62 : BitVec 32 := 16#32
  let v100 : BitVec 32 := Scalar.muli arg18 c16_i32_62
  let c0_i32_63 : BitVec 32 := 0#32
  let v101 : BitVec 32 := Scalar.addi v100 c0_i32_63
  let v102 : Index := Scalar.indexCast v101
  let c0_64 : Index := 0#32
  ![v102.toNat, 0]
def k1_off587 (v95 : BitVec 32) : Fin 2 → Nat :=
  let v109 : Index := Scalar.indexCast v95
  let c16 : Index := 16#32
  ![v109.toNat, 16]
def k1_off588 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_66 : BitVec 32 := 16#32
  let v111 : BitVec 32 := Scalar.muli arg18 c16_i32_66
  let c0_i32_67 : BitVec 32 := 0#32
  let v112 : BitVec 32 := Scalar.addi v111 c0_i32_67
  let v113 : Index := Scalar.indexCast v112
  let c16_68 : Index := 16#32
  ![v113.toNat, 16]
def k1_off589 (v95 : BitVec 32) : Fin 2 → Nat :=
  let v120 : Index := Scalar.indexCast v95
  let c32 : Index := 32#32
  ![v120.toNat, 32]
def k1_off590 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_70 : BitVec 32 := 16#32
  let v122 : BitVec 32 := Scalar.muli arg18 c16_i32_70
  let c0_i32_71 : BitVec 32 := 0#32
  let v123 : BitVec 32 := Scalar.addi v122 c0_i32_71
  let v124 : Index := Scalar.indexCast v123
  let c32_72 : Index := 32#32
  ![v124.toNat, 32]
def k1_off591 (v95 : BitVec 32) : Fin 2 → Nat :=
  let v131 : Index := Scalar.indexCast v95
  let c48 : Index := 48#32
  ![v131.toNat, 48]
def k1_off592 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_74 : BitVec 32 := 16#32
  let v133 : BitVec 32 := Scalar.muli arg18 c16_i32_74
  let c0_i32_75 : BitVec 32 := 0#32
  let v134 : BitVec 32 := Scalar.addi v133 c0_i32_75
  let v135 : Index := Scalar.indexCast v134
  let c48_76 : Index := 48#32
  ![v135.toNat, 48]
def k1_off593 (v95 : BitVec 32) : Fin 2 → Nat :=
  let v142 : Index := Scalar.indexCast v95
  let c64 : Index := 64#32
  ![v142.toNat, 64]
def k1_off594 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_78 : BitVec 32 := 16#32
  let v144 : BitVec 32 := Scalar.muli arg18 c16_i32_78
  let c0_i32_79 : BitVec 32 := 0#32
  let v145 : BitVec 32 := Scalar.addi v144 c0_i32_79
  let v146 : Index := Scalar.indexCast v145
  let c64_80 : Index := 64#32
  ![v146.toNat, 64]
def k1_off595 (v95 : BitVec 32) : Fin 2 → Nat :=
  let v153 : Index := Scalar.indexCast v95
  let c80 : Index := 80#32
  ![v153.toNat, 80]
def k1_off596 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_82 : BitVec 32 := 16#32
  let v155 : BitVec 32 := Scalar.muli arg18 c16_i32_82
  let c0_i32_83 : BitVec 32 := 0#32
  let v156 : BitVec 32 := Scalar.addi v155 c0_i32_83
  let v157 : Index := Scalar.indexCast v156
  let c80_84 : Index := 80#32
  ![v157.toNat, 80]
def k1_off597 (v95 : BitVec 32) : Fin 2 → Nat :=
  let v164 : Index := Scalar.indexCast v95
  let c96 : Index := 96#32
  ![v164.toNat, 96]
def k1_off598 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_86 : BitVec 32 := 16#32
  let v166 : BitVec 32 := Scalar.muli arg18 c16_i32_86
  let c0_i32_87 : BitVec 32 := 0#32
  let v167 : BitVec 32 := Scalar.addi v166 c0_i32_87
  let v168 : Index := Scalar.indexCast v167
  let c96_88 : Index := 96#32
  ![v168.toNat, 96]
def k1_off599 (v95 : BitVec 32) : Fin 2 → Nat :=
  let v175 : Index := Scalar.indexCast v95
  let c112 : Index := 112#32
  ![v175.toNat, 112]

def k1_chk54 (i : grid1.Coords) (k1_t9 : Fin (k1_t9_loop i).trips) (v85 : BitVec 32) (v87 : BitVec 32) (v95 : BitVec 32) : Prop :=
  (∀ (k1_h11 : k1_cond11 i k1_t9 = 1#1), ∀ (k1_h14 : k1_cond14 v85 v87 = 1#1), ∀ a, (k1_off585 v95) a + S1x16.size a ≤ S256x128.size a) ∧
  (∀ (k1_h11 : k1_cond11 i k1_t9 = 1#1), ∀ (k1_h14 : k1_cond14 v85 v87 = 1#1), ∀ a, (k1_off587 v95) a + S1x16.size a ≤ S256x128.size a) ∧
  (∀ (k1_h11 : k1_cond11 i k1_t9 = 1#1), ∀ (k1_h14 : k1_cond14 v85 v87 = 1#1), ∀ a, (k1_off589 v95) a + S1x16.size a ≤ S256x128.size a) ∧
  (∀ (k1_h11 : k1_cond11 i k1_t9 = 1#1), ∀ (k1_h14 : k1_cond14 v85 v87 = 1#1), ∀ a, (k1_off591 v95) a + S1x16.size a ≤ S256x128.size a) ∧
  (∀ (k1_h11 : k1_cond11 i k1_t9 = 1#1), ∀ (k1_h14 : k1_cond14 v85 v87 = 1#1), ∀ a, (k1_off593 v95) a + S1x16.size a ≤ S256x128.size a) ∧
  (∀ (k1_h11 : k1_cond11 i k1_t9 = 1#1), ∀ (k1_h14 : k1_cond14 v85 v87 = 1#1), ∀ a, (k1_off595 v95) a + S1x16.size a ≤ S256x128.size a) ∧
  (∀ (k1_h11 : k1_cond11 i k1_t9 = 1#1), ∀ (k1_h14 : k1_cond14 v85 v87 = 1#1), ∀ a, (k1_off597 v95) a + S1x16.size a ≤ S256x128.size a) ∧
  (∀ (k1_h11 : k1_cond11 i k1_t9 = 1#1), ∀ (k1_h14 : k1_cond14 v85 v87 = 1#1), ∀ a, (k1_off599 v95) a + S1x16.size a ≤ S256x128.size a)
theorem k1_off585_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off585 v95) a + S1x16.size a ≤ S256x128.size a := fun i k1_t9 v85 v87 v95 k1_hw54 k1_h11 k1_h14 => k1_hw54.1 k1_h11 k1_h14
theorem k1_off587_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off587 v95) a + S1x16.size a ≤ S256x128.size a := fun i k1_t9 v85 v87 v95 k1_hw54 k1_h11 k1_h14 => k1_hw54.2.1 k1_h11 k1_h14
theorem k1_off589_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off589 v95) a + S1x16.size a ≤ S256x128.size a := fun i k1_t9 v85 v87 v95 k1_hw54 k1_h11 k1_h14 => k1_hw54.2.2.1 k1_h11 k1_h14
theorem k1_off591_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off591 v95) a + S1x16.size a ≤ S256x128.size a := fun i k1_t9 v85 v87 v95 k1_hw54 k1_h11 k1_h14 => k1_hw54.2.2.2.1 k1_h11 k1_h14
theorem k1_off593_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off593 v95) a + S1x16.size a ≤ S256x128.size a := fun i k1_t9 v85 v87 v95 k1_hw54 k1_h11 k1_h14 => k1_hw54.2.2.2.2.1 k1_h11 k1_h14
theorem k1_off595_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off595 v95) a + S1x16.size a ≤ S256x128.size a := fun i k1_t9 v85 v87 v95 k1_hw54 k1_h11 k1_h14 => k1_hw54.2.2.2.2.2.1 k1_h11 k1_h14
theorem k1_off597_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off597 v95) a + S1x16.size a ≤ S256x128.size a := fun i k1_t9 v85 v87 v95 k1_hw54 k1_h11 k1_h14 => k1_hw54.2.2.2.2.2.2.1 k1_h11 k1_h14
theorem k1_off599_inb : ∀ (i : grid1.Coords) (k1_t9 : Fin (k1_t9_loop i).trips) (v85 : BitVec 32) (v87 : BitVec 32) (v95 : BitVec 32) (k1_hw54 : k1_chk54 i k1_t9 v85 v87 v95), ∀ (k1_h11 : k1_cond11 i k1_t9 = 1#1), ∀ (k1_h14 : k1_cond14 v85 v87 = 1#1), ∀ a, (k1_off599 v95) a + S1x16.size a ≤ S256x128.size a := fun i k1_t9 v85 v87 v95 k1_hw54 k1_h11 k1_h14 => k1_hw54.2.2.2.2.2.2.2 k1_h11 k1_h14

def k1_off600 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_90 : BitVec 32 := 16#32
  let v177 : BitVec 32 := Scalar.muli arg18 c16_i32_90
  let c0_i32_91 : BitVec 32 := 0#32
  let v178 : BitVec 32 := Scalar.addi v177 c0_i32_91
  let v179 : Index := Scalar.indexCast v178
  let c112_92 : Index := 112#32
  ![v179.toNat, 112]
def k1_off601 (v187 : BitVec 32) : Fin 2 → Nat :=
  let v190 : Index := Scalar.indexCast v187
  let c0_94 : Index := 0#32
  ![v190.toNat, 0]

def k1_off602 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_95 : BitVec 32 := 16#32
  let v192 : BitVec 32 := Scalar.muli arg18 c16_i32_95
  let c1_i32_96 : BitVec 32 := 1#32
  let v193 : BitVec 32 := Scalar.addi v192 c1_i32_96
  let v194 : Index := Scalar.indexCast v193
  let c0_97 : Index := 0#32
  ![v194.toNat, 0]
def k1_off603 (v187 : BitVec 32) : Fin 2 → Nat :=
  let v201 : Index := Scalar.indexCast v187
  let c16_99 : Index := 16#32
  ![v201.toNat, 16]
def k1_off604 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_100 : BitVec 32 := 16#32
  let v203 : BitVec 32 := Scalar.muli arg18 c16_i32_100
  let c1_i32_101 : BitVec 32 := 1#32
  let v204 : BitVec 32 := Scalar.addi v203 c1_i32_101
  let v205 : Index := Scalar.indexCast v204
  let c16_102 : Index := 16#32
  ![v205.toNat, 16]
def k1_off605 (v187 : BitVec 32) : Fin 2 → Nat :=
  let v212 : Index := Scalar.indexCast v187
  let c32_104 : Index := 32#32
  ![v212.toNat, 32]
def k1_off606 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_105 : BitVec 32 := 16#32
  let v214 : BitVec 32 := Scalar.muli arg18 c16_i32_105
  let c1_i32_106 : BitVec 32 := 1#32
  let v215 : BitVec 32 := Scalar.addi v214 c1_i32_106
  let v216 : Index := Scalar.indexCast v215
  let c32_107 : Index := 32#32
  ![v216.toNat, 32]
def k1_off607 (v187 : BitVec 32) : Fin 2 → Nat :=
  let v223 : Index := Scalar.indexCast v187
  let c48_109 : Index := 48#32
  ![v223.toNat, 48]
def k1_off608 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_110 : BitVec 32 := 16#32
  let v225 : BitVec 32 := Scalar.muli arg18 c16_i32_110
  let c1_i32_111 : BitVec 32 := 1#32
  let v226 : BitVec 32 := Scalar.addi v225 c1_i32_111
  let v227 : Index := Scalar.indexCast v226
  let c48_112 : Index := 48#32
  ![v227.toNat, 48]
def k1_off609 (v187 : BitVec 32) : Fin 2 → Nat :=
  let v234 : Index := Scalar.indexCast v187
  let c64_114 : Index := 64#32
  ![v234.toNat, 64]
def k1_off610 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_115 : BitVec 32 := 16#32
  let v236 : BitVec 32 := Scalar.muli arg18 c16_i32_115
  let c1_i32_116 : BitVec 32 := 1#32
  let v237 : BitVec 32 := Scalar.addi v236 c1_i32_116
  let v238 : Index := Scalar.indexCast v237
  let c64_117 : Index := 64#32
  ![v238.toNat, 64]
def k1_off611 (v187 : BitVec 32) : Fin 2 → Nat :=
  let v245 : Index := Scalar.indexCast v187
  let c80_119 : Index := 80#32
  ![v245.toNat, 80]
def k1_off612 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_120 : BitVec 32 := 16#32
  let v247 : BitVec 32 := Scalar.muli arg18 c16_i32_120
  let c1_i32_121 : BitVec 32 := 1#32
  let v248 : BitVec 32 := Scalar.addi v247 c1_i32_121
  let v249 : Index := Scalar.indexCast v248
  let c80_122 : Index := 80#32
  ![v249.toNat, 80]
def k1_off613 (v187 : BitVec 32) : Fin 2 → Nat :=
  let v256 : Index := Scalar.indexCast v187
  let c96_124 : Index := 96#32
  ![v256.toNat, 96]
def k1_off614 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_125 : BitVec 32 := 16#32
  let v258 : BitVec 32 := Scalar.muli arg18 c16_i32_125
  let c1_i32_126 : BitVec 32 := 1#32
  let v259 : BitVec 32 := Scalar.addi v258 c1_i32_126
  let v260 : Index := Scalar.indexCast v259
  let c96_127 : Index := 96#32
  ![v260.toNat, 96]
def k1_off615 (v187 : BitVec 32) : Fin 2 → Nat :=
  let v267 : Index := Scalar.indexCast v187
  let c112_129 : Index := 112#32
  ![v267.toNat, 112]

def k1_chk55 (i : grid1.Coords) (k1_t9 : Fin (k1_t9_loop i).trips) (v85 : BitVec 32) (v87 : BitVec 32) (v187 : BitVec 32) : Prop :=
  (∀ (k1_h11 : k1_cond11 i k1_t9 = 1#1), ∀ (k1_h14 : k1_cond14 v85 v87 = 1#1), ∀ a, (k1_off601 v187) a + S1x16.size a ≤ S256x128.size a) ∧
  (∀ (k1_h11 : k1_cond11 i k1_t9 = 1#1), ∀ (k1_h14 : k1_cond14 v85 v87 = 1#1), ∀ a, (k1_off603 v187) a + S1x16.size a ≤ S256x128.size a) ∧
  (∀ (k1_h11 : k1_cond11 i k1_t9 = 1#1), ∀ (k1_h14 : k1_cond14 v85 v87 = 1#1), ∀ a, (k1_off605 v187) a + S1x16.size a ≤ S256x128.size a) ∧
  (∀ (k1_h11 : k1_cond11 i k1_t9 = 1#1), ∀ (k1_h14 : k1_cond14 v85 v87 = 1#1), ∀ a, (k1_off607 v187) a + S1x16.size a ≤ S256x128.size a) ∧
  (∀ (k1_h11 : k1_cond11 i k1_t9 = 1#1), ∀ (k1_h14 : k1_cond14 v85 v87 = 1#1), ∀ a, (k1_off609 v187) a + S1x16.size a ≤ S256x128.size a) ∧
  (∀ (k1_h11 : k1_cond11 i k1_t9 = 1#1), ∀ (k1_h14 : k1_cond14 v85 v87 = 1#1), ∀ a, (k1_off611 v187) a + S1x16.size a ≤ S256x128.size a) ∧
  (∀ (k1_h11 : k1_cond11 i k1_t9 = 1#1), ∀ (k1_h14 : k1_cond14 v85 v87 = 1#1), ∀ a, (k1_off613 v187) a + S1x16.size a ≤ S256x128.size a) ∧
  (∀ (k1_h11 : k1_cond11 i k1_t9 = 1#1), ∀ (k1_h14 : k1_cond14 v85 v87 = 1#1), ∀ a, (k1_off615 v187) a + S1x16.size a ≤ S256x128.size a)
theorem k1_off601_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off601 v187) a + S1x16.size a ≤ S256x128.size a := fun i k1_t9 v85 v87 v187 k1_hw55 k1_h11 k1_h14 => k1_hw55.1 k1_h11 k1_h14
theorem k1_off603_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off603 v187) a + S1x16.size a ≤ S256x128.size a := fun i k1_t9 v85 v87 v187 k1_hw55 k1_h11 k1_h14 => k1_hw55.2.1 k1_h11 k1_h14
theorem k1_off605_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off605 v187) a + S1x16.size a ≤ S256x128.size a := fun i k1_t9 v85 v87 v187 k1_hw55 k1_h11 k1_h14 => k1_hw55.2.2.1 k1_h11 k1_h14
theorem k1_off607_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off607 v187) a + S1x16.size a ≤ S256x128.size a := fun i k1_t9 v85 v87 v187 k1_hw55 k1_h11 k1_h14 => k1_hw55.2.2.2.1 k1_h11 k1_h14
theorem k1_off609_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off609 v187) a + S1x16.size a ≤ S256x128.size a := fun i k1_t9 v85 v87 v187 k1_hw55 k1_h11 k1_h14 => k1_hw55.2.2.2.2.1 k1_h11 k1_h14
theorem k1_off611_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off611 v187) a + S1x16.size a ≤ S256x128.size a := fun i k1_t9 v85 v87 v187 k1_hw55 k1_h11 k1_h14 => k1_hw55.2.2.2.2.2.1 k1_h11 k1_h14
theorem k1_off613_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off613 v187) a + S1x16.size a ≤ S256x128.size a := fun i k1_t9 v85 v87 v187 k1_hw55 k1_h11 k1_h14 => k1_hw55.2.2.2.2.2.2.1 k1_h11 k1_h14
theorem k1_off615_inb : ∀ (i : grid1.Coords) (k1_t9 : Fin (k1_t9_loop i).trips) (v85 : BitVec 32) (v87 : BitVec 32) (v187 : BitVec 32) (k1_hw55 : k1_chk55 i k1_t9 v85 v87 v187), ∀ (k1_h11 : k1_cond11 i k1_t9 = 1#1), ∀ (k1_h14 : k1_cond14 v85 v87 = 1#1), ∀ a, (k1_off615 v187) a + S1x16.size a ≤ S256x128.size a := fun i k1_t9 v85 v87 v187 k1_hw55 k1_h11 k1_h14 => k1_hw55.2.2.2.2.2.2.2 k1_h11 k1_h14

def k1_off616 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_130 : BitVec 32 := 16#32
  let v269 : BitVec 32 := Scalar.muli arg18 c16_i32_130
  let c1_i32_131 : BitVec 32 := 1#32
  let v270 : BitVec 32 := Scalar.addi v269 c1_i32_131
  let v271 : Index := Scalar.indexCast v270
  let c112_132 : Index := 112#32
  ![v271.toNat, 112]
def k1_off617 (v279 : BitVec 32) : Fin 2 → Nat :=
  let v282 : Index := Scalar.indexCast v279
  let c0_134 : Index := 0#32
  ![v282.toNat, 0]

def k1_off618 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_135 : BitVec 32 := 16#32
  let v284 : BitVec 32 := Scalar.muli arg18 c16_i32_135
  let c2_i32_136 : BitVec 32 := 2#32
  let v285 : BitVec 32 := Scalar.addi v284 c2_i32_136
  let v286 : Index := Scalar.indexCast v285
  let c0_137 : Index := 0#32
  ![v286.toNat, 0]
def k1_off619 (v279 : BitVec 32) : Fin 2 → Nat :=
  let v293 : Index := Scalar.indexCast v279
  let c16_139 : Index := 16#32
  ![v293.toNat, 16]
def k1_off620 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_140 : BitVec 32 := 16#32
  let v295 : BitVec 32 := Scalar.muli arg18 c16_i32_140
  let c2_i32_141 : BitVec 32 := 2#32
  let v296 : BitVec 32 := Scalar.addi v295 c2_i32_141
  let v297 : Index := Scalar.indexCast v296
  let c16_142 : Index := 16#32
  ![v297.toNat, 16]
def k1_off621 (v279 : BitVec 32) : Fin 2 → Nat :=
  let v304 : Index := Scalar.indexCast v279
  let c32_144 : Index := 32#32
  ![v304.toNat, 32]
def k1_off622 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_145 : BitVec 32 := 16#32
  let v306 : BitVec 32 := Scalar.muli arg18 c16_i32_145
  let c2_i32_146 : BitVec 32 := 2#32
  let v307 : BitVec 32 := Scalar.addi v306 c2_i32_146
  let v308 : Index := Scalar.indexCast v307
  let c32_147 : Index := 32#32
  ![v308.toNat, 32]
def k1_off623 (v279 : BitVec 32) : Fin 2 → Nat :=
  let v315 : Index := Scalar.indexCast v279
  let c48_149 : Index := 48#32
  ![v315.toNat, 48]
def k1_off624 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_150 : BitVec 32 := 16#32
  let v317 : BitVec 32 := Scalar.muli arg18 c16_i32_150
  let c2_i32_151 : BitVec 32 := 2#32
  let v318 : BitVec 32 := Scalar.addi v317 c2_i32_151
  let v319 : Index := Scalar.indexCast v318
  let c48_152 : Index := 48#32
  ![v319.toNat, 48]
def k1_off625 (v279 : BitVec 32) : Fin 2 → Nat :=
  let v326 : Index := Scalar.indexCast v279
  let c64_154 : Index := 64#32
  ![v326.toNat, 64]
def k1_off626 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_155 : BitVec 32 := 16#32
  let v328 : BitVec 32 := Scalar.muli arg18 c16_i32_155
  let c2_i32_156 : BitVec 32 := 2#32
  let v329 : BitVec 32 := Scalar.addi v328 c2_i32_156
  let v330 : Index := Scalar.indexCast v329
  let c64_157 : Index := 64#32
  ![v330.toNat, 64]
def k1_off627 (v279 : BitVec 32) : Fin 2 → Nat :=
  let v337 : Index := Scalar.indexCast v279
  let c80_159 : Index := 80#32
  ![v337.toNat, 80]
def k1_off628 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_160 : BitVec 32 := 16#32
  let v339 : BitVec 32 := Scalar.muli arg18 c16_i32_160
  let c2_i32_161 : BitVec 32 := 2#32
  let v340 : BitVec 32 := Scalar.addi v339 c2_i32_161
  let v341 : Index := Scalar.indexCast v340
  let c80_162 : Index := 80#32
  ![v341.toNat, 80]
def k1_off629 (v279 : BitVec 32) : Fin 2 → Nat :=
  let v348 : Index := Scalar.indexCast v279
  let c96_164 : Index := 96#32
  ![v348.toNat, 96]
def k1_off630 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_165 : BitVec 32 := 16#32
  let v350 : BitVec 32 := Scalar.muli arg18 c16_i32_165
  let c2_i32_166 : BitVec 32 := 2#32
  let v351 : BitVec 32 := Scalar.addi v350 c2_i32_166
  let v352 : Index := Scalar.indexCast v351
  let c96_167 : Index := 96#32
  ![v352.toNat, 96]
def k1_off631 (v279 : BitVec 32) : Fin 2 → Nat :=
  let v359 : Index := Scalar.indexCast v279
  let c112_169 : Index := 112#32
  ![v359.toNat, 112]

def k1_chk56 (i : grid1.Coords) (k1_t9 : Fin (k1_t9_loop i).trips) (v85 : BitVec 32) (v87 : BitVec 32) (v279 : BitVec 32) : Prop :=
  (∀ (k1_h11 : k1_cond11 i k1_t9 = 1#1), ∀ (k1_h14 : k1_cond14 v85 v87 = 1#1), ∀ a, (k1_off617 v279) a + S1x16.size a ≤ S256x128.size a) ∧
  (∀ (k1_h11 : k1_cond11 i k1_t9 = 1#1), ∀ (k1_h14 : k1_cond14 v85 v87 = 1#1), ∀ a, (k1_off619 v279) a + S1x16.size a ≤ S256x128.size a) ∧
  (∀ (k1_h11 : k1_cond11 i k1_t9 = 1#1), ∀ (k1_h14 : k1_cond14 v85 v87 = 1#1), ∀ a, (k1_off621 v279) a + S1x16.size a ≤ S256x128.size a) ∧
  (∀ (k1_h11 : k1_cond11 i k1_t9 = 1#1), ∀ (k1_h14 : k1_cond14 v85 v87 = 1#1), ∀ a, (k1_off623 v279) a + S1x16.size a ≤ S256x128.size a) ∧
  (∀ (k1_h11 : k1_cond11 i k1_t9 = 1#1), ∀ (k1_h14 : k1_cond14 v85 v87 = 1#1), ∀ a, (k1_off625 v279) a + S1x16.size a ≤ S256x128.size a) ∧
  (∀ (k1_h11 : k1_cond11 i k1_t9 = 1#1), ∀ (k1_h14 : k1_cond14 v85 v87 = 1#1), ∀ a, (k1_off627 v279) a + S1x16.size a ≤ S256x128.size a) ∧
  (∀ (k1_h11 : k1_cond11 i k1_t9 = 1#1), ∀ (k1_h14 : k1_cond14 v85 v87 = 1#1), ∀ a, (k1_off629 v279) a + S1x16.size a ≤ S256x128.size a) ∧
  (∀ (k1_h11 : k1_cond11 i k1_t9 = 1#1), ∀ (k1_h14 : k1_cond14 v85 v87 = 1#1), ∀ a, (k1_off631 v279) a + S1x16.size a ≤ S256x128.size a)
theorem k1_off617_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off617 v279) a + S1x16.size a ≤ S256x128.size a := fun i k1_t9 v85 v87 v279 k1_hw56 k1_h11 k1_h14 => k1_hw56.1 k1_h11 k1_h14
theorem k1_off619_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off619 v279) a + S1x16.size a ≤ S256x128.size a := fun i k1_t9 v85 v87 v279 k1_hw56 k1_h11 k1_h14 => k1_hw56.2.1 k1_h11 k1_h14
theorem k1_off621_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off621 v279) a + S1x16.size a ≤ S256x128.size a := fun i k1_t9 v85 v87 v279 k1_hw56 k1_h11 k1_h14 => k1_hw56.2.2.1 k1_h11 k1_h14
theorem k1_off623_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off623 v279) a + S1x16.size a ≤ S256x128.size a := fun i k1_t9 v85 v87 v279 k1_hw56 k1_h11 k1_h14 => k1_hw56.2.2.2.1 k1_h11 k1_h14
theorem k1_off625_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off625 v279) a + S1x16.size a ≤ S256x128.size a := fun i k1_t9 v85 v87 v279 k1_hw56 k1_h11 k1_h14 => k1_hw56.2.2.2.2.1 k1_h11 k1_h14
theorem k1_off627_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off627 v279) a + S1x16.size a ≤ S256x128.size a := fun i k1_t9 v85 v87 v279 k1_hw56 k1_h11 k1_h14 => k1_hw56.2.2.2.2.2.1 k1_h11 k1_h14
theorem k1_off629_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off629 v279) a + S1x16.size a ≤ S256x128.size a := fun i k1_t9 v85 v87 v279 k1_hw56 k1_h11 k1_h14 => k1_hw56.2.2.2.2.2.2.1 k1_h11 k1_h14
theorem k1_off631_inb : ∀ (i : grid1.Coords) (k1_t9 : Fin (k1_t9_loop i).trips) (v85 : BitVec 32) (v87 : BitVec 32) (v279 : BitVec 32) (k1_hw56 : k1_chk56 i k1_t9 v85 v87 v279), ∀ (k1_h11 : k1_cond11 i k1_t9 = 1#1), ∀ (k1_h14 : k1_cond14 v85 v87 = 1#1), ∀ a, (k1_off631 v279) a + S1x16.size a ≤ S256x128.size a := fun i k1_t9 v85 v87 v279 k1_hw56 k1_h11 k1_h14 => k1_hw56.2.2.2.2.2.2.2 k1_h11 k1_h14

def k1_off632 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_170 : BitVec 32 := 16#32
  let v361 : BitVec 32 := Scalar.muli arg18 c16_i32_170
  let c2_i32_171 : BitVec 32 := 2#32
  let v362 : BitVec 32 := Scalar.addi v361 c2_i32_171
  let v363 : Index := Scalar.indexCast v362
  let c112_172 : Index := 112#32
  ![v363.toNat, 112]
def k1_off633 (v371 : BitVec 32) : Fin 2 → Nat :=
  let v374 : Index := Scalar.indexCast v371
  let c0_174 : Index := 0#32
  ![v374.toNat, 0]

def k1_off634 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_175 : BitVec 32 := 16#32
  let v376 : BitVec 32 := Scalar.muli arg18 c16_i32_175
  let c3_i32 : BitVec 32 := 3#32
  let v377 : BitVec 32 := Scalar.addi v376 c3_i32
  let v378 : Index := Scalar.indexCast v377
  let c0_176 : Index := 0#32
  ![v378.toNat, 0]
def k1_off635 (v371 : BitVec 32) : Fin 2 → Nat :=
  let v385 : Index := Scalar.indexCast v371
  let c16_178 : Index := 16#32
  ![v385.toNat, 16]
def k1_off636 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_179 : BitVec 32 := 16#32
  let v387 : BitVec 32 := Scalar.muli arg18 c16_i32_179
  let c3_i32_180 : BitVec 32 := 3#32
  let v388 : BitVec 32 := Scalar.addi v387 c3_i32_180
  let v389 : Index := Scalar.indexCast v388
  let c16_181 : Index := 16#32
  ![v389.toNat, 16]
def k1_off637 (v371 : BitVec 32) : Fin 2 → Nat :=
  let v396 : Index := Scalar.indexCast v371
  let c32_183 : Index := 32#32
  ![v396.toNat, 32]
def k1_off638 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_184 : BitVec 32 := 16#32
  let v398 : BitVec 32 := Scalar.muli arg18 c16_i32_184
  let c3_i32_185 : BitVec 32 := 3#32
  let v399 : BitVec 32 := Scalar.addi v398 c3_i32_185
  let v400 : Index := Scalar.indexCast v399
  let c32_186 : Index := 32#32
  ![v400.toNat, 32]
def k1_off639 (v371 : BitVec 32) : Fin 2 → Nat :=
  let v407 : Index := Scalar.indexCast v371
  let c48_188 : Index := 48#32
  ![v407.toNat, 48]
def k1_off640 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_189 : BitVec 32 := 16#32
  let v409 : BitVec 32 := Scalar.muli arg18 c16_i32_189
  let c3_i32_190 : BitVec 32 := 3#32
  let v410 : BitVec 32 := Scalar.addi v409 c3_i32_190
  let v411 : Index := Scalar.indexCast v410
  let c48_191 : Index := 48#32
  ![v411.toNat, 48]
def k1_off641 (v371 : BitVec 32) : Fin 2 → Nat :=
  let v418 : Index := Scalar.indexCast v371
  let c64_193 : Index := 64#32
  ![v418.toNat, 64]
def k1_off642 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_194 : BitVec 32 := 16#32
  let v420 : BitVec 32 := Scalar.muli arg18 c16_i32_194
  let c3_i32_195 : BitVec 32 := 3#32
  let v421 : BitVec 32 := Scalar.addi v420 c3_i32_195
  let v422 : Index := Scalar.indexCast v421
  let c64_196 : Index := 64#32
  ![v422.toNat, 64]
def k1_off643 (v371 : BitVec 32) : Fin 2 → Nat :=
  let v429 : Index := Scalar.indexCast v371
  let c80_198 : Index := 80#32
  ![v429.toNat, 80]
def k1_off644 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_199 : BitVec 32 := 16#32
  let v431 : BitVec 32 := Scalar.muli arg18 c16_i32_199
  let c3_i32_200 : BitVec 32 := 3#32
  let v432 : BitVec 32 := Scalar.addi v431 c3_i32_200
  let v433 : Index := Scalar.indexCast v432
  let c80_201 : Index := 80#32
  ![v433.toNat, 80]
def k1_off645 (v371 : BitVec 32) : Fin 2 → Nat :=
  let v440 : Index := Scalar.indexCast v371
  let c96_203 : Index := 96#32
  ![v440.toNat, 96]
def k1_off646 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_204 : BitVec 32 := 16#32
  let v442 : BitVec 32 := Scalar.muli arg18 c16_i32_204
  let c3_i32_205 : BitVec 32 := 3#32
  let v443 : BitVec 32 := Scalar.addi v442 c3_i32_205
  let v444 : Index := Scalar.indexCast v443
  let c96_206 : Index := 96#32
  ![v444.toNat, 96]
def k1_off647 (v371 : BitVec 32) : Fin 2 → Nat :=
  let v451 : Index := Scalar.indexCast v371
  let c112_208 : Index := 112#32
  ![v451.toNat, 112]

def k1_chk57 (i : grid1.Coords) (k1_t9 : Fin (k1_t9_loop i).trips) (v85 : BitVec 32) (v87 : BitVec 32) (v371 : BitVec 32) : Prop :=
  (∀ (k1_h11 : k1_cond11 i k1_t9 = 1#1), ∀ (k1_h14 : k1_cond14 v85 v87 = 1#1), ∀ a, (k1_off633 v371) a + S1x16.size a ≤ S256x128.size a) ∧
  (∀ (k1_h11 : k1_cond11 i k1_t9 = 1#1), ∀ (k1_h14 : k1_cond14 v85 v87 = 1#1), ∀ a, (k1_off635 v371) a + S1x16.size a ≤ S256x128.size a) ∧
  (∀ (k1_h11 : k1_cond11 i k1_t9 = 1#1), ∀ (k1_h14 : k1_cond14 v85 v87 = 1#1), ∀ a, (k1_off637 v371) a + S1x16.size a ≤ S256x128.size a) ∧
  (∀ (k1_h11 : k1_cond11 i k1_t9 = 1#1), ∀ (k1_h14 : k1_cond14 v85 v87 = 1#1), ∀ a, (k1_off639 v371) a + S1x16.size a ≤ S256x128.size a) ∧
  (∀ (k1_h11 : k1_cond11 i k1_t9 = 1#1), ∀ (k1_h14 : k1_cond14 v85 v87 = 1#1), ∀ a, (k1_off641 v371) a + S1x16.size a ≤ S256x128.size a) ∧
  (∀ (k1_h11 : k1_cond11 i k1_t9 = 1#1), ∀ (k1_h14 : k1_cond14 v85 v87 = 1#1), ∀ a, (k1_off643 v371) a + S1x16.size a ≤ S256x128.size a) ∧
  (∀ (k1_h11 : k1_cond11 i k1_t9 = 1#1), ∀ (k1_h14 : k1_cond14 v85 v87 = 1#1), ∀ a, (k1_off645 v371) a + S1x16.size a ≤ S256x128.size a) ∧
  (∀ (k1_h11 : k1_cond11 i k1_t9 = 1#1), ∀ (k1_h14 : k1_cond14 v85 v87 = 1#1), ∀ a, (k1_off647 v371) a + S1x16.size a ≤ S256x128.size a)
theorem k1_off633_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off633 v371) a + S1x16.size a ≤ S256x128.size a := fun i k1_t9 v85 v87 v371 k1_hw57 k1_h11 k1_h14 => k1_hw57.1 k1_h11 k1_h14
theorem k1_off635_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off635 v371) a + S1x16.size a ≤ S256x128.size a := fun i k1_t9 v85 v87 v371 k1_hw57 k1_h11 k1_h14 => k1_hw57.2.1 k1_h11 k1_h14
theorem k1_off637_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off637 v371) a + S1x16.size a ≤ S256x128.size a := fun i k1_t9 v85 v87 v371 k1_hw57 k1_h11 k1_h14 => k1_hw57.2.2.1 k1_h11 k1_h14
theorem k1_off639_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off639 v371) a + S1x16.size a ≤ S256x128.size a := fun i k1_t9 v85 v87 v371 k1_hw57 k1_h11 k1_h14 => k1_hw57.2.2.2.1 k1_h11 k1_h14
theorem k1_off641_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off641 v371) a + S1x16.size a ≤ S256x128.size a := fun i k1_t9 v85 v87 v371 k1_hw57 k1_h11 k1_h14 => k1_hw57.2.2.2.2.1 k1_h11 k1_h14
theorem k1_off643_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off643 v371) a + S1x16.size a ≤ S256x128.size a := fun i k1_t9 v85 v87 v371 k1_hw57 k1_h11 k1_h14 => k1_hw57.2.2.2.2.2.1 k1_h11 k1_h14
theorem k1_off645_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off645 v371) a + S1x16.size a ≤ S256x128.size a := fun i k1_t9 v85 v87 v371 k1_hw57 k1_h11 k1_h14 => k1_hw57.2.2.2.2.2.2.1 k1_h11 k1_h14
theorem k1_off647_inb : ∀ (i : grid1.Coords) (k1_t9 : Fin (k1_t9_loop i).trips) (v85 : BitVec 32) (v87 : BitVec 32) (v371 : BitVec 32) (k1_hw57 : k1_chk57 i k1_t9 v85 v87 v371), ∀ (k1_h11 : k1_cond11 i k1_t9 = 1#1), ∀ (k1_h14 : k1_cond14 v85 v87 = 1#1), ∀ a, (k1_off647 v371) a + S1x16.size a ≤ S256x128.size a := fun i k1_t9 v85 v87 v371 k1_hw57 k1_h11 k1_h14 => k1_hw57.2.2.2.2.2.2.2 k1_h11 k1_h14

def k1_off648 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_209 : BitVec 32 := 16#32
  let v453 : BitVec 32 := Scalar.muli arg18 c16_i32_209
  let c3_i32_210 : BitVec 32 := 3#32
  let v454 : BitVec 32 := Scalar.addi v453 c3_i32_210
  let v455 : Index := Scalar.indexCast v454
  let c112_211 : Index := 112#32
  ![v455.toNat, 112]
def k1_off649 (v463 : BitVec 32) : Fin 2 → Nat :=
  let v466 : Index := Scalar.indexCast v463
  let c0_213 : Index := 0#32
  ![v466.toNat, 0]

def k1_off650 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_214 : BitVec 32 := 16#32
  let v468 : BitVec 32 := Scalar.muli arg18 c16_i32_214
  let c4_i32 : BitVec 32 := 4#32
  let v469 : BitVec 32 := Scalar.addi v468 c4_i32
  let v470 : Index := Scalar.indexCast v469
  let c0_215 : Index := 0#32
  ![v470.toNat, 0]
def k1_off651 (v463 : BitVec 32) : Fin 2 → Nat :=
  let v477 : Index := Scalar.indexCast v463
  let c16_217 : Index := 16#32
  ![v477.toNat, 16]
def k1_off652 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_218 : BitVec 32 := 16#32
  let v479 : BitVec 32 := Scalar.muli arg18 c16_i32_218
  let c4_i32_219 : BitVec 32 := 4#32
  let v480 : BitVec 32 := Scalar.addi v479 c4_i32_219
  let v481 : Index := Scalar.indexCast v480
  let c16_220 : Index := 16#32
  ![v481.toNat, 16]
def k1_off653 (v463 : BitVec 32) : Fin 2 → Nat :=
  let v488 : Index := Scalar.indexCast v463
  let c32_222 : Index := 32#32
  ![v488.toNat, 32]
def k1_off654 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_223 : BitVec 32 := 16#32
  let v490 : BitVec 32 := Scalar.muli arg18 c16_i32_223
  let c4_i32_224 : BitVec 32 := 4#32
  let v491 : BitVec 32 := Scalar.addi v490 c4_i32_224
  let v492 : Index := Scalar.indexCast v491
  let c32_225 : Index := 32#32
  ![v492.toNat, 32]
def k1_off655 (v463 : BitVec 32) : Fin 2 → Nat :=
  let v499 : Index := Scalar.indexCast v463
  let c48_227 : Index := 48#32
  ![v499.toNat, 48]
def k1_off656 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_228 : BitVec 32 := 16#32
  let v501 : BitVec 32 := Scalar.muli arg18 c16_i32_228
  let c4_i32_229 : BitVec 32 := 4#32
  let v502 : BitVec 32 := Scalar.addi v501 c4_i32_229
  let v503 : Index := Scalar.indexCast v502
  let c48_230 : Index := 48#32
  ![v503.toNat, 48]
def k1_off657 (v463 : BitVec 32) : Fin 2 → Nat :=
  let v510 : Index := Scalar.indexCast v463
  let c64_232 : Index := 64#32
  ![v510.toNat, 64]
def k1_off658 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_233 : BitVec 32 := 16#32
  let v512 : BitVec 32 := Scalar.muli arg18 c16_i32_233
  let c4_i32_234 : BitVec 32 := 4#32
  let v513 : BitVec 32 := Scalar.addi v512 c4_i32_234
  let v514 : Index := Scalar.indexCast v513
  let c64_235 : Index := 64#32
  ![v514.toNat, 64]
def k1_off659 (v463 : BitVec 32) : Fin 2 → Nat :=
  let v521 : Index := Scalar.indexCast v463
  let c80_237 : Index := 80#32
  ![v521.toNat, 80]
def k1_off660 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_238 : BitVec 32 := 16#32
  let v523 : BitVec 32 := Scalar.muli arg18 c16_i32_238
  let c4_i32_239 : BitVec 32 := 4#32
  let v524 : BitVec 32 := Scalar.addi v523 c4_i32_239
  let v525 : Index := Scalar.indexCast v524
  let c80_240 : Index := 80#32
  ![v525.toNat, 80]
def k1_off661 (v463 : BitVec 32) : Fin 2 → Nat :=
  let v532 : Index := Scalar.indexCast v463
  let c96_242 : Index := 96#32
  ![v532.toNat, 96]
def k1_off662 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_243 : BitVec 32 := 16#32
  let v534 : BitVec 32 := Scalar.muli arg18 c16_i32_243
  let c4_i32_244 : BitVec 32 := 4#32
  let v535 : BitVec 32 := Scalar.addi v534 c4_i32_244
  let v536 : Index := Scalar.indexCast v535
  let c96_245 : Index := 96#32
  ![v536.toNat, 96]
def k1_off663 (v463 : BitVec 32) : Fin 2 → Nat :=
  let v543 : Index := Scalar.indexCast v463
  let c112_247 : Index := 112#32
  ![v543.toNat, 112]

def k1_chk58 (i : grid1.Coords) (k1_t9 : Fin (k1_t9_loop i).trips) (v85 : BitVec 32) (v87 : BitVec 32) (v463 : BitVec 32) : Prop :=
  (∀ (k1_h11 : k1_cond11 i k1_t9 = 1#1), ∀ (k1_h14 : k1_cond14 v85 v87 = 1#1), ∀ a, (k1_off649 v463) a + S1x16.size a ≤ S256x128.size a) ∧
  (∀ (k1_h11 : k1_cond11 i k1_t9 = 1#1), ∀ (k1_h14 : k1_cond14 v85 v87 = 1#1), ∀ a, (k1_off651 v463) a + S1x16.size a ≤ S256x128.size a) ∧
  (∀ (k1_h11 : k1_cond11 i k1_t9 = 1#1), ∀ (k1_h14 : k1_cond14 v85 v87 = 1#1), ∀ a, (k1_off653 v463) a + S1x16.size a ≤ S256x128.size a) ∧
  (∀ (k1_h11 : k1_cond11 i k1_t9 = 1#1), ∀ (k1_h14 : k1_cond14 v85 v87 = 1#1), ∀ a, (k1_off655 v463) a + S1x16.size a ≤ S256x128.size a) ∧
  (∀ (k1_h11 : k1_cond11 i k1_t9 = 1#1), ∀ (k1_h14 : k1_cond14 v85 v87 = 1#1), ∀ a, (k1_off657 v463) a + S1x16.size a ≤ S256x128.size a) ∧
  (∀ (k1_h11 : k1_cond11 i k1_t9 = 1#1), ∀ (k1_h14 : k1_cond14 v85 v87 = 1#1), ∀ a, (k1_off659 v463) a + S1x16.size a ≤ S256x128.size a) ∧
  (∀ (k1_h11 : k1_cond11 i k1_t9 = 1#1), ∀ (k1_h14 : k1_cond14 v85 v87 = 1#1), ∀ a, (k1_off661 v463) a + S1x16.size a ≤ S256x128.size a) ∧
  (∀ (k1_h11 : k1_cond11 i k1_t9 = 1#1), ∀ (k1_h14 : k1_cond14 v85 v87 = 1#1), ∀ a, (k1_off663 v463) a + S1x16.size a ≤ S256x128.size a)
theorem k1_off649_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off649 v463) a + S1x16.size a ≤ S256x128.size a := fun i k1_t9 v85 v87 v463 k1_hw58 k1_h11 k1_h14 => k1_hw58.1 k1_h11 k1_h14
theorem k1_off651_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off651 v463) a + S1x16.size a ≤ S256x128.size a := fun i k1_t9 v85 v87 v463 k1_hw58 k1_h11 k1_h14 => k1_hw58.2.1 k1_h11 k1_h14
theorem k1_off653_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off653 v463) a + S1x16.size a ≤ S256x128.size a := fun i k1_t9 v85 v87 v463 k1_hw58 k1_h11 k1_h14 => k1_hw58.2.2.1 k1_h11 k1_h14
theorem k1_off655_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off655 v463) a + S1x16.size a ≤ S256x128.size a := fun i k1_t9 v85 v87 v463 k1_hw58 k1_h11 k1_h14 => k1_hw58.2.2.2.1 k1_h11 k1_h14
theorem k1_off657_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off657 v463) a + S1x16.size a ≤ S256x128.size a := fun i k1_t9 v85 v87 v463 k1_hw58 k1_h11 k1_h14 => k1_hw58.2.2.2.2.1 k1_h11 k1_h14
theorem k1_off659_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off659 v463) a + S1x16.size a ≤ S256x128.size a := fun i k1_t9 v85 v87 v463 k1_hw58 k1_h11 k1_h14 => k1_hw58.2.2.2.2.2.1 k1_h11 k1_h14
theorem k1_off661_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off661 v463) a + S1x16.size a ≤ S256x128.size a := fun i k1_t9 v85 v87 v463 k1_hw58 k1_h11 k1_h14 => k1_hw58.2.2.2.2.2.2.1 k1_h11 k1_h14
theorem k1_off663_inb : ∀ (i : grid1.Coords) (k1_t9 : Fin (k1_t9_loop i).trips) (v85 : BitVec 32) (v87 : BitVec 32) (v463 : BitVec 32) (k1_hw58 : k1_chk58 i k1_t9 v85 v87 v463), ∀ (k1_h11 : k1_cond11 i k1_t9 = 1#1), ∀ (k1_h14 : k1_cond14 v85 v87 = 1#1), ∀ a, (k1_off663 v463) a + S1x16.size a ≤ S256x128.size a := fun i k1_t9 v85 v87 v463 k1_hw58 k1_h11 k1_h14 => k1_hw58.2.2.2.2.2.2.2 k1_h11 k1_h14

def k1_off664 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_248 : BitVec 32 := 16#32
  let v545 : BitVec 32 := Scalar.muli arg18 c16_i32_248
  let c4_i32_249 : BitVec 32 := 4#32
  let v546 : BitVec 32 := Scalar.addi v545 c4_i32_249
  let v547 : Index := Scalar.indexCast v546
  let c112_250 : Index := 112#32
  ![v547.toNat, 112]
def k1_off665 (v555 : BitVec 32) : Fin 2 → Nat :=
  let v558 : Index := Scalar.indexCast v555
  let c0_252 : Index := 0#32
  ![v558.toNat, 0]

def k1_off666 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_253 : BitVec 32 := 16#32
  let v560 : BitVec 32 := Scalar.muli arg18 c16_i32_253
  let c5_i32 : BitVec 32 := 5#32
  let v561 : BitVec 32 := Scalar.addi v560 c5_i32
  let v562 : Index := Scalar.indexCast v561
  let c0_254 : Index := 0#32
  ![v562.toNat, 0]
def k1_off667 (v555 : BitVec 32) : Fin 2 → Nat :=
  let v569 : Index := Scalar.indexCast v555
  let c16_256 : Index := 16#32
  ![v569.toNat, 16]
def k1_off668 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_257 : BitVec 32 := 16#32
  let v571 : BitVec 32 := Scalar.muli arg18 c16_i32_257
  let c5_i32_258 : BitVec 32 := 5#32
  let v572 : BitVec 32 := Scalar.addi v571 c5_i32_258
  let v573 : Index := Scalar.indexCast v572
  let c16_259 : Index := 16#32
  ![v573.toNat, 16]
def k1_off669 (v555 : BitVec 32) : Fin 2 → Nat :=
  let v580 : Index := Scalar.indexCast v555
  let c32_261 : Index := 32#32
  ![v580.toNat, 32]
def k1_off670 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_262 : BitVec 32 := 16#32
  let v582 : BitVec 32 := Scalar.muli arg18 c16_i32_262
  let c5_i32_263 : BitVec 32 := 5#32
  let v583 : BitVec 32 := Scalar.addi v582 c5_i32_263
  let v584 : Index := Scalar.indexCast v583
  let c32_264 : Index := 32#32
  ![v584.toNat, 32]
def k1_off671 (v555 : BitVec 32) : Fin 2 → Nat :=
  let v591 : Index := Scalar.indexCast v555
  let c48_266 : Index := 48#32
  ![v591.toNat, 48]
def k1_off672 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_267 : BitVec 32 := 16#32
  let v593 : BitVec 32 := Scalar.muli arg18 c16_i32_267
  let c5_i32_268 : BitVec 32 := 5#32
  let v594 : BitVec 32 := Scalar.addi v593 c5_i32_268
  let v595 : Index := Scalar.indexCast v594
  let c48_269 : Index := 48#32
  ![v595.toNat, 48]
def k1_off673 (v555 : BitVec 32) : Fin 2 → Nat :=
  let v602 : Index := Scalar.indexCast v555
  let c64_271 : Index := 64#32
  ![v602.toNat, 64]
def k1_off674 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_272 : BitVec 32 := 16#32
  let v604 : BitVec 32 := Scalar.muli arg18 c16_i32_272
  let c5_i32_273 : BitVec 32 := 5#32
  let v605 : BitVec 32 := Scalar.addi v604 c5_i32_273
  let v606 : Index := Scalar.indexCast v605
  let c64_274 : Index := 64#32
  ![v606.toNat, 64]
def k1_off675 (v555 : BitVec 32) : Fin 2 → Nat :=
  let v613 : Index := Scalar.indexCast v555
  let c80_276 : Index := 80#32
  ![v613.toNat, 80]
def k1_off676 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_277 : BitVec 32 := 16#32
  let v615 : BitVec 32 := Scalar.muli arg18 c16_i32_277
  let c5_i32_278 : BitVec 32 := 5#32
  let v616 : BitVec 32 := Scalar.addi v615 c5_i32_278
  let v617 : Index := Scalar.indexCast v616
  let c80_279 : Index := 80#32
  ![v617.toNat, 80]
def k1_off677 (v555 : BitVec 32) : Fin 2 → Nat :=
  let v624 : Index := Scalar.indexCast v555
  let c96_281 : Index := 96#32
  ![v624.toNat, 96]
def k1_off678 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_282 : BitVec 32 := 16#32
  let v626 : BitVec 32 := Scalar.muli arg18 c16_i32_282
  let c5_i32_283 : BitVec 32 := 5#32
  let v627 : BitVec 32 := Scalar.addi v626 c5_i32_283
  let v628 : Index := Scalar.indexCast v627
  let c96_284 : Index := 96#32
  ![v628.toNat, 96]
def k1_off679 (v555 : BitVec 32) : Fin 2 → Nat :=
  let v635 : Index := Scalar.indexCast v555
  let c112_286 : Index := 112#32
  ![v635.toNat, 112]

def k1_chk59 (i : grid1.Coords) (k1_t9 : Fin (k1_t9_loop i).trips) (v85 : BitVec 32) (v87 : BitVec 32) (v555 : BitVec 32) : Prop :=
  (∀ (k1_h11 : k1_cond11 i k1_t9 = 1#1), ∀ (k1_h14 : k1_cond14 v85 v87 = 1#1), ∀ a, (k1_off665 v555) a + S1x16.size a ≤ S256x128.size a) ∧
  (∀ (k1_h11 : k1_cond11 i k1_t9 = 1#1), ∀ (k1_h14 : k1_cond14 v85 v87 = 1#1), ∀ a, (k1_off667 v555) a + S1x16.size a ≤ S256x128.size a) ∧
  (∀ (k1_h11 : k1_cond11 i k1_t9 = 1#1), ∀ (k1_h14 : k1_cond14 v85 v87 = 1#1), ∀ a, (k1_off669 v555) a + S1x16.size a ≤ S256x128.size a) ∧
  (∀ (k1_h11 : k1_cond11 i k1_t9 = 1#1), ∀ (k1_h14 : k1_cond14 v85 v87 = 1#1), ∀ a, (k1_off671 v555) a + S1x16.size a ≤ S256x128.size a) ∧
  (∀ (k1_h11 : k1_cond11 i k1_t9 = 1#1), ∀ (k1_h14 : k1_cond14 v85 v87 = 1#1), ∀ a, (k1_off673 v555) a + S1x16.size a ≤ S256x128.size a) ∧
  (∀ (k1_h11 : k1_cond11 i k1_t9 = 1#1), ∀ (k1_h14 : k1_cond14 v85 v87 = 1#1), ∀ a, (k1_off675 v555) a + S1x16.size a ≤ S256x128.size a) ∧
  (∀ (k1_h11 : k1_cond11 i k1_t9 = 1#1), ∀ (k1_h14 : k1_cond14 v85 v87 = 1#1), ∀ a, (k1_off677 v555) a + S1x16.size a ≤ S256x128.size a) ∧
  (∀ (k1_h11 : k1_cond11 i k1_t9 = 1#1), ∀ (k1_h14 : k1_cond14 v85 v87 = 1#1), ∀ a, (k1_off679 v555) a + S1x16.size a ≤ S256x128.size a)
theorem k1_off665_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off665 v555) a + S1x16.size a ≤ S256x128.size a := fun i k1_t9 v85 v87 v555 k1_hw59 k1_h11 k1_h14 => k1_hw59.1 k1_h11 k1_h14
theorem k1_off667_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off667 v555) a + S1x16.size a ≤ S256x128.size a := fun i k1_t9 v85 v87 v555 k1_hw59 k1_h11 k1_h14 => k1_hw59.2.1 k1_h11 k1_h14
theorem k1_off669_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off669 v555) a + S1x16.size a ≤ S256x128.size a := fun i k1_t9 v85 v87 v555 k1_hw59 k1_h11 k1_h14 => k1_hw59.2.2.1 k1_h11 k1_h14
theorem k1_off671_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off671 v555) a + S1x16.size a ≤ S256x128.size a := fun i k1_t9 v85 v87 v555 k1_hw59 k1_h11 k1_h14 => k1_hw59.2.2.2.1 k1_h11 k1_h14
theorem k1_off673_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off673 v555) a + S1x16.size a ≤ S256x128.size a := fun i k1_t9 v85 v87 v555 k1_hw59 k1_h11 k1_h14 => k1_hw59.2.2.2.2.1 k1_h11 k1_h14
theorem k1_off675_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off675 v555) a + S1x16.size a ≤ S256x128.size a := fun i k1_t9 v85 v87 v555 k1_hw59 k1_h11 k1_h14 => k1_hw59.2.2.2.2.2.1 k1_h11 k1_h14
theorem k1_off677_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off677 v555) a + S1x16.size a ≤ S256x128.size a := fun i k1_t9 v85 v87 v555 k1_hw59 k1_h11 k1_h14 => k1_hw59.2.2.2.2.2.2.1 k1_h11 k1_h14
theorem k1_off679_inb : ∀ (i : grid1.Coords) (k1_t9 : Fin (k1_t9_loop i).trips) (v85 : BitVec 32) (v87 : BitVec 32) (v555 : BitVec 32) (k1_hw59 : k1_chk59 i k1_t9 v85 v87 v555), ∀ (k1_h11 : k1_cond11 i k1_t9 = 1#1), ∀ (k1_h14 : k1_cond14 v85 v87 = 1#1), ∀ a, (k1_off679 v555) a + S1x16.size a ≤ S256x128.size a := fun i k1_t9 v85 v87 v555 k1_hw59 k1_h11 k1_h14 => k1_hw59.2.2.2.2.2.2.2 k1_h11 k1_h14

def k1_off680 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_287 : BitVec 32 := 16#32
  let v637 : BitVec 32 := Scalar.muli arg18 c16_i32_287
  let c5_i32_288 : BitVec 32 := 5#32
  let v638 : BitVec 32 := Scalar.addi v637 c5_i32_288
  let v639 : Index := Scalar.indexCast v638
  let c112_289 : Index := 112#32
  ![v639.toNat, 112]
def k1_off681 (v647 : BitVec 32) : Fin 2 → Nat :=
  let v650 : Index := Scalar.indexCast v647
  let c0_291 : Index := 0#32
  ![v650.toNat, 0]

def k1_off682 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_292 : BitVec 32 := 16#32
  let v652 : BitVec 32 := Scalar.muli arg18 c16_i32_292
  let c6_i32 : BitVec 32 := 6#32
  let v653 : BitVec 32 := Scalar.addi v652 c6_i32
  let v654 : Index := Scalar.indexCast v653
  let c0_293 : Index := 0#32
  ![v654.toNat, 0]
def k1_off683 (v647 : BitVec 32) : Fin 2 → Nat :=
  let v661 : Index := Scalar.indexCast v647
  let c16_295 : Index := 16#32
  ![v661.toNat, 16]
def k1_off684 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_296 : BitVec 32 := 16#32
  let v663 : BitVec 32 := Scalar.muli arg18 c16_i32_296
  let c6_i32_297 : BitVec 32 := 6#32
  let v664 : BitVec 32 := Scalar.addi v663 c6_i32_297
  let v665 : Index := Scalar.indexCast v664
  let c16_298 : Index := 16#32
  ![v665.toNat, 16]
def k1_off685 (v647 : BitVec 32) : Fin 2 → Nat :=
  let v672 : Index := Scalar.indexCast v647
  let c32_300 : Index := 32#32
  ![v672.toNat, 32]
def k1_off686 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_301 : BitVec 32 := 16#32
  let v674 : BitVec 32 := Scalar.muli arg18 c16_i32_301
  let c6_i32_302 : BitVec 32 := 6#32
  let v675 : BitVec 32 := Scalar.addi v674 c6_i32_302
  let v676 : Index := Scalar.indexCast v675
  let c32_303 : Index := 32#32
  ![v676.toNat, 32]
def k1_off687 (v647 : BitVec 32) : Fin 2 → Nat :=
  let v683 : Index := Scalar.indexCast v647
  let c48_305 : Index := 48#32
  ![v683.toNat, 48]
def k1_off688 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_306 : BitVec 32 := 16#32
  let v685 : BitVec 32 := Scalar.muli arg18 c16_i32_306
  let c6_i32_307 : BitVec 32 := 6#32
  let v686 : BitVec 32 := Scalar.addi v685 c6_i32_307
  let v687 : Index := Scalar.indexCast v686
  let c48_308 : Index := 48#32
  ![v687.toNat, 48]
def k1_off689 (v647 : BitVec 32) : Fin 2 → Nat :=
  let v694 : Index := Scalar.indexCast v647
  let c64_310 : Index := 64#32
  ![v694.toNat, 64]
def k1_off690 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_311 : BitVec 32 := 16#32
  let v696 : BitVec 32 := Scalar.muli arg18 c16_i32_311
  let c6_i32_312 : BitVec 32 := 6#32
  let v697 : BitVec 32 := Scalar.addi v696 c6_i32_312
  let v698 : Index := Scalar.indexCast v697
  let c64_313 : Index := 64#32
  ![v698.toNat, 64]
def k1_off691 (v647 : BitVec 32) : Fin 2 → Nat :=
  let v705 : Index := Scalar.indexCast v647
  let c80_315 : Index := 80#32
  ![v705.toNat, 80]
def k1_off692 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_316 : BitVec 32 := 16#32
  let v707 : BitVec 32 := Scalar.muli arg18 c16_i32_316
  let c6_i32_317 : BitVec 32 := 6#32
  let v708 : BitVec 32 := Scalar.addi v707 c6_i32_317
  let v709 : Index := Scalar.indexCast v708
  let c80_318 : Index := 80#32
  ![v709.toNat, 80]
def k1_off693 (v647 : BitVec 32) : Fin 2 → Nat :=
  let v716 : Index := Scalar.indexCast v647
  let c96_320 : Index := 96#32
  ![v716.toNat, 96]
def k1_off694 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_321 : BitVec 32 := 16#32
  let v718 : BitVec 32 := Scalar.muli arg18 c16_i32_321
  let c6_i32_322 : BitVec 32 := 6#32
  let v719 : BitVec 32 := Scalar.addi v718 c6_i32_322
  let v720 : Index := Scalar.indexCast v719
  let c96_323 : Index := 96#32
  ![v720.toNat, 96]
def k1_off695 (v647 : BitVec 32) : Fin 2 → Nat :=
  let v727 : Index := Scalar.indexCast v647
  let c112_325 : Index := 112#32
  ![v727.toNat, 112]

def k1_chk60 (i : grid1.Coords) (k1_t9 : Fin (k1_t9_loop i).trips) (v85 : BitVec 32) (v87 : BitVec 32) (v647 : BitVec 32) : Prop :=
  (∀ (k1_h11 : k1_cond11 i k1_t9 = 1#1), ∀ (k1_h14 : k1_cond14 v85 v87 = 1#1), ∀ a, (k1_off681 v647) a + S1x16.size a ≤ S256x128.size a) ∧
  (∀ (k1_h11 : k1_cond11 i k1_t9 = 1#1), ∀ (k1_h14 : k1_cond14 v85 v87 = 1#1), ∀ a, (k1_off683 v647) a + S1x16.size a ≤ S256x128.size a) ∧
  (∀ (k1_h11 : k1_cond11 i k1_t9 = 1#1), ∀ (k1_h14 : k1_cond14 v85 v87 = 1#1), ∀ a, (k1_off685 v647) a + S1x16.size a ≤ S256x128.size a) ∧
  (∀ (k1_h11 : k1_cond11 i k1_t9 = 1#1), ∀ (k1_h14 : k1_cond14 v85 v87 = 1#1), ∀ a, (k1_off687 v647) a + S1x16.size a ≤ S256x128.size a) ∧
  (∀ (k1_h11 : k1_cond11 i k1_t9 = 1#1), ∀ (k1_h14 : k1_cond14 v85 v87 = 1#1), ∀ a, (k1_off689 v647) a + S1x16.size a ≤ S256x128.size a) ∧
  (∀ (k1_h11 : k1_cond11 i k1_t9 = 1#1), ∀ (k1_h14 : k1_cond14 v85 v87 = 1#1), ∀ a, (k1_off691 v647) a + S1x16.size a ≤ S256x128.size a) ∧
  (∀ (k1_h11 : k1_cond11 i k1_t9 = 1#1), ∀ (k1_h14 : k1_cond14 v85 v87 = 1#1), ∀ a, (k1_off693 v647) a + S1x16.size a ≤ S256x128.size a) ∧
  (∀ (k1_h11 : k1_cond11 i k1_t9 = 1#1), ∀ (k1_h14 : k1_cond14 v85 v87 = 1#1), ∀ a, (k1_off695 v647) a + S1x16.size a ≤ S256x128.size a)
theorem k1_off681_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off681 v647) a + S1x16.size a ≤ S256x128.size a := fun i k1_t9 v85 v87 v647 k1_hw60 k1_h11 k1_h14 => k1_hw60.1 k1_h11 k1_h14
theorem k1_off683_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off683 v647) a + S1x16.size a ≤ S256x128.size a := fun i k1_t9 v85 v87 v647 k1_hw60 k1_h11 k1_h14 => k1_hw60.2.1 k1_h11 k1_h14
theorem k1_off685_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off685 v647) a + S1x16.size a ≤ S256x128.size a := fun i k1_t9 v85 v87 v647 k1_hw60 k1_h11 k1_h14 => k1_hw60.2.2.1 k1_h11 k1_h14
theorem k1_off687_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off687 v647) a + S1x16.size a ≤ S256x128.size a := fun i k1_t9 v85 v87 v647 k1_hw60 k1_h11 k1_h14 => k1_hw60.2.2.2.1 k1_h11 k1_h14
theorem k1_off689_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off689 v647) a + S1x16.size a ≤ S256x128.size a := fun i k1_t9 v85 v87 v647 k1_hw60 k1_h11 k1_h14 => k1_hw60.2.2.2.2.1 k1_h11 k1_h14
theorem k1_off691_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off691 v647) a + S1x16.size a ≤ S256x128.size a := fun i k1_t9 v85 v87 v647 k1_hw60 k1_h11 k1_h14 => k1_hw60.2.2.2.2.2.1 k1_h11 k1_h14
theorem k1_off693_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off693 v647) a + S1x16.size a ≤ S256x128.size a := fun i k1_t9 v85 v87 v647 k1_hw60 k1_h11 k1_h14 => k1_hw60.2.2.2.2.2.2.1 k1_h11 k1_h14
theorem k1_off695_inb : ∀ (i : grid1.Coords) (k1_t9 : Fin (k1_t9_loop i).trips) (v85 : BitVec 32) (v87 : BitVec 32) (v647 : BitVec 32) (k1_hw60 : k1_chk60 i k1_t9 v85 v87 v647), ∀ (k1_h11 : k1_cond11 i k1_t9 = 1#1), ∀ (k1_h14 : k1_cond14 v85 v87 = 1#1), ∀ a, (k1_off695 v647) a + S1x16.size a ≤ S256x128.size a := fun i k1_t9 v85 v87 v647 k1_hw60 k1_h11 k1_h14 => k1_hw60.2.2.2.2.2.2.2 k1_h11 k1_h14

def k1_off696 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_326 : BitVec 32 := 16#32
  let v729 : BitVec 32 := Scalar.muli arg18 c16_i32_326
  let c6_i32_327 : BitVec 32 := 6#32
  let v730 : BitVec 32 := Scalar.addi v729 c6_i32_327
  let v731 : Index := Scalar.indexCast v730
  let c112_328 : Index := 112#32
  ![v731.toNat, 112]
def k1_off697 (v739 : BitVec 32) : Fin 2 → Nat :=
  let v742 : Index := Scalar.indexCast v739
  let c0_330 : Index := 0#32
  ![v742.toNat, 0]

def k1_off698 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_331 : BitVec 32 := 16#32
  let v744 : BitVec 32 := Scalar.muli arg18 c16_i32_331
  let c7_i32_332 : BitVec 32 := 7#32
  let v745 : BitVec 32 := Scalar.addi v744 c7_i32_332
  let v746 : Index := Scalar.indexCast v745
  let c0_333 : Index := 0#32
  ![v746.toNat, 0]
def k1_off699 (v739 : BitVec 32) : Fin 2 → Nat :=
  let v753 : Index := Scalar.indexCast v739
  let c16_335 : Index := 16#32
  ![v753.toNat, 16]
def k1_off700 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_336 : BitVec 32 := 16#32
  let v755 : BitVec 32 := Scalar.muli arg18 c16_i32_336
  let c7_i32_337 : BitVec 32 := 7#32
  let v756 : BitVec 32 := Scalar.addi v755 c7_i32_337
  let v757 : Index := Scalar.indexCast v756
  let c16_338 : Index := 16#32
  ![v757.toNat, 16]
def k1_off701 (v739 : BitVec 32) : Fin 2 → Nat :=
  let v764 : Index := Scalar.indexCast v739
  let c32_340 : Index := 32#32
  ![v764.toNat, 32]
def k1_off702 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_341 : BitVec 32 := 16#32
  let v766 : BitVec 32 := Scalar.muli arg18 c16_i32_341
  let c7_i32_342 : BitVec 32 := 7#32
  let v767 : BitVec 32 := Scalar.addi v766 c7_i32_342
  let v768 : Index := Scalar.indexCast v767
  let c32_343 : Index := 32#32
  ![v768.toNat, 32]
def k1_off703 (v739 : BitVec 32) : Fin 2 → Nat :=
  let v775 : Index := Scalar.indexCast v739
  let c48_345 : Index := 48#32
  ![v775.toNat, 48]
def k1_off704 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_346 : BitVec 32 := 16#32
  let v777 : BitVec 32 := Scalar.muli arg18 c16_i32_346
  let c7_i32_347 : BitVec 32 := 7#32
  let v778 : BitVec 32 := Scalar.addi v777 c7_i32_347
  let v779 : Index := Scalar.indexCast v778
  let c48_348 : Index := 48#32
  ![v779.toNat, 48]
def k1_off705 (v739 : BitVec 32) : Fin 2 → Nat :=
  let v786 : Index := Scalar.indexCast v739
  let c64_350 : Index := 64#32
  ![v786.toNat, 64]
def k1_off706 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_351 : BitVec 32 := 16#32
  let v788 : BitVec 32 := Scalar.muli arg18 c16_i32_351
  let c7_i32_352 : BitVec 32 := 7#32
  let v789 : BitVec 32 := Scalar.addi v788 c7_i32_352
  let v790 : Index := Scalar.indexCast v789
  let c64_353 : Index := 64#32
  ![v790.toNat, 64]
def k1_off707 (v739 : BitVec 32) : Fin 2 → Nat :=
  let v797 : Index := Scalar.indexCast v739
  let c80_355 : Index := 80#32
  ![v797.toNat, 80]
def k1_off708 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_356 : BitVec 32 := 16#32
  let v799 : BitVec 32 := Scalar.muli arg18 c16_i32_356
  let c7_i32_357 : BitVec 32 := 7#32
  let v800 : BitVec 32 := Scalar.addi v799 c7_i32_357
  let v801 : Index := Scalar.indexCast v800
  let c80_358 : Index := 80#32
  ![v801.toNat, 80]
def k1_off709 (v739 : BitVec 32) : Fin 2 → Nat :=
  let v808 : Index := Scalar.indexCast v739
  let c96_360 : Index := 96#32
  ![v808.toNat, 96]
def k1_off710 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_361 : BitVec 32 := 16#32
  let v810 : BitVec 32 := Scalar.muli arg18 c16_i32_361
  let c7_i32_362 : BitVec 32 := 7#32
  let v811 : BitVec 32 := Scalar.addi v810 c7_i32_362
  let v812 : Index := Scalar.indexCast v811
  let c96_363 : Index := 96#32
  ![v812.toNat, 96]
def k1_off711 (v739 : BitVec 32) : Fin 2 → Nat :=
  let v819 : Index := Scalar.indexCast v739
  let c112_365 : Index := 112#32
  ![v819.toNat, 112]

def k1_chk61 (i : grid1.Coords) (k1_t9 : Fin (k1_t9_loop i).trips) (v85 : BitVec 32) (v87 : BitVec 32) (v739 : BitVec 32) : Prop :=
  (∀ (k1_h11 : k1_cond11 i k1_t9 = 1#1), ∀ (k1_h14 : k1_cond14 v85 v87 = 1#1), ∀ a, (k1_off697 v739) a + S1x16.size a ≤ S256x128.size a) ∧
  (∀ (k1_h11 : k1_cond11 i k1_t9 = 1#1), ∀ (k1_h14 : k1_cond14 v85 v87 = 1#1), ∀ a, (k1_off699 v739) a + S1x16.size a ≤ S256x128.size a) ∧
  (∀ (k1_h11 : k1_cond11 i k1_t9 = 1#1), ∀ (k1_h14 : k1_cond14 v85 v87 = 1#1), ∀ a, (k1_off701 v739) a + S1x16.size a ≤ S256x128.size a) ∧
  (∀ (k1_h11 : k1_cond11 i k1_t9 = 1#1), ∀ (k1_h14 : k1_cond14 v85 v87 = 1#1), ∀ a, (k1_off703 v739) a + S1x16.size a ≤ S256x128.size a) ∧
  (∀ (k1_h11 : k1_cond11 i k1_t9 = 1#1), ∀ (k1_h14 : k1_cond14 v85 v87 = 1#1), ∀ a, (k1_off705 v739) a + S1x16.size a ≤ S256x128.size a) ∧
  (∀ (k1_h11 : k1_cond11 i k1_t9 = 1#1), ∀ (k1_h14 : k1_cond14 v85 v87 = 1#1), ∀ a, (k1_off707 v739) a + S1x16.size a ≤ S256x128.size a) ∧
  (∀ (k1_h11 : k1_cond11 i k1_t9 = 1#1), ∀ (k1_h14 : k1_cond14 v85 v87 = 1#1), ∀ a, (k1_off709 v739) a + S1x16.size a ≤ S256x128.size a) ∧
  (∀ (k1_h11 : k1_cond11 i k1_t9 = 1#1), ∀ (k1_h14 : k1_cond14 v85 v87 = 1#1), ∀ a, (k1_off711 v739) a + S1x16.size a ≤ S256x128.size a)
theorem k1_off697_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off697 v739) a + S1x16.size a ≤ S256x128.size a := fun i k1_t9 v85 v87 v739 k1_hw61 k1_h11 k1_h14 => k1_hw61.1 k1_h11 k1_h14
theorem k1_off699_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off699 v739) a + S1x16.size a ≤ S256x128.size a := fun i k1_t9 v85 v87 v739 k1_hw61 k1_h11 k1_h14 => k1_hw61.2.1 k1_h11 k1_h14
theorem k1_off701_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off701 v739) a + S1x16.size a ≤ S256x128.size a := fun i k1_t9 v85 v87 v739 k1_hw61 k1_h11 k1_h14 => k1_hw61.2.2.1 k1_h11 k1_h14
theorem k1_off703_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off703 v739) a + S1x16.size a ≤ S256x128.size a := fun i k1_t9 v85 v87 v739 k1_hw61 k1_h11 k1_h14 => k1_hw61.2.2.2.1 k1_h11 k1_h14
theorem k1_off705_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off705 v739) a + S1x16.size a ≤ S256x128.size a := fun i k1_t9 v85 v87 v739 k1_hw61 k1_h11 k1_h14 => k1_hw61.2.2.2.2.1 k1_h11 k1_h14
theorem k1_off707_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off707 v739) a + S1x16.size a ≤ S256x128.size a := fun i k1_t9 v85 v87 v739 k1_hw61 k1_h11 k1_h14 => k1_hw61.2.2.2.2.2.1 k1_h11 k1_h14
theorem k1_off709_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off709 v739) a + S1x16.size a ≤ S256x128.size a := fun i k1_t9 v85 v87 v739 k1_hw61 k1_h11 k1_h14 => k1_hw61.2.2.2.2.2.2.1 k1_h11 k1_h14
theorem k1_off711_inb : ∀ (i : grid1.Coords) (k1_t9 : Fin (k1_t9_loop i).trips) (v85 : BitVec 32) (v87 : BitVec 32) (v739 : BitVec 32) (k1_hw61 : k1_chk61 i k1_t9 v85 v87 v739), ∀ (k1_h11 : k1_cond11 i k1_t9 = 1#1), ∀ (k1_h14 : k1_cond14 v85 v87 = 1#1), ∀ a, (k1_off711 v739) a + S1x16.size a ≤ S256x128.size a := fun i k1_t9 v85 v87 v739 k1_hw61 k1_h11 k1_h14 => k1_hw61.2.2.2.2.2.2.2 k1_h11 k1_h14

def k1_off712 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_366 : BitVec 32 := 16#32
  let v821 : BitVec 32 := Scalar.muli arg18 c16_i32_366
  let c7_i32_367 : BitVec 32 := 7#32
  let v822 : BitVec 32 := Scalar.addi v821 c7_i32_367
  let v823 : Index := Scalar.indexCast v822
  let c112_368 : Index := 112#32
  ![v823.toNat, 112]
def k1_off713 (v831 : BitVec 32) : Fin 2 → Nat :=
  let v834 : Index := Scalar.indexCast v831
  let c0_370 : Index := 0#32
  ![v834.toNat, 0]

def k1_off714 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_371 : BitVec 32 := 16#32
  let v836 : BitVec 32 := Scalar.muli arg18 c16_i32_371
  let c8_i32 : BitVec 32 := 8#32
  let v837 : BitVec 32 := Scalar.addi v836 c8_i32
  let v838 : Index := Scalar.indexCast v837
  let c0_372 : Index := 0#32
  ![v838.toNat, 0]
def k1_off715 (v831 : BitVec 32) : Fin 2 → Nat :=
  let v845 : Index := Scalar.indexCast v831
  let c16_374 : Index := 16#32
  ![v845.toNat, 16]
def k1_off716 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_375 : BitVec 32 := 16#32
  let v847 : BitVec 32 := Scalar.muli arg18 c16_i32_375
  let c8_i32_376 : BitVec 32 := 8#32
  let v848 : BitVec 32 := Scalar.addi v847 c8_i32_376
  let v849 : Index := Scalar.indexCast v848
  let c16_377 : Index := 16#32
  ![v849.toNat, 16]
def k1_off717 (v831 : BitVec 32) : Fin 2 → Nat :=
  let v856 : Index := Scalar.indexCast v831
  let c32_379 : Index := 32#32
  ![v856.toNat, 32]
def k1_off718 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_380 : BitVec 32 := 16#32
  let v858 : BitVec 32 := Scalar.muli arg18 c16_i32_380
  let c8_i32_381 : BitVec 32 := 8#32
  let v859 : BitVec 32 := Scalar.addi v858 c8_i32_381
  let v860 : Index := Scalar.indexCast v859
  let c32_382 : Index := 32#32
  ![v860.toNat, 32]
def k1_off719 (v831 : BitVec 32) : Fin 2 → Nat :=
  let v867 : Index := Scalar.indexCast v831
  let c48_384 : Index := 48#32
  ![v867.toNat, 48]
def k1_off720 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_385 : BitVec 32 := 16#32
  let v869 : BitVec 32 := Scalar.muli arg18 c16_i32_385
  let c8_i32_386 : BitVec 32 := 8#32
  let v870 : BitVec 32 := Scalar.addi v869 c8_i32_386
  let v871 : Index := Scalar.indexCast v870
  let c48_387 : Index := 48#32
  ![v871.toNat, 48]
def k1_off721 (v831 : BitVec 32) : Fin 2 → Nat :=
  let v878 : Index := Scalar.indexCast v831
  let c64_389 : Index := 64#32
  ![v878.toNat, 64]
def k1_off722 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_390 : BitVec 32 := 16#32
  let v880 : BitVec 32 := Scalar.muli arg18 c16_i32_390
  let c8_i32_391 : BitVec 32 := 8#32
  let v881 : BitVec 32 := Scalar.addi v880 c8_i32_391
  let v882 : Index := Scalar.indexCast v881
  let c64_392 : Index := 64#32
  ![v882.toNat, 64]
def k1_off723 (v831 : BitVec 32) : Fin 2 → Nat :=
  let v889 : Index := Scalar.indexCast v831
  let c80_394 : Index := 80#32
  ![v889.toNat, 80]
def k1_off724 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_395 : BitVec 32 := 16#32
  let v891 : BitVec 32 := Scalar.muli arg18 c16_i32_395
  let c8_i32_396 : BitVec 32 := 8#32
  let v892 : BitVec 32 := Scalar.addi v891 c8_i32_396
  let v893 : Index := Scalar.indexCast v892
  let c80_397 : Index := 80#32
  ![v893.toNat, 80]
def k1_off725 (v831 : BitVec 32) : Fin 2 → Nat :=
  let v900 : Index := Scalar.indexCast v831
  let c96_399 : Index := 96#32
  ![v900.toNat, 96]
def k1_off726 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_400 : BitVec 32 := 16#32
  let v902 : BitVec 32 := Scalar.muli arg18 c16_i32_400
  let c8_i32_401 : BitVec 32 := 8#32
  let v903 : BitVec 32 := Scalar.addi v902 c8_i32_401
  let v904 : Index := Scalar.indexCast v903
  let c96_402 : Index := 96#32
  ![v904.toNat, 96]
def k1_off727 (v831 : BitVec 32) : Fin 2 → Nat :=
  let v911 : Index := Scalar.indexCast v831
  let c112_404 : Index := 112#32
  ![v911.toNat, 112]

def k1_chk62 (i : grid1.Coords) (k1_t9 : Fin (k1_t9_loop i).trips) (v85 : BitVec 32) (v87 : BitVec 32) (v831 : BitVec 32) : Prop :=
  (∀ (k1_h11 : k1_cond11 i k1_t9 = 1#1), ∀ (k1_h14 : k1_cond14 v85 v87 = 1#1), ∀ a, (k1_off713 v831) a + S1x16.size a ≤ S256x128.size a) ∧
  (∀ (k1_h11 : k1_cond11 i k1_t9 = 1#1), ∀ (k1_h14 : k1_cond14 v85 v87 = 1#1), ∀ a, (k1_off715 v831) a + S1x16.size a ≤ S256x128.size a) ∧
  (∀ (k1_h11 : k1_cond11 i k1_t9 = 1#1), ∀ (k1_h14 : k1_cond14 v85 v87 = 1#1), ∀ a, (k1_off717 v831) a + S1x16.size a ≤ S256x128.size a) ∧
  (∀ (k1_h11 : k1_cond11 i k1_t9 = 1#1), ∀ (k1_h14 : k1_cond14 v85 v87 = 1#1), ∀ a, (k1_off719 v831) a + S1x16.size a ≤ S256x128.size a) ∧
  (∀ (k1_h11 : k1_cond11 i k1_t9 = 1#1), ∀ (k1_h14 : k1_cond14 v85 v87 = 1#1), ∀ a, (k1_off721 v831) a + S1x16.size a ≤ S256x128.size a) ∧
  (∀ (k1_h11 : k1_cond11 i k1_t9 = 1#1), ∀ (k1_h14 : k1_cond14 v85 v87 = 1#1), ∀ a, (k1_off723 v831) a + S1x16.size a ≤ S256x128.size a) ∧
  (∀ (k1_h11 : k1_cond11 i k1_t9 = 1#1), ∀ (k1_h14 : k1_cond14 v85 v87 = 1#1), ∀ a, (k1_off725 v831) a + S1x16.size a ≤ S256x128.size a) ∧
  (∀ (k1_h11 : k1_cond11 i k1_t9 = 1#1), ∀ (k1_h14 : k1_cond14 v85 v87 = 1#1), ∀ a, (k1_off727 v831) a + S1x16.size a ≤ S256x128.size a)
theorem k1_off713_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off713 v831) a + S1x16.size a ≤ S256x128.size a := fun i k1_t9 v85 v87 v831 k1_hw62 k1_h11 k1_h14 => k1_hw62.1 k1_h11 k1_h14
theorem k1_off715_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off715 v831) a + S1x16.size a ≤ S256x128.size a := fun i k1_t9 v85 v87 v831 k1_hw62 k1_h11 k1_h14 => k1_hw62.2.1 k1_h11 k1_h14
theorem k1_off717_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off717 v831) a + S1x16.size a ≤ S256x128.size a := fun i k1_t9 v85 v87 v831 k1_hw62 k1_h11 k1_h14 => k1_hw62.2.2.1 k1_h11 k1_h14
theorem k1_off719_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off719 v831) a + S1x16.size a ≤ S256x128.size a := fun i k1_t9 v85 v87 v831 k1_hw62 k1_h11 k1_h14 => k1_hw62.2.2.2.1 k1_h11 k1_h14
theorem k1_off721_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off721 v831) a + S1x16.size a ≤ S256x128.size a := fun i k1_t9 v85 v87 v831 k1_hw62 k1_h11 k1_h14 => k1_hw62.2.2.2.2.1 k1_h11 k1_h14
theorem k1_off723_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off723 v831) a + S1x16.size a ≤ S256x128.size a := fun i k1_t9 v85 v87 v831 k1_hw62 k1_h11 k1_h14 => k1_hw62.2.2.2.2.2.1 k1_h11 k1_h14
theorem k1_off725_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off725 v831) a + S1x16.size a ≤ S256x128.size a := fun i k1_t9 v85 v87 v831 k1_hw62 k1_h11 k1_h14 => k1_hw62.2.2.2.2.2.2.1 k1_h11 k1_h14
theorem k1_off727_inb : ∀ (i : grid1.Coords) (k1_t9 : Fin (k1_t9_loop i).trips) (v85 : BitVec 32) (v87 : BitVec 32) (v831 : BitVec 32) (k1_hw62 : k1_chk62 i k1_t9 v85 v87 v831), ∀ (k1_h11 : k1_cond11 i k1_t9 = 1#1), ∀ (k1_h14 : k1_cond14 v85 v87 = 1#1), ∀ a, (k1_off727 v831) a + S1x16.size a ≤ S256x128.size a := fun i k1_t9 v85 v87 v831 k1_hw62 k1_h11 k1_h14 => k1_hw62.2.2.2.2.2.2.2 k1_h11 k1_h14

def k1_off728 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_405 : BitVec 32 := 16#32
  let v913 : BitVec 32 := Scalar.muli arg18 c16_i32_405
  let c8_i32_406 : BitVec 32 := 8#32
  let v914 : BitVec 32 := Scalar.addi v913 c8_i32_406
  let v915 : Index := Scalar.indexCast v914
  let c112_407 : Index := 112#32
  ![v915.toNat, 112]
def k1_off729 (v923 : BitVec 32) : Fin 2 → Nat :=
  let v926 : Index := Scalar.indexCast v923
  let c0_409 : Index := 0#32
  ![v926.toNat, 0]

def k1_off730 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_410 : BitVec 32 := 16#32
  let v928 : BitVec 32 := Scalar.muli arg18 c16_i32_410
  let c9_i32 : BitVec 32 := 9#32
  let v929 : BitVec 32 := Scalar.addi v928 c9_i32
  let v930 : Index := Scalar.indexCast v929
  let c0_411 : Index := 0#32
  ![v930.toNat, 0]
def k1_off731 (v923 : BitVec 32) : Fin 2 → Nat :=
  let v937 : Index := Scalar.indexCast v923
  let c16_413 : Index := 16#32
  ![v937.toNat, 16]
def k1_off732 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_414 : BitVec 32 := 16#32
  let v939 : BitVec 32 := Scalar.muli arg18 c16_i32_414
  let c9_i32_415 : BitVec 32 := 9#32
  let v940 : BitVec 32 := Scalar.addi v939 c9_i32_415
  let v941 : Index := Scalar.indexCast v940
  let c16_416 : Index := 16#32
  ![v941.toNat, 16]
def k1_off733 (v923 : BitVec 32) : Fin 2 → Nat :=
  let v948 : Index := Scalar.indexCast v923
  let c32_418 : Index := 32#32
  ![v948.toNat, 32]
def k1_off734 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_419 : BitVec 32 := 16#32
  let v950 : BitVec 32 := Scalar.muli arg18 c16_i32_419
  let c9_i32_420 : BitVec 32 := 9#32
  let v951 : BitVec 32 := Scalar.addi v950 c9_i32_420
  let v952 : Index := Scalar.indexCast v951
  let c32_421 : Index := 32#32
  ![v952.toNat, 32]
def k1_off735 (v923 : BitVec 32) : Fin 2 → Nat :=
  let v959 : Index := Scalar.indexCast v923
  let c48_423 : Index := 48#32
  ![v959.toNat, 48]
def k1_off736 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_424 : BitVec 32 := 16#32
  let v961 : BitVec 32 := Scalar.muli arg18 c16_i32_424
  let c9_i32_425 : BitVec 32 := 9#32
  let v962 : BitVec 32 := Scalar.addi v961 c9_i32_425
  let v963 : Index := Scalar.indexCast v962
  let c48_426 : Index := 48#32
  ![v963.toNat, 48]
def k1_off737 (v923 : BitVec 32) : Fin 2 → Nat :=
  let v970 : Index := Scalar.indexCast v923
  let c64_428 : Index := 64#32
  ![v970.toNat, 64]
def k1_off738 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_429 : BitVec 32 := 16#32
  let v972 : BitVec 32 := Scalar.muli arg18 c16_i32_429
  let c9_i32_430 : BitVec 32 := 9#32
  let v973 : BitVec 32 := Scalar.addi v972 c9_i32_430
  let v974 : Index := Scalar.indexCast v973
  let c64_431 : Index := 64#32
  ![v974.toNat, 64]
def k1_off739 (v923 : BitVec 32) : Fin 2 → Nat :=
  let v981 : Index := Scalar.indexCast v923
  let c80_433 : Index := 80#32
  ![v981.toNat, 80]
def k1_off740 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_434 : BitVec 32 := 16#32
  let v983 : BitVec 32 := Scalar.muli arg18 c16_i32_434
  let c9_i32_435 : BitVec 32 := 9#32
  let v984 : BitVec 32 := Scalar.addi v983 c9_i32_435
  let v985 : Index := Scalar.indexCast v984
  let c80_436 : Index := 80#32
  ![v985.toNat, 80]
def k1_off741 (v923 : BitVec 32) : Fin 2 → Nat :=
  let v992 : Index := Scalar.indexCast v923
  let c96_438 : Index := 96#32
  ![v992.toNat, 96]
def k1_off742 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_439 : BitVec 32 := 16#32
  let v994 : BitVec 32 := Scalar.muli arg18 c16_i32_439
  let c9_i32_440 : BitVec 32 := 9#32
  let v995 : BitVec 32 := Scalar.addi v994 c9_i32_440
  let v996 : Index := Scalar.indexCast v995
  let c96_441 : Index := 96#32
  ![v996.toNat, 96]
def k1_off743 (v923 : BitVec 32) : Fin 2 → Nat :=
  let v1003 : Index := Scalar.indexCast v923
  let c112_443 : Index := 112#32
  ![v1003.toNat, 112]

def k1_chk63 (i : grid1.Coords) (k1_t9 : Fin (k1_t9_loop i).trips) (v85 : BitVec 32) (v87 : BitVec 32) (v923 : BitVec 32) : Prop :=
  (∀ (k1_h11 : k1_cond11 i k1_t9 = 1#1), ∀ (k1_h14 : k1_cond14 v85 v87 = 1#1), ∀ a, (k1_off729 v923) a + S1x16.size a ≤ S256x128.size a) ∧
  (∀ (k1_h11 : k1_cond11 i k1_t9 = 1#1), ∀ (k1_h14 : k1_cond14 v85 v87 = 1#1), ∀ a, (k1_off731 v923) a + S1x16.size a ≤ S256x128.size a) ∧
  (∀ (k1_h11 : k1_cond11 i k1_t9 = 1#1), ∀ (k1_h14 : k1_cond14 v85 v87 = 1#1), ∀ a, (k1_off733 v923) a + S1x16.size a ≤ S256x128.size a) ∧
  (∀ (k1_h11 : k1_cond11 i k1_t9 = 1#1), ∀ (k1_h14 : k1_cond14 v85 v87 = 1#1), ∀ a, (k1_off735 v923) a + S1x16.size a ≤ S256x128.size a) ∧
  (∀ (k1_h11 : k1_cond11 i k1_t9 = 1#1), ∀ (k1_h14 : k1_cond14 v85 v87 = 1#1), ∀ a, (k1_off737 v923) a + S1x16.size a ≤ S256x128.size a) ∧
  (∀ (k1_h11 : k1_cond11 i k1_t9 = 1#1), ∀ (k1_h14 : k1_cond14 v85 v87 = 1#1), ∀ a, (k1_off739 v923) a + S1x16.size a ≤ S256x128.size a) ∧
  (∀ (k1_h11 : k1_cond11 i k1_t9 = 1#1), ∀ (k1_h14 : k1_cond14 v85 v87 = 1#1), ∀ a, (k1_off741 v923) a + S1x16.size a ≤ S256x128.size a) ∧
  (∀ (k1_h11 : k1_cond11 i k1_t9 = 1#1), ∀ (k1_h14 : k1_cond14 v85 v87 = 1#1), ∀ a, (k1_off743 v923) a + S1x16.size a ≤ S256x128.size a)
theorem k1_off729_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off729 v923) a + S1x16.size a ≤ S256x128.size a := fun i k1_t9 v85 v87 v923 k1_hw63 k1_h11 k1_h14 => k1_hw63.1 k1_h11 k1_h14
theorem k1_off731_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off731 v923) a + S1x16.size a ≤ S256x128.size a := fun i k1_t9 v85 v87 v923 k1_hw63 k1_h11 k1_h14 => k1_hw63.2.1 k1_h11 k1_h14
theorem k1_off733_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off733 v923) a + S1x16.size a ≤ S256x128.size a := fun i k1_t9 v85 v87 v923 k1_hw63 k1_h11 k1_h14 => k1_hw63.2.2.1 k1_h11 k1_h14
theorem k1_off735_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off735 v923) a + S1x16.size a ≤ S256x128.size a := fun i k1_t9 v85 v87 v923 k1_hw63 k1_h11 k1_h14 => k1_hw63.2.2.2.1 k1_h11 k1_h14
theorem k1_off737_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off737 v923) a + S1x16.size a ≤ S256x128.size a := fun i k1_t9 v85 v87 v923 k1_hw63 k1_h11 k1_h14 => k1_hw63.2.2.2.2.1 k1_h11 k1_h14
theorem k1_off739_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off739 v923) a + S1x16.size a ≤ S256x128.size a := fun i k1_t9 v85 v87 v923 k1_hw63 k1_h11 k1_h14 => k1_hw63.2.2.2.2.2.1 k1_h11 k1_h14
theorem k1_off741_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off741 v923) a + S1x16.size a ≤ S256x128.size a := fun i k1_t9 v85 v87 v923 k1_hw63 k1_h11 k1_h14 => k1_hw63.2.2.2.2.2.2.1 k1_h11 k1_h14
theorem k1_off743_inb : ∀ (i : grid1.Coords) (k1_t9 : Fin (k1_t9_loop i).trips) (v85 : BitVec 32) (v87 : BitVec 32) (v923 : BitVec 32) (k1_hw63 : k1_chk63 i k1_t9 v85 v87 v923), ∀ (k1_h11 : k1_cond11 i k1_t9 = 1#1), ∀ (k1_h14 : k1_cond14 v85 v87 = 1#1), ∀ a, (k1_off743 v923) a + S1x16.size a ≤ S256x128.size a := fun i k1_t9 v85 v87 v923 k1_hw63 k1_h11 k1_h14 => k1_hw63.2.2.2.2.2.2.2 k1_h11 k1_h14

def k1_off744 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_444 : BitVec 32 := 16#32
  let v1005 : BitVec 32 := Scalar.muli arg18 c16_i32_444
  let c9_i32_445 : BitVec 32 := 9#32
  let v1006 : BitVec 32 := Scalar.addi v1005 c9_i32_445
  let v1007 : Index := Scalar.indexCast v1006
  let c112_446 : Index := 112#32
  ![v1007.toNat, 112]
def k1_off745 (v1015 : BitVec 32) : Fin 2 → Nat :=
  let v1018 : Index := Scalar.indexCast v1015
  let c0_448 : Index := 0#32
  ![v1018.toNat, 0]

def k1_off746 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_449 : BitVec 32 := 16#32
  let v1020 : BitVec 32 := Scalar.muli arg18 c16_i32_449
  let c10_i32 : BitVec 32 := 10#32
  let v1021 : BitVec 32 := Scalar.addi v1020 c10_i32
  let v1022 : Index := Scalar.indexCast v1021
  let c0_450 : Index := 0#32
  ![v1022.toNat, 0]
def k1_off747 (v1015 : BitVec 32) : Fin 2 → Nat :=
  let v1029 : Index := Scalar.indexCast v1015
  let c16_452 : Index := 16#32
  ![v1029.toNat, 16]
def k1_off748 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_453 : BitVec 32 := 16#32
  let v1031 : BitVec 32 := Scalar.muli arg18 c16_i32_453
  let c10_i32_454 : BitVec 32 := 10#32
  let v1032 : BitVec 32 := Scalar.addi v1031 c10_i32_454
  let v1033 : Index := Scalar.indexCast v1032
  let c16_455 : Index := 16#32
  ![v1033.toNat, 16]
def k1_off749 (v1015 : BitVec 32) : Fin 2 → Nat :=
  let v1040 : Index := Scalar.indexCast v1015
  let c32_457 : Index := 32#32
  ![v1040.toNat, 32]
def k1_off750 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_458 : BitVec 32 := 16#32
  let v1042 : BitVec 32 := Scalar.muli arg18 c16_i32_458
  let c10_i32_459 : BitVec 32 := 10#32
  let v1043 : BitVec 32 := Scalar.addi v1042 c10_i32_459
  let v1044 : Index := Scalar.indexCast v1043
  let c32_460 : Index := 32#32
  ![v1044.toNat, 32]
def k1_off751 (v1015 : BitVec 32) : Fin 2 → Nat :=
  let v1051 : Index := Scalar.indexCast v1015
  let c48_462 : Index := 48#32
  ![v1051.toNat, 48]
def k1_off752 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_463 : BitVec 32 := 16#32
  let v1053 : BitVec 32 := Scalar.muli arg18 c16_i32_463
  let c10_i32_464 : BitVec 32 := 10#32
  let v1054 : BitVec 32 := Scalar.addi v1053 c10_i32_464
  let v1055 : Index := Scalar.indexCast v1054
  let c48_465 : Index := 48#32
  ![v1055.toNat, 48]
def k1_off753 (v1015 : BitVec 32) : Fin 2 → Nat :=
  let v1062 : Index := Scalar.indexCast v1015
  let c64_467 : Index := 64#32
  ![v1062.toNat, 64]
def k1_off754 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_468 : BitVec 32 := 16#32
  let v1064 : BitVec 32 := Scalar.muli arg18 c16_i32_468
  let c10_i32_469 : BitVec 32 := 10#32
  let v1065 : BitVec 32 := Scalar.addi v1064 c10_i32_469
  let v1066 : Index := Scalar.indexCast v1065
  let c64_470 : Index := 64#32
  ![v1066.toNat, 64]
def k1_off755 (v1015 : BitVec 32) : Fin 2 → Nat :=
  let v1073 : Index := Scalar.indexCast v1015
  let c80_472 : Index := 80#32
  ![v1073.toNat, 80]
def k1_off756 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_473 : BitVec 32 := 16#32
  let v1075 : BitVec 32 := Scalar.muli arg18 c16_i32_473
  let c10_i32_474 : BitVec 32 := 10#32
  let v1076 : BitVec 32 := Scalar.addi v1075 c10_i32_474
  let v1077 : Index := Scalar.indexCast v1076
  let c80_475 : Index := 80#32
  ![v1077.toNat, 80]
def k1_off757 (v1015 : BitVec 32) : Fin 2 → Nat :=
  let v1084 : Index := Scalar.indexCast v1015
  let c96_477 : Index := 96#32
  ![v1084.toNat, 96]
def k1_off758 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_478 : BitVec 32 := 16#32
  let v1086 : BitVec 32 := Scalar.muli arg18 c16_i32_478
  let c10_i32_479 : BitVec 32 := 10#32
  let v1087 : BitVec 32 := Scalar.addi v1086 c10_i32_479
  let v1088 : Index := Scalar.indexCast v1087
  let c96_480 : Index := 96#32
  ![v1088.toNat, 96]
def k1_off759 (v1015 : BitVec 32) : Fin 2 → Nat :=
  let v1095 : Index := Scalar.indexCast v1015
  let c112_482 : Index := 112#32
  ![v1095.toNat, 112]

def k1_chk64 (i : grid1.Coords) (k1_t9 : Fin (k1_t9_loop i).trips) (v85 : BitVec 32) (v87 : BitVec 32) (v1015 : BitVec 32) : Prop :=
  (∀ (k1_h11 : k1_cond11 i k1_t9 = 1#1), ∀ (k1_h14 : k1_cond14 v85 v87 = 1#1), ∀ a, (k1_off745 v1015) a + S1x16.size a ≤ S256x128.size a) ∧
  (∀ (k1_h11 : k1_cond11 i k1_t9 = 1#1), ∀ (k1_h14 : k1_cond14 v85 v87 = 1#1), ∀ a, (k1_off747 v1015) a + S1x16.size a ≤ S256x128.size a) ∧
  (∀ (k1_h11 : k1_cond11 i k1_t9 = 1#1), ∀ (k1_h14 : k1_cond14 v85 v87 = 1#1), ∀ a, (k1_off749 v1015) a + S1x16.size a ≤ S256x128.size a) ∧
  (∀ (k1_h11 : k1_cond11 i k1_t9 = 1#1), ∀ (k1_h14 : k1_cond14 v85 v87 = 1#1), ∀ a, (k1_off751 v1015) a + S1x16.size a ≤ S256x128.size a) ∧
  (∀ (k1_h11 : k1_cond11 i k1_t9 = 1#1), ∀ (k1_h14 : k1_cond14 v85 v87 = 1#1), ∀ a, (k1_off753 v1015) a + S1x16.size a ≤ S256x128.size a) ∧
  (∀ (k1_h11 : k1_cond11 i k1_t9 = 1#1), ∀ (k1_h14 : k1_cond14 v85 v87 = 1#1), ∀ a, (k1_off755 v1015) a + S1x16.size a ≤ S256x128.size a) ∧
  (∀ (k1_h11 : k1_cond11 i k1_t9 = 1#1), ∀ (k1_h14 : k1_cond14 v85 v87 = 1#1), ∀ a, (k1_off757 v1015) a + S1x16.size a ≤ S256x128.size a) ∧
  (∀ (k1_h11 : k1_cond11 i k1_t9 = 1#1), ∀ (k1_h14 : k1_cond14 v85 v87 = 1#1), ∀ a, (k1_off759 v1015) a + S1x16.size a ≤ S256x128.size a)
theorem k1_off745_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off745 v1015) a + S1x16.size a ≤ S256x128.size a := fun i k1_t9 v85 v87 v1015 k1_hw64 k1_h11 k1_h14 => k1_hw64.1 k1_h11 k1_h14
theorem k1_off747_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off747 v1015) a + S1x16.size a ≤ S256x128.size a := fun i k1_t9 v85 v87 v1015 k1_hw64 k1_h11 k1_h14 => k1_hw64.2.1 k1_h11 k1_h14
theorem k1_off749_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off749 v1015) a + S1x16.size a ≤ S256x128.size a := fun i k1_t9 v85 v87 v1015 k1_hw64 k1_h11 k1_h14 => k1_hw64.2.2.1 k1_h11 k1_h14
theorem k1_off751_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off751 v1015) a + S1x16.size a ≤ S256x128.size a := fun i k1_t9 v85 v87 v1015 k1_hw64 k1_h11 k1_h14 => k1_hw64.2.2.2.1 k1_h11 k1_h14
theorem k1_off753_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off753 v1015) a + S1x16.size a ≤ S256x128.size a := fun i k1_t9 v85 v87 v1015 k1_hw64 k1_h11 k1_h14 => k1_hw64.2.2.2.2.1 k1_h11 k1_h14
theorem k1_off755_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off755 v1015) a + S1x16.size a ≤ S256x128.size a := fun i k1_t9 v85 v87 v1015 k1_hw64 k1_h11 k1_h14 => k1_hw64.2.2.2.2.2.1 k1_h11 k1_h14
theorem k1_off757_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off757 v1015) a + S1x16.size a ≤ S256x128.size a := fun i k1_t9 v85 v87 v1015 k1_hw64 k1_h11 k1_h14 => k1_hw64.2.2.2.2.2.2.1 k1_h11 k1_h14
theorem k1_off759_inb : ∀ (i : grid1.Coords) (k1_t9 : Fin (k1_t9_loop i).trips) (v85 : BitVec 32) (v87 : BitVec 32) (v1015 : BitVec 32) (k1_hw64 : k1_chk64 i k1_t9 v85 v87 v1015), ∀ (k1_h11 : k1_cond11 i k1_t9 = 1#1), ∀ (k1_h14 : k1_cond14 v85 v87 = 1#1), ∀ a, (k1_off759 v1015) a + S1x16.size a ≤ S256x128.size a := fun i k1_t9 v85 v87 v1015 k1_hw64 k1_h11 k1_h14 => k1_hw64.2.2.2.2.2.2.2 k1_h11 k1_h14

def k1_off760 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_483 : BitVec 32 := 16#32
  let v1097 : BitVec 32 := Scalar.muli arg18 c16_i32_483
  let c10_i32_484 : BitVec 32 := 10#32
  let v1098 : BitVec 32 := Scalar.addi v1097 c10_i32_484
  let v1099 : Index := Scalar.indexCast v1098
  let c112_485 : Index := 112#32
  ![v1099.toNat, 112]
def k1_off761 (v1107 : BitVec 32) : Fin 2 → Nat :=
  let v1110 : Index := Scalar.indexCast v1107
  let c0_487 : Index := 0#32
  ![v1110.toNat, 0]

def k1_off762 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_488 : BitVec 32 := 16#32
  let v1112 : BitVec 32 := Scalar.muli arg18 c16_i32_488
  let c11_i32 : BitVec 32 := 11#32
  let v1113 : BitVec 32 := Scalar.addi v1112 c11_i32
  let v1114 : Index := Scalar.indexCast v1113
  let c0_489 : Index := 0#32
  ![v1114.toNat, 0]
def k1_off763 (v1107 : BitVec 32) : Fin 2 → Nat :=
  let v1121 : Index := Scalar.indexCast v1107
  let c16_491 : Index := 16#32
  ![v1121.toNat, 16]
def k1_off764 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_492 : BitVec 32 := 16#32
  let v1123 : BitVec 32 := Scalar.muli arg18 c16_i32_492
  let c11_i32_493 : BitVec 32 := 11#32
  let v1124 : BitVec 32 := Scalar.addi v1123 c11_i32_493
  let v1125 : Index := Scalar.indexCast v1124
  let c16_494 : Index := 16#32
  ![v1125.toNat, 16]
def k1_off765 (v1107 : BitVec 32) : Fin 2 → Nat :=
  let v1132 : Index := Scalar.indexCast v1107
  let c32_496 : Index := 32#32
  ![v1132.toNat, 32]
def k1_off766 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_497 : BitVec 32 := 16#32
  let v1134 : BitVec 32 := Scalar.muli arg18 c16_i32_497
  let c11_i32_498 : BitVec 32 := 11#32
  let v1135 : BitVec 32 := Scalar.addi v1134 c11_i32_498
  let v1136 : Index := Scalar.indexCast v1135
  let c32_499 : Index := 32#32
  ![v1136.toNat, 32]
def k1_off767 (v1107 : BitVec 32) : Fin 2 → Nat :=
  let v1143 : Index := Scalar.indexCast v1107
  let c48_501 : Index := 48#32
  ![v1143.toNat, 48]
def k1_off768 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_502 : BitVec 32 := 16#32
  let v1145 : BitVec 32 := Scalar.muli arg18 c16_i32_502
  let c11_i32_503 : BitVec 32 := 11#32
  let v1146 : BitVec 32 := Scalar.addi v1145 c11_i32_503
  let v1147 : Index := Scalar.indexCast v1146
  let c48_504 : Index := 48#32
  ![v1147.toNat, 48]
def k1_off769 (v1107 : BitVec 32) : Fin 2 → Nat :=
  let v1154 : Index := Scalar.indexCast v1107
  let c64_506 : Index := 64#32
  ![v1154.toNat, 64]
def k1_off770 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_507 : BitVec 32 := 16#32
  let v1156 : BitVec 32 := Scalar.muli arg18 c16_i32_507
  let c11_i32_508 : BitVec 32 := 11#32
  let v1157 : BitVec 32 := Scalar.addi v1156 c11_i32_508
  let v1158 : Index := Scalar.indexCast v1157
  let c64_509 : Index := 64#32
  ![v1158.toNat, 64]
def k1_off771 (v1107 : BitVec 32) : Fin 2 → Nat :=
  let v1165 : Index := Scalar.indexCast v1107
  let c80_511 : Index := 80#32
  ![v1165.toNat, 80]
def k1_off772 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_512 : BitVec 32 := 16#32
  let v1167 : BitVec 32 := Scalar.muli arg18 c16_i32_512
  let c11_i32_513 : BitVec 32 := 11#32
  let v1168 : BitVec 32 := Scalar.addi v1167 c11_i32_513
  let v1169 : Index := Scalar.indexCast v1168
  let c80_514 : Index := 80#32
  ![v1169.toNat, 80]
def k1_off773 (v1107 : BitVec 32) : Fin 2 → Nat :=
  let v1176 : Index := Scalar.indexCast v1107
  let c96_516 : Index := 96#32
  ![v1176.toNat, 96]
def k1_off774 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_517 : BitVec 32 := 16#32
  let v1178 : BitVec 32 := Scalar.muli arg18 c16_i32_517
  let c11_i32_518 : BitVec 32 := 11#32
  let v1179 : BitVec 32 := Scalar.addi v1178 c11_i32_518
  let v1180 : Index := Scalar.indexCast v1179
  let c96_519 : Index := 96#32
  ![v1180.toNat, 96]
def k1_off775 (v1107 : BitVec 32) : Fin 2 → Nat :=
  let v1187 : Index := Scalar.indexCast v1107
  let c112_521 : Index := 112#32
  ![v1187.toNat, 112]

def k1_chk65 (i : grid1.Coords) (k1_t9 : Fin (k1_t9_loop i).trips) (v85 : BitVec 32) (v87 : BitVec 32) (v1107 : BitVec 32) : Prop :=
  (∀ (k1_h11 : k1_cond11 i k1_t9 = 1#1), ∀ (k1_h14 : k1_cond14 v85 v87 = 1#1), ∀ a, (k1_off761 v1107) a + S1x16.size a ≤ S256x128.size a) ∧
  (∀ (k1_h11 : k1_cond11 i k1_t9 = 1#1), ∀ (k1_h14 : k1_cond14 v85 v87 = 1#1), ∀ a, (k1_off763 v1107) a + S1x16.size a ≤ S256x128.size a) ∧
  (∀ (k1_h11 : k1_cond11 i k1_t9 = 1#1), ∀ (k1_h14 : k1_cond14 v85 v87 = 1#1), ∀ a, (k1_off765 v1107) a + S1x16.size a ≤ S256x128.size a) ∧
  (∀ (k1_h11 : k1_cond11 i k1_t9 = 1#1), ∀ (k1_h14 : k1_cond14 v85 v87 = 1#1), ∀ a, (k1_off767 v1107) a + S1x16.size a ≤ S256x128.size a) ∧
  (∀ (k1_h11 : k1_cond11 i k1_t9 = 1#1), ∀ (k1_h14 : k1_cond14 v85 v87 = 1#1), ∀ a, (k1_off769 v1107) a + S1x16.size a ≤ S256x128.size a) ∧
  (∀ (k1_h11 : k1_cond11 i k1_t9 = 1#1), ∀ (k1_h14 : k1_cond14 v85 v87 = 1#1), ∀ a, (k1_off771 v1107) a + S1x16.size a ≤ S256x128.size a) ∧
  (∀ (k1_h11 : k1_cond11 i k1_t9 = 1#1), ∀ (k1_h14 : k1_cond14 v85 v87 = 1#1), ∀ a, (k1_off773 v1107) a + S1x16.size a ≤ S256x128.size a) ∧
  (∀ (k1_h11 : k1_cond11 i k1_t9 = 1#1), ∀ (k1_h14 : k1_cond14 v85 v87 = 1#1), ∀ a, (k1_off775 v1107) a + S1x16.size a ≤ S256x128.size a)
theorem k1_off761_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off761 v1107) a + S1x16.size a ≤ S256x128.size a := fun i k1_t9 v85 v87 v1107 k1_hw65 k1_h11 k1_h14 => k1_hw65.1 k1_h11 k1_h14
theorem k1_off763_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off763 v1107) a + S1x16.size a ≤ S256x128.size a := fun i k1_t9 v85 v87 v1107 k1_hw65 k1_h11 k1_h14 => k1_hw65.2.1 k1_h11 k1_h14
theorem k1_off765_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off765 v1107) a + S1x16.size a ≤ S256x128.size a := fun i k1_t9 v85 v87 v1107 k1_hw65 k1_h11 k1_h14 => k1_hw65.2.2.1 k1_h11 k1_h14
theorem k1_off767_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off767 v1107) a + S1x16.size a ≤ S256x128.size a := fun i k1_t9 v85 v87 v1107 k1_hw65 k1_h11 k1_h14 => k1_hw65.2.2.2.1 k1_h11 k1_h14
theorem k1_off769_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off769 v1107) a + S1x16.size a ≤ S256x128.size a := fun i k1_t9 v85 v87 v1107 k1_hw65 k1_h11 k1_h14 => k1_hw65.2.2.2.2.1 k1_h11 k1_h14
theorem k1_off771_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off771 v1107) a + S1x16.size a ≤ S256x128.size a := fun i k1_t9 v85 v87 v1107 k1_hw65 k1_h11 k1_h14 => k1_hw65.2.2.2.2.2.1 k1_h11 k1_h14
theorem k1_off773_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off773 v1107) a + S1x16.size a ≤ S256x128.size a := fun i k1_t9 v85 v87 v1107 k1_hw65 k1_h11 k1_h14 => k1_hw65.2.2.2.2.2.2.1 k1_h11 k1_h14
theorem k1_off775_inb : ∀ (i : grid1.Coords) (k1_t9 : Fin (k1_t9_loop i).trips) (v85 : BitVec 32) (v87 : BitVec 32) (v1107 : BitVec 32) (k1_hw65 : k1_chk65 i k1_t9 v85 v87 v1107), ∀ (k1_h11 : k1_cond11 i k1_t9 = 1#1), ∀ (k1_h14 : k1_cond14 v85 v87 = 1#1), ∀ a, (k1_off775 v1107) a + S1x16.size a ≤ S256x128.size a := fun i k1_t9 v85 v87 v1107 k1_hw65 k1_h11 k1_h14 => k1_hw65.2.2.2.2.2.2.2 k1_h11 k1_h14

def k1_off776 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_522 : BitVec 32 := 16#32
  let v1189 : BitVec 32 := Scalar.muli arg18 c16_i32_522
  let c11_i32_523 : BitVec 32 := 11#32
  let v1190 : BitVec 32 := Scalar.addi v1189 c11_i32_523
  let v1191 : Index := Scalar.indexCast v1190
  let c112_524 : Index := 112#32
  ![v1191.toNat, 112]
def k1_off777 (v1199 : BitVec 32) : Fin 2 → Nat :=
  let v1202 : Index := Scalar.indexCast v1199
  let c0_526 : Index := 0#32
  ![v1202.toNat, 0]

def k1_off778 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_527 : BitVec 32 := 16#32
  let v1204 : BitVec 32 := Scalar.muli arg18 c16_i32_527
  let c12_i32 : BitVec 32 := 12#32
  let v1205 : BitVec 32 := Scalar.addi v1204 c12_i32
  let v1206 : Index := Scalar.indexCast v1205
  let c0_528 : Index := 0#32
  ![v1206.toNat, 0]
def k1_off779 (v1199 : BitVec 32) : Fin 2 → Nat :=
  let v1213 : Index := Scalar.indexCast v1199
  let c16_530 : Index := 16#32
  ![v1213.toNat, 16]
def k1_off780 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_531 : BitVec 32 := 16#32
  let v1215 : BitVec 32 := Scalar.muli arg18 c16_i32_531
  let c12_i32_532 : BitVec 32 := 12#32
  let v1216 : BitVec 32 := Scalar.addi v1215 c12_i32_532
  let v1217 : Index := Scalar.indexCast v1216
  let c16_533 : Index := 16#32
  ![v1217.toNat, 16]
def k1_off781 (v1199 : BitVec 32) : Fin 2 → Nat :=
  let v1224 : Index := Scalar.indexCast v1199
  let c32_535 : Index := 32#32
  ![v1224.toNat, 32]
def k1_off782 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_536 : BitVec 32 := 16#32
  let v1226 : BitVec 32 := Scalar.muli arg18 c16_i32_536
  let c12_i32_537 : BitVec 32 := 12#32
  let v1227 : BitVec 32 := Scalar.addi v1226 c12_i32_537
  let v1228 : Index := Scalar.indexCast v1227
  let c32_538 : Index := 32#32
  ![v1228.toNat, 32]
def k1_off783 (v1199 : BitVec 32) : Fin 2 → Nat :=
  let v1235 : Index := Scalar.indexCast v1199
  let c48_540 : Index := 48#32
  ![v1235.toNat, 48]
def k1_off784 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_541 : BitVec 32 := 16#32
  let v1237 : BitVec 32 := Scalar.muli arg18 c16_i32_541
  let c12_i32_542 : BitVec 32 := 12#32
  let v1238 : BitVec 32 := Scalar.addi v1237 c12_i32_542
  let v1239 : Index := Scalar.indexCast v1238
  let c48_543 : Index := 48#32
  ![v1239.toNat, 48]
def k1_off785 (v1199 : BitVec 32) : Fin 2 → Nat :=
  let v1246 : Index := Scalar.indexCast v1199
  let c64_545 : Index := 64#32
  ![v1246.toNat, 64]
def k1_off786 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_546 : BitVec 32 := 16#32
  let v1248 : BitVec 32 := Scalar.muli arg18 c16_i32_546
  let c12_i32_547 : BitVec 32 := 12#32
  let v1249 : BitVec 32 := Scalar.addi v1248 c12_i32_547
  let v1250 : Index := Scalar.indexCast v1249
  let c64_548 : Index := 64#32
  ![v1250.toNat, 64]
def k1_off787 (v1199 : BitVec 32) : Fin 2 → Nat :=
  let v1257 : Index := Scalar.indexCast v1199
  let c80_550 : Index := 80#32
  ![v1257.toNat, 80]
def k1_off788 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_551 : BitVec 32 := 16#32
  let v1259 : BitVec 32 := Scalar.muli arg18 c16_i32_551
  let c12_i32_552 : BitVec 32 := 12#32
  let v1260 : BitVec 32 := Scalar.addi v1259 c12_i32_552
  let v1261 : Index := Scalar.indexCast v1260
  let c80_553 : Index := 80#32
  ![v1261.toNat, 80]
def k1_off789 (v1199 : BitVec 32) : Fin 2 → Nat :=
  let v1268 : Index := Scalar.indexCast v1199
  let c96_555 : Index := 96#32
  ![v1268.toNat, 96]
def k1_off790 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_556 : BitVec 32 := 16#32
  let v1270 : BitVec 32 := Scalar.muli arg18 c16_i32_556
  let c12_i32_557 : BitVec 32 := 12#32
  let v1271 : BitVec 32 := Scalar.addi v1270 c12_i32_557
  let v1272 : Index := Scalar.indexCast v1271
  let c96_558 : Index := 96#32
  ![v1272.toNat, 96]
def k1_off791 (v1199 : BitVec 32) : Fin 2 → Nat :=
  let v1279 : Index := Scalar.indexCast v1199
  let c112_560 : Index := 112#32
  ![v1279.toNat, 112]

def k1_chk66 (i : grid1.Coords) (k1_t9 : Fin (k1_t9_loop i).trips) (v85 : BitVec 32) (v87 : BitVec 32) (v1199 : BitVec 32) : Prop :=
  (∀ (k1_h11 : k1_cond11 i k1_t9 = 1#1), ∀ (k1_h14 : k1_cond14 v85 v87 = 1#1), ∀ a, (k1_off777 v1199) a + S1x16.size a ≤ S256x128.size a) ∧
  (∀ (k1_h11 : k1_cond11 i k1_t9 = 1#1), ∀ (k1_h14 : k1_cond14 v85 v87 = 1#1), ∀ a, (k1_off779 v1199) a + S1x16.size a ≤ S256x128.size a) ∧
  (∀ (k1_h11 : k1_cond11 i k1_t9 = 1#1), ∀ (k1_h14 : k1_cond14 v85 v87 = 1#1), ∀ a, (k1_off781 v1199) a + S1x16.size a ≤ S256x128.size a) ∧
  (∀ (k1_h11 : k1_cond11 i k1_t9 = 1#1), ∀ (k1_h14 : k1_cond14 v85 v87 = 1#1), ∀ a, (k1_off783 v1199) a + S1x16.size a ≤ S256x128.size a) ∧
  (∀ (k1_h11 : k1_cond11 i k1_t9 = 1#1), ∀ (k1_h14 : k1_cond14 v85 v87 = 1#1), ∀ a, (k1_off785 v1199) a + S1x16.size a ≤ S256x128.size a) ∧
  (∀ (k1_h11 : k1_cond11 i k1_t9 = 1#1), ∀ (k1_h14 : k1_cond14 v85 v87 = 1#1), ∀ a, (k1_off787 v1199) a + S1x16.size a ≤ S256x128.size a) ∧
  (∀ (k1_h11 : k1_cond11 i k1_t9 = 1#1), ∀ (k1_h14 : k1_cond14 v85 v87 = 1#1), ∀ a, (k1_off789 v1199) a + S1x16.size a ≤ S256x128.size a) ∧
  (∀ (k1_h11 : k1_cond11 i k1_t9 = 1#1), ∀ (k1_h14 : k1_cond14 v85 v87 = 1#1), ∀ a, (k1_off791 v1199) a + S1x16.size a ≤ S256x128.size a)
theorem k1_off777_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off777 v1199) a + S1x16.size a ≤ S256x128.size a := fun i k1_t9 v85 v87 v1199 k1_hw66 k1_h11 k1_h14 => k1_hw66.1 k1_h11 k1_h14
theorem k1_off779_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off779 v1199) a + S1x16.size a ≤ S256x128.size a := fun i k1_t9 v85 v87 v1199 k1_hw66 k1_h11 k1_h14 => k1_hw66.2.1 k1_h11 k1_h14
theorem k1_off781_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off781 v1199) a + S1x16.size a ≤ S256x128.size a := fun i k1_t9 v85 v87 v1199 k1_hw66 k1_h11 k1_h14 => k1_hw66.2.2.1 k1_h11 k1_h14
theorem k1_off783_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off783 v1199) a + S1x16.size a ≤ S256x128.size a := fun i k1_t9 v85 v87 v1199 k1_hw66 k1_h11 k1_h14 => k1_hw66.2.2.2.1 k1_h11 k1_h14
theorem k1_off785_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off785 v1199) a + S1x16.size a ≤ S256x128.size a := fun i k1_t9 v85 v87 v1199 k1_hw66 k1_h11 k1_h14 => k1_hw66.2.2.2.2.1 k1_h11 k1_h14
theorem k1_off787_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off787 v1199) a + S1x16.size a ≤ S256x128.size a := fun i k1_t9 v85 v87 v1199 k1_hw66 k1_h11 k1_h14 => k1_hw66.2.2.2.2.2.1 k1_h11 k1_h14
theorem k1_off789_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off789 v1199) a + S1x16.size a ≤ S256x128.size a := fun i k1_t9 v85 v87 v1199 k1_hw66 k1_h11 k1_h14 => k1_hw66.2.2.2.2.2.2.1 k1_h11 k1_h14
theorem k1_off791_inb : ∀ (i : grid1.Coords) (k1_t9 : Fin (k1_t9_loop i).trips) (v85 : BitVec 32) (v87 : BitVec 32) (v1199 : BitVec 32) (k1_hw66 : k1_chk66 i k1_t9 v85 v87 v1199), ∀ (k1_h11 : k1_cond11 i k1_t9 = 1#1), ∀ (k1_h14 : k1_cond14 v85 v87 = 1#1), ∀ a, (k1_off791 v1199) a + S1x16.size a ≤ S256x128.size a := fun i k1_t9 v85 v87 v1199 k1_hw66 k1_h11 k1_h14 => k1_hw66.2.2.2.2.2.2.2 k1_h11 k1_h14

def k1_off792 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_561 : BitVec 32 := 16#32
  let v1281 : BitVec 32 := Scalar.muli arg18 c16_i32_561
  let c12_i32_562 : BitVec 32 := 12#32
  let v1282 : BitVec 32 := Scalar.addi v1281 c12_i32_562
  let v1283 : Index := Scalar.indexCast v1282
  let c112_563 : Index := 112#32
  ![v1283.toNat, 112]
def k1_off793 (v1291 : BitVec 32) : Fin 2 → Nat :=
  let v1294 : Index := Scalar.indexCast v1291
  let c0_565 : Index := 0#32
  ![v1294.toNat, 0]

def k1_off794 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_566 : BitVec 32 := 16#32
  let v1296 : BitVec 32 := Scalar.muli arg18 c16_i32_566
  let c13_i32 : BitVec 32 := 13#32
  let v1297 : BitVec 32 := Scalar.addi v1296 c13_i32
  let v1298 : Index := Scalar.indexCast v1297
  let c0_567 : Index := 0#32
  ![v1298.toNat, 0]
def k1_off795 (v1291 : BitVec 32) : Fin 2 → Nat :=
  let v1305 : Index := Scalar.indexCast v1291
  let c16_569 : Index := 16#32
  ![v1305.toNat, 16]
def k1_off796 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_570 : BitVec 32 := 16#32
  let v1307 : BitVec 32 := Scalar.muli arg18 c16_i32_570
  let c13_i32_571 : BitVec 32 := 13#32
  let v1308 : BitVec 32 := Scalar.addi v1307 c13_i32_571
  let v1309 : Index := Scalar.indexCast v1308
  let c16_572 : Index := 16#32
  ![v1309.toNat, 16]
def k1_off797 (v1291 : BitVec 32) : Fin 2 → Nat :=
  let v1316 : Index := Scalar.indexCast v1291
  let c32_574 : Index := 32#32
  ![v1316.toNat, 32]
def k1_off798 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_575 : BitVec 32 := 16#32
  let v1318 : BitVec 32 := Scalar.muli arg18 c16_i32_575
  let c13_i32_576 : BitVec 32 := 13#32
  let v1319 : BitVec 32 := Scalar.addi v1318 c13_i32_576
  let v1320 : Index := Scalar.indexCast v1319
  let c32_577 : Index := 32#32
  ![v1320.toNat, 32]
def k1_off799 (v1291 : BitVec 32) : Fin 2 → Nat :=
  let v1327 : Index := Scalar.indexCast v1291
  let c48_579 : Index := 48#32
  ![v1327.toNat, 48]
def k1_off800 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_580 : BitVec 32 := 16#32
  let v1329 : BitVec 32 := Scalar.muli arg18 c16_i32_580
  let c13_i32_581 : BitVec 32 := 13#32
  let v1330 : BitVec 32 := Scalar.addi v1329 c13_i32_581
  let v1331 : Index := Scalar.indexCast v1330
  let c48_582 : Index := 48#32
  ![v1331.toNat, 48]
def k1_off801 (v1291 : BitVec 32) : Fin 2 → Nat :=
  let v1338 : Index := Scalar.indexCast v1291
  let c64_584 : Index := 64#32
  ![v1338.toNat, 64]
def k1_off802 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_585 : BitVec 32 := 16#32
  let v1340 : BitVec 32 := Scalar.muli arg18 c16_i32_585
  let c13_i32_586 : BitVec 32 := 13#32
  let v1341 : BitVec 32 := Scalar.addi v1340 c13_i32_586
  let v1342 : Index := Scalar.indexCast v1341
  let c64_587 : Index := 64#32
  ![v1342.toNat, 64]
def k1_off803 (v1291 : BitVec 32) : Fin 2 → Nat :=
  let v1349 : Index := Scalar.indexCast v1291
  let c80_589 : Index := 80#32
  ![v1349.toNat, 80]
def k1_off804 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_590 : BitVec 32 := 16#32
  let v1351 : BitVec 32 := Scalar.muli arg18 c16_i32_590
  let c13_i32_591 : BitVec 32 := 13#32
  let v1352 : BitVec 32 := Scalar.addi v1351 c13_i32_591
  let v1353 : Index := Scalar.indexCast v1352
  let c80_592 : Index := 80#32
  ![v1353.toNat, 80]
def k1_off805 (v1291 : BitVec 32) : Fin 2 → Nat :=
  let v1360 : Index := Scalar.indexCast v1291
  let c96_594 : Index := 96#32
  ![v1360.toNat, 96]
def k1_off806 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_595 : BitVec 32 := 16#32
  let v1362 : BitVec 32 := Scalar.muli arg18 c16_i32_595
  let c13_i32_596 : BitVec 32 := 13#32
  let v1363 : BitVec 32 := Scalar.addi v1362 c13_i32_596
  let v1364 : Index := Scalar.indexCast v1363
  let c96_597 : Index := 96#32
  ![v1364.toNat, 96]
def k1_off807 (v1291 : BitVec 32) : Fin 2 → Nat :=
  let v1371 : Index := Scalar.indexCast v1291
  let c112_599 : Index := 112#32
  ![v1371.toNat, 112]

def k1_chk67 (i : grid1.Coords) (k1_t9 : Fin (k1_t9_loop i).trips) (v85 : BitVec 32) (v87 : BitVec 32) (v1291 : BitVec 32) : Prop :=
  (∀ (k1_h11 : k1_cond11 i k1_t9 = 1#1), ∀ (k1_h14 : k1_cond14 v85 v87 = 1#1), ∀ a, (k1_off793 v1291) a + S1x16.size a ≤ S256x128.size a) ∧
  (∀ (k1_h11 : k1_cond11 i k1_t9 = 1#1), ∀ (k1_h14 : k1_cond14 v85 v87 = 1#1), ∀ a, (k1_off795 v1291) a + S1x16.size a ≤ S256x128.size a) ∧
  (∀ (k1_h11 : k1_cond11 i k1_t9 = 1#1), ∀ (k1_h14 : k1_cond14 v85 v87 = 1#1), ∀ a, (k1_off797 v1291) a + S1x16.size a ≤ S256x128.size a) ∧
  (∀ (k1_h11 : k1_cond11 i k1_t9 = 1#1), ∀ (k1_h14 : k1_cond14 v85 v87 = 1#1), ∀ a, (k1_off799 v1291) a + S1x16.size a ≤ S256x128.size a) ∧
  (∀ (k1_h11 : k1_cond11 i k1_t9 = 1#1), ∀ (k1_h14 : k1_cond14 v85 v87 = 1#1), ∀ a, (k1_off801 v1291) a + S1x16.size a ≤ S256x128.size a) ∧
  (∀ (k1_h11 : k1_cond11 i k1_t9 = 1#1), ∀ (k1_h14 : k1_cond14 v85 v87 = 1#1), ∀ a, (k1_off803 v1291) a + S1x16.size a ≤ S256x128.size a) ∧
  (∀ (k1_h11 : k1_cond11 i k1_t9 = 1#1), ∀ (k1_h14 : k1_cond14 v85 v87 = 1#1), ∀ a, (k1_off805 v1291) a + S1x16.size a ≤ S256x128.size a) ∧
  (∀ (k1_h11 : k1_cond11 i k1_t9 = 1#1), ∀ (k1_h14 : k1_cond14 v85 v87 = 1#1), ∀ a, (k1_off807 v1291) a + S1x16.size a ≤ S256x128.size a)
theorem k1_off793_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off793 v1291) a + S1x16.size a ≤ S256x128.size a := fun i k1_t9 v85 v87 v1291 k1_hw67 k1_h11 k1_h14 => k1_hw67.1 k1_h11 k1_h14
theorem k1_off795_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off795 v1291) a + S1x16.size a ≤ S256x128.size a := fun i k1_t9 v85 v87 v1291 k1_hw67 k1_h11 k1_h14 => k1_hw67.2.1 k1_h11 k1_h14
theorem k1_off797_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off797 v1291) a + S1x16.size a ≤ S256x128.size a := fun i k1_t9 v85 v87 v1291 k1_hw67 k1_h11 k1_h14 => k1_hw67.2.2.1 k1_h11 k1_h14
theorem k1_off799_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off799 v1291) a + S1x16.size a ≤ S256x128.size a := fun i k1_t9 v85 v87 v1291 k1_hw67 k1_h11 k1_h14 => k1_hw67.2.2.2.1 k1_h11 k1_h14
theorem k1_off801_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off801 v1291) a + S1x16.size a ≤ S256x128.size a := fun i k1_t9 v85 v87 v1291 k1_hw67 k1_h11 k1_h14 => k1_hw67.2.2.2.2.1 k1_h11 k1_h14
theorem k1_off803_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off803 v1291) a + S1x16.size a ≤ S256x128.size a := fun i k1_t9 v85 v87 v1291 k1_hw67 k1_h11 k1_h14 => k1_hw67.2.2.2.2.2.1 k1_h11 k1_h14
theorem k1_off805_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off805 v1291) a + S1x16.size a ≤ S256x128.size a := fun i k1_t9 v85 v87 v1291 k1_hw67 k1_h11 k1_h14 => k1_hw67.2.2.2.2.2.2.1 k1_h11 k1_h14
theorem k1_off807_inb : ∀ (i : grid1.Coords) (k1_t9 : Fin (k1_t9_loop i).trips) (v85 : BitVec 32) (v87 : BitVec 32) (v1291 : BitVec 32) (k1_hw67 : k1_chk67 i k1_t9 v85 v87 v1291), ∀ (k1_h11 : k1_cond11 i k1_t9 = 1#1), ∀ (k1_h14 : k1_cond14 v85 v87 = 1#1), ∀ a, (k1_off807 v1291) a + S1x16.size a ≤ S256x128.size a := fun i k1_t9 v85 v87 v1291 k1_hw67 k1_h11 k1_h14 => k1_hw67.2.2.2.2.2.2.2 k1_h11 k1_h14

def k1_off808 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_600 : BitVec 32 := 16#32
  let v1373 : BitVec 32 := Scalar.muli arg18 c16_i32_600
  let c13_i32_601 : BitVec 32 := 13#32
  let v1374 : BitVec 32 := Scalar.addi v1373 c13_i32_601
  let v1375 : Index := Scalar.indexCast v1374
  let c112_602 : Index := 112#32
  ![v1375.toNat, 112]
def k1_off809 (v1383 : BitVec 32) : Fin 2 → Nat :=
  let v1386 : Index := Scalar.indexCast v1383
  let c0_604 : Index := 0#32
  ![v1386.toNat, 0]

def k1_off810 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_605 : BitVec 32 := 16#32
  let v1388 : BitVec 32 := Scalar.muli arg18 c16_i32_605
  let c14_i32 : BitVec 32 := 14#32
  let v1389 : BitVec 32 := Scalar.addi v1388 c14_i32
  let v1390 : Index := Scalar.indexCast v1389
  let c0_606 : Index := 0#32
  ![v1390.toNat, 0]
def k1_off811 (v1383 : BitVec 32) : Fin 2 → Nat :=
  let v1397 : Index := Scalar.indexCast v1383
  let c16_608 : Index := 16#32
  ![v1397.toNat, 16]
def k1_off812 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_609 : BitVec 32 := 16#32
  let v1399 : BitVec 32 := Scalar.muli arg18 c16_i32_609
  let c14_i32_610 : BitVec 32 := 14#32
  let v1400 : BitVec 32 := Scalar.addi v1399 c14_i32_610
  let v1401 : Index := Scalar.indexCast v1400
  let c16_611 : Index := 16#32
  ![v1401.toNat, 16]
def k1_off813 (v1383 : BitVec 32) : Fin 2 → Nat :=
  let v1408 : Index := Scalar.indexCast v1383
  let c32_613 : Index := 32#32
  ![v1408.toNat, 32]
def k1_off814 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_614 : BitVec 32 := 16#32
  let v1410 : BitVec 32 := Scalar.muli arg18 c16_i32_614
  let c14_i32_615 : BitVec 32 := 14#32
  let v1411 : BitVec 32 := Scalar.addi v1410 c14_i32_615
  let v1412 : Index := Scalar.indexCast v1411
  let c32_616 : Index := 32#32
  ![v1412.toNat, 32]
def k1_off815 (v1383 : BitVec 32) : Fin 2 → Nat :=
  let v1419 : Index := Scalar.indexCast v1383
  let c48_618 : Index := 48#32
  ![v1419.toNat, 48]
def k1_off816 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_619 : BitVec 32 := 16#32
  let v1421 : BitVec 32 := Scalar.muli arg18 c16_i32_619
  let c14_i32_620 : BitVec 32 := 14#32
  let v1422 : BitVec 32 := Scalar.addi v1421 c14_i32_620
  let v1423 : Index := Scalar.indexCast v1422
  let c48_621 : Index := 48#32
  ![v1423.toNat, 48]
def k1_off817 (v1383 : BitVec 32) : Fin 2 → Nat :=
  let v1430 : Index := Scalar.indexCast v1383
  let c64_623 : Index := 64#32
  ![v1430.toNat, 64]
def k1_off818 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_624 : BitVec 32 := 16#32
  let v1432 : BitVec 32 := Scalar.muli arg18 c16_i32_624
  let c14_i32_625 : BitVec 32 := 14#32
  let v1433 : BitVec 32 := Scalar.addi v1432 c14_i32_625
  let v1434 : Index := Scalar.indexCast v1433
  let c64_626 : Index := 64#32
  ![v1434.toNat, 64]
def k1_off819 (v1383 : BitVec 32) : Fin 2 → Nat :=
  let v1441 : Index := Scalar.indexCast v1383
  let c80_628 : Index := 80#32
  ![v1441.toNat, 80]
def k1_off820 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_629 : BitVec 32 := 16#32
  let v1443 : BitVec 32 := Scalar.muli arg18 c16_i32_629
  let c14_i32_630 : BitVec 32 := 14#32
  let v1444 : BitVec 32 := Scalar.addi v1443 c14_i32_630
  let v1445 : Index := Scalar.indexCast v1444
  let c80_631 : Index := 80#32
  ![v1445.toNat, 80]
def k1_off821 (v1383 : BitVec 32) : Fin 2 → Nat :=
  let v1452 : Index := Scalar.indexCast v1383
  let c96_633 : Index := 96#32
  ![v1452.toNat, 96]
def k1_off822 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_634 : BitVec 32 := 16#32
  let v1454 : BitVec 32 := Scalar.muli arg18 c16_i32_634
  let c14_i32_635 : BitVec 32 := 14#32
  let v1455 : BitVec 32 := Scalar.addi v1454 c14_i32_635
  let v1456 : Index := Scalar.indexCast v1455
  let c96_636 : Index := 96#32
  ![v1456.toNat, 96]
def k1_off823 (v1383 : BitVec 32) : Fin 2 → Nat :=
  let v1463 : Index := Scalar.indexCast v1383
  let c112_638 : Index := 112#32
  ![v1463.toNat, 112]

def k1_chk68 (i : grid1.Coords) (k1_t9 : Fin (k1_t9_loop i).trips) (v85 : BitVec 32) (v87 : BitVec 32) (v1383 : BitVec 32) : Prop :=
  (∀ (k1_h11 : k1_cond11 i k1_t9 = 1#1), ∀ (k1_h14 : k1_cond14 v85 v87 = 1#1), ∀ a, (k1_off809 v1383) a + S1x16.size a ≤ S256x128.size a) ∧
  (∀ (k1_h11 : k1_cond11 i k1_t9 = 1#1), ∀ (k1_h14 : k1_cond14 v85 v87 = 1#1), ∀ a, (k1_off811 v1383) a + S1x16.size a ≤ S256x128.size a) ∧
  (∀ (k1_h11 : k1_cond11 i k1_t9 = 1#1), ∀ (k1_h14 : k1_cond14 v85 v87 = 1#1), ∀ a, (k1_off813 v1383) a + S1x16.size a ≤ S256x128.size a) ∧
  (∀ (k1_h11 : k1_cond11 i k1_t9 = 1#1), ∀ (k1_h14 : k1_cond14 v85 v87 = 1#1), ∀ a, (k1_off815 v1383) a + S1x16.size a ≤ S256x128.size a) ∧
  (∀ (k1_h11 : k1_cond11 i k1_t9 = 1#1), ∀ (k1_h14 : k1_cond14 v85 v87 = 1#1), ∀ a, (k1_off817 v1383) a + S1x16.size a ≤ S256x128.size a) ∧
  (∀ (k1_h11 : k1_cond11 i k1_t9 = 1#1), ∀ (k1_h14 : k1_cond14 v85 v87 = 1#1), ∀ a, (k1_off819 v1383) a + S1x16.size a ≤ S256x128.size a) ∧
  (∀ (k1_h11 : k1_cond11 i k1_t9 = 1#1), ∀ (k1_h14 : k1_cond14 v85 v87 = 1#1), ∀ a, (k1_off821 v1383) a + S1x16.size a ≤ S256x128.size a) ∧
  (∀ (k1_h11 : k1_cond11 i k1_t9 = 1#1), ∀ (k1_h14 : k1_cond14 v85 v87 = 1#1), ∀ a, (k1_off823 v1383) a + S1x16.size a ≤ S256x128.size a)
theorem k1_off809_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off809 v1383) a + S1x16.size a ≤ S256x128.size a := fun i k1_t9 v85 v87 v1383 k1_hw68 k1_h11 k1_h14 => k1_hw68.1 k1_h11 k1_h14
theorem k1_off811_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off811 v1383) a + S1x16.size a ≤ S256x128.size a := fun i k1_t9 v85 v87 v1383 k1_hw68 k1_h11 k1_h14 => k1_hw68.2.1 k1_h11 k1_h14
theorem k1_off813_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off813 v1383) a + S1x16.size a ≤ S256x128.size a := fun i k1_t9 v85 v87 v1383 k1_hw68 k1_h11 k1_h14 => k1_hw68.2.2.1 k1_h11 k1_h14
theorem k1_off815_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off815 v1383) a + S1x16.size a ≤ S256x128.size a := fun i k1_t9 v85 v87 v1383 k1_hw68 k1_h11 k1_h14 => k1_hw68.2.2.2.1 k1_h11 k1_h14
theorem k1_off817_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off817 v1383) a + S1x16.size a ≤ S256x128.size a := fun i k1_t9 v85 v87 v1383 k1_hw68 k1_h11 k1_h14 => k1_hw68.2.2.2.2.1 k1_h11 k1_h14
theorem k1_off819_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off819 v1383) a + S1x16.size a ≤ S256x128.size a := fun i k1_t9 v85 v87 v1383 k1_hw68 k1_h11 k1_h14 => k1_hw68.2.2.2.2.2.1 k1_h11 k1_h14
theorem k1_off821_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off821 v1383) a + S1x16.size a ≤ S256x128.size a := fun i k1_t9 v85 v87 v1383 k1_hw68 k1_h11 k1_h14 => k1_hw68.2.2.2.2.2.2.1 k1_h11 k1_h14
theorem k1_off823_inb : ∀ (i : grid1.Coords) (k1_t9 : Fin (k1_t9_loop i).trips) (v85 : BitVec 32) (v87 : BitVec 32) (v1383 : BitVec 32) (k1_hw68 : k1_chk68 i k1_t9 v85 v87 v1383), ∀ (k1_h11 : k1_cond11 i k1_t9 = 1#1), ∀ (k1_h14 : k1_cond14 v85 v87 = 1#1), ∀ a, (k1_off823 v1383) a + S1x16.size a ≤ S256x128.size a := fun i k1_t9 v85 v87 v1383 k1_hw68 k1_h11 k1_h14 => k1_hw68.2.2.2.2.2.2.2 k1_h11 k1_h14

def k1_off824 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_639 : BitVec 32 := 16#32
  let v1465 : BitVec 32 := Scalar.muli arg18 c16_i32_639
  let c14_i32_640 : BitVec 32 := 14#32
  let v1466 : BitVec 32 := Scalar.addi v1465 c14_i32_640
  let v1467 : Index := Scalar.indexCast v1466
  let c112_641 : Index := 112#32
  ![v1467.toNat, 112]
def k1_off825 (v1475 : BitVec 32) : Fin 2 → Nat :=
  let v1478 : Index := Scalar.indexCast v1475
  let c0_643 : Index := 0#32
  ![v1478.toNat, 0]

def k1_off826 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_644 : BitVec 32 := 16#32
  let v1480 : BitVec 32 := Scalar.muli arg18 c16_i32_644
  let c15_i32 : BitVec 32 := 15#32
  let v1481 : BitVec 32 := Scalar.addi v1480 c15_i32
  let v1482 : Index := Scalar.indexCast v1481
  let c0_645 : Index := 0#32
  ![v1482.toNat, 0]
def k1_off827 (v1475 : BitVec 32) : Fin 2 → Nat :=
  let v1489 : Index := Scalar.indexCast v1475
  let c16_647 : Index := 16#32
  ![v1489.toNat, 16]
def k1_off828 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_648 : BitVec 32 := 16#32
  let v1491 : BitVec 32 := Scalar.muli arg18 c16_i32_648
  let c15_i32_649 : BitVec 32 := 15#32
  let v1492 : BitVec 32 := Scalar.addi v1491 c15_i32_649
  let v1493 : Index := Scalar.indexCast v1492
  let c16_650 : Index := 16#32
  ![v1493.toNat, 16]
def k1_off829 (v1475 : BitVec 32) : Fin 2 → Nat :=
  let v1500 : Index := Scalar.indexCast v1475
  let c32_652 : Index := 32#32
  ![v1500.toNat, 32]
def k1_off830 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_653 : BitVec 32 := 16#32
  let v1502 : BitVec 32 := Scalar.muli arg18 c16_i32_653
  let c15_i32_654 : BitVec 32 := 15#32
  let v1503 : BitVec 32 := Scalar.addi v1502 c15_i32_654
  let v1504 : Index := Scalar.indexCast v1503
  let c32_655 : Index := 32#32
  ![v1504.toNat, 32]
def k1_off831 (v1475 : BitVec 32) : Fin 2 → Nat :=
  let v1511 : Index := Scalar.indexCast v1475
  let c48_657 : Index := 48#32
  ![v1511.toNat, 48]
def k1_off832 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_658 : BitVec 32 := 16#32
  let v1513 : BitVec 32 := Scalar.muli arg18 c16_i32_658
  let c15_i32_659 : BitVec 32 := 15#32
  let v1514 : BitVec 32 := Scalar.addi v1513 c15_i32_659
  let v1515 : Index := Scalar.indexCast v1514
  let c48_660 : Index := 48#32
  ![v1515.toNat, 48]
def k1_off833 (v1475 : BitVec 32) : Fin 2 → Nat :=
  let v1522 : Index := Scalar.indexCast v1475
  let c64_662 : Index := 64#32
  ![v1522.toNat, 64]
def k1_off834 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_663 : BitVec 32 := 16#32
  let v1524 : BitVec 32 := Scalar.muli arg18 c16_i32_663
  let c15_i32_664 : BitVec 32 := 15#32
  let v1525 : BitVec 32 := Scalar.addi v1524 c15_i32_664
  let v1526 : Index := Scalar.indexCast v1525
  let c64_665 : Index := 64#32
  ![v1526.toNat, 64]
def k1_off835 (v1475 : BitVec 32) : Fin 2 → Nat :=
  let v1533 : Index := Scalar.indexCast v1475
  let c80_667 : Index := 80#32
  ![v1533.toNat, 80]
def k1_off836 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_668 : BitVec 32 := 16#32
  let v1535 : BitVec 32 := Scalar.muli arg18 c16_i32_668
  let c15_i32_669 : BitVec 32 := 15#32
  let v1536 : BitVec 32 := Scalar.addi v1535 c15_i32_669
  let v1537 : Index := Scalar.indexCast v1536
  let c80_670 : Index := 80#32
  ![v1537.toNat, 80]
def k1_off837 (v1475 : BitVec 32) : Fin 2 → Nat :=
  let v1544 : Index := Scalar.indexCast v1475
  let c96_672 : Index := 96#32
  ![v1544.toNat, 96]
def k1_off838 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_673 : BitVec 32 := 16#32
  let v1546 : BitVec 32 := Scalar.muli arg18 c16_i32_673
  let c15_i32_674 : BitVec 32 := 15#32
  let v1547 : BitVec 32 := Scalar.addi v1546 c15_i32_674
  let v1548 : Index := Scalar.indexCast v1547
  let c96_675 : Index := 96#32
  ![v1548.toNat, 96]
def k1_off839 (v1475 : BitVec 32) : Fin 2 → Nat :=
  let v1555 : Index := Scalar.indexCast v1475
  let c112_677 : Index := 112#32
  ![v1555.toNat, 112]

def k1_chk69 (i : grid1.Coords) (k1_t9 : Fin (k1_t9_loop i).trips) (v85 : BitVec 32) (v87 : BitVec 32) (v1475 : BitVec 32) : Prop :=
  (∀ (k1_h11 : k1_cond11 i k1_t9 = 1#1), ∀ (k1_h14 : k1_cond14 v85 v87 = 1#1), ∀ a, (k1_off825 v1475) a + S1x16.size a ≤ S256x128.size a) ∧
  (∀ (k1_h11 : k1_cond11 i k1_t9 = 1#1), ∀ (k1_h14 : k1_cond14 v85 v87 = 1#1), ∀ a, (k1_off827 v1475) a + S1x16.size a ≤ S256x128.size a) ∧
  (∀ (k1_h11 : k1_cond11 i k1_t9 = 1#1), ∀ (k1_h14 : k1_cond14 v85 v87 = 1#1), ∀ a, (k1_off829 v1475) a + S1x16.size a ≤ S256x128.size a) ∧
  (∀ (k1_h11 : k1_cond11 i k1_t9 = 1#1), ∀ (k1_h14 : k1_cond14 v85 v87 = 1#1), ∀ a, (k1_off831 v1475) a + S1x16.size a ≤ S256x128.size a) ∧
  (∀ (k1_h11 : k1_cond11 i k1_t9 = 1#1), ∀ (k1_h14 : k1_cond14 v85 v87 = 1#1), ∀ a, (k1_off833 v1475) a + S1x16.size a ≤ S256x128.size a) ∧
  (∀ (k1_h11 : k1_cond11 i k1_t9 = 1#1), ∀ (k1_h14 : k1_cond14 v85 v87 = 1#1), ∀ a, (k1_off835 v1475) a + S1x16.size a ≤ S256x128.size a) ∧
  (∀ (k1_h11 : k1_cond11 i k1_t9 = 1#1), ∀ (k1_h14 : k1_cond14 v85 v87 = 1#1), ∀ a, (k1_off837 v1475) a + S1x16.size a ≤ S256x128.size a) ∧
  (∀ (k1_h11 : k1_cond11 i k1_t9 = 1#1), ∀ (k1_h14 : k1_cond14 v85 v87 = 1#1), ∀ a, (k1_off839 v1475) a + S1x16.size a ≤ S256x128.size a)
theorem k1_off825_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off825 v1475) a + S1x16.size a ≤ S256x128.size a := fun i k1_t9 v85 v87 v1475 k1_hw69 k1_h11 k1_h14 => k1_hw69.1 k1_h11 k1_h14
theorem k1_off827_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off827 v1475) a + S1x16.size a ≤ S256x128.size a := fun i k1_t9 v85 v87 v1475 k1_hw69 k1_h11 k1_h14 => k1_hw69.2.1 k1_h11 k1_h14
theorem k1_off829_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off829 v1475) a + S1x16.size a ≤ S256x128.size a := fun i k1_t9 v85 v87 v1475 k1_hw69 k1_h11 k1_h14 => k1_hw69.2.2.1 k1_h11 k1_h14
theorem k1_off831_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off831 v1475) a + S1x16.size a ≤ S256x128.size a := fun i k1_t9 v85 v87 v1475 k1_hw69 k1_h11 k1_h14 => k1_hw69.2.2.2.1 k1_h11 k1_h14
theorem k1_off833_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off833 v1475) a + S1x16.size a ≤ S256x128.size a := fun i k1_t9 v85 v87 v1475 k1_hw69 k1_h11 k1_h14 => k1_hw69.2.2.2.2.1 k1_h11 k1_h14
theorem k1_off835_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off835 v1475) a + S1x16.size a ≤ S256x128.size a := fun i k1_t9 v85 v87 v1475 k1_hw69 k1_h11 k1_h14 => k1_hw69.2.2.2.2.2.1 k1_h11 k1_h14
theorem k1_off837_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off837 v1475) a + S1x16.size a ≤ S256x128.size a := fun i k1_t9 v85 v87 v1475 k1_hw69 k1_h11 k1_h14 => k1_hw69.2.2.2.2.2.2.1 k1_h11 k1_h14
theorem k1_off839_inb : ∀ (i : grid1.Coords) (k1_t9 : Fin (k1_t9_loop i).trips) (v85 : BitVec 32) (v87 : BitVec 32) (v1475 : BitVec 32) (k1_hw69 : k1_chk69 i k1_t9 v85 v87 v1475), ∀ (k1_h11 : k1_cond11 i k1_t9 = 1#1), ∀ (k1_h14 : k1_cond14 v85 v87 = 1#1), ∀ a, (k1_off839 v1475) a + S1x16.size a ≤ S256x128.size a := fun i k1_t9 v85 v87 v1475 k1_hw69 k1_h11 k1_h14 => k1_hw69.2.2.2.2.2.2.2 k1_h11 k1_h14

def k1_off840 (k1_t10 : Fin k1_t10_loop.trips) : Fin 2 → Nat :=
  let c0_i32_53 : BitVec 32 := 0#32
  let c1_i32_54 : BitVec 32 := 1#32
  let arg18 : BitVec 32 := Scf.iv c0_i32_53 c1_i32_54 k1_t10
  let c16_i32_678 : BitVec 32 := 16#32
  let v1557 : BitVec 32 := Scalar.muli arg18 c16_i32_678
  let c15_i32_679 : BitVec 32 := 15#32
  let v1558 : BitVec 32 := Scalar.addi v1557 c15_i32_679
  let v1559 : Index := Scalar.indexCast v1558
  let c112_680 : Index := 112#32
  ![v1559.toNat, 112]
def k1_cond15 (i : grid1.Coords) (k1_t9 : Fin (k1_t9_loop i).trips) : BitVec 1 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c2_i32_39 : BitVec 32 := 2#32
  let c0_i32_40 : BitVec 32 := 0#32
  let v53 : BitVec 1 := Scalar.cmpi .eq c2_i32_39 c0_i32_40
  let c1_i32_41 : BitVec 32 := 1#32
  let v54 : BitVec 32 := Scalar.select v53 c1_i32_41 c2_i32_39
  let v55 : BitVec 32 := Scalar.remsi arg16 v54
  let c0_i32_43 : BitVec 32 := 0#32
  let v57 : BitVec 1 := Scalar.cmpi .slt v55 c0_i32_43
  let c0_i32_44 : BitVec 32 := 0#32
  let v58 : BitVec 1 := Scalar.cmpi .slt v54 c0_i32_44
  let v59 : BitVec 1 := Scalar.xori v57 v58
  let c0_i32_42 : BitVec 32 := 0#32
  let v56 : BitVec 1 := Scalar.cmpi .ne v55 c0_i32_42
  let v60 : BitVec 1 := Scalar.andi v59 v56
  let v61 : BitVec 32 := Scalar.addi v55 v54
  let v62 : BitVec 32 := Scalar.select v60 v61 v55
  let c1_i32_45 : BitVec 32 := 1#32
  let v63 : BitVec 1 := Scalar.cmpi .eq v62 c1_i32_45
  let v64 : BitVec 32 := Scalar.extui v63
  let c0_i32_46 : BitVec 32 := 0#32
  let v65 : BitVec 1 := Scalar.cmpi .ne v64 c0_i32_46
  v65

def k1_off841 (i : grid1.Coords) (k1_t9 : Fin (k1_t9_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c112_i32 : BitVec 32 := 112#32
  let v66 : BitVec 32 := Scalar.muli arg16 c112_i32
  let v67 : BitVec 32 := Scalar.addi v3 v66
  let c0_i32_48 : BitVec 32 := 0#32
  ![v67.toNat, 0]
def k1_cond16 (i : grid1.Coords) (k1_t9 : Fin (k1_t9_loop i).trips) : BitVec 1 :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c1_i32_50 : BitVec 32 := 1#32
  let v70 : BitVec 32 := Scalar.addi arg16 c1_i32_50
  let v71 : BitVec 1 := Scalar.cmpi .slt v70 v26
  let v72 : BitVec 32 := Scalar.extui v71
  let c0_i32_51 : BitVec 32 := 0#32
  let v73 : BitVec 1 := Scalar.cmpi .ne v72 c0_i32_51
  v73

def k1_off842 (i : grid1.Coords) (k1_t9 : Fin (k1_t9_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c0_i32_25 : BitVec 32 := 0#32
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c1_i32_56 : BitVec 32 := 1#32
  let v76 : BitVec 32 := Scalar.addi arg16 c1_i32_56
  let c112_i32_57 : BitVec 32 := 112#32
  let v77 : BitVec 32 := Scalar.muli v76 c112_i32_57
  let v78 : BitVec 32 := Scalar.addi v3 v77
  let c0_i32_58 : BitVec 32 := 0#32
  ![v78.toNat, 0]
@[reducible] def k1_t11_loop : Scf.Loop 32 :=
  let c0_i32_53 : BitVec 32 := 0#32
  let c7_i32 : BitVec 32 := 7#32
  let v74 : BitVec 32 := Scalar.addi c0_i32_53 c7_i32
  let c1_i32_54 : BitVec 32 := 1#32
  ⟨c0_i32_53, v74, c1_i32_54⟩
def k1_off843 (i : grid1.Coords) (k1_t9 : Fin (k1_t9_loop i).trips) (k1_t11 : Fin k1_t11_loop.trips) : Fin 1 → Nat :=
  let c0_i32_25 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_21 : BitVec 32 := 31#32
  let v25 : BitVec 1 := Scalar.cmpi .eq v1 c31_i32_21
  let c24_i32 : BitVec 32 := 24#32
  let c28_i32 : BitVec 32 := 28#32
  let v26 : BitVec 32 := Scalar.select v25 c24_i32 c28_i32
  let v30 : BitVec 32 := Scalar.subi v26 c0_i32_25
  let c1_i32_27 : BitVec 32 := 1#32
  let v32 : BitVec 32 := Scalar.divsi v30 c1_i32_27
  let v33 : BitVec 32 := Scalar.muli v32 c1_i32_27
  let v34 : BitVec 32 := Scalar.addi c0_i32_25 v33
  let c1_i32_29 : BitVec 32 := 1#32
  let arg16 : BitVec 32 := Scf.iv v34 c1_i32_29 k1_t9
  let c7_i32_56 : BitVec 32 := 7#32
  let v76 : BitVec 32 := Scalar.muli arg16 c7_i32_56
  let c0_i32_53 : BitVec 32 := 0#32
  let c1_i32_54 : BitVec 32 := 1#32
  let arg18 : BitVec 32 := Scf.iv c0_i32_53 c1_i32_54 k1_t11
  let v77 : BitVec 32 := Scalar.addi v76 arg18
  let c16_i32_57 : BitVec 32 := 16#32
  let v78 : BitVec 32 := Scalar.muli v77 c16_i32_57
  let v79 : Index := Scalar.indexCast v78
  ![v79.toNat]
def k1_off844 (k1_t11 : Fin k1_t11_loop.trips) (c0_i32_70 : BitVec 32) : Fin 2 → Nat :=
  let c0_i32_53 : BitVec 32 := 0#32
  let c1_i32_54 : BitVec 32 := 1#32
  let arg18 : BitVec 32 := Scf.iv c0_i32_53 c1_i32_54 k1_t11
  let c16_i32_69 : BitVec 32 := 16#32
  let v104 : BitVec 32 := Scalar.muli arg18 c16_i32_69
  let v105 : BitVec 32 := Scalar.addi v104 c0_i32_70
  let v106 : Index := Scalar.indexCast v105
  let c0 : Index := 0#32
  ![v106.toNat, 0]
def k1_off845 (k1_t11 : Fin k1_t11_loop.trips) (c0_i32_72 : BitVec 32) : Fin 2 → Nat :=
  let c0_i32_53 : BitVec 32 := 0#32
  let c1_i32_54 : BitVec 32 := 1#32
  let arg18 : BitVec 32 := Scf.iv c0_i32_53 c1_i32_54 k1_t11
  let c16_i32_71 : BitVec 32 := 16#32
  let v111 : BitVec 32 := Scalar.muli arg18 c16_i32_71
  let v112 : BitVec 32 := Scalar.addi v111 c0_i32_72
  let v113 : Index := Scalar.indexCast v112
  let c16 : Index := 16#32
  ![v113.toNat, 16]
def k1_off846 (k1_t11 : Fin k1_t11_loop.trips) (c0_i32_74 : BitVec 32) : Fin 2 → Nat :=
  let c0_i32_53 : BitVec 32 := 0#32
  let c1_i32_54 : BitVec 32 := 1#32
  let arg18 : BitVec 32 := Scf.iv c0_i32_53 c1_i32_54 k1_t11
  let c16_i32_73 : BitVec 32 := 16#32
  let v118 : BitVec 32 := Scalar.muli arg18 c16_i32_73
  let v119 : BitVec 32 := Scalar.addi v118 c0_i32_74
  let v120 : Index := Scalar.indexCast v119
  let c32 : Index := 32#32
  ![v120.toNat, 32]
def k1_off847 (k1_t11 : Fin k1_t11_loop.trips) (c0_i32_76 : BitVec 32) : Fin 2 → Nat :=
  let c0_i32_53 : BitVec 32 := 0#32
  let c1_i32_54 : BitVec 32 := 1#32
  let arg18 : BitVec 32 := Scf.iv c0_i32_53 c1_i32_54 k1_t11
  let c16_i32_75 : BitVec 32 := 16#32
  let v125 : BitVec 32 := Scalar.muli arg18 c16_i32_75
  let v126 : BitVec 32 := Scalar.addi v125 c0_i32_76
  let v127 : Index := Scalar.indexCast v126
  let c48 : Index := 48#32
  ![v127.toNat, 48]
def k1_off848 (k1_t11 : Fin k1_t11_loop.trips) (c0_i32_78 : BitVec 32) : Fin 2 → Nat :=
  let c0_i32_53 : BitVec 32 := 0#32
  let c1_i32_54 : BitVec 32 := 1#32
  let arg18 : BitVec 32 := Scf.iv c0_i32_53 c1_i32_54 k1_t11
  let c16_i32_77 : BitVec 32 := 16#32
  let v132 : BitVec 32 := Scalar.muli arg18 c16_i32_77
  let v133 : BitVec 32 := Scalar.addi v132 c0_i32_78
  let v134 : Index := Scalar.indexCast v133
  let c64 : Index := 64#32
  ![v134.toNat, 64]
def k1_off849 (k1_t11 : Fin k1_t11_loop.trips) (c0_i32_80 : BitVec 32) : Fin 2 → Nat :=
  let c0_i32_53 : BitVec 32 := 0#32
  let c1_i32_54 : BitVec 32 := 1#32
  let arg18 : BitVec 32 := Scf.iv c0_i32_53 c1_i32_54 k1_t11
  let c16_i32_79 : BitVec 32 := 16#32
  let v139 : BitVec 32 := Scalar.muli arg18 c16_i32_79
  let v140 : BitVec 32 := Scalar.addi v139 c0_i32_80
  let v141 : Index := Scalar.indexCast v140
  let c80 : Index := 80#32
  ![v141.toNat, 80]
def k1_off850 (k1_t11 : Fin k1_t11_loop.trips) (c0_i32_82 : BitVec 32) : Fin 2 → Nat :=
  let c0_i32_53 : BitVec 32 := 0#32
  let c1_i32_54 : BitVec 32 := 1#32
  let arg18 : BitVec 32 := Scf.iv c0_i32_53 c1_i32_54 k1_t11
  let c16_i32_81 : BitVec 32 := 16#32
  let v146 : BitVec 32 := Scalar.muli arg18 c16_i32_81
  let v147 : BitVec 32 := Scalar.addi v146 c0_i32_82
  let v148 : Index := Scalar.indexCast v147
  let c96 : Index := 96#32
  ![v148.toNat, 96]
def k1_off851 (k1_t11 : Fin k1_t11_loop.trips) (c0_i32_84 : BitVec 32) : Fin 2 → Nat :=
  let c0_i32_53 : BitVec 32 := 0#32
  let c1_i32_54 : BitVec 32 := 1#32
  let arg18 : BitVec 32 := Scf.iv c0_i32_53 c1_i32_54 k1_t11
  let c16_i32_83 : BitVec 32 := 16#32
  let v153 : BitVec 32 := Scalar.muli arg18 c16_i32_83
  let v154 : BitVec 32 := Scalar.addi v153 c0_i32_84
  let v155 : Index := Scalar.indexCast v154
  let c112 : Index := 112#32
  ![v155.toNat, 112]
def k1_off852 (v85 : BitVec 32) : Fin 2 → Nat :=
  let v1030 : Index := Scalar.indexCast v85
  let c0_433 : Index := 0#32
  ![v1030.toNat, 0]
def k1_cond17 (v85 : BitVec 32) (v87 : BitVec 32) : BitVec 1 :=
  let v88 : BitVec 1 := Scalar.cmpi .eq v85 v87
  let v89 : BitVec 32 := Scalar.extui v88
  let c0_i32_59 : BitVec 32 := 0#32
  let v90 : BitVec 1 := Scalar.cmpi .ne v89 c0_i32_59
  v90

def k1_off853 (v85 : BitVec 32) : Fin 2 → Nat :=
  let v1035 : Index := Scalar.indexCast v85
  let c16_435 : Index := 16#32
  ![v1035.toNat, 16]
def k1_off854 (v85 : BitVec 32) : Fin 2 → Nat :=
  let v1040 : Index := Scalar.indexCast v85
  let c32_437 : Index := 32#32
  ![v1040.toNat, 32]
def k1_off855 (v85 : BitVec 32) : Fin 2 → Nat :=
  let v1045 : Index := Scalar.indexCast v85
  let c48_439 : Index := 48#32
  ![v1045.toNat, 48]
def k1_off856 (v85 : BitVec 32) : Fin 2 → Nat :=
  let v1050 : Index := Scalar.indexCast v85
  let c64_441 : Index := 64#32
  ![v1050.toNat, 64]
def k1_off857 (v85 : BitVec 32) : Fin 2 → Nat :=
  let v1055 : Index := Scalar.indexCast v85
  let c80_443 : Index := 80#32
  ![v1055.toNat, 80]
def k1_off858 (v85 : BitVec 32) : Fin 2 → Nat :=
  let v1060 : Index := Scalar.indexCast v85
  let c96_445 : Index := 96#32
  ![v1060.toNat, 96]
def k1_off859 (v85 : BitVec 32) : Fin 2 → Nat :=
  let v1065 : Index := Scalar.indexCast v85
  let c112_447 : Index := 112#32
  ![v1065.toNat, 112]

def k1_chk70 (i : grid1.Coords) (k1_t9 : Fin (k1_t9_loop i).trips) (v85 : BitVec 32) (v87 : BitVec 32) : Prop :=
  (∀ (k1_h15 : k1_cond15 i k1_t9 = 1#1), ∀ (k1_h17 : k1_cond17 v85 v87 = 1#1), ∀ a, (k1_off852 v85) a + S1x16.size a ≤ S256x128.size a) ∧
  (∀ (k1_h15 : k1_cond15 i k1_t9 = 1#1), ∀ (k1_h17 : k1_cond17 v85 v87 = 1#1), ∀ a, (k1_off853 v85) a + S1x16.size a ≤ S256x128.size a) ∧
  (∀ (k1_h15 : k1_cond15 i k1_t9 = 1#1), ∀ (k1_h17 : k1_cond17 v85 v87 = 1#1), ∀ a, (k1_off854 v85) a + S1x16.size a ≤ S256x128.size a) ∧
  (∀ (k1_h15 : k1_cond15 i k1_t9 = 1#1), ∀ (k1_h17 : k1_cond17 v85 v87 = 1#1), ∀ a, (k1_off855 v85) a + S1x16.size a ≤ S256x128.size a) ∧
  (∀ (k1_h15 : k1_cond15 i k1_t9 = 1#1), ∀ (k1_h17 : k1_cond17 v85 v87 = 1#1), ∀ a, (k1_off856 v85) a + S1x16.size a ≤ S256x128.size a) ∧
  (∀ (k1_h15 : k1_cond15 i k1_t9 = 1#1), ∀ (k1_h17 : k1_cond17 v85 v87 = 1#1), ∀ a, (k1_off857 v85) a + S1x16.size a ≤ S256x128.size a) ∧
  (∀ (k1_h15 : k1_cond15 i k1_t9 = 1#1), ∀ (k1_h17 : k1_cond17 v85 v87 = 1#1), ∀ a, (k1_off858 v85) a + S1x16.size a ≤ S256x128.size a) ∧
  (∀ (k1_h15 : k1_cond15 i k1_t9 = 1#1), ∀ (k1_h17 : k1_cond17 v85 v87 = 1#1), ∀ a, (k1_off859 v85) a + S1x16.size a ≤ S256x128.size a)
theorem k1_off852_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off852 v85) a + S1x16.size a ≤ S256x128.size a := fun i k1_t9 v85 v87 k1_hw70 k1_h15 k1_h17 => k1_hw70.1 k1_h15 k1_h17
theorem k1_off853_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off853 v85) a + S1x16.size a ≤ S256x128.size a := fun i k1_t9 v85 v87 k1_hw70 k1_h15 k1_h17 => k1_hw70.2.1 k1_h15 k1_h17
theorem k1_off854_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off854 v85) a + S1x16.size a ≤ S256x128.size a := fun i k1_t9 v85 v87 k1_hw70 k1_h15 k1_h17 => k1_hw70.2.2.1 k1_h15 k1_h17
theorem k1_off855_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off855 v85) a + S1x16.size a ≤ S256x128.size a := fun i k1_t9 v85 v87 k1_hw70 k1_h15 k1_h17 => k1_hw70.2.2.2.1 k1_h15 k1_h17
theorem k1_off856_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off856 v85) a + S1x16.size a ≤ S256x128.size a := fun i k1_t9 v85 v87 k1_hw70 k1_h15 k1_h17 => k1_hw70.2.2.2.2.1 k1_h15 k1_h17
theorem k1_off857_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off857 v85) a + S1x16.size a ≤ S256x128.size a := fun i k1_t9 v85 v87 k1_hw70 k1_h15 k1_h17 => k1_hw70.2.2.2.2.2.1 k1_h15 k1_h17
theorem k1_off858_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off858 v85) a + S1x16.size a ≤ S256x128.size a := fun i k1_t9 v85 v87 k1_hw70 k1_h15 k1_h17 => k1_hw70.2.2.2.2.2.2.1 k1_h15 k1_h17
theorem k1_off859_inb : ∀ (i : grid1.Coords) (k1_t9 : Fin (k1_t9_loop i).trips) (v85 : BitVec 32) (v87 : BitVec 32) (k1_hw70 : k1_chk70 i k1_t9 v85 v87), ∀ (k1_h15 : k1_cond15 i k1_t9 = 1#1), ∀ (k1_h17 : k1_cond17 v85 v87 = 1#1), ∀ a, (k1_off859 v85) a + S1x16.size a ≤ S256x128.size a := fun i k1_t9 v85 v87 k1_hw70 k1_h15 k1_h17 => k1_hw70.2.2.2.2.2.2.2 k1_h15 k1_h17

def k1_off860 (v95 : BitVec 32) : Fin 2 → Nat :=
  let v98 : Index := Scalar.indexCast v95
  let c0 : Index := 0#32
  ![v98.toNat, 0]
def k1_cond18 (v85 : BitVec 32) (v87 : BitVec 32) : BitVec 1 :=
  let v91 : BitVec 1 := Scalar.cmpi .ne v85 v87
  let v92 : BitVec 32 := Scalar.extui v91
  let c0_i32_60 : BitVec 32 := 0#32
  let v93 : BitVec 1 := Scalar.cmpi .ne v92 c0_i32_60
  v93

def k1_off861 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_62 : BitVec 32 := 16#32
  let v100 : BitVec 32 := Scalar.muli arg18 c16_i32_62
  let c0_i32_63 : BitVec 32 := 0#32
  let v101 : BitVec 32 := Scalar.addi v100 c0_i32_63
  let v102 : Index := Scalar.indexCast v101
  let c0_64 : Index := 0#32
  ![v102.toNat, 0]
def k1_off862 (v95 : BitVec 32) : Fin 2 → Nat :=
  let v109 : Index := Scalar.indexCast v95
  let c16 : Index := 16#32
  ![v109.toNat, 16]
def k1_off863 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_66 : BitVec 32 := 16#32
  let v111 : BitVec 32 := Scalar.muli arg18 c16_i32_66
  let c0_i32_67 : BitVec 32 := 0#32
  let v112 : BitVec 32 := Scalar.addi v111 c0_i32_67
  let v113 : Index := Scalar.indexCast v112
  let c16_68 : Index := 16#32
  ![v113.toNat, 16]
def k1_off864 (v95 : BitVec 32) : Fin 2 → Nat :=
  let v120 : Index := Scalar.indexCast v95
  let c32 : Index := 32#32
  ![v120.toNat, 32]
def k1_off865 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_70 : BitVec 32 := 16#32
  let v122 : BitVec 32 := Scalar.muli arg18 c16_i32_70
  let c0_i32_71 : BitVec 32 := 0#32
  let v123 : BitVec 32 := Scalar.addi v122 c0_i32_71
  let v124 : Index := Scalar.indexCast v123
  let c32_72 : Index := 32#32
  ![v124.toNat, 32]
def k1_off866 (v95 : BitVec 32) : Fin 2 → Nat :=
  let v131 : Index := Scalar.indexCast v95
  let c48 : Index := 48#32
  ![v131.toNat, 48]
def k1_off867 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_74 : BitVec 32 := 16#32
  let v133 : BitVec 32 := Scalar.muli arg18 c16_i32_74
  let c0_i32_75 : BitVec 32 := 0#32
  let v134 : BitVec 32 := Scalar.addi v133 c0_i32_75
  let v135 : Index := Scalar.indexCast v134
  let c48_76 : Index := 48#32
  ![v135.toNat, 48]
def k1_off868 (v95 : BitVec 32) : Fin 2 → Nat :=
  let v142 : Index := Scalar.indexCast v95
  let c64 : Index := 64#32
  ![v142.toNat, 64]
def k1_off869 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_78 : BitVec 32 := 16#32
  let v144 : BitVec 32 := Scalar.muli arg18 c16_i32_78
  let c0_i32_79 : BitVec 32 := 0#32
  let v145 : BitVec 32 := Scalar.addi v144 c0_i32_79
  let v146 : Index := Scalar.indexCast v145
  let c64_80 : Index := 64#32
  ![v146.toNat, 64]
def k1_off870 (v95 : BitVec 32) : Fin 2 → Nat :=
  let v153 : Index := Scalar.indexCast v95
  let c80 : Index := 80#32
  ![v153.toNat, 80]
def k1_off871 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_82 : BitVec 32 := 16#32
  let v155 : BitVec 32 := Scalar.muli arg18 c16_i32_82
  let c0_i32_83 : BitVec 32 := 0#32
  let v156 : BitVec 32 := Scalar.addi v155 c0_i32_83
  let v157 : Index := Scalar.indexCast v156
  let c80_84 : Index := 80#32
  ![v157.toNat, 80]
def k1_off872 (v95 : BitVec 32) : Fin 2 → Nat :=
  let v164 : Index := Scalar.indexCast v95
  let c96 : Index := 96#32
  ![v164.toNat, 96]
def k1_off873 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_86 : BitVec 32 := 16#32
  let v166 : BitVec 32 := Scalar.muli arg18 c16_i32_86
  let c0_i32_87 : BitVec 32 := 0#32
  let v167 : BitVec 32 := Scalar.addi v166 c0_i32_87
  let v168 : Index := Scalar.indexCast v167
  let c96_88 : Index := 96#32
  ![v168.toNat, 96]
def k1_off874 (v95 : BitVec 32) : Fin 2 → Nat :=
  let v175 : Index := Scalar.indexCast v95
  let c112 : Index := 112#32
  ![v175.toNat, 112]

def k1_chk71 (i : grid1.Coords) (k1_t9 : Fin (k1_t9_loop i).trips) (v85 : BitVec 32) (v87 : BitVec 32) (v95 : BitVec 32) : Prop :=
  (∀ (k1_h15 : k1_cond15 i k1_t9 = 1#1), ∀ (k1_h18 : k1_cond18 v85 v87 = 1#1), ∀ a, (k1_off860 v95) a + S1x16.size a ≤ S256x128.size a) ∧
  (∀ (k1_h15 : k1_cond15 i k1_t9 = 1#1), ∀ (k1_h18 : k1_cond18 v85 v87 = 1#1), ∀ a, (k1_off862 v95) a + S1x16.size a ≤ S256x128.size a) ∧
  (∀ (k1_h15 : k1_cond15 i k1_t9 = 1#1), ∀ (k1_h18 : k1_cond18 v85 v87 = 1#1), ∀ a, (k1_off864 v95) a + S1x16.size a ≤ S256x128.size a) ∧
  (∀ (k1_h15 : k1_cond15 i k1_t9 = 1#1), ∀ (k1_h18 : k1_cond18 v85 v87 = 1#1), ∀ a, (k1_off866 v95) a + S1x16.size a ≤ S256x128.size a) ∧
  (∀ (k1_h15 : k1_cond15 i k1_t9 = 1#1), ∀ (k1_h18 : k1_cond18 v85 v87 = 1#1), ∀ a, (k1_off868 v95) a + S1x16.size a ≤ S256x128.size a) ∧
  (∀ (k1_h15 : k1_cond15 i k1_t9 = 1#1), ∀ (k1_h18 : k1_cond18 v85 v87 = 1#1), ∀ a, (k1_off870 v95) a + S1x16.size a ≤ S256x128.size a) ∧
  (∀ (k1_h15 : k1_cond15 i k1_t9 = 1#1), ∀ (k1_h18 : k1_cond18 v85 v87 = 1#1), ∀ a, (k1_off872 v95) a + S1x16.size a ≤ S256x128.size a) ∧
  (∀ (k1_h15 : k1_cond15 i k1_t9 = 1#1), ∀ (k1_h18 : k1_cond18 v85 v87 = 1#1), ∀ a, (k1_off874 v95) a + S1x16.size a ≤ S256x128.size a)
theorem k1_off860_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off860 v95) a + S1x16.size a ≤ S256x128.size a := fun i k1_t9 v85 v87 v95 k1_hw71 k1_h15 k1_h18 => k1_hw71.1 k1_h15 k1_h18
theorem k1_off862_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off862 v95) a + S1x16.size a ≤ S256x128.size a := fun i k1_t9 v85 v87 v95 k1_hw71 k1_h15 k1_h18 => k1_hw71.2.1 k1_h15 k1_h18
theorem k1_off864_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off864 v95) a + S1x16.size a ≤ S256x128.size a := fun i k1_t9 v85 v87 v95 k1_hw71 k1_h15 k1_h18 => k1_hw71.2.2.1 k1_h15 k1_h18
theorem k1_off866_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off866 v95) a + S1x16.size a ≤ S256x128.size a := fun i k1_t9 v85 v87 v95 k1_hw71 k1_h15 k1_h18 => k1_hw71.2.2.2.1 k1_h15 k1_h18
theorem k1_off868_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off868 v95) a + S1x16.size a ≤ S256x128.size a := fun i k1_t9 v85 v87 v95 k1_hw71 k1_h15 k1_h18 => k1_hw71.2.2.2.2.1 k1_h15 k1_h18
theorem k1_off870_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off870 v95) a + S1x16.size a ≤ S256x128.size a := fun i k1_t9 v85 v87 v95 k1_hw71 k1_h15 k1_h18 => k1_hw71.2.2.2.2.2.1 k1_h15 k1_h18
theorem k1_off872_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off872 v95) a + S1x16.size a ≤ S256x128.size a := fun i k1_t9 v85 v87 v95 k1_hw71 k1_h15 k1_h18 => k1_hw71.2.2.2.2.2.2.1 k1_h15 k1_h18
theorem k1_off874_inb : ∀ (i : grid1.Coords) (k1_t9 : Fin (k1_t9_loop i).trips) (v85 : BitVec 32) (v87 : BitVec 32) (v95 : BitVec 32) (k1_hw71 : k1_chk71 i k1_t9 v85 v87 v95), ∀ (k1_h15 : k1_cond15 i k1_t9 = 1#1), ∀ (k1_h18 : k1_cond18 v85 v87 = 1#1), ∀ a, (k1_off874 v95) a + S1x16.size a ≤ S256x128.size a := fun i k1_t9 v85 v87 v95 k1_hw71 k1_h15 k1_h18 => k1_hw71.2.2.2.2.2.2.2 k1_h15 k1_h18

def k1_off875 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_90 : BitVec 32 := 16#32
  let v177 : BitVec 32 := Scalar.muli arg18 c16_i32_90
  let c0_i32_91 : BitVec 32 := 0#32
  let v178 : BitVec 32 := Scalar.addi v177 c0_i32_91
  let v179 : Index := Scalar.indexCast v178
  let c112_92 : Index := 112#32
  ![v179.toNat, 112]
def k1_off876 (v187 : BitVec 32) : Fin 2 → Nat :=
  let v190 : Index := Scalar.indexCast v187
  let c0_94 : Index := 0#32
  ![v190.toNat, 0]

def k1_off877 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_95 : BitVec 32 := 16#32
  let v192 : BitVec 32 := Scalar.muli arg18 c16_i32_95
  let c1_i32_96 : BitVec 32 := 1#32
  let v193 : BitVec 32 := Scalar.addi v192 c1_i32_96
  let v194 : Index := Scalar.indexCast v193
  let c0_97 : Index := 0#32
  ![v194.toNat, 0]
def k1_off878 (v187 : BitVec 32) : Fin 2 → Nat :=
  let v201 : Index := Scalar.indexCast v187
  let c16_99 : Index := 16#32
  ![v201.toNat, 16]
def k1_off879 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_100 : BitVec 32 := 16#32
  let v203 : BitVec 32 := Scalar.muli arg18 c16_i32_100
  let c1_i32_101 : BitVec 32 := 1#32
  let v204 : BitVec 32 := Scalar.addi v203 c1_i32_101
  let v205 : Index := Scalar.indexCast v204
  let c16_102 : Index := 16#32
  ![v205.toNat, 16]
def k1_off880 (v187 : BitVec 32) : Fin 2 → Nat :=
  let v212 : Index := Scalar.indexCast v187
  let c32_104 : Index := 32#32
  ![v212.toNat, 32]
def k1_off881 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_105 : BitVec 32 := 16#32
  let v214 : BitVec 32 := Scalar.muli arg18 c16_i32_105
  let c1_i32_106 : BitVec 32 := 1#32
  let v215 : BitVec 32 := Scalar.addi v214 c1_i32_106
  let v216 : Index := Scalar.indexCast v215
  let c32_107 : Index := 32#32
  ![v216.toNat, 32]
def k1_off882 (v187 : BitVec 32) : Fin 2 → Nat :=
  let v223 : Index := Scalar.indexCast v187
  let c48_109 : Index := 48#32
  ![v223.toNat, 48]
def k1_off883 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_110 : BitVec 32 := 16#32
  let v225 : BitVec 32 := Scalar.muli arg18 c16_i32_110
  let c1_i32_111 : BitVec 32 := 1#32
  let v226 : BitVec 32 := Scalar.addi v225 c1_i32_111
  let v227 : Index := Scalar.indexCast v226
  let c48_112 : Index := 48#32
  ![v227.toNat, 48]
def k1_off884 (v187 : BitVec 32) : Fin 2 → Nat :=
  let v234 : Index := Scalar.indexCast v187
  let c64_114 : Index := 64#32
  ![v234.toNat, 64]
def k1_off885 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_115 : BitVec 32 := 16#32
  let v236 : BitVec 32 := Scalar.muli arg18 c16_i32_115
  let c1_i32_116 : BitVec 32 := 1#32
  let v237 : BitVec 32 := Scalar.addi v236 c1_i32_116
  let v238 : Index := Scalar.indexCast v237
  let c64_117 : Index := 64#32
  ![v238.toNat, 64]
def k1_off886 (v187 : BitVec 32) : Fin 2 → Nat :=
  let v245 : Index := Scalar.indexCast v187
  let c80_119 : Index := 80#32
  ![v245.toNat, 80]
def k1_off887 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_120 : BitVec 32 := 16#32
  let v247 : BitVec 32 := Scalar.muli arg18 c16_i32_120
  let c1_i32_121 : BitVec 32 := 1#32
  let v248 : BitVec 32 := Scalar.addi v247 c1_i32_121
  let v249 : Index := Scalar.indexCast v248
  let c80_122 : Index := 80#32
  ![v249.toNat, 80]
def k1_off888 (v187 : BitVec 32) : Fin 2 → Nat :=
  let v256 : Index := Scalar.indexCast v187
  let c96_124 : Index := 96#32
  ![v256.toNat, 96]
def k1_off889 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_125 : BitVec 32 := 16#32
  let v258 : BitVec 32 := Scalar.muli arg18 c16_i32_125
  let c1_i32_126 : BitVec 32 := 1#32
  let v259 : BitVec 32 := Scalar.addi v258 c1_i32_126
  let v260 : Index := Scalar.indexCast v259
  let c96_127 : Index := 96#32
  ![v260.toNat, 96]
def k1_off890 (v187 : BitVec 32) : Fin 2 → Nat :=
  let v267 : Index := Scalar.indexCast v187
  let c112_129 : Index := 112#32
  ![v267.toNat, 112]

def k1_chk72 (i : grid1.Coords) (k1_t9 : Fin (k1_t9_loop i).trips) (v85 : BitVec 32) (v87 : BitVec 32) (v187 : BitVec 32) : Prop :=
  (∀ (k1_h15 : k1_cond15 i k1_t9 = 1#1), ∀ (k1_h18 : k1_cond18 v85 v87 = 1#1), ∀ a, (k1_off876 v187) a + S1x16.size a ≤ S256x128.size a) ∧
  (∀ (k1_h15 : k1_cond15 i k1_t9 = 1#1), ∀ (k1_h18 : k1_cond18 v85 v87 = 1#1), ∀ a, (k1_off878 v187) a + S1x16.size a ≤ S256x128.size a) ∧
  (∀ (k1_h15 : k1_cond15 i k1_t9 = 1#1), ∀ (k1_h18 : k1_cond18 v85 v87 = 1#1), ∀ a, (k1_off880 v187) a + S1x16.size a ≤ S256x128.size a) ∧
  (∀ (k1_h15 : k1_cond15 i k1_t9 = 1#1), ∀ (k1_h18 : k1_cond18 v85 v87 = 1#1), ∀ a, (k1_off882 v187) a + S1x16.size a ≤ S256x128.size a) ∧
  (∀ (k1_h15 : k1_cond15 i k1_t9 = 1#1), ∀ (k1_h18 : k1_cond18 v85 v87 = 1#1), ∀ a, (k1_off884 v187) a + S1x16.size a ≤ S256x128.size a) ∧
  (∀ (k1_h15 : k1_cond15 i k1_t9 = 1#1), ∀ (k1_h18 : k1_cond18 v85 v87 = 1#1), ∀ a, (k1_off886 v187) a + S1x16.size a ≤ S256x128.size a) ∧
  (∀ (k1_h15 : k1_cond15 i k1_t9 = 1#1), ∀ (k1_h18 : k1_cond18 v85 v87 = 1#1), ∀ a, (k1_off888 v187) a + S1x16.size a ≤ S256x128.size a) ∧
  (∀ (k1_h15 : k1_cond15 i k1_t9 = 1#1), ∀ (k1_h18 : k1_cond18 v85 v87 = 1#1), ∀ a, (k1_off890 v187) a + S1x16.size a ≤ S256x128.size a)
theorem k1_off876_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off876 v187) a + S1x16.size a ≤ S256x128.size a := fun i k1_t9 v85 v87 v187 k1_hw72 k1_h15 k1_h18 => k1_hw72.1 k1_h15 k1_h18
theorem k1_off878_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off878 v187) a + S1x16.size a ≤ S256x128.size a := fun i k1_t9 v85 v87 v187 k1_hw72 k1_h15 k1_h18 => k1_hw72.2.1 k1_h15 k1_h18
theorem k1_off880_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off880 v187) a + S1x16.size a ≤ S256x128.size a := fun i k1_t9 v85 v87 v187 k1_hw72 k1_h15 k1_h18 => k1_hw72.2.2.1 k1_h15 k1_h18
theorem k1_off882_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off882 v187) a + S1x16.size a ≤ S256x128.size a := fun i k1_t9 v85 v87 v187 k1_hw72 k1_h15 k1_h18 => k1_hw72.2.2.2.1 k1_h15 k1_h18
theorem k1_off884_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off884 v187) a + S1x16.size a ≤ S256x128.size a := fun i k1_t9 v85 v87 v187 k1_hw72 k1_h15 k1_h18 => k1_hw72.2.2.2.2.1 k1_h15 k1_h18
theorem k1_off886_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off886 v187) a + S1x16.size a ≤ S256x128.size a := fun i k1_t9 v85 v87 v187 k1_hw72 k1_h15 k1_h18 => k1_hw72.2.2.2.2.2.1 k1_h15 k1_h18
theorem k1_off888_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off888 v187) a + S1x16.size a ≤ S256x128.size a := fun i k1_t9 v85 v87 v187 k1_hw72 k1_h15 k1_h18 => k1_hw72.2.2.2.2.2.2.1 k1_h15 k1_h18
theorem k1_off890_inb : ∀ (i : grid1.Coords) (k1_t9 : Fin (k1_t9_loop i).trips) (v85 : BitVec 32) (v87 : BitVec 32) (v187 : BitVec 32) (k1_hw72 : k1_chk72 i k1_t9 v85 v87 v187), ∀ (k1_h15 : k1_cond15 i k1_t9 = 1#1), ∀ (k1_h18 : k1_cond18 v85 v87 = 1#1), ∀ a, (k1_off890 v187) a + S1x16.size a ≤ S256x128.size a := fun i k1_t9 v85 v87 v187 k1_hw72 k1_h15 k1_h18 => k1_hw72.2.2.2.2.2.2.2 k1_h15 k1_h18

def k1_off891 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_130 : BitVec 32 := 16#32
  let v269 : BitVec 32 := Scalar.muli arg18 c16_i32_130
  let c1_i32_131 : BitVec 32 := 1#32
  let v270 : BitVec 32 := Scalar.addi v269 c1_i32_131
  let v271 : Index := Scalar.indexCast v270
  let c112_132 : Index := 112#32
  ![v271.toNat, 112]
def k1_off892 (v279 : BitVec 32) : Fin 2 → Nat :=
  let v282 : Index := Scalar.indexCast v279
  let c0_134 : Index := 0#32
  ![v282.toNat, 0]

def k1_off893 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_135 : BitVec 32 := 16#32
  let v284 : BitVec 32 := Scalar.muli arg18 c16_i32_135
  let c2_i32_136 : BitVec 32 := 2#32
  let v285 : BitVec 32 := Scalar.addi v284 c2_i32_136
  let v286 : Index := Scalar.indexCast v285
  let c0_137 : Index := 0#32
  ![v286.toNat, 0]
def k1_off894 (v279 : BitVec 32) : Fin 2 → Nat :=
  let v293 : Index := Scalar.indexCast v279
  let c16_139 : Index := 16#32
  ![v293.toNat, 16]
def k1_off895 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_140 : BitVec 32 := 16#32
  let v295 : BitVec 32 := Scalar.muli arg18 c16_i32_140
  let c2_i32_141 : BitVec 32 := 2#32
  let v296 : BitVec 32 := Scalar.addi v295 c2_i32_141
  let v297 : Index := Scalar.indexCast v296
  let c16_142 : Index := 16#32
  ![v297.toNat, 16]
def k1_off896 (v279 : BitVec 32) : Fin 2 → Nat :=
  let v304 : Index := Scalar.indexCast v279
  let c32_144 : Index := 32#32
  ![v304.toNat, 32]
def k1_off897 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_145 : BitVec 32 := 16#32
  let v306 : BitVec 32 := Scalar.muli arg18 c16_i32_145
  let c2_i32_146 : BitVec 32 := 2#32
  let v307 : BitVec 32 := Scalar.addi v306 c2_i32_146
  let v308 : Index := Scalar.indexCast v307
  let c32_147 : Index := 32#32
  ![v308.toNat, 32]
def k1_off898 (v279 : BitVec 32) : Fin 2 → Nat :=
  let v315 : Index := Scalar.indexCast v279
  let c48_149 : Index := 48#32
  ![v315.toNat, 48]
def k1_off899 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_150 : BitVec 32 := 16#32
  let v317 : BitVec 32 := Scalar.muli arg18 c16_i32_150
  let c2_i32_151 : BitVec 32 := 2#32
  let v318 : BitVec 32 := Scalar.addi v317 c2_i32_151
  let v319 : Index := Scalar.indexCast v318
  let c48_152 : Index := 48#32
  ![v319.toNat, 48]
def k1_off900 (v279 : BitVec 32) : Fin 2 → Nat :=
  let v326 : Index := Scalar.indexCast v279
  let c64_154 : Index := 64#32
  ![v326.toNat, 64]
def k1_off901 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_155 : BitVec 32 := 16#32
  let v328 : BitVec 32 := Scalar.muli arg18 c16_i32_155
  let c2_i32_156 : BitVec 32 := 2#32
  let v329 : BitVec 32 := Scalar.addi v328 c2_i32_156
  let v330 : Index := Scalar.indexCast v329
  let c64_157 : Index := 64#32
  ![v330.toNat, 64]
def k1_off902 (v279 : BitVec 32) : Fin 2 → Nat :=
  let v337 : Index := Scalar.indexCast v279
  let c80_159 : Index := 80#32
  ![v337.toNat, 80]
def k1_off903 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_160 : BitVec 32 := 16#32
  let v339 : BitVec 32 := Scalar.muli arg18 c16_i32_160
  let c2_i32_161 : BitVec 32 := 2#32
  let v340 : BitVec 32 := Scalar.addi v339 c2_i32_161
  let v341 : Index := Scalar.indexCast v340
  let c80_162 : Index := 80#32
  ![v341.toNat, 80]
def k1_off904 (v279 : BitVec 32) : Fin 2 → Nat :=
  let v348 : Index := Scalar.indexCast v279
  let c96_164 : Index := 96#32
  ![v348.toNat, 96]
def k1_off905 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_165 : BitVec 32 := 16#32
  let v350 : BitVec 32 := Scalar.muli arg18 c16_i32_165
  let c2_i32_166 : BitVec 32 := 2#32
  let v351 : BitVec 32 := Scalar.addi v350 c2_i32_166
  let v352 : Index := Scalar.indexCast v351
  let c96_167 : Index := 96#32
  ![v352.toNat, 96]
def k1_off906 (v279 : BitVec 32) : Fin 2 → Nat :=
  let v359 : Index := Scalar.indexCast v279
  let c112_169 : Index := 112#32
  ![v359.toNat, 112]

def k1_chk73 (i : grid1.Coords) (k1_t9 : Fin (k1_t9_loop i).trips) (v85 : BitVec 32) (v87 : BitVec 32) (v279 : BitVec 32) : Prop :=
  (∀ (k1_h15 : k1_cond15 i k1_t9 = 1#1), ∀ (k1_h18 : k1_cond18 v85 v87 = 1#1), ∀ a, (k1_off892 v279) a + S1x16.size a ≤ S256x128.size a) ∧
  (∀ (k1_h15 : k1_cond15 i k1_t9 = 1#1), ∀ (k1_h18 : k1_cond18 v85 v87 = 1#1), ∀ a, (k1_off894 v279) a + S1x16.size a ≤ S256x128.size a) ∧
  (∀ (k1_h15 : k1_cond15 i k1_t9 = 1#1), ∀ (k1_h18 : k1_cond18 v85 v87 = 1#1), ∀ a, (k1_off896 v279) a + S1x16.size a ≤ S256x128.size a) ∧
  (∀ (k1_h15 : k1_cond15 i k1_t9 = 1#1), ∀ (k1_h18 : k1_cond18 v85 v87 = 1#1), ∀ a, (k1_off898 v279) a + S1x16.size a ≤ S256x128.size a) ∧
  (∀ (k1_h15 : k1_cond15 i k1_t9 = 1#1), ∀ (k1_h18 : k1_cond18 v85 v87 = 1#1), ∀ a, (k1_off900 v279) a + S1x16.size a ≤ S256x128.size a) ∧
  (∀ (k1_h15 : k1_cond15 i k1_t9 = 1#1), ∀ (k1_h18 : k1_cond18 v85 v87 = 1#1), ∀ a, (k1_off902 v279) a + S1x16.size a ≤ S256x128.size a) ∧
  (∀ (k1_h15 : k1_cond15 i k1_t9 = 1#1), ∀ (k1_h18 : k1_cond18 v85 v87 = 1#1), ∀ a, (k1_off904 v279) a + S1x16.size a ≤ S256x128.size a) ∧
  (∀ (k1_h15 : k1_cond15 i k1_t9 = 1#1), ∀ (k1_h18 : k1_cond18 v85 v87 = 1#1), ∀ a, (k1_off906 v279) a + S1x16.size a ≤ S256x128.size a)
theorem k1_off892_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off892 v279) a + S1x16.size a ≤ S256x128.size a := fun i k1_t9 v85 v87 v279 k1_hw73 k1_h15 k1_h18 => k1_hw73.1 k1_h15 k1_h18
theorem k1_off894_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off894 v279) a + S1x16.size a ≤ S256x128.size a := fun i k1_t9 v85 v87 v279 k1_hw73 k1_h15 k1_h18 => k1_hw73.2.1 k1_h15 k1_h18
theorem k1_off896_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off896 v279) a + S1x16.size a ≤ S256x128.size a := fun i k1_t9 v85 v87 v279 k1_hw73 k1_h15 k1_h18 => k1_hw73.2.2.1 k1_h15 k1_h18
theorem k1_off898_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off898 v279) a + S1x16.size a ≤ S256x128.size a := fun i k1_t9 v85 v87 v279 k1_hw73 k1_h15 k1_h18 => k1_hw73.2.2.2.1 k1_h15 k1_h18
theorem k1_off900_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off900 v279) a + S1x16.size a ≤ S256x128.size a := fun i k1_t9 v85 v87 v279 k1_hw73 k1_h15 k1_h18 => k1_hw73.2.2.2.2.1 k1_h15 k1_h18
theorem k1_off902_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off902 v279) a + S1x16.size a ≤ S256x128.size a := fun i k1_t9 v85 v87 v279 k1_hw73 k1_h15 k1_h18 => k1_hw73.2.2.2.2.2.1 k1_h15 k1_h18
theorem k1_off904_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off904 v279) a + S1x16.size a ≤ S256x128.size a := fun i k1_t9 v85 v87 v279 k1_hw73 k1_h15 k1_h18 => k1_hw73.2.2.2.2.2.2.1 k1_h15 k1_h18
theorem k1_off906_inb : ∀ (i : grid1.Coords) (k1_t9 : Fin (k1_t9_loop i).trips) (v85 : BitVec 32) (v87 : BitVec 32) (v279 : BitVec 32) (k1_hw73 : k1_chk73 i k1_t9 v85 v87 v279), ∀ (k1_h15 : k1_cond15 i k1_t9 = 1#1), ∀ (k1_h18 : k1_cond18 v85 v87 = 1#1), ∀ a, (k1_off906 v279) a + S1x16.size a ≤ S256x128.size a := fun i k1_t9 v85 v87 v279 k1_hw73 k1_h15 k1_h18 => k1_hw73.2.2.2.2.2.2.2 k1_h15 k1_h18

def k1_off907 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_170 : BitVec 32 := 16#32
  let v361 : BitVec 32 := Scalar.muli arg18 c16_i32_170
  let c2_i32_171 : BitVec 32 := 2#32
  let v362 : BitVec 32 := Scalar.addi v361 c2_i32_171
  let v363 : Index := Scalar.indexCast v362
  let c112_172 : Index := 112#32
  ![v363.toNat, 112]
def k1_off908 (v371 : BitVec 32) : Fin 2 → Nat :=
  let v374 : Index := Scalar.indexCast v371
  let c0_174 : Index := 0#32
  ![v374.toNat, 0]

def k1_off909 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_175 : BitVec 32 := 16#32
  let v376 : BitVec 32 := Scalar.muli arg18 c16_i32_175
  let c3_i32 : BitVec 32 := 3#32
  let v377 : BitVec 32 := Scalar.addi v376 c3_i32
  let v378 : Index := Scalar.indexCast v377
  let c0_176 : Index := 0#32
  ![v378.toNat, 0]
def k1_off910 (v371 : BitVec 32) : Fin 2 → Nat :=
  let v385 : Index := Scalar.indexCast v371
  let c16_178 : Index := 16#32
  ![v385.toNat, 16]
def k1_off911 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_179 : BitVec 32 := 16#32
  let v387 : BitVec 32 := Scalar.muli arg18 c16_i32_179
  let c3_i32_180 : BitVec 32 := 3#32
  let v388 : BitVec 32 := Scalar.addi v387 c3_i32_180
  let v389 : Index := Scalar.indexCast v388
  let c16_181 : Index := 16#32
  ![v389.toNat, 16]
def k1_off912 (v371 : BitVec 32) : Fin 2 → Nat :=
  let v396 : Index := Scalar.indexCast v371
  let c32_183 : Index := 32#32
  ![v396.toNat, 32]
def k1_off913 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_184 : BitVec 32 := 16#32
  let v398 : BitVec 32 := Scalar.muli arg18 c16_i32_184
  let c3_i32_185 : BitVec 32 := 3#32
  let v399 : BitVec 32 := Scalar.addi v398 c3_i32_185
  let v400 : Index := Scalar.indexCast v399
  let c32_186 : Index := 32#32
  ![v400.toNat, 32]
def k1_off914 (v371 : BitVec 32) : Fin 2 → Nat :=
  let v407 : Index := Scalar.indexCast v371
  let c48_188 : Index := 48#32
  ![v407.toNat, 48]
def k1_off915 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_189 : BitVec 32 := 16#32
  let v409 : BitVec 32 := Scalar.muli arg18 c16_i32_189
  let c3_i32_190 : BitVec 32 := 3#32
  let v410 : BitVec 32 := Scalar.addi v409 c3_i32_190
  let v411 : Index := Scalar.indexCast v410
  let c48_191 : Index := 48#32
  ![v411.toNat, 48]
def k1_off916 (v371 : BitVec 32) : Fin 2 → Nat :=
  let v418 : Index := Scalar.indexCast v371
  let c64_193 : Index := 64#32
  ![v418.toNat, 64]
def k1_off917 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_194 : BitVec 32 := 16#32
  let v420 : BitVec 32 := Scalar.muli arg18 c16_i32_194
  let c3_i32_195 : BitVec 32 := 3#32
  let v421 : BitVec 32 := Scalar.addi v420 c3_i32_195
  let v422 : Index := Scalar.indexCast v421
  let c64_196 : Index := 64#32
  ![v422.toNat, 64]
def k1_off918 (v371 : BitVec 32) : Fin 2 → Nat :=
  let v429 : Index := Scalar.indexCast v371
  let c80_198 : Index := 80#32
  ![v429.toNat, 80]
def k1_off919 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_199 : BitVec 32 := 16#32
  let v431 : BitVec 32 := Scalar.muli arg18 c16_i32_199
  let c3_i32_200 : BitVec 32 := 3#32
  let v432 : BitVec 32 := Scalar.addi v431 c3_i32_200
  let v433 : Index := Scalar.indexCast v432
  let c80_201 : Index := 80#32
  ![v433.toNat, 80]
def k1_off920 (v371 : BitVec 32) : Fin 2 → Nat :=
  let v440 : Index := Scalar.indexCast v371
  let c96_203 : Index := 96#32
  ![v440.toNat, 96]
def k1_off921 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_204 : BitVec 32 := 16#32
  let v442 : BitVec 32 := Scalar.muli arg18 c16_i32_204
  let c3_i32_205 : BitVec 32 := 3#32
  let v443 : BitVec 32 := Scalar.addi v442 c3_i32_205
  let v444 : Index := Scalar.indexCast v443
  let c96_206 : Index := 96#32
  ![v444.toNat, 96]
def k1_off922 (v371 : BitVec 32) : Fin 2 → Nat :=
  let v451 : Index := Scalar.indexCast v371
  let c112_208 : Index := 112#32
  ![v451.toNat, 112]

def k1_chk74 (i : grid1.Coords) (k1_t9 : Fin (k1_t9_loop i).trips) (v85 : BitVec 32) (v87 : BitVec 32) (v371 : BitVec 32) : Prop :=
  (∀ (k1_h15 : k1_cond15 i k1_t9 = 1#1), ∀ (k1_h18 : k1_cond18 v85 v87 = 1#1), ∀ a, (k1_off908 v371) a + S1x16.size a ≤ S256x128.size a) ∧
  (∀ (k1_h15 : k1_cond15 i k1_t9 = 1#1), ∀ (k1_h18 : k1_cond18 v85 v87 = 1#1), ∀ a, (k1_off910 v371) a + S1x16.size a ≤ S256x128.size a) ∧
  (∀ (k1_h15 : k1_cond15 i k1_t9 = 1#1), ∀ (k1_h18 : k1_cond18 v85 v87 = 1#1), ∀ a, (k1_off912 v371) a + S1x16.size a ≤ S256x128.size a) ∧
  (∀ (k1_h15 : k1_cond15 i k1_t9 = 1#1), ∀ (k1_h18 : k1_cond18 v85 v87 = 1#1), ∀ a, (k1_off914 v371) a + S1x16.size a ≤ S256x128.size a) ∧
  (∀ (k1_h15 : k1_cond15 i k1_t9 = 1#1), ∀ (k1_h18 : k1_cond18 v85 v87 = 1#1), ∀ a, (k1_off916 v371) a + S1x16.size a ≤ S256x128.size a) ∧
  (∀ (k1_h15 : k1_cond15 i k1_t9 = 1#1), ∀ (k1_h18 : k1_cond18 v85 v87 = 1#1), ∀ a, (k1_off918 v371) a + S1x16.size a ≤ S256x128.size a) ∧
  (∀ (k1_h15 : k1_cond15 i k1_t9 = 1#1), ∀ (k1_h18 : k1_cond18 v85 v87 = 1#1), ∀ a, (k1_off920 v371) a + S1x16.size a ≤ S256x128.size a) ∧
  (∀ (k1_h15 : k1_cond15 i k1_t9 = 1#1), ∀ (k1_h18 : k1_cond18 v85 v87 = 1#1), ∀ a, (k1_off922 v371) a + S1x16.size a ≤ S256x128.size a)
theorem k1_off908_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off908 v371) a + S1x16.size a ≤ S256x128.size a := fun i k1_t9 v85 v87 v371 k1_hw74 k1_h15 k1_h18 => k1_hw74.1 k1_h15 k1_h18
theorem k1_off910_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off910 v371) a + S1x16.size a ≤ S256x128.size a := fun i k1_t9 v85 v87 v371 k1_hw74 k1_h15 k1_h18 => k1_hw74.2.1 k1_h15 k1_h18
theorem k1_off912_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off912 v371) a + S1x16.size a ≤ S256x128.size a := fun i k1_t9 v85 v87 v371 k1_hw74 k1_h15 k1_h18 => k1_hw74.2.2.1 k1_h15 k1_h18
theorem k1_off914_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off914 v371) a + S1x16.size a ≤ S256x128.size a := fun i k1_t9 v85 v87 v371 k1_hw74 k1_h15 k1_h18 => k1_hw74.2.2.2.1 k1_h15 k1_h18
theorem k1_off916_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off916 v371) a + S1x16.size a ≤ S256x128.size a := fun i k1_t9 v85 v87 v371 k1_hw74 k1_h15 k1_h18 => k1_hw74.2.2.2.2.1 k1_h15 k1_h18
theorem k1_off918_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off918 v371) a + S1x16.size a ≤ S256x128.size a := fun i k1_t9 v85 v87 v371 k1_hw74 k1_h15 k1_h18 => k1_hw74.2.2.2.2.2.1 k1_h15 k1_h18
theorem k1_off920_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off920 v371) a + S1x16.size a ≤ S256x128.size a := fun i k1_t9 v85 v87 v371 k1_hw74 k1_h15 k1_h18 => k1_hw74.2.2.2.2.2.2.1 k1_h15 k1_h18
theorem k1_off922_inb : ∀ (i : grid1.Coords) (k1_t9 : Fin (k1_t9_loop i).trips) (v85 : BitVec 32) (v87 : BitVec 32) (v371 : BitVec 32) (k1_hw74 : k1_chk74 i k1_t9 v85 v87 v371), ∀ (k1_h15 : k1_cond15 i k1_t9 = 1#1), ∀ (k1_h18 : k1_cond18 v85 v87 = 1#1), ∀ a, (k1_off922 v371) a + S1x16.size a ≤ S256x128.size a := fun i k1_t9 v85 v87 v371 k1_hw74 k1_h15 k1_h18 => k1_hw74.2.2.2.2.2.2.2 k1_h15 k1_h18

def k1_off923 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_209 : BitVec 32 := 16#32
  let v453 : BitVec 32 := Scalar.muli arg18 c16_i32_209
  let c3_i32_210 : BitVec 32 := 3#32
  let v454 : BitVec 32 := Scalar.addi v453 c3_i32_210
  let v455 : Index := Scalar.indexCast v454
  let c112_211 : Index := 112#32
  ![v455.toNat, 112]
def k1_off924 (v463 : BitVec 32) : Fin 2 → Nat :=
  let v466 : Index := Scalar.indexCast v463
  let c0_213 : Index := 0#32
  ![v466.toNat, 0]

def k1_off925 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_214 : BitVec 32 := 16#32
  let v468 : BitVec 32 := Scalar.muli arg18 c16_i32_214
  let c4_i32 : BitVec 32 := 4#32
  let v469 : BitVec 32 := Scalar.addi v468 c4_i32
  let v470 : Index := Scalar.indexCast v469
  let c0_215 : Index := 0#32
  ![v470.toNat, 0]
def k1_off926 (v463 : BitVec 32) : Fin 2 → Nat :=
  let v477 : Index := Scalar.indexCast v463
  let c16_217 : Index := 16#32
  ![v477.toNat, 16]
def k1_off927 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_218 : BitVec 32 := 16#32
  let v479 : BitVec 32 := Scalar.muli arg18 c16_i32_218
  let c4_i32_219 : BitVec 32 := 4#32
  let v480 : BitVec 32 := Scalar.addi v479 c4_i32_219
  let v481 : Index := Scalar.indexCast v480
  let c16_220 : Index := 16#32
  ![v481.toNat, 16]
def k1_off928 (v463 : BitVec 32) : Fin 2 → Nat :=
  let v488 : Index := Scalar.indexCast v463
  let c32_222 : Index := 32#32
  ![v488.toNat, 32]
def k1_off929 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_223 : BitVec 32 := 16#32
  let v490 : BitVec 32 := Scalar.muli arg18 c16_i32_223
  let c4_i32_224 : BitVec 32 := 4#32
  let v491 : BitVec 32 := Scalar.addi v490 c4_i32_224
  let v492 : Index := Scalar.indexCast v491
  let c32_225 : Index := 32#32
  ![v492.toNat, 32]
def k1_off930 (v463 : BitVec 32) : Fin 2 → Nat :=
  let v499 : Index := Scalar.indexCast v463
  let c48_227 : Index := 48#32
  ![v499.toNat, 48]
def k1_off931 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_228 : BitVec 32 := 16#32
  let v501 : BitVec 32 := Scalar.muli arg18 c16_i32_228
  let c4_i32_229 : BitVec 32 := 4#32
  let v502 : BitVec 32 := Scalar.addi v501 c4_i32_229
  let v503 : Index := Scalar.indexCast v502
  let c48_230 : Index := 48#32
  ![v503.toNat, 48]
def k1_off932 (v463 : BitVec 32) : Fin 2 → Nat :=
  let v510 : Index := Scalar.indexCast v463
  let c64_232 : Index := 64#32
  ![v510.toNat, 64]
def k1_off933 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_233 : BitVec 32 := 16#32
  let v512 : BitVec 32 := Scalar.muli arg18 c16_i32_233
  let c4_i32_234 : BitVec 32 := 4#32
  let v513 : BitVec 32 := Scalar.addi v512 c4_i32_234
  let v514 : Index := Scalar.indexCast v513
  let c64_235 : Index := 64#32
  ![v514.toNat, 64]
def k1_off934 (v463 : BitVec 32) : Fin 2 → Nat :=
  let v521 : Index := Scalar.indexCast v463
  let c80_237 : Index := 80#32
  ![v521.toNat, 80]
def k1_off935 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_238 : BitVec 32 := 16#32
  let v523 : BitVec 32 := Scalar.muli arg18 c16_i32_238
  let c4_i32_239 : BitVec 32 := 4#32
  let v524 : BitVec 32 := Scalar.addi v523 c4_i32_239
  let v525 : Index := Scalar.indexCast v524
  let c80_240 : Index := 80#32
  ![v525.toNat, 80]
def k1_off936 (v463 : BitVec 32) : Fin 2 → Nat :=
  let v532 : Index := Scalar.indexCast v463
  let c96_242 : Index := 96#32
  ![v532.toNat, 96]
def k1_off937 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_243 : BitVec 32 := 16#32
  let v534 : BitVec 32 := Scalar.muli arg18 c16_i32_243
  let c4_i32_244 : BitVec 32 := 4#32
  let v535 : BitVec 32 := Scalar.addi v534 c4_i32_244
  let v536 : Index := Scalar.indexCast v535
  let c96_245 : Index := 96#32
  ![v536.toNat, 96]
def k1_off938 (v463 : BitVec 32) : Fin 2 → Nat :=
  let v543 : Index := Scalar.indexCast v463
  let c112_247 : Index := 112#32
  ![v543.toNat, 112]

def k1_chk75 (i : grid1.Coords) (k1_t9 : Fin (k1_t9_loop i).trips) (v85 : BitVec 32) (v87 : BitVec 32) (v463 : BitVec 32) : Prop :=
  (∀ (k1_h15 : k1_cond15 i k1_t9 = 1#1), ∀ (k1_h18 : k1_cond18 v85 v87 = 1#1), ∀ a, (k1_off924 v463) a + S1x16.size a ≤ S256x128.size a) ∧
  (∀ (k1_h15 : k1_cond15 i k1_t9 = 1#1), ∀ (k1_h18 : k1_cond18 v85 v87 = 1#1), ∀ a, (k1_off926 v463) a + S1x16.size a ≤ S256x128.size a) ∧
  (∀ (k1_h15 : k1_cond15 i k1_t9 = 1#1), ∀ (k1_h18 : k1_cond18 v85 v87 = 1#1), ∀ a, (k1_off928 v463) a + S1x16.size a ≤ S256x128.size a) ∧
  (∀ (k1_h15 : k1_cond15 i k1_t9 = 1#1), ∀ (k1_h18 : k1_cond18 v85 v87 = 1#1), ∀ a, (k1_off930 v463) a + S1x16.size a ≤ S256x128.size a) ∧
  (∀ (k1_h15 : k1_cond15 i k1_t9 = 1#1), ∀ (k1_h18 : k1_cond18 v85 v87 = 1#1), ∀ a, (k1_off932 v463) a + S1x16.size a ≤ S256x128.size a) ∧
  (∀ (k1_h15 : k1_cond15 i k1_t9 = 1#1), ∀ (k1_h18 : k1_cond18 v85 v87 = 1#1), ∀ a, (k1_off934 v463) a + S1x16.size a ≤ S256x128.size a) ∧
  (∀ (k1_h15 : k1_cond15 i k1_t9 = 1#1), ∀ (k1_h18 : k1_cond18 v85 v87 = 1#1), ∀ a, (k1_off936 v463) a + S1x16.size a ≤ S256x128.size a) ∧
  (∀ (k1_h15 : k1_cond15 i k1_t9 = 1#1), ∀ (k1_h18 : k1_cond18 v85 v87 = 1#1), ∀ a, (k1_off938 v463) a + S1x16.size a ≤ S256x128.size a)
theorem k1_off924_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off924 v463) a + S1x16.size a ≤ S256x128.size a := fun i k1_t9 v85 v87 v463 k1_hw75 k1_h15 k1_h18 => k1_hw75.1 k1_h15 k1_h18
theorem k1_off926_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off926 v463) a + S1x16.size a ≤ S256x128.size a := fun i k1_t9 v85 v87 v463 k1_hw75 k1_h15 k1_h18 => k1_hw75.2.1 k1_h15 k1_h18
theorem k1_off928_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off928 v463) a + S1x16.size a ≤ S256x128.size a := fun i k1_t9 v85 v87 v463 k1_hw75 k1_h15 k1_h18 => k1_hw75.2.2.1 k1_h15 k1_h18
theorem k1_off930_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off930 v463) a + S1x16.size a ≤ S256x128.size a := fun i k1_t9 v85 v87 v463 k1_hw75 k1_h15 k1_h18 => k1_hw75.2.2.2.1 k1_h15 k1_h18
theorem k1_off932_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off932 v463) a + S1x16.size a ≤ S256x128.size a := fun i k1_t9 v85 v87 v463 k1_hw75 k1_h15 k1_h18 => k1_hw75.2.2.2.2.1 k1_h15 k1_h18
theorem k1_off934_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off934 v463) a + S1x16.size a ≤ S256x128.size a := fun i k1_t9 v85 v87 v463 k1_hw75 k1_h15 k1_h18 => k1_hw75.2.2.2.2.2.1 k1_h15 k1_h18
theorem k1_off936_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off936 v463) a + S1x16.size a ≤ S256x128.size a := fun i k1_t9 v85 v87 v463 k1_hw75 k1_h15 k1_h18 => k1_hw75.2.2.2.2.2.2.1 k1_h15 k1_h18
theorem k1_off938_inb : ∀ (i : grid1.Coords) (k1_t9 : Fin (k1_t9_loop i).trips) (v85 : BitVec 32) (v87 : BitVec 32) (v463 : BitVec 32) (k1_hw75 : k1_chk75 i k1_t9 v85 v87 v463), ∀ (k1_h15 : k1_cond15 i k1_t9 = 1#1), ∀ (k1_h18 : k1_cond18 v85 v87 = 1#1), ∀ a, (k1_off938 v463) a + S1x16.size a ≤ S256x128.size a := fun i k1_t9 v85 v87 v463 k1_hw75 k1_h15 k1_h18 => k1_hw75.2.2.2.2.2.2.2 k1_h15 k1_h18

def k1_off939 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_248 : BitVec 32 := 16#32
  let v545 : BitVec 32 := Scalar.muli arg18 c16_i32_248
  let c4_i32_249 : BitVec 32 := 4#32
  let v546 : BitVec 32 := Scalar.addi v545 c4_i32_249
  let v547 : Index := Scalar.indexCast v546
  let c112_250 : Index := 112#32
  ![v547.toNat, 112]
def k1_off940 (v555 : BitVec 32) : Fin 2 → Nat :=
  let v558 : Index := Scalar.indexCast v555
  let c0_252 : Index := 0#32
  ![v558.toNat, 0]

def k1_off941 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_253 : BitVec 32 := 16#32
  let v560 : BitVec 32 := Scalar.muli arg18 c16_i32_253
  let c5_i32 : BitVec 32 := 5#32
  let v561 : BitVec 32 := Scalar.addi v560 c5_i32
  let v562 : Index := Scalar.indexCast v561
  let c0_254 : Index := 0#32
  ![v562.toNat, 0]
def k1_off942 (v555 : BitVec 32) : Fin 2 → Nat :=
  let v569 : Index := Scalar.indexCast v555
  let c16_256 : Index := 16#32
  ![v569.toNat, 16]
def k1_off943 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_257 : BitVec 32 := 16#32
  let v571 : BitVec 32 := Scalar.muli arg18 c16_i32_257
  let c5_i32_258 : BitVec 32 := 5#32
  let v572 : BitVec 32 := Scalar.addi v571 c5_i32_258
  let v573 : Index := Scalar.indexCast v572
  let c16_259 : Index := 16#32
  ![v573.toNat, 16]
def k1_off944 (v555 : BitVec 32) : Fin 2 → Nat :=
  let v580 : Index := Scalar.indexCast v555
  let c32_261 : Index := 32#32
  ![v580.toNat, 32]
def k1_off945 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_262 : BitVec 32 := 16#32
  let v582 : BitVec 32 := Scalar.muli arg18 c16_i32_262
  let c5_i32_263 : BitVec 32 := 5#32
  let v583 : BitVec 32 := Scalar.addi v582 c5_i32_263
  let v584 : Index := Scalar.indexCast v583
  let c32_264 : Index := 32#32
  ![v584.toNat, 32]
def k1_off946 (v555 : BitVec 32) : Fin 2 → Nat :=
  let v591 : Index := Scalar.indexCast v555
  let c48_266 : Index := 48#32
  ![v591.toNat, 48]
def k1_off947 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_267 : BitVec 32 := 16#32
  let v593 : BitVec 32 := Scalar.muli arg18 c16_i32_267
  let c5_i32_268 : BitVec 32 := 5#32
  let v594 : BitVec 32 := Scalar.addi v593 c5_i32_268
  let v595 : Index := Scalar.indexCast v594
  let c48_269 : Index := 48#32
  ![v595.toNat, 48]
def k1_off948 (v555 : BitVec 32) : Fin 2 → Nat :=
  let v602 : Index := Scalar.indexCast v555
  let c64_271 : Index := 64#32
  ![v602.toNat, 64]
def k1_off949 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_272 : BitVec 32 := 16#32
  let v604 : BitVec 32 := Scalar.muli arg18 c16_i32_272
  let c5_i32_273 : BitVec 32 := 5#32
  let v605 : BitVec 32 := Scalar.addi v604 c5_i32_273
  let v606 : Index := Scalar.indexCast v605
  let c64_274 : Index := 64#32
  ![v606.toNat, 64]
def k1_off950 (v555 : BitVec 32) : Fin 2 → Nat :=
  let v613 : Index := Scalar.indexCast v555
  let c80_276 : Index := 80#32
  ![v613.toNat, 80]
def k1_off951 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_277 : BitVec 32 := 16#32
  let v615 : BitVec 32 := Scalar.muli arg18 c16_i32_277
  let c5_i32_278 : BitVec 32 := 5#32
  let v616 : BitVec 32 := Scalar.addi v615 c5_i32_278
  let v617 : Index := Scalar.indexCast v616
  let c80_279 : Index := 80#32
  ![v617.toNat, 80]
def k1_off952 (v555 : BitVec 32) : Fin 2 → Nat :=
  let v624 : Index := Scalar.indexCast v555
  let c96_281 : Index := 96#32
  ![v624.toNat, 96]
def k1_off953 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_282 : BitVec 32 := 16#32
  let v626 : BitVec 32 := Scalar.muli arg18 c16_i32_282
  let c5_i32_283 : BitVec 32 := 5#32
  let v627 : BitVec 32 := Scalar.addi v626 c5_i32_283
  let v628 : Index := Scalar.indexCast v627
  let c96_284 : Index := 96#32
  ![v628.toNat, 96]
def k1_off954 (v555 : BitVec 32) : Fin 2 → Nat :=
  let v635 : Index := Scalar.indexCast v555
  let c112_286 : Index := 112#32
  ![v635.toNat, 112]

def k1_chk76 (i : grid1.Coords) (k1_t9 : Fin (k1_t9_loop i).trips) (v85 : BitVec 32) (v87 : BitVec 32) (v555 : BitVec 32) : Prop :=
  (∀ (k1_h15 : k1_cond15 i k1_t9 = 1#1), ∀ (k1_h18 : k1_cond18 v85 v87 = 1#1), ∀ a, (k1_off940 v555) a + S1x16.size a ≤ S256x128.size a) ∧
  (∀ (k1_h15 : k1_cond15 i k1_t9 = 1#1), ∀ (k1_h18 : k1_cond18 v85 v87 = 1#1), ∀ a, (k1_off942 v555) a + S1x16.size a ≤ S256x128.size a) ∧
  (∀ (k1_h15 : k1_cond15 i k1_t9 = 1#1), ∀ (k1_h18 : k1_cond18 v85 v87 = 1#1), ∀ a, (k1_off944 v555) a + S1x16.size a ≤ S256x128.size a) ∧
  (∀ (k1_h15 : k1_cond15 i k1_t9 = 1#1), ∀ (k1_h18 : k1_cond18 v85 v87 = 1#1), ∀ a, (k1_off946 v555) a + S1x16.size a ≤ S256x128.size a) ∧
  (∀ (k1_h15 : k1_cond15 i k1_t9 = 1#1), ∀ (k1_h18 : k1_cond18 v85 v87 = 1#1), ∀ a, (k1_off948 v555) a + S1x16.size a ≤ S256x128.size a) ∧
  (∀ (k1_h15 : k1_cond15 i k1_t9 = 1#1), ∀ (k1_h18 : k1_cond18 v85 v87 = 1#1), ∀ a, (k1_off950 v555) a + S1x16.size a ≤ S256x128.size a) ∧
  (∀ (k1_h15 : k1_cond15 i k1_t9 = 1#1), ∀ (k1_h18 : k1_cond18 v85 v87 = 1#1), ∀ a, (k1_off952 v555) a + S1x16.size a ≤ S256x128.size a) ∧
  (∀ (k1_h15 : k1_cond15 i k1_t9 = 1#1), ∀ (k1_h18 : k1_cond18 v85 v87 = 1#1), ∀ a, (k1_off954 v555) a + S1x16.size a ≤ S256x128.size a)
theorem k1_off940_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off940 v555) a + S1x16.size a ≤ S256x128.size a := fun i k1_t9 v85 v87 v555 k1_hw76 k1_h15 k1_h18 => k1_hw76.1 k1_h15 k1_h18
theorem k1_off942_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off942 v555) a + S1x16.size a ≤ S256x128.size a := fun i k1_t9 v85 v87 v555 k1_hw76 k1_h15 k1_h18 => k1_hw76.2.1 k1_h15 k1_h18
theorem k1_off944_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off944 v555) a + S1x16.size a ≤ S256x128.size a := fun i k1_t9 v85 v87 v555 k1_hw76 k1_h15 k1_h18 => k1_hw76.2.2.1 k1_h15 k1_h18
theorem k1_off946_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off946 v555) a + S1x16.size a ≤ S256x128.size a := fun i k1_t9 v85 v87 v555 k1_hw76 k1_h15 k1_h18 => k1_hw76.2.2.2.1 k1_h15 k1_h18
theorem k1_off948_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off948 v555) a + S1x16.size a ≤ S256x128.size a := fun i k1_t9 v85 v87 v555 k1_hw76 k1_h15 k1_h18 => k1_hw76.2.2.2.2.1 k1_h15 k1_h18
theorem k1_off950_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off950 v555) a + S1x16.size a ≤ S256x128.size a := fun i k1_t9 v85 v87 v555 k1_hw76 k1_h15 k1_h18 => k1_hw76.2.2.2.2.2.1 k1_h15 k1_h18
theorem k1_off952_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off952 v555) a + S1x16.size a ≤ S256x128.size a := fun i k1_t9 v85 v87 v555 k1_hw76 k1_h15 k1_h18 => k1_hw76.2.2.2.2.2.2.1 k1_h15 k1_h18
theorem k1_off954_inb : ∀ (i : grid1.Coords) (k1_t9 : Fin (k1_t9_loop i).trips) (v85 : BitVec 32) (v87 : BitVec 32) (v555 : BitVec 32) (k1_hw76 : k1_chk76 i k1_t9 v85 v87 v555), ∀ (k1_h15 : k1_cond15 i k1_t9 = 1#1), ∀ (k1_h18 : k1_cond18 v85 v87 = 1#1), ∀ a, (k1_off954 v555) a + S1x16.size a ≤ S256x128.size a := fun i k1_t9 v85 v87 v555 k1_hw76 k1_h15 k1_h18 => k1_hw76.2.2.2.2.2.2.2 k1_h15 k1_h18

def k1_off955 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_287 : BitVec 32 := 16#32
  let v637 : BitVec 32 := Scalar.muli arg18 c16_i32_287
  let c5_i32_288 : BitVec 32 := 5#32
  let v638 : BitVec 32 := Scalar.addi v637 c5_i32_288
  let v639 : Index := Scalar.indexCast v638
  let c112_289 : Index := 112#32
  ![v639.toNat, 112]
def k1_off956 (v647 : BitVec 32) : Fin 2 → Nat :=
  let v650 : Index := Scalar.indexCast v647
  let c0_291 : Index := 0#32
  ![v650.toNat, 0]

def k1_off957 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_292 : BitVec 32 := 16#32
  let v652 : BitVec 32 := Scalar.muli arg18 c16_i32_292
  let c6_i32 : BitVec 32 := 6#32
  let v653 : BitVec 32 := Scalar.addi v652 c6_i32
  let v654 : Index := Scalar.indexCast v653
  let c0_293 : Index := 0#32
  ![v654.toNat, 0]
def k1_off958 (v647 : BitVec 32) : Fin 2 → Nat :=
  let v661 : Index := Scalar.indexCast v647
  let c16_295 : Index := 16#32
  ![v661.toNat, 16]
def k1_off959 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_296 : BitVec 32 := 16#32
  let v663 : BitVec 32 := Scalar.muli arg18 c16_i32_296
  let c6_i32_297 : BitVec 32 := 6#32
  let v664 : BitVec 32 := Scalar.addi v663 c6_i32_297
  let v665 : Index := Scalar.indexCast v664
  let c16_298 : Index := 16#32
  ![v665.toNat, 16]
def k1_off960 (v647 : BitVec 32) : Fin 2 → Nat :=
  let v672 : Index := Scalar.indexCast v647
  let c32_300 : Index := 32#32
  ![v672.toNat, 32]
def k1_off961 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_301 : BitVec 32 := 16#32
  let v674 : BitVec 32 := Scalar.muli arg18 c16_i32_301
  let c6_i32_302 : BitVec 32 := 6#32
  let v675 : BitVec 32 := Scalar.addi v674 c6_i32_302
  let v676 : Index := Scalar.indexCast v675
  let c32_303 : Index := 32#32
  ![v676.toNat, 32]
def k1_off962 (v647 : BitVec 32) : Fin 2 → Nat :=
  let v683 : Index := Scalar.indexCast v647
  let c48_305 : Index := 48#32
  ![v683.toNat, 48]
def k1_off963 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_306 : BitVec 32 := 16#32
  let v685 : BitVec 32 := Scalar.muli arg18 c16_i32_306
  let c6_i32_307 : BitVec 32 := 6#32
  let v686 : BitVec 32 := Scalar.addi v685 c6_i32_307
  let v687 : Index := Scalar.indexCast v686
  let c48_308 : Index := 48#32
  ![v687.toNat, 48]
def k1_off964 (v647 : BitVec 32) : Fin 2 → Nat :=
  let v694 : Index := Scalar.indexCast v647
  let c64_310 : Index := 64#32
  ![v694.toNat, 64]
def k1_off965 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_311 : BitVec 32 := 16#32
  let v696 : BitVec 32 := Scalar.muli arg18 c16_i32_311
  let c6_i32_312 : BitVec 32 := 6#32
  let v697 : BitVec 32 := Scalar.addi v696 c6_i32_312
  let v698 : Index := Scalar.indexCast v697
  let c64_313 : Index := 64#32
  ![v698.toNat, 64]
def k1_off966 (v647 : BitVec 32) : Fin 2 → Nat :=
  let v705 : Index := Scalar.indexCast v647
  let c80_315 : Index := 80#32
  ![v705.toNat, 80]
def k1_off967 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_316 : BitVec 32 := 16#32
  let v707 : BitVec 32 := Scalar.muli arg18 c16_i32_316
  let c6_i32_317 : BitVec 32 := 6#32
  let v708 : BitVec 32 := Scalar.addi v707 c6_i32_317
  let v709 : Index := Scalar.indexCast v708
  let c80_318 : Index := 80#32
  ![v709.toNat, 80]
def k1_off968 (v647 : BitVec 32) : Fin 2 → Nat :=
  let v716 : Index := Scalar.indexCast v647
  let c96_320 : Index := 96#32
  ![v716.toNat, 96]
def k1_off969 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_321 : BitVec 32 := 16#32
  let v718 : BitVec 32 := Scalar.muli arg18 c16_i32_321
  let c6_i32_322 : BitVec 32 := 6#32
  let v719 : BitVec 32 := Scalar.addi v718 c6_i32_322
  let v720 : Index := Scalar.indexCast v719
  let c96_323 : Index := 96#32
  ![v720.toNat, 96]
def k1_off970 (v647 : BitVec 32) : Fin 2 → Nat :=
  let v727 : Index := Scalar.indexCast v647
  let c112_325 : Index := 112#32
  ![v727.toNat, 112]

def k1_chk77 (i : grid1.Coords) (k1_t9 : Fin (k1_t9_loop i).trips) (v85 : BitVec 32) (v87 : BitVec 32) (v647 : BitVec 32) : Prop :=
  (∀ (k1_h15 : k1_cond15 i k1_t9 = 1#1), ∀ (k1_h18 : k1_cond18 v85 v87 = 1#1), ∀ a, (k1_off956 v647) a + S1x16.size a ≤ S256x128.size a) ∧
  (∀ (k1_h15 : k1_cond15 i k1_t9 = 1#1), ∀ (k1_h18 : k1_cond18 v85 v87 = 1#1), ∀ a, (k1_off958 v647) a + S1x16.size a ≤ S256x128.size a) ∧
  (∀ (k1_h15 : k1_cond15 i k1_t9 = 1#1), ∀ (k1_h18 : k1_cond18 v85 v87 = 1#1), ∀ a, (k1_off960 v647) a + S1x16.size a ≤ S256x128.size a) ∧
  (∀ (k1_h15 : k1_cond15 i k1_t9 = 1#1), ∀ (k1_h18 : k1_cond18 v85 v87 = 1#1), ∀ a, (k1_off962 v647) a + S1x16.size a ≤ S256x128.size a) ∧
  (∀ (k1_h15 : k1_cond15 i k1_t9 = 1#1), ∀ (k1_h18 : k1_cond18 v85 v87 = 1#1), ∀ a, (k1_off964 v647) a + S1x16.size a ≤ S256x128.size a) ∧
  (∀ (k1_h15 : k1_cond15 i k1_t9 = 1#1), ∀ (k1_h18 : k1_cond18 v85 v87 = 1#1), ∀ a, (k1_off966 v647) a + S1x16.size a ≤ S256x128.size a) ∧
  (∀ (k1_h15 : k1_cond15 i k1_t9 = 1#1), ∀ (k1_h18 : k1_cond18 v85 v87 = 1#1), ∀ a, (k1_off968 v647) a + S1x16.size a ≤ S256x128.size a) ∧
  (∀ (k1_h15 : k1_cond15 i k1_t9 = 1#1), ∀ (k1_h18 : k1_cond18 v85 v87 = 1#1), ∀ a, (k1_off970 v647) a + S1x16.size a ≤ S256x128.size a)
theorem k1_off956_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off956 v647) a + S1x16.size a ≤ S256x128.size a := fun i k1_t9 v85 v87 v647 k1_hw77 k1_h15 k1_h18 => k1_hw77.1 k1_h15 k1_h18
theorem k1_off958_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off958 v647) a + S1x16.size a ≤ S256x128.size a := fun i k1_t9 v85 v87 v647 k1_hw77 k1_h15 k1_h18 => k1_hw77.2.1 k1_h15 k1_h18
theorem k1_off960_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off960 v647) a + S1x16.size a ≤ S256x128.size a := fun i k1_t9 v85 v87 v647 k1_hw77 k1_h15 k1_h18 => k1_hw77.2.2.1 k1_h15 k1_h18
theorem k1_off962_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off962 v647) a + S1x16.size a ≤ S256x128.size a := fun i k1_t9 v85 v87 v647 k1_hw77 k1_h15 k1_h18 => k1_hw77.2.2.2.1 k1_h15 k1_h18
theorem k1_off964_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off964 v647) a + S1x16.size a ≤ S256x128.size a := fun i k1_t9 v85 v87 v647 k1_hw77 k1_h15 k1_h18 => k1_hw77.2.2.2.2.1 k1_h15 k1_h18
theorem k1_off966_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off966 v647) a + S1x16.size a ≤ S256x128.size a := fun i k1_t9 v85 v87 v647 k1_hw77 k1_h15 k1_h18 => k1_hw77.2.2.2.2.2.1 k1_h15 k1_h18
theorem k1_off968_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off968 v647) a + S1x16.size a ≤ S256x128.size a := fun i k1_t9 v85 v87 v647 k1_hw77 k1_h15 k1_h18 => k1_hw77.2.2.2.2.2.2.1 k1_h15 k1_h18
theorem k1_off970_inb : ∀ (i : grid1.Coords) (k1_t9 : Fin (k1_t9_loop i).trips) (v85 : BitVec 32) (v87 : BitVec 32) (v647 : BitVec 32) (k1_hw77 : k1_chk77 i k1_t9 v85 v87 v647), ∀ (k1_h15 : k1_cond15 i k1_t9 = 1#1), ∀ (k1_h18 : k1_cond18 v85 v87 = 1#1), ∀ a, (k1_off970 v647) a + S1x16.size a ≤ S256x128.size a := fun i k1_t9 v85 v87 v647 k1_hw77 k1_h15 k1_h18 => k1_hw77.2.2.2.2.2.2.2 k1_h15 k1_h18

def k1_off971 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_326 : BitVec 32 := 16#32
  let v729 : BitVec 32 := Scalar.muli arg18 c16_i32_326
  let c6_i32_327 : BitVec 32 := 6#32
  let v730 : BitVec 32 := Scalar.addi v729 c6_i32_327
  let v731 : Index := Scalar.indexCast v730
  let c112_328 : Index := 112#32
  ![v731.toNat, 112]
def k1_off972 (v739 : BitVec 32) : Fin 2 → Nat :=
  let v742 : Index := Scalar.indexCast v739
  let c0_330 : Index := 0#32
  ![v742.toNat, 0]

def k1_off973 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_331 : BitVec 32 := 16#32
  let v744 : BitVec 32 := Scalar.muli arg18 c16_i32_331
  let c7_i32_332 : BitVec 32 := 7#32
  let v745 : BitVec 32 := Scalar.addi v744 c7_i32_332
  let v746 : Index := Scalar.indexCast v745
  let c0_333 : Index := 0#32
  ![v746.toNat, 0]
def k1_off974 (v739 : BitVec 32) : Fin 2 → Nat :=
  let v753 : Index := Scalar.indexCast v739
  let c16_335 : Index := 16#32
  ![v753.toNat, 16]
def k1_off975 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_336 : BitVec 32 := 16#32
  let v755 : BitVec 32 := Scalar.muli arg18 c16_i32_336
  let c7_i32_337 : BitVec 32 := 7#32
  let v756 : BitVec 32 := Scalar.addi v755 c7_i32_337
  let v757 : Index := Scalar.indexCast v756
  let c16_338 : Index := 16#32
  ![v757.toNat, 16]
def k1_off976 (v739 : BitVec 32) : Fin 2 → Nat :=
  let v764 : Index := Scalar.indexCast v739
  let c32_340 : Index := 32#32
  ![v764.toNat, 32]
def k1_off977 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_341 : BitVec 32 := 16#32
  let v766 : BitVec 32 := Scalar.muli arg18 c16_i32_341
  let c7_i32_342 : BitVec 32 := 7#32
  let v767 : BitVec 32 := Scalar.addi v766 c7_i32_342
  let v768 : Index := Scalar.indexCast v767
  let c32_343 : Index := 32#32
  ![v768.toNat, 32]
def k1_off978 (v739 : BitVec 32) : Fin 2 → Nat :=
  let v775 : Index := Scalar.indexCast v739
  let c48_345 : Index := 48#32
  ![v775.toNat, 48]
def k1_off979 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_346 : BitVec 32 := 16#32
  let v777 : BitVec 32 := Scalar.muli arg18 c16_i32_346
  let c7_i32_347 : BitVec 32 := 7#32
  let v778 : BitVec 32 := Scalar.addi v777 c7_i32_347
  let v779 : Index := Scalar.indexCast v778
  let c48_348 : Index := 48#32
  ![v779.toNat, 48]
def k1_off980 (v739 : BitVec 32) : Fin 2 → Nat :=
  let v786 : Index := Scalar.indexCast v739
  let c64_350 : Index := 64#32
  ![v786.toNat, 64]
def k1_off981 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_351 : BitVec 32 := 16#32
  let v788 : BitVec 32 := Scalar.muli arg18 c16_i32_351
  let c7_i32_352 : BitVec 32 := 7#32
  let v789 : BitVec 32 := Scalar.addi v788 c7_i32_352
  let v790 : Index := Scalar.indexCast v789
  let c64_353 : Index := 64#32
  ![v790.toNat, 64]
def k1_off982 (v739 : BitVec 32) : Fin 2 → Nat :=
  let v797 : Index := Scalar.indexCast v739
  let c80_355 : Index := 80#32
  ![v797.toNat, 80]
def k1_off983 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_356 : BitVec 32 := 16#32
  let v799 : BitVec 32 := Scalar.muli arg18 c16_i32_356
  let c7_i32_357 : BitVec 32 := 7#32
  let v800 : BitVec 32 := Scalar.addi v799 c7_i32_357
  let v801 : Index := Scalar.indexCast v800
  let c80_358 : Index := 80#32
  ![v801.toNat, 80]
def k1_off984 (v739 : BitVec 32) : Fin 2 → Nat :=
  let v808 : Index := Scalar.indexCast v739
  let c96_360 : Index := 96#32
  ![v808.toNat, 96]
def k1_off985 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_361 : BitVec 32 := 16#32
  let v810 : BitVec 32 := Scalar.muli arg18 c16_i32_361
  let c7_i32_362 : BitVec 32 := 7#32
  let v811 : BitVec 32 := Scalar.addi v810 c7_i32_362
  let v812 : Index := Scalar.indexCast v811
  let c96_363 : Index := 96#32
  ![v812.toNat, 96]
def k1_off986 (v739 : BitVec 32) : Fin 2 → Nat :=
  let v819 : Index := Scalar.indexCast v739
  let c112_365 : Index := 112#32
  ![v819.toNat, 112]

def k1_chk78 (i : grid1.Coords) (k1_t9 : Fin (k1_t9_loop i).trips) (v85 : BitVec 32) (v87 : BitVec 32) (v739 : BitVec 32) : Prop :=
  (∀ (k1_h15 : k1_cond15 i k1_t9 = 1#1), ∀ (k1_h18 : k1_cond18 v85 v87 = 1#1), ∀ a, (k1_off972 v739) a + S1x16.size a ≤ S256x128.size a) ∧
  (∀ (k1_h15 : k1_cond15 i k1_t9 = 1#1), ∀ (k1_h18 : k1_cond18 v85 v87 = 1#1), ∀ a, (k1_off974 v739) a + S1x16.size a ≤ S256x128.size a) ∧
  (∀ (k1_h15 : k1_cond15 i k1_t9 = 1#1), ∀ (k1_h18 : k1_cond18 v85 v87 = 1#1), ∀ a, (k1_off976 v739) a + S1x16.size a ≤ S256x128.size a) ∧
  (∀ (k1_h15 : k1_cond15 i k1_t9 = 1#1), ∀ (k1_h18 : k1_cond18 v85 v87 = 1#1), ∀ a, (k1_off978 v739) a + S1x16.size a ≤ S256x128.size a) ∧
  (∀ (k1_h15 : k1_cond15 i k1_t9 = 1#1), ∀ (k1_h18 : k1_cond18 v85 v87 = 1#1), ∀ a, (k1_off980 v739) a + S1x16.size a ≤ S256x128.size a) ∧
  (∀ (k1_h15 : k1_cond15 i k1_t9 = 1#1), ∀ (k1_h18 : k1_cond18 v85 v87 = 1#1), ∀ a, (k1_off982 v739) a + S1x16.size a ≤ S256x128.size a) ∧
  (∀ (k1_h15 : k1_cond15 i k1_t9 = 1#1), ∀ (k1_h18 : k1_cond18 v85 v87 = 1#1), ∀ a, (k1_off984 v739) a + S1x16.size a ≤ S256x128.size a) ∧
  (∀ (k1_h15 : k1_cond15 i k1_t9 = 1#1), ∀ (k1_h18 : k1_cond18 v85 v87 = 1#1), ∀ a, (k1_off986 v739) a + S1x16.size a ≤ S256x128.size a)
theorem k1_off972_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off972 v739) a + S1x16.size a ≤ S256x128.size a := fun i k1_t9 v85 v87 v739 k1_hw78 k1_h15 k1_h18 => k1_hw78.1 k1_h15 k1_h18
theorem k1_off974_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off974 v739) a + S1x16.size a ≤ S256x128.size a := fun i k1_t9 v85 v87 v739 k1_hw78 k1_h15 k1_h18 => k1_hw78.2.1 k1_h15 k1_h18
theorem k1_off976_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off976 v739) a + S1x16.size a ≤ S256x128.size a := fun i k1_t9 v85 v87 v739 k1_hw78 k1_h15 k1_h18 => k1_hw78.2.2.1 k1_h15 k1_h18
theorem k1_off978_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off978 v739) a + S1x16.size a ≤ S256x128.size a := fun i k1_t9 v85 v87 v739 k1_hw78 k1_h15 k1_h18 => k1_hw78.2.2.2.1 k1_h15 k1_h18
theorem k1_off980_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off980 v739) a + S1x16.size a ≤ S256x128.size a := fun i k1_t9 v85 v87 v739 k1_hw78 k1_h15 k1_h18 => k1_hw78.2.2.2.2.1 k1_h15 k1_h18
theorem k1_off982_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off982 v739) a + S1x16.size a ≤ S256x128.size a := fun i k1_t9 v85 v87 v739 k1_hw78 k1_h15 k1_h18 => k1_hw78.2.2.2.2.2.1 k1_h15 k1_h18
theorem k1_off984_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off984 v739) a + S1x16.size a ≤ S256x128.size a := fun i k1_t9 v85 v87 v739 k1_hw78 k1_h15 k1_h18 => k1_hw78.2.2.2.2.2.2.1 k1_h15 k1_h18
theorem k1_off986_inb : ∀ (i : grid1.Coords) (k1_t9 : Fin (k1_t9_loop i).trips) (v85 : BitVec 32) (v87 : BitVec 32) (v739 : BitVec 32) (k1_hw78 : k1_chk78 i k1_t9 v85 v87 v739), ∀ (k1_h15 : k1_cond15 i k1_t9 = 1#1), ∀ (k1_h18 : k1_cond18 v85 v87 = 1#1), ∀ a, (k1_off986 v739) a + S1x16.size a ≤ S256x128.size a := fun i k1_t9 v85 v87 v739 k1_hw78 k1_h15 k1_h18 => k1_hw78.2.2.2.2.2.2.2 k1_h15 k1_h18

def k1_off987 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_366 : BitVec 32 := 16#32
  let v821 : BitVec 32 := Scalar.muli arg18 c16_i32_366
  let c7_i32_367 : BitVec 32 := 7#32
  let v822 : BitVec 32 := Scalar.addi v821 c7_i32_367
  let v823 : Index := Scalar.indexCast v822
  let c112_368 : Index := 112#32
  ![v823.toNat, 112]
def k1_off988 (v831 : BitVec 32) : Fin 2 → Nat :=
  let v834 : Index := Scalar.indexCast v831
  let c0_370 : Index := 0#32
  ![v834.toNat, 0]

def k1_off989 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_371 : BitVec 32 := 16#32
  let v836 : BitVec 32 := Scalar.muli arg18 c16_i32_371
  let c8_i32 : BitVec 32 := 8#32
  let v837 : BitVec 32 := Scalar.addi v836 c8_i32
  let v838 : Index := Scalar.indexCast v837
  let c0_372 : Index := 0#32
  ![v838.toNat, 0]
def k1_off990 (v831 : BitVec 32) : Fin 2 → Nat :=
  let v845 : Index := Scalar.indexCast v831
  let c16_374 : Index := 16#32
  ![v845.toNat, 16]
def k1_off991 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_375 : BitVec 32 := 16#32
  let v847 : BitVec 32 := Scalar.muli arg18 c16_i32_375
  let c8_i32_376 : BitVec 32 := 8#32
  let v848 : BitVec 32 := Scalar.addi v847 c8_i32_376
  let v849 : Index := Scalar.indexCast v848
  let c16_377 : Index := 16#32
  ![v849.toNat, 16]
def k1_off992 (v831 : BitVec 32) : Fin 2 → Nat :=
  let v856 : Index := Scalar.indexCast v831
  let c32_379 : Index := 32#32
  ![v856.toNat, 32]
def k1_off993 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_380 : BitVec 32 := 16#32
  let v858 : BitVec 32 := Scalar.muli arg18 c16_i32_380
  let c8_i32_381 : BitVec 32 := 8#32
  let v859 : BitVec 32 := Scalar.addi v858 c8_i32_381
  let v860 : Index := Scalar.indexCast v859
  let c32_382 : Index := 32#32
  ![v860.toNat, 32]
def k1_off994 (v831 : BitVec 32) : Fin 2 → Nat :=
  let v867 : Index := Scalar.indexCast v831
  let c48_384 : Index := 48#32
  ![v867.toNat, 48]
def k1_off995 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_385 : BitVec 32 := 16#32
  let v869 : BitVec 32 := Scalar.muli arg18 c16_i32_385
  let c8_i32_386 : BitVec 32 := 8#32
  let v870 : BitVec 32 := Scalar.addi v869 c8_i32_386
  let v871 : Index := Scalar.indexCast v870
  let c48_387 : Index := 48#32
  ![v871.toNat, 48]
def k1_off996 (v831 : BitVec 32) : Fin 2 → Nat :=
  let v878 : Index := Scalar.indexCast v831
  let c64_389 : Index := 64#32
  ![v878.toNat, 64]
def k1_off997 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_390 : BitVec 32 := 16#32
  let v880 : BitVec 32 := Scalar.muli arg18 c16_i32_390
  let c8_i32_391 : BitVec 32 := 8#32
  let v881 : BitVec 32 := Scalar.addi v880 c8_i32_391
  let v882 : Index := Scalar.indexCast v881
  let c64_392 : Index := 64#32
  ![v882.toNat, 64]
def k1_off998 (v831 : BitVec 32) : Fin 2 → Nat :=
  let v889 : Index := Scalar.indexCast v831
  let c80_394 : Index := 80#32
  ![v889.toNat, 80]
def k1_off999 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_395 : BitVec 32 := 16#32
  let v891 : BitVec 32 := Scalar.muli arg18 c16_i32_395
  let c8_i32_396 : BitVec 32 := 8#32
  let v892 : BitVec 32 := Scalar.addi v891 c8_i32_396
  let v893 : Index := Scalar.indexCast v892
  let c80_397 : Index := 80#32
  ![v893.toNat, 80]
def k1_off1000 (v831 : BitVec 32) : Fin 2 → Nat :=
  let v900 : Index := Scalar.indexCast v831
  let c96_399 : Index := 96#32
  ![v900.toNat, 96]
def k1_off1001 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_400 : BitVec 32 := 16#32
  let v902 : BitVec 32 := Scalar.muli arg18 c16_i32_400
  let c8_i32_401 : BitVec 32 := 8#32
  let v903 : BitVec 32 := Scalar.addi v902 c8_i32_401
  let v904 : Index := Scalar.indexCast v903
  let c96_402 : Index := 96#32
  ![v904.toNat, 96]
def k1_off1002 (v831 : BitVec 32) : Fin 2 → Nat :=
  let v911 : Index := Scalar.indexCast v831
  let c112_404 : Index := 112#32
  ![v911.toNat, 112]

def k1_chk79 (i : grid1.Coords) (k1_t9 : Fin (k1_t9_loop i).trips) (v85 : BitVec 32) (v87 : BitVec 32) (v831 : BitVec 32) : Prop :=
  (∀ (k1_h15 : k1_cond15 i k1_t9 = 1#1), ∀ (k1_h18 : k1_cond18 v85 v87 = 1#1), ∀ a, (k1_off988 v831) a + S1x16.size a ≤ S256x128.size a) ∧
  (∀ (k1_h15 : k1_cond15 i k1_t9 = 1#1), ∀ (k1_h18 : k1_cond18 v85 v87 = 1#1), ∀ a, (k1_off990 v831) a + S1x16.size a ≤ S256x128.size a) ∧
  (∀ (k1_h15 : k1_cond15 i k1_t9 = 1#1), ∀ (k1_h18 : k1_cond18 v85 v87 = 1#1), ∀ a, (k1_off992 v831) a + S1x16.size a ≤ S256x128.size a) ∧
  (∀ (k1_h15 : k1_cond15 i k1_t9 = 1#1), ∀ (k1_h18 : k1_cond18 v85 v87 = 1#1), ∀ a, (k1_off994 v831) a + S1x16.size a ≤ S256x128.size a) ∧
  (∀ (k1_h15 : k1_cond15 i k1_t9 = 1#1), ∀ (k1_h18 : k1_cond18 v85 v87 = 1#1), ∀ a, (k1_off996 v831) a + S1x16.size a ≤ S256x128.size a) ∧
  (∀ (k1_h15 : k1_cond15 i k1_t9 = 1#1), ∀ (k1_h18 : k1_cond18 v85 v87 = 1#1), ∀ a, (k1_off998 v831) a + S1x16.size a ≤ S256x128.size a) ∧
  (∀ (k1_h15 : k1_cond15 i k1_t9 = 1#1), ∀ (k1_h18 : k1_cond18 v85 v87 = 1#1), ∀ a, (k1_off1000 v831) a + S1x16.size a ≤ S256x128.size a) ∧
  (∀ (k1_h15 : k1_cond15 i k1_t9 = 1#1), ∀ (k1_h18 : k1_cond18 v85 v87 = 1#1), ∀ a, (k1_off1002 v831) a + S1x16.size a ≤ S256x128.size a)
theorem k1_off988_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off988 v831) a + S1x16.size a ≤ S256x128.size a := fun i k1_t9 v85 v87 v831 k1_hw79 k1_h15 k1_h18 => k1_hw79.1 k1_h15 k1_h18
theorem k1_off990_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off990 v831) a + S1x16.size a ≤ S256x128.size a := fun i k1_t9 v85 v87 v831 k1_hw79 k1_h15 k1_h18 => k1_hw79.2.1 k1_h15 k1_h18
theorem k1_off992_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off992 v831) a + S1x16.size a ≤ S256x128.size a := fun i k1_t9 v85 v87 v831 k1_hw79 k1_h15 k1_h18 => k1_hw79.2.2.1 k1_h15 k1_h18
theorem k1_off994_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off994 v831) a + S1x16.size a ≤ S256x128.size a := fun i k1_t9 v85 v87 v831 k1_hw79 k1_h15 k1_h18 => k1_hw79.2.2.2.1 k1_h15 k1_h18
theorem k1_off996_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off996 v831) a + S1x16.size a ≤ S256x128.size a := fun i k1_t9 v85 v87 v831 k1_hw79 k1_h15 k1_h18 => k1_hw79.2.2.2.2.1 k1_h15 k1_h18
theorem k1_off998_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off998 v831) a + S1x16.size a ≤ S256x128.size a := fun i k1_t9 v85 v87 v831 k1_hw79 k1_h15 k1_h18 => k1_hw79.2.2.2.2.2.1 k1_h15 k1_h18
theorem k1_off1000_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off1000 v831) a + S1x16.size a ≤ S256x128.size a := fun i k1_t9 v85 v87 v831 k1_hw79 k1_h15 k1_h18 => k1_hw79.2.2.2.2.2.2.1 k1_h15 k1_h18
theorem k1_off1002_inb : ∀ (i : grid1.Coords) (k1_t9 : Fin (k1_t9_loop i).trips) (v85 : BitVec 32) (v87 : BitVec 32) (v831 : BitVec 32) (k1_hw79 : k1_chk79 i k1_t9 v85 v87 v831), ∀ (k1_h15 : k1_cond15 i k1_t9 = 1#1), ∀ (k1_h18 : k1_cond18 v85 v87 = 1#1), ∀ a, (k1_off1002 v831) a + S1x16.size a ≤ S256x128.size a := fun i k1_t9 v85 v87 v831 k1_hw79 k1_h15 k1_h18 => k1_hw79.2.2.2.2.2.2.2 k1_h15 k1_h18

def k1_off1003 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_405 : BitVec 32 := 16#32
  let v913 : BitVec 32 := Scalar.muli arg18 c16_i32_405
  let c8_i32_406 : BitVec 32 := 8#32
  let v914 : BitVec 32 := Scalar.addi v913 c8_i32_406
  let v915 : Index := Scalar.indexCast v914
  let c112_407 : Index := 112#32
  ![v915.toNat, 112]
def k1_off1004 (v923 : BitVec 32) : Fin 2 → Nat :=
  let v926 : Index := Scalar.indexCast v923
  let c0_409 : Index := 0#32
  ![v926.toNat, 0]

def k1_off1005 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_410 : BitVec 32 := 16#32
  let v928 : BitVec 32 := Scalar.muli arg18 c16_i32_410
  let c9_i32 : BitVec 32 := 9#32
  let v929 : BitVec 32 := Scalar.addi v928 c9_i32
  let v930 : Index := Scalar.indexCast v929
  let c0_411 : Index := 0#32
  ![v930.toNat, 0]
def k1_off1006 (v923 : BitVec 32) : Fin 2 → Nat :=
  let v937 : Index := Scalar.indexCast v923
  let c16_413 : Index := 16#32
  ![v937.toNat, 16]
def k1_off1007 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_414 : BitVec 32 := 16#32
  let v939 : BitVec 32 := Scalar.muli arg18 c16_i32_414
  let c9_i32_415 : BitVec 32 := 9#32
  let v940 : BitVec 32 := Scalar.addi v939 c9_i32_415
  let v941 : Index := Scalar.indexCast v940
  let c16_416 : Index := 16#32
  ![v941.toNat, 16]
def k1_off1008 (v923 : BitVec 32) : Fin 2 → Nat :=
  let v948 : Index := Scalar.indexCast v923
  let c32_418 : Index := 32#32
  ![v948.toNat, 32]
def k1_off1009 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_419 : BitVec 32 := 16#32
  let v950 : BitVec 32 := Scalar.muli arg18 c16_i32_419
  let c9_i32_420 : BitVec 32 := 9#32
  let v951 : BitVec 32 := Scalar.addi v950 c9_i32_420
  let v952 : Index := Scalar.indexCast v951
  let c32_421 : Index := 32#32
  ![v952.toNat, 32]
def k1_off1010 (v923 : BitVec 32) : Fin 2 → Nat :=
  let v959 : Index := Scalar.indexCast v923
  let c48_423 : Index := 48#32
  ![v959.toNat, 48]
def k1_off1011 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_424 : BitVec 32 := 16#32
  let v961 : BitVec 32 := Scalar.muli arg18 c16_i32_424
  let c9_i32_425 : BitVec 32 := 9#32
  let v962 : BitVec 32 := Scalar.addi v961 c9_i32_425
  let v963 : Index := Scalar.indexCast v962
  let c48_426 : Index := 48#32
  ![v963.toNat, 48]
def k1_off1012 (v923 : BitVec 32) : Fin 2 → Nat :=
  let v970 : Index := Scalar.indexCast v923
  let c64_428 : Index := 64#32
  ![v970.toNat, 64]
def k1_off1013 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_429 : BitVec 32 := 16#32
  let v972 : BitVec 32 := Scalar.muli arg18 c16_i32_429
  let c9_i32_430 : BitVec 32 := 9#32
  let v973 : BitVec 32 := Scalar.addi v972 c9_i32_430
  let v974 : Index := Scalar.indexCast v973
  let c64_431 : Index := 64#32
  ![v974.toNat, 64]
def k1_off1014 (v923 : BitVec 32) : Fin 2 → Nat :=
  let v981 : Index := Scalar.indexCast v923
  let c80_433 : Index := 80#32
  ![v981.toNat, 80]
def k1_off1015 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_434 : BitVec 32 := 16#32
  let v983 : BitVec 32 := Scalar.muli arg18 c16_i32_434
  let c9_i32_435 : BitVec 32 := 9#32
  let v984 : BitVec 32 := Scalar.addi v983 c9_i32_435
  let v985 : Index := Scalar.indexCast v984
  let c80_436 : Index := 80#32
  ![v985.toNat, 80]
def k1_off1016 (v923 : BitVec 32) : Fin 2 → Nat :=
  let v992 : Index := Scalar.indexCast v923
  let c96_438 : Index := 96#32
  ![v992.toNat, 96]
def k1_off1017 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_439 : BitVec 32 := 16#32
  let v994 : BitVec 32 := Scalar.muli arg18 c16_i32_439
  let c9_i32_440 : BitVec 32 := 9#32
  let v995 : BitVec 32 := Scalar.addi v994 c9_i32_440
  let v996 : Index := Scalar.indexCast v995
  let c96_441 : Index := 96#32
  ![v996.toNat, 96]
def k1_off1018 (v923 : BitVec 32) : Fin 2 → Nat :=
  let v1003 : Index := Scalar.indexCast v923
  let c112_443 : Index := 112#32
  ![v1003.toNat, 112]

def k1_chk80 (i : grid1.Coords) (k1_t9 : Fin (k1_t9_loop i).trips) (v85 : BitVec 32) (v87 : BitVec 32) (v923 : BitVec 32) : Prop :=
  (∀ (k1_h15 : k1_cond15 i k1_t9 = 1#1), ∀ (k1_h18 : k1_cond18 v85 v87 = 1#1), ∀ a, (k1_off1004 v923) a + S1x16.size a ≤ S256x128.size a) ∧
  (∀ (k1_h15 : k1_cond15 i k1_t9 = 1#1), ∀ (k1_h18 : k1_cond18 v85 v87 = 1#1), ∀ a, (k1_off1006 v923) a + S1x16.size a ≤ S256x128.size a) ∧
  (∀ (k1_h15 : k1_cond15 i k1_t9 = 1#1), ∀ (k1_h18 : k1_cond18 v85 v87 = 1#1), ∀ a, (k1_off1008 v923) a + S1x16.size a ≤ S256x128.size a) ∧
  (∀ (k1_h15 : k1_cond15 i k1_t9 = 1#1), ∀ (k1_h18 : k1_cond18 v85 v87 = 1#1), ∀ a, (k1_off1010 v923) a + S1x16.size a ≤ S256x128.size a) ∧
  (∀ (k1_h15 : k1_cond15 i k1_t9 = 1#1), ∀ (k1_h18 : k1_cond18 v85 v87 = 1#1), ∀ a, (k1_off1012 v923) a + S1x16.size a ≤ S256x128.size a) ∧
  (∀ (k1_h15 : k1_cond15 i k1_t9 = 1#1), ∀ (k1_h18 : k1_cond18 v85 v87 = 1#1), ∀ a, (k1_off1014 v923) a + S1x16.size a ≤ S256x128.size a) ∧
  (∀ (k1_h15 : k1_cond15 i k1_t9 = 1#1), ∀ (k1_h18 : k1_cond18 v85 v87 = 1#1), ∀ a, (k1_off1016 v923) a + S1x16.size a ≤ S256x128.size a) ∧
  (∀ (k1_h15 : k1_cond15 i k1_t9 = 1#1), ∀ (k1_h18 : k1_cond18 v85 v87 = 1#1), ∀ a, (k1_off1018 v923) a + S1x16.size a ≤ S256x128.size a)
theorem k1_off1004_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1004 v923) a + S1x16.size a ≤ S256x128.size a := fun i k1_t9 v85 v87 v923 k1_hw80 k1_h15 k1_h18 => k1_hw80.1 k1_h15 k1_h18
theorem k1_off1006_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1006 v923) a + S1x16.size a ≤ S256x128.size a := fun i k1_t9 v85 v87 v923 k1_hw80 k1_h15 k1_h18 => k1_hw80.2.1 k1_h15 k1_h18
theorem k1_off1008_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1008 v923) a + S1x16.size a ≤ S256x128.size a := fun i k1_t9 v85 v87 v923 k1_hw80 k1_h15 k1_h18 => k1_hw80.2.2.1 k1_h15 k1_h18
theorem k1_off1010_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1010 v923) a + S1x16.size a ≤ S256x128.size a := fun i k1_t9 v85 v87 v923 k1_hw80 k1_h15 k1_h18 => k1_hw80.2.2.2.1 k1_h15 k1_h18
theorem k1_off1012_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1012 v923) a + S1x16.size a ≤ S256x128.size a := fun i k1_t9 v85 v87 v923 k1_hw80 k1_h15 k1_h18 => k1_hw80.2.2.2.2.1 k1_h15 k1_h18
theorem k1_off1014_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1014 v923) a + S1x16.size a ≤ S256x128.size a := fun i k1_t9 v85 v87 v923 k1_hw80 k1_h15 k1_h18 => k1_hw80.2.2.2.2.2.1 k1_h15 k1_h18
theorem k1_off1016_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1016 v923) a + S1x16.size a ≤ S256x128.size a := fun i k1_t9 v85 v87 v923 k1_hw80 k1_h15 k1_h18 => k1_hw80.2.2.2.2.2.2.1 k1_h15 k1_h18
theorem k1_off1018_inb : ∀ (i : grid1.Coords) (k1_t9 : Fin (k1_t9_loop i).trips) (v85 : BitVec 32) (v87 : BitVec 32) (v923 : BitVec 32) (k1_hw80 : k1_chk80 i k1_t9 v85 v87 v923), ∀ (k1_h15 : k1_cond15 i k1_t9 = 1#1), ∀ (k1_h18 : k1_cond18 v85 v87 = 1#1), ∀ a, (k1_off1018 v923) a + S1x16.size a ≤ S256x128.size a := fun i k1_t9 v85 v87 v923 k1_hw80 k1_h15 k1_h18 => k1_hw80.2.2.2.2.2.2.2 k1_h15 k1_h18

def k1_off1019 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_444 : BitVec 32 := 16#32
  let v1005 : BitVec 32 := Scalar.muli arg18 c16_i32_444
  let c9_i32_445 : BitVec 32 := 9#32
  let v1006 : BitVec 32 := Scalar.addi v1005 c9_i32_445
  let v1007 : Index := Scalar.indexCast v1006
  let c112_446 : Index := 112#32
  ![v1007.toNat, 112]
def k1_off1020 (v1015 : BitVec 32) : Fin 2 → Nat :=
  let v1018 : Index := Scalar.indexCast v1015
  let c0_448 : Index := 0#32
  ![v1018.toNat, 0]

def k1_off1021 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_449 : BitVec 32 := 16#32
  let v1020 : BitVec 32 := Scalar.muli arg18 c16_i32_449
  let c10_i32 : BitVec 32 := 10#32
  let v1021 : BitVec 32 := Scalar.addi v1020 c10_i32
  let v1022 : Index := Scalar.indexCast v1021
  let c0_450 : Index := 0#32
  ![v1022.toNat, 0]
def k1_off1022 (v1015 : BitVec 32) : Fin 2 → Nat :=
  let v1029 : Index := Scalar.indexCast v1015
  let c16_452 : Index := 16#32
  ![v1029.toNat, 16]
def k1_off1023 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_453 : BitVec 32 := 16#32
  let v1031 : BitVec 32 := Scalar.muli arg18 c16_i32_453
  let c10_i32_454 : BitVec 32 := 10#32
  let v1032 : BitVec 32 := Scalar.addi v1031 c10_i32_454
  let v1033 : Index := Scalar.indexCast v1032
  let c16_455 : Index := 16#32
  ![v1033.toNat, 16]
def k1_off1024 (v1015 : BitVec 32) : Fin 2 → Nat :=
  let v1040 : Index := Scalar.indexCast v1015
  let c32_457 : Index := 32#32
  ![v1040.toNat, 32]
def k1_off1025 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_458 : BitVec 32 := 16#32
  let v1042 : BitVec 32 := Scalar.muli arg18 c16_i32_458
  let c10_i32_459 : BitVec 32 := 10#32
  let v1043 : BitVec 32 := Scalar.addi v1042 c10_i32_459
  let v1044 : Index := Scalar.indexCast v1043
  let c32_460 : Index := 32#32
  ![v1044.toNat, 32]
def k1_off1026 (v1015 : BitVec 32) : Fin 2 → Nat :=
  let v1051 : Index := Scalar.indexCast v1015
  let c48_462 : Index := 48#32
  ![v1051.toNat, 48]
def k1_off1027 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_463 : BitVec 32 := 16#32
  let v1053 : BitVec 32 := Scalar.muli arg18 c16_i32_463
  let c10_i32_464 : BitVec 32 := 10#32
  let v1054 : BitVec 32 := Scalar.addi v1053 c10_i32_464
  let v1055 : Index := Scalar.indexCast v1054
  let c48_465 : Index := 48#32
  ![v1055.toNat, 48]
def k1_off1028 (v1015 : BitVec 32) : Fin 2 → Nat :=
  let v1062 : Index := Scalar.indexCast v1015
  let c64_467 : Index := 64#32
  ![v1062.toNat, 64]
def k1_off1029 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_468 : BitVec 32 := 16#32
  let v1064 : BitVec 32 := Scalar.muli arg18 c16_i32_468
  let c10_i32_469 : BitVec 32 := 10#32
  let v1065 : BitVec 32 := Scalar.addi v1064 c10_i32_469
  let v1066 : Index := Scalar.indexCast v1065
  let c64_470 : Index := 64#32
  ![v1066.toNat, 64]
def k1_off1030 (v1015 : BitVec 32) : Fin 2 → Nat :=
  let v1073 : Index := Scalar.indexCast v1015
  let c80_472 : Index := 80#32
  ![v1073.toNat, 80]
def k1_off1031 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_473 : BitVec 32 := 16#32
  let v1075 : BitVec 32 := Scalar.muli arg18 c16_i32_473
  let c10_i32_474 : BitVec 32 := 10#32
  let v1076 : BitVec 32 := Scalar.addi v1075 c10_i32_474
  let v1077 : Index := Scalar.indexCast v1076
  let c80_475 : Index := 80#32
  ![v1077.toNat, 80]
def k1_off1032 (v1015 : BitVec 32) : Fin 2 → Nat :=
  let v1084 : Index := Scalar.indexCast v1015
  let c96_477 : Index := 96#32
  ![v1084.toNat, 96]
def k1_off1033 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_478 : BitVec 32 := 16#32
  let v1086 : BitVec 32 := Scalar.muli arg18 c16_i32_478
  let c10_i32_479 : BitVec 32 := 10#32
  let v1087 : BitVec 32 := Scalar.addi v1086 c10_i32_479
  let v1088 : Index := Scalar.indexCast v1087
  let c96_480 : Index := 96#32
  ![v1088.toNat, 96]
def k1_off1034 (v1015 : BitVec 32) : Fin 2 → Nat :=
  let v1095 : Index := Scalar.indexCast v1015
  let c112_482 : Index := 112#32
  ![v1095.toNat, 112]

def k1_chk81 (i : grid1.Coords) (k1_t9 : Fin (k1_t9_loop i).trips) (v85 : BitVec 32) (v87 : BitVec 32) (v1015 : BitVec 32) : Prop :=
  (∀ (k1_h15 : k1_cond15 i k1_t9 = 1#1), ∀ (k1_h18 : k1_cond18 v85 v87 = 1#1), ∀ a, (k1_off1020 v1015) a + S1x16.size a ≤ S256x128.size a) ∧
  (∀ (k1_h15 : k1_cond15 i k1_t9 = 1#1), ∀ (k1_h18 : k1_cond18 v85 v87 = 1#1), ∀ a, (k1_off1022 v1015) a + S1x16.size a ≤ S256x128.size a) ∧
  (∀ (k1_h15 : k1_cond15 i k1_t9 = 1#1), ∀ (k1_h18 : k1_cond18 v85 v87 = 1#1), ∀ a, (k1_off1024 v1015) a + S1x16.size a ≤ S256x128.size a) ∧
  (∀ (k1_h15 : k1_cond15 i k1_t9 = 1#1), ∀ (k1_h18 : k1_cond18 v85 v87 = 1#1), ∀ a, (k1_off1026 v1015) a + S1x16.size a ≤ S256x128.size a) ∧
  (∀ (k1_h15 : k1_cond15 i k1_t9 = 1#1), ∀ (k1_h18 : k1_cond18 v85 v87 = 1#1), ∀ a, (k1_off1028 v1015) a + S1x16.size a ≤ S256x128.size a) ∧
  (∀ (k1_h15 : k1_cond15 i k1_t9 = 1#1), ∀ (k1_h18 : k1_cond18 v85 v87 = 1#1), ∀ a, (k1_off1030 v1015) a + S1x16.size a ≤ S256x128.size a) ∧
  (∀ (k1_h15 : k1_cond15 i k1_t9 = 1#1), ∀ (k1_h18 : k1_cond18 v85 v87 = 1#1), ∀ a, (k1_off1032 v1015) a + S1x16.size a ≤ S256x128.size a) ∧
  (∀ (k1_h15 : k1_cond15 i k1_t9 = 1#1), ∀ (k1_h18 : k1_cond18 v85 v87 = 1#1), ∀ a, (k1_off1034 v1015) a + S1x16.size a ≤ S256x128.size a)
theorem k1_off1020_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1020 v1015) a + S1x16.size a ≤ S256x128.size a := fun i k1_t9 v85 v87 v1015 k1_hw81 k1_h15 k1_h18 => k1_hw81.1 k1_h15 k1_h18
theorem k1_off1022_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1022 v1015) a + S1x16.size a ≤ S256x128.size a := fun i k1_t9 v85 v87 v1015 k1_hw81 k1_h15 k1_h18 => k1_hw81.2.1 k1_h15 k1_h18
theorem k1_off1024_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1024 v1015) a + S1x16.size a ≤ S256x128.size a := fun i k1_t9 v85 v87 v1015 k1_hw81 k1_h15 k1_h18 => k1_hw81.2.2.1 k1_h15 k1_h18
theorem k1_off1026_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1026 v1015) a + S1x16.size a ≤ S256x128.size a := fun i k1_t9 v85 v87 v1015 k1_hw81 k1_h15 k1_h18 => k1_hw81.2.2.2.1 k1_h15 k1_h18
theorem k1_off1028_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1028 v1015) a + S1x16.size a ≤ S256x128.size a := fun i k1_t9 v85 v87 v1015 k1_hw81 k1_h15 k1_h18 => k1_hw81.2.2.2.2.1 k1_h15 k1_h18
theorem k1_off1030_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1030 v1015) a + S1x16.size a ≤ S256x128.size a := fun i k1_t9 v85 v87 v1015 k1_hw81 k1_h15 k1_h18 => k1_hw81.2.2.2.2.2.1 k1_h15 k1_h18
theorem k1_off1032_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1032 v1015) a + S1x16.size a ≤ S256x128.size a := fun i k1_t9 v85 v87 v1015 k1_hw81 k1_h15 k1_h18 => k1_hw81.2.2.2.2.2.2.1 k1_h15 k1_h18
theorem k1_off1034_inb : ∀ (i : grid1.Coords) (k1_t9 : Fin (k1_t9_loop i).trips) (v85 : BitVec 32) (v87 : BitVec 32) (v1015 : BitVec 32) (k1_hw81 : k1_chk81 i k1_t9 v85 v87 v1015), ∀ (k1_h15 : k1_cond15 i k1_t9 = 1#1), ∀ (k1_h18 : k1_cond18 v85 v87 = 1#1), ∀ a, (k1_off1034 v1015) a + S1x16.size a ≤ S256x128.size a := fun i k1_t9 v85 v87 v1015 k1_hw81 k1_h15 k1_h18 => k1_hw81.2.2.2.2.2.2.2 k1_h15 k1_h18

def k1_off1035 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_483 : BitVec 32 := 16#32
  let v1097 : BitVec 32 := Scalar.muli arg18 c16_i32_483
  let c10_i32_484 : BitVec 32 := 10#32
  let v1098 : BitVec 32 := Scalar.addi v1097 c10_i32_484
  let v1099 : Index := Scalar.indexCast v1098
  let c112_485 : Index := 112#32
  ![v1099.toNat, 112]
def k1_off1036 (v1107 : BitVec 32) : Fin 2 → Nat :=
  let v1110 : Index := Scalar.indexCast v1107
  let c0_487 : Index := 0#32
  ![v1110.toNat, 0]

def k1_off1037 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_488 : BitVec 32 := 16#32
  let v1112 : BitVec 32 := Scalar.muli arg18 c16_i32_488
  let c11_i32 : BitVec 32 := 11#32
  let v1113 : BitVec 32 := Scalar.addi v1112 c11_i32
  let v1114 : Index := Scalar.indexCast v1113
  let c0_489 : Index := 0#32
  ![v1114.toNat, 0]
def k1_off1038 (v1107 : BitVec 32) : Fin 2 → Nat :=
  let v1121 : Index := Scalar.indexCast v1107
  let c16_491 : Index := 16#32
  ![v1121.toNat, 16]
def k1_off1039 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_492 : BitVec 32 := 16#32
  let v1123 : BitVec 32 := Scalar.muli arg18 c16_i32_492
  let c11_i32_493 : BitVec 32 := 11#32
  let v1124 : BitVec 32 := Scalar.addi v1123 c11_i32_493
  let v1125 : Index := Scalar.indexCast v1124
  let c16_494 : Index := 16#32
  ![v1125.toNat, 16]
def k1_off1040 (v1107 : BitVec 32) : Fin 2 → Nat :=
  let v1132 : Index := Scalar.indexCast v1107
  let c32_496 : Index := 32#32
  ![v1132.toNat, 32]
def k1_off1041 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_497 : BitVec 32 := 16#32
  let v1134 : BitVec 32 := Scalar.muli arg18 c16_i32_497
  let c11_i32_498 : BitVec 32 := 11#32
  let v1135 : BitVec 32 := Scalar.addi v1134 c11_i32_498
  let v1136 : Index := Scalar.indexCast v1135
  let c32_499 : Index := 32#32
  ![v1136.toNat, 32]
def k1_off1042 (v1107 : BitVec 32) : Fin 2 → Nat :=
  let v1143 : Index := Scalar.indexCast v1107
  let c48_501 : Index := 48#32
  ![v1143.toNat, 48]
def k1_off1043 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_502 : BitVec 32 := 16#32
  let v1145 : BitVec 32 := Scalar.muli arg18 c16_i32_502
  let c11_i32_503 : BitVec 32 := 11#32
  let v1146 : BitVec 32 := Scalar.addi v1145 c11_i32_503
  let v1147 : Index := Scalar.indexCast v1146
  let c48_504 : Index := 48#32
  ![v1147.toNat, 48]
def k1_off1044 (v1107 : BitVec 32) : Fin 2 → Nat :=
  let v1154 : Index := Scalar.indexCast v1107
  let c64_506 : Index := 64#32
  ![v1154.toNat, 64]
def k1_off1045 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_507 : BitVec 32 := 16#32
  let v1156 : BitVec 32 := Scalar.muli arg18 c16_i32_507
  let c11_i32_508 : BitVec 32 := 11#32
  let v1157 : BitVec 32 := Scalar.addi v1156 c11_i32_508
  let v1158 : Index := Scalar.indexCast v1157
  let c64_509 : Index := 64#32
  ![v1158.toNat, 64]
def k1_off1046 (v1107 : BitVec 32) : Fin 2 → Nat :=
  let v1165 : Index := Scalar.indexCast v1107
  let c80_511 : Index := 80#32
  ![v1165.toNat, 80]
def k1_off1047 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_512 : BitVec 32 := 16#32
  let v1167 : BitVec 32 := Scalar.muli arg18 c16_i32_512
  let c11_i32_513 : BitVec 32 := 11#32
  let v1168 : BitVec 32 := Scalar.addi v1167 c11_i32_513
  let v1169 : Index := Scalar.indexCast v1168
  let c80_514 : Index := 80#32
  ![v1169.toNat, 80]
def k1_off1048 (v1107 : BitVec 32) : Fin 2 → Nat :=
  let v1176 : Index := Scalar.indexCast v1107
  let c96_516 : Index := 96#32
  ![v1176.toNat, 96]
def k1_off1049 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_517 : BitVec 32 := 16#32
  let v1178 : BitVec 32 := Scalar.muli arg18 c16_i32_517
  let c11_i32_518 : BitVec 32 := 11#32
  let v1179 : BitVec 32 := Scalar.addi v1178 c11_i32_518
  let v1180 : Index := Scalar.indexCast v1179
  let c96_519 : Index := 96#32
  ![v1180.toNat, 96]
def k1_off1050 (v1107 : BitVec 32) : Fin 2 → Nat :=
  let v1187 : Index := Scalar.indexCast v1107
  let c112_521 : Index := 112#32
  ![v1187.toNat, 112]

def k1_chk82 (i : grid1.Coords) (k1_t9 : Fin (k1_t9_loop i).trips) (v85 : BitVec 32) (v87 : BitVec 32) (v1107 : BitVec 32) : Prop :=
  (∀ (k1_h15 : k1_cond15 i k1_t9 = 1#1), ∀ (k1_h18 : k1_cond18 v85 v87 = 1#1), ∀ a, (k1_off1036 v1107) a + S1x16.size a ≤ S256x128.size a) ∧
  (∀ (k1_h15 : k1_cond15 i k1_t9 = 1#1), ∀ (k1_h18 : k1_cond18 v85 v87 = 1#1), ∀ a, (k1_off1038 v1107) a + S1x16.size a ≤ S256x128.size a) ∧
  (∀ (k1_h15 : k1_cond15 i k1_t9 = 1#1), ∀ (k1_h18 : k1_cond18 v85 v87 = 1#1), ∀ a, (k1_off1040 v1107) a + S1x16.size a ≤ S256x128.size a) ∧
  (∀ (k1_h15 : k1_cond15 i k1_t9 = 1#1), ∀ (k1_h18 : k1_cond18 v85 v87 = 1#1), ∀ a, (k1_off1042 v1107) a + S1x16.size a ≤ S256x128.size a) ∧
  (∀ (k1_h15 : k1_cond15 i k1_t9 = 1#1), ∀ (k1_h18 : k1_cond18 v85 v87 = 1#1), ∀ a, (k1_off1044 v1107) a + S1x16.size a ≤ S256x128.size a) ∧
  (∀ (k1_h15 : k1_cond15 i k1_t9 = 1#1), ∀ (k1_h18 : k1_cond18 v85 v87 = 1#1), ∀ a, (k1_off1046 v1107) a + S1x16.size a ≤ S256x128.size a) ∧
  (∀ (k1_h15 : k1_cond15 i k1_t9 = 1#1), ∀ (k1_h18 : k1_cond18 v85 v87 = 1#1), ∀ a, (k1_off1048 v1107) a + S1x16.size a ≤ S256x128.size a) ∧
  (∀ (k1_h15 : k1_cond15 i k1_t9 = 1#1), ∀ (k1_h18 : k1_cond18 v85 v87 = 1#1), ∀ a, (k1_off1050 v1107) a + S1x16.size a ≤ S256x128.size a)
theorem k1_off1036_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1036 v1107) a + S1x16.size a ≤ S256x128.size a := fun i k1_t9 v85 v87 v1107 k1_hw82 k1_h15 k1_h18 => k1_hw82.1 k1_h15 k1_h18
theorem k1_off1038_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1038 v1107) a + S1x16.size a ≤ S256x128.size a := fun i k1_t9 v85 v87 v1107 k1_hw82 k1_h15 k1_h18 => k1_hw82.2.1 k1_h15 k1_h18
theorem k1_off1040_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1040 v1107) a + S1x16.size a ≤ S256x128.size a := fun i k1_t9 v85 v87 v1107 k1_hw82 k1_h15 k1_h18 => k1_hw82.2.2.1 k1_h15 k1_h18
theorem k1_off1042_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1042 v1107) a + S1x16.size a ≤ S256x128.size a := fun i k1_t9 v85 v87 v1107 k1_hw82 k1_h15 k1_h18 => k1_hw82.2.2.2.1 k1_h15 k1_h18
theorem k1_off1044_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1044 v1107) a + S1x16.size a ≤ S256x128.size a := fun i k1_t9 v85 v87 v1107 k1_hw82 k1_h15 k1_h18 => k1_hw82.2.2.2.2.1 k1_h15 k1_h18
theorem k1_off1046_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1046 v1107) a + S1x16.size a ≤ S256x128.size a := fun i k1_t9 v85 v87 v1107 k1_hw82 k1_h15 k1_h18 => k1_hw82.2.2.2.2.2.1 k1_h15 k1_h18
theorem k1_off1048_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1048 v1107) a + S1x16.size a ≤ S256x128.size a := fun i k1_t9 v85 v87 v1107 k1_hw82 k1_h15 k1_h18 => k1_hw82.2.2.2.2.2.2.1 k1_h15 k1_h18
theorem k1_off1050_inb : ∀ (i : grid1.Coords) (k1_t9 : Fin (k1_t9_loop i).trips) (v85 : BitVec 32) (v87 : BitVec 32) (v1107 : BitVec 32) (k1_hw82 : k1_chk82 i k1_t9 v85 v87 v1107), ∀ (k1_h15 : k1_cond15 i k1_t9 = 1#1), ∀ (k1_h18 : k1_cond18 v85 v87 = 1#1), ∀ a, (k1_off1050 v1107) a + S1x16.size a ≤ S256x128.size a := fun i k1_t9 v85 v87 v1107 k1_hw82 k1_h15 k1_h18 => k1_hw82.2.2.2.2.2.2.2 k1_h15 k1_h18

def k1_off1051 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_522 : BitVec 32 := 16#32
  let v1189 : BitVec 32 := Scalar.muli arg18 c16_i32_522
  let c11_i32_523 : BitVec 32 := 11#32
  let v1190 : BitVec 32 := Scalar.addi v1189 c11_i32_523
  let v1191 : Index := Scalar.indexCast v1190
  let c112_524 : Index := 112#32
  ![v1191.toNat, 112]
def k1_off1052 (v1199 : BitVec 32) : Fin 2 → Nat :=
  let v1202 : Index := Scalar.indexCast v1199
  let c0_526 : Index := 0#32
  ![v1202.toNat, 0]

def k1_off1053 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_527 : BitVec 32 := 16#32
  let v1204 : BitVec 32 := Scalar.muli arg18 c16_i32_527
  let c12_i32 : BitVec 32 := 12#32
  let v1205 : BitVec 32 := Scalar.addi v1204 c12_i32
  let v1206 : Index := Scalar.indexCast v1205
  let c0_528 : Index := 0#32
  ![v1206.toNat, 0]
def k1_off1054 (v1199 : BitVec 32) : Fin 2 → Nat :=
  let v1213 : Index := Scalar.indexCast v1199
  let c16_530 : Index := 16#32
  ![v1213.toNat, 16]
def k1_off1055 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_531 : BitVec 32 := 16#32
  let v1215 : BitVec 32 := Scalar.muli arg18 c16_i32_531
  let c12_i32_532 : BitVec 32 := 12#32
  let v1216 : BitVec 32 := Scalar.addi v1215 c12_i32_532
  let v1217 : Index := Scalar.indexCast v1216
  let c16_533 : Index := 16#32
  ![v1217.toNat, 16]
def k1_off1056 (v1199 : BitVec 32) : Fin 2 → Nat :=
  let v1224 : Index := Scalar.indexCast v1199
  let c32_535 : Index := 32#32
  ![v1224.toNat, 32]
def k1_off1057 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_536 : BitVec 32 := 16#32
  let v1226 : BitVec 32 := Scalar.muli arg18 c16_i32_536
  let c12_i32_537 : BitVec 32 := 12#32
  let v1227 : BitVec 32 := Scalar.addi v1226 c12_i32_537
  let v1228 : Index := Scalar.indexCast v1227
  let c32_538 : Index := 32#32
  ![v1228.toNat, 32]
def k1_off1058 (v1199 : BitVec 32) : Fin 2 → Nat :=
  let v1235 : Index := Scalar.indexCast v1199
  let c48_540 : Index := 48#32
  ![v1235.toNat, 48]
def k1_off1059 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_541 : BitVec 32 := 16#32
  let v1237 : BitVec 32 := Scalar.muli arg18 c16_i32_541
  let c12_i32_542 : BitVec 32 := 12#32
  let v1238 : BitVec 32 := Scalar.addi v1237 c12_i32_542
  let v1239 : Index := Scalar.indexCast v1238
  let c48_543 : Index := 48#32
  ![v1239.toNat, 48]
def k1_off1060 (v1199 : BitVec 32) : Fin 2 → Nat :=
  let v1246 : Index := Scalar.indexCast v1199
  let c64_545 : Index := 64#32
  ![v1246.toNat, 64]
def k1_off1061 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_546 : BitVec 32 := 16#32
  let v1248 : BitVec 32 := Scalar.muli arg18 c16_i32_546
  let c12_i32_547 : BitVec 32 := 12#32
  let v1249 : BitVec 32 := Scalar.addi v1248 c12_i32_547
  let v1250 : Index := Scalar.indexCast v1249
  let c64_548 : Index := 64#32
  ![v1250.toNat, 64]
def k1_off1062 (v1199 : BitVec 32) : Fin 2 → Nat :=
  let v1257 : Index := Scalar.indexCast v1199
  let c80_550 : Index := 80#32
  ![v1257.toNat, 80]
def k1_off1063 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_551 : BitVec 32 := 16#32
  let v1259 : BitVec 32 := Scalar.muli arg18 c16_i32_551
  let c12_i32_552 : BitVec 32 := 12#32
  let v1260 : BitVec 32 := Scalar.addi v1259 c12_i32_552
  let v1261 : Index := Scalar.indexCast v1260
  let c80_553 : Index := 80#32
  ![v1261.toNat, 80]
def k1_off1064 (v1199 : BitVec 32) : Fin 2 → Nat :=
  let v1268 : Index := Scalar.indexCast v1199
  let c96_555 : Index := 96#32
  ![v1268.toNat, 96]
def k1_off1065 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_556 : BitVec 32 := 16#32
  let v1270 : BitVec 32 := Scalar.muli arg18 c16_i32_556
  let c12_i32_557 : BitVec 32 := 12#32
  let v1271 : BitVec 32 := Scalar.addi v1270 c12_i32_557
  let v1272 : Index := Scalar.indexCast v1271
  let c96_558 : Index := 96#32
  ![v1272.toNat, 96]
def k1_off1066 (v1199 : BitVec 32) : Fin 2 → Nat :=
  let v1279 : Index := Scalar.indexCast v1199
  let c112_560 : Index := 112#32
  ![v1279.toNat, 112]

def k1_chk83 (i : grid1.Coords) (k1_t9 : Fin (k1_t9_loop i).trips) (v85 : BitVec 32) (v87 : BitVec 32) (v1199 : BitVec 32) : Prop :=
  (∀ (k1_h15 : k1_cond15 i k1_t9 = 1#1), ∀ (k1_h18 : k1_cond18 v85 v87 = 1#1), ∀ a, (k1_off1052 v1199) a + S1x16.size a ≤ S256x128.size a) ∧
  (∀ (k1_h15 : k1_cond15 i k1_t9 = 1#1), ∀ (k1_h18 : k1_cond18 v85 v87 = 1#1), ∀ a, (k1_off1054 v1199) a + S1x16.size a ≤ S256x128.size a) ∧
  (∀ (k1_h15 : k1_cond15 i k1_t9 = 1#1), ∀ (k1_h18 : k1_cond18 v85 v87 = 1#1), ∀ a, (k1_off1056 v1199) a + S1x16.size a ≤ S256x128.size a) ∧
  (∀ (k1_h15 : k1_cond15 i k1_t9 = 1#1), ∀ (k1_h18 : k1_cond18 v85 v87 = 1#1), ∀ a, (k1_off1058 v1199) a + S1x16.size a ≤ S256x128.size a) ∧
  (∀ (k1_h15 : k1_cond15 i k1_t9 = 1#1), ∀ (k1_h18 : k1_cond18 v85 v87 = 1#1), ∀ a, (k1_off1060 v1199) a + S1x16.size a ≤ S256x128.size a) ∧
  (∀ (k1_h15 : k1_cond15 i k1_t9 = 1#1), ∀ (k1_h18 : k1_cond18 v85 v87 = 1#1), ∀ a, (k1_off1062 v1199) a + S1x16.size a ≤ S256x128.size a) ∧
  (∀ (k1_h15 : k1_cond15 i k1_t9 = 1#1), ∀ (k1_h18 : k1_cond18 v85 v87 = 1#1), ∀ a, (k1_off1064 v1199) a + S1x16.size a ≤ S256x128.size a) ∧
  (∀ (k1_h15 : k1_cond15 i k1_t9 = 1#1), ∀ (k1_h18 : k1_cond18 v85 v87 = 1#1), ∀ a, (k1_off1066 v1199) a + S1x16.size a ≤ S256x128.size a)
theorem k1_off1052_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1052 v1199) a + S1x16.size a ≤ S256x128.size a := fun i k1_t9 v85 v87 v1199 k1_hw83 k1_h15 k1_h18 => k1_hw83.1 k1_h15 k1_h18
theorem k1_off1054_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1054 v1199) a + S1x16.size a ≤ S256x128.size a := fun i k1_t9 v85 v87 v1199 k1_hw83 k1_h15 k1_h18 => k1_hw83.2.1 k1_h15 k1_h18
theorem k1_off1056_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1056 v1199) a + S1x16.size a ≤ S256x128.size a := fun i k1_t9 v85 v87 v1199 k1_hw83 k1_h15 k1_h18 => k1_hw83.2.2.1 k1_h15 k1_h18
theorem k1_off1058_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1058 v1199) a + S1x16.size a ≤ S256x128.size a := fun i k1_t9 v85 v87 v1199 k1_hw83 k1_h15 k1_h18 => k1_hw83.2.2.2.1 k1_h15 k1_h18
theorem k1_off1060_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1060 v1199) a + S1x16.size a ≤ S256x128.size a := fun i k1_t9 v85 v87 v1199 k1_hw83 k1_h15 k1_h18 => k1_hw83.2.2.2.2.1 k1_h15 k1_h18
theorem k1_off1062_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1062 v1199) a + S1x16.size a ≤ S256x128.size a := fun i k1_t9 v85 v87 v1199 k1_hw83 k1_h15 k1_h18 => k1_hw83.2.2.2.2.2.1 k1_h15 k1_h18
theorem k1_off1064_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1064 v1199) a + S1x16.size a ≤ S256x128.size a := fun i k1_t9 v85 v87 v1199 k1_hw83 k1_h15 k1_h18 => k1_hw83.2.2.2.2.2.2.1 k1_h15 k1_h18
theorem k1_off1066_inb : ∀ (i : grid1.Coords) (k1_t9 : Fin (k1_t9_loop i).trips) (v85 : BitVec 32) (v87 : BitVec 32) (v1199 : BitVec 32) (k1_hw83 : k1_chk83 i k1_t9 v85 v87 v1199), ∀ (k1_h15 : k1_cond15 i k1_t9 = 1#1), ∀ (k1_h18 : k1_cond18 v85 v87 = 1#1), ∀ a, (k1_off1066 v1199) a + S1x16.size a ≤ S256x128.size a := fun i k1_t9 v85 v87 v1199 k1_hw83 k1_h15 k1_h18 => k1_hw83.2.2.2.2.2.2.2 k1_h15 k1_h18

def k1_off1067 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_561 : BitVec 32 := 16#32
  let v1281 : BitVec 32 := Scalar.muli arg18 c16_i32_561
  let c12_i32_562 : BitVec 32 := 12#32
  let v1282 : BitVec 32 := Scalar.addi v1281 c12_i32_562
  let v1283 : Index := Scalar.indexCast v1282
  let c112_563 : Index := 112#32
  ![v1283.toNat, 112]
def k1_off1068 (v1291 : BitVec 32) : Fin 2 → Nat :=
  let v1294 : Index := Scalar.indexCast v1291
  let c0_565 : Index := 0#32
  ![v1294.toNat, 0]

def k1_off1069 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_566 : BitVec 32 := 16#32
  let v1296 : BitVec 32 := Scalar.muli arg18 c16_i32_566
  let c13_i32 : BitVec 32 := 13#32
  let v1297 : BitVec 32 := Scalar.addi v1296 c13_i32
  let v1298 : Index := Scalar.indexCast v1297
  let c0_567 : Index := 0#32
  ![v1298.toNat, 0]
def k1_off1070 (v1291 : BitVec 32) : Fin 2 → Nat :=
  let v1305 : Index := Scalar.indexCast v1291
  let c16_569 : Index := 16#32
  ![v1305.toNat, 16]
def k1_off1071 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_570 : BitVec 32 := 16#32
  let v1307 : BitVec 32 := Scalar.muli arg18 c16_i32_570
  let c13_i32_571 : BitVec 32 := 13#32
  let v1308 : BitVec 32 := Scalar.addi v1307 c13_i32_571
  let v1309 : Index := Scalar.indexCast v1308
  let c16_572 : Index := 16#32
  ![v1309.toNat, 16]
def k1_off1072 (v1291 : BitVec 32) : Fin 2 → Nat :=
  let v1316 : Index := Scalar.indexCast v1291
  let c32_574 : Index := 32#32
  ![v1316.toNat, 32]
def k1_off1073 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_575 : BitVec 32 := 16#32
  let v1318 : BitVec 32 := Scalar.muli arg18 c16_i32_575
  let c13_i32_576 : BitVec 32 := 13#32
  let v1319 : BitVec 32 := Scalar.addi v1318 c13_i32_576
  let v1320 : Index := Scalar.indexCast v1319
  let c32_577 : Index := 32#32
  ![v1320.toNat, 32]
def k1_off1074 (v1291 : BitVec 32) : Fin 2 → Nat :=
  let v1327 : Index := Scalar.indexCast v1291
  let c48_579 : Index := 48#32
  ![v1327.toNat, 48]
def k1_off1075 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_580 : BitVec 32 := 16#32
  let v1329 : BitVec 32 := Scalar.muli arg18 c16_i32_580
  let c13_i32_581 : BitVec 32 := 13#32
  let v1330 : BitVec 32 := Scalar.addi v1329 c13_i32_581
  let v1331 : Index := Scalar.indexCast v1330
  let c48_582 : Index := 48#32
  ![v1331.toNat, 48]
def k1_off1076 (v1291 : BitVec 32) : Fin 2 → Nat :=
  let v1338 : Index := Scalar.indexCast v1291
  let c64_584 : Index := 64#32
  ![v1338.toNat, 64]
def k1_off1077 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_585 : BitVec 32 := 16#32
  let v1340 : BitVec 32 := Scalar.muli arg18 c16_i32_585
  let c13_i32_586 : BitVec 32 := 13#32
  let v1341 : BitVec 32 := Scalar.addi v1340 c13_i32_586
  let v1342 : Index := Scalar.indexCast v1341
  let c64_587 : Index := 64#32
  ![v1342.toNat, 64]
def k1_off1078 (v1291 : BitVec 32) : Fin 2 → Nat :=
  let v1349 : Index := Scalar.indexCast v1291
  let c80_589 : Index := 80#32
  ![v1349.toNat, 80]
def k1_off1079 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_590 : BitVec 32 := 16#32
  let v1351 : BitVec 32 := Scalar.muli arg18 c16_i32_590
  let c13_i32_591 : BitVec 32 := 13#32
  let v1352 : BitVec 32 := Scalar.addi v1351 c13_i32_591
  let v1353 : Index := Scalar.indexCast v1352
  let c80_592 : Index := 80#32
  ![v1353.toNat, 80]
def k1_off1080 (v1291 : BitVec 32) : Fin 2 → Nat :=
  let v1360 : Index := Scalar.indexCast v1291
  let c96_594 : Index := 96#32
  ![v1360.toNat, 96]
def k1_off1081 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_595 : BitVec 32 := 16#32
  let v1362 : BitVec 32 := Scalar.muli arg18 c16_i32_595
  let c13_i32_596 : BitVec 32 := 13#32
  let v1363 : BitVec 32 := Scalar.addi v1362 c13_i32_596
  let v1364 : Index := Scalar.indexCast v1363
  let c96_597 : Index := 96#32
  ![v1364.toNat, 96]
def k1_off1082 (v1291 : BitVec 32) : Fin 2 → Nat :=
  let v1371 : Index := Scalar.indexCast v1291
  let c112_599 : Index := 112#32
  ![v1371.toNat, 112]

def k1_chk84 (i : grid1.Coords) (k1_t9 : Fin (k1_t9_loop i).trips) (v85 : BitVec 32) (v87 : BitVec 32) (v1291 : BitVec 32) : Prop :=
  (∀ (k1_h15 : k1_cond15 i k1_t9 = 1#1), ∀ (k1_h18 : k1_cond18 v85 v87 = 1#1), ∀ a, (k1_off1068 v1291) a + S1x16.size a ≤ S256x128.size a) ∧
  (∀ (k1_h15 : k1_cond15 i k1_t9 = 1#1), ∀ (k1_h18 : k1_cond18 v85 v87 = 1#1), ∀ a, (k1_off1070 v1291) a + S1x16.size a ≤ S256x128.size a) ∧
  (∀ (k1_h15 : k1_cond15 i k1_t9 = 1#1), ∀ (k1_h18 : k1_cond18 v85 v87 = 1#1), ∀ a, (k1_off1072 v1291) a + S1x16.size a ≤ S256x128.size a) ∧
  (∀ (k1_h15 : k1_cond15 i k1_t9 = 1#1), ∀ (k1_h18 : k1_cond18 v85 v87 = 1#1), ∀ a, (k1_off1074 v1291) a + S1x16.size a ≤ S256x128.size a) ∧
  (∀ (k1_h15 : k1_cond15 i k1_t9 = 1#1), ∀ (k1_h18 : k1_cond18 v85 v87 = 1#1), ∀ a, (k1_off1076 v1291) a + S1x16.size a ≤ S256x128.size a) ∧
  (∀ (k1_h15 : k1_cond15 i k1_t9 = 1#1), ∀ (k1_h18 : k1_cond18 v85 v87 = 1#1), ∀ a, (k1_off1078 v1291) a + S1x16.size a ≤ S256x128.size a) ∧
  (∀ (k1_h15 : k1_cond15 i k1_t9 = 1#1), ∀ (k1_h18 : k1_cond18 v85 v87 = 1#1), ∀ a, (k1_off1080 v1291) a + S1x16.size a ≤ S256x128.size a) ∧
  (∀ (k1_h15 : k1_cond15 i k1_t9 = 1#1), ∀ (k1_h18 : k1_cond18 v85 v87 = 1#1), ∀ a, (k1_off1082 v1291) a + S1x16.size a ≤ S256x128.size a)
theorem k1_off1068_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1068 v1291) a + S1x16.size a ≤ S256x128.size a := fun i k1_t9 v85 v87 v1291 k1_hw84 k1_h15 k1_h18 => k1_hw84.1 k1_h15 k1_h18
theorem k1_off1070_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1070 v1291) a + S1x16.size a ≤ S256x128.size a := fun i k1_t9 v85 v87 v1291 k1_hw84 k1_h15 k1_h18 => k1_hw84.2.1 k1_h15 k1_h18
theorem k1_off1072_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1072 v1291) a + S1x16.size a ≤ S256x128.size a := fun i k1_t9 v85 v87 v1291 k1_hw84 k1_h15 k1_h18 => k1_hw84.2.2.1 k1_h15 k1_h18
theorem k1_off1074_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1074 v1291) a + S1x16.size a ≤ S256x128.size a := fun i k1_t9 v85 v87 v1291 k1_hw84 k1_h15 k1_h18 => k1_hw84.2.2.2.1 k1_h15 k1_h18
theorem k1_off1076_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1076 v1291) a + S1x16.size a ≤ S256x128.size a := fun i k1_t9 v85 v87 v1291 k1_hw84 k1_h15 k1_h18 => k1_hw84.2.2.2.2.1 k1_h15 k1_h18
theorem k1_off1078_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1078 v1291) a + S1x16.size a ≤ S256x128.size a := fun i k1_t9 v85 v87 v1291 k1_hw84 k1_h15 k1_h18 => k1_hw84.2.2.2.2.2.1 k1_h15 k1_h18
theorem k1_off1080_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1080 v1291) a + S1x16.size a ≤ S256x128.size a := fun i k1_t9 v85 v87 v1291 k1_hw84 k1_h15 k1_h18 => k1_hw84.2.2.2.2.2.2.1 k1_h15 k1_h18
theorem k1_off1082_inb : ∀ (i : grid1.Coords) (k1_t9 : Fin (k1_t9_loop i).trips) (v85 : BitVec 32) (v87 : BitVec 32) (v1291 : BitVec 32) (k1_hw84 : k1_chk84 i k1_t9 v85 v87 v1291), ∀ (k1_h15 : k1_cond15 i k1_t9 = 1#1), ∀ (k1_h18 : k1_cond18 v85 v87 = 1#1), ∀ a, (k1_off1082 v1291) a + S1x16.size a ≤ S256x128.size a := fun i k1_t9 v85 v87 v1291 k1_hw84 k1_h15 k1_h18 => k1_hw84.2.2.2.2.2.2.2 k1_h15 k1_h18

def k1_off1083 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_600 : BitVec 32 := 16#32
  let v1373 : BitVec 32 := Scalar.muli arg18 c16_i32_600
  let c13_i32_601 : BitVec 32 := 13#32
  let v1374 : BitVec 32 := Scalar.addi v1373 c13_i32_601
  let v1375 : Index := Scalar.indexCast v1374
  let c112_602 : Index := 112#32
  ![v1375.toNat, 112]
def k1_off1084 (v1383 : BitVec 32) : Fin 2 → Nat :=
  let v1386 : Index := Scalar.indexCast v1383
  let c0_604 : Index := 0#32
  ![v1386.toNat, 0]

def k1_off1085 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_605 : BitVec 32 := 16#32
  let v1388 : BitVec 32 := Scalar.muli arg18 c16_i32_605
  let c14_i32 : BitVec 32 := 14#32
  let v1389 : BitVec 32 := Scalar.addi v1388 c14_i32
  let v1390 : Index := Scalar.indexCast v1389
  let c0_606 : Index := 0#32
  ![v1390.toNat, 0]
def k1_off1086 (v1383 : BitVec 32) : Fin 2 → Nat :=
  let v1397 : Index := Scalar.indexCast v1383
  let c16_608 : Index := 16#32
  ![v1397.toNat, 16]
def k1_off1087 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_609 : BitVec 32 := 16#32
  let v1399 : BitVec 32 := Scalar.muli arg18 c16_i32_609
  let c14_i32_610 : BitVec 32 := 14#32
  let v1400 : BitVec 32 := Scalar.addi v1399 c14_i32_610
  let v1401 : Index := Scalar.indexCast v1400
  let c16_611 : Index := 16#32
  ![v1401.toNat, 16]
def k1_off1088 (v1383 : BitVec 32) : Fin 2 → Nat :=
  let v1408 : Index := Scalar.indexCast v1383
  let c32_613 : Index := 32#32
  ![v1408.toNat, 32]
def k1_off1089 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_614 : BitVec 32 := 16#32
  let v1410 : BitVec 32 := Scalar.muli arg18 c16_i32_614
  let c14_i32_615 : BitVec 32 := 14#32
  let v1411 : BitVec 32 := Scalar.addi v1410 c14_i32_615
  let v1412 : Index := Scalar.indexCast v1411
  let c32_616 : Index := 32#32
  ![v1412.toNat, 32]
def k1_off1090 (v1383 : BitVec 32) : Fin 2 → Nat :=
  let v1419 : Index := Scalar.indexCast v1383
  let c48_618 : Index := 48#32
  ![v1419.toNat, 48]
def k1_off1091 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_619 : BitVec 32 := 16#32
  let v1421 : BitVec 32 := Scalar.muli arg18 c16_i32_619
  let c14_i32_620 : BitVec 32 := 14#32
  let v1422 : BitVec 32 := Scalar.addi v1421 c14_i32_620
  let v1423 : Index := Scalar.indexCast v1422
  let c48_621 : Index := 48#32
  ![v1423.toNat, 48]
def k1_off1092 (v1383 : BitVec 32) : Fin 2 → Nat :=
  let v1430 : Index := Scalar.indexCast v1383
  let c64_623 : Index := 64#32
  ![v1430.toNat, 64]
def k1_off1093 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_624 : BitVec 32 := 16#32
  let v1432 : BitVec 32 := Scalar.muli arg18 c16_i32_624
  let c14_i32_625 : BitVec 32 := 14#32
  let v1433 : BitVec 32 := Scalar.addi v1432 c14_i32_625
  let v1434 : Index := Scalar.indexCast v1433
  let c64_626 : Index := 64#32
  ![v1434.toNat, 64]
def k1_off1094 (v1383 : BitVec 32) : Fin 2 → Nat :=
  let v1441 : Index := Scalar.indexCast v1383
  let c80_628 : Index := 80#32
  ![v1441.toNat, 80]
def k1_off1095 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_629 : BitVec 32 := 16#32
  let v1443 : BitVec 32 := Scalar.muli arg18 c16_i32_629
  let c14_i32_630 : BitVec 32 := 14#32
  let v1444 : BitVec 32 := Scalar.addi v1443 c14_i32_630
  let v1445 : Index := Scalar.indexCast v1444
  let c80_631 : Index := 80#32
  ![v1445.toNat, 80]
def k1_off1096 (v1383 : BitVec 32) : Fin 2 → Nat :=
  let v1452 : Index := Scalar.indexCast v1383
  let c96_633 : Index := 96#32
  ![v1452.toNat, 96]
def k1_off1097 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_634 : BitVec 32 := 16#32
  let v1454 : BitVec 32 := Scalar.muli arg18 c16_i32_634
  let c14_i32_635 : BitVec 32 := 14#32
  let v1455 : BitVec 32 := Scalar.addi v1454 c14_i32_635
  let v1456 : Index := Scalar.indexCast v1455
  let c96_636 : Index := 96#32
  ![v1456.toNat, 96]
def k1_off1098 (v1383 : BitVec 32) : Fin 2 → Nat :=
  let v1463 : Index := Scalar.indexCast v1383
  let c112_638 : Index := 112#32
  ![v1463.toNat, 112]

def k1_chk85 (i : grid1.Coords) (k1_t9 : Fin (k1_t9_loop i).trips) (v85 : BitVec 32) (v87 : BitVec 32) (v1383 : BitVec 32) : Prop :=
  (∀ (k1_h15 : k1_cond15 i k1_t9 = 1#1), ∀ (k1_h18 : k1_cond18 v85 v87 = 1#1), ∀ a, (k1_off1084 v1383) a + S1x16.size a ≤ S256x128.size a) ∧
  (∀ (k1_h15 : k1_cond15 i k1_t9 = 1#1), ∀ (k1_h18 : k1_cond18 v85 v87 = 1#1), ∀ a, (k1_off1086 v1383) a + S1x16.size a ≤ S256x128.size a) ∧
  (∀ (k1_h15 : k1_cond15 i k1_t9 = 1#1), ∀ (k1_h18 : k1_cond18 v85 v87 = 1#1), ∀ a, (k1_off1088 v1383) a + S1x16.size a ≤ S256x128.size a) ∧
  (∀ (k1_h15 : k1_cond15 i k1_t9 = 1#1), ∀ (k1_h18 : k1_cond18 v85 v87 = 1#1), ∀ a, (k1_off1090 v1383) a + S1x16.size a ≤ S256x128.size a) ∧
  (∀ (k1_h15 : k1_cond15 i k1_t9 = 1#1), ∀ (k1_h18 : k1_cond18 v85 v87 = 1#1), ∀ a, (k1_off1092 v1383) a + S1x16.size a ≤ S256x128.size a) ∧
  (∀ (k1_h15 : k1_cond15 i k1_t9 = 1#1), ∀ (k1_h18 : k1_cond18 v85 v87 = 1#1), ∀ a, (k1_off1094 v1383) a + S1x16.size a ≤ S256x128.size a) ∧
  (∀ (k1_h15 : k1_cond15 i k1_t9 = 1#1), ∀ (k1_h18 : k1_cond18 v85 v87 = 1#1), ∀ a, (k1_off1096 v1383) a + S1x16.size a ≤ S256x128.size a) ∧
  (∀ (k1_h15 : k1_cond15 i k1_t9 = 1#1), ∀ (k1_h18 : k1_cond18 v85 v87 = 1#1), ∀ a, (k1_off1098 v1383) a + S1x16.size a ≤ S256x128.size a)
theorem k1_off1084_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1084 v1383) a + S1x16.size a ≤ S256x128.size a := fun i k1_t9 v85 v87 v1383 k1_hw85 k1_h15 k1_h18 => k1_hw85.1 k1_h15 k1_h18
theorem k1_off1086_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1086 v1383) a + S1x16.size a ≤ S256x128.size a := fun i k1_t9 v85 v87 v1383 k1_hw85 k1_h15 k1_h18 => k1_hw85.2.1 k1_h15 k1_h18
theorem k1_off1088_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1088 v1383) a + S1x16.size a ≤ S256x128.size a := fun i k1_t9 v85 v87 v1383 k1_hw85 k1_h15 k1_h18 => k1_hw85.2.2.1 k1_h15 k1_h18
theorem k1_off1090_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1090 v1383) a + S1x16.size a ≤ S256x128.size a := fun i k1_t9 v85 v87 v1383 k1_hw85 k1_h15 k1_h18 => k1_hw85.2.2.2.1 k1_h15 k1_h18
theorem k1_off1092_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1092 v1383) a + S1x16.size a ≤ S256x128.size a := fun i k1_t9 v85 v87 v1383 k1_hw85 k1_h15 k1_h18 => k1_hw85.2.2.2.2.1 k1_h15 k1_h18
theorem k1_off1094_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1094 v1383) a + S1x16.size a ≤ S256x128.size a := fun i k1_t9 v85 v87 v1383 k1_hw85 k1_h15 k1_h18 => k1_hw85.2.2.2.2.2.1 k1_h15 k1_h18
theorem k1_off1096_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1096 v1383) a + S1x16.size a ≤ S256x128.size a := fun i k1_t9 v85 v87 v1383 k1_hw85 k1_h15 k1_h18 => k1_hw85.2.2.2.2.2.2.1 k1_h15 k1_h18
theorem k1_off1098_inb : ∀ (i : grid1.Coords) (k1_t9 : Fin (k1_t9_loop i).trips) (v85 : BitVec 32) (v87 : BitVec 32) (v1383 : BitVec 32) (k1_hw85 : k1_chk85 i k1_t9 v85 v87 v1383), ∀ (k1_h15 : k1_cond15 i k1_t9 = 1#1), ∀ (k1_h18 : k1_cond18 v85 v87 = 1#1), ∀ a, (k1_off1098 v1383) a + S1x16.size a ≤ S256x128.size a := fun i k1_t9 v85 v87 v1383 k1_hw85 k1_h15 k1_h18 => k1_hw85.2.2.2.2.2.2.2 k1_h15 k1_h18

def k1_off1099 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_639 : BitVec 32 := 16#32
  let v1465 : BitVec 32 := Scalar.muli arg18 c16_i32_639
  let c14_i32_640 : BitVec 32 := 14#32
  let v1466 : BitVec 32 := Scalar.addi v1465 c14_i32_640
  let v1467 : Index := Scalar.indexCast v1466
  let c112_641 : Index := 112#32
  ![v1467.toNat, 112]
def k1_off1100 (v1475 : BitVec 32) : Fin 2 → Nat :=
  let v1478 : Index := Scalar.indexCast v1475
  let c0_643 : Index := 0#32
  ![v1478.toNat, 0]

def k1_off1101 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_644 : BitVec 32 := 16#32
  let v1480 : BitVec 32 := Scalar.muli arg18 c16_i32_644
  let c15_i32 : BitVec 32 := 15#32
  let v1481 : BitVec 32 := Scalar.addi v1480 c15_i32
  let v1482 : Index := Scalar.indexCast v1481
  let c0_645 : Index := 0#32
  ![v1482.toNat, 0]
def k1_off1102 (v1475 : BitVec 32) : Fin 2 → Nat :=
  let v1489 : Index := Scalar.indexCast v1475
  let c16_647 : Index := 16#32
  ![v1489.toNat, 16]
def k1_off1103 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_648 : BitVec 32 := 16#32
  let v1491 : BitVec 32 := Scalar.muli arg18 c16_i32_648
  let c15_i32_649 : BitVec 32 := 15#32
  let v1492 : BitVec 32 := Scalar.addi v1491 c15_i32_649
  let v1493 : Index := Scalar.indexCast v1492
  let c16_650 : Index := 16#32
  ![v1493.toNat, 16]
def k1_off1104 (v1475 : BitVec 32) : Fin 2 → Nat :=
  let v1500 : Index := Scalar.indexCast v1475
  let c32_652 : Index := 32#32
  ![v1500.toNat, 32]
def k1_off1105 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_653 : BitVec 32 := 16#32
  let v1502 : BitVec 32 := Scalar.muli arg18 c16_i32_653
  let c15_i32_654 : BitVec 32 := 15#32
  let v1503 : BitVec 32 := Scalar.addi v1502 c15_i32_654
  let v1504 : Index := Scalar.indexCast v1503
  let c32_655 : Index := 32#32
  ![v1504.toNat, 32]
def k1_off1106 (v1475 : BitVec 32) : Fin 2 → Nat :=
  let v1511 : Index := Scalar.indexCast v1475
  let c48_657 : Index := 48#32
  ![v1511.toNat, 48]
def k1_off1107 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_658 : BitVec 32 := 16#32
  let v1513 : BitVec 32 := Scalar.muli arg18 c16_i32_658
  let c15_i32_659 : BitVec 32 := 15#32
  let v1514 : BitVec 32 := Scalar.addi v1513 c15_i32_659
  let v1515 : Index := Scalar.indexCast v1514
  let c48_660 : Index := 48#32
  ![v1515.toNat, 48]
def k1_off1108 (v1475 : BitVec 32) : Fin 2 → Nat :=
  let v1522 : Index := Scalar.indexCast v1475
  let c64_662 : Index := 64#32
  ![v1522.toNat, 64]
def k1_off1109 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_663 : BitVec 32 := 16#32
  let v1524 : BitVec 32 := Scalar.muli arg18 c16_i32_663
  let c15_i32_664 : BitVec 32 := 15#32
  let v1525 : BitVec 32 := Scalar.addi v1524 c15_i32_664
  let v1526 : Index := Scalar.indexCast v1525
  let c64_665 : Index := 64#32
  ![v1526.toNat, 64]
def k1_off1110 (v1475 : BitVec 32) : Fin 2 → Nat :=
  let v1533 : Index := Scalar.indexCast v1475
  let c80_667 : Index := 80#32
  ![v1533.toNat, 80]
def k1_off1111 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_668 : BitVec 32 := 16#32
  let v1535 : BitVec 32 := Scalar.muli arg18 c16_i32_668
  let c15_i32_669 : BitVec 32 := 15#32
  let v1536 : BitVec 32 := Scalar.addi v1535 c15_i32_669
  let v1537 : Index := Scalar.indexCast v1536
  let c80_670 : Index := 80#32
  ![v1537.toNat, 80]
def k1_off1112 (v1475 : BitVec 32) : Fin 2 → Nat :=
  let v1544 : Index := Scalar.indexCast v1475
  let c96_672 : Index := 96#32
  ![v1544.toNat, 96]
def k1_off1113 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_673 : BitVec 32 := 16#32
  let v1546 : BitVec 32 := Scalar.muli arg18 c16_i32_673
  let c15_i32_674 : BitVec 32 := 15#32
  let v1547 : BitVec 32 := Scalar.addi v1546 c15_i32_674
  let v1548 : Index := Scalar.indexCast v1547
  let c96_675 : Index := 96#32
  ![v1548.toNat, 96]
def k1_off1114 (v1475 : BitVec 32) : Fin 2 → Nat :=
  let v1555 : Index := Scalar.indexCast v1475
  let c112_677 : Index := 112#32
  ![v1555.toNat, 112]

def k1_chk86 (i : grid1.Coords) (k1_t9 : Fin (k1_t9_loop i).trips) (v85 : BitVec 32) (v87 : BitVec 32) (v1475 : BitVec 32) : Prop :=
  (∀ (k1_h15 : k1_cond15 i k1_t9 = 1#1), ∀ (k1_h18 : k1_cond18 v85 v87 = 1#1), ∀ a, (k1_off1100 v1475) a + S1x16.size a ≤ S256x128.size a) ∧
  (∀ (k1_h15 : k1_cond15 i k1_t9 = 1#1), ∀ (k1_h18 : k1_cond18 v85 v87 = 1#1), ∀ a, (k1_off1102 v1475) a + S1x16.size a ≤ S256x128.size a) ∧
  (∀ (k1_h15 : k1_cond15 i k1_t9 = 1#1), ∀ (k1_h18 : k1_cond18 v85 v87 = 1#1), ∀ a, (k1_off1104 v1475) a + S1x16.size a ≤ S256x128.size a) ∧
  (∀ (k1_h15 : k1_cond15 i k1_t9 = 1#1), ∀ (k1_h18 : k1_cond18 v85 v87 = 1#1), ∀ a, (k1_off1106 v1475) a + S1x16.size a ≤ S256x128.size a) ∧
  (∀ (k1_h15 : k1_cond15 i k1_t9 = 1#1), ∀ (k1_h18 : k1_cond18 v85 v87 = 1#1), ∀ a, (k1_off1108 v1475) a + S1x16.size a ≤ S256x128.size a) ∧
  (∀ (k1_h15 : k1_cond15 i k1_t9 = 1#1), ∀ (k1_h18 : k1_cond18 v85 v87 = 1#1), ∀ a, (k1_off1110 v1475) a + S1x16.size a ≤ S256x128.size a) ∧
  (∀ (k1_h15 : k1_cond15 i k1_t9 = 1#1), ∀ (k1_h18 : k1_cond18 v85 v87 = 1#1), ∀ a, (k1_off1112 v1475) a + S1x16.size a ≤ S256x128.size a) ∧
  (∀ (k1_h15 : k1_cond15 i k1_t9 = 1#1), ∀ (k1_h18 : k1_cond18 v85 v87 = 1#1), ∀ a, (k1_off1114 v1475) a + S1x16.size a ≤ S256x128.size a)
theorem k1_off1100_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1100 v1475) a + S1x16.size a ≤ S256x128.size a := fun i k1_t9 v85 v87 v1475 k1_hw86 k1_h15 k1_h18 => k1_hw86.1 k1_h15 k1_h18
theorem k1_off1102_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1102 v1475) a + S1x16.size a ≤ S256x128.size a := fun i k1_t9 v85 v87 v1475 k1_hw86 k1_h15 k1_h18 => k1_hw86.2.1 k1_h15 k1_h18
theorem k1_off1104_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1104 v1475) a + S1x16.size a ≤ S256x128.size a := fun i k1_t9 v85 v87 v1475 k1_hw86 k1_h15 k1_h18 => k1_hw86.2.2.1 k1_h15 k1_h18
theorem k1_off1106_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1106 v1475) a + S1x16.size a ≤ S256x128.size a := fun i k1_t9 v85 v87 v1475 k1_hw86 k1_h15 k1_h18 => k1_hw86.2.2.2.1 k1_h15 k1_h18
theorem k1_off1108_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1108 v1475) a + S1x16.size a ≤ S256x128.size a := fun i k1_t9 v85 v87 v1475 k1_hw86 k1_h15 k1_h18 => k1_hw86.2.2.2.2.1 k1_h15 k1_h18
theorem k1_off1110_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1110 v1475) a + S1x16.size a ≤ S256x128.size a := fun i k1_t9 v85 v87 v1475 k1_hw86 k1_h15 k1_h18 => k1_hw86.2.2.2.2.2.1 k1_h15 k1_h18
theorem k1_off1112_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1112 v1475) a + S1x16.size a ≤ S256x128.size a := fun i k1_t9 v85 v87 v1475 k1_hw86 k1_h15 k1_h18 => k1_hw86.2.2.2.2.2.2.1 k1_h15 k1_h18
theorem k1_off1114_inb : ∀ (i : grid1.Coords) (k1_t9 : Fin (k1_t9_loop i).trips) (v85 : BitVec 32) (v87 : BitVec 32) (v1475 : BitVec 32) (k1_hw86 : k1_chk86 i k1_t9 v85 v87 v1475), ∀ (k1_h15 : k1_cond15 i k1_t9 = 1#1), ∀ (k1_h18 : k1_cond18 v85 v87 = 1#1), ∀ a, (k1_off1114 v1475) a + S1x16.size a ≤ S256x128.size a := fun i k1_t9 v85 v87 v1475 k1_hw86 k1_h15 k1_h18 => k1_hw86.2.2.2.2.2.2.2 k1_h15 k1_h18

def k1_off1115 (k1_t11 : Fin k1_t11_loop.trips) : Fin 2 → Nat :=
  let c0_i32_53 : BitVec 32 := 0#32
  let c1_i32_54 : BitVec 32 := 1#32
  let arg18 : BitVec 32 := Scf.iv c0_i32_53 c1_i32_54 k1_t11
  let c16_i32_678 : BitVec 32 := 16#32
  let v1557 : BitVec 32 := Scalar.muli arg18 c16_i32_678
  let c15_i32_679 : BitVec 32 := 15#32
  let v1558 : BitVec 32 := Scalar.addi v1557 c15_i32_679
  let v1559 : Index := Scalar.indexCast v1558
  let c112_680 : Index := 112#32
  ![v1559.toNat, 112]
def k1_cond19 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_30 : BitVec 32 := 31#32
  let v37 : BitVec 1 := Scalar.cmpi .eq v1 c31_i32_30
  let v38 : BitVec 32 := Scalar.extui v37
  let c0_i32_31 : BitVec 32 := 0#32
  let v39 : BitVec 1 := Scalar.cmpi .ne v38 c0_i32_31
  v39

def k1_off1116 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v3 : BitVec 32 := Scalar.muli v1 c3136_i32
  let c2688_i32 : BitVec 32 := 2688#32
  let v40 : BitVec 32 := Scalar.addi v3 c2688_i32
  let c0_i32_38_r4 : BitVec 32 := 0#32
  ![v40.toNat, 0]
@[reducible] def k1_t12_loop : Scf.Loop 32 :=
  let c0_i32_33 : BitVec 32 := 0#32
  let c6_i32 : BitVec 32 := 6#32
  let v41 : BitVec 32 := Scalar.addi c0_i32_33 c6_i32
  let c1_i32_34 : BitVec 32 := 1#32
  ⟨c0_i32_33, v41, c1_i32_34⟩
def k1_off1117 (k1_t12 : Fin k1_t12_loop.trips) : Fin 1 → Nat :=
  let c168_i32 : BitVec 32 := 168#32
  let c0_i32_33 : BitVec 32 := 0#32
  let c1_i32_34 : BitVec 32 := 1#32
  let arg16 : BitVec 32 := Scf.iv c0_i32_33 c1_i32_34 k1_t12
  let v43 : BitVec 32 := Scalar.addi c168_i32 arg16
  let c16_i32_36 : BitVec 32 := 16#32
  let v44 : BitVec 32 := Scalar.muli v43 c16_i32_36
  let v45 : Index := Scalar.indexCast v44
  ![v45.toNat]
def k1_off1118 (k1_t12 : Fin k1_t12_loop.trips) (c0_i32_49 : BitVec 32) : Fin 2 → Nat :=
  let c0_i32_33 : BitVec 32 := 0#32
  let c1_i32_34 : BitVec 32 := 1#32
  let arg16 : BitVec 32 := Scf.iv c0_i32_33 c1_i32_34 k1_t12
  let c16_i32_48 : BitVec 32 := 16#32
  let v70 : BitVec 32 := Scalar.muli arg16 c16_i32_48
  let v71 : BitVec 32 := Scalar.addi v70 c0_i32_49
  let v72 : Index := Scalar.indexCast v71
  let c0 : Index := 0#32
  ![v72.toNat, 0]
def k1_off1119 (k1_t12 : Fin k1_t12_loop.trips) (c0_i32_51 : BitVec 32) : Fin 2 → Nat :=
  let c0_i32_33 : BitVec 32 := 0#32
  let c1_i32_34 : BitVec 32 := 1#32
  let arg16 : BitVec 32 := Scf.iv c0_i32_33 c1_i32_34 k1_t12
  let c16_i32_50 : BitVec 32 := 16#32
  let v77 : BitVec 32 := Scalar.muli arg16 c16_i32_50
  let v78 : BitVec 32 := Scalar.addi v77 c0_i32_51
  let v79 : Index := Scalar.indexCast v78
  let c16 : Index := 16#32
  ![v79.toNat, 16]
def k1_off1120 (k1_t12 : Fin k1_t12_loop.trips) (c0_i32_53 : BitVec 32) : Fin 2 → Nat :=
  let c0_i32_33 : BitVec 32 := 0#32
  let c1_i32_34 : BitVec 32 := 1#32
  let arg16 : BitVec 32 := Scf.iv c0_i32_33 c1_i32_34 k1_t12
  let c16_i32_52 : BitVec 32 := 16#32
  let v84 : BitVec 32 := Scalar.muli arg16 c16_i32_52
  let v85 : BitVec 32 := Scalar.addi v84 c0_i32_53
  let v86 : Index := Scalar.indexCast v85
  let c32 : Index := 32#32
  ![v86.toNat, 32]
def k1_off1121 (k1_t12 : Fin k1_t12_loop.trips) (c0_i32_55 : BitVec 32) : Fin 2 → Nat :=
  let c0_i32_33 : BitVec 32 := 0#32
  let c1_i32_34 : BitVec 32 := 1#32
  let arg16 : BitVec 32 := Scf.iv c0_i32_33 c1_i32_34 k1_t12
  let c16_i32_54 : BitVec 32 := 16#32
  let v91 : BitVec 32 := Scalar.muli arg16 c16_i32_54
  let v92 : BitVec 32 := Scalar.addi v91 c0_i32_55
  let v93 : Index := Scalar.indexCast v92
  let c48 : Index := 48#32
  ![v93.toNat, 48]
def k1_off1122 (k1_t12 : Fin k1_t12_loop.trips) (c0_i32_57 : BitVec 32) : Fin 2 → Nat :=
  let c0_i32_33 : BitVec 32 := 0#32
  let c1_i32_34 : BitVec 32 := 1#32
  let arg16 : BitVec 32 := Scf.iv c0_i32_33 c1_i32_34 k1_t12
  let c16_i32_56 : BitVec 32 := 16#32
  let v98 : BitVec 32 := Scalar.muli arg16 c16_i32_56
  let v99 : BitVec 32 := Scalar.addi v98 c0_i32_57
  let v100 : Index := Scalar.indexCast v99
  let c64 : Index := 64#32
  ![v100.toNat, 64]
def k1_off1123 (k1_t12 : Fin k1_t12_loop.trips) (c0_i32_59 : BitVec 32) : Fin 2 → Nat :=
  let c0_i32_33 : BitVec 32 := 0#32
  let c1_i32_34 : BitVec 32 := 1#32
  let arg16 : BitVec 32 := Scf.iv c0_i32_33 c1_i32_34 k1_t12
  let c16_i32_58 : BitVec 32 := 16#32
  let v105 : BitVec 32 := Scalar.muli arg16 c16_i32_58
  let v106 : BitVec 32 := Scalar.addi v105 c0_i32_59
  let v107 : Index := Scalar.indexCast v106
  let c80 : Index := 80#32
  ![v107.toNat, 80]
def k1_off1124 (k1_t12 : Fin k1_t12_loop.trips) (c0_i32_61 : BitVec 32) : Fin 2 → Nat :=
  let c0_i32_33 : BitVec 32 := 0#32
  let c1_i32_34 : BitVec 32 := 1#32
  let arg16 : BitVec 32 := Scf.iv c0_i32_33 c1_i32_34 k1_t12
  let c16_i32_60 : BitVec 32 := 16#32
  let v112 : BitVec 32 := Scalar.muli arg16 c16_i32_60
  let v113 : BitVec 32 := Scalar.addi v112 c0_i32_61
  let v114 : Index := Scalar.indexCast v113
  let c96 : Index := 96#32
  ![v114.toNat, 96]
def k1_off1125 (k1_t12 : Fin k1_t12_loop.trips) (c0_i32_63 : BitVec 32) : Fin 2 → Nat :=
  let c0_i32_33 : BitVec 32 := 0#32
  let c1_i32_34 : BitVec 32 := 1#32
  let arg16 : BitVec 32 := Scf.iv c0_i32_33 c1_i32_34 k1_t12
  let c16_i32_62 : BitVec 32 := 16#32
  let v119 : BitVec 32 := Scalar.muli arg16 c16_i32_62
  let v120 : BitVec 32 := Scalar.addi v119 c0_i32_63
  let v121 : Index := Scalar.indexCast v120
  let c112 : Index := 112#32
  ![v121.toNat, 112]
def k1_off1126 (v51 : BitVec 32) : Fin 2 → Nat :=
  let v996 : Index := Scalar.indexCast v51
  let c0_411 : Index := 0#32
  ![v996.toNat, 0]
def k1_cond20 (v51 : BitVec 32) (v53 : BitVec 32) : BitVec 1 :=
  let v54 : BitVec 1 := Scalar.cmpi .eq v51 v53
  let v55 : BitVec 32 := Scalar.extui v54
  let c0_i32_38 : BitVec 32 := 0#32
  let v56 : BitVec 1 := Scalar.cmpi .ne v55 c0_i32_38
  v56

def k1_off1127 (v51 : BitVec 32) : Fin 2 → Nat :=
  let v1001 : Index := Scalar.indexCast v51
  let c16_413 : Index := 16#32
  ![v1001.toNat, 16]
def k1_off1128 (v51 : BitVec 32) : Fin 2 → Nat :=
  let v1006 : Index := Scalar.indexCast v51
  let c32_415 : Index := 32#32
  ![v1006.toNat, 32]
def k1_off1129 (v51 : BitVec 32) : Fin 2 → Nat :=
  let v1011 : Index := Scalar.indexCast v51
  let c48_417 : Index := 48#32
  ![v1011.toNat, 48]
def k1_off1130 (v51 : BitVec 32) : Fin 2 → Nat :=
  let v1016 : Index := Scalar.indexCast v51
  let c64_419 : Index := 64#32
  ![v1016.toNat, 64]
def k1_off1131 (v51 : BitVec 32) : Fin 2 → Nat :=
  let v1021 : Index := Scalar.indexCast v51
  let c80_421 : Index := 80#32
  ![v1021.toNat, 80]
def k1_off1132 (v51 : BitVec 32) : Fin 2 → Nat :=
  let v1026 : Index := Scalar.indexCast v51
  let c96_423 : Index := 96#32
  ![v1026.toNat, 96]
def k1_off1133 (v51 : BitVec 32) : Fin 2 → Nat :=
  let v1031 : Index := Scalar.indexCast v51
  let c112_425 : Index := 112#32
  ![v1031.toNat, 112]

def k1_chk87 (i : grid1.Coords) (v51 : BitVec 32) (v53 : BitVec 32) : Prop :=
  (∀ (k1_h19 : k1_cond19 i = 1#1), ∀ (k1_h20 : k1_cond20 v51 v53 = 1#1), ∀ a, (k1_off1126 v51) a + S1x16.size a ≤ S256x128.size a) ∧
  (∀ (k1_h19 : k1_cond19 i = 1#1), ∀ (k1_h20 : k1_cond20 v51 v53 = 1#1), ∀ a, (k1_off1127 v51) a + S1x16.size a ≤ S256x128.size a) ∧
  (∀ (k1_h19 : k1_cond19 i = 1#1), ∀ (k1_h20 : k1_cond20 v51 v53 = 1#1), ∀ a, (k1_off1128 v51) a + S1x16.size a ≤ S256x128.size a) ∧
  (∀ (k1_h19 : k1_cond19 i = 1#1), ∀ (k1_h20 : k1_cond20 v51 v53 = 1#1), ∀ a, (k1_off1129 v51) a + S1x16.size a ≤ S256x128.size a) ∧
  (∀ (k1_h19 : k1_cond19 i = 1#1), ∀ (k1_h20 : k1_cond20 v51 v53 = 1#1), ∀ a, (k1_off1130 v51) a + S1x16.size a ≤ S256x128.size a) ∧
  (∀ (k1_h19 : k1_cond19 i = 1#1), ∀ (k1_h20 : k1_cond20 v51 v53 = 1#1), ∀ a, (k1_off1131 v51) a + S1x16.size a ≤ S256x128.size a) ∧
  (∀ (k1_h19 : k1_cond19 i = 1#1), ∀ (k1_h20 : k1_cond20 v51 v53 = 1#1), ∀ a, (k1_off1132 v51) a + S1x16.size a ≤ S256x128.size a) ∧
  (∀ (k1_h19 : k1_cond19 i = 1#1), ∀ (k1_h20 : k1_cond20 v51 v53 = 1#1), ∀ a, (k1_off1133 v51) a + S1x16.size a ≤ S256x128.size a)
theorem k1_off1126_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1126 v51) a + S1x16.size a ≤ S256x128.size a := fun i v51 v53 k1_hw87 k1_h19 k1_h20 => k1_hw87.1 k1_h19 k1_h20
theorem k1_off1127_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1127 v51) a + S1x16.size a ≤ S256x128.size a := fun i v51 v53 k1_hw87 k1_h19 k1_h20 => k1_hw87.2.1 k1_h19 k1_h20
theorem k1_off1128_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1128 v51) a + S1x16.size a ≤ S256x128.size a := fun i v51 v53 k1_hw87 k1_h19 k1_h20 => k1_hw87.2.2.1 k1_h19 k1_h20
theorem k1_off1129_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1129 v51) a + S1x16.size a ≤ S256x128.size a := fun i v51 v53 k1_hw87 k1_h19 k1_h20 => k1_hw87.2.2.2.1 k1_h19 k1_h20
theorem k1_off1130_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1130 v51) a + S1x16.size a ≤ S256x128.size a := fun i v51 v53 k1_hw87 k1_h19 k1_h20 => k1_hw87.2.2.2.2.1 k1_h19 k1_h20
theorem k1_off1131_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1131 v51) a + S1x16.size a ≤ S256x128.size a := fun i v51 v53 k1_hw87 k1_h19 k1_h20 => k1_hw87.2.2.2.2.2.1 k1_h19 k1_h20
theorem k1_off1132_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1132 v51) a + S1x16.size a ≤ S256x128.size a := fun i v51 v53 k1_hw87 k1_h19 k1_h20 => k1_hw87.2.2.2.2.2.2.1 k1_h19 k1_h20
theorem k1_off1133_inb : ∀ (i : grid1.Coords) (v51 : BitVec 32) (v53 : BitVec 32) (k1_hw87 : k1_chk87 i v51 v53), ∀ (k1_h19 : k1_cond19 i = 1#1), ∀ (k1_h20 : k1_cond20 v51 v53 = 1#1), ∀ a, (k1_off1133 v51) a + S1x16.size a ≤ S256x128.size a := fun i v51 v53 k1_hw87 k1_h19 k1_h20 => k1_hw87.2.2.2.2.2.2.2 k1_h19 k1_h20

def k1_off1134 (v61 : BitVec 32) : Fin 2 → Nat :=
  let v64 : Index := Scalar.indexCast v61
  let c0 : Index := 0#32
  ![v64.toNat, 0]
def k1_cond21 (v51 : BitVec 32) (v53 : BitVec 32) : BitVec 1 :=
  let v57 : BitVec 1 := Scalar.cmpi .ne v51 v53
  let v58 : BitVec 32 := Scalar.extui v57
  let c0_i32_39 : BitVec 32 := 0#32
  let v59 : BitVec 1 := Scalar.cmpi .ne v58 c0_i32_39
  v59

def k1_off1135 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_41 : BitVec 32 := 16#32
  let v66 : BitVec 32 := Scalar.muli arg16 c16_i32_41
  let c0_i32_42 : BitVec 32 := 0#32
  let v67 : BitVec 32 := Scalar.addi v66 c0_i32_42
  let v68 : Index := Scalar.indexCast v67
  let c0_43 : Index := 0#32
  ![v68.toNat, 0]
def k1_off1136 (v61 : BitVec 32) : Fin 2 → Nat :=
  let v75 : Index := Scalar.indexCast v61
  let c16 : Index := 16#32
  ![v75.toNat, 16]
def k1_off1137 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_45 : BitVec 32 := 16#32
  let v77 : BitVec 32 := Scalar.muli arg16 c16_i32_45
  let c0_i32_46 : BitVec 32 := 0#32
  let v78 : BitVec 32 := Scalar.addi v77 c0_i32_46
  let v79 : Index := Scalar.indexCast v78
  let c16_47 : Index := 16#32
  ![v79.toNat, 16]
def k1_off1138 (v61 : BitVec 32) : Fin 2 → Nat :=
  let v86 : Index := Scalar.indexCast v61
  let c32 : Index := 32#32
  ![v86.toNat, 32]
def k1_off1139 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_49 : BitVec 32 := 16#32
  let v88 : BitVec 32 := Scalar.muli arg16 c16_i32_49
  let c0_i32_50 : BitVec 32 := 0#32
  let v89 : BitVec 32 := Scalar.addi v88 c0_i32_50
  let v90 : Index := Scalar.indexCast v89
  let c32_51 : Index := 32#32
  ![v90.toNat, 32]
def k1_off1140 (v61 : BitVec 32) : Fin 2 → Nat :=
  let v97 : Index := Scalar.indexCast v61
  let c48 : Index := 48#32
  ![v97.toNat, 48]
def k1_off1141 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_53 : BitVec 32 := 16#32
  let v99 : BitVec 32 := Scalar.muli arg16 c16_i32_53
  let c0_i32_54 : BitVec 32 := 0#32
  let v100 : BitVec 32 := Scalar.addi v99 c0_i32_54
  let v101 : Index := Scalar.indexCast v100
  let c48_55 : Index := 48#32
  ![v101.toNat, 48]
def k1_off1142 (v61 : BitVec 32) : Fin 2 → Nat :=
  let v108 : Index := Scalar.indexCast v61
  let c64 : Index := 64#32
  ![v108.toNat, 64]
def k1_off1143 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_57 : BitVec 32 := 16#32
  let v110 : BitVec 32 := Scalar.muli arg16 c16_i32_57
  let c0_i32_58 : BitVec 32 := 0#32
  let v111 : BitVec 32 := Scalar.addi v110 c0_i32_58
  let v112 : Index := Scalar.indexCast v111
  let c64_59 : Index := 64#32
  ![v112.toNat, 64]
def k1_off1144 (v61 : BitVec 32) : Fin 2 → Nat :=
  let v119 : Index := Scalar.indexCast v61
  let c80 : Index := 80#32
  ![v119.toNat, 80]
def k1_off1145 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_61 : BitVec 32 := 16#32
  let v121 : BitVec 32 := Scalar.muli arg16 c16_i32_61
  let c0_i32_62 : BitVec 32 := 0#32
  let v122 : BitVec 32 := Scalar.addi v121 c0_i32_62
  let v123 : Index := Scalar.indexCast v122
  let c80_63 : Index := 80#32
  ![v123.toNat, 80]
def k1_off1146 (v61 : BitVec 32) : Fin 2 → Nat :=
  let v130 : Index := Scalar.indexCast v61
  let c96 : Index := 96#32
  ![v130.toNat, 96]
def k1_off1147 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_65 : BitVec 32 := 16#32
  let v132 : BitVec 32 := Scalar.muli arg16 c16_i32_65
  let c0_i32_66 : BitVec 32 := 0#32
  let v133 : BitVec 32 := Scalar.addi v132 c0_i32_66
  let v134 : Index := Scalar.indexCast v133
  let c96_67 : Index := 96#32
  ![v134.toNat, 96]
def k1_off1148 (v61 : BitVec 32) : Fin 2 → Nat :=
  let v141 : Index := Scalar.indexCast v61
  let c112 : Index := 112#32
  ![v141.toNat, 112]

def k1_chk88 (i : grid1.Coords) (v51 : BitVec 32) (v53 : BitVec 32) (v61 : BitVec 32) : Prop :=
  (∀ (k1_h19 : k1_cond19 i = 1#1), ∀ (k1_h21 : k1_cond21 v51 v53 = 1#1), ∀ a, (k1_off1134 v61) a + S1x16.size a ≤ S256x128.size a) ∧
  (∀ (k1_h19 : k1_cond19 i = 1#1), ∀ (k1_h21 : k1_cond21 v51 v53 = 1#1), ∀ a, (k1_off1136 v61) a + S1x16.size a ≤ S256x128.size a) ∧
  (∀ (k1_h19 : k1_cond19 i = 1#1), ∀ (k1_h21 : k1_cond21 v51 v53 = 1#1), ∀ a, (k1_off1138 v61) a + S1x16.size a ≤ S256x128.size a) ∧
  (∀ (k1_h19 : k1_cond19 i = 1#1), ∀ (k1_h21 : k1_cond21 v51 v53 = 1#1), ∀ a, (k1_off1140 v61) a + S1x16.size a ≤ S256x128.size a) ∧
  (∀ (k1_h19 : k1_cond19 i = 1#1), ∀ (k1_h21 : k1_cond21 v51 v53 = 1#1), ∀ a, (k1_off1142 v61) a + S1x16.size a ≤ S256x128.size a) ∧
  (∀ (k1_h19 : k1_cond19 i = 1#1), ∀ (k1_h21 : k1_cond21 v51 v53 = 1#1), ∀ a, (k1_off1144 v61) a + S1x16.size a ≤ S256x128.size a) ∧
  (∀ (k1_h19 : k1_cond19 i = 1#1), ∀ (k1_h21 : k1_cond21 v51 v53 = 1#1), ∀ a, (k1_off1146 v61) a + S1x16.size a ≤ S256x128.size a) ∧
  (∀ (k1_h19 : k1_cond19 i = 1#1), ∀ (k1_h21 : k1_cond21 v51 v53 = 1#1), ∀ a, (k1_off1148 v61) a + S1x16.size a ≤ S256x128.size a)
theorem k1_off1134_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1134 v61) a + S1x16.size a ≤ S256x128.size a := fun i v51 v53 v61 k1_hw88 k1_h19 k1_h21 => k1_hw88.1 k1_h19 k1_h21
theorem k1_off1136_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1136 v61) a + S1x16.size a ≤ S256x128.size a := fun i v51 v53 v61 k1_hw88 k1_h19 k1_h21 => k1_hw88.2.1 k1_h19 k1_h21
theorem k1_off1138_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1138 v61) a + S1x16.size a ≤ S256x128.size a := fun i v51 v53 v61 k1_hw88 k1_h19 k1_h21 => k1_hw88.2.2.1 k1_h19 k1_h21
theorem k1_off1140_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1140 v61) a + S1x16.size a ≤ S256x128.size a := fun i v51 v53 v61 k1_hw88 k1_h19 k1_h21 => k1_hw88.2.2.2.1 k1_h19 k1_h21
theorem k1_off1142_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1142 v61) a + S1x16.size a ≤ S256x128.size a := fun i v51 v53 v61 k1_hw88 k1_h19 k1_h21 => k1_hw88.2.2.2.2.1 k1_h19 k1_h21
theorem k1_off1144_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1144 v61) a + S1x16.size a ≤ S256x128.size a := fun i v51 v53 v61 k1_hw88 k1_h19 k1_h21 => k1_hw88.2.2.2.2.2.1 k1_h19 k1_h21
theorem k1_off1146_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1146 v61) a + S1x16.size a ≤ S256x128.size a := fun i v51 v53 v61 k1_hw88 k1_h19 k1_h21 => k1_hw88.2.2.2.2.2.2.1 k1_h19 k1_h21
theorem k1_off1148_inb : ∀ (i : grid1.Coords) (v51 : BitVec 32) (v53 : BitVec 32) (v61 : BitVec 32) (k1_hw88 : k1_chk88 i v51 v53 v61), ∀ (k1_h19 : k1_cond19 i = 1#1), ∀ (k1_h21 : k1_cond21 v51 v53 = 1#1), ∀ a, (k1_off1148 v61) a + S1x16.size a ≤ S256x128.size a := fun i v51 v53 v61 k1_hw88 k1_h19 k1_h21 => k1_hw88.2.2.2.2.2.2.2 k1_h19 k1_h21

def k1_off1149 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_69 : BitVec 32 := 16#32
  let v143 : BitVec 32 := Scalar.muli arg16 c16_i32_69
  let c0_i32_70 : BitVec 32 := 0#32
  let v144 : BitVec 32 := Scalar.addi v143 c0_i32_70
  let v145 : Index := Scalar.indexCast v144
  let c112_71 : Index := 112#32
  ![v145.toNat, 112]
def k1_off1150 (v153 : BitVec 32) : Fin 2 → Nat :=
  let v156 : Index := Scalar.indexCast v153
  let c0_73 : Index := 0#32
  ![v156.toNat, 0]

def k1_off1151 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_74 : BitVec 32 := 16#32
  let v158 : BitVec 32 := Scalar.muli arg16 c16_i32_74
  let c1_i32_75 : BitVec 32 := 1#32
  let v159 : BitVec 32 := Scalar.addi v158 c1_i32_75
  let v160 : Index := Scalar.indexCast v159
  let c0_76 : Index := 0#32
  ![v160.toNat, 0]
def k1_off1152 (v153 : BitVec 32) : Fin 2 → Nat :=
  let v167 : Index := Scalar.indexCast v153
  let c16_78 : Index := 16#32
  ![v167.toNat, 16]
def k1_off1153 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_79 : BitVec 32 := 16#32
  let v169 : BitVec 32 := Scalar.muli arg16 c16_i32_79
  let c1_i32_80 : BitVec 32 := 1#32
  let v170 : BitVec 32 := Scalar.addi v169 c1_i32_80
  let v171 : Index := Scalar.indexCast v170
  let c16_81 : Index := 16#32
  ![v171.toNat, 16]
def k1_off1154 (v153 : BitVec 32) : Fin 2 → Nat :=
  let v178 : Index := Scalar.indexCast v153
  let c32_83 : Index := 32#32
  ![v178.toNat, 32]
def k1_off1155 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_84 : BitVec 32 := 16#32
  let v180 : BitVec 32 := Scalar.muli arg16 c16_i32_84
  let c1_i32_85 : BitVec 32 := 1#32
  let v181 : BitVec 32 := Scalar.addi v180 c1_i32_85
  let v182 : Index := Scalar.indexCast v181
  let c32_86 : Index := 32#32
  ![v182.toNat, 32]
def k1_off1156 (v153 : BitVec 32) : Fin 2 → Nat :=
  let v189 : Index := Scalar.indexCast v153
  let c48_88 : Index := 48#32
  ![v189.toNat, 48]
def k1_off1157 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_89 : BitVec 32 := 16#32
  let v191 : BitVec 32 := Scalar.muli arg16 c16_i32_89
  let c1_i32_90 : BitVec 32 := 1#32
  let v192 : BitVec 32 := Scalar.addi v191 c1_i32_90
  let v193 : Index := Scalar.indexCast v192
  let c48_91 : Index := 48#32
  ![v193.toNat, 48]
def k1_off1158 (v153 : BitVec 32) : Fin 2 → Nat :=
  let v200 : Index := Scalar.indexCast v153
  let c64_93 : Index := 64#32
  ![v200.toNat, 64]
def k1_off1159 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_94 : BitVec 32 := 16#32
  let v202 : BitVec 32 := Scalar.muli arg16 c16_i32_94
  let c1_i32_95 : BitVec 32 := 1#32
  let v203 : BitVec 32 := Scalar.addi v202 c1_i32_95
  let v204 : Index := Scalar.indexCast v203
  let c64_96 : Index := 64#32
  ![v204.toNat, 64]
def k1_off1160 (v153 : BitVec 32) : Fin 2 → Nat :=
  let v211 : Index := Scalar.indexCast v153
  let c80_98 : Index := 80#32
  ![v211.toNat, 80]
def k1_off1161 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_99 : BitVec 32 := 16#32
  let v213 : BitVec 32 := Scalar.muli arg16 c16_i32_99
  let c1_i32_100 : BitVec 32 := 1#32
  let v214 : BitVec 32 := Scalar.addi v213 c1_i32_100
  let v215 : Index := Scalar.indexCast v214
  let c80_101 : Index := 80#32
  ![v215.toNat, 80]
def k1_off1162 (v153 : BitVec 32) : Fin 2 → Nat :=
  let v222 : Index := Scalar.indexCast v153
  let c96_103 : Index := 96#32
  ![v222.toNat, 96]
def k1_off1163 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_104 : BitVec 32 := 16#32
  let v224 : BitVec 32 := Scalar.muli arg16 c16_i32_104
  let c1_i32_105 : BitVec 32 := 1#32
  let v225 : BitVec 32 := Scalar.addi v224 c1_i32_105
  let v226 : Index := Scalar.indexCast v225
  let c96_106 : Index := 96#32
  ![v226.toNat, 96]
def k1_off1164 (v153 : BitVec 32) : Fin 2 → Nat :=
  let v233 : Index := Scalar.indexCast v153
  let c112_108 : Index := 112#32
  ![v233.toNat, 112]

def k1_chk89 (i : grid1.Coords) (v51 : BitVec 32) (v53 : BitVec 32) (v153 : BitVec 32) : Prop :=
  (∀ (k1_h19 : k1_cond19 i = 1#1), ∀ (k1_h21 : k1_cond21 v51 v53 = 1#1), ∀ a, (k1_off1150 v153) a + S1x16.size a ≤ S256x128.size a) ∧
  (∀ (k1_h19 : k1_cond19 i = 1#1), ∀ (k1_h21 : k1_cond21 v51 v53 = 1#1), ∀ a, (k1_off1152 v153) a + S1x16.size a ≤ S256x128.size a) ∧
  (∀ (k1_h19 : k1_cond19 i = 1#1), ∀ (k1_h21 : k1_cond21 v51 v53 = 1#1), ∀ a, (k1_off1154 v153) a + S1x16.size a ≤ S256x128.size a) ∧
  (∀ (k1_h19 : k1_cond19 i = 1#1), ∀ (k1_h21 : k1_cond21 v51 v53 = 1#1), ∀ a, (k1_off1156 v153) a + S1x16.size a ≤ S256x128.size a) ∧
  (∀ (k1_h19 : k1_cond19 i = 1#1), ∀ (k1_h21 : k1_cond21 v51 v53 = 1#1), ∀ a, (k1_off1158 v153) a + S1x16.size a ≤ S256x128.size a) ∧
  (∀ (k1_h19 : k1_cond19 i = 1#1), ∀ (k1_h21 : k1_cond21 v51 v53 = 1#1), ∀ a, (k1_off1160 v153) a + S1x16.size a ≤ S256x128.size a) ∧
  (∀ (k1_h19 : k1_cond19 i = 1#1), ∀ (k1_h21 : k1_cond21 v51 v53 = 1#1), ∀ a, (k1_off1162 v153) a + S1x16.size a ≤ S256x128.size a) ∧
  (∀ (k1_h19 : k1_cond19 i = 1#1), ∀ (k1_h21 : k1_cond21 v51 v53 = 1#1), ∀ a, (k1_off1164 v153) a + S1x16.size a ≤ S256x128.size a)
theorem k1_off1150_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1150 v153) a + S1x16.size a ≤ S256x128.size a := fun i v51 v53 v153 k1_hw89 k1_h19 k1_h21 => k1_hw89.1 k1_h19 k1_h21
theorem k1_off1152_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1152 v153) a + S1x16.size a ≤ S256x128.size a := fun i v51 v53 v153 k1_hw89 k1_h19 k1_h21 => k1_hw89.2.1 k1_h19 k1_h21
theorem k1_off1154_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1154 v153) a + S1x16.size a ≤ S256x128.size a := fun i v51 v53 v153 k1_hw89 k1_h19 k1_h21 => k1_hw89.2.2.1 k1_h19 k1_h21
theorem k1_off1156_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1156 v153) a + S1x16.size a ≤ S256x128.size a := fun i v51 v53 v153 k1_hw89 k1_h19 k1_h21 => k1_hw89.2.2.2.1 k1_h19 k1_h21
theorem k1_off1158_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1158 v153) a + S1x16.size a ≤ S256x128.size a := fun i v51 v53 v153 k1_hw89 k1_h19 k1_h21 => k1_hw89.2.2.2.2.1 k1_h19 k1_h21
theorem k1_off1160_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1160 v153) a + S1x16.size a ≤ S256x128.size a := fun i v51 v53 v153 k1_hw89 k1_h19 k1_h21 => k1_hw89.2.2.2.2.2.1 k1_h19 k1_h21
theorem k1_off1162_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1162 v153) a + S1x16.size a ≤ S256x128.size a := fun i v51 v53 v153 k1_hw89 k1_h19 k1_h21 => k1_hw89.2.2.2.2.2.2.1 k1_h19 k1_h21
theorem k1_off1164_inb : ∀ (i : grid1.Coords) (v51 : BitVec 32) (v53 : BitVec 32) (v153 : BitVec 32) (k1_hw89 : k1_chk89 i v51 v53 v153), ∀ (k1_h19 : k1_cond19 i = 1#1), ∀ (k1_h21 : k1_cond21 v51 v53 = 1#1), ∀ a, (k1_off1164 v153) a + S1x16.size a ≤ S256x128.size a := fun i v51 v53 v153 k1_hw89 k1_h19 k1_h21 => k1_hw89.2.2.2.2.2.2.2 k1_h19 k1_h21

def k1_off1165 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_109 : BitVec 32 := 16#32
  let v235 : BitVec 32 := Scalar.muli arg16 c16_i32_109
  let c1_i32_110 : BitVec 32 := 1#32
  let v236 : BitVec 32 := Scalar.addi v235 c1_i32_110
  let v237 : Index := Scalar.indexCast v236
  let c112_111 : Index := 112#32
  ![v237.toNat, 112]
def k1_off1166 (v245 : BitVec 32) : Fin 2 → Nat :=
  let v248 : Index := Scalar.indexCast v245
  let c0_113 : Index := 0#32
  ![v248.toNat, 0]

def k1_off1167 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_114 : BitVec 32 := 16#32
  let v250 : BitVec 32 := Scalar.muli arg16 c16_i32_114
  let c2_i32 : BitVec 32 := 2#32
  let v251 : BitVec 32 := Scalar.addi v250 c2_i32
  let v252 : Index := Scalar.indexCast v251
  let c0_115 : Index := 0#32
  ![v252.toNat, 0]
def k1_off1168 (v245 : BitVec 32) : Fin 2 → Nat :=
  let v259 : Index := Scalar.indexCast v245
  let c16_117 : Index := 16#32
  ![v259.toNat, 16]
def k1_off1169 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_118 : BitVec 32 := 16#32
  let v261 : BitVec 32 := Scalar.muli arg16 c16_i32_118
  let c2_i32_119 : BitVec 32 := 2#32
  let v262 : BitVec 32 := Scalar.addi v261 c2_i32_119
  let v263 : Index := Scalar.indexCast v262
  let c16_120 : Index := 16#32
  ![v263.toNat, 16]
def k1_off1170 (v245 : BitVec 32) : Fin 2 → Nat :=
  let v270 : Index := Scalar.indexCast v245
  let c32_122 : Index := 32#32
  ![v270.toNat, 32]
def k1_off1171 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_123 : BitVec 32 := 16#32
  let v272 : BitVec 32 := Scalar.muli arg16 c16_i32_123
  let c2_i32_124 : BitVec 32 := 2#32
  let v273 : BitVec 32 := Scalar.addi v272 c2_i32_124
  let v274 : Index := Scalar.indexCast v273
  let c32_125 : Index := 32#32
  ![v274.toNat, 32]
def k1_off1172 (v245 : BitVec 32) : Fin 2 → Nat :=
  let v281 : Index := Scalar.indexCast v245
  let c48_127 : Index := 48#32
  ![v281.toNat, 48]
def k1_off1173 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_128 : BitVec 32 := 16#32
  let v283 : BitVec 32 := Scalar.muli arg16 c16_i32_128
  let c2_i32_129 : BitVec 32 := 2#32
  let v284 : BitVec 32 := Scalar.addi v283 c2_i32_129
  let v285 : Index := Scalar.indexCast v284
  let c48_130 : Index := 48#32
  ![v285.toNat, 48]
def k1_off1174 (v245 : BitVec 32) : Fin 2 → Nat :=
  let v292 : Index := Scalar.indexCast v245
  let c64_132 : Index := 64#32
  ![v292.toNat, 64]
def k1_off1175 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_133 : BitVec 32 := 16#32
  let v294 : BitVec 32 := Scalar.muli arg16 c16_i32_133
  let c2_i32_134 : BitVec 32 := 2#32
  let v295 : BitVec 32 := Scalar.addi v294 c2_i32_134
  let v296 : Index := Scalar.indexCast v295
  let c64_135 : Index := 64#32
  ![v296.toNat, 64]
def k1_off1176 (v245 : BitVec 32) : Fin 2 → Nat :=
  let v303 : Index := Scalar.indexCast v245
  let c80_137 : Index := 80#32
  ![v303.toNat, 80]
def k1_off1177 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_138 : BitVec 32 := 16#32
  let v305 : BitVec 32 := Scalar.muli arg16 c16_i32_138
  let c2_i32_139 : BitVec 32 := 2#32
  let v306 : BitVec 32 := Scalar.addi v305 c2_i32_139
  let v307 : Index := Scalar.indexCast v306
  let c80_140 : Index := 80#32
  ![v307.toNat, 80]
def k1_off1178 (v245 : BitVec 32) : Fin 2 → Nat :=
  let v314 : Index := Scalar.indexCast v245
  let c96_142 : Index := 96#32
  ![v314.toNat, 96]
def k1_off1179 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_143 : BitVec 32 := 16#32
  let v316 : BitVec 32 := Scalar.muli arg16 c16_i32_143
  let c2_i32_144 : BitVec 32 := 2#32
  let v317 : BitVec 32 := Scalar.addi v316 c2_i32_144
  let v318 : Index := Scalar.indexCast v317
  let c96_145 : Index := 96#32
  ![v318.toNat, 96]
def k1_off1180 (v245 : BitVec 32) : Fin 2 → Nat :=
  let v325 : Index := Scalar.indexCast v245
  let c112_147 : Index := 112#32
  ![v325.toNat, 112]

def k1_chk90 (i : grid1.Coords) (v51 : BitVec 32) (v53 : BitVec 32) (v245 : BitVec 32) : Prop :=
  (∀ (k1_h19 : k1_cond19 i = 1#1), ∀ (k1_h21 : k1_cond21 v51 v53 = 1#1), ∀ a, (k1_off1166 v245) a + S1x16.size a ≤ S256x128.size a) ∧
  (∀ (k1_h19 : k1_cond19 i = 1#1), ∀ (k1_h21 : k1_cond21 v51 v53 = 1#1), ∀ a, (k1_off1168 v245) a + S1x16.size a ≤ S256x128.size a) ∧
  (∀ (k1_h19 : k1_cond19 i = 1#1), ∀ (k1_h21 : k1_cond21 v51 v53 = 1#1), ∀ a, (k1_off1170 v245) a + S1x16.size a ≤ S256x128.size a) ∧
  (∀ (k1_h19 : k1_cond19 i = 1#1), ∀ (k1_h21 : k1_cond21 v51 v53 = 1#1), ∀ a, (k1_off1172 v245) a + S1x16.size a ≤ S256x128.size a) ∧
  (∀ (k1_h19 : k1_cond19 i = 1#1), ∀ (k1_h21 : k1_cond21 v51 v53 = 1#1), ∀ a, (k1_off1174 v245) a + S1x16.size a ≤ S256x128.size a) ∧
  (∀ (k1_h19 : k1_cond19 i = 1#1), ∀ (k1_h21 : k1_cond21 v51 v53 = 1#1), ∀ a, (k1_off1176 v245) a + S1x16.size a ≤ S256x128.size a) ∧
  (∀ (k1_h19 : k1_cond19 i = 1#1), ∀ (k1_h21 : k1_cond21 v51 v53 = 1#1), ∀ a, (k1_off1178 v245) a + S1x16.size a ≤ S256x128.size a) ∧
  (∀ (k1_h19 : k1_cond19 i = 1#1), ∀ (k1_h21 : k1_cond21 v51 v53 = 1#1), ∀ a, (k1_off1180 v245) a + S1x16.size a ≤ S256x128.size a)
theorem k1_off1166_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1166 v245) a + S1x16.size a ≤ S256x128.size a := fun i v51 v53 v245 k1_hw90 k1_h19 k1_h21 => k1_hw90.1 k1_h19 k1_h21
theorem k1_off1168_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1168 v245) a + S1x16.size a ≤ S256x128.size a := fun i v51 v53 v245 k1_hw90 k1_h19 k1_h21 => k1_hw90.2.1 k1_h19 k1_h21
theorem k1_off1170_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1170 v245) a + S1x16.size a ≤ S256x128.size a := fun i v51 v53 v245 k1_hw90 k1_h19 k1_h21 => k1_hw90.2.2.1 k1_h19 k1_h21
theorem k1_off1172_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1172 v245) a + S1x16.size a ≤ S256x128.size a := fun i v51 v53 v245 k1_hw90 k1_h19 k1_h21 => k1_hw90.2.2.2.1 k1_h19 k1_h21
theorem k1_off1174_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1174 v245) a + S1x16.size a ≤ S256x128.size a := fun i v51 v53 v245 k1_hw90 k1_h19 k1_h21 => k1_hw90.2.2.2.2.1 k1_h19 k1_h21
theorem k1_off1176_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1176 v245) a + S1x16.size a ≤ S256x128.size a := fun i v51 v53 v245 k1_hw90 k1_h19 k1_h21 => k1_hw90.2.2.2.2.2.1 k1_h19 k1_h21
theorem k1_off1178_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1178 v245) a + S1x16.size a ≤ S256x128.size a := fun i v51 v53 v245 k1_hw90 k1_h19 k1_h21 => k1_hw90.2.2.2.2.2.2.1 k1_h19 k1_h21
theorem k1_off1180_inb : ∀ (i : grid1.Coords) (v51 : BitVec 32) (v53 : BitVec 32) (v245 : BitVec 32) (k1_hw90 : k1_chk90 i v51 v53 v245), ∀ (k1_h19 : k1_cond19 i = 1#1), ∀ (k1_h21 : k1_cond21 v51 v53 = 1#1), ∀ a, (k1_off1180 v245) a + S1x16.size a ≤ S256x128.size a := fun i v51 v53 v245 k1_hw90 k1_h19 k1_h21 => k1_hw90.2.2.2.2.2.2.2 k1_h19 k1_h21

def k1_off1181 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_148 : BitVec 32 := 16#32
  let v327 : BitVec 32 := Scalar.muli arg16 c16_i32_148
  let c2_i32_149 : BitVec 32 := 2#32
  let v328 : BitVec 32 := Scalar.addi v327 c2_i32_149
  let v329 : Index := Scalar.indexCast v328
  let c112_150 : Index := 112#32
  ![v329.toNat, 112]
def k1_off1182 (v337 : BitVec 32) : Fin 2 → Nat :=
  let v340 : Index := Scalar.indexCast v337
  let c0_152 : Index := 0#32
  ![v340.toNat, 0]

def k1_off1183 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_153 : BitVec 32 := 16#32
  let v342 : BitVec 32 := Scalar.muli arg16 c16_i32_153
  let c3_i32 : BitVec 32 := 3#32
  let v343 : BitVec 32 := Scalar.addi v342 c3_i32
  let v344 : Index := Scalar.indexCast v343
  let c0_154 : Index := 0#32
  ![v344.toNat, 0]
def k1_off1184 (v337 : BitVec 32) : Fin 2 → Nat :=
  let v351 : Index := Scalar.indexCast v337
  let c16_156 : Index := 16#32
  ![v351.toNat, 16]
def k1_off1185 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_157 : BitVec 32 := 16#32
  let v353 : BitVec 32 := Scalar.muli arg16 c16_i32_157
  let c3_i32_158 : BitVec 32 := 3#32
  let v354 : BitVec 32 := Scalar.addi v353 c3_i32_158
  let v355 : Index := Scalar.indexCast v354
  let c16_159 : Index := 16#32
  ![v355.toNat, 16]
def k1_off1186 (v337 : BitVec 32) : Fin 2 → Nat :=
  let v362 : Index := Scalar.indexCast v337
  let c32_161 : Index := 32#32
  ![v362.toNat, 32]
def k1_off1187 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_162 : BitVec 32 := 16#32
  let v364 : BitVec 32 := Scalar.muli arg16 c16_i32_162
  let c3_i32_163 : BitVec 32 := 3#32
  let v365 : BitVec 32 := Scalar.addi v364 c3_i32_163
  let v366 : Index := Scalar.indexCast v365
  let c32_164 : Index := 32#32
  ![v366.toNat, 32]
def k1_off1188 (v337 : BitVec 32) : Fin 2 → Nat :=
  let v373 : Index := Scalar.indexCast v337
  let c48_166 : Index := 48#32
  ![v373.toNat, 48]
def k1_off1189 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_167 : BitVec 32 := 16#32
  let v375 : BitVec 32 := Scalar.muli arg16 c16_i32_167
  let c3_i32_168 : BitVec 32 := 3#32
  let v376 : BitVec 32 := Scalar.addi v375 c3_i32_168
  let v377 : Index := Scalar.indexCast v376
  let c48_169 : Index := 48#32
  ![v377.toNat, 48]
def k1_off1190 (v337 : BitVec 32) : Fin 2 → Nat :=
  let v384 : Index := Scalar.indexCast v337
  let c64_171 : Index := 64#32
  ![v384.toNat, 64]
def k1_off1191 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_172 : BitVec 32 := 16#32
  let v386 : BitVec 32 := Scalar.muli arg16 c16_i32_172
  let c3_i32_173 : BitVec 32 := 3#32
  let v387 : BitVec 32 := Scalar.addi v386 c3_i32_173
  let v388 : Index := Scalar.indexCast v387
  let c64_174 : Index := 64#32
  ![v388.toNat, 64]
def k1_off1192 (v337 : BitVec 32) : Fin 2 → Nat :=
  let v395 : Index := Scalar.indexCast v337
  let c80_176 : Index := 80#32
  ![v395.toNat, 80]
def k1_off1193 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_177 : BitVec 32 := 16#32
  let v397 : BitVec 32 := Scalar.muli arg16 c16_i32_177
  let c3_i32_178 : BitVec 32 := 3#32
  let v398 : BitVec 32 := Scalar.addi v397 c3_i32_178
  let v399 : Index := Scalar.indexCast v398
  let c80_179 : Index := 80#32
  ![v399.toNat, 80]
def k1_off1194 (v337 : BitVec 32) : Fin 2 → Nat :=
  let v406 : Index := Scalar.indexCast v337
  let c96_181 : Index := 96#32
  ![v406.toNat, 96]
def k1_off1195 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_182 : BitVec 32 := 16#32
  let v408 : BitVec 32 := Scalar.muli arg16 c16_i32_182
  let c3_i32_183 : BitVec 32 := 3#32
  let v409 : BitVec 32 := Scalar.addi v408 c3_i32_183
  let v410 : Index := Scalar.indexCast v409
  let c96_184 : Index := 96#32
  ![v410.toNat, 96]
def k1_off1196 (v337 : BitVec 32) : Fin 2 → Nat :=
  let v417 : Index := Scalar.indexCast v337
  let c112_186 : Index := 112#32
  ![v417.toNat, 112]

def k1_chk91 (i : grid1.Coords) (v51 : BitVec 32) (v53 : BitVec 32) (v337 : BitVec 32) : Prop :=
  (∀ (k1_h19 : k1_cond19 i = 1#1), ∀ (k1_h21 : k1_cond21 v51 v53 = 1#1), ∀ a, (k1_off1182 v337) a + S1x16.size a ≤ S256x128.size a) ∧
  (∀ (k1_h19 : k1_cond19 i = 1#1), ∀ (k1_h21 : k1_cond21 v51 v53 = 1#1), ∀ a, (k1_off1184 v337) a + S1x16.size a ≤ S256x128.size a) ∧
  (∀ (k1_h19 : k1_cond19 i = 1#1), ∀ (k1_h21 : k1_cond21 v51 v53 = 1#1), ∀ a, (k1_off1186 v337) a + S1x16.size a ≤ S256x128.size a) ∧
  (∀ (k1_h19 : k1_cond19 i = 1#1), ∀ (k1_h21 : k1_cond21 v51 v53 = 1#1), ∀ a, (k1_off1188 v337) a + S1x16.size a ≤ S256x128.size a) ∧
  (∀ (k1_h19 : k1_cond19 i = 1#1), ∀ (k1_h21 : k1_cond21 v51 v53 = 1#1), ∀ a, (k1_off1190 v337) a + S1x16.size a ≤ S256x128.size a) ∧
  (∀ (k1_h19 : k1_cond19 i = 1#1), ∀ (k1_h21 : k1_cond21 v51 v53 = 1#1), ∀ a, (k1_off1192 v337) a + S1x16.size a ≤ S256x128.size a) ∧
  (∀ (k1_h19 : k1_cond19 i = 1#1), ∀ (k1_h21 : k1_cond21 v51 v53 = 1#1), ∀ a, (k1_off1194 v337) a + S1x16.size a ≤ S256x128.size a) ∧
  (∀ (k1_h19 : k1_cond19 i = 1#1), ∀ (k1_h21 : k1_cond21 v51 v53 = 1#1), ∀ a, (k1_off1196 v337) a + S1x16.size a ≤ S256x128.size a)
theorem k1_off1182_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1182 v337) a + S1x16.size a ≤ S256x128.size a := fun i v51 v53 v337 k1_hw91 k1_h19 k1_h21 => k1_hw91.1 k1_h19 k1_h21
theorem k1_off1184_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1184 v337) a + S1x16.size a ≤ S256x128.size a := fun i v51 v53 v337 k1_hw91 k1_h19 k1_h21 => k1_hw91.2.1 k1_h19 k1_h21
theorem k1_off1186_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1186 v337) a + S1x16.size a ≤ S256x128.size a := fun i v51 v53 v337 k1_hw91 k1_h19 k1_h21 => k1_hw91.2.2.1 k1_h19 k1_h21
theorem k1_off1188_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1188 v337) a + S1x16.size a ≤ S256x128.size a := fun i v51 v53 v337 k1_hw91 k1_h19 k1_h21 => k1_hw91.2.2.2.1 k1_h19 k1_h21
theorem k1_off1190_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1190 v337) a + S1x16.size a ≤ S256x128.size a := fun i v51 v53 v337 k1_hw91 k1_h19 k1_h21 => k1_hw91.2.2.2.2.1 k1_h19 k1_h21
theorem k1_off1192_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1192 v337) a + S1x16.size a ≤ S256x128.size a := fun i v51 v53 v337 k1_hw91 k1_h19 k1_h21 => k1_hw91.2.2.2.2.2.1 k1_h19 k1_h21
theorem k1_off1194_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1194 v337) a + S1x16.size a ≤ S256x128.size a := fun i v51 v53 v337 k1_hw91 k1_h19 k1_h21 => k1_hw91.2.2.2.2.2.2.1 k1_h19 k1_h21
theorem k1_off1196_inb : ∀ (i : grid1.Coords) (v51 : BitVec 32) (v53 : BitVec 32) (v337 : BitVec 32) (k1_hw91 : k1_chk91 i v51 v53 v337), ∀ (k1_h19 : k1_cond19 i = 1#1), ∀ (k1_h21 : k1_cond21 v51 v53 = 1#1), ∀ a, (k1_off1196 v337) a + S1x16.size a ≤ S256x128.size a := fun i v51 v53 v337 k1_hw91 k1_h19 k1_h21 => k1_hw91.2.2.2.2.2.2.2 k1_h19 k1_h21

def k1_off1197 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_187 : BitVec 32 := 16#32
  let v419 : BitVec 32 := Scalar.muli arg16 c16_i32_187
  let c3_i32_188 : BitVec 32 := 3#32
  let v420 : BitVec 32 := Scalar.addi v419 c3_i32_188
  let v421 : Index := Scalar.indexCast v420
  let c112_189 : Index := 112#32
  ![v421.toNat, 112]
def k1_off1198 (v429 : BitVec 32) : Fin 2 → Nat :=
  let v432 : Index := Scalar.indexCast v429
  let c0_191 : Index := 0#32
  ![v432.toNat, 0]

def k1_off1199 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_192 : BitVec 32 := 16#32
  let v434 : BitVec 32 := Scalar.muli arg16 c16_i32_192
  let c4_i32 : BitVec 32 := 4#32
  let v435 : BitVec 32 := Scalar.addi v434 c4_i32
  let v436 : Index := Scalar.indexCast v435
  let c0_193 : Index := 0#32
  ![v436.toNat, 0]
def k1_off1200 (v429 : BitVec 32) : Fin 2 → Nat :=
  let v443 : Index := Scalar.indexCast v429
  let c16_195 : Index := 16#32
  ![v443.toNat, 16]
def k1_off1201 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_196 : BitVec 32 := 16#32
  let v445 : BitVec 32 := Scalar.muli arg16 c16_i32_196
  let c4_i32_197 : BitVec 32 := 4#32
  let v446 : BitVec 32 := Scalar.addi v445 c4_i32_197
  let v447 : Index := Scalar.indexCast v446
  let c16_198 : Index := 16#32
  ![v447.toNat, 16]
def k1_off1202 (v429 : BitVec 32) : Fin 2 → Nat :=
  let v454 : Index := Scalar.indexCast v429
  let c32_200 : Index := 32#32
  ![v454.toNat, 32]
def k1_off1203 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_201 : BitVec 32 := 16#32
  let v456 : BitVec 32 := Scalar.muli arg16 c16_i32_201
  let c4_i32_202 : BitVec 32 := 4#32
  let v457 : BitVec 32 := Scalar.addi v456 c4_i32_202
  let v458 : Index := Scalar.indexCast v457
  let c32_203 : Index := 32#32
  ![v458.toNat, 32]
def k1_off1204 (v429 : BitVec 32) : Fin 2 → Nat :=
  let v465 : Index := Scalar.indexCast v429
  let c48_205 : Index := 48#32
  ![v465.toNat, 48]
def k1_off1205 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_206 : BitVec 32 := 16#32
  let v467 : BitVec 32 := Scalar.muli arg16 c16_i32_206
  let c4_i32_207 : BitVec 32 := 4#32
  let v468 : BitVec 32 := Scalar.addi v467 c4_i32_207
  let v469 : Index := Scalar.indexCast v468
  let c48_208 : Index := 48#32
  ![v469.toNat, 48]
def k1_off1206 (v429 : BitVec 32) : Fin 2 → Nat :=
  let v476 : Index := Scalar.indexCast v429
  let c64_210 : Index := 64#32
  ![v476.toNat, 64]
def k1_off1207 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_211 : BitVec 32 := 16#32
  let v478 : BitVec 32 := Scalar.muli arg16 c16_i32_211
  let c4_i32_212 : BitVec 32 := 4#32
  let v479 : BitVec 32 := Scalar.addi v478 c4_i32_212
  let v480 : Index := Scalar.indexCast v479
  let c64_213 : Index := 64#32
  ![v480.toNat, 64]
def k1_off1208 (v429 : BitVec 32) : Fin 2 → Nat :=
  let v487 : Index := Scalar.indexCast v429
  let c80_215 : Index := 80#32
  ![v487.toNat, 80]
def k1_off1209 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_216 : BitVec 32 := 16#32
  let v489 : BitVec 32 := Scalar.muli arg16 c16_i32_216
  let c4_i32_217 : BitVec 32 := 4#32
  let v490 : BitVec 32 := Scalar.addi v489 c4_i32_217
  let v491 : Index := Scalar.indexCast v490
  let c80_218 : Index := 80#32
  ![v491.toNat, 80]
def k1_off1210 (v429 : BitVec 32) : Fin 2 → Nat :=
  let v498 : Index := Scalar.indexCast v429
  let c96_220 : Index := 96#32
  ![v498.toNat, 96]
def k1_off1211 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_221 : BitVec 32 := 16#32
  let v500 : BitVec 32 := Scalar.muli arg16 c16_i32_221
  let c4_i32_222 : BitVec 32 := 4#32
  let v501 : BitVec 32 := Scalar.addi v500 c4_i32_222
  let v502 : Index := Scalar.indexCast v501
  let c96_223 : Index := 96#32
  ![v502.toNat, 96]
def k1_off1212 (v429 : BitVec 32) : Fin 2 → Nat :=
  let v509 : Index := Scalar.indexCast v429
  let c112_225 : Index := 112#32
  ![v509.toNat, 112]

def k1_chk92 (i : grid1.Coords) (v51 : BitVec 32) (v53 : BitVec 32) (v429 : BitVec 32) : Prop :=
  (∀ (k1_h19 : k1_cond19 i = 1#1), ∀ (k1_h21 : k1_cond21 v51 v53 = 1#1), ∀ a, (k1_off1198 v429) a + S1x16.size a ≤ S256x128.size a) ∧
  (∀ (k1_h19 : k1_cond19 i = 1#1), ∀ (k1_h21 : k1_cond21 v51 v53 = 1#1), ∀ a, (k1_off1200 v429) a + S1x16.size a ≤ S256x128.size a) ∧
  (∀ (k1_h19 : k1_cond19 i = 1#1), ∀ (k1_h21 : k1_cond21 v51 v53 = 1#1), ∀ a, (k1_off1202 v429) a + S1x16.size a ≤ S256x128.size a) ∧
  (∀ (k1_h19 : k1_cond19 i = 1#1), ∀ (k1_h21 : k1_cond21 v51 v53 = 1#1), ∀ a, (k1_off1204 v429) a + S1x16.size a ≤ S256x128.size a) ∧
  (∀ (k1_h19 : k1_cond19 i = 1#1), ∀ (k1_h21 : k1_cond21 v51 v53 = 1#1), ∀ a, (k1_off1206 v429) a + S1x16.size a ≤ S256x128.size a) ∧
  (∀ (k1_h19 : k1_cond19 i = 1#1), ∀ (k1_h21 : k1_cond21 v51 v53 = 1#1), ∀ a, (k1_off1208 v429) a + S1x16.size a ≤ S256x128.size a) ∧
  (∀ (k1_h19 : k1_cond19 i = 1#1), ∀ (k1_h21 : k1_cond21 v51 v53 = 1#1), ∀ a, (k1_off1210 v429) a + S1x16.size a ≤ S256x128.size a) ∧
  (∀ (k1_h19 : k1_cond19 i = 1#1), ∀ (k1_h21 : k1_cond21 v51 v53 = 1#1), ∀ a, (k1_off1212 v429) a + S1x16.size a ≤ S256x128.size a)
theorem k1_off1198_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1198 v429) a + S1x16.size a ≤ S256x128.size a := fun i v51 v53 v429 k1_hw92 k1_h19 k1_h21 => k1_hw92.1 k1_h19 k1_h21
theorem k1_off1200_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1200 v429) a + S1x16.size a ≤ S256x128.size a := fun i v51 v53 v429 k1_hw92 k1_h19 k1_h21 => k1_hw92.2.1 k1_h19 k1_h21
theorem k1_off1202_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1202 v429) a + S1x16.size a ≤ S256x128.size a := fun i v51 v53 v429 k1_hw92 k1_h19 k1_h21 => k1_hw92.2.2.1 k1_h19 k1_h21
theorem k1_off1204_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1204 v429) a + S1x16.size a ≤ S256x128.size a := fun i v51 v53 v429 k1_hw92 k1_h19 k1_h21 => k1_hw92.2.2.2.1 k1_h19 k1_h21
theorem k1_off1206_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1206 v429) a + S1x16.size a ≤ S256x128.size a := fun i v51 v53 v429 k1_hw92 k1_h19 k1_h21 => k1_hw92.2.2.2.2.1 k1_h19 k1_h21
theorem k1_off1208_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1208 v429) a + S1x16.size a ≤ S256x128.size a := fun i v51 v53 v429 k1_hw92 k1_h19 k1_h21 => k1_hw92.2.2.2.2.2.1 k1_h19 k1_h21
theorem k1_off1210_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1210 v429) a + S1x16.size a ≤ S256x128.size a := fun i v51 v53 v429 k1_hw92 k1_h19 k1_h21 => k1_hw92.2.2.2.2.2.2.1 k1_h19 k1_h21
theorem k1_off1212_inb : ∀ (i : grid1.Coords) (v51 : BitVec 32) (v53 : BitVec 32) (v429 : BitVec 32) (k1_hw92 : k1_chk92 i v51 v53 v429), ∀ (k1_h19 : k1_cond19 i = 1#1), ∀ (k1_h21 : k1_cond21 v51 v53 = 1#1), ∀ a, (k1_off1212 v429) a + S1x16.size a ≤ S256x128.size a := fun i v51 v53 v429 k1_hw92 k1_h19 k1_h21 => k1_hw92.2.2.2.2.2.2.2 k1_h19 k1_h21

def k1_off1213 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_226 : BitVec 32 := 16#32
  let v511 : BitVec 32 := Scalar.muli arg16 c16_i32_226
  let c4_i32_227 : BitVec 32 := 4#32
  let v512 : BitVec 32 := Scalar.addi v511 c4_i32_227
  let v513 : Index := Scalar.indexCast v512
  let c112_228 : Index := 112#32
  ![v513.toNat, 112]
def k1_off1214 (v521 : BitVec 32) : Fin 2 → Nat :=
  let v524 : Index := Scalar.indexCast v521
  let c0_230 : Index := 0#32
  ![v524.toNat, 0]

def k1_off1215 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_231 : BitVec 32 := 16#32
  let v526 : BitVec 32 := Scalar.muli arg16 c16_i32_231
  let c5_i32 : BitVec 32 := 5#32
  let v527 : BitVec 32 := Scalar.addi v526 c5_i32
  let v528 : Index := Scalar.indexCast v527
  let c0_232 : Index := 0#32
  ![v528.toNat, 0]
def k1_off1216 (v521 : BitVec 32) : Fin 2 → Nat :=
  let v535 : Index := Scalar.indexCast v521
  let c16_234 : Index := 16#32
  ![v535.toNat, 16]
def k1_off1217 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_235 : BitVec 32 := 16#32
  let v537 : BitVec 32 := Scalar.muli arg16 c16_i32_235
  let c5_i32_236 : BitVec 32 := 5#32
  let v538 : BitVec 32 := Scalar.addi v537 c5_i32_236
  let v539 : Index := Scalar.indexCast v538
  let c16_237 : Index := 16#32
  ![v539.toNat, 16]
def k1_off1218 (v521 : BitVec 32) : Fin 2 → Nat :=
  let v546 : Index := Scalar.indexCast v521
  let c32_239 : Index := 32#32
  ![v546.toNat, 32]
def k1_off1219 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_240 : BitVec 32 := 16#32
  let v548 : BitVec 32 := Scalar.muli arg16 c16_i32_240
  let c5_i32_241 : BitVec 32 := 5#32
  let v549 : BitVec 32 := Scalar.addi v548 c5_i32_241
  let v550 : Index := Scalar.indexCast v549
  let c32_242 : Index := 32#32
  ![v550.toNat, 32]
def k1_off1220 (v521 : BitVec 32) : Fin 2 → Nat :=
  let v557 : Index := Scalar.indexCast v521
  let c48_244 : Index := 48#32
  ![v557.toNat, 48]
def k1_off1221 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_245 : BitVec 32 := 16#32
  let v559 : BitVec 32 := Scalar.muli arg16 c16_i32_245
  let c5_i32_246 : BitVec 32 := 5#32
  let v560 : BitVec 32 := Scalar.addi v559 c5_i32_246
  let v561 : Index := Scalar.indexCast v560
  let c48_247 : Index := 48#32
  ![v561.toNat, 48]
def k1_off1222 (v521 : BitVec 32) : Fin 2 → Nat :=
  let v568 : Index := Scalar.indexCast v521
  let c64_249 : Index := 64#32
  ![v568.toNat, 64]
def k1_off1223 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_250 : BitVec 32 := 16#32
  let v570 : BitVec 32 := Scalar.muli arg16 c16_i32_250
  let c5_i32_251 : BitVec 32 := 5#32
  let v571 : BitVec 32 := Scalar.addi v570 c5_i32_251
  let v572 : Index := Scalar.indexCast v571
  let c64_252 : Index := 64#32
  ![v572.toNat, 64]
def k1_off1224 (v521 : BitVec 32) : Fin 2 → Nat :=
  let v579 : Index := Scalar.indexCast v521
  let c80_254 : Index := 80#32
  ![v579.toNat, 80]
def k1_off1225 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_255 : BitVec 32 := 16#32
  let v581 : BitVec 32 := Scalar.muli arg16 c16_i32_255
  let c5_i32_256 : BitVec 32 := 5#32
  let v582 : BitVec 32 := Scalar.addi v581 c5_i32_256
  let v583 : Index := Scalar.indexCast v582
  let c80_257 : Index := 80#32
  ![v583.toNat, 80]
def k1_off1226 (v521 : BitVec 32) : Fin 2 → Nat :=
  let v590 : Index := Scalar.indexCast v521
  let c96_259 : Index := 96#32
  ![v590.toNat, 96]
def k1_off1227 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_260 : BitVec 32 := 16#32
  let v592 : BitVec 32 := Scalar.muli arg16 c16_i32_260
  let c5_i32_261 : BitVec 32 := 5#32
  let v593 : BitVec 32 := Scalar.addi v592 c5_i32_261
  let v594 : Index := Scalar.indexCast v593
  let c96_262 : Index := 96#32
  ![v594.toNat, 96]
def k1_off1228 (v521 : BitVec 32) : Fin 2 → Nat :=
  let v601 : Index := Scalar.indexCast v521
  let c112_264 : Index := 112#32
  ![v601.toNat, 112]

def k1_chk93 (i : grid1.Coords) (v51 : BitVec 32) (v53 : BitVec 32) (v521 : BitVec 32) : Prop :=
  (∀ (k1_h19 : k1_cond19 i = 1#1), ∀ (k1_h21 : k1_cond21 v51 v53 = 1#1), ∀ a, (k1_off1214 v521) a + S1x16.size a ≤ S256x128.size a) ∧
  (∀ (k1_h19 : k1_cond19 i = 1#1), ∀ (k1_h21 : k1_cond21 v51 v53 = 1#1), ∀ a, (k1_off1216 v521) a + S1x16.size a ≤ S256x128.size a) ∧
  (∀ (k1_h19 : k1_cond19 i = 1#1), ∀ (k1_h21 : k1_cond21 v51 v53 = 1#1), ∀ a, (k1_off1218 v521) a + S1x16.size a ≤ S256x128.size a) ∧
  (∀ (k1_h19 : k1_cond19 i = 1#1), ∀ (k1_h21 : k1_cond21 v51 v53 = 1#1), ∀ a, (k1_off1220 v521) a + S1x16.size a ≤ S256x128.size a) ∧
  (∀ (k1_h19 : k1_cond19 i = 1#1), ∀ (k1_h21 : k1_cond21 v51 v53 = 1#1), ∀ a, (k1_off1222 v521) a + S1x16.size a ≤ S256x128.size a) ∧
  (∀ (k1_h19 : k1_cond19 i = 1#1), ∀ (k1_h21 : k1_cond21 v51 v53 = 1#1), ∀ a, (k1_off1224 v521) a + S1x16.size a ≤ S256x128.size a) ∧
  (∀ (k1_h19 : k1_cond19 i = 1#1), ∀ (k1_h21 : k1_cond21 v51 v53 = 1#1), ∀ a, (k1_off1226 v521) a + S1x16.size a ≤ S256x128.size a) ∧
  (∀ (k1_h19 : k1_cond19 i = 1#1), ∀ (k1_h21 : k1_cond21 v51 v53 = 1#1), ∀ a, (k1_off1228 v521) a + S1x16.size a ≤ S256x128.size a)
theorem k1_off1214_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1214 v521) a + S1x16.size a ≤ S256x128.size a := fun i v51 v53 v521 k1_hw93 k1_h19 k1_h21 => k1_hw93.1 k1_h19 k1_h21
theorem k1_off1216_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1216 v521) a + S1x16.size a ≤ S256x128.size a := fun i v51 v53 v521 k1_hw93 k1_h19 k1_h21 => k1_hw93.2.1 k1_h19 k1_h21
theorem k1_off1218_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1218 v521) a + S1x16.size a ≤ S256x128.size a := fun i v51 v53 v521 k1_hw93 k1_h19 k1_h21 => k1_hw93.2.2.1 k1_h19 k1_h21
theorem k1_off1220_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1220 v521) a + S1x16.size a ≤ S256x128.size a := fun i v51 v53 v521 k1_hw93 k1_h19 k1_h21 => k1_hw93.2.2.2.1 k1_h19 k1_h21
theorem k1_off1222_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1222 v521) a + S1x16.size a ≤ S256x128.size a := fun i v51 v53 v521 k1_hw93 k1_h19 k1_h21 => k1_hw93.2.2.2.2.1 k1_h19 k1_h21
theorem k1_off1224_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1224 v521) a + S1x16.size a ≤ S256x128.size a := fun i v51 v53 v521 k1_hw93 k1_h19 k1_h21 => k1_hw93.2.2.2.2.2.1 k1_h19 k1_h21
theorem k1_off1226_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1226 v521) a + S1x16.size a ≤ S256x128.size a := fun i v51 v53 v521 k1_hw93 k1_h19 k1_h21 => k1_hw93.2.2.2.2.2.2.1 k1_h19 k1_h21
theorem k1_off1228_inb : ∀ (i : grid1.Coords) (v51 : BitVec 32) (v53 : BitVec 32) (v521 : BitVec 32) (k1_hw93 : k1_chk93 i v51 v53 v521), ∀ (k1_h19 : k1_cond19 i = 1#1), ∀ (k1_h21 : k1_cond21 v51 v53 = 1#1), ∀ a, (k1_off1228 v521) a + S1x16.size a ≤ S256x128.size a := fun i v51 v53 v521 k1_hw93 k1_h19 k1_h21 => k1_hw93.2.2.2.2.2.2.2 k1_h19 k1_h21

def k1_off1229 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_265 : BitVec 32 := 16#32
  let v603 : BitVec 32 := Scalar.muli arg16 c16_i32_265
  let c5_i32_266 : BitVec 32 := 5#32
  let v604 : BitVec 32 := Scalar.addi v603 c5_i32_266
  let v605 : Index := Scalar.indexCast v604
  let c112_267 : Index := 112#32
  ![v605.toNat, 112]
def k1_off1230 (v613 : BitVec 32) : Fin 2 → Nat :=
  let v616 : Index := Scalar.indexCast v613
  let c0_269 : Index := 0#32
  ![v616.toNat, 0]

def k1_off1231 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_270 : BitVec 32 := 16#32
  let v618 : BitVec 32 := Scalar.muli arg16 c16_i32_270
  let c6_i32_271 : BitVec 32 := 6#32
  let v619 : BitVec 32 := Scalar.addi v618 c6_i32_271
  let v620 : Index := Scalar.indexCast v619
  let c0_272 : Index := 0#32
  ![v620.toNat, 0]
def k1_off1232 (v613 : BitVec 32) : Fin 2 → Nat :=
  let v627 : Index := Scalar.indexCast v613
  let c16_274 : Index := 16#32
  ![v627.toNat, 16]
def k1_off1233 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_275 : BitVec 32 := 16#32
  let v629 : BitVec 32 := Scalar.muli arg16 c16_i32_275
  let c6_i32_276 : BitVec 32 := 6#32
  let v630 : BitVec 32 := Scalar.addi v629 c6_i32_276
  let v631 : Index := Scalar.indexCast v630
  let c16_277 : Index := 16#32
  ![v631.toNat, 16]
def k1_off1234 (v613 : BitVec 32) : Fin 2 → Nat :=
  let v638 : Index := Scalar.indexCast v613
  let c32_279 : Index := 32#32
  ![v638.toNat, 32]
def k1_off1235 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_280 : BitVec 32 := 16#32
  let v640 : BitVec 32 := Scalar.muli arg16 c16_i32_280
  let c6_i32_281 : BitVec 32 := 6#32
  let v641 : BitVec 32 := Scalar.addi v640 c6_i32_281
  let v642 : Index := Scalar.indexCast v641
  let c32_282 : Index := 32#32
  ![v642.toNat, 32]
def k1_off1236 (v613 : BitVec 32) : Fin 2 → Nat :=
  let v649 : Index := Scalar.indexCast v613
  let c48_284 : Index := 48#32
  ![v649.toNat, 48]
def k1_off1237 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_285 : BitVec 32 := 16#32
  let v651 : BitVec 32 := Scalar.muli arg16 c16_i32_285
  let c6_i32_286 : BitVec 32 := 6#32
  let v652 : BitVec 32 := Scalar.addi v651 c6_i32_286
  let v653 : Index := Scalar.indexCast v652
  let c48_287 : Index := 48#32
  ![v653.toNat, 48]
def k1_off1238 (v613 : BitVec 32) : Fin 2 → Nat :=
  let v660 : Index := Scalar.indexCast v613
  let c64_289 : Index := 64#32
  ![v660.toNat, 64]
def k1_off1239 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_290 : BitVec 32 := 16#32
  let v662 : BitVec 32 := Scalar.muli arg16 c16_i32_290
  let c6_i32_291 : BitVec 32 := 6#32
  let v663 : BitVec 32 := Scalar.addi v662 c6_i32_291
  let v664 : Index := Scalar.indexCast v663
  let c64_292 : Index := 64#32
  ![v664.toNat, 64]
def k1_off1240 (v613 : BitVec 32) : Fin 2 → Nat :=
  let v671 : Index := Scalar.indexCast v613
  let c80_294 : Index := 80#32
  ![v671.toNat, 80]
def k1_off1241 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_295 : BitVec 32 := 16#32
  let v673 : BitVec 32 := Scalar.muli arg16 c16_i32_295
  let c6_i32_296 : BitVec 32 := 6#32
  let v674 : BitVec 32 := Scalar.addi v673 c6_i32_296
  let v675 : Index := Scalar.indexCast v674
  let c80_297 : Index := 80#32
  ![v675.toNat, 80]
def k1_off1242 (v613 : BitVec 32) : Fin 2 → Nat :=
  let v682 : Index := Scalar.indexCast v613
  let c96_299 : Index := 96#32
  ![v682.toNat, 96]
def k1_off1243 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_300 : BitVec 32 := 16#32
  let v684 : BitVec 32 := Scalar.muli arg16 c16_i32_300
  let c6_i32_301 : BitVec 32 := 6#32
  let v685 : BitVec 32 := Scalar.addi v684 c6_i32_301
  let v686 : Index := Scalar.indexCast v685
  let c96_302 : Index := 96#32
  ![v686.toNat, 96]
def k1_off1244 (v613 : BitVec 32) : Fin 2 → Nat :=
  let v693 : Index := Scalar.indexCast v613
  let c112_304 : Index := 112#32
  ![v693.toNat, 112]

def k1_chk94 (i : grid1.Coords) (v51 : BitVec 32) (v53 : BitVec 32) (v613 : BitVec 32) : Prop :=
  (∀ (k1_h19 : k1_cond19 i = 1#1), ∀ (k1_h21 : k1_cond21 v51 v53 = 1#1), ∀ a, (k1_off1230 v613) a + S1x16.size a ≤ S256x128.size a) ∧
  (∀ (k1_h19 : k1_cond19 i = 1#1), ∀ (k1_h21 : k1_cond21 v51 v53 = 1#1), ∀ a, (k1_off1232 v613) a + S1x16.size a ≤ S256x128.size a) ∧
  (∀ (k1_h19 : k1_cond19 i = 1#1), ∀ (k1_h21 : k1_cond21 v51 v53 = 1#1), ∀ a, (k1_off1234 v613) a + S1x16.size a ≤ S256x128.size a) ∧
  (∀ (k1_h19 : k1_cond19 i = 1#1), ∀ (k1_h21 : k1_cond21 v51 v53 = 1#1), ∀ a, (k1_off1236 v613) a + S1x16.size a ≤ S256x128.size a) ∧
  (∀ (k1_h19 : k1_cond19 i = 1#1), ∀ (k1_h21 : k1_cond21 v51 v53 = 1#1), ∀ a, (k1_off1238 v613) a + S1x16.size a ≤ S256x128.size a) ∧
  (∀ (k1_h19 : k1_cond19 i = 1#1), ∀ (k1_h21 : k1_cond21 v51 v53 = 1#1), ∀ a, (k1_off1240 v613) a + S1x16.size a ≤ S256x128.size a) ∧
  (∀ (k1_h19 : k1_cond19 i = 1#1), ∀ (k1_h21 : k1_cond21 v51 v53 = 1#1), ∀ a, (k1_off1242 v613) a + S1x16.size a ≤ S256x128.size a) ∧
  (∀ (k1_h19 : k1_cond19 i = 1#1), ∀ (k1_h21 : k1_cond21 v51 v53 = 1#1), ∀ a, (k1_off1244 v613) a + S1x16.size a ≤ S256x128.size a)
theorem k1_off1230_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1230 v613) a + S1x16.size a ≤ S256x128.size a := fun i v51 v53 v613 k1_hw94 k1_h19 k1_h21 => k1_hw94.1 k1_h19 k1_h21
theorem k1_off1232_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1232 v613) a + S1x16.size a ≤ S256x128.size a := fun i v51 v53 v613 k1_hw94 k1_h19 k1_h21 => k1_hw94.2.1 k1_h19 k1_h21
theorem k1_off1234_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1234 v613) a + S1x16.size a ≤ S256x128.size a := fun i v51 v53 v613 k1_hw94 k1_h19 k1_h21 => k1_hw94.2.2.1 k1_h19 k1_h21
theorem k1_off1236_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1236 v613) a + S1x16.size a ≤ S256x128.size a := fun i v51 v53 v613 k1_hw94 k1_h19 k1_h21 => k1_hw94.2.2.2.1 k1_h19 k1_h21
theorem k1_off1238_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1238 v613) a + S1x16.size a ≤ S256x128.size a := fun i v51 v53 v613 k1_hw94 k1_h19 k1_h21 => k1_hw94.2.2.2.2.1 k1_h19 k1_h21
theorem k1_off1240_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1240 v613) a + S1x16.size a ≤ S256x128.size a := fun i v51 v53 v613 k1_hw94 k1_h19 k1_h21 => k1_hw94.2.2.2.2.2.1 k1_h19 k1_h21
theorem k1_off1242_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1242 v613) a + S1x16.size a ≤ S256x128.size a := fun i v51 v53 v613 k1_hw94 k1_h19 k1_h21 => k1_hw94.2.2.2.2.2.2.1 k1_h19 k1_h21
theorem k1_off1244_inb : ∀ (i : grid1.Coords) (v51 : BitVec 32) (v53 : BitVec 32) (v613 : BitVec 32) (k1_hw94 : k1_chk94 i v51 v53 v613), ∀ (k1_h19 : k1_cond19 i = 1#1), ∀ (k1_h21 : k1_cond21 v51 v53 = 1#1), ∀ a, (k1_off1244 v613) a + S1x16.size a ≤ S256x128.size a := fun i v51 v53 v613 k1_hw94 k1_h19 k1_h21 => k1_hw94.2.2.2.2.2.2.2 k1_h19 k1_h21

def k1_off1245 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_305 : BitVec 32 := 16#32
  let v695 : BitVec 32 := Scalar.muli arg16 c16_i32_305
  let c6_i32_306 : BitVec 32 := 6#32
  let v696 : BitVec 32 := Scalar.addi v695 c6_i32_306
  let v697 : Index := Scalar.indexCast v696
  let c112_307 : Index := 112#32
  ![v697.toNat, 112]
def k1_off1246 (v705 : BitVec 32) : Fin 2 → Nat :=
  let v708 : Index := Scalar.indexCast v705
  let c0_309 : Index := 0#32
  ![v708.toNat, 0]

def k1_off1247 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_310 : BitVec 32 := 16#32
  let v710 : BitVec 32 := Scalar.muli arg16 c16_i32_310
  let c7_i32 : BitVec 32 := 7#32
  let v711 : BitVec 32 := Scalar.addi v710 c7_i32
  let v712 : Index := Scalar.indexCast v711
  let c0_311 : Index := 0#32
  ![v712.toNat, 0]
def k1_off1248 (v705 : BitVec 32) : Fin 2 → Nat :=
  let v719 : Index := Scalar.indexCast v705
  let c16_313 : Index := 16#32
  ![v719.toNat, 16]
def k1_off1249 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_314 : BitVec 32 := 16#32
  let v721 : BitVec 32 := Scalar.muli arg16 c16_i32_314
  let c7_i32_315 : BitVec 32 := 7#32
  let v722 : BitVec 32 := Scalar.addi v721 c7_i32_315
  let v723 : Index := Scalar.indexCast v722
  let c16_316 : Index := 16#32
  ![v723.toNat, 16]
def k1_off1250 (v705 : BitVec 32) : Fin 2 → Nat :=
  let v730 : Index := Scalar.indexCast v705
  let c32_318 : Index := 32#32
  ![v730.toNat, 32]
def k1_off1251 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_319 : BitVec 32 := 16#32
  let v732 : BitVec 32 := Scalar.muli arg16 c16_i32_319
  let c7_i32_320 : BitVec 32 := 7#32
  let v733 : BitVec 32 := Scalar.addi v732 c7_i32_320
  let v734 : Index := Scalar.indexCast v733
  let c32_321 : Index := 32#32
  ![v734.toNat, 32]
def k1_off1252 (v705 : BitVec 32) : Fin 2 → Nat :=
  let v741 : Index := Scalar.indexCast v705
  let c48_323 : Index := 48#32
  ![v741.toNat, 48]
def k1_off1253 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_324 : BitVec 32 := 16#32
  let v743 : BitVec 32 := Scalar.muli arg16 c16_i32_324
  let c7_i32_325 : BitVec 32 := 7#32
  let v744 : BitVec 32 := Scalar.addi v743 c7_i32_325
  let v745 : Index := Scalar.indexCast v744
  let c48_326 : Index := 48#32
  ![v745.toNat, 48]
def k1_off1254 (v705 : BitVec 32) : Fin 2 → Nat :=
  let v752 : Index := Scalar.indexCast v705
  let c64_328 : Index := 64#32
  ![v752.toNat, 64]
def k1_off1255 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_329 : BitVec 32 := 16#32
  let v754 : BitVec 32 := Scalar.muli arg16 c16_i32_329
  let c7_i32_330 : BitVec 32 := 7#32
  let v755 : BitVec 32 := Scalar.addi v754 c7_i32_330
  let v756 : Index := Scalar.indexCast v755
  let c64_331 : Index := 64#32
  ![v756.toNat, 64]
def k1_off1256 (v705 : BitVec 32) : Fin 2 → Nat :=
  let v763 : Index := Scalar.indexCast v705
  let c80_333 : Index := 80#32
  ![v763.toNat, 80]
def k1_off1257 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_334 : BitVec 32 := 16#32
  let v765 : BitVec 32 := Scalar.muli arg16 c16_i32_334
  let c7_i32_335 : BitVec 32 := 7#32
  let v766 : BitVec 32 := Scalar.addi v765 c7_i32_335
  let v767 : Index := Scalar.indexCast v766
  let c80_336 : Index := 80#32
  ![v767.toNat, 80]
def k1_off1258 (v705 : BitVec 32) : Fin 2 → Nat :=
  let v774 : Index := Scalar.indexCast v705
  let c96_338 : Index := 96#32
  ![v774.toNat, 96]
def k1_off1259 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_339 : BitVec 32 := 16#32
  let v776 : BitVec 32 := Scalar.muli arg16 c16_i32_339
  let c7_i32_340 : BitVec 32 := 7#32
  let v777 : BitVec 32 := Scalar.addi v776 c7_i32_340
  let v778 : Index := Scalar.indexCast v777
  let c96_341 : Index := 96#32
  ![v778.toNat, 96]
def k1_off1260 (v705 : BitVec 32) : Fin 2 → Nat :=
  let v785 : Index := Scalar.indexCast v705
  let c112_343 : Index := 112#32
  ![v785.toNat, 112]

def k1_chk95 (i : grid1.Coords) (v51 : BitVec 32) (v53 : BitVec 32) (v705 : BitVec 32) : Prop :=
  (∀ (k1_h19 : k1_cond19 i = 1#1), ∀ (k1_h21 : k1_cond21 v51 v53 = 1#1), ∀ a, (k1_off1246 v705) a + S1x16.size a ≤ S256x128.size a) ∧
  (∀ (k1_h19 : k1_cond19 i = 1#1), ∀ (k1_h21 : k1_cond21 v51 v53 = 1#1), ∀ a, (k1_off1248 v705) a + S1x16.size a ≤ S256x128.size a) ∧
  (∀ (k1_h19 : k1_cond19 i = 1#1), ∀ (k1_h21 : k1_cond21 v51 v53 = 1#1), ∀ a, (k1_off1250 v705) a + S1x16.size a ≤ S256x128.size a) ∧
  (∀ (k1_h19 : k1_cond19 i = 1#1), ∀ (k1_h21 : k1_cond21 v51 v53 = 1#1), ∀ a, (k1_off1252 v705) a + S1x16.size a ≤ S256x128.size a) ∧
  (∀ (k1_h19 : k1_cond19 i = 1#1), ∀ (k1_h21 : k1_cond21 v51 v53 = 1#1), ∀ a, (k1_off1254 v705) a + S1x16.size a ≤ S256x128.size a) ∧
  (∀ (k1_h19 : k1_cond19 i = 1#1), ∀ (k1_h21 : k1_cond21 v51 v53 = 1#1), ∀ a, (k1_off1256 v705) a + S1x16.size a ≤ S256x128.size a) ∧
  (∀ (k1_h19 : k1_cond19 i = 1#1), ∀ (k1_h21 : k1_cond21 v51 v53 = 1#1), ∀ a, (k1_off1258 v705) a + S1x16.size a ≤ S256x128.size a) ∧
  (∀ (k1_h19 : k1_cond19 i = 1#1), ∀ (k1_h21 : k1_cond21 v51 v53 = 1#1), ∀ a, (k1_off1260 v705) a + S1x16.size a ≤ S256x128.size a)
theorem k1_off1246_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1246 v705) a + S1x16.size a ≤ S256x128.size a := fun i v51 v53 v705 k1_hw95 k1_h19 k1_h21 => k1_hw95.1 k1_h19 k1_h21
theorem k1_off1248_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1248 v705) a + S1x16.size a ≤ S256x128.size a := fun i v51 v53 v705 k1_hw95 k1_h19 k1_h21 => k1_hw95.2.1 k1_h19 k1_h21
theorem k1_off1250_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1250 v705) a + S1x16.size a ≤ S256x128.size a := fun i v51 v53 v705 k1_hw95 k1_h19 k1_h21 => k1_hw95.2.2.1 k1_h19 k1_h21
theorem k1_off1252_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1252 v705) a + S1x16.size a ≤ S256x128.size a := fun i v51 v53 v705 k1_hw95 k1_h19 k1_h21 => k1_hw95.2.2.2.1 k1_h19 k1_h21
theorem k1_off1254_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1254 v705) a + S1x16.size a ≤ S256x128.size a := fun i v51 v53 v705 k1_hw95 k1_h19 k1_h21 => k1_hw95.2.2.2.2.1 k1_h19 k1_h21
theorem k1_off1256_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1256 v705) a + S1x16.size a ≤ S256x128.size a := fun i v51 v53 v705 k1_hw95 k1_h19 k1_h21 => k1_hw95.2.2.2.2.2.1 k1_h19 k1_h21
theorem k1_off1258_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1258 v705) a + S1x16.size a ≤ S256x128.size a := fun i v51 v53 v705 k1_hw95 k1_h19 k1_h21 => k1_hw95.2.2.2.2.2.2.1 k1_h19 k1_h21
theorem k1_off1260_inb : ∀ (i : grid1.Coords) (v51 : BitVec 32) (v53 : BitVec 32) (v705 : BitVec 32) (k1_hw95 : k1_chk95 i v51 v53 v705), ∀ (k1_h19 : k1_cond19 i = 1#1), ∀ (k1_h21 : k1_cond21 v51 v53 = 1#1), ∀ a, (k1_off1260 v705) a + S1x16.size a ≤ S256x128.size a := fun i v51 v53 v705 k1_hw95 k1_h19 k1_h21 => k1_hw95.2.2.2.2.2.2.2 k1_h19 k1_h21

def k1_off1261 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_344 : BitVec 32 := 16#32
  let v787 : BitVec 32 := Scalar.muli arg16 c16_i32_344
  let c7_i32_345 : BitVec 32 := 7#32
  let v788 : BitVec 32 := Scalar.addi v787 c7_i32_345
  let v789 : Index := Scalar.indexCast v788
  let c112_346 : Index := 112#32
  ![v789.toNat, 112]
def k1_off1262 (v797 : BitVec 32) : Fin 2 → Nat :=
  let v800 : Index := Scalar.indexCast v797
  let c0_348 : Index := 0#32
  ![v800.toNat, 0]

def k1_off1263 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_349 : BitVec 32 := 16#32
  let v802 : BitVec 32 := Scalar.muli arg16 c16_i32_349
  let c8_i32 : BitVec 32 := 8#32
  let v803 : BitVec 32 := Scalar.addi v802 c8_i32
  let v804 : Index := Scalar.indexCast v803
  let c0_350 : Index := 0#32
  ![v804.toNat, 0]
def k1_off1264 (v797 : BitVec 32) : Fin 2 → Nat :=
  let v811 : Index := Scalar.indexCast v797
  let c16_352 : Index := 16#32
  ![v811.toNat, 16]
def k1_off1265 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_353 : BitVec 32 := 16#32
  let v813 : BitVec 32 := Scalar.muli arg16 c16_i32_353
  let c8_i32_354 : BitVec 32 := 8#32
  let v814 : BitVec 32 := Scalar.addi v813 c8_i32_354
  let v815 : Index := Scalar.indexCast v814
  let c16_355 : Index := 16#32
  ![v815.toNat, 16]
def k1_off1266 (v797 : BitVec 32) : Fin 2 → Nat :=
  let v822 : Index := Scalar.indexCast v797
  let c32_357 : Index := 32#32
  ![v822.toNat, 32]
def k1_off1267 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_358 : BitVec 32 := 16#32
  let v824 : BitVec 32 := Scalar.muli arg16 c16_i32_358
  let c8_i32_359 : BitVec 32 := 8#32
  let v825 : BitVec 32 := Scalar.addi v824 c8_i32_359
  let v826 : Index := Scalar.indexCast v825
  let c32_360 : Index := 32#32
  ![v826.toNat, 32]
def k1_off1268 (v797 : BitVec 32) : Fin 2 → Nat :=
  let v833 : Index := Scalar.indexCast v797
  let c48_362 : Index := 48#32
  ![v833.toNat, 48]
def k1_off1269 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_363 : BitVec 32 := 16#32
  let v835 : BitVec 32 := Scalar.muli arg16 c16_i32_363
  let c8_i32_364 : BitVec 32 := 8#32
  let v836 : BitVec 32 := Scalar.addi v835 c8_i32_364
  let v837 : Index := Scalar.indexCast v836
  let c48_365 : Index := 48#32
  ![v837.toNat, 48]
def k1_off1270 (v797 : BitVec 32) : Fin 2 → Nat :=
  let v844 : Index := Scalar.indexCast v797
  let c64_367 : Index := 64#32
  ![v844.toNat, 64]
def k1_off1271 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_368 : BitVec 32 := 16#32
  let v846 : BitVec 32 := Scalar.muli arg16 c16_i32_368
  let c8_i32_369 : BitVec 32 := 8#32
  let v847 : BitVec 32 := Scalar.addi v846 c8_i32_369
  let v848 : Index := Scalar.indexCast v847
  let c64_370 : Index := 64#32
  ![v848.toNat, 64]
def k1_off1272 (v797 : BitVec 32) : Fin 2 → Nat :=
  let v855 : Index := Scalar.indexCast v797
  let c80_372 : Index := 80#32
  ![v855.toNat, 80]
def k1_off1273 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_373 : BitVec 32 := 16#32
  let v857 : BitVec 32 := Scalar.muli arg16 c16_i32_373
  let c8_i32_374 : BitVec 32 := 8#32
  let v858 : BitVec 32 := Scalar.addi v857 c8_i32_374
  let v859 : Index := Scalar.indexCast v858
  let c80_375 : Index := 80#32
  ![v859.toNat, 80]
def k1_off1274 (v797 : BitVec 32) : Fin 2 → Nat :=
  let v866 : Index := Scalar.indexCast v797
  let c96_377 : Index := 96#32
  ![v866.toNat, 96]
def k1_off1275 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_378 : BitVec 32 := 16#32
  let v868 : BitVec 32 := Scalar.muli arg16 c16_i32_378
  let c8_i32_379 : BitVec 32 := 8#32
  let v869 : BitVec 32 := Scalar.addi v868 c8_i32_379
  let v870 : Index := Scalar.indexCast v869
  let c96_380 : Index := 96#32
  ![v870.toNat, 96]
def k1_off1276 (v797 : BitVec 32) : Fin 2 → Nat :=
  let v877 : Index := Scalar.indexCast v797
  let c112_382 : Index := 112#32
  ![v877.toNat, 112]

def k1_chk96 (i : grid1.Coords) (v51 : BitVec 32) (v53 : BitVec 32) (v797 : BitVec 32) : Prop :=
  (∀ (k1_h19 : k1_cond19 i = 1#1), ∀ (k1_h21 : k1_cond21 v51 v53 = 1#1), ∀ a, (k1_off1262 v797) a + S1x16.size a ≤ S256x128.size a) ∧
  (∀ (k1_h19 : k1_cond19 i = 1#1), ∀ (k1_h21 : k1_cond21 v51 v53 = 1#1), ∀ a, (k1_off1264 v797) a + S1x16.size a ≤ S256x128.size a) ∧
  (∀ (k1_h19 : k1_cond19 i = 1#1), ∀ (k1_h21 : k1_cond21 v51 v53 = 1#1), ∀ a, (k1_off1266 v797) a + S1x16.size a ≤ S256x128.size a) ∧
  (∀ (k1_h19 : k1_cond19 i = 1#1), ∀ (k1_h21 : k1_cond21 v51 v53 = 1#1), ∀ a, (k1_off1268 v797) a + S1x16.size a ≤ S256x128.size a) ∧
  (∀ (k1_h19 : k1_cond19 i = 1#1), ∀ (k1_h21 : k1_cond21 v51 v53 = 1#1), ∀ a, (k1_off1270 v797) a + S1x16.size a ≤ S256x128.size a) ∧
  (∀ (k1_h19 : k1_cond19 i = 1#1), ∀ (k1_h21 : k1_cond21 v51 v53 = 1#1), ∀ a, (k1_off1272 v797) a + S1x16.size a ≤ S256x128.size a) ∧
  (∀ (k1_h19 : k1_cond19 i = 1#1), ∀ (k1_h21 : k1_cond21 v51 v53 = 1#1), ∀ a, (k1_off1274 v797) a + S1x16.size a ≤ S256x128.size a) ∧
  (∀ (k1_h19 : k1_cond19 i = 1#1), ∀ (k1_h21 : k1_cond21 v51 v53 = 1#1), ∀ a, (k1_off1276 v797) a + S1x16.size a ≤ S256x128.size a)
theorem k1_off1262_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1262 v797) a + S1x16.size a ≤ S256x128.size a := fun i v51 v53 v797 k1_hw96 k1_h19 k1_h21 => k1_hw96.1 k1_h19 k1_h21
theorem k1_off1264_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1264 v797) a + S1x16.size a ≤ S256x128.size a := fun i v51 v53 v797 k1_hw96 k1_h19 k1_h21 => k1_hw96.2.1 k1_h19 k1_h21
theorem k1_off1266_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1266 v797) a + S1x16.size a ≤ S256x128.size a := fun i v51 v53 v797 k1_hw96 k1_h19 k1_h21 => k1_hw96.2.2.1 k1_h19 k1_h21
theorem k1_off1268_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1268 v797) a + S1x16.size a ≤ S256x128.size a := fun i v51 v53 v797 k1_hw96 k1_h19 k1_h21 => k1_hw96.2.2.2.1 k1_h19 k1_h21
theorem k1_off1270_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1270 v797) a + S1x16.size a ≤ S256x128.size a := fun i v51 v53 v797 k1_hw96 k1_h19 k1_h21 => k1_hw96.2.2.2.2.1 k1_h19 k1_h21
theorem k1_off1272_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1272 v797) a + S1x16.size a ≤ S256x128.size a := fun i v51 v53 v797 k1_hw96 k1_h19 k1_h21 => k1_hw96.2.2.2.2.2.1 k1_h19 k1_h21
theorem k1_off1274_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1274 v797) a + S1x16.size a ≤ S256x128.size a := fun i v51 v53 v797 k1_hw96 k1_h19 k1_h21 => k1_hw96.2.2.2.2.2.2.1 k1_h19 k1_h21
theorem k1_off1276_inb : ∀ (i : grid1.Coords) (v51 : BitVec 32) (v53 : BitVec 32) (v797 : BitVec 32) (k1_hw96 : k1_chk96 i v51 v53 v797), ∀ (k1_h19 : k1_cond19 i = 1#1), ∀ (k1_h21 : k1_cond21 v51 v53 = 1#1), ∀ a, (k1_off1276 v797) a + S1x16.size a ≤ S256x128.size a := fun i v51 v53 v797 k1_hw96 k1_h19 k1_h21 => k1_hw96.2.2.2.2.2.2.2 k1_h19 k1_h21

def k1_off1277 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_383 : BitVec 32 := 16#32
  let v879 : BitVec 32 := Scalar.muli arg16 c16_i32_383
  let c8_i32_384 : BitVec 32 := 8#32
  let v880 : BitVec 32 := Scalar.addi v879 c8_i32_384
  let v881 : Index := Scalar.indexCast v880
  let c112_385 : Index := 112#32
  ![v881.toNat, 112]
def k1_off1278 (v889 : BitVec 32) : Fin 2 → Nat :=
  let v892 : Index := Scalar.indexCast v889
  let c0_387 : Index := 0#32
  ![v892.toNat, 0]

def k1_off1279 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_388 : BitVec 32 := 16#32
  let v894 : BitVec 32 := Scalar.muli arg16 c16_i32_388
  let c9_i32 : BitVec 32 := 9#32
  let v895 : BitVec 32 := Scalar.addi v894 c9_i32
  let v896 : Index := Scalar.indexCast v895
  let c0_389 : Index := 0#32
  ![v896.toNat, 0]
def k1_off1280 (v889 : BitVec 32) : Fin 2 → Nat :=
  let v903 : Index := Scalar.indexCast v889
  let c16_391 : Index := 16#32
  ![v903.toNat, 16]
def k1_off1281 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_392 : BitVec 32 := 16#32
  let v905 : BitVec 32 := Scalar.muli arg16 c16_i32_392
  let c9_i32_393 : BitVec 32 := 9#32
  let v906 : BitVec 32 := Scalar.addi v905 c9_i32_393
  let v907 : Index := Scalar.indexCast v906
  let c16_394 : Index := 16#32
  ![v907.toNat, 16]
def k1_off1282 (v889 : BitVec 32) : Fin 2 → Nat :=
  let v914 : Index := Scalar.indexCast v889
  let c32_396 : Index := 32#32
  ![v914.toNat, 32]
def k1_off1283 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_397 : BitVec 32 := 16#32
  let v916 : BitVec 32 := Scalar.muli arg16 c16_i32_397
  let c9_i32_398 : BitVec 32 := 9#32
  let v917 : BitVec 32 := Scalar.addi v916 c9_i32_398
  let v918 : Index := Scalar.indexCast v917
  let c32_399 : Index := 32#32
  ![v918.toNat, 32]
def k1_off1284 (v889 : BitVec 32) : Fin 2 → Nat :=
  let v925 : Index := Scalar.indexCast v889
  let c48_401 : Index := 48#32
  ![v925.toNat, 48]
def k1_off1285 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_402 : BitVec 32 := 16#32
  let v927 : BitVec 32 := Scalar.muli arg16 c16_i32_402
  let c9_i32_403 : BitVec 32 := 9#32
  let v928 : BitVec 32 := Scalar.addi v927 c9_i32_403
  let v929 : Index := Scalar.indexCast v928
  let c48_404 : Index := 48#32
  ![v929.toNat, 48]
def k1_off1286 (v889 : BitVec 32) : Fin 2 → Nat :=
  let v936 : Index := Scalar.indexCast v889
  let c64_406 : Index := 64#32
  ![v936.toNat, 64]
def k1_off1287 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_407 : BitVec 32 := 16#32
  let v938 : BitVec 32 := Scalar.muli arg16 c16_i32_407
  let c9_i32_408 : BitVec 32 := 9#32
  let v939 : BitVec 32 := Scalar.addi v938 c9_i32_408
  let v940 : Index := Scalar.indexCast v939
  let c64_409 : Index := 64#32
  ![v940.toNat, 64]
def k1_off1288 (v889 : BitVec 32) : Fin 2 → Nat :=
  let v947 : Index := Scalar.indexCast v889
  let c80_411 : Index := 80#32
  ![v947.toNat, 80]
def k1_off1289 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_412 : BitVec 32 := 16#32
  let v949 : BitVec 32 := Scalar.muli arg16 c16_i32_412
  let c9_i32_413 : BitVec 32 := 9#32
  let v950 : BitVec 32 := Scalar.addi v949 c9_i32_413
  let v951 : Index := Scalar.indexCast v950
  let c80_414 : Index := 80#32
  ![v951.toNat, 80]
def k1_off1290 (v889 : BitVec 32) : Fin 2 → Nat :=
  let v958 : Index := Scalar.indexCast v889
  let c96_416 : Index := 96#32
  ![v958.toNat, 96]
def k1_off1291 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_417 : BitVec 32 := 16#32
  let v960 : BitVec 32 := Scalar.muli arg16 c16_i32_417
  let c9_i32_418 : BitVec 32 := 9#32
  let v961 : BitVec 32 := Scalar.addi v960 c9_i32_418
  let v962 : Index := Scalar.indexCast v961
  let c96_419 : Index := 96#32
  ![v962.toNat, 96]
def k1_off1292 (v889 : BitVec 32) : Fin 2 → Nat :=
  let v969 : Index := Scalar.indexCast v889
  let c112_421 : Index := 112#32
  ![v969.toNat, 112]

def k1_chk97 (i : grid1.Coords) (v51 : BitVec 32) (v53 : BitVec 32) (v889 : BitVec 32) : Prop :=
  (∀ (k1_h19 : k1_cond19 i = 1#1), ∀ (k1_h21 : k1_cond21 v51 v53 = 1#1), ∀ a, (k1_off1278 v889) a + S1x16.size a ≤ S256x128.size a) ∧
  (∀ (k1_h19 : k1_cond19 i = 1#1), ∀ (k1_h21 : k1_cond21 v51 v53 = 1#1), ∀ a, (k1_off1280 v889) a + S1x16.size a ≤ S256x128.size a) ∧
  (∀ (k1_h19 : k1_cond19 i = 1#1), ∀ (k1_h21 : k1_cond21 v51 v53 = 1#1), ∀ a, (k1_off1282 v889) a + S1x16.size a ≤ S256x128.size a) ∧
  (∀ (k1_h19 : k1_cond19 i = 1#1), ∀ (k1_h21 : k1_cond21 v51 v53 = 1#1), ∀ a, (k1_off1284 v889) a + S1x16.size a ≤ S256x128.size a) ∧
  (∀ (k1_h19 : k1_cond19 i = 1#1), ∀ (k1_h21 : k1_cond21 v51 v53 = 1#1), ∀ a, (k1_off1286 v889) a + S1x16.size a ≤ S256x128.size a) ∧
  (∀ (k1_h19 : k1_cond19 i = 1#1), ∀ (k1_h21 : k1_cond21 v51 v53 = 1#1), ∀ a, (k1_off1288 v889) a + S1x16.size a ≤ S256x128.size a) ∧
  (∀ (k1_h19 : k1_cond19 i = 1#1), ∀ (k1_h21 : k1_cond21 v51 v53 = 1#1), ∀ a, (k1_off1290 v889) a + S1x16.size a ≤ S256x128.size a) ∧
  (∀ (k1_h19 : k1_cond19 i = 1#1), ∀ (k1_h21 : k1_cond21 v51 v53 = 1#1), ∀ a, (k1_off1292 v889) a + S1x16.size a ≤ S256x128.size a)
theorem k1_off1278_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1278 v889) a + S1x16.size a ≤ S256x128.size a := fun i v51 v53 v889 k1_hw97 k1_h19 k1_h21 => k1_hw97.1 k1_h19 k1_h21
theorem k1_off1280_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1280 v889) a + S1x16.size a ≤ S256x128.size a := fun i v51 v53 v889 k1_hw97 k1_h19 k1_h21 => k1_hw97.2.1 k1_h19 k1_h21
theorem k1_off1282_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1282 v889) a + S1x16.size a ≤ S256x128.size a := fun i v51 v53 v889 k1_hw97 k1_h19 k1_h21 => k1_hw97.2.2.1 k1_h19 k1_h21
theorem k1_off1284_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1284 v889) a + S1x16.size a ≤ S256x128.size a := fun i v51 v53 v889 k1_hw97 k1_h19 k1_h21 => k1_hw97.2.2.2.1 k1_h19 k1_h21
theorem k1_off1286_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1286 v889) a + S1x16.size a ≤ S256x128.size a := fun i v51 v53 v889 k1_hw97 k1_h19 k1_h21 => k1_hw97.2.2.2.2.1 k1_h19 k1_h21
theorem k1_off1288_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1288 v889) a + S1x16.size a ≤ S256x128.size a := fun i v51 v53 v889 k1_hw97 k1_h19 k1_h21 => k1_hw97.2.2.2.2.2.1 k1_h19 k1_h21
theorem k1_off1290_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1290 v889) a + S1x16.size a ≤ S256x128.size a := fun i v51 v53 v889 k1_hw97 k1_h19 k1_h21 => k1_hw97.2.2.2.2.2.2.1 k1_h19 k1_h21
theorem k1_off1292_inb : ∀ (i : grid1.Coords) (v51 : BitVec 32) (v53 : BitVec 32) (v889 : BitVec 32) (k1_hw97 : k1_chk97 i v51 v53 v889), ∀ (k1_h19 : k1_cond19 i = 1#1), ∀ (k1_h21 : k1_cond21 v51 v53 = 1#1), ∀ a, (k1_off1292 v889) a + S1x16.size a ≤ S256x128.size a := fun i v51 v53 v889 k1_hw97 k1_h19 k1_h21 => k1_hw97.2.2.2.2.2.2.2 k1_h19 k1_h21

def k1_off1293 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_422 : BitVec 32 := 16#32
  let v971 : BitVec 32 := Scalar.muli arg16 c16_i32_422
  let c9_i32_423 : BitVec 32 := 9#32
  let v972 : BitVec 32 := Scalar.addi v971 c9_i32_423
  let v973 : Index := Scalar.indexCast v972
  let c112_424 : Index := 112#32
  ![v973.toNat, 112]
def k1_off1294 (v981 : BitVec 32) : Fin 2 → Nat :=
  let v984 : Index := Scalar.indexCast v981
  let c0_426 : Index := 0#32
  ![v984.toNat, 0]

def k1_off1295 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_427 : BitVec 32 := 16#32
  let v986 : BitVec 32 := Scalar.muli arg16 c16_i32_427
  let c10_i32 : BitVec 32 := 10#32
  let v987 : BitVec 32 := Scalar.addi v986 c10_i32
  let v988 : Index := Scalar.indexCast v987
  let c0_428 : Index := 0#32
  ![v988.toNat, 0]
def k1_off1296 (v981 : BitVec 32) : Fin 2 → Nat :=
  let v995 : Index := Scalar.indexCast v981
  let c16_430 : Index := 16#32
  ![v995.toNat, 16]
def k1_off1297 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_431 : BitVec 32 := 16#32
  let v997 : BitVec 32 := Scalar.muli arg16 c16_i32_431
  let c10_i32_432 : BitVec 32 := 10#32
  let v998 : BitVec 32 := Scalar.addi v997 c10_i32_432
  let v999 : Index := Scalar.indexCast v998
  let c16_433 : Index := 16#32
  ![v999.toNat, 16]
def k1_off1298 (v981 : BitVec 32) : Fin 2 → Nat :=
  let v1006 : Index := Scalar.indexCast v981
  let c32_435 : Index := 32#32
  ![v1006.toNat, 32]
def k1_off1299 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_436 : BitVec 32 := 16#32
  let v1008 : BitVec 32 := Scalar.muli arg16 c16_i32_436
  let c10_i32_437 : BitVec 32 := 10#32
  let v1009 : BitVec 32 := Scalar.addi v1008 c10_i32_437
  let v1010 : Index := Scalar.indexCast v1009
  let c32_438 : Index := 32#32
  ![v1010.toNat, 32]
def k1_off1300 (v981 : BitVec 32) : Fin 2 → Nat :=
  let v1017 : Index := Scalar.indexCast v981
  let c48_440 : Index := 48#32
  ![v1017.toNat, 48]
def k1_off1301 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_441 : BitVec 32 := 16#32
  let v1019 : BitVec 32 := Scalar.muli arg16 c16_i32_441
  let c10_i32_442 : BitVec 32 := 10#32
  let v1020 : BitVec 32 := Scalar.addi v1019 c10_i32_442
  let v1021 : Index := Scalar.indexCast v1020
  let c48_443 : Index := 48#32
  ![v1021.toNat, 48]
def k1_off1302 (v981 : BitVec 32) : Fin 2 → Nat :=
  let v1028 : Index := Scalar.indexCast v981
  let c64_445 : Index := 64#32
  ![v1028.toNat, 64]
def k1_off1303 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_446 : BitVec 32 := 16#32
  let v1030 : BitVec 32 := Scalar.muli arg16 c16_i32_446
  let c10_i32_447 : BitVec 32 := 10#32
  let v1031 : BitVec 32 := Scalar.addi v1030 c10_i32_447
  let v1032 : Index := Scalar.indexCast v1031
  let c64_448 : Index := 64#32
  ![v1032.toNat, 64]
def k1_off1304 (v981 : BitVec 32) : Fin 2 → Nat :=
  let v1039 : Index := Scalar.indexCast v981
  let c80_450 : Index := 80#32
  ![v1039.toNat, 80]
def k1_off1305 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_451 : BitVec 32 := 16#32
  let v1041 : BitVec 32 := Scalar.muli arg16 c16_i32_451
  let c10_i32_452 : BitVec 32 := 10#32
  let v1042 : BitVec 32 := Scalar.addi v1041 c10_i32_452
  let v1043 : Index := Scalar.indexCast v1042
  let c80_453 : Index := 80#32
  ![v1043.toNat, 80]
def k1_off1306 (v981 : BitVec 32) : Fin 2 → Nat :=
  let v1050 : Index := Scalar.indexCast v981
  let c96_455 : Index := 96#32
  ![v1050.toNat, 96]
def k1_off1307 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_456 : BitVec 32 := 16#32
  let v1052 : BitVec 32 := Scalar.muli arg16 c16_i32_456
  let c10_i32_457 : BitVec 32 := 10#32
  let v1053 : BitVec 32 := Scalar.addi v1052 c10_i32_457
  let v1054 : Index := Scalar.indexCast v1053
  let c96_458 : Index := 96#32
  ![v1054.toNat, 96]
def k1_off1308 (v981 : BitVec 32) : Fin 2 → Nat :=
  let v1061 : Index := Scalar.indexCast v981
  let c112_460 : Index := 112#32
  ![v1061.toNat, 112]

def k1_chk98 (i : grid1.Coords) (v51 : BitVec 32) (v53 : BitVec 32) (v981 : BitVec 32) : Prop :=
  (∀ (k1_h19 : k1_cond19 i = 1#1), ∀ (k1_h21 : k1_cond21 v51 v53 = 1#1), ∀ a, (k1_off1294 v981) a + S1x16.size a ≤ S256x128.size a) ∧
  (∀ (k1_h19 : k1_cond19 i = 1#1), ∀ (k1_h21 : k1_cond21 v51 v53 = 1#1), ∀ a, (k1_off1296 v981) a + S1x16.size a ≤ S256x128.size a) ∧
  (∀ (k1_h19 : k1_cond19 i = 1#1), ∀ (k1_h21 : k1_cond21 v51 v53 = 1#1), ∀ a, (k1_off1298 v981) a + S1x16.size a ≤ S256x128.size a) ∧
  (∀ (k1_h19 : k1_cond19 i = 1#1), ∀ (k1_h21 : k1_cond21 v51 v53 = 1#1), ∀ a, (k1_off1300 v981) a + S1x16.size a ≤ S256x128.size a) ∧
  (∀ (k1_h19 : k1_cond19 i = 1#1), ∀ (k1_h21 : k1_cond21 v51 v53 = 1#1), ∀ a, (k1_off1302 v981) a + S1x16.size a ≤ S256x128.size a) ∧
  (∀ (k1_h19 : k1_cond19 i = 1#1), ∀ (k1_h21 : k1_cond21 v51 v53 = 1#1), ∀ a, (k1_off1304 v981) a + S1x16.size a ≤ S256x128.size a) ∧
  (∀ (k1_h19 : k1_cond19 i = 1#1), ∀ (k1_h21 : k1_cond21 v51 v53 = 1#1), ∀ a, (k1_off1306 v981) a + S1x16.size a ≤ S256x128.size a) ∧
  (∀ (k1_h19 : k1_cond19 i = 1#1), ∀ (k1_h21 : k1_cond21 v51 v53 = 1#1), ∀ a, (k1_off1308 v981) a + S1x16.size a ≤ S256x128.size a)
theorem k1_off1294_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1294 v981) a + S1x16.size a ≤ S256x128.size a := fun i v51 v53 v981 k1_hw98 k1_h19 k1_h21 => k1_hw98.1 k1_h19 k1_h21
theorem k1_off1296_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1296 v981) a + S1x16.size a ≤ S256x128.size a := fun i v51 v53 v981 k1_hw98 k1_h19 k1_h21 => k1_hw98.2.1 k1_h19 k1_h21
theorem k1_off1298_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1298 v981) a + S1x16.size a ≤ S256x128.size a := fun i v51 v53 v981 k1_hw98 k1_h19 k1_h21 => k1_hw98.2.2.1 k1_h19 k1_h21
theorem k1_off1300_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1300 v981) a + S1x16.size a ≤ S256x128.size a := fun i v51 v53 v981 k1_hw98 k1_h19 k1_h21 => k1_hw98.2.2.2.1 k1_h19 k1_h21
theorem k1_off1302_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1302 v981) a + S1x16.size a ≤ S256x128.size a := fun i v51 v53 v981 k1_hw98 k1_h19 k1_h21 => k1_hw98.2.2.2.2.1 k1_h19 k1_h21
theorem k1_off1304_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1304 v981) a + S1x16.size a ≤ S256x128.size a := fun i v51 v53 v981 k1_hw98 k1_h19 k1_h21 => k1_hw98.2.2.2.2.2.1 k1_h19 k1_h21
theorem k1_off1306_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1306 v981) a + S1x16.size a ≤ S256x128.size a := fun i v51 v53 v981 k1_hw98 k1_h19 k1_h21 => k1_hw98.2.2.2.2.2.2.1 k1_h19 k1_h21
theorem k1_off1308_inb : ∀ (i : grid1.Coords) (v51 : BitVec 32) (v53 : BitVec 32) (v981 : BitVec 32) (k1_hw98 : k1_chk98 i v51 v53 v981), ∀ (k1_h19 : k1_cond19 i = 1#1), ∀ (k1_h21 : k1_cond21 v51 v53 = 1#1), ∀ a, (k1_off1308 v981) a + S1x16.size a ≤ S256x128.size a := fun i v51 v53 v981 k1_hw98 k1_h19 k1_h21 => k1_hw98.2.2.2.2.2.2.2 k1_h19 k1_h21

def k1_off1309 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_461 : BitVec 32 := 16#32
  let v1063 : BitVec 32 := Scalar.muli arg16 c16_i32_461
  let c10_i32_462 : BitVec 32 := 10#32
  let v1064 : BitVec 32 := Scalar.addi v1063 c10_i32_462
  let v1065 : Index := Scalar.indexCast v1064
  let c112_463 : Index := 112#32
  ![v1065.toNat, 112]
def k1_off1310 (v1073 : BitVec 32) : Fin 2 → Nat :=
  let v1076 : Index := Scalar.indexCast v1073
  let c0_465 : Index := 0#32
  ![v1076.toNat, 0]

def k1_off1311 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_466 : BitVec 32 := 16#32
  let v1078 : BitVec 32 := Scalar.muli arg16 c16_i32_466
  let c11_i32 : BitVec 32 := 11#32
  let v1079 : BitVec 32 := Scalar.addi v1078 c11_i32
  let v1080 : Index := Scalar.indexCast v1079
  let c0_467 : Index := 0#32
  ![v1080.toNat, 0]
def k1_off1312 (v1073 : BitVec 32) : Fin 2 → Nat :=
  let v1087 : Index := Scalar.indexCast v1073
  let c16_469 : Index := 16#32
  ![v1087.toNat, 16]
def k1_off1313 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_470 : BitVec 32 := 16#32
  let v1089 : BitVec 32 := Scalar.muli arg16 c16_i32_470
  let c11_i32_471 : BitVec 32 := 11#32
  let v1090 : BitVec 32 := Scalar.addi v1089 c11_i32_471
  let v1091 : Index := Scalar.indexCast v1090
  let c16_472 : Index := 16#32
  ![v1091.toNat, 16]
def k1_off1314 (v1073 : BitVec 32) : Fin 2 → Nat :=
  let v1098 : Index := Scalar.indexCast v1073
  let c32_474 : Index := 32#32
  ![v1098.toNat, 32]
def k1_off1315 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_475 : BitVec 32 := 16#32
  let v1100 : BitVec 32 := Scalar.muli arg16 c16_i32_475
  let c11_i32_476 : BitVec 32 := 11#32
  let v1101 : BitVec 32 := Scalar.addi v1100 c11_i32_476
  let v1102 : Index := Scalar.indexCast v1101
  let c32_477 : Index := 32#32
  ![v1102.toNat, 32]
def k1_off1316 (v1073 : BitVec 32) : Fin 2 → Nat :=
  let v1109 : Index := Scalar.indexCast v1073
  let c48_479 : Index := 48#32
  ![v1109.toNat, 48]
def k1_off1317 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_480 : BitVec 32 := 16#32
  let v1111 : BitVec 32 := Scalar.muli arg16 c16_i32_480
  let c11_i32_481 : BitVec 32 := 11#32
  let v1112 : BitVec 32 := Scalar.addi v1111 c11_i32_481
  let v1113 : Index := Scalar.indexCast v1112
  let c48_482 : Index := 48#32
  ![v1113.toNat, 48]
def k1_off1318 (v1073 : BitVec 32) : Fin 2 → Nat :=
  let v1120 : Index := Scalar.indexCast v1073
  let c64_484 : Index := 64#32
  ![v1120.toNat, 64]
def k1_off1319 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_485 : BitVec 32 := 16#32
  let v1122 : BitVec 32 := Scalar.muli arg16 c16_i32_485
  let c11_i32_486 : BitVec 32 := 11#32
  let v1123 : BitVec 32 := Scalar.addi v1122 c11_i32_486
  let v1124 : Index := Scalar.indexCast v1123
  let c64_487 : Index := 64#32
  ![v1124.toNat, 64]
def k1_off1320 (v1073 : BitVec 32) : Fin 2 → Nat :=
  let v1131 : Index := Scalar.indexCast v1073
  let c80_489 : Index := 80#32
  ![v1131.toNat, 80]
def k1_off1321 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_490 : BitVec 32 := 16#32
  let v1133 : BitVec 32 := Scalar.muli arg16 c16_i32_490
  let c11_i32_491 : BitVec 32 := 11#32
  let v1134 : BitVec 32 := Scalar.addi v1133 c11_i32_491
  let v1135 : Index := Scalar.indexCast v1134
  let c80_492 : Index := 80#32
  ![v1135.toNat, 80]
def k1_off1322 (v1073 : BitVec 32) : Fin 2 → Nat :=
  let v1142 : Index := Scalar.indexCast v1073
  let c96_494 : Index := 96#32
  ![v1142.toNat, 96]
def k1_off1323 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_495 : BitVec 32 := 16#32
  let v1144 : BitVec 32 := Scalar.muli arg16 c16_i32_495
  let c11_i32_496 : BitVec 32 := 11#32
  let v1145 : BitVec 32 := Scalar.addi v1144 c11_i32_496
  let v1146 : Index := Scalar.indexCast v1145
  let c96_497 : Index := 96#32
  ![v1146.toNat, 96]
def k1_off1324 (v1073 : BitVec 32) : Fin 2 → Nat :=
  let v1153 : Index := Scalar.indexCast v1073
  let c112_499 : Index := 112#32
  ![v1153.toNat, 112]

def k1_chk99 (i : grid1.Coords) (v51 : BitVec 32) (v53 : BitVec 32) (v1073 : BitVec 32) : Prop :=
  (∀ (k1_h19 : k1_cond19 i = 1#1), ∀ (k1_h21 : k1_cond21 v51 v53 = 1#1), ∀ a, (k1_off1310 v1073) a + S1x16.size a ≤ S256x128.size a) ∧
  (∀ (k1_h19 : k1_cond19 i = 1#1), ∀ (k1_h21 : k1_cond21 v51 v53 = 1#1), ∀ a, (k1_off1312 v1073) a + S1x16.size a ≤ S256x128.size a) ∧
  (∀ (k1_h19 : k1_cond19 i = 1#1), ∀ (k1_h21 : k1_cond21 v51 v53 = 1#1), ∀ a, (k1_off1314 v1073) a + S1x16.size a ≤ S256x128.size a) ∧
  (∀ (k1_h19 : k1_cond19 i = 1#1), ∀ (k1_h21 : k1_cond21 v51 v53 = 1#1), ∀ a, (k1_off1316 v1073) a + S1x16.size a ≤ S256x128.size a) ∧
  (∀ (k1_h19 : k1_cond19 i = 1#1), ∀ (k1_h21 : k1_cond21 v51 v53 = 1#1), ∀ a, (k1_off1318 v1073) a + S1x16.size a ≤ S256x128.size a) ∧
  (∀ (k1_h19 : k1_cond19 i = 1#1), ∀ (k1_h21 : k1_cond21 v51 v53 = 1#1), ∀ a, (k1_off1320 v1073) a + S1x16.size a ≤ S256x128.size a) ∧
  (∀ (k1_h19 : k1_cond19 i = 1#1), ∀ (k1_h21 : k1_cond21 v51 v53 = 1#1), ∀ a, (k1_off1322 v1073) a + S1x16.size a ≤ S256x128.size a) ∧
  (∀ (k1_h19 : k1_cond19 i = 1#1), ∀ (k1_h21 : k1_cond21 v51 v53 = 1#1), ∀ a, (k1_off1324 v1073) a + S1x16.size a ≤ S256x128.size a)
theorem k1_off1310_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1310 v1073) a + S1x16.size a ≤ S256x128.size a := fun i v51 v53 v1073 k1_hw99 k1_h19 k1_h21 => k1_hw99.1 k1_h19 k1_h21
theorem k1_off1312_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1312 v1073) a + S1x16.size a ≤ S256x128.size a := fun i v51 v53 v1073 k1_hw99 k1_h19 k1_h21 => k1_hw99.2.1 k1_h19 k1_h21
theorem k1_off1314_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1314 v1073) a + S1x16.size a ≤ S256x128.size a := fun i v51 v53 v1073 k1_hw99 k1_h19 k1_h21 => k1_hw99.2.2.1 k1_h19 k1_h21
theorem k1_off1316_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1316 v1073) a + S1x16.size a ≤ S256x128.size a := fun i v51 v53 v1073 k1_hw99 k1_h19 k1_h21 => k1_hw99.2.2.2.1 k1_h19 k1_h21
theorem k1_off1318_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1318 v1073) a + S1x16.size a ≤ S256x128.size a := fun i v51 v53 v1073 k1_hw99 k1_h19 k1_h21 => k1_hw99.2.2.2.2.1 k1_h19 k1_h21
theorem k1_off1320_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1320 v1073) a + S1x16.size a ≤ S256x128.size a := fun i v51 v53 v1073 k1_hw99 k1_h19 k1_h21 => k1_hw99.2.2.2.2.2.1 k1_h19 k1_h21
theorem k1_off1322_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1322 v1073) a + S1x16.size a ≤ S256x128.size a := fun i v51 v53 v1073 k1_hw99 k1_h19 k1_h21 => k1_hw99.2.2.2.2.2.2.1 k1_h19 k1_h21
theorem k1_off1324_inb : ∀ (i : grid1.Coords) (v51 : BitVec 32) (v53 : BitVec 32) (v1073 : BitVec 32) (k1_hw99 : k1_chk99 i v51 v53 v1073), ∀ (k1_h19 : k1_cond19 i = 1#1), ∀ (k1_h21 : k1_cond21 v51 v53 = 1#1), ∀ a, (k1_off1324 v1073) a + S1x16.size a ≤ S256x128.size a := fun i v51 v53 v1073 k1_hw99 k1_h19 k1_h21 => k1_hw99.2.2.2.2.2.2.2 k1_h19 k1_h21

def k1_off1325 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_500 : BitVec 32 := 16#32
  let v1155 : BitVec 32 := Scalar.muli arg16 c16_i32_500
  let c11_i32_501 : BitVec 32 := 11#32
  let v1156 : BitVec 32 := Scalar.addi v1155 c11_i32_501
  let v1157 : Index := Scalar.indexCast v1156
  let c112_502 : Index := 112#32
  ![v1157.toNat, 112]
def k1_off1326 (v1165 : BitVec 32) : Fin 2 → Nat :=
  let v1168 : Index := Scalar.indexCast v1165
  let c0_504 : Index := 0#32
  ![v1168.toNat, 0]

def k1_off1327 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_505 : BitVec 32 := 16#32
  let v1170 : BitVec 32 := Scalar.muli arg16 c16_i32_505
  let c12_i32 : BitVec 32 := 12#32
  let v1171 : BitVec 32 := Scalar.addi v1170 c12_i32
  let v1172 : Index := Scalar.indexCast v1171
  let c0_506 : Index := 0#32
  ![v1172.toNat, 0]
def k1_off1328 (v1165 : BitVec 32) : Fin 2 → Nat :=
  let v1179 : Index := Scalar.indexCast v1165
  let c16_508 : Index := 16#32
  ![v1179.toNat, 16]
def k1_off1329 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_509 : BitVec 32 := 16#32
  let v1181 : BitVec 32 := Scalar.muli arg16 c16_i32_509
  let c12_i32_510 : BitVec 32 := 12#32
  let v1182 : BitVec 32 := Scalar.addi v1181 c12_i32_510
  let v1183 : Index := Scalar.indexCast v1182
  let c16_511 : Index := 16#32
  ![v1183.toNat, 16]
def k1_off1330 (v1165 : BitVec 32) : Fin 2 → Nat :=
  let v1190 : Index := Scalar.indexCast v1165
  let c32_513 : Index := 32#32
  ![v1190.toNat, 32]
def k1_off1331 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_514 : BitVec 32 := 16#32
  let v1192 : BitVec 32 := Scalar.muli arg16 c16_i32_514
  let c12_i32_515 : BitVec 32 := 12#32
  let v1193 : BitVec 32 := Scalar.addi v1192 c12_i32_515
  let v1194 : Index := Scalar.indexCast v1193
  let c32_516 : Index := 32#32
  ![v1194.toNat, 32]
def k1_off1332 (v1165 : BitVec 32) : Fin 2 → Nat :=
  let v1201 : Index := Scalar.indexCast v1165
  let c48_518 : Index := 48#32
  ![v1201.toNat, 48]
def k1_off1333 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_519 : BitVec 32 := 16#32
  let v1203 : BitVec 32 := Scalar.muli arg16 c16_i32_519
  let c12_i32_520 : BitVec 32 := 12#32
  let v1204 : BitVec 32 := Scalar.addi v1203 c12_i32_520
  let v1205 : Index := Scalar.indexCast v1204
  let c48_521 : Index := 48#32
  ![v1205.toNat, 48]
def k1_off1334 (v1165 : BitVec 32) : Fin 2 → Nat :=
  let v1212 : Index := Scalar.indexCast v1165
  let c64_523 : Index := 64#32
  ![v1212.toNat, 64]
def k1_off1335 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_524 : BitVec 32 := 16#32
  let v1214 : BitVec 32 := Scalar.muli arg16 c16_i32_524
  let c12_i32_525 : BitVec 32 := 12#32
  let v1215 : BitVec 32 := Scalar.addi v1214 c12_i32_525
  let v1216 : Index := Scalar.indexCast v1215
  let c64_526 : Index := 64#32
  ![v1216.toNat, 64]
def k1_off1336 (v1165 : BitVec 32) : Fin 2 → Nat :=
  let v1223 : Index := Scalar.indexCast v1165
  let c80_528 : Index := 80#32
  ![v1223.toNat, 80]
def k1_off1337 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_529 : BitVec 32 := 16#32
  let v1225 : BitVec 32 := Scalar.muli arg16 c16_i32_529
  let c12_i32_530 : BitVec 32 := 12#32
  let v1226 : BitVec 32 := Scalar.addi v1225 c12_i32_530
  let v1227 : Index := Scalar.indexCast v1226
  let c80_531 : Index := 80#32
  ![v1227.toNat, 80]
def k1_off1338 (v1165 : BitVec 32) : Fin 2 → Nat :=
  let v1234 : Index := Scalar.indexCast v1165
  let c96_533 : Index := 96#32
  ![v1234.toNat, 96]
def k1_off1339 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_534 : BitVec 32 := 16#32
  let v1236 : BitVec 32 := Scalar.muli arg16 c16_i32_534
  let c12_i32_535 : BitVec 32 := 12#32
  let v1237 : BitVec 32 := Scalar.addi v1236 c12_i32_535
  let v1238 : Index := Scalar.indexCast v1237
  let c96_536 : Index := 96#32
  ![v1238.toNat, 96]
def k1_off1340 (v1165 : BitVec 32) : Fin 2 → Nat :=
  let v1245 : Index := Scalar.indexCast v1165
  let c112_538 : Index := 112#32
  ![v1245.toNat, 112]

def k1_chk100 (i : grid1.Coords) (v51 : BitVec 32) (v53 : BitVec 32) (v1165 : BitVec 32) : Prop :=
  (∀ (k1_h19 : k1_cond19 i = 1#1), ∀ (k1_h21 : k1_cond21 v51 v53 = 1#1), ∀ a, (k1_off1326 v1165) a + S1x16.size a ≤ S256x128.size a) ∧
  (∀ (k1_h19 : k1_cond19 i = 1#1), ∀ (k1_h21 : k1_cond21 v51 v53 = 1#1), ∀ a, (k1_off1328 v1165) a + S1x16.size a ≤ S256x128.size a) ∧
  (∀ (k1_h19 : k1_cond19 i = 1#1), ∀ (k1_h21 : k1_cond21 v51 v53 = 1#1), ∀ a, (k1_off1330 v1165) a + S1x16.size a ≤ S256x128.size a) ∧
  (∀ (k1_h19 : k1_cond19 i = 1#1), ∀ (k1_h21 : k1_cond21 v51 v53 = 1#1), ∀ a, (k1_off1332 v1165) a + S1x16.size a ≤ S256x128.size a) ∧
  (∀ (k1_h19 : k1_cond19 i = 1#1), ∀ (k1_h21 : k1_cond21 v51 v53 = 1#1), ∀ a, (k1_off1334 v1165) a + S1x16.size a ≤ S256x128.size a) ∧
  (∀ (k1_h19 : k1_cond19 i = 1#1), ∀ (k1_h21 : k1_cond21 v51 v53 = 1#1), ∀ a, (k1_off1336 v1165) a + S1x16.size a ≤ S256x128.size a) ∧
  (∀ (k1_h19 : k1_cond19 i = 1#1), ∀ (k1_h21 : k1_cond21 v51 v53 = 1#1), ∀ a, (k1_off1338 v1165) a + S1x16.size a ≤ S256x128.size a) ∧
  (∀ (k1_h19 : k1_cond19 i = 1#1), ∀ (k1_h21 : k1_cond21 v51 v53 = 1#1), ∀ a, (k1_off1340 v1165) a + S1x16.size a ≤ S256x128.size a)
theorem k1_off1326_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1326 v1165) a + S1x16.size a ≤ S256x128.size a := fun i v51 v53 v1165 k1_hw100 k1_h19 k1_h21 => k1_hw100.1 k1_h19 k1_h21
theorem k1_off1328_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1328 v1165) a + S1x16.size a ≤ S256x128.size a := fun i v51 v53 v1165 k1_hw100 k1_h19 k1_h21 => k1_hw100.2.1 k1_h19 k1_h21
theorem k1_off1330_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1330 v1165) a + S1x16.size a ≤ S256x128.size a := fun i v51 v53 v1165 k1_hw100 k1_h19 k1_h21 => k1_hw100.2.2.1 k1_h19 k1_h21
theorem k1_off1332_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1332 v1165) a + S1x16.size a ≤ S256x128.size a := fun i v51 v53 v1165 k1_hw100 k1_h19 k1_h21 => k1_hw100.2.2.2.1 k1_h19 k1_h21
theorem k1_off1334_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1334 v1165) a + S1x16.size a ≤ S256x128.size a := fun i v51 v53 v1165 k1_hw100 k1_h19 k1_h21 => k1_hw100.2.2.2.2.1 k1_h19 k1_h21
theorem k1_off1336_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1336 v1165) a + S1x16.size a ≤ S256x128.size a := fun i v51 v53 v1165 k1_hw100 k1_h19 k1_h21 => k1_hw100.2.2.2.2.2.1 k1_h19 k1_h21
theorem k1_off1338_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1338 v1165) a + S1x16.size a ≤ S256x128.size a := fun i v51 v53 v1165 k1_hw100 k1_h19 k1_h21 => k1_hw100.2.2.2.2.2.2.1 k1_h19 k1_h21
theorem k1_off1340_inb : ∀ (i : grid1.Coords) (v51 : BitVec 32) (v53 : BitVec 32) (v1165 : BitVec 32) (k1_hw100 : k1_chk100 i v51 v53 v1165), ∀ (k1_h19 : k1_cond19 i = 1#1), ∀ (k1_h21 : k1_cond21 v51 v53 = 1#1), ∀ a, (k1_off1340 v1165) a + S1x16.size a ≤ S256x128.size a := fun i v51 v53 v1165 k1_hw100 k1_h19 k1_h21 => k1_hw100.2.2.2.2.2.2.2 k1_h19 k1_h21

def k1_off1341 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_539 : BitVec 32 := 16#32
  let v1247 : BitVec 32 := Scalar.muli arg16 c16_i32_539
  let c12_i32_540 : BitVec 32 := 12#32
  let v1248 : BitVec 32 := Scalar.addi v1247 c12_i32_540
  let v1249 : Index := Scalar.indexCast v1248
  let c112_541 : Index := 112#32
  ![v1249.toNat, 112]
def k1_off1342 (v1257 : BitVec 32) : Fin 2 → Nat :=
  let v1260 : Index := Scalar.indexCast v1257
  let c0_543 : Index := 0#32
  ![v1260.toNat, 0]

def k1_off1343 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_544 : BitVec 32 := 16#32
  let v1262 : BitVec 32 := Scalar.muli arg16 c16_i32_544
  let c13_i32 : BitVec 32 := 13#32
  let v1263 : BitVec 32 := Scalar.addi v1262 c13_i32
  let v1264 : Index := Scalar.indexCast v1263
  let c0_545 : Index := 0#32
  ![v1264.toNat, 0]
def k1_off1344 (v1257 : BitVec 32) : Fin 2 → Nat :=
  let v1271 : Index := Scalar.indexCast v1257
  let c16_547 : Index := 16#32
  ![v1271.toNat, 16]
def k1_off1345 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_548 : BitVec 32 := 16#32
  let v1273 : BitVec 32 := Scalar.muli arg16 c16_i32_548
  let c13_i32_549 : BitVec 32 := 13#32
  let v1274 : BitVec 32 := Scalar.addi v1273 c13_i32_549
  let v1275 : Index := Scalar.indexCast v1274
  let c16_550 : Index := 16#32
  ![v1275.toNat, 16]
def k1_off1346 (v1257 : BitVec 32) : Fin 2 → Nat :=
  let v1282 : Index := Scalar.indexCast v1257
  let c32_552 : Index := 32#32
  ![v1282.toNat, 32]
def k1_off1347 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_553 : BitVec 32 := 16#32
  let v1284 : BitVec 32 := Scalar.muli arg16 c16_i32_553
  let c13_i32_554 : BitVec 32 := 13#32
  let v1285 : BitVec 32 := Scalar.addi v1284 c13_i32_554
  let v1286 : Index := Scalar.indexCast v1285
  let c32_555 : Index := 32#32
  ![v1286.toNat, 32]
def k1_off1348 (v1257 : BitVec 32) : Fin 2 → Nat :=
  let v1293 : Index := Scalar.indexCast v1257
  let c48_557 : Index := 48#32
  ![v1293.toNat, 48]
def k1_off1349 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_558 : BitVec 32 := 16#32
  let v1295 : BitVec 32 := Scalar.muli arg16 c16_i32_558
  let c13_i32_559 : BitVec 32 := 13#32
  let v1296 : BitVec 32 := Scalar.addi v1295 c13_i32_559
  let v1297 : Index := Scalar.indexCast v1296
  let c48_560 : Index := 48#32
  ![v1297.toNat, 48]
def k1_off1350 (v1257 : BitVec 32) : Fin 2 → Nat :=
  let v1304 : Index := Scalar.indexCast v1257
  let c64_562 : Index := 64#32
  ![v1304.toNat, 64]
def k1_off1351 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_563 : BitVec 32 := 16#32
  let v1306 : BitVec 32 := Scalar.muli arg16 c16_i32_563
  let c13_i32_564 : BitVec 32 := 13#32
  let v1307 : BitVec 32 := Scalar.addi v1306 c13_i32_564
  let v1308 : Index := Scalar.indexCast v1307
  let c64_565 : Index := 64#32
  ![v1308.toNat, 64]
def k1_off1352 (v1257 : BitVec 32) : Fin 2 → Nat :=
  let v1315 : Index := Scalar.indexCast v1257
  let c80_567 : Index := 80#32
  ![v1315.toNat, 80]
def k1_off1353 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_568 : BitVec 32 := 16#32
  let v1317 : BitVec 32 := Scalar.muli arg16 c16_i32_568
  let c13_i32_569 : BitVec 32 := 13#32
  let v1318 : BitVec 32 := Scalar.addi v1317 c13_i32_569
  let v1319 : Index := Scalar.indexCast v1318
  let c80_570 : Index := 80#32
  ![v1319.toNat, 80]
def k1_off1354 (v1257 : BitVec 32) : Fin 2 → Nat :=
  let v1326 : Index := Scalar.indexCast v1257
  let c96_572 : Index := 96#32
  ![v1326.toNat, 96]
def k1_off1355 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_573 : BitVec 32 := 16#32
  let v1328 : BitVec 32 := Scalar.muli arg16 c16_i32_573
  let c13_i32_574 : BitVec 32 := 13#32
  let v1329 : BitVec 32 := Scalar.addi v1328 c13_i32_574
  let v1330 : Index := Scalar.indexCast v1329
  let c96_575 : Index := 96#32
  ![v1330.toNat, 96]
def k1_off1356 (v1257 : BitVec 32) : Fin 2 → Nat :=
  let v1337 : Index := Scalar.indexCast v1257
  let c112_577 : Index := 112#32
  ![v1337.toNat, 112]

def k1_chk101 (i : grid1.Coords) (v51 : BitVec 32) (v53 : BitVec 32) (v1257 : BitVec 32) : Prop :=
  (∀ (k1_h19 : k1_cond19 i = 1#1), ∀ (k1_h21 : k1_cond21 v51 v53 = 1#1), ∀ a, (k1_off1342 v1257) a + S1x16.size a ≤ S256x128.size a) ∧
  (∀ (k1_h19 : k1_cond19 i = 1#1), ∀ (k1_h21 : k1_cond21 v51 v53 = 1#1), ∀ a, (k1_off1344 v1257) a + S1x16.size a ≤ S256x128.size a) ∧
  (∀ (k1_h19 : k1_cond19 i = 1#1), ∀ (k1_h21 : k1_cond21 v51 v53 = 1#1), ∀ a, (k1_off1346 v1257) a + S1x16.size a ≤ S256x128.size a) ∧
  (∀ (k1_h19 : k1_cond19 i = 1#1), ∀ (k1_h21 : k1_cond21 v51 v53 = 1#1), ∀ a, (k1_off1348 v1257) a + S1x16.size a ≤ S256x128.size a) ∧
  (∀ (k1_h19 : k1_cond19 i = 1#1), ∀ (k1_h21 : k1_cond21 v51 v53 = 1#1), ∀ a, (k1_off1350 v1257) a + S1x16.size a ≤ S256x128.size a) ∧
  (∀ (k1_h19 : k1_cond19 i = 1#1), ∀ (k1_h21 : k1_cond21 v51 v53 = 1#1), ∀ a, (k1_off1352 v1257) a + S1x16.size a ≤ S256x128.size a) ∧
  (∀ (k1_h19 : k1_cond19 i = 1#1), ∀ (k1_h21 : k1_cond21 v51 v53 = 1#1), ∀ a, (k1_off1354 v1257) a + S1x16.size a ≤ S256x128.size a) ∧
  (∀ (k1_h19 : k1_cond19 i = 1#1), ∀ (k1_h21 : k1_cond21 v51 v53 = 1#1), ∀ a, (k1_off1356 v1257) a + S1x16.size a ≤ S256x128.size a)
theorem k1_off1342_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1342 v1257) a + S1x16.size a ≤ S256x128.size a := fun i v51 v53 v1257 k1_hw101 k1_h19 k1_h21 => k1_hw101.1 k1_h19 k1_h21
theorem k1_off1344_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1344 v1257) a + S1x16.size a ≤ S256x128.size a := fun i v51 v53 v1257 k1_hw101 k1_h19 k1_h21 => k1_hw101.2.1 k1_h19 k1_h21
theorem k1_off1346_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1346 v1257) a + S1x16.size a ≤ S256x128.size a := fun i v51 v53 v1257 k1_hw101 k1_h19 k1_h21 => k1_hw101.2.2.1 k1_h19 k1_h21
theorem k1_off1348_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1348 v1257) a + S1x16.size a ≤ S256x128.size a := fun i v51 v53 v1257 k1_hw101 k1_h19 k1_h21 => k1_hw101.2.2.2.1 k1_h19 k1_h21
theorem k1_off1350_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1350 v1257) a + S1x16.size a ≤ S256x128.size a := fun i v51 v53 v1257 k1_hw101 k1_h19 k1_h21 => k1_hw101.2.2.2.2.1 k1_h19 k1_h21
theorem k1_off1352_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1352 v1257) a + S1x16.size a ≤ S256x128.size a := fun i v51 v53 v1257 k1_hw101 k1_h19 k1_h21 => k1_hw101.2.2.2.2.2.1 k1_h19 k1_h21
theorem k1_off1354_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1354 v1257) a + S1x16.size a ≤ S256x128.size a := fun i v51 v53 v1257 k1_hw101 k1_h19 k1_h21 => k1_hw101.2.2.2.2.2.2.1 k1_h19 k1_h21
theorem k1_off1356_inb : ∀ (i : grid1.Coords) (v51 : BitVec 32) (v53 : BitVec 32) (v1257 : BitVec 32) (k1_hw101 : k1_chk101 i v51 v53 v1257), ∀ (k1_h19 : k1_cond19 i = 1#1), ∀ (k1_h21 : k1_cond21 v51 v53 = 1#1), ∀ a, (k1_off1356 v1257) a + S1x16.size a ≤ S256x128.size a := fun i v51 v53 v1257 k1_hw101 k1_h19 k1_h21 => k1_hw101.2.2.2.2.2.2.2 k1_h19 k1_h21

def k1_off1357 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_578 : BitVec 32 := 16#32
  let v1339 : BitVec 32 := Scalar.muli arg16 c16_i32_578
  let c13_i32_579 : BitVec 32 := 13#32
  let v1340 : BitVec 32 := Scalar.addi v1339 c13_i32_579
  let v1341 : Index := Scalar.indexCast v1340
  let c112_580 : Index := 112#32
  ![v1341.toNat, 112]
def k1_off1358 (v1349 : BitVec 32) : Fin 2 → Nat :=
  let v1352 : Index := Scalar.indexCast v1349
  let c0_582 : Index := 0#32
  ![v1352.toNat, 0]

def k1_off1359 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_583 : BitVec 32 := 16#32
  let v1354 : BitVec 32 := Scalar.muli arg16 c16_i32_583
  let c14_i32 : BitVec 32 := 14#32
  let v1355 : BitVec 32 := Scalar.addi v1354 c14_i32
  let v1356 : Index := Scalar.indexCast v1355
  let c0_584 : Index := 0#32
  ![v1356.toNat, 0]
def k1_off1360 (v1349 : BitVec 32) : Fin 2 → Nat :=
  let v1363 : Index := Scalar.indexCast v1349
  let c16_586 : Index := 16#32
  ![v1363.toNat, 16]
def k1_off1361 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_587 : BitVec 32 := 16#32
  let v1365 : BitVec 32 := Scalar.muli arg16 c16_i32_587
  let c14_i32_588 : BitVec 32 := 14#32
  let v1366 : BitVec 32 := Scalar.addi v1365 c14_i32_588
  let v1367 : Index := Scalar.indexCast v1366
  let c16_589 : Index := 16#32
  ![v1367.toNat, 16]
def k1_off1362 (v1349 : BitVec 32) : Fin 2 → Nat :=
  let v1374 : Index := Scalar.indexCast v1349
  let c32_591 : Index := 32#32
  ![v1374.toNat, 32]
def k1_off1363 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_592 : BitVec 32 := 16#32
  let v1376 : BitVec 32 := Scalar.muli arg16 c16_i32_592
  let c14_i32_593 : BitVec 32 := 14#32
  let v1377 : BitVec 32 := Scalar.addi v1376 c14_i32_593
  let v1378 : Index := Scalar.indexCast v1377
  let c32_594 : Index := 32#32
  ![v1378.toNat, 32]
def k1_off1364 (v1349 : BitVec 32) : Fin 2 → Nat :=
  let v1385 : Index := Scalar.indexCast v1349
  let c48_596 : Index := 48#32
  ![v1385.toNat, 48]
def k1_off1365 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_597 : BitVec 32 := 16#32
  let v1387 : BitVec 32 := Scalar.muli arg16 c16_i32_597
  let c14_i32_598 : BitVec 32 := 14#32
  let v1388 : BitVec 32 := Scalar.addi v1387 c14_i32_598
  let v1389 : Index := Scalar.indexCast v1388
  let c48_599 : Index := 48#32
  ![v1389.toNat, 48]
def k1_off1366 (v1349 : BitVec 32) : Fin 2 → Nat :=
  let v1396 : Index := Scalar.indexCast v1349
  let c64_601 : Index := 64#32
  ![v1396.toNat, 64]
def k1_off1367 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_602 : BitVec 32 := 16#32
  let v1398 : BitVec 32 := Scalar.muli arg16 c16_i32_602
  let c14_i32_603 : BitVec 32 := 14#32
  let v1399 : BitVec 32 := Scalar.addi v1398 c14_i32_603
  let v1400 : Index := Scalar.indexCast v1399
  let c64_604 : Index := 64#32
  ![v1400.toNat, 64]
def k1_off1368 (v1349 : BitVec 32) : Fin 2 → Nat :=
  let v1407 : Index := Scalar.indexCast v1349
  let c80_606 : Index := 80#32
  ![v1407.toNat, 80]
def k1_off1369 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_607 : BitVec 32 := 16#32
  let v1409 : BitVec 32 := Scalar.muli arg16 c16_i32_607
  let c14_i32_608 : BitVec 32 := 14#32
  let v1410 : BitVec 32 := Scalar.addi v1409 c14_i32_608
  let v1411 : Index := Scalar.indexCast v1410
  let c80_609 : Index := 80#32
  ![v1411.toNat, 80]
def k1_off1370 (v1349 : BitVec 32) : Fin 2 → Nat :=
  let v1418 : Index := Scalar.indexCast v1349
  let c96_611 : Index := 96#32
  ![v1418.toNat, 96]
def k1_off1371 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_612 : BitVec 32 := 16#32
  let v1420 : BitVec 32 := Scalar.muli arg16 c16_i32_612
  let c14_i32_613 : BitVec 32 := 14#32
  let v1421 : BitVec 32 := Scalar.addi v1420 c14_i32_613
  let v1422 : Index := Scalar.indexCast v1421
  let c96_614 : Index := 96#32
  ![v1422.toNat, 96]
def k1_off1372 (v1349 : BitVec 32) : Fin 2 → Nat :=
  let v1429 : Index := Scalar.indexCast v1349
  let c112_616 : Index := 112#32
  ![v1429.toNat, 112]

def k1_chk102 (i : grid1.Coords) (v51 : BitVec 32) (v53 : BitVec 32) (v1349 : BitVec 32) : Prop :=
  (∀ (k1_h19 : k1_cond19 i = 1#1), ∀ (k1_h21 : k1_cond21 v51 v53 = 1#1), ∀ a, (k1_off1358 v1349) a + S1x16.size a ≤ S256x128.size a) ∧
  (∀ (k1_h19 : k1_cond19 i = 1#1), ∀ (k1_h21 : k1_cond21 v51 v53 = 1#1), ∀ a, (k1_off1360 v1349) a + S1x16.size a ≤ S256x128.size a) ∧
  (∀ (k1_h19 : k1_cond19 i = 1#1), ∀ (k1_h21 : k1_cond21 v51 v53 = 1#1), ∀ a, (k1_off1362 v1349) a + S1x16.size a ≤ S256x128.size a) ∧
  (∀ (k1_h19 : k1_cond19 i = 1#1), ∀ (k1_h21 : k1_cond21 v51 v53 = 1#1), ∀ a, (k1_off1364 v1349) a + S1x16.size a ≤ S256x128.size a) ∧
  (∀ (k1_h19 : k1_cond19 i = 1#1), ∀ (k1_h21 : k1_cond21 v51 v53 = 1#1), ∀ a, (k1_off1366 v1349) a + S1x16.size a ≤ S256x128.size a) ∧
  (∀ (k1_h19 : k1_cond19 i = 1#1), ∀ (k1_h21 : k1_cond21 v51 v53 = 1#1), ∀ a, (k1_off1368 v1349) a + S1x16.size a ≤ S256x128.size a) ∧
  (∀ (k1_h19 : k1_cond19 i = 1#1), ∀ (k1_h21 : k1_cond21 v51 v53 = 1#1), ∀ a, (k1_off1370 v1349) a + S1x16.size a ≤ S256x128.size a) ∧
  (∀ (k1_h19 : k1_cond19 i = 1#1), ∀ (k1_h21 : k1_cond21 v51 v53 = 1#1), ∀ a, (k1_off1372 v1349) a + S1x16.size a ≤ S256x128.size a)
theorem k1_off1358_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1358 v1349) a + S1x16.size a ≤ S256x128.size a := fun i v51 v53 v1349 k1_hw102 k1_h19 k1_h21 => k1_hw102.1 k1_h19 k1_h21
theorem k1_off1360_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1360 v1349) a + S1x16.size a ≤ S256x128.size a := fun i v51 v53 v1349 k1_hw102 k1_h19 k1_h21 => k1_hw102.2.1 k1_h19 k1_h21
theorem k1_off1362_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1362 v1349) a + S1x16.size a ≤ S256x128.size a := fun i v51 v53 v1349 k1_hw102 k1_h19 k1_h21 => k1_hw102.2.2.1 k1_h19 k1_h21
theorem k1_off1364_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1364 v1349) a + S1x16.size a ≤ S256x128.size a := fun i v51 v53 v1349 k1_hw102 k1_h19 k1_h21 => k1_hw102.2.2.2.1 k1_h19 k1_h21
theorem k1_off1366_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1366 v1349) a + S1x16.size a ≤ S256x128.size a := fun i v51 v53 v1349 k1_hw102 k1_h19 k1_h21 => k1_hw102.2.2.2.2.1 k1_h19 k1_h21
theorem k1_off1368_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1368 v1349) a + S1x16.size a ≤ S256x128.size a := fun i v51 v53 v1349 k1_hw102 k1_h19 k1_h21 => k1_hw102.2.2.2.2.2.1 k1_h19 k1_h21
theorem k1_off1370_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1370 v1349) a + S1x16.size a ≤ S256x128.size a := fun i v51 v53 v1349 k1_hw102 k1_h19 k1_h21 => k1_hw102.2.2.2.2.2.2.1 k1_h19 k1_h21
theorem k1_off1372_inb : ∀ (i : grid1.Coords) (v51 : BitVec 32) (v53 : BitVec 32) (v1349 : BitVec 32) (k1_hw102 : k1_chk102 i v51 v53 v1349), ∀ (k1_h19 : k1_cond19 i = 1#1), ∀ (k1_h21 : k1_cond21 v51 v53 = 1#1), ∀ a, (k1_off1372 v1349) a + S1x16.size a ≤ S256x128.size a := fun i v51 v53 v1349 k1_hw102 k1_h19 k1_h21 => k1_hw102.2.2.2.2.2.2.2 k1_h19 k1_h21

def k1_off1373 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_617 : BitVec 32 := 16#32
  let v1431 : BitVec 32 := Scalar.muli arg16 c16_i32_617
  let c14_i32_618 : BitVec 32 := 14#32
  let v1432 : BitVec 32 := Scalar.addi v1431 c14_i32_618
  let v1433 : Index := Scalar.indexCast v1432
  let c112_619 : Index := 112#32
  ![v1433.toNat, 112]
def k1_off1374 (v1441 : BitVec 32) : Fin 2 → Nat :=
  let v1444 : Index := Scalar.indexCast v1441
  let c0_621 : Index := 0#32
  ![v1444.toNat, 0]

def k1_off1375 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_622 : BitVec 32 := 16#32
  let v1446 : BitVec 32 := Scalar.muli arg16 c16_i32_622
  let c15_i32 : BitVec 32 := 15#32
  let v1447 : BitVec 32 := Scalar.addi v1446 c15_i32
  let v1448 : Index := Scalar.indexCast v1447
  let c0_623 : Index := 0#32
  ![v1448.toNat, 0]
def k1_off1376 (v1441 : BitVec 32) : Fin 2 → Nat :=
  let v1455 : Index := Scalar.indexCast v1441
  let c16_625 : Index := 16#32
  ![v1455.toNat, 16]
def k1_off1377 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_626 : BitVec 32 := 16#32
  let v1457 : BitVec 32 := Scalar.muli arg16 c16_i32_626
  let c15_i32_627 : BitVec 32 := 15#32
  let v1458 : BitVec 32 := Scalar.addi v1457 c15_i32_627
  let v1459 : Index := Scalar.indexCast v1458
  let c16_628 : Index := 16#32
  ![v1459.toNat, 16]
def k1_off1378 (v1441 : BitVec 32) : Fin 2 → Nat :=
  let v1466 : Index := Scalar.indexCast v1441
  let c32_630 : Index := 32#32
  ![v1466.toNat, 32]
def k1_off1379 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_631 : BitVec 32 := 16#32
  let v1468 : BitVec 32 := Scalar.muli arg16 c16_i32_631
  let c15_i32_632 : BitVec 32 := 15#32
  let v1469 : BitVec 32 := Scalar.addi v1468 c15_i32_632
  let v1470 : Index := Scalar.indexCast v1469
  let c32_633 : Index := 32#32
  ![v1470.toNat, 32]
def k1_off1380 (v1441 : BitVec 32) : Fin 2 → Nat :=
  let v1477 : Index := Scalar.indexCast v1441
  let c48_635 : Index := 48#32
  ![v1477.toNat, 48]
def k1_off1381 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_636 : BitVec 32 := 16#32
  let v1479 : BitVec 32 := Scalar.muli arg16 c16_i32_636
  let c15_i32_637 : BitVec 32 := 15#32
  let v1480 : BitVec 32 := Scalar.addi v1479 c15_i32_637
  let v1481 : Index := Scalar.indexCast v1480
  let c48_638 : Index := 48#32
  ![v1481.toNat, 48]
def k1_off1382 (v1441 : BitVec 32) : Fin 2 → Nat :=
  let v1488 : Index := Scalar.indexCast v1441
  let c64_640 : Index := 64#32
  ![v1488.toNat, 64]
def k1_off1383 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_641 : BitVec 32 := 16#32
  let v1490 : BitVec 32 := Scalar.muli arg16 c16_i32_641
  let c15_i32_642 : BitVec 32 := 15#32
  let v1491 : BitVec 32 := Scalar.addi v1490 c15_i32_642
  let v1492 : Index := Scalar.indexCast v1491
  let c64_643 : Index := 64#32
  ![v1492.toNat, 64]
def k1_off1384 (v1441 : BitVec 32) : Fin 2 → Nat :=
  let v1499 : Index := Scalar.indexCast v1441
  let c80_645 : Index := 80#32
  ![v1499.toNat, 80]
def k1_off1385 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_646 : BitVec 32 := 16#32
  let v1501 : BitVec 32 := Scalar.muli arg16 c16_i32_646
  let c15_i32_647 : BitVec 32 := 15#32
  let v1502 : BitVec 32 := Scalar.addi v1501 c15_i32_647
  let v1503 : Index := Scalar.indexCast v1502
  let c80_648 : Index := 80#32
  ![v1503.toNat, 80]
def k1_off1386 (v1441 : BitVec 32) : Fin 2 → Nat :=
  let v1510 : Index := Scalar.indexCast v1441
  let c96_650 : Index := 96#32
  ![v1510.toNat, 96]
def k1_off1387 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_651 : BitVec 32 := 16#32
  let v1512 : BitVec 32 := Scalar.muli arg16 c16_i32_651
  let c15_i32_652 : BitVec 32 := 15#32
  let v1513 : BitVec 32 := Scalar.addi v1512 c15_i32_652
  let v1514 : Index := Scalar.indexCast v1513
  let c96_653 : Index := 96#32
  ![v1514.toNat, 96]
def k1_off1388 (v1441 : BitVec 32) : Fin 2 → Nat :=
  let v1521 : Index := Scalar.indexCast v1441
  let c112_655 : Index := 112#32
  ![v1521.toNat, 112]

def k1_chk103 (i : grid1.Coords) (v51 : BitVec 32) (v53 : BitVec 32) (v1441 : BitVec 32) : Prop :=
  (∀ (k1_h19 : k1_cond19 i = 1#1), ∀ (k1_h21 : k1_cond21 v51 v53 = 1#1), ∀ a, (k1_off1374 v1441) a + S1x16.size a ≤ S256x128.size a) ∧
  (∀ (k1_h19 : k1_cond19 i = 1#1), ∀ (k1_h21 : k1_cond21 v51 v53 = 1#1), ∀ a, (k1_off1376 v1441) a + S1x16.size a ≤ S256x128.size a) ∧
  (∀ (k1_h19 : k1_cond19 i = 1#1), ∀ (k1_h21 : k1_cond21 v51 v53 = 1#1), ∀ a, (k1_off1378 v1441) a + S1x16.size a ≤ S256x128.size a) ∧
  (∀ (k1_h19 : k1_cond19 i = 1#1), ∀ (k1_h21 : k1_cond21 v51 v53 = 1#1), ∀ a, (k1_off1380 v1441) a + S1x16.size a ≤ S256x128.size a) ∧
  (∀ (k1_h19 : k1_cond19 i = 1#1), ∀ (k1_h21 : k1_cond21 v51 v53 = 1#1), ∀ a, (k1_off1382 v1441) a + S1x16.size a ≤ S256x128.size a) ∧
  (∀ (k1_h19 : k1_cond19 i = 1#1), ∀ (k1_h21 : k1_cond21 v51 v53 = 1#1), ∀ a, (k1_off1384 v1441) a + S1x16.size a ≤ S256x128.size a) ∧
  (∀ (k1_h19 : k1_cond19 i = 1#1), ∀ (k1_h21 : k1_cond21 v51 v53 = 1#1), ∀ a, (k1_off1386 v1441) a + S1x16.size a ≤ S256x128.size a) ∧
  (∀ (k1_h19 : k1_cond19 i = 1#1), ∀ (k1_h21 : k1_cond21 v51 v53 = 1#1), ∀ a, (k1_off1388 v1441) a + S1x16.size a ≤ S256x128.size a)
theorem k1_off1374_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1374 v1441) a + S1x16.size a ≤ S256x128.size a := fun i v51 v53 v1441 k1_hw103 k1_h19 k1_h21 => k1_hw103.1 k1_h19 k1_h21
theorem k1_off1376_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1376 v1441) a + S1x16.size a ≤ S256x128.size a := fun i v51 v53 v1441 k1_hw103 k1_h19 k1_h21 => k1_hw103.2.1 k1_h19 k1_h21
theorem k1_off1378_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1378 v1441) a + S1x16.size a ≤ S256x128.size a := fun i v51 v53 v1441 k1_hw103 k1_h19 k1_h21 => k1_hw103.2.2.1 k1_h19 k1_h21
theorem k1_off1380_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1380 v1441) a + S1x16.size a ≤ S256x128.size a := fun i v51 v53 v1441 k1_hw103 k1_h19 k1_h21 => k1_hw103.2.2.2.1 k1_h19 k1_h21
theorem k1_off1382_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1382 v1441) a + S1x16.size a ≤ S256x128.size a := fun i v51 v53 v1441 k1_hw103 k1_h19 k1_h21 => k1_hw103.2.2.2.2.1 k1_h19 k1_h21
theorem k1_off1384_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1384 v1441) a + S1x16.size a ≤ S256x128.size a := fun i v51 v53 v1441 k1_hw103 k1_h19 k1_h21 => k1_hw103.2.2.2.2.2.1 k1_h19 k1_h21
theorem k1_off1386_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1386 v1441) a + S1x16.size a ≤ S256x128.size a := fun i v51 v53 v1441 k1_hw103 k1_h19 k1_h21 => k1_hw103.2.2.2.2.2.2.1 k1_h19 k1_h21
theorem k1_off1388_inb : ∀ (i : grid1.Coords) (v51 : BitVec 32) (v53 : BitVec 32) (v1441 : BitVec 32) (k1_hw103 : k1_chk103 i v51 v53 v1441), ∀ (k1_h19 : k1_cond19 i = 1#1), ∀ (k1_h21 : k1_cond21 v51 v53 = 1#1), ∀ a, (k1_off1388 v1441) a + S1x16.size a ≤ S256x128.size a := fun i v51 v53 v1441 k1_hw103 k1_h19 k1_h21 => k1_hw103.2.2.2.2.2.2.2 k1_h19 k1_h21

def k1_off1389 (k1_t12 : Fin k1_t12_loop.trips) : Fin 2 → Nat :=
  let c0_i32_33 : BitVec 32 := 0#32
  let c1_i32_34 : BitVec 32 := 1#32
  let arg16 : BitVec 32 := Scf.iv c0_i32_33 c1_i32_34 k1_t12
  let c16_i32_656 : BitVec 32 := 16#32
  let v1523 : BitVec 32 := Scalar.muli arg16 c16_i32_656
  let c15_i32_657 : BitVec 32 := 15#32
  let v1524 : BitVec 32 := Scalar.addi v1523 c15_i32_657
  let v1525 : Index := Scalar.indexCast v1524
  let c112_658 : Index := 112#32
  ![v1525.toNat, 112]
def k1_off1390 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_32_r5 : BitVec 32 := 0#32
  let c0_i32_33_r5 : BitVec 32 := 0#32
  ![v1.toNat, 0, 0]
def k1_off1391 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_32_r6 : BitVec 32 := 0#32
  ![v1.toNat, 0]
abbrev grid2 : Pipeline.Grid := .none

abbrev stage2_0 : Fin 1 → Memref sig .tc .vmem S32x256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S128 : Shape := ⟨1, ![128]⟩
abbrev S1 : Shape := ⟨1, ![1]⟩
abbrev S_ : Shape := ⟨0, ![]⟩
abbrev S1x100000 : Shape := ⟨2, ![1, 100000]⟩
abbrev S256 : Shape := ⟨1, ![256]⟩
abbrev S256x1 : Shape := ⟨2, ![256, 1]⟩
abbrev S256x100000 : Shape := ⟨2, ![256, 100000]⟩
abbrev S100000x1 : Shape := ⟨2, ![100000, 1]⟩
abbrev S256x128 : Shape := ⟨2, ![256, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128, .f32⟩
  | .hbm, ⟨3, _⟩ => ⟨S1, .f32⟩
  | .hbm, ⟨4, _⟩ => ⟨S100000, .f32⟩
  | .hbm, ⟨5, _⟩ => ⟨S_, .f32⟩
  | .hbm, ⟨6, _⟩ => ⟨S100000, .f32⟩
  | .hbm, ⟨7, _⟩ => ⟨S100000, .f32⟩
  | .hbm, ⟨8, _⟩ => ⟨S1x100000, .i32⟩
  | .hbm, ⟨9, _⟩ => ⟨S256, .i32⟩
  | .hbm, ⟨10, _⟩ => ⟨S256x1, .i32⟩
  | .hbm, ⟨11, _⟩ => ⟨S256x100000, .i32⟩
  | .hbm, ⟨12, _⟩ => ⟨S256x100000, .i32⟩
  | .hbm, ⟨13, _⟩ => ⟨S256x100000, .i1⟩
  | .hbm, ⟨14, _⟩ => ⟨S1x100000, .f32⟩
  | .hbm, ⟨15, _⟩ => ⟨S_, .f32⟩
  | .hbm, ⟨16, _⟩ => ⟨S_, .f32⟩
  | .hbm, ⟨17, _⟩ => ⟨S256x100000, .f32⟩
  | .hbm, ⟨18, _⟩ => ⟨S256x100000, .f32⟩
  | .hbm, ⟨19, _⟩ => ⟨S256x100000, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .i1⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S256, .f32⟩
  | .hbm, ⟨43, _⟩ => ⟨S100000x1, .i32⟩
  | .hbm, ⟨44, _⟩ => ⟨S256, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S256x128, .f32⟩
  | .hbm, ⟨60, _⟩ => ⟨S100000x1, .i32⟩
  | .hbm, ⟨61, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Group.lean ====
/- One group of 16 rows of the accumulation loop, written once by recursion over the rows and the column chunks; each
   printed copy of the unrolled group is this program. -/
module

public import proofs.«01_k».proof.Proof.Gen.KernelIdeal.Skeleton

@[expose] public section

noncomputable section

namespace Cert.KernelIdeal.Own

open Idealize.ShloMosaic Idealize.SL.Sem Cert.KernelIdeal Cert.KernelIdeal.Gen

variable {F : FTy → Type} [FloatOps F]

/-- A program of one tile. -/
abbrev TP (F : FTy → Type) (i : grid1.Coords) (α : Type) : Type 1 :=
  Prog (TpuEff nD τ sig (Elt F) Λ₀ (.scVector ((i 0).castLE hcore1) ((i 1).castLE hsub1))) α

/-- The accumulator's row `b`, from column `c`. -/
def accOff (b : BitVec 32) (c : ℕ) : Fin 2 → ℕ := ![(Scalar.indexCast b : Index).toNat, c]
/-- The block's row `16 g + j`, from column `c`. -/
def rowOff (g j : BitVec 32) (c : ℕ) : Fin 2 → ℕ :=
  ![(Scalar.indexCast (Scalar.addi (Scalar.muli g 16#32) j) : Index).toNat, c]

/-- The eight column chunks. -/
abbrev cols : List ℕ := [0, 16, 32, 48, 64, 80, 96, 112]
/-- The sixteen rows of a group. -/
abbrev rows : List ℕ := [0, 1, 2, 3, 4, 5, 6, 7, 8, 9, 10, 11, 12, 13, 14, 15]

abbrev AccIn (b : BitVec 32) (c : ℕ) : Prop := ∀ a, accOff b c a + S1x16.size a ≤ S256x128.size a
abbrev RowIn (g j : BitVec 32) (c : ℕ) : Prop := ∀ a, rowOff g j c a + S1x16.size a ≤ S112x128.size a

section

variable (i : grid1.Coords) (acc : Memref sig .scVector .vmem S256x128 .f32) (xb : Memref sig .scVector .vmem S112x128 .f32)

def ldAcc {α : Type} (b : BitVec 32) (c : ℕ) (h : AccIn b c) (k : FVec F S16 .f32 → TP F i α) : TP F i α :=
  .op (.load acc (Rect.unit (s := S256x128) (accOff b c) S1x16.size h).toLoadRect (View.loadsAt_vmem h_S1x16)) fun v : Vec F S1x16 .f32 =>
    k (shapeCast S16 v shapeCasts_S1x16_S16)

def ldRow {α : Type} (g j : BitVec 32) (c : ℕ) (h : RowIn g j c) (k : FVec F S16 .f32 → TP F i α) : TP F i α :=
  .op (.load xb (Rect.unit (s := S112x128) (rowOff g j c) S1x16.size h).toLoadRect (View.loadsAt_vmem h_S1x16)) fun v : Vec F S1x16 .f32 =>
    k (shapeCast S16 v shapeCasts_S1x16_S16)

def stAcc {α : Type} (b : BitVec 32) (c : ℕ) (h : AccIn b c) (w : FVec F S16 .f32) (k : TP F i α) : TP F i α :=
  .op (.store acc (Rect.unit (s := S256x128) (accOff b c) S1x16.size h) (shapeCast S1x16 w shapeCasts_S16_S1x16) Finset.univ (View.stores_vmem_bits_univ h_S1x16 rfl) (.inl rfl)) fun _ => k

/-- Adds `a` times the block's row to the accumulator's row `b`, chunk by chunk; then `k`. -/
def mixRow {α : Type} (b g j : BitVec 32) (a : F .f32) (k : TP F i α) :
    (cs : List ℕ) → (∀ c ∈ cs, AccIn b c) → (∀ c ∈ cs, RowIn g j c) → TP F i α
  | [], _, _ => k
  | c :: cs, hA, hR =>
    ldAcc i acc b c (hA c (by simp)) fun v => ldRow i xb g j c (hR c (by simp)) fun x => ldAcc i acc b c (hA c (by simp)) fun _ =>
      stAcc i acc b c (hA c (by simp)) (addf v (mulf (broadcast S16 a) x))
        (mixRow b g j a k cs (fun c' h => hA c' (List.mem_cons_of_mem _ h)) (fun c' h => hR c' (List.mem_cons_of_mem _ h)))

/-- One lane of a vector. -/
def lane {α : Type} (v : S16.Idx → α) (j : ℕ) (h : S16.Slices ![j] S1) : α :=
  extractAt ![0] (extractStridedSlice S1 ![j] v h) inpos_S1_p0

/-- The rows one by one, each with its own index; then `k`. -/
def mixRows {α : Type} (g : BitVec 32) (chk : BitVec 32 → Prop) (dec : ∀ b, Decidable (chk b)) (hchk : ∀ b, chk b → ∀ c ∈ cols, AccIn b c)
    (b16 : S16.Idx → BitVec 32) (a16 : FVec F S16 .f32) (k : TP F i α) :
    (js : List ℕ) → (∀ j ∈ js, S16.Slices ![j] S1) → (∀ j ∈ js, ∀ c ∈ cols, RowIn g (BitVec.ofNat 32 j) c) → TP F i α
  | [], _, _ => k
  | j :: js, hS, hR =>
    .op (TpuEff.assume (chk (lane b16 j (hS j (by simp)))) (dec (lane b16 j (hS j (by simp))))) fun h =>
      mixRow i acc xb (lane b16 j (hS j (by simp))) g (BitVec.ofNat 32 j) (lane a16 j (hS j (by simp)))
        (mixRows g chk dec hchk b16 a16 k js (fun j' h => hS j' (List.mem_cons_of_mem _ h)) (fun j' h => hR j' (List.mem_cons_of_mem _ h)))
        cols (hchk _ h.down) (hR j (by simp))

/-- One row added to the registers; then `k`. -/
def sameRow {α : Type} (g j : BitVec 32) (a : F .f32) :
    (cs : List ℕ) → (∀ c ∈ cs, RowIn g j c) → List (FVec F S16 .f32) → (List (FVec F S16 .f32) → TP F i α) → TP F i α
  | [], _, _, k => k []
  | _ :: _, _, [], k => k []
  | c :: cs, hR, r :: rs, k =>
    ldRow i xb g j c (hR c (by simp)) fun x =>
      sameRow g j a cs (fun c' h => hR c' (List.mem_cons_of_mem _ h)) rs fun rs' => k (addf r (mulf (broadcast S16 a) x) :: rs')

def sameRows {α : Type} (g : BitVec 32) (a16 : FVec F S16 .f32) (k : List (FVec F S16 .f32) → TP F i α) :
    (js : List ℕ) → (∀ j ∈ js, S16.Slices ![j] S1) → (∀ j ∈ js, ∀ c ∈ cols, RowIn g (BitVec.ofNat 32 j) c) →
      List (FVec F S16 .f32) → TP F i α
  | [], _, _, rs => k rs
  | j :: js, hS, hR, rs =>
    sameRow i xb g (BitVec.ofNat 32 j) (lane a16 j (hS j (by simp))) cols (hR j (by simp)) rs fun rs' =>
      sameRows g a16 k js (fun j' h => hS j' (List.mem_cons_of_mem _ h)) (fun j' h => hR j' (List.mem_cons_of_mem _ h)) rs'

/-- The registers added to the accumulator's row; then `k`. -/
def flush {α : Type} (b : BitVec 32) (k : TP F i α) : (cs : List ℕ) → (∀ c ∈ cs, AccIn b c) → List (FVec F S16 .f32) → TP F i α
  | [], _, _ => k
  | _ :: _, _, [] => k
  | c :: cs, hA, r :: rs =>
    ldAcc i acc b c (hA c (by simp)) fun v => ldAcc i acc b c (hA c (by simp)) fun _ =>
      stAcc i acc b c (hA c (by simp)) (addf v r) (flush b k cs (fun c' h => hA c' (List.mem_cons_of_mem _ h)) rs)

def zeros8 : List (FVec F S16 .f32) :=
  let z : FVec F S16 .f32 := broadcast S16 (Scalar.ofBits .f32 0x00000000#32)
  [z, z, z, z, z, z, z, z]

def same {α : Type} (b g : BitVec 32) (a16 : FVec F S16 .f32) (hA : ∀ c ∈ cols, AccIn b c) (hS : ∀ j ∈ rows, S16.Slices ![j] S1)
    (hR : ∀ j ∈ rows, ∀ c ∈ cols, RowIn g (BitVec.ofNat 32 j) c) (k : TP F i α) : TP F i α :=
  sameRows i xb g a16 (flush i acc b k cols hA) rows hS hR zeros8

/-- The group: its sixteen indices and weights are read, and its rows are added to one row of the accumulator when the
    first index is the last, each to its own otherwise. -/
def group (bb : Memref sig .scVector .vmem S3136 .i32) (ab : Memref sig .scVector .vmem S3136 .f32)
    (off : Fin 1 → ℕ) (hoff : ∀ a, off a + S16.size a ≤ S3136.size a) (g : BitVec 32)
    (chk₀ : BitVec 32 → BitVec 32 → Prop) (dec₀ : ∀ u v, Decidable (chk₀ u v))
    (hchk₀ : ∀ u v, chk₀ u v → k1_cond5 u v = 1#1 → ∀ c ∈ cols, AccIn u c)
    (chk : BitVec 32 → BitVec 32 → BitVec 32 → Prop) (dec : ∀ u v b, Decidable (chk u v b))
    (hchk : ∀ u v b, k1_cond6 u v = 1#1 → chk u v b → ∀ c ∈ cols, AccIn b c)
    (hS : ∀ j ∈ rows, S16.Slices ![j] S1)
    (hR : ∀ j ∈ rows, ∀ c ∈ cols, RowIn g (BitVec.ofNat 32 j) c) : TP F i (BitVec 32) := do
  let b16 : Vec F S16 .i32 ← Prog.lift (.load bb (Rect.unit (s := S3136) off S16.size hoff).toLoadRect (View.loadsAt_vmem h_S16))
  let a16 : Vec F S16 .f32 ← Prog.lift (.load ab (Rect.unit (s := S3136) off S16.size hoff).toLoadRect (View.loadsAt_vmem h_S16))
  let h ← Prog.lift (TpuEff.assume (chk₀ (lane b16 0 (hS 0 (by simp))) (lane b16 15 (hS 15 (by simp)))) (dec₀ _ _))
  if h5 : k1_cond5 (lane b16 0 (hS 0 (by simp))) (lane b16 15 (hS 15 (by simp))) = 1#1 then do
    same i acc xb (lane b16 0 (hS 0 (by simp))) g a16 (hchk₀ _ _ h.down h5) hS hR (.ret ⟨⟩)
  else do
    pure ⟨⟩
  if h6 : k1_cond6 (lane b16 0 (hS 0 (by simp))) (lane b16 15 (hS 15 (by simp))) = 1#1 then do
    mixRows i acc xb g (chk _ _) (dec _ _) (fun b => hchk _ _ b h6) b16 a16 (.ret ⟨⟩) rows hS hR
  else do
    pure ⟨⟩
  pure 0#32

end

end Cert.KernelIdeal.Own

end
-- ==== Proof.GroupWp.lean ====
/- What a group of 16 rows does to the accumulator, over any float values: the row `b` of the accumulator gains `a` times
   the block's row, each row to its own or all sixteen summed first. -/
module

public import proofs.«01_k».proof.Proof.Group
public import Idealize.ShloMosaic.Lib.Writes
public import Idealize.ShloMosaic.Lib.Pipeline.Value
public import Idealize.ShloMosaic.Lib.Tactic

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Buffers held at what they read -/

/-- The memref's elements held, reading `A`. -/
def At (c : Thread nD τ) {sp : Space} {s : Shape} {e : EltTy} (m : Memref sig c.2.kind sp s e) (q : PosShare TreeShare) (A : s.Idx → Elt F e) : sProp 𝕄 :=
  iprop(∃ f, ⌜m.view.read (Elt F) f = A⌝ ∗ (m.view.loc c ↦[m.view.set]{q} f))

section Ops

variable {c : Thread nD τ} {bd : Option (Variants.none).V} {α : Type}

theorem At_load {Q : α → sProp 𝕄} {cs : CoreSpace} {s : Shape} {e : EltTy} {m : Memref sig c.2.kind cs s e} {r : Rect s} {hl : m.view.LoadsAt r.toLoadRect}
    {k : (r.shape.Idx → Elt F e) → Prog (TpuEff nD τ sig (Elt F) Λ₀ c.2) α} (q : PosShare TreeShare) (A : s.Idx → Elt F e) :
    (At c m q A : sProp 𝕄)
      ⊢ iprop((At c m q A -∗ wp frame (wpE (defs₀ (F := F)) Variants.none c bd) Set.univ (k (fun x => A (r.emb x))) Q)
        -∗ wp frame (wpE (defs₀ (F := F)) Variants.none c bd) Set.univ (.op (.load m r.toLoadRect hl) k) Q) := by
  unfold At
  iintro ⟨%f, %hf, H⟩ Hk
  iapply (wp_load_rect Variants.none c bd Set.univ (m := m) (r := r) (S := m.view.set) (m.view.set_slice_subset r)) $$ H
  iintro H
  rw [show (m.access r).read (Elt F) f = fun x => A (r.emb x) from by rw [← hf]; rfl]
  iapply Hk
  iexists f
  isplitr; · ipureintro; exact hf
  iexact H

theorem At_store {Q : α → sProp 𝕄} {cs : CoreSpace} {s : Shape} {e : EltTy} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ c.2) α} (A A' : s.Idx → Elt F e)
    (h1 : ∀ x, A' (r.emb x) = w x) (h2 : ∀ y, y ∉ r.set → A' y = A y) :
    (At c m fullShare A : sProp 𝕄)
      ⊢ iprop((At c m fullShare A' -∗ wp frame (wpE (defs₀ (F := F)) Variants.none c bd) Set.univ (k ⟨⟩) Q)
        -∗ wp frame (wpE (defs₀ (F := F)) Variants.none c bd) Set.univ (.op (.store m r w Finset.univ hx hm) k) Q) := by
  unfold At
  iintro ⟨%f, %hf, H⟩ Hk
  iapply (wp_store Variants.none c bd Set.univ (m := m) (r := r) (S := m.view.set) (Memref.setOn_access_subset m r _)) $$ H
  iintro H
  iapply Hk
  iexists _
  isplitr
  · ipureintro
    funext y
    show m.view.read (Elt F) ((m.view.slice r).write (Elt F) f w Finset.univ) y = A' y
    by_cases hy : y ∈ r.set
    · obtain ⟨x, rfl⟩ := r.exists_idx_of_mem hy
      show m.view.read (Elt F) ((m.view.slice r).write (Elt F) f w Finset.univ) (r.emb x) = A' (r.emb x)
      rw [View.read_slice_write_emb r f w (Finset.mem_univ x), h1]
    · rw [View.read_slice_write_of_not_mem r f w Finset.univ (by rwa [Rect.map_emb_univ]), h2 y hy, hf]
  · iexact H

end Ops

/-! ## Rank-2 contents by natural coordinates -/

def of2 {α : Type} {m n : ℕ} (A : ℕ → ℕ → α) : (⟨2, ![m, n]⟩ : Shape).Idx → α := fun y => A (y 0).val (y 1).val

theorem of2_congr {α : Type} {m n : ℕ} {A B : ℕ → ℕ → α} (h : ∀ r d, r < m → d < n → A r d = B r d) :
    (of2 A : (⟨2, ![m, n]⟩ : Shape).Idx → α) = of2 B :=
  funext fun y => h _ _ (y 0).isLt (y 1).isLt

theorem unit_emb_val {s : Shape} {off size : Fin s.rank → ℕ} (h : ∀ a, off a + size a ≤ s.size a) (x : (Rect.unit (s := s) off size h).shape.Idx)
    (a : Fin s.rank) : ((Rect.unit (s := s) off size h).emb x a).val = off a + (x a).val := by
  rw [Rect.emb_apply]
  show off a + 1 * (x a).val = _
  rw [one_mul]

abbrev fadd (a b : F .f32) : F .f32 := FloatOps.addf a b
abbrev fmul (a b : F .f32) : F .f32 := FloatOps.mulf a b

/-- Row `b` gains `u` on the sixteen columns from `c`. -/
def addChunk (A : ℕ → ℕ → F .f32) (b c : ℕ) (u : ℕ → F .f32) : ℕ → ℕ → F .f32 :=
  fun r d => if r = b ∧ c ≤ d ∧ d < c + 16 then fadd (A r d) (u d) else A r d
/-- Row `b` gains `u`. -/
def addRow (A : ℕ → ℕ → F .f32) (b : ℕ) (u : ℕ → F .f32) : ℕ → ℕ → F .f32 :=
  fun r d => if r = b then fadd (A r d) (u d) else A r d
def addChunks (b : ℕ) (u : ℕ → F .f32) (cs : List ℕ) (A : ℕ → ℕ → F .f32) : ℕ → ℕ → F .f32 :=
  cs.foldl (fun A c => addChunk A b c u) A

theorem addChunks_other (b : ℕ) (u : ℕ → F .f32) (r d : ℕ) : ∀ (cs : List ℕ) (A : ℕ → ℕ → F .f32),
    (∀ c ∈ cs, ¬ (r = b ∧ c ≤ d ∧ d < c + 16)) → addChunks b u cs A r d = A r d
  | [], _, _ => rfl
  | c :: cs, A, h => by
    show addChunks b u cs (addChunk A b c u) r d = _
    rw [addChunks_other b u r d cs _ fun c' hc => h c' (List.mem_cons_of_mem _ hc)]
    exact if_neg (h c (by simp))

theorem addChunks_cols (b : ℕ) (u : ℕ → F .f32) (A : ℕ → ℕ → F .f32) (r d : ℕ) (hd : d < 128) :
    addChunks b u cols A r d = addRow A b u r d := by
  by_cases hr : r = b
  · obtain ⟨p, s, hps, hc⟩ : ∃ p s, cols = p ++ (16 * (d / 16)) :: s ∧ ∀ c ∈ p ++ s, c ≠ 16 * (d / 16) ∧ 16 ∣ c := by
      have : d / 16 < 8 := by omega
      generalize d / 16 = e at this
      have : e = 0 ∨ e = 1 ∨ e = 2 ∨ e = 3 ∨ e = 4 ∨ e = 5 ∨ e = 6 ∨ e = 7 := by omega
      rcases this with rfl | rfl | rfl | rfl | rfl | rfl | rfl | rfl
      · exact ⟨[], [16, 32, 48, 64, 80, 96, 112], rfl, by decide⟩
      · exact ⟨[0], [32, 48, 64, 80, 96, 112], rfl, by decide⟩
      · exact ⟨[0, 16], [48, 64, 80, 96, 112], rfl, by decide⟩
      · exact ⟨[0, 16, 32], [64, 80, 96, 112], rfl, by decide⟩
      · exact ⟨[0, 16, 32, 48], [80, 96, 112], rfl, by decide⟩
      · exact ⟨[0, 16, 32, 48, 64], [96, 112], rfl, by decide⟩
      · exact ⟨[0, 16, 32, 48, 64, 80], [112], rfl, by decide⟩
      · exact ⟨[0, 16, 32, 48, 64, 80, 96], [], rfl, by decide⟩
    have hn : ∀ c ∈ p ++ s, ¬ (r = b ∧ c ≤ d ∧ d < c + 16) := fun c hm h => by
      obtain ⟨h1, k, rfl⟩ := hc c hm
      omega
    rw [hps, addChunks, List.foldl_append, List.foldl_cons]
    show addChunks b u s (addChunk (addChunks b u p A) b _ u) r d = _
    rw [addChunks_other b u r d s _ fun c h => hn c (List.mem_append_right _ h), addChunk, addRow,
      if_pos ⟨hr, by omega, by omega⟩, if_pos hr, addChunks_other b u r d p _ fun c h => hn c (List.mem_append_left _ h)]
  · rw [addChunks_other b u r d _ _ fun c _ h => hr h.1, addRow, if_neg hr]

/-! ## The steps -/

section Steps

variable (d : Dev nD) (i : grid1.Coords)

/-- The tile's thread. -/
abbrev thr : Thread nD τ := V d ((i 0).castLE hcore1) ((i 1).castLE hsub1)

variable (acc : Memref sig .scVector .vmem S256x128 .f32) (xb : Memref sig .scVector .vmem S112x128 .f32)
variable {α : Type} {bd : Option (Variants.none).V}

abbrev accAt (A : ℕ → ℕ → F .f32) : sProp 𝕄 := At (thr d i) acc fullShare (of2 A : S256x128.Idx → Elt F .f32)
abbrev xbAt (X : ℕ → ℕ → F .f32) : sProp 𝕄 := At (thr d i) xb fullShare (of2 X : S112x128.Idx → Elt F .f32)

theorem accAt_congr {A B : ℕ → ℕ → F .f32} (h : ∀ r e, r < 256 → e < 128 → A r e = B r e) :
    (accAt d i acc A : sProp 𝕄) = accAt d i acc B := by
  unfold accAt; rw [show (of2 A : S256x128.Idx → Elt F .f32) = of2 B from of2_congr h]

theorem ldAcc_wp {Q : α → sProp 𝕄} (A : ℕ → ℕ → F .f32) (b : BitVec 32) (c : ℕ) (h : AccIn b c) (k : FVec F S16 .f32 → TP F i α) :
    (accAt d i acc A : sProp 𝕄)
      ⊢ iprop((accAt d i acc A -∗ wp frame (wpE (defs₀ (F := F)) Variants.none (thr d i) bd) Set.univ (k fun x => A b.toNat (c + (x 0).val)) Q)
        -∗ wp frame (wpE (defs₀ (F := F)) Variants.none (thr d i) bd) Set.univ (ldAcc i acc b c h k) Q) := by
  unfold ldAcc
  iintro H Hk
  iapply (At_load (c := thr d i) (m := acc) fullShare (of2 A)) $$ H
  iintro H
  rw [show (shapeCast S16 (fun x => (of2 A : S256x128.Idx → Elt F .f32) ((Rect.unit (s := S256x128) (accOff b c) S1x16.size h).emb x)) shapeCasts_S1x16_S16 : FVec F S16 .f32)
      = fun x => A b.toNat (c + (x 0).val) from funext fun x => by
    refine (shapeCast_dropUnit_apply ![16] _ _ x).trans ?_
    show A _ _ = _
    rw [unit_emb_val, unit_emb_val]
    rfl]
  iapply Hk $$ H

theorem ldRow_wp {Q : α → sProp 𝕄} (X : ℕ → ℕ → F .f32) (g j : BitVec 32) (c : ℕ) (h : RowIn g j c) (k : FVec F S16 .f32 → TP F i α) :
    (xbAt d i xb X : sProp 𝕄)
      ⊢ iprop((xbAt d i xb X -∗ wp frame (wpE (defs₀ (F := F)) Variants.none (thr d i) bd) Set.univ (k fun x => X (rowOff g j c 0) (c + (x 0).val)) Q)
        -∗ wp frame (wpE (defs₀ (F := F)) Variants.none (thr d i) bd) Set.univ (ldRow i xb g j c h k) Q) := by
  unfold ldRow
  iintro H Hk
  iapply (At_load (c := thr d i) (m := xb) fullShare (of2 X)) $$ H
  iintro H
  rw [show (shapeCast S16 (fun x => (of2 X : S112x128.Idx → Elt F .f32) ((Rect.unit (s := S112x128) (rowOff g j c) S1x16.size h).emb x)) shapeCasts_S1x16_S16 : FVec F S16 .f32)
      = fun x => X (rowOff g j c 0) (c + (x 0).val) from funext fun x => by
    refine (shapeCast_dropUnit_apply ![16] _ _ x).trans ?_
    show X _ _ = _
    rw [unit_emb_val, unit_emb_val]
    rfl]
  iapply Hk $$ H

theorem stAcc_wp {Q : α → sProp 𝕄} (A : ℕ → ℕ → F .f32) (b : BitVec 32) (c : ℕ) (h : AccIn b c) (w : FVec F S16 .f32) (u : ℕ → F .f32)
    (hw : w = fun x => fadd (A b.toNat (c + (x 0).val)) (u (c + (x 0).val))) (k : TP F i α) :
    (accAt d i acc A : sProp 𝕄)
      ⊢ iprop((accAt d i acc (addChunk A b.toNat c u) -∗ wp frame (wpE (defs₀ (F := F)) Variants.none (thr d i) bd) Set.univ k Q)
        -∗ wp frame (wpE (defs₀ (F := F)) Variants.none (thr d i) bd) Set.univ (stAcc i acc b c h w k) Q) := by
  unfold stAcc
  iintro H Hk
  iapply (At_store (c := thr d i) (m := acc) (of2 A) (of2 (addChunk A b.toNat c u)) ?_ ?_) $$ H
  · intro x
    refine Eq.trans ?_ (shapeCast_addUnit_apply ![16] w shapeCasts_S16_S1x16 x).symm
    subst hw
    have h0 : (x 0).val = 0 := by have := (x 0).isLt; simp at this; omega
    have h1 : (x 1).val < 16 := (x 1).isLt
    show addChunk A b.toNat c u _ _ = _
    have e0 : (((Rect.unit (s := S256x128) (accOff b c) S1x16.size h).emb x) 0).val = b.toNat := by
      rw [unit_emb_val, h0]; rfl
    have e1 : (((Rect.unit (s := S256x128) (accOff b c) S1x16.size h).emb x) 1).val = c + (x 1).val := by
      rw [unit_emb_val]; rfl
    rw [e0, e1, addChunk, if_pos ⟨rfl, by omega, by omega⟩]
    rfl
  · intro y hy
    rw [Rect.mem_set_unit] at hy
    show addChunk A b.toNat c u _ _ = A _ _
    refine if_neg fun hc => hy fun a => ?_
    match a with
    | ⟨0, _⟩ => show b.toNat ≤ (y 0).val ∧ (y 0).val < b.toNat + 1; omega
    | ⟨1, _⟩ => show c ≤ (y 1).val ∧ (y 1).val < c + 16; omega
  iexact Hk

theorem mixRow_wp {Q : α → sProp 𝕄} (b g j : BitVec 32) (a : F .f32) (k : TP F i α) (X : ℕ → ℕ → F .f32) :
    ∀ (cs : List ℕ) (hA : ∀ c ∈ cs, AccIn b c) (hR : ∀ c ∈ cs, RowIn g j c) (A : ℕ → ℕ → F .f32),
    (iprop(accAt d i acc A ∗ xbAt d i xb X) : sProp 𝕄)
      ⊢ iprop((iprop(accAt d i acc (addChunks b.toNat (fun e => fmul a (X (rowOff g j 0 0) e)) cs A) ∗ xbAt d i xb X)
            -∗ wp frame (wpE (defs₀ (F := F)) Variants.none (thr d i) bd) Set.univ k Q)
        -∗ wp frame (wpE (defs₀ (F := F)) Variants.none (thr d i) bd) Set.univ (mixRow i acc xb b g j a k cs hA hR) Q)
  | [], _, _, A => by
    rw [show addChunks b.toNat (fun e => fmul a (X (rowOff g j 0 0) e)) [] A = A from rfl]
    iintro H Hk
    iapply Hk $$ H
  | c :: cs, hA, hR, A => by
    unfold mixRow
    iintro ⟨HA, HX⟩ Hk
    iapply (ldAcc_wp d i acc A b c) $$ HA
    iintro HA
    iapply (ldRow_wp d i xb X g j c) $$ HX
    iintro HX
    iapply (ldAcc_wp d i acc A b c) $$ HA
    iintro HA
    iapply (stAcc_wp d i acc A b c _ _ (fun e => fmul a (X (rowOff g j 0 0) e)) rfl) $$ HA
    iintro HA
    iapply (mixRow_wp b g j a k X cs (fun c' h => hA c' (List.mem_cons_of_mem _ h)) (fun c' h => hR c' (List.mem_cons_of_mem _ h)) _) $$ [HA HX]
    · isplitl [HA]; · iexact HA
      iexact HX
    iexact Hk

theorem lane_eq {β : Type} (u : ℕ → β) (j : ℕ) (h : S16.Slices ![j] S1) : lane (fun x : S16.Idx => u (x 0).val) j h = u j := by
  show u _ = u _
  congr 1

/-- The rows of a group, each to its own row of the accumulator. -/
def mixSpec (B : ℕ → BitVec 32) (a : ℕ → F .f32) (X : ℕ → ℕ → F .f32) (js : List ℕ) (A : ℕ → ℕ → F .f32) : ℕ → ℕ → F .f32 :=
  js.foldl (fun A j => addRow A (B j).toNat fun e => fmul (a j) (X j e)) A
/-- The weighted sum of the rows of a group. -/
def sumSpec (a : ℕ → F .f32) (X : ℕ → ℕ → F .f32) (js : List ℕ) (G : ℕ → F .f32) : ℕ → F .f32 :=
  js.foldl (fun G j => fun e => fadd (G e) (fmul (a j) (X j e))) G

theorem addRow_congr {A A' : ℕ → ℕ → F .f32} {n m : ℕ} (h : ∀ r d, r < n → d < m → A r d = A' r d) (b : ℕ) (u : ℕ → F .f32) :
    ∀ r d, r < n → d < m → addRow A b u r d = addRow A' b u r d := fun r d hr hd => by
  unfold addRow; rw [h r d hr hd]

theorem mixRows_wp {Q : α → sProp 𝕄} (g : BitVec 32) (g₀ : ℕ) (chk : BitVec 32 → Prop) (dec : ∀ b, Decidable (chk b)) (hchk : ∀ b, chk b → ∀ c ∈ cols, AccIn b c)
    (B : ℕ → BitVec 32) (a : ℕ → F .f32) (k : TP F i α) (X : ℕ → ℕ → F .f32) :
    ∀ (js : List ℕ) (hS : ∀ j ∈ js, S16.Slices ![j] S1) (hR : ∀ j ∈ js, ∀ c ∈ cols, RowIn g (BitVec.ofNat 32 j) c)
      (hg : ∀ j ∈ js, rowOff g (BitVec.ofNat 32 j) 0 0 = g₀ + j) (hok : ∀ j ∈ js, chk (B j)) (A : ℕ → ℕ → F .f32),
    (iprop(accAt d i acc A ∗ xbAt d i xb X) : sProp 𝕄)
      ⊢ iprop((iprop(accAt d i acc (mixSpec B a (fun j => X (g₀ + j)) js A) ∗ xbAt d i xb X)
            -∗ wp frame (wpE (defs₀ (F := F)) Variants.none (thr d i) bd) Set.univ k Q)
        -∗ wp frame (wpE (defs₀ (F := F)) Variants.none (thr d i) bd) Set.univ
            (mixRows i acc xb g chk dec hchk (fun x => B (x 0).val) (fun x => a (x 0).val) k js hS hR) Q)
  | [], _, _, _, _, A => by
    rw [show mixSpec B a (fun j => X (g₀ + j)) [] A = A from rfl]
    iintro H Hk
    iapply Hk $$ H
  | j :: js, hS, hR, hg, hok, A => by
    unfold mixRows
    iintro H Hk
    iapply (wp_assume Variants.none (thr d i) bd Set.univ (by rw [lane_eq B]; exact hok j (by simp)))
    iapply (mixRow_wp d i acc xb _ g (BitVec.ofNat 32 j) _ _ X cols _ _ A) $$ H
    iintro H
    rw [lane_eq B, lane_eq a, hg j (by simp)]
    rw [accAt_congr d i acc (A := addChunks (B j).toNat (fun e => fmul (a j) (X (g₀ + j) e)) cols A)
        (B := addRow A (B j).toNat fun e => fmul (a j) (X (g₀ + j) e)) fun r e _ he => addChunks_cols _ _ _ _ _ he]
    iapply (mixRows_wp g g₀ chk dec hchk B a k X js (fun j' h => hS j' (List.mem_cons_of_mem _ h)) (fun j' h => hR j' (List.mem_cons_of_mem _ h))
      (fun j' h => hg j' (List.mem_cons_of_mem _ h)) (fun j' h => hok j' (List.mem_cons_of_mem _ h)) _) $$ H
    iexact Hk

/-- The registers holding `G`, chunk by chunk. -/
def regs (G : ℕ → F .f32) (cs : List ℕ) : List (FVec F S16 .f32) := cs.map fun c => fun x => G (c + (x 0).val)

theorem sameRow_wp {Q : α → sProp 𝕄} (g j : BitVec 32) (a : F .f32) (X : ℕ → ℕ → F .f32) (G : ℕ → F .f32) :
    ∀ (cs : List ℕ) (hR : ∀ c ∈ cs, RowIn g j c) (k : List (FVec F S16 .f32) → TP F i α),
    (xbAt d i xb X : sProp 𝕄)
      ⊢ iprop((xbAt d i xb X -∗ wp frame (wpE (defs₀ (F := F)) Variants.none (thr d i) bd) Set.univ
            (k (regs (fun e => fadd (G e) (fmul a (X (rowOff g j 0 0) e))) cs)) Q)
        -∗ wp frame (wpE (defs₀ (F := F)) Variants.none (thr d i) bd) Set.univ (sameRow i xb g j a cs hR (regs G cs) k) Q)
  | [], _, k => by
    iintro H Hk
    iapply Hk $$ H
  | c :: cs, hR, k => by
    show _ ⊢ iprop(_ -∗ wp _ _ _ (sameRow i xb g j a (c :: cs) hR ((fun x => G (c + (x 0).val)) :: regs G cs) k) _)
    unfold sameRow
    iintro H Hk
    iapply (ldRow_wp d i xb X g j c) $$ H
    iintro H
    iapply (sameRow_wp g j a X G cs (fun c' h => hR c' (List.mem_cons_of_mem _ h)) _) $$ H
    iexact Hk

theorem sameRows_wp {Q : α → sProp 𝕄} (g : BitVec 32) (g₀ : ℕ) (a : ℕ → F .f32) (k : List (FVec F S16 .f32) → TP F i α) (X : ℕ → ℕ → F .f32) :
    ∀ (js : List ℕ) (hS : ∀ j ∈ js, S16.Slices ![j] S1) (hR : ∀ j ∈ js, ∀ c ∈ cols, RowIn g (BitVec.ofNat 32 j) c)
      (hg : ∀ j ∈ js, rowOff g (BitVec.ofNat 32 j) 0 0 = g₀ + j) (G : ℕ → F .f32),
    (xbAt d i xb X : sProp 𝕄)
      ⊢ iprop((xbAt d i xb X -∗ wp frame (wpE (defs₀ (F := F)) Variants.none (thr d i) bd) Set.univ
            (k (regs (sumSpec a (fun j => X (g₀ + j)) js G) cols)) Q)
        -∗ wp frame (wpE (defs₀ (F := F)) Variants.none (thr d i) bd) Set.univ
            (sameRows i xb g (fun x => a (x 0).val) k js hS hR (regs G cols)) Q)
  | [], _, _, _, G => by
    iintro H Hk
    iapply Hk $$ H
  | j :: js, hS, hR, hg, G => by
    unfold sameRows
    iintro H Hk
    iapply (sameRow_wp d i xb g (BitVec.ofNat 32 j) _ X G cols) $$ H
    iintro H
    rw [lane_eq a, hg j (by simp)]
    iapply (sameRows_wp g g₀ a k X js (fun j' h => hS j' (List.mem_cons_of_mem _ h)) (fun j' h => hR j' (List.mem_cons_of_mem _ h))
      (fun j' h => hg j' (List.mem_cons_of_mem _ h)) _) $$ H
    iexact Hk

theorem flush_wp {Q : α → sProp 𝕄} (b : BitVec 32) (k : TP F i α) (G : ℕ → F .f32) :
    ∀ (cs : List ℕ) (hA : ∀ c ∈ cs, AccIn b c) (A : ℕ → ℕ → F .f32),
    (accAt d i acc A : sProp 𝕄)
      ⊢ iprop((accAt d i acc (addChunks b.toNat G cs A) -∗ wp frame (wpE (defs₀ (F := F)) Variants.none (thr d i) bd) Set.univ k Q)
        -∗ wp frame (wpE (defs₀ (F := F)) Variants.none (thr d i) bd) Set.univ (flush i acc b k cs hA (regs G cs)) Q)
  | [], _, A => by
    rw [show addChunks b.toNat G [] A = A from rfl]
    iintro H Hk
    iapply Hk $$ H
  | c :: cs, hA, A => by
    show _ ⊢ iprop(_ -∗ wp _ _ _ (flush i acc b k (c :: cs) hA ((fun x => G (c + (x 0).val)) :: regs G cs)) _)
    unfold flush
    iintro HA Hk
    iapply (ldAcc_wp d i acc A b c) $$ HA
    iintro HA
    iapply (ldAcc_wp d i acc A b c) $$ HA
    iintro HA
    iapply (stAcc_wp d i acc A b c _ _ G rfl) $$ HA
    iintro HA
    iapply (flush_wp b k G cs (fun c' h => hA c' (List.mem_cons_of_mem _ h)) _) $$ HA
    iexact Hk

def fzero : F .f32 := Scalar.ofBits .f32 0x00000000#32

theorem zeros8_eq : (zeros8 : List (FVec F S16 .f32)) = regs (fun _ => fzero) cols := rfl

theorem same_wp {Q : α → sProp 𝕄} (b g : BitVec 32) (g₀ : ℕ) (a16 : FVec F S16 .f32) (a : ℕ → F .f32) (ha : a16 = fun x => a (x 0).val) (X A : ℕ → ℕ → F .f32)
    (hA : ∀ c ∈ cols, AccIn b c) (hS : ∀ j ∈ rows, S16.Slices ![j] S1)
    (hR : ∀ j ∈ rows, ∀ c ∈ cols, RowIn g (BitVec.ofNat 32 j) c)
    (hg : ∀ j ∈ rows, rowOff g (BitVec.ofNat 32 j) 0 0 = g₀ + j) (k : TP F i α) :
    (iprop(accAt d i acc A ∗ xbAt d i xb X) : sProp 𝕄)
      ⊢ iprop((iprop(accAt d i acc (addRow A b.toNat (sumSpec a (fun j => X (g₀ + j)) rows fun _ => fzero)) ∗ xbAt d i xb X)
            -∗ wp frame (wpE (defs₀ (F := F)) Variants.none (thr d i) bd) Set.univ k Q)
        -∗ wp frame (wpE (defs₀ (F := F)) Variants.none (thr d i) bd) Set.univ (same i acc xb b g a16 hA hS hR k) Q) := by
  subst ha
  unfold same
  rw [zeros8_eq]
  iintro ⟨HA, HX⟩ Hk
  iapply (sameRows_wp d i xb g g₀ a (flush i acc b k cols hA) X rows hS hR hg (fun _ => fzero)) $$ HX
  iintro HX
  iapply (flush_wp d i acc b k _ cols hA A) $$ HA
  iintro HA
  iapply Hk
  isplitl [HA]
  · iapply (Entails.of_eq (accAt_congr d i acc fun r e _ he => addChunks_cols _ _ _ _ _ he)) $$ HA
  · iexact HX

/-- What one group leaves in the accumulator. -/
def grpSpec (B : ℕ → BitVec 32) (a : ℕ → F .f32) (X : ℕ → ℕ → F .f32) (A : ℕ → ℕ → F .f32) : ℕ → ℕ → F .f32 :=
  if B 0 = B 15 then addRow A (B 0).toNat (sumSpec a X rows fun _ => fzero) else mixSpec B a X rows A

theorem cond5_iff (u v : BitVec 32) : k1_cond5 u v = 1#1 ↔ u = v := by
  show IntOp.cmpi CmpIPredicate.ne (BitVec.setWidth 32 (IntOp.cmpi CmpIPredicate.eq u v)) 0#32 = 1#1 ↔ _
  by_cases h : u = v
  · subst h; simp [IntOp.cmpi]
  · have e : (u == v) = false := beq_false_of_ne h
    simp [IntOp.cmpi, h, e]

theorem cond6_iff (u v : BitVec 32) : k1_cond6 u v = 1#1 ↔ u ≠ v := by
  show IntOp.cmpi CmpIPredicate.ne (BitVec.setWidth 32 (IntOp.cmpi CmpIPredicate.ne u v)) 0#32 = 1#1 ↔ _
  by_cases h : u = v
  · subst h; simp [IntOp.cmpi]
  · have e : (u != v) = true := bne_iff_ne.mpr h
    simp [IntOp.cmpi, h, e]

def of1 {α : Type} {n : ℕ} (u : ℕ → α) : (⟨1, ![n]⟩ : Shape).Idx → α := fun x => u (x 0).val

variable (bb : Memref sig .scVector .vmem S3136 .i32) (ab : Memref sig .scVector .vmem S3136 .f32)

theorem group_wp {Q : BitVec 32 → sProp 𝕄} (Bt : ℕ → BitVec 32) (at' : ℕ → F .f32) (X A : ℕ → ℕ → F .f32) (o g₀ : ℕ)
    (off : Fin 1 → ℕ) (hoff : ∀ a, off a + S16.size a ≤ S3136.size a) (ho : off 0 = o) (g : BitVec 32)
    (chk₀ : BitVec 32 → BitVec 32 → Prop) (dec₀ : ∀ u v, Decidable (chk₀ u v))
    (hchk₀ : ∀ u v, chk₀ u v → k1_cond5 u v = 1#1 → ∀ c ∈ cols, AccIn u c)
    (chk : BitVec 32 → BitVec 32 → BitVec 32 → Prop) (dec : ∀ u v b, Decidable (chk u v b))
    (hchk : ∀ u v b, k1_cond6 u v = 1#1 → chk u v b → ∀ c ∈ cols, AccIn b c)
    (hS : ∀ j ∈ rows, S16.Slices ![j] S1)
    (hR : ∀ j ∈ rows, ∀ c ∈ cols, RowIn g (BitVec.ofNat 32 j) c)
    (hg : ∀ j ∈ rows, rowOff g (BitVec.ofNat 32 j) 0 0 = g₀ + j)
    (hok₀ : chk₀ (Bt (o + 0)) (Bt (o + 15))) (hok : ∀ j ∈ rows, chk (Bt (o + 0)) (Bt (o + 15)) (Bt (o + j))) :
    (iprop(accAt d i acc A ∗ xbAt d i xb X ∗ At (thr d i) bb fullShare (of1 Bt) ∗ At (thr d i) ab fullShare (of1 at')) : sProp 𝕄)
      ⊢ iprop((iprop(accAt d i acc (grpSpec (fun j => Bt (o + j)) (fun j => at' (o + j)) (fun j => X (g₀ + j)) A) ∗ xbAt d i xb X
              ∗ At (thr d i) bb fullShare (of1 Bt) ∗ At (thr d i) ab fullShare (of1 at')) -∗ Q 0#32)
        -∗ wp frame (wpE (defs₀ (F := F)) Variants.none (thr d i) bd) Set.univ
            (group i acc xb bb ab off hoff g chk₀ dec₀ hchk₀ chk dec hchk hS hR) Q) := by
  unfold group
  simp only [wp_bind, Prog.lift]
  iintro ⟨HA, HX, HB, Ha⟩ Hk
  iapply (At_load (c := thr d i) (m := bb) fullShare (of1 Bt)) $$ HB
  iintro HB
  rw [wp_ret]; imodintro
  iapply (At_load (c := thr d i) (m := ab) fullShare (of1 at')) $$ Ha
  iintro Ha
  rw [wp_ret]; imodintro
  have eB : (fun x => (of1 Bt : S3136.Idx → Elt F .i32) ((Rect.unit (s := S3136) off S16.size hoff).emb x)) = fun x : S16.Idx => (fun j => Bt (o + j)) (x 0).val :=
    funext fun x => by show Bt _ = _; rw [unit_emb_val, ho]
  have ea : (fun x => (of1 at' : S3136.Idx → Elt F .f32) ((Rect.unit (s := S3136) off S16.size hoff).emb x)) = fun x : S16.Idx => (fun j => at' (o + j)) (x 0).val :=
    funext fun x => by show at' _ = _; rw [unit_emb_val, ho]
  rw [eB, ea]
  have e0 : ∀ h, lane (fun x : S16.Idx => (fun j => Bt (o + j)) (x 0).val) 0 h = Bt (o + 0) := fun h => lane_eq (fun j => Bt (o + j)) 0 h
  have e15 : ∀ h, lane (fun x : S16.Idx => (fun j => Bt (o + j)) (x 0).val) 15 h = Bt (o + 15) := fun h => lane_eq (fun j => Bt (o + j)) 15 h
  have c0 : chk₀ (lane (fun x : S16.Idx => (fun j => Bt (o + j)) (x 0).val) 0 (hS 0 (by simp)))
      (lane (fun x : S16.Idx => (fun j => Bt (o + j)) (x 0).val) 15 (hS 15 (by simp))) := by rw [e0, e15]; exact hok₀
  iapply (wp_assume Variants.none (thr d i) bd Set.univ c0)
  rw [wp_ret]; imodintro
  by_cases hb : Bt (o + 0) = Bt (o + 15)
  · have h5 : k1_cond5 (lane (fun x : S16.Idx => (fun j => Bt (o + j)) (x 0).val) 0 (hS 0 (by simp)))
        (lane (fun x : S16.Idx => (fun j => Bt (o + j)) (x 0).val) 15 (hS 15 (by simp))) = 1#1 := by
      rw [e0, e15, cond5_iff]; exact hb
    have h6 : ¬ k1_cond6 (lane (fun x : S16.Idx => (fun j => Bt (o + j)) (x 0).val) 0 (hS 0 (by simp)))
        (lane (fun x : S16.Idx => (fun j => Bt (o + j)) (x 0).val) 15 (hS 15 (by simp))) = 1#1 := by
      rw [e0, e15, cond6_iff]; exact fun h => h hb
    rw [dif_pos h5, dif_neg h6]
    iapply (same_wp d i acc xb _ g g₀ _ (fun j => at' (o + j)) rfl X A (hchk₀ _ _ c0 h5) hS hR hg _) $$ [HA HX]
    · isplitl [HA] <;> iassumption
    iintro ⟨HA, HX⟩
    rw [wp_pure]; imodintro
    iapply Hk
    isplitl [HA]
    · rw [e0, show grpSpec (fun j => Bt (o + j)) (fun j => at' (o + j)) (fun j => X (g₀ + j)) A
          = addRow A (Bt (o + 0)).toNat (sumSpec (fun j => at' (o + j)) (fun j => X (g₀ + j)) rows fun _ => fzero) from if_pos hb]
      iexact HA
    isplitl [HX]; · iexact HX
    isplitl [HB] <;> iassumption
  · have h5 : ¬ k1_cond5 (lane (fun x : S16.Idx => (fun j => Bt (o + j)) (x 0).val) 0 (hS 0 (by simp)))
        (lane (fun x : S16.Idx => (fun j => Bt (o + j)) (x 0).val) 15 (hS 15 (by simp))) = 1#1 := by
      rw [e0, e15, cond5_iff]; exact hb
    have h6 : k1_cond6 (lane (fun x : S16.Idx => (fun j => Bt (o + j)) (x 0).val) 0 (hS 0 (by simp)))
        (lane (fun x : S16.Idx => (fun j => Bt (o + j)) (x 0).val) 15 (hS 15 (by simp))) = 1#1 := by
      rw [e0, e15, cond6_iff]; exact hb
    rw [dif_neg h5, dif_pos h6]
    rw [wp_bind]
    iapply (mixRows_wp d i acc xb g g₀ _ _ _ (fun j => Bt (o + j)) (fun j => at' (o + j)) _ X rows hS hR hg
      (fun j hj => by rw [e0, e15]; exact hok j hj) A) $$ [HA HX]
    · isplitl [HA] <;> iassumption
    iintro ⟨HA, HX⟩
    rw [wp_ret]; imodintro
    rw [wp_pure]; imodintro
    iapply Hk
    isplitl [HA]
    · rw [show grpSpec (fun j => Bt (o + j)) (fun j => at' (o + j)) (fun j => X (g₀ + j)) A
          = mixSpec (fun j => Bt (o + j)) (fun j => at' (o + j)) (fun j => X (g₀ + j)) rows A from if_neg hb]
      iexact HA
    isplitl [HX]; · iexact HX
    isplitl [HB] <;> iassumption

end Steps

end Cert.KernelIdeal.Own

end
-- ==== Proof.Copy.lean ====
/- The steps of a tile over buffers held at what they read: loads, stores, indexed loads and stores, copies of a whole view
   or of a rectangle of one, and their waits. -/
module

public import proofs.«01_k».proof.Proof.GroupWp
public import Idealize.ShloMosaic.Lib.Transfers
public import Idealize.ShloMosaic.Lib.SparseCore.Ops

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Views

variable {c : Thread nD τ} {sp : Space} {s : Shape} {e : EltTy}

theorem At_congr {m : Memref sig c.2.kind sp s e} {q : PosShare TreeShare} {A B : s.Idx → Elt F e} (h : ∀ x, A x = B x) :
    (At c m q A : sProp 𝕄) ⊢ At c m q B := by
  rw [show A = B from funext h]

/-- A rectangle of a held view, and what putting it back at other contents leaves. -/
theorem At_slice (m : Memref sig c.2.kind sp s e) (r : Rect s) (hr : ∀ a, r.stride a = 1) (q : PosShare TreeShare) (X : s.Idx → Elt F e) :
    (At c m q X : sProp 𝕄)
      ⊢ iprop(At c (m.slice r hr) q (fun x => X (r.emb x)) ∗ (∀ (Y : r.shape.Idx → Elt F e) (X' : s.Idx → Elt F e),
          ⌜(∀ x, X' (r.emb x) = Y x) ∧ ∀ y, y ∉ r.set → X' y = X y⌝ -∗ At c (m.slice r hr) q Y -∗ At c m q X')) := by
  unfold At
  iintro ⟨%f, %hf, H⟩
  ihave H := ((pointsTo_split_subset (m.view.set_slice_subset r)).1) $$ H
  icases H with ⟨H1, H2⟩
  isplitl [H1]
  · iexists f
    isplitr
    · ipureintro; rw [← hf]; rfl
    · iexact H1
  · iintro %Y %X' %h ⟨%g, %hg, H1⟩
    ihave H := (pointsTo_join_subset (ℓ := m.view.loc c) (q := q) (f := f) (g := g) (m.view.set_slice_subset r)) $$ [H1 H2]
    · isplitl [H1] <;> iassumption
    iexists ((m.view.slice r).set.piecewise g f)
    isplitr
    · ipureintro
      funext y
      by_cases hy : y ∈ r.set
      · obtain ⟨x, rfl⟩ := r.exists_idx_of_mem hy
        show m.view.read (Elt F) _ (r.emb x) = X' (r.emb x)
        rw [h.1 x, ← hg]
        rw [View.read_apply]
        rw [Finset.piecewise_eq_of_mem _ _ _ (by
          show m.view.emb (r.emb x) ∈ (m.view.slice r).set
          rw [View.set_slice]
          exact Finset.mem_map_of_mem _ (by rw [← Rect.map_emb_univ]; exact Finset.mem_map_of_mem _ (Finset.mem_univ _)))]
        rfl
      · rw [h.2 y hy, ← hf, View.read_apply, Finset.piecewise_eq_of_notMem _ _ _ (by
          intro hm
          rw [View.set_slice] at hm
          obtain ⟨z, hz, he⟩ := Finset.mem_map.mp hm
          exact hy (m.view.emb.injective he ▸ hz)), View.read_apply]
    · iexact H

/-- A squeezed view, held through the view that it squeezes. -/
theorem At_squeeze (m : Memref sig c.2.kind sp s e) {s' : Shape} (h : s.Squeezes s') (q : PosShare TreeShare) (X : s.Idx → Elt F e) :
    (At c m q X : sProp 𝕄) ⊢ At c (m.squeeze s' h) q (fun x => X (Shape.reshapeEquiv h.numel_eq x)) := by
  unfold At
  iintro ⟨%f, %hf, H⟩
  iexists f
  isplitr
  · ipureintro; rw [← hf]; rfl
  · rw [show (m.squeeze s' h).view.set = m.view.set from View.set_reshape _ h.numel_eq]
    iexact H

theorem At_unsqueeze (m : Memref sig c.2.kind sp s e) {s' : Shape} (h : s.Squeezes s') (q : PosShare TreeShare) (X : s.Idx → Elt F e) (Y : s'.Idx → Elt F e)
    (hXY : ∀ x, X (Shape.reshapeEquiv h.numel_eq x) = Y x) :
    (At c (m.squeeze s' h) q Y : sProp 𝕄) ⊢ At c m q X := by
  unfold At
  iintro ⟨%f, %hf, H⟩
  iexists f
  isplitr
  · ipureintro
    funext y
    obtain ⟨x, rfl⟩ := (Shape.reshapeEquiv h.numel_eq).surjective y
    rw [hXY, ← hf]; rfl
  · rw [show (m.squeeze s' h).view.set = m.view.set from View.set_reshape _ h.numel_eq]
    iexact H

end Views

section Ops

variable {c : Thread nD τ} {bd : Option (Variants.none).V}

theorem load_wp {cs : CoreSpace} {s : Shape} {e : EltTy} {m : Memref sig c.2.kind cs s e} {r : Rect s} {hl : m.view.LoadsAt r.toLoadRect}
    {Q : (r.shape.Idx → Elt F e) → sProp 𝕄} (q : PosShare TreeShare) (A : s.Idx → Elt F e) :
    (At c m q A : sProp 𝕄)
      ⊢ iprop((At c m q A -∗ Q (fun x => A (r.emb x)))
        -∗ wp frame (wpE (defs₀ (F := F)) Variants.none c bd) Set.univ (Prog.lift (.load m r.toLoadRect hl)) Q) := by
  iintro H Hk
  iapply (At_load (c := c) (m := m) q A) $$ H
  iintro H
  rw [wp_ret]; imodintro
  iapply Hk $$ H

theorem store_wp {cs : CoreSpace} {s : Shape} {e : EltTy} {m : Memref sig c.2.kind cs s e} {r : Rect s} {w : r.shape.Idx → Elt F e}
    {hx : (m.access r).Stores Finset.univ} {hm : (Finset.univ : Finset r.shape.Idx) = Finset.univ ∨ ∀ a, r.stride a = 1}
    {Q : PUnit → sProp 𝕄} (A A' : s.Idx → Elt F e)
    (h1 : ∀ x, A' (r.emb x) = w x) (h2 : ∀ y, y ∉ r.set → A' y = A y) :
    (At c m fullShare A : sProp 𝕄)
      ⊢ iprop((At c m fullShare A' -∗ Q ⟨⟩)
        -∗ wp frame (wpE (defs₀ (F := F)) Variants.none c bd) Set.univ (Prog.lift (.store m r w Finset.univ hx hm)) Q) := by
  iintro H Hk
  iapply (At_store (c := c) (m := m) A A' h1 h2) $$ H
  iintro H
  rw [wp_ret]; imodintro
  iapply Hk $$ H

theorem set_access_whole_eq {κ : Kind} {sp : Space} {s : Shape} {e : EltTy} (m : Memref sig κ sp s e) : (m.access (.whole s)).set = m.view.set := by
  rw [View.set_slice, Rect.set_whole]; rfl

theorem read_access_whole_eq {κ : Kind} {sp : Space} {s : Shape} {e : EltTy} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

theorem loadIdx_wp {s t : Shape} {e : EltTy} {m : Memref sig c.2.kind .vmem s e} {idxs : Fin s.rank → IVec t 32}
    {h : ∀ a x, (idxs a x).toNat < s.size a} {hl : m.view.Loads} {Q : Vec F t e → sProp 𝕄} (q : PosShare TreeShare) (A : s.Idx → Elt F e) :
    (At c m q A : sProp 𝕄)
      ⊢ iprop((At c m q A -∗ Q (loadIdx A idxs h))
        -∗ wp frame (wpE (defs₀ (F := F)) Variants.none c bd) Set.univ (SparseCore.vectorLoadIdx m idxs h hl) Q) := by
  unfold At
  iintro ⟨%f, %hf, H⟩ Hk
  rw [← bind_pure (SparseCore.vectorLoadIdx m idxs h hl)]
  iapply (SparseCore.wp_vectorLoadIdx Variants.none c bd Set.univ (base := m) (S := m.view.set) (set_access_whole_eq m).subset) $$ H
  iintro H
  rw [wp_pure]; imodintro
  rw [read_access_whole_eq, hf]
  iapply Hk
  iexists f
  isplitr; · ipureintro; exact hf
  iexact H

theorem storeIdx_wp {s : Shape} {e : EltTy} {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {Q : PUnit → sProp 𝕄} (A : s.Idx → Elt F e) :
    (At c m fullShare A : sProp 𝕄)
      ⊢ iprop((At c m fullShare (storeIdx A idxs v mask add h) -∗ Q ⟨⟩)
        -∗ wp frame (wpE (defs₀ (F := F)) Variants.none c bd) Set.univ (SparseCore.vectorStoreIdx m idxs v mask add h hs) Q) := by
  unfold At
  iintro ⟨%f, %hf, H⟩ Hk
  rw [← bind_pure (SparseCore.vectorStoreIdx m idxs v mask add h hs)]
  iapply (SparseCore.wp_vectorStoreIdx Variants.none c bd Set.univ (base := m) (f := f)) $$ [H]
  · rw [set_access_whole_eq]; iexact H
  iintro H
  rw [wp_pure]; imodintro
  iapply Hk
  iexists ((m.access (.whole s)).write (Elt F) f (storeIdx ((m.access (.whole s)).read (Elt F) f) idxs v mask add h) Finset.univ)
  isplitr
  · ipureintro
    rw [← read_access_whole_eq, View.read_write_univ, read_access_whole_eq, hf]
  · rw [set_access_whole_eq]; iexact H

theorem assume_wp {P : Prop} {dec : Decidable P} (h : P) {Q : PLift P → sProp 𝕄} :
    (Q ⟨h⟩ : sProp 𝕄) ⊢ wp frame (wpE (defs₀ (F := F)) Variants.none c bd) Set.univ (Prog.lift (TpuEff.assume P dec)) Q := by
  iintro H
  iapply (wp_assume Variants.none c bd Set.univ h)
  rw [wp_ret]; imodintro
  iexact H

/-! ## Copies -/

variable [CountersIn U] [Infinite Name]

abbrev EC : UEmb Counters 𝕄 := countersEmb

/-- A copy in flight, whose landing and what is kept beside it make `D`. -/
def Fly (c : Thread nD τ) (sm : SemLoc sig) (ι : Ix) (N : ℕ) (D : sProp 𝕄) : sProp 𝕄 :=
  iprop(∃ P R : sProp 𝕄, ⌜iprop(P ∗ R) ⊢ D⌝ ∗ Transfers.Flight EC c sm ι N P ∗ R)

theorem Fly_frame {sm : SemLoc sig} {ι : Ix} {N : ℕ} {D D' : sProp 𝕄} : iprop(Fly c sm ι N D ∗ (D -∗ D')) ⊢ Fly c sm ι N D' := by
  unfold Fly
  iintro ⟨⟨%P, %R, %h, H, HR⟩, Hw⟩
  iexists P, iprop(R ∗ (D -∗ D'))
  isplitr
  · ipureintro
    iintro ⟨HP, HR, Hw⟩
    iapply Hw
    iapply h
    isplitl [HP] <;> iassumption
  isplitl [H]; · iexact H
  isplitl [HR] <;> iassumption

/-- What the thread owes, and the waits that it has made so far. -/
def Ow (c : Thread nD τ) (ι : Ix) (O : CellTallies nD τ sig Ix) (W : Waits sig Ix) : sProp 𝕄 :=
  iprop(Transfers.MayWaits c ι O ∗ ∃ W', ⌜∀ p ∈ W', p ∈ W ∨ p.2 = ι⌝ ∗ owes c O W')

theorem start_wp {sp sp' : Space} {s : Shape} {e : EltTy} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {Q : PUnit → sProp 𝕄} (ι : Ix) (q : PosShare TreeShare) (A B : s.Idx → Elt F e) (h0 : 0 < s.numel) :
    iprop(At c src q A ∗ At c dst fullShare B ∗ semVal (c, .dma sem) 0)
      ⊢ iprop((Fly c (.dma sem) ι dst.view.dmaCredit iprop(At c dst fullShare A ∗ At c src q A) -∗ Q ⟨⟩)
        -∗ wp frame (wpE (defs₀ (F := F)) Variants.none c bd) Set.univ (Prog.lift (.enqueueDma src (.here dst) (.dma sem) hsrc hdst hsem)) Q) := by
  unfold At
  iintro ⟨⟨%f, %hf, Hs⟩, ⟨%g, %hg, Hd⟩, Hv⟩ Hk
  iapply (Transfers.wp_dmaLocal EC Variants.none c bd (src := src) (dst := dst) (via := .same) (sm := .dma sem) (Sd := dst.view.set) (fs := f) (fd := g) ι
    dst.view.dmaCredit rfl (dst.view.dmaCredit_pos h0) subset_rfl) $$ [Hs Hd Hv]
  · isplitl [Hs]; · iexact Hs
    isplitl [Hd] <;> iassumption
  iintro H
  rw [wp_ret]; imodintro
  iapply Hk
  unfold Fly
  iexists iprop((dst.view.loc c ↦[dst.view.set]{fullShare} (dst.view.write (Elt F) g (ReadAs.same.apply (src.view.read (Elt F) f)) Finset.univ))
    ∗ (src.view.loc c ↦[src.view.set]{q} f)), iprop(emp)
  isplitr
  · ipureintro
    iintro ⟨⟨H1, H2⟩, _He⟩
    isplitl [H1]
    · iexists (dst.view.write (Elt F) g (ReadAs.same.apply (src.view.read (Elt F) f)) Finset.univ)
      isplitr
      · ipureintro
        rw [View.read_write_univ]
        exact hf
      · iexact H1
    · iexists f
      isplitr; · ipureintro; exact hf
      iexact H2
  isplitl [H]; · iexact H
  iempintro

theorem wait_wp {sp sp' : Space} {s s' : Shape} {e e' : EltTy} {srcw : Memref sig c.2.kind sp' s' e'} {dstw : Memref sig c.2.kind sp s e} {sem : DmaSem sig}
    {hsrc : srcw.view.WordExact} {hdst : dstw.view.WordExact} {Q : PUnit → sProp 𝕄} (ι : Ix) {N : ℕ} (hN : dstw.view.dmaCredit = N) {D : sProp 𝕄}
    {O : CellTallies nD τ sig Ix} {W : Waits sig Ix} :
    iprop(Fly c (.dma sem) ι N D ∗ Ow c ι O W)
      ⊢ iprop((iprop(D ∗ semVal (c, .dma sem) 0 ∗ Ow c ι O W) -∗ Q ⟨⟩)
        -∗ wp frame (wpE (defs₀ (F := F)) Variants.none c bd) Set.univ (Prog.lift (.waitDma2 sem srcw dstw hsrc hdst)) Q) := by
  unfold Fly Ow
  iintro ⟨⟨%P, %R, %h, HF, HR⟩, #HM, ⟨%W', %hW, HO⟩⟩ Hk
  ihave Hm := (Transfers.MayWaits.elim (.dma sem)) $$ HM
  iapply (Transfers.wp_waitLocalO EC Variants.none c bd (srcw := srcw) (dstw := dstw) ι hN) $$ [HF HO Hm]
  · isplitl [HF]; · iexact HF
    isplitl [HO] <;> iassumption
  iintro ⟨HP, Hv, HO⟩
  rw [wp_ret]; imodintro
  iapply Hk
  isplitl [HP HR]
  · iapply h
    isplitl [HP] <;> iassumption
  isplitl [Hv]; · iexact Hv
  isplitr; · iexact HM
  iexists (insert (SemLoc.dma sem, ι) W')
  isplitr
  · ipureintro
    intro p hp
    rcases Finset.mem_insert.mp hp with hp | hp
    · exact Or.inr (by rw [hp])
    · exact hW p hp
  · iexact HO

/-- A copy out of a rectangle of a held view, in flight. -/
theorem startSlice_wp {sp sp' : Space} {s : Shape} {e : EltTy} {m : Memref sig c.2.kind sp s e} {r : Rect s} {hr : ∀ a, r.stride a = 1}
    {dst : Memref sig c.2.kind sp' r.shape e} {sem : DmaSem sig}
    {hsrc : (m.slice r hr).view.WordExact} {hdst : dst.view.WordExact} {hsem : DmaTarget.Typed (nD := nD) sp (.dma sem) (.here dst)}
    {Q : PUnit → sProp 𝕄} (ι : Ix) (q : PosShare TreeShare) (X : s.Idx → Elt F e) (B : r.shape.Idx → Elt F e) (h0 : 0 < r.shape.numel) :
    iprop(At c m q X ∗ At c dst fullShare B ∗ semVal (c, .dma sem) 0)
      ⊢ iprop((Fly c (.dma sem) ι dst.view.dmaCredit iprop(At c dst fullShare (fun x => X (r.emb x)) ∗ At c m q X) -∗ Q ⟨⟩)
        -∗ wp frame (wpE (defs₀ (F := F)) Variants.none c bd) Set.univ (Prog.lift (.enqueueDma (m.slice r hr) (.here dst) (.dma sem) hsrc hdst hsem)) Q) := by
  iintro ⟨HX, HB, Hv⟩ Hk
  ihave HX := (At_slice m r hr q X) $$ HX
  icases HX with ⟨HX, Hw⟩
  iapply (start_wp ι q _ B h0) $$ [HX HB Hv]
  · isplitl [HX]; · iexact HX
    isplitl [HB] <;> iassumption
  iintro HF
  iapply Hk
  iapply (Fly_frame (D := iprop(At c dst fullShare (fun x => X (r.emb x)) ∗ At c (m.slice r hr) q (fun x => X (r.emb x)))))
  isplitl [HF]; · iexact HF
  iintro ⟨HD, HX⟩
  isplitl [HD]; · iexact HD
  iapply Hw $$ %(fun x => X (r.emb x)) %X [] HX
  ipureintro
  exact ⟨fun _ => rfl, fun _ _ => rfl⟩

end Ops

end Cert.KernelIdeal.Own

end
-- ==== Proof.GroupEq.lean ====
/- The three unrolled copies of a group of rows are the one program `group`. -/
module

public import proofs.«01_k».proof.Proof.Group

@[expose] public section

noncomputable section

namespace Cert.KernelIdeal.Own

open Idealize.ShloMosaic Idealize.SL.Sem Cert.KernelIdeal Cert.KernelIdeal.Gen

variable {F : FTy → Type} [FloatOps F]

theorem slices : ∀ j ∈ rows, S16.Slices ![j] S1 := by decide

variable (i : grid1.Coords) (arg2 : Memref sig .scVector .hbm S100000x128 .f32) (harg2 : arg2.IsWhole) (arg3 : Memref sig .scVector .hbm S100000 .i32) (harg3 : arg3.IsWhole) (arg4 : Memref sig .scVector .hbm S100000 .f32) (harg4 : arg4.IsWhole) (arg5 : Memref sig .scVector .hbm S32x256x128 .f32) (harg5 : arg5.IsWhole) (arg6 : Memref sig .scVector .hbm S32x256 .f32) (harg6 : arg6.IsWhole) (arg7 : Memref sig .scVector .vmem S3136 .i32) (harg7 : arg7.IsWhole) (arg8 : Memref sig .scVector .vmem S3136 .f32) (harg8 : arg8.IsWhole) (arg9 : Memref sig .scVector .vmem S3136 .f32) (harg9 : arg9.IsWhole) (arg10 : Memref sig .scVector .vmem S256x16 .f32) (harg10 : arg10.IsWhole) (arg11 : Memref sig .scVector .vmem S256 .f32) (harg11 : arg11.IsWhole) (arg12 : Memref sig .scVector .vmem S256x128 .f32) (harg12 : arg12.IsWhole) (arg13 : Memref sig .scVector .vmem S112x128 .f32) (harg13 : arg13.IsWhole) (arg14 : Memref sig .scVector .vmem S112x128 .f32) (harg14 : arg14.IsWhole) (arg15 : DmaSems sig S_) (v40_r0 : DmaSems sig S_) (v40_r1 : DmaSems sig S_) (v40_r2 : DmaSems sig S_) (v40_r3 : DmaSems sig S_) (v43_r4 : DmaSems sig S_) (v40_r5 : DmaSems sig S_) (v40_r6 : DmaSems sig S_) (v1 : BitVec 32) (v3 : BitVec 32) (v25 : BitVec 1)

set_option maxRecDepth 1000000 in
set_option maxHeartbeats 0 in
theorem t7_eq (k1_t6 : Fin (k1_t6_loop i).trips) (h : k1_cond3 i k1_t6 = 1#1)
    (t : Fin k1_t7_loop.trips) (z : BitVec 32) (hchk₀ hchk hR) :
    k1_t7_body (F := F) i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k1_t6 h t z
    = group i arg12 arg13 arg7 arg9 (k1_off18 i k1_t6 t) (k1_off18_inb i k1_t6 t h) (Scf.iv 0#32 1#32 t) (k1_chk19 i k1_t6) (k1_chk19.dec i k1_t6)
      hchk₀ (k1_chk20 i k1_t6) (k1_chk20.dec i k1_t6) hchk slices hR := by
  rfl

set_option maxRecDepth 1000000 in
set_option maxHeartbeats 0 in
theorem t8_eq (k1_t6 : Fin (k1_t6_loop i).trips) (h : k1_cond7 i k1_t6 = 1#1)
    (t : Fin k1_t8_loop.trips) (z : BitVec 32) (hchk₀ hchk hR) :
    k1_t8_body (F := F) i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k1_t6 h t z
    = group i arg12 arg14 arg7 arg9 (k1_off293 i k1_t6 t) (k1_off293_inb i k1_t6 t h) (Scf.iv 0#32 1#32 t) (k1_chk36 i k1_t6) (k1_chk36.dec i k1_t6)
      hchk₀ (k1_chk37 i k1_t6) (k1_chk37.dec i k1_t6) hchk slices hR := by
  rfl

set_option maxRecDepth 1000000 in
set_option maxHeartbeats 0 in
theorem t12_eq (h : k1_cond19 i = 1#1)
    (t : Fin k1_t12_loop.trips) (z : BitVec 32) (hchk₀ hchk hR) :
    k1_t12_body (F := F) i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 h t z
    = group i arg12 arg13 arg7 arg9 (k1_off1117 t) (k1_off1117_inb i t h) (Scf.iv 0#32 1#32 t) (k1_chk87 i) (k1_chk87.dec i)
      hchk₀ (k1_chk88 i) (k1_chk88.dec i) hchk slices hR := by
  rfl

end Cert.KernelIdeal.Own

end
-- ==== Proof.Spec.lean ====
/- What one tile computes, over any float values, in natural coordinates; and the shape of its loops. -/
module

public import proofs.«01_k».proof.Proof.Copy
public import proofs.«01_k».proof.Proof.GroupEq

@[expose] public section

noncomputable section

namespace Cert.KernelIdeal.Own

open Idealize.ShloMosaic Cert.KernelIdeal Cert.KernelIdeal.Gen

variable {F : FTy → Type} [FloatOps F]

/-- The tile's number, its first row, its groups of 16 rows and its full chunks of 112. -/
def tid (i : grid1.Coords) : ℕ := 16 * (i 0).val + (i 1).val
def base (i : grid1.Coords) : ℕ := 50176 * (i 0).val + 3136 * (i 1).val
def ng (i : grid1.Coords) : ℕ := if tid i = 31 then 174 else 196
def nc (i : grid1.Coords) : ℕ := if tid i = 31 then 24 else 28

theorem base_eq (i : grid1.Coords) : base i = 3136 * tid i := by unfold base tid; omega
theorem tid_lt (i : grid1.Coords) : tid i < 32 := by
  have h0 : (i 0).val < 2 := (i 0).isLt
  have h1 : (i 1).val < 16 := (i 1).isLt
  unfold tid; omega

theorem t1_trips : k1_t1_loop.trips = 256 := by decide +kernel
theorem t2_trips : ∀ i, (k1_t2_loop i).trips = ng i := by decide +kernel
theorem t3_trips : ∀ i, (k1_t3_loop i).trips = 0 := by decide +kernel
theorem t4_trips : k1_t4_loop.trips = 16 := by decide +kernel
theorem t5_trips : k1_t5_loop.trips = 256 := by decide +kernel
theorem t6_trips : ∀ i, (k1_t6_loop i).trips = nc i := by decide +kernel
theorem t7_trips : k1_t7_loop.trips = 7 := by decide +kernel
theorem t8_trips : k1_t8_loop.trips = 7 := by decide +kernel
theorem t9_trips : ∀ i, (k1_t9_loop i).trips = 0 := by decide +kernel
theorem t12_trips : k1_t12_loop.trips = 6 := by decide +kernel

theorem cond1_iff : ∀ i, k1_cond1 i = 1#1 ↔ tid i ≠ 31 := by decide +kernel
theorem cond2_iff : ∀ i, k1_cond2 i = 1#1 ↔ tid i = 31 := by decide +kernel
theorem cond19_iff : ∀ i, k1_cond19 i = 1#1 ↔ tid i = 31 := by decide +kernel
theorem cond3_iff : ∀ i (k : Fin (k1_t6_loop i).trips), k1_cond3 i k = 1#1 ↔ k.val % 2 = 0 := by decide +kernel
theorem cond7_iff : ∀ i (k : Fin (k1_t6_loop i).trips), k1_cond7 i k = 1#1 ↔ k.val % 2 = 1 := by decide +kernel
theorem cond4_iff : ∀ i (k : Fin (k1_t6_loop i).trips), k1_cond4 i k = 1#1 ↔ k.val + 1 < nc i := by decide +kernel
theorem cond8_iff : ∀ i (k : Fin (k1_t6_loop i).trips), k1_cond8 i k = 1#1 ↔ k.val + 1 < nc i := by decide +kernel

/-- Contents by natural coordinates, from contents by index. -/
def at1 {n : ℕ} (r : ℕ) (h : r < n) : (⟨1, ![n]⟩ : Shape).Idx := fun | ⟨0, _⟩ => ⟨r, h⟩
def un1 {α : Type} {n : ℕ} (E : (⟨1, ![n]⟩ : Shape).Idx → α) (z : α) (r : ℕ) : α :=
  if h : r < n then E (at1 r h) else z
theorem un1_eq {α : Type} {n : ℕ} (E : (⟨1, ![n]⟩ : Shape).Idx → α) (z : α) (r : ℕ) (h : r < n) : un1 E z r = E (at1 r h) := dif_pos h
theorem of1_un1 {α : Type} {n : ℕ} (E : (⟨1, ![n]⟩ : Shape).Idx → α) (z : α) : (of1 (un1 E z) : (⟨1, ![n]⟩ : Shape).Idx → α) = E := by
  funext x
  refine (un1_eq E z (x 0).val (x 0).isLt).trans (congrArg E (funext fun a => ?_))
  match a with
  | ⟨0, _⟩ => rfl
def un2 {α : Type} {m n : ℕ} (E : (⟨2, ![m, n]⟩ : Shape).Idx → α) (z : α) (r c : ℕ) : α :=
  if h : r < m ∧ c < n then E (fun | ⟨0, _⟩ => ⟨r, h.1⟩ | ⟨1, _⟩ => ⟨c, h.2⟩) else z
theorem of2_un2 {α : Type} {m n : ℕ} (E : (⟨2, ![m, n]⟩ : Shape).Idx → α) (z : α) : (of2 (un2 E z) : (⟨2, ![m, n]⟩ : Shape).Idx → α) = E := by
  funext x
  refine (dif_pos ⟨(x 0).isLt, (x 1).isLt⟩ : un2 E z (x 0).val (x 1).val = _).trans (congrArg E (funext fun a => ?_))
  match a with
  | ⟨0, _⟩ => rfl
  | ⟨1, _⟩ => rfl

theorem accIn_of {b : BitVec 32} (hb : b.toNat < 256) : ∀ c ∈ cols, AccIn b c := by
  intro c hc a
  have h2 : c + 16 ≤ 128 := by revert c; decide
  match a with
  | ⟨0, _⟩ => show b.toNat + 1 ≤ 256; omega
  | ⟨1, _⟩ => exact h2

theorem rowIn7 : ∀ t : Fin 7, ∀ j ∈ rows, ∀ c ∈ cols, RowIn (Scf.iv 0#32 1#32 t.val) (BitVec.ofNat 32 j) c := by decide +kernel
theorem rowAt7 : ∀ t : Fin 7, ∀ j ∈ rows, rowOff (Scf.iv 0#32 1#32 t.val) (BitVec.ofNat 32 j) 0 0 = 16 * t.val + j := by decide +kernel

/-- The sixteen lanes' running sums, one row for each batch: lane `c` of a group adds into column `c`. -/
def tabStep (B : ℕ → BitVec 32) (a : ℕ → F .f32) (T : ℕ → ℕ → F .f32) : ℕ → ℕ → F .f32 :=
  fun r c => if (B c).toNat = r then FloatOps.idxAddf (T r c) (a c) else T r c
def tabS (B : ℕ → BitVec 32) (a : ℕ → F .f32) : ℕ → ℕ → ℕ → F .f32
  | 0 => fun _ _ => fzero
  | g + 1 => tabStep (fun j => B (16 * g + j)) (fun j => a (16 * g + j)) (tabS B a g)
/-- A batch's sum over the lanes. -/
def denS (T : ℕ → ℕ → F .f32) (r : ℕ) : F .f32 := (List.range 16).foldl (fun s c => fadd s (T r c)) fzero
/-- The accumulator after some groups. -/
def accS (B : ℕ → BitVec 32) (a : ℕ → F .f32) (X : ℕ → ℕ → F .f32) : ℕ → ℕ → ℕ → F .f32
  | 0 => fun _ _ => fzero
  | g + 1 => grpSpec (fun j => B (16 * g + j)) (fun j => a (16 * g + j)) (fun j => X (16 * g + j)) (accS B a X g)

theorem tabS_congr {B B' : ℕ → BitVec 32} {a a' : ℕ → F .f32} : ∀ g, (∀ r < 16 * g, B r = B' r ∧ a r = a' r) →
    ∀ r c, c < 16 → tabS B a g r c = tabS B' a' g r c
  | 0, _, _, _, _ => rfl
  | g + 1, h, r, c, hc => by
    show (if (B (16 * g + c)).toNat = r then FloatOps.idxAddf (tabS B a g r c) (a (16 * g + c)) else tabS B a g r c)
      = (if (B' (16 * g + c)).toNat = r then FloatOps.idxAddf (tabS B' a' g r c) (a' (16 * g + c)) else tabS B' a' g r c)
    rw [(h (16 * g + c) (by omega)).1, (h (16 * g + c) (by omega)).2, tabS_congr g (fun r hr => h r (by omega)) r c hc]

theorem denS_congr {T T' : ℕ → ℕ → F .f32} {r : ℕ} (h : ∀ c, c < 16 → T r c = T' r c) : denS T r = denS T' r := by
  unfold denS
  have key : ∀ (l : List ℕ) (s : F .f32), (∀ c ∈ l, T r c = T' r c) → l.foldl (fun s c => fadd s (T r c)) s = l.foldl (fun s c => fadd s (T' r c)) s := by
    intro l
    induction l with
    | nil => intro _ _; rfl
    | cons c l ih =>
      intro s hs
      rw [List.foldl_cons, List.foldl_cons, hs c (by simp)]
      exact ih _ fun c hc => hs c (by simp [hc])
  exact key _ _ fun c hc => h c (List.mem_range.mp hc)

theorem mixSpec_congr {B B' : ℕ → BitVec 32} {a a' : ℕ → F .f32} {X X' : ℕ → ℕ → F .f32} : ∀ (js : List ℕ) (A : ℕ → ℕ → F .f32),
    (∀ j ∈ js, B j = B' j ∧ a j = a' j ∧ X j = X' j) → mixSpec B a X js A = mixSpec B' a' X' js A
  | [], _, _ => rfl
  | j :: js, A, h => by
    unfold mixSpec
    rw [List.foldl_cons, List.foldl_cons, (h j (by simp)).1, (h j (by simp)).2.1, (h j (by simp)).2.2]
    exact mixSpec_congr js _ fun j hj => h j (by simp [hj])
theorem sumSpec_congr {a a' : ℕ → F .f32} {X X' : ℕ → ℕ → F .f32} : ∀ (js : List ℕ) (G : ℕ → F .f32),
    (∀ j ∈ js, a j = a' j ∧ X j = X' j) → sumSpec a X js G = sumSpec a' X' js G
  | [], _, _ => rfl
  | j :: js, A, h => by
    unfold sumSpec
    rw [List.foldl_cons, List.foldl_cons, (h j (by simp)).1, (h j (by simp)).2]
    exact sumSpec_congr js _ fun j hj => h j (by simp [hj])
theorem mem_rows {j : ℕ} : j ∈ rows → j < 16 := by revert j; decide

theorem grpSpec_congr {B B' : ℕ → BitVec 32} {a a' : ℕ → F .f32} {X X' : ℕ → ℕ → F .f32} (A : ℕ → ℕ → F .f32)
    (h : ∀ j < 16, B j = B' j ∧ a j = a' j ∧ X j = X' j) : grpSpec B a X A = grpSpec B' a' X' A := by
  unfold grpSpec
  rw [(h 0 (by omega)).1, (h 15 (by omega)).1, mixSpec_congr rows A fun j hj => h j (mem_rows hj),
    sumSpec_congr rows _ fun j hj => (h j (mem_rows hj)).2]

theorem accS_congr {B B' : ℕ → BitVec 32} {a a' : ℕ → F .f32} {X X' : ℕ → ℕ → F .f32} : ∀ g,
    (∀ r < 16 * g, B r = B' r ∧ a r = a' r ∧ X r = X' r) → accS B a X g = accS B' a' X' g
  | 0, _ => rfl
  | g + 1, h => by
    show grpSpec _ _ _ _ = grpSpec _ _ _ _
    rw [accS_congr g fun r hr => h r (by omega)]
    exact grpSpec_congr _ fun j hj => h _ (by omega)

def laneStep (ids : ℕ → BitVec 32) (v : ℕ → F .f32) (g : S256x16.Idx → F .f32) (k : Fin 16) : S256x16.Idx → F .f32 :=
  fun j => if (j 0).val = (ids k.val).toNat ∧ (j 1).val = k.val then FloatOps.idxAddf (g j) (v k.val) else g j

theorem laneStep_fold (ids : ℕ → BitVec 32) (v : ℕ → F .f32) (j : S256x16.Idx) :
    ∀ (l : List (Fin 16)) (g : S256x16.Idx → F .f32), l.Nodup →
      l.foldl (laneStep ids v) g j
      = if (∃ k ∈ l, k.val = (j 1).val) ∧ (ids (j 1).val).toNat = (j 0).val then FloatOps.idxAddf (g j) (v (j 1).val) else g j
  | [], g, _ => by simp
  | k :: l, g, hl => by
    have hk := List.nodup_cons.mp hl
    rw [List.foldl_cons, laneStep_fold ids v j l _ hk.2]
    by_cases hkc : (j 1).val = k.val
    · unfold laneStep
      have hn : ¬ ∃ k' ∈ l, k'.val = (j 1).val := by
        rintro ⟨k', h1, h2⟩
        exact hk.1 (Fin.ext (h2.trans hkc) ▸ h1)
      rw [if_neg fun h => hn h.1]
      rw [hkc]
      by_cases hr : (ids k.val).toNat = (j 0).val
      · rw [if_pos ⟨hr.symm, rfl⟩, if_pos ⟨⟨k, by simp, rfl⟩, hr⟩]
      · rw [if_neg fun h => hr h.1.symm, if_neg fun h => hr h.2]
    · rw [show laneStep ids v g k j = g j from if_neg fun h => hkc h.2]
      refine if_congr (and_congr_left fun _ => ?_) rfl rfl
      constructor
      · rintro ⟨k', h1, h2⟩; exact ⟨k', by simp [h1], h2⟩
      · rintro ⟨k', h1, h2⟩
        rcases List.mem_cons.mp h1 with rfl | h1
        · exact absurd h2.symm hkc
        · exact ⟨k', h1, h2⟩

/-- The indexed store of a group's lanes is one step of the running sums. -/
theorem storeIdx_eq (ids : ℕ → BitVec 32) (v : ℕ → F .f32) (idxs : Fin 2 → IVec S16 32) (w : FVec F S16 .f32) (h : ∀ a x, (idxs a x).toNat < S256x16.size a)
    (h0 : ∀ x, idxs 0 x = ids (x 0).val) (h1 : ∀ x, (idxs 1 x).toNat = (x 0).val) (hw : ∀ x, w x = v (x 0).val) (A : ℕ → ℕ → F .f32) :
    storeIdx (s := S256x16) (e := .f32) (of2 A : S256x16.Idx → F .f32) idxs w (fun _ => 1#1) true h = (of2 (tabStep ids v A) : S256x16.Idx → F .f32) := by
  have e : storeIdx (s := S256x16) (e := .f32) (of2 A : S256x16.Idx → F .f32) idxs w (fun _ => 1#1) true h
      = (List.finRange 16).foldl (laneStep ids v) (of2 A : S256x16.Idx → F .f32) := by
    show (List.finRange 16).foldl _ _ = _
    congr 1
    funext g k j
    have e0 : ((idxAt (s := S256x16) (t := S16) idxs h (Shape.ofLane k)) 0).val = (ids k.val).toNat := by
      show (idxs 0 _).toNat = _; rw [h0]; rfl
    have e1 : ((idxAt (s := S256x16) (t := S16) idxs h (Shape.ofLane k)) 1).val = k.val := by
      show (idxs 1 _).toNat = _; rw [h1]; rfl
    have key : (∀ a : Fin 2, (j a).val = ((idxAt (s := S256x16) (t := S16) idxs h (Shape.ofLane k)) a).val)
        ↔ (j 0).val = (ids k.val).toNat ∧ (j 1).val = k.val := by
      rw [Fin.forall_fin_two, e0, e1]
    refine Eq.trans (congrFun (if_pos rfl) j) ?_
    by_cases hj : ∀ a : Fin 2, (j a).val = ((idxAt (s := S256x16) (t := S16) idxs h (Shape.ofLane k)) a).val
    · refine (if_pos hj).trans ?_
      refine Eq.trans ?_ (show FloatOps.idxAddf (g j) (v k.val) = laneStep ids v g k j from (if_pos (key.mp hj)).symm)
      refine (if_pos rfl).trans ?_
      rw [hw, show idxAt (s := S256x16) (t := S16) idxs h (Shape.ofLane k) = j from (funext fun a => Fin.ext (hj a)).symm]
      rfl
    · exact (if_neg hj).trans (show g j = laneStep ids v g k j from (if_neg fun h => hj (key.mpr h)).symm)
  rw [e]
  funext j
  rw [laneStep_fold ids v j _ _ (List.nodup_finRange 16)]
  show _ = if (ids (j 1).val).toNat = (j 0).val then FloatOps.idxAddf (A (j 0).val (j 1).val) (v (j 1).val) else A (j 0).val (j 1).val
  refine if_congr (and_iff_right ⟨j 1, List.mem_finRange _, rfl⟩) rfl rfl

end Cert.KernelIdeal.Own

end
-- ==== Proof.TileA.lean ====
/- The loops that fill the tile's small tables: zeroing, the exponentials and their sums by lane, the sums over lanes. -/
module

public import proofs.«01_k».proof.Proof.Spec

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A counted loop by an invariant, its trip count named. -/
theorem loop_wp {c : Thread nD τ} {bd : Option (Variants.none).V} {σ : Type} {lp : Scf.Loop 32} {ok : lp.OK} {init : σ}
    {body : Fin lp.trips → σ → Prog (TpuEff nD τ sig (Elt F) Λ₀ c.2) σ} {Q : σ → sProp 𝕄} (n : ℕ) (hn : lp.trips = n) (I : ℕ → σ → sProp 𝕄)
    (hbody : ∀ (k : Fin lp.trips) (acc : σ), I k acc ⊢ wp frame (wpE (defs₀ (F := F)) Variants.none c bd) Set.univ (body k acc) (I (k.val + 1))) :
    I 0 init ⊢ iprop((∀ acc, I n acc -∗ Q acc) -∗ wp frame (wpE (defs₀ (F := F)) Variants.none c bd) Set.univ (Scf.Loop.for lp ok init body) Q) := by
  subst hn
  iintro HI Hk
  iapply (Scf.wp_for frame (wpE (defs₀ (F := F)) Variants.none c bd) Set.univ lp.lb lp.ub lp.st ok init body I hbody)
  isplitl [HI] <;> iassumption

/-- A column of the table at sixteen consecutive rows. -/
theorem loadCol_wp {c : Thread nD τ} {bd : Option (Variants.none).V} {m : Memref sig c.2.kind .vmem S256x16 .f32} {idxs : Fin 2 → IVec S16 32}
    {h : ∀ a x, (idxs a x).toNat < S256x16.size a} {hl : m.view.Loads} {Q : Vec F S16 .f32 → sProp 𝕄} (q : PosShare TreeShare) (T : ℕ → ℕ → F .f32)
    (o col : ℕ) (h0 : ∀ x, (idxs 0 x).toNat = o + (x 0).val) (h1 : ∀ x, (idxs 1 x).toNat = col) :
    (At c m q (of2 T : S256x16.Idx → Elt F .f32) : sProp 𝕄)
      ⊢ iprop((At c m q (of2 T : S256x16.Idx → Elt F .f32) -∗ Q (fun x => T (o + (x 0).val) col))
        -∗ wp frame (wpE (defs₀ (F := F)) Variants.none c bd) Set.univ (SparseCore.vectorLoadIdx m idxs h hl) Q) := by
  iintro H Hk
  iapply (loadIdx_wp (c := c) (m := m) q (of2 T : S256x16.Idx → Elt F .f32)) $$ H
  iintro H
  rw [show loadIdx (s := S256x16) (of2 T : S256x16.Idx → Elt F .f32) idxs h = fun x => T (o + (x 0).val) col from funext fun x => by
    show T (idxs 0 x).toNat (idxs 1 x).toNat = _
    rw [h0, h1]]
  iapply Hk $$ H

variable (i : grid1.Coords) (arg2 : Memref sig .scVector .hbm S100000x128 .f32) (harg2 : arg2.IsWhole) (arg3 : Memref sig .scVector .hbm S100000 .i32) (harg3 : arg3.IsWhole) (arg4 : Memref sig .scVector .hbm S100000 .f32) (harg4 : arg4.IsWhole) (arg5 : Memref sig .scVector .hbm S32x256x128 .f32) (harg5 : arg5.IsWhole) (arg6 : Memref sig .scVector .hbm S32x256 .f32) (harg6 : arg6.IsWhole) (arg7 : Memref sig .scVector .vmem S3136 .i32) (harg7 : arg7.IsWhole) (arg8 : Memref sig .scVector .vmem S3136 .f32) (harg8 : arg8.IsWhole) (arg9 : Memref sig .scVector .vmem S3136 .f32) (harg9 : arg9.IsWhole) (arg10 : Memref sig .scVector .vmem S256x16 .f32) (harg10 : arg10.IsWhole) (arg11 : Memref sig .scVector .vmem S256 .f32) (harg11 : arg11.IsWhole) (arg12 : Memref sig .scVector .vmem S256x128 .f32) (harg12 : arg12.IsWhole) (arg13 : Memref sig .scVector .vmem S112x128 .f32) (harg13 : arg13.IsWhole) (arg14 : Memref sig .scVector .vmem S112x128 .f32) (harg14 : arg14.IsWhole) (arg15 : DmaSems sig S_) (v40_r0 : DmaSems sig S_) (v40_r1 : DmaSems sig S_) (v40_r2 : DmaSems sig S_) (v40_r3 : DmaSems sig S_) (v43_r4 : DmaSems sig S_) (v40_r5 : DmaSems sig S_) (v40_r6 : DmaSems sig S_)

variable (d : Dev nD) {bd : Option (Variants.none).V}

set_option maxHeartbeats 4000000 in
theorem t1_wp {Q : BitVec 32 → sProp 𝕄} (A₀ : S256x16.Idx → Elt F .f32) :
    (At (thr d i) arg10 fullShare A₀ : sProp 𝕄)
      ⊢ iprop((∀ z, At (thr d i) arg10 fullShare (of2 (fun _ _ => fzero) : S256x16.Idx → Elt F .f32) -∗ Q z)
        -∗ wp frame (wpE (defs₀ (F := F)) Variants.none (thr d i) bd) Set.univ (Scf.Loop.for k1_t1_loop k1_t1_ok 0#32 (k1_t1_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6)) Q) := by
  iintro H Hk
  iapply (loop_wp (c := thr d i) 256 t1_trips (fun k _ => iprop(∃ A : S256x16.Idx → Elt F .f32, ⌜∀ y, (y 0).val < k → A y = fzero⌝ ∗ At (thr d i) arg10 fullShare A)) ?_) $$ [H]
  · intro k z
    unfold k1_t1_body
    simp only [wp_bind]
    iintro ⟨%A, %hA, H⟩
    iapply (load_wp (c := thr d i) (m := arg10) fullShare A) $$ H
    iintro H
    iapply (store_wp (c := thr d i) (m := arg10) A (fun y => if (y 0).val = k.val then fzero else A y) ?_ ?_) $$ H
    · intro x
      have h0 : (x 0).val = 0 := by have := (x 0).isLt; simp at this; omega
      have e0 : (((Rect.unit (s := S256x16) (k1_off3 k) S1x16.size (k1_off3_inb k)).emb x) 0).val = k.val := by
        rw [unit_emb_val, h0, k1_off3_eq]; rfl
      rw [if_pos e0]; rfl
    · intro y hy
      rw [Rect.mem_set_unit] at hy
      refine if_neg fun hc => hy fun a => ?_
      rw [k1_off3_eq]
      match a with
      | ⟨0, _⟩ => show k.val ≤ (y 0).val ∧ (y 0).val < k.val + 1; omega
      | ⟨1, _⟩ => have := (y 1).isLt; show 0 ≤ (y 1).val ∧ (y 1).val < 0 + 16; exact ⟨Nat.zero_le _, by simpa using this⟩
    iintro H
    rw [wp_pure]; imodintro
    iexists (fun y => if (y 0).val = k.val then fzero else A y)
    isplitr
    · ipureintro
      intro y hy
      by_cases hk : (y 0).val = k.val
      · exact if_pos hk
      · exact (if_neg hk).trans (hA y (by omega))
    · iexact H
  · iexists A₀
    isplitr
    · ipureintro; intro y hy; omega
    · iexact H
  iintro %z ⟨%A, %hA, H⟩
  iapply Hk
  rw [show A = (of2 (fun _ _ => fzero) : S256x16.Idx → Elt F .f32) from funext fun y => hA y (y 0).isLt]
  iexact H

/-- A group's lanes read from the tile's rows. -/
theorem of1_group {α : Type} (u : ℕ → α) (t : ℕ) (off : Fin 1 → ℕ) (h : ∀ a, off a + S16.size a ≤ S3136.size a) (ho : off 0 = 16 * t) :
    (fun x => (of1 u : S3136.Idx → α) ((Rect.unit (s := S3136) off S16.size h).emb x)) = fun x : S16.Idx => u (16 * t + (x 0).val) :=
  funext fun x => by show u _ = _; rw [unit_emb_val, ho]

set_option maxHeartbeats 4000000 in
theorem t2_wp {Q : BitVec 32 → sProp 𝕄} (v2 : IVec S16 32) (hv2 : ∀ x, (v2 x).toNat = (x 0).val) (B : ℕ → BitVec 32) (L : ℕ → F .f32) (A₀ : S3136.Idx → Elt F .f32)
    (hB : ∀ r < 16 * ng i, (B r).toNat < 256) :
    (iprop(At (thr d i) arg10 fullShare (of2 (fun _ _ => fzero) : S256x16.Idx → Elt F .f32) ∗ At (thr d i) arg7 fullShare (of1 B)
        ∗ At (thr d i) arg8 fullShare (of1 L) ∗ At (thr d i) arg9 fullShare A₀) : sProp 𝕄)
      ⊢ iprop((∀ z, At (thr d i) arg10 fullShare (of2 (tabS B (fun r => FloatOps.exp (L r)) (ng i)) : S256x16.Idx → Elt F .f32) -∗ At (thr d i) arg7 fullShare (of1 B)
            -∗ At (thr d i) arg8 fullShare (of1 L) -∗ (∃ E : ℕ → F .f32, ⌜∀ r < 16 * ng i, E r = FloatOps.exp (L r)⌝ ∗ At (thr d i) arg9 fullShare (of1 E)) -∗ Q z)
        -∗ wp frame (wpE (defs₀ (F := F)) Variants.none (thr d i) bd) Set.univ (Scf.Loop.for (k1_t2_loop i) (k1_t2_ok i) 0#32 (k1_t2_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v2)) Q) := by
  iintro ⟨HT, HB, HL, HE⟩ Hk
  iapply (loop_wp (c := thr d i) (ng i) (t2_trips i) (fun k _ => iprop(At (thr d i) arg10 fullShare (of2 (tabS B (fun r => FloatOps.exp (L r)) k) : S256x16.Idx → Elt F .f32)
    ∗ At (thr d i) arg7 fullShare (of1 B) ∗ At (thr d i) arg8 fullShare (of1 L)
    ∗ (∃ E : S3136.Idx → Elt F .f32, ⌜∀ y, (y 0).val < 16 * k → E y = FloatOps.exp (L (y 0).val)⌝ ∗ At (thr d i) arg9 fullShare E))) ?_) $$ [HT HB HL HE]
  · intro k z
    unfold k1_t2_body
    simp only [wp_bind]
    have hk : k.val < ng i := lt_of_lt_of_eq k.isLt (t2_trips i)
    have ho : k1_off4 i k 0 = 16 * k.val := by rw [k1_off4_eq]; rfl
    iintro ⟨HT, HB, HL, %E, %hE, HE⟩
    iapply (load_wp (c := thr d i) (m := arg7) fullShare (of1 B)) $$ HB
    iintro HB
    rw [of1_group B k.val _ _ ho]
    have hc : k1_chk1 v2 (fun x : S16.Idx => B (16 * k.val + (x 0).val)) := by
      intro a x
      match a with
      | ⟨0, _⟩ => have := (x 0).isLt; exact hB _ (by have : (x 0).val < 16 := this; omega)
      | ⟨1, _⟩ => show (v2 x).toNat < 16; rw [hv2]; exact (x 0).isLt
    iapply (assume_wp (c := thr d i) hc)
    iapply (load_wp (c := thr d i) (m := arg8) fullShare (of1 L)) $$ HL
    iintro HL
    rw [of1_group L k.val _ _ ho]
    iapply (load_wp (c := thr d i) (m := arg9) fullShare E) $$ HE
    iintro HE
    iapply (store_wp (c := thr d i) (m := arg9) E (fun y => if 16 * k.val ≤ (y 0).val ∧ (y 0).val < 16 * k.val + 16 then FloatOps.exp (L (y 0).val) else E y) ?_ ?_) $$ HE
    · intro x
      have h0 : (x 0).val < 16 := (x 0).isLt
      have e0 : (((Rect.unit (s := S3136) (k1_off4 i k) S16.size (k1_off4_inb i k)).emb x) 0).val = 16 * k.val + (x 0).val := by
        rw [unit_emb_val, ho]
      rw [if_pos (by rw [e0]; omega), e0]; rfl
    · intro y hy
      rw [Rect.mem_set_unit] at hy
      refine if_neg fun hc => hy fun a => ?_
      match a with
      | ⟨0, _⟩ => show k1_off4 i k 0 ≤ (y 0).val ∧ (y 0).val < k1_off4 i k 0 + 16; rw [ho]; exact hc
    iintro HE
    iapply (storeIdx_wp (c := thr d i) (m := arg10) (of2 (tabS B (fun r => FloatOps.exp (L r)) k.val) : S256x16.Idx → Elt F .f32)) $$ HT
    iintro HT
    rw [wp_pure]; imodintro
    isplitl [HT]
    · iapply (At_congr (c := thr d i) (fun x => congrFun (storeIdx_eq (fun j => B (16 * k.val + j)) (fun j => FloatOps.exp (L (16 * k.val + j))) _ _ _ ?_ ?_ ?_
        (tabS B (fun r => FloatOps.exp (L r)) k.val)) x)) $$ HT
      · intro x; rfl
      · intro x; exact hv2 x
      · intro x; rfl
    isplitl [HB]; · iexact HB
    isplitl [HL]; · iexact HL
    iexists (fun y => if 16 * k.val ≤ (y 0).val ∧ (y 0).val < 16 * k.val + 16 then FloatOps.exp (L (y 0).val) else E y)
    isplitr
    · ipureintro
      intro y hy
      by_cases hk : 16 * k.val ≤ (y 0).val ∧ (y 0).val < 16 * k.val + 16
      · exact if_pos hk
      · exact (if_neg hk).trans (hE y (by omega))
    · iexact HE
  · isplitl [HT]; · iexact HT
    isplitl [HB]; · iexact HB
    isplitl [HL]; · iexact HL
    iexists A₀
    isplitr
    · ipureintro; intro y hy; omega
    · iexact HE
  iintro %z ⟨HT, HB, HL, %E, %hE, HE⟩
  iapply Hk $$ HT HB HL
  have hn : 16 * ng i ≤ 3136 := by unfold ng; split <;> omega
  iexists (un1 E fzero)
  isplitr
  · ipureintro
    intro r hr
    rw [un1_eq E fzero r (by omega)]
    exact hE _ hr
  · rw [of1_un1 E fzero]
    iexact HE

set_option maxHeartbeats 8000000 in
theorem t4_wp {Q : BitVec 32 → sProp 𝕄} (v2 : IVec S16 32) (hv2 : ∀ x, v2 x = BitVec.ofNat 32 (x 0).val) (T : ℕ → ℕ → F .f32) (A₀ : S256.Idx → Elt F .f32) :
    (iprop(At (thr d i) arg10 fullShare (of2 T : S256x16.Idx → Elt F .f32) ∗ At (thr d i) arg11 fullShare A₀) : sProp 𝕄)
      ⊢ iprop((∀ z, At (thr d i) arg10 fullShare (of2 T : S256x16.Idx → Elt F .f32) -∗ At (thr d i) arg11 fullShare (of1 (denS T) : S256.Idx → Elt F .f32) -∗ Q z)
        -∗ wp frame (wpE (defs₀ (F := F)) Variants.none (thr d i) bd) Set.univ (Scf.Loop.for k1_t4_loop k1_t4_ok 0#32 (k1_t4_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v2)) Q) := by
  iintro ⟨HT, HD⟩ Hk
  iapply (loop_wp (c := thr d i) 16 t4_trips (fun k _ => iprop(At (thr d i) arg10 fullShare (of2 T : S256x16.Idx → Elt F .f32)
    ∗ (∃ A : S256.Idx → Elt F .f32, ⌜∀ y, (y 0).val < 16 * k → A y = denS T (y 0).val⌝ ∗ At (thr d i) arg11 fullShare A))) ?_) $$ [HT HD]
  · intro k z
    have hk : k.val < 16 := lt_of_lt_of_eq k.isLt t4_trips
    have ho : k1_off6 k 0 = 16 * k.val := by rw [k1_off6_eq]; rfl
    have h42 : ∀ x : S16.Idx, (addi (broadcast S16 (Scalar.muli (Scf.iv 0#32 1#32 k) 16#32)) v2 x).toNat = 16 * k.val + (x 0).val := by
      intro x
      have hx : (x 0).val < 16 := (x 0).isLt
      show (((0#32 + BitVec.ofNat 32 k.val * 1#32) * 16#32) + v2 x).toNat = _
      rw [hv2]
      simp only [BitVec.toNat_add, BitVec.toNat_mul, BitVec.toNat_ofNat]
      omega
    have hchk : ∀ col : ℕ, col < 16 → ∀ a x, ((![addi (broadcast S16 (Scalar.muli (Scf.iv 0#32 1#32 k) 16#32)) v2, broadcast S16 (BitVec.ofNat 32 col)] : Fin 2 → IVec S16 32) a x).toNat < S256x16.size a := by
      intro col hc a x
      match a with
      | ⟨0, _⟩ =>
        have hx : (x 0).val < 16 := (x 0).isLt
        show (addi (broadcast S16 (Scalar.muli (Scf.iv 0#32 1#32 k) 16#32)) v2 x).toNat < 256
        rw [h42]; omega
      | ⟨1, _⟩ => show (BitVec.ofNat 32 col).toNat < 16; rw [BitVec.toNat_ofNat]; omega
    unfold k1_t4_body k1_part1
    simp only [wp_bind]
    iintro ⟨HT, %A, %hA, HD⟩
    iapply (assume_wp (c := thr d i) (hchk 0 (by omega)))
    iapply (loadCol_wp (c := thr d i) (m := arg10) fullShare T (16 * k.val) 0 h42 (fun _ => rfl)) $$ HT
    iintro HT
    iapply (assume_wp (c := thr d i) (hchk 1 (by omega)))
    iapply (loadCol_wp (c := thr d i) (m := arg10) fullShare T (16 * k.val) 1 h42 (fun _ => rfl)) $$ HT
    iintro HT
    iapply (assume_wp (c := thr d i) (hchk 2 (by omega)))
    iapply (loadCol_wp (c := thr d i) (m := arg10) fullShare T (16 * k.val) 2 h42 (fun _ => rfl)) $$ HT
    iintro HT
    iapply (assume_wp (c := thr d i) (hchk 3 (by omega)))
    iapply (loadCol_wp (c := thr d i) (m := arg10) fullShare T (16 * k.val) 3 h42 (fun _ => rfl)) $$ HT
    iintro HT
    iapply (assume_wp (c := thr d i) (hchk 4 (by omega)))
    iapply (loadCol_wp (c := thr d i) (m := arg10) fullShare T (16 * k.val) 4 h42 (fun _ => rfl)) $$ HT
    iintro HT
    iapply (assume_wp (c := thr d i) (hchk 5 (by omega)))
    iapply (loadCol_wp (c := thr d i) (m := arg10) fullShare T (16 * k.val) 5 h42 (fun _ => rfl)) $$ HT
    iintro HT
    iapply (assume_wp (c := thr d i) (hchk 6 (by omega)))
    iapply (loadCol_wp (c := thr d i) (m := arg10) fullShare T (16 * k.val) 6 h42 (fun _ => rfl)) $$ HT
    iintro HT
    iapply (assume_wp (c := thr d i) (hchk 7 (by omega)))
    iapply (loadCol_wp (c := thr d i) (m := arg10) fullShare T (16 * k.val) 7 h42 (fun _ => rfl)) $$ HT
    iintro HT
    iapply (assume_wp (c := thr d i) (hchk 8 (by omega)))
    iapply (loadCol_wp (c := thr d i) (m := arg10) fullShare T (16 * k.val) 8 h42 (fun _ => rfl)) $$ HT
    iintro HT
    iapply (assume_wp (c := thr d i) (hchk 9 (by omega)))
    iapply (loadCol_wp (c := thr d i) (m := arg10) fullShare T (16 * k.val) 9 h42 (fun _ => rfl)) $$ HT
    iintro HT
    iapply (assume_wp (c := thr d i) (hchk 10 (by omega)))
    rw [wp_pure]; imodintro
    iapply (loadCol_wp (c := thr d i) (m := arg10) fullShare T (16 * k.val) 10 h42 (fun _ => rfl)) $$ HT
    iintro HT
    iapply (assume_wp (c := thr d i) (hchk 11 (by omega)))
    iapply (loadCol_wp (c := thr d i) (m := arg10) fullShare T (16 * k.val) 11 h42 (fun _ => rfl)) $$ HT
    iintro HT
    iapply (assume_wp (c := thr d i) (hchk 12 (by omega)))
    iapply (loadCol_wp (c := thr d i) (m := arg10) fullShare T (16 * k.val) 12 h42 (fun _ => rfl)) $$ HT
    iintro HT
    iapply (assume_wp (c := thr d i) (hchk 13 (by omega)))
    iapply (loadCol_wp (c := thr d i) (m := arg10) fullShare T (16 * k.val) 13 h42 (fun _ => rfl)) $$ HT
    iintro HT
    iapply (assume_wp (c := thr d i) (hchk 14 (by omega)))
    iapply (loadCol_wp (c := thr d i) (m := arg10) fullShare T (16 * k.val) 14 h42 (fun _ => rfl)) $$ HT
    iintro HT
    iapply (assume_wp (c := thr d i) (hchk 15 (by omega)))
    iapply (loadCol_wp (c := thr d i) (m := arg10) fullShare T (16 * k.val) 15 h42 (fun _ => rfl)) $$ HT
    iintro HT
    iapply (load_wp (c := thr d i) (m := arg11) fullShare A) $$ HD
    iintro HD
    iapply (store_wp (c := thr d i) (m := arg11) A (fun y => if 16 * k.val ≤ (y 0).val ∧ (y 0).val < 16 * k.val + 16 then denS T (y 0).val else A y) ?_ ?_) $$ HD
    · intro x
      have h0 : (x 0).val < 16 := (x 0).isLt
      have e0 : (((Rect.unit (s := S256) (k1_off6 k) S16.size (k1_off6_inb k)).emb x) 0).val = 16 * k.val + (x 0).val := by
        rw [unit_emb_val, ho]
      rw [if_pos (by rw [e0]; omega), e0]; rfl
    · intro y hy
      rw [Rect.mem_set_unit] at hy
      refine if_neg fun hc => hy fun a => ?_
      match a with
      | ⟨0, _⟩ => show k1_off6 k 0 ≤ (y 0).val ∧ (y 0).val < k1_off6 k 0 + 16; rw [ho]; exact hc
    iintro HD
    rw [wp_pure]; imodintro
    isplitl [HT]; · iexact HT
    iexists (fun y => if 16 * k.val ≤ (y 0).val ∧ (y 0).val < 16 * k.val + 16 then denS T (y 0).val else A y)
    isplitr
    · ipureintro
      intro y hy
      by_cases hk : 16 * k.val ≤ (y 0).val ∧ (y 0).val < 16 * k.val + 16
      · exact if_pos hk
      · exact (if_neg hk).trans (hA y (by omega))
    · iexact HD
  · isplitl [HT]; · iexact HT
    iexists A₀
    isplitr
    · ipureintro; intro y hy; omega
    · iexact HD
  iintro %z ⟨HT, %A, %hA, HD⟩
  iapply Hk $$ HT
  rw [show A = (of1 (denS T) : S256.Idx → Elt F .f32) from funext fun y => hA y (y 0).isLt]
  iexact HD

/-- The accumulator at zero on the rows before `k` and on the first `c` columns of row `k`. -/
def Zd (k c : ℕ) : sProp 𝕄 :=
  iprop(∃ A : S256x128.Idx → Elt F .f32, ⌜∀ y, (y 0).val < k ∨ (y 0).val = k ∧ (y 1).val < c → A y = fzero⌝ ∗ At (thr d i) arg12 fullShare A)

theorem zstep_wp {R : sProp 𝕄} (k c : ℕ) {off : Fin 2 → ℕ} {hoff : ∀ a, off a + S1x16.size a ≤ S256x128.size a} (ho : off = ![k, c])
    {w : (Rect.unit (s := S256x128) off S1x16.size hoff).shape.Idx → Elt F .f32} (hw : ∀ x, w x = fzero) {hl hx hm} :
    Zd i arg12 d k c ⊢ iprop((Zd i arg12 d k (c + 16) -∗ R)
      -∗ wp frame (wpE (defs₀ (F := F)) Variants.none (thr d i) bd) Set.univ (Prog.lift (.load arg12 (Rect.unit (s := S256x128) off S1x16.size hoff).toLoadRect hl))
        (fun _ => wp frame (wpE (defs₀ (F := F)) Variants.none (thr d i) bd) Set.univ
          (Prog.lift (.store arg12 (Rect.unit (s := S256x128) off S1x16.size hoff) w Finset.univ hx hm)) (fun _ => R))) := by
  subst ho
  unfold Zd
  iintro ⟨%A, %hA, H⟩ Hk
  iapply (load_wp (c := thr d i) (m := arg12) fullShare A) $$ H
  iintro H
  iapply (store_wp (c := thr d i) (m := arg12) A (fun y => if (y 0).val = k ∧ c ≤ (y 1).val ∧ (y 1).val < c + 16 then fzero else A y) ?_ ?_) $$ H
  · intro x
    have h0 : (x 0).val = 0 := by have := (x 0).isLt; simp at this; omega
    have h1 : (x 1).val < 16 := (x 1).isLt
    have e0 : (((Rect.unit (s := S256x128) ![k, c] S1x16.size hoff).emb x) 0).val = k := by
      rw [unit_emb_val, h0]; rfl
    have e1 : (((Rect.unit (s := S256x128) ![k, c] S1x16.size hoff).emb x) 1).val = c + (x 1).val := by
      rw [unit_emb_val]; rfl
    rw [if_pos ⟨e0, by omega, by omega⟩, hw]
  · intro y hy
    rw [Rect.mem_set_unit] at hy
    refine if_neg fun hc => hy fun a => ?_
    match a with
    | ⟨0, _⟩ => show k ≤ (y 0).val ∧ (y 0).val < k + 1; omega
    | ⟨1, _⟩ => exact hc.2
  iintro H
  iapply Hk
  iexists (fun y => if (y 0).val = k ∧ c ≤ (y 1).val ∧ (y 1).val < c + 16 then fzero else A y)
  isplitr
  · ipureintro
    intro y hy
    by_cases hc : (y 0).val = k ∧ c ≤ (y 1).val ∧ (y 1).val < c + 16
    · exact if_pos hc
    · exact (if_neg hc).trans (hA y (by omega))
  · iexact H

set_option maxHeartbeats 4000000 in
theorem t5_wp {Q : BitVec 32 → sProp 𝕄} (A₀ : S256x128.Idx → Elt F .f32) :
    (At (thr d i) arg12 fullShare A₀ : sProp 𝕄)
      ⊢ iprop((∀ z, accAt d i arg12 (fun _ _ => fzero) -∗ Q z)
        -∗ wp frame (wpE (defs₀ (F := F)) Variants.none (thr d i) bd) Set.univ (Scf.Loop.for k1_t5_loop k1_t5_ok 0#32 (k1_t5_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6)) Q) := by
  iintro H Hk
  iapply (loop_wp (c := thr d i) 256 t5_trips (fun k _ => Zd i arg12 d k 0) ?_) $$ [H]
  · intro k z
    unfold k1_t5_body
    simp only [wp_bind]
    iintro H
    iapply (zstep_wp i arg12 d k.val 0 (k1_off7_eq k) (fun _ => rfl)) $$ H
    iintro H
    iapply (zstep_wp i arg12 d k.val 16 (k1_off8_eq k) (fun _ => rfl)) $$ H
    iintro H
    iapply (zstep_wp i arg12 d k.val 32 (k1_off9_eq k) (fun _ => rfl)) $$ H
    iintro H
    iapply (zstep_wp i arg12 d k.val 48 (k1_off10_eq k) (fun _ => rfl)) $$ H
    iintro H
    iapply (zstep_wp i arg12 d k.val 64 (k1_off11_eq k) (fun _ => rfl)) $$ H
    iintro H
    iapply (zstep_wp i arg12 d k.val 80 (k1_off12_eq k) (fun _ => rfl)) $$ H
    iintro H
    iapply (zstep_wp i arg12 d k.val 96 (k1_off13_eq k) (fun _ => rfl)) $$ H
    iintro H
    iapply (zstep_wp i arg12 d k.val 112 (k1_off14_eq k) (fun _ => rfl)) $$ H
    iintro H
    rw [wp_pure]; imodintro
    unfold Zd
    icases H with ⟨%A, %hA, H⟩
    iexists A
    isplitr
    · ipureintro
      intro y hy
      have h1 : (y 1).val < 128 := (y 1).isLt
      exact hA y (by omega)
    · iexact H
  · unfold Zd
    iexists A₀
    isplitr
    · ipureintro; intro y hy; omega
    · iexact H
  iintro %z H
  unfold Zd
  icases H with ⟨%A, %hA, H⟩
  iapply Hk
  rw [show A = (of2 (fun _ _ => fzero) : S256x128.Idx → Elt F .f32) from funext fun y => hA y (Or.inl (y 0).isLt)]
  iexact H

end Cert.KernelIdeal.Own

end
-- ==== Proof.TileB.lean ====
/- The first half of a tile: its rows' batches and logits copied in, the exponentials, and their sums batch by batch. -/
module

public import proofs.«01_k».proof.Proof.TileA

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable [CountersIn U] [Infinite Name]

local notation "𝕄" => MT nD τ sig Ix (Elt F) Name U Lvl

/-- A copy from a rectangle of one held view to a rectangle of another, awaited. -/
theorem copyIn_wp {c : Thread nD τ} {bd : Option (Variants.none).V} {sp sp' : Space} {n : ℕ} {d1 d2 sz : Fin n → ℕ} {e : EltTy}
    {m : Memref sig c.2.kind sp ⟨n, d1⟩ e} {m' : Memref sig c.2.kind sp' ⟨n, d2⟩ e} {off off' : Fin n → ℕ}
    {h : ∀ a, off a + sz a ≤ (⟨n, d1⟩ : Shape).size a} {h' : ∀ a, off' a + sz a ≤ (⟨n, d2⟩ : Shape).size a} {hr hr'} {sem : DmaSem sig}
    {hsrc hdst hsem hsrcw hdstw} {Q : sProp 𝕄} (ι : Ix) (q : PosShare TreeShare) (X : (⟨n, d1⟩ : Shape).Idx → Elt F e) (A : (⟨n, d2⟩ : Shape).Idx → Elt F e)
    (h0 : 0 < (⟨n, sz⟩ : Shape).numel) {O : CellTallies nD τ sig Ix} {W : Waits sig Ix} :
    iprop(At c m q X ∗ At c m' fullShare A ∗ semVal (c, .dma sem) 0 ∗ Ow c ι O W)
      ⊢ iprop((∀ A', ⌜(∀ x : (⟨n, sz⟩ : Shape).Idx, A' ((Rect.unit (s := ⟨n, d2⟩) off' sz h').emb x) = X ((Rect.unit (s := ⟨n, d1⟩) off sz h).emb x))
              ∧ ∀ y, y ∉ (Rect.unit (s := ⟨n, d2⟩) off' sz h').set → A' y = A y⌝
            -∗ At c m q X -∗ At c m' fullShare A' -∗ semVal (c, .dma sem) 0 -∗ Ow c ι O W -∗ Q)
        -∗ wp frame (wpE (defs₀ (F := F)) Variants.none c bd) Set.univ
          (Prog.lift (.enqueueDma (s := ⟨n, sz⟩) (m.slice (Rect.unit (s := ⟨n, d1⟩) off sz h) hr) (.here (m'.slice (Rect.unit (s := ⟨n, d2⟩) off' sz h') hr')) (.dma sem) hsrc hdst hsem))
          (fun _ => wp frame (wpE (defs₀ (F := F)) Variants.none c bd) Set.univ
            (Prog.lift (.waitDma2 (s := ⟨n, sz⟩) sem (m.slice (Rect.unit (s := ⟨n, d1⟩) off sz h) hr) (m'.slice (Rect.unit (s := ⟨n, d2⟩) off' sz h') hr') hsrcw hdstw)) (fun _ => Q))) := by
  classical
  iintro ⟨HX, HA, Hv, HO⟩ Hk
  ihave HA := (At_slice m' (Rect.unit (s := ⟨n, d2⟩) off' sz h') hr' fullShare A) $$ HA
  icases HA with ⟨HA, Hw⟩
  iapply (startSlice_wp (r := Rect.unit (s := ⟨n, d1⟩) off sz h) ι q X (fun x => A ((Rect.unit (s := ⟨n, d2⟩) off' sz h').emb x)) h0) $$ [HX HA Hv]
  · isplitl [HX]; · iexact HX
    isplitl [HA]; · iexact HA
    iexact Hv
  iintro HF
  iapply (wait_wp (c := c) ι rfl (O := O) (W := W)) $$ [HF HO]
  · isplitl [HF]; · iexact HF
    iexact HO
  iintro ⟨⟨HA, HX⟩, Hv, HO⟩
  obtain ⟨A', hA⟩ : ∃ A' : (⟨n, d2⟩ : Shape).Idx → Elt F e, (∀ x : (⟨n, sz⟩ : Shape).Idx, A' ((Rect.unit (s := ⟨n, d2⟩) off' sz h').emb x) = X ((Rect.unit (s := ⟨n, d1⟩) off sz h).emb x))
      ∧ ∀ y, y ∉ (Rect.unit (s := ⟨n, d2⟩) off' sz h').set → A' y = A y := by
    refine ⟨fun y => if hy : ∃ x, (Rect.unit (s := ⟨n, d2⟩) off' sz h').emb x = y then X ((Rect.unit (s := ⟨n, d1⟩) off sz h).emb hy.choose) else A y, ?_⟩
    constructor
    · intro x
      have hy : ∃ x', (Rect.unit (s := ⟨n, d2⟩) off' sz h').emb x' = (Rect.unit (s := ⟨n, d2⟩) off' sz h').emb x := ⟨x, rfl⟩
      refine (dif_pos hy).trans ?_
      rw [(Rect.unit (s := ⟨n, d2⟩) off' sz h').emb.injective hy.choose_spec]
    · intro y hy
      refine dif_neg ?_
      rintro ⟨x, rfl⟩
      exact hy (by rw [← Rect.map_emb_univ]; exact Finset.mem_map_of_mem _ (Finset.mem_univ _))
  ihave HA := Hw $$ %(fun x => X ((Rect.unit (s := ⟨n, d1⟩) off sz h).emb x)) %A' %hA [HA]
  · iexact HA
  iapply Hk $$ %A' %hA HX HA Hv HO

theorem copy1_fact {α : Type} {N len off : ℕ} {o o' : Fin 1 → ℕ} (ho : o 0 = off) (ho' : o' 0 = 0) {h : ∀ a, o a + ![len] a ≤ (⟨1, ![N]⟩ : Shape).size a}
    {h' : ∀ a, o' a + ![len] a ≤ S3136.size a} (u : ℕ → α) (A' : S3136.Idx → α) (z : α)
    (hA : ∀ x : (⟨1, ![len]⟩ : Shape).Idx, A' ((Rect.unit (s := S3136) o' ![len] h').emb x) = (of1 u : (⟨1, ![N]⟩ : Shape).Idx → α) ((Rect.unit (s := ⟨1, ![N]⟩) o ![len] h).emb x)) :
    ∀ r < len, un1 A' z r = u (off + r) := by
  intro r hr
  have hl : r < 3136 := by have := h' 0; rw [ho'] at this; simp at this; omega
  rw [un1_eq A' z r hl]
  have e := hA (at1 r hr)
  have e1 : (Rect.unit (s := S3136) o' ![len] h').emb (at1 r hr) = at1 r hl := by
    funext a
    match a with
    | ⟨0, _⟩ => refine Fin.ext ?_; rw [unit_emb_val]; show o' 0 + r = r; omega
  refine (congrArg A' e1.symm).trans (e.trans ?_)
  show u _ = _
  rw [unit_emb_val]
  show u (o 0 + r) = _
  rw [ho]

variable (i : grid1.Coords) (arg2 : Memref sig .scVector .hbm S100000x128 .f32) (harg2 : arg2.IsWhole) (arg3 : Memref sig .scVector .hbm S100000 .i32) (harg3 : arg3.IsWhole) (arg4 : Memref sig .scVector .hbm S100000 .f32) (harg4 : arg4.IsWhole) (arg5 : Memref sig .scVector .hbm S32x256x128 .f32) (harg5 : arg5.IsWhole) (arg6 : Memref sig .scVector .hbm S32x256 .f32) (harg6 : arg6.IsWhole) (arg7 : Memref sig .scVector .vmem S3136 .i32) (harg7 : arg7.IsWhole) (arg8 : Memref sig .scVector .vmem S3136 .f32) (harg8 : arg8.IsWhole) (arg9 : Memref sig .scVector .vmem S3136 .f32) (harg9 : arg9.IsWhole) (arg10 : Memref sig .scVector .vmem S256x16 .f32) (harg10 : arg10.IsWhole) (arg11 : Memref sig .scVector .vmem S256 .f32) (harg11 : arg11.IsWhole) (arg12 : Memref sig .scVector .vmem S256x128 .f32) (harg12 : arg12.IsWhole) (arg13 : Memref sig .scVector .vmem S112x128 .f32) (harg13 : arg13.IsWhole) (arg14 : Memref sig .scVector .vmem S112x128 .f32) (harg14 : arg14.IsWhole) (arg15 : DmaSems sig S_) (v40_r0 : DmaSems sig S_) (v40_r1 : DmaSems sig S_) (v40_r2 : DmaSems sig S_) (v40_r3 : DmaSems sig S_) (v43_r4 : DmaSems sig S_) (v40_r5 : DmaSems sig S_) (v40_r6 : DmaSems sig S_)

variable (d : Dev nD) {bd : Option (Variants.none).V}

theorem iota_lane : ∀ x : S16.Idx, (iota .scVector S16 32 [0] iota_S16_d0_w32_scVector : IVec S16 32) x = BitVec.ofNat 32 (x 0).val := fun x => iota_single_apply _ _ _ _ _ x

set_option maxHeartbeats 8000000 in
theorem part352_loops {R : sProp 𝕄} (v2 : IVec S16 32) (hv2 : ∀ x, v2 x = BitVec.ofNat 32 (x 0).val) (Bt : ℕ → BitVec 32) (Lt : ℕ → F .f32)
    (hB : ∀ r < 16 * ng i, (Bt r).toNat < 256) (A9 : S3136.Idx → Elt F .f32) (A10 : S256x16.Idx → Elt F .f32) (A11 : S256.Idx → Elt F .f32) (A12 : S256x128.Idx → Elt F .f32) :
    (iprop(At (thr d i) arg7 fullShare (of1 Bt) ∗ At (thr d i) arg8 fullShare (of1 Lt) ∗ At (thr d i) arg9 fullShare A9 ∗ At (thr d i) arg10 fullShare A10
        ∗ At (thr d i) arg11 fullShare A11 ∗ At (thr d i) arg12 fullShare A12) : sProp 𝕄)
      ⊢ iprop(((∃ (E : ℕ → F .f32), ⌜∀ r < 16 * ng i, E r = FloatOps.exp (Lt r)⌝ ∗ At (thr d i) arg9 fullShare (of1 E)) -∗ At (thr d i) arg7 fullShare (of1 Bt)
            -∗ At (thr d i) arg11 fullShare (of1 (denS (tabS Bt (fun r => FloatOps.exp (Lt r)) (ng i))) : S256.Idx → Elt F .f32)
            -∗ accAt d i arg12 (fun _ _ => fzero) -∗ (∃ A8, At (thr d i) arg8 fullShare A8) -∗ (∃ A10, At (thr d i) arg10 fullShare A10) -∗ R)
        -∗ wp frame (wpE (defs₀ (F := F)) Variants.none (thr d i) bd) Set.univ (Scf.Loop.for k1_t1_loop k1_t1_ok 0#32 (k1_t1_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6)) (fun _ =>
          wp frame (wpE (defs₀ (F := F)) Variants.none (thr d i) bd) Set.univ (Scf.Loop.for (k1_t2_loop i) (k1_t2_ok i) 0#32 (k1_t2_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v2)) (fun v19 =>
          wp frame (wpE (defs₀ (F := F)) Variants.none (thr d i) bd) Set.univ (Scf.Loop.for (k1_t3_loop i) (k1_t3_ok i) v19 (k1_t3_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v2)) (fun _ =>
          wp frame (wpE (defs₀ (F := F)) Variants.none (thr d i) bd) Set.univ (Scf.Loop.for k1_t4_loop k1_t4_ok 0#32 (k1_t4_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v2)) (fun _ =>
          wp frame (wpE (defs₀ (F := F)) Variants.none (thr d i) bd) Set.univ (Scf.Loop.for k1_t5_loop k1_t5_ok 0#32 (k1_t5_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6)) (fun _ => R)))))) := by
  iintro ⟨H7, H8, H9, H10, H11, H12⟩ Hk
  iapply (t1_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d A10) $$ H10
  iintro %z1 H10
  iapply (t2_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d v2 (fun x => by rw [hv2, BitVec.toNat_ofNat]; have : (x 0).val < 16 := (x 0).isLt; omega) Bt Lt A9 hB) $$ [H10 H7 H8 H9]
  · isplitl [H10]; · iexact H10
    isplitl [H7]; · iexact H7
    isplitl [H8] <;> iassumption
  iintro %z2 H10 H7 H8 HE
  iapply (loop_wp (c := thr d i) 0 (t3_trips i) (fun _ _ => iprop(emp)) (fun k => absurd (lt_of_lt_of_eq k.isLt (t3_trips i)) (Nat.not_lt_zero _)))
  · iempintro
  iintro %z3 _He
  iapply (t4_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d v2 hv2 _ A11) $$ [H10 H11]
  · isplitl [H10] <;> iassumption
  iintro %z4 H10 H11
  iapply (t5_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d A12) $$ H12
  iintro %z5 H12
  iapply Hk $$ HE H7 H11 H12 [H8] [H10]
  · iexists _; iexact H8
  · iexists _; iexact H10

set_option maxHeartbeats 8000000 in
theorem part352_wp {Q : (Σ' (v1 : BitVec 32) (v3 : BitVec 32), BitVec 1) → sProp 𝕄} (ι : Ix) {O : CellTallies nD τ sig Ix} {W : Waits sig Ix} (q3 q4 : PosShare TreeShare)
    (Bg : ℕ → BitVec 32) (Lg : ℕ → F .f32) (hBg : ∀ r, r < 100000 → (Bg r).toNat < 256)
    (A7 : S3136.Idx → Elt F .i32) (A8 A9 : S3136.Idx → Elt F .f32) (A10 : S256x16.Idx → Elt F .f32) (A11 : S256.Idx → Elt F .f32) (A12 : S256x128.Idx → Elt F .f32) :
    (iprop(At (thr d i) arg3 q3 (of1 Bg : S100000.Idx → Elt F .i32) ∗ At (thr d i) arg4 q4 (of1 Lg : S100000.Idx → Elt F .f32)
        ∗ At (thr d i) arg7 fullShare A7 ∗ At (thr d i) arg8 fullShare A8 ∗ At (thr d i) arg9 fullShare A9 ∗ At (thr d i) arg10 fullShare A10
        ∗ At (thr d i) arg11 fullShare A11 ∗ At (thr d i) arg12 fullShare A12
        ∗ semVal (thr d i, .dma v40_r0.sem) 0 ∗ semVal (thr d i, .dma v40_r1.sem) 0 ∗ semVal (thr d i, .dma v40_r2.sem) 0 ∗ semVal (thr d i, .dma v40_r3.sem) 0
        ∗ Ow (thr d i) ι O W) : sProp 𝕄)
      ⊢ iprop((∀ z, (∃ (Bt : ℕ → BitVec 32) (E : ℕ → F .f32), ⌜∀ r < 16 * ng i, Bt r = Bg (base i + r) ∧ E r = FloatOps.exp (Lg (base i + r))⌝
            ∗ At (thr d i) arg7 fullShare (of1 Bt) ∗ At (thr d i) arg9 fullShare (of1 E)) -∗ At (thr d i) arg3 q3 (of1 Bg : S100000.Idx → Elt F .i32)
            -∗ At (thr d i) arg4 q4 (of1 Lg : S100000.Idx → Elt F .f32)
            -∗ At (thr d i) arg11 fullShare (of1 (denS (tabS (fun r => Bg (base i + r)) (fun r => FloatOps.exp (Lg (base i + r))) (ng i))) : S256.Idx → Elt F .f32)
            -∗ accAt d i arg12 (fun _ _ => fzero) -∗ Ow (thr d i) ι O W
            -∗ (∃ A8, At (thr d i) arg8 fullShare A8) -∗ (∃ A10, At (thr d i) arg10 fullShare A10)
            -∗ semVal (thr d i, .dma v40_r0.sem) 0 -∗ semVal (thr d i, .dma v40_r1.sem) 0 -∗ semVal (thr d i, .dma v40_r2.sem) 0 -∗ semVal (thr d i, .dma v40_r3.sem) 0
            -∗ Q z)
        -∗ wp frame (wpE (defs₀ (F := F)) Variants.none (thr d i) bd) Set.univ (k1_part352 i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6) Q) := by
  rw [k1_part352_eq_skeleton]
  unfold k1_part352_skel
  simp only [wp_bind]
  iintro ⟨H3, H4, H7, H8, H9, H10, H11, H12, S0, S1, S2, S3, HO⟩ Hk
  by_cases hl : tid i = 31
  · rw [dif_neg (fun h => (cond1_iff i).mp h hl)]
    try (rw [wp_pure]; imodintro)
    rw [dif_pos ((cond2_iff i).mpr hl)]
    simp only [wp_bind]
    iapply (copyIn_wp (c := thr d i) ι q3 (of1 Bg : S100000.Idx → Elt F .i32) A7 (by decide)) $$ [H3 H7 S2 HO]
    · isplitl [H3]; · iexact H3
      isplitl [H7]; · iexact H7
      isplitl [S2] <;> iassumption
    iintro %B7 %h7 H3 H7 S2 HO
    iapply (copyIn_wp (c := thr d i) ι q4 (of1 Lg : S100000.Idx → Elt F .f32) A8 (by decide)) $$ [H4 H8 S3 HO]
    · isplitl [H4]; · iexact H4
      isplitl [H8]; · iexact H8
      isplitl [S3] <;> iassumption
    iintro %B8 %h8 H4 H8 S3 HO
    try (rw [wp_pure]; imodintro)
    have hn : 16 * ng i = 2784 := by unfold ng; simp [hl]
    have hb : base i + 2784 ≤ 100000 := by rw [base_eq]; have := tid_lt i; omega
    have e7 := copy1_fact (len := 2784) (off := base i) (by rw [k1_off2_eq]; rfl) rfl Bg B7 0#32 h7.1
    have e8 := copy1_fact (len := 2784) (off := base i) (by rw [k1_off2_eq]; rfl) rfl Lg B8 fzero h8.1
    rw [← of1_un1 B7 0#32, ← of1_un1 B8 fzero]
    iapply (part352_loops i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d _ iota_lane (un1 B7 0#32) (un1 B8 fzero) (fun r hr => by rw [hn] at hr; rw [e7 r hr]; exact hBg _ (by omega)) A9 A10 A11 A12) $$ [H7 H8 H9 H10 H11 H12]
    · isplitl [H7]; · iexact H7
      isplitl [H8]; · iexact H8
      isplitl [H9]; · iexact H9
      isplitl [H10]; · iexact H10
      isplitl [H11] <;> iassumption
    iintro ⟨%E, %hE, HE⟩ H7 H11 H12 H8 H10
    rw [wp_pure]; imodintro
    iapply Hk $$ %_ [H7 HE] H3 H4 [H11] H12 HO H8 H10 S0 S1 S2 S3
    · iexists (un1 B7 0#32), E
      isplitr
      · ipureintro
        intro r hr
        refine ⟨e7 r (by omega), ?_⟩
        rw [hE r hr, e8 r (by omega)]
      isplitl [H7] <;> iassumption
    · iapply (At_congr (c := thr d i) (fun x => ?_)) $$ H11
      show denS _ _ = denS _ _
      refine denS_congr fun c hc => tabS_congr _ (fun r hr => ?_) _ _ hc
      refine ⟨e7 r (by omega), ?_⟩
      show FloatOps.exp _ = FloatOps.exp _
      rw [e8 r (by omega)]
  · rw [dif_pos ((cond1_iff i).mpr hl)]
    simp only [wp_bind]
    iapply (copyIn_wp (c := thr d i) ι q3 (of1 Bg : S100000.Idx → Elt F .i32) A7 (by decide)) $$ [H3 H7 S0 HO]
    · isplitl [H3]; · iexact H3
      isplitl [H7]; · iexact H7
      isplitl [S0] <;> iassumption
    iintro %B7 %h7 H3 H7 S0 HO
    iapply (copyIn_wp (c := thr d i) ι q4 (of1 Lg : S100000.Idx → Elt F .f32) A8 (by decide)) $$ [H4 H8 S1 HO]
    · isplitl [H4]; · iexact H4
      isplitl [H8]; · iexact H8
      isplitl [S1] <;> iassumption
    iintro %B8 %h8 H4 H8 S1 HO
    try (rw [wp_pure]; imodintro)
    have hn2 : ¬ k1_cond2 i = 1#1 := fun h => hl ((cond2_iff i).mp h)
    rw [dif_neg hn2]
    try (rw [wp_pure]; imodintro)
    simp only [wp_bind]
    have hn : 16 * ng i = 3136 := by unfold ng; simp [hl]
    have hb : base i + 3136 ≤ 100000 := by rw [base_eq]; have := tid_lt i; omega
    have e7 := copy1_fact (len := 3136) (off := base i) (by rw [k1_off1_eq]; rfl) rfl Bg B7 0#32 h7.1
    have e8 := copy1_fact (len := 3136) (off := base i) (by rw [k1_off1_eq]; rfl) rfl Lg B8 fzero h8.1
    rw [← of1_un1 B7 0#32, ← of1_un1 B8 fzero]
    iapply (part352_loops i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d _ iota_lane (un1 B7 0#32) (un1 B8 fzero) (fun r hr => by rw [hn] at hr; rw [e7 r hr]; exact hBg _ (by omega)) A9 A10 A11 A12) $$ [H7 H8 H9 H10 H11 H12]
    · isplitl [H7]; · iexact H7
      isplitl [H8]; · iexact H8
      isplitl [H9]; · iexact H9
      isplitl [H10]; · iexact H10
      isplitl [H11] <;> iassumption
    iintro ⟨%E, %hE, HE⟩ H7 H11 H12 H8 H10
    rw [wp_pure]; imodintro
    iapply Hk $$ %_ [H7 HE] H3 H4 [H11] H12 HO H8 H10 S0 S1 S2 S3
    · iexists (un1 B7 0#32), E
      isplitr
      · ipureintro
        intro r hr
        refine ⟨e7 r (by omega), ?_⟩
        rw [hE r hr, e8 r (by omega)]
      isplitl [H7] <;> iassumption
    · iapply (At_congr (c := thr d i) (fun x => ?_)) $$ H11
      show denS _ _ = denS _ _
      refine denS_congr fun c hc => tabS_congr _ (fun r hr => ?_) _ _ hc
      refine ⟨e7 r (by omega), ?_⟩
      show FloatOps.exp _ = FloatOps.exp _
      rw [e8 r (by omega)]

end Cert.KernelIdeal.Own

end
-- ==== Proof.TileC.lean ====
/- The second half of a tile: its rows in chunks of 112 through two buffers, every group of 16 into the accumulator, and the
   two results copied out. -/
module

public import proofs.«01_k».proof.Proof.TileB

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable [CountersIn U] [Infinite Name]

local notation "𝕄" => MT nD τ sig Ix (Elt F) Name U Lvl

variable (i : grid1.Coords) (arg2 : Memref sig .scVector .hbm S100000x128 .f32) (harg2 : arg2.IsWhole) (arg3 : Memref sig .scVector .hbm S100000 .i32) (harg3 : arg3.IsWhole) (arg4 : Memref sig .scVector .hbm S100000 .f32) (harg4 : arg4.IsWhole) (arg5 : Memref sig .scVector .hbm S32x256x128 .f32) (harg5 : arg5.IsWhole) (arg6 : Memref sig .scVector .hbm S32x256 .f32) (harg6 : arg6.IsWhole) (arg7 : Memref sig .scVector .vmem S3136 .i32) (harg7 : arg7.IsWhole) (arg8 : Memref sig .scVector .vmem S3136 .f32) (harg8 : arg8.IsWhole) (arg9 : Memref sig .scVector .vmem S3136 .f32) (harg9 : arg9.IsWhole) (arg10 : Memref sig .scVector .vmem S256x16 .f32) (harg10 : arg10.IsWhole) (arg11 : Memref sig .scVector .vmem S256 .f32) (harg11 : arg11.IsWhole) (arg12 : Memref sig .scVector .vmem S256x128 .f32) (harg12 : arg12.IsWhole) (arg13 : Memref sig .scVector .vmem S112x128 .f32) (harg13 : arg13.IsWhole) (arg14 : Memref sig .scVector .vmem S112x128 .f32) (harg14 : arg14.IsWhole) (arg15 : DmaSems sig S_) (v40_r0 : DmaSems sig S_) (v40_r1 : DmaSems sig S_) (v40_r2 : DmaSems sig S_) (v40_r3 : DmaSems sig S_) (v43_r4 : DmaSems sig S_) (v40_r5 : DmaSems sig S_) (v40_r6 : DmaSems sig S_)
variable (v1 : BitVec 32) (v3 : BitVec 32) (v25 : BitVec 1)
variable (d : Dev nD) {bd : Option (Variants.none).V}

set_option maxHeartbeats 8000000 in
theorem t7_wp {R : sProp 𝕄} (k : Fin (k1_t6_loop i).trips) (h : k1_cond3 i k = 1#1) (Bt : ℕ → BitVec 32) (E : ℕ → F .f32) (X : ℕ → ℕ → F .f32)
    (hB : ∀ r < 16 * (7 * k.val + 7), (Bt r).toNat < 256) :
    (iprop(accAt d i arg12 (accS Bt E X (7 * k.val)) ∗ xbAt d i arg13 (fun r => X (16 * (7 * k.val) + r)) ∗ At (thr d i) arg7 fullShare (of1 Bt) ∗ At (thr d i) arg9 fullShare (of1 E)) : sProp 𝕄)
      ⊢ iprop((iprop(accAt d i arg12 (accS Bt E X (7 * k.val + 7)) ∗ xbAt d i arg13 (fun r => X (16 * (7 * k.val) + r)) ∗ At (thr d i) arg7 fullShare (of1 Bt)
            ∗ At (thr d i) arg9 fullShare (of1 E)) -∗ R)
        -∗ wp frame (wpE (defs₀ (F := F)) Variants.none (thr d i) bd) Set.univ (Scf.Loop.for k1_t7_loop (k1_t7_ok i k h) 0#32 (k1_t7_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k h)) (fun _ => R)) := by
  iintro H Hk
  iapply (loop_wp (c := thr d i) 7 t7_trips (fun t _ => iprop(accAt d i arg12 (accS Bt E X (7 * k.val + t)) ∗ xbAt d i arg13 (fun r => X (16 * (7 * k.val) + r))
    ∗ At (thr d i) arg7 fullShare (of1 Bt) ∗ At (thr d i) arg9 fullShare (of1 E))) ?_) $$ [H]
  · intro t z
    have ht : t.val < 7 := lt_of_lt_of_eq t.isLt t7_trips
    have hR : ∀ j ∈ rows, ∀ c ∈ cols, RowIn (Scf.iv 0#32 1#32 t.val) (BitVec.ofNat 32 j) c := rowIn7 ⟨t.val, by omega⟩
    have hchk₀ : ∀ u v, k1_chk19 i k u v → k1_cond5 u v = 1#1 → ∀ c ∈ cols, AccIn u c := by
      intro u v h h5 c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h5, h1 h h5, h2 h h5, h3' h h5, h4 h h5, h5' h h5, h6 h h5, h7 h h5]
    have hchk : ∀ u v b, k1_cond6 u v = 1#1 → k1_chk20 i k u v b → ∀ c ∈ cols, AccIn b c := by
      intro u v b h6' h c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h6', h1 h h6', h2 h h6', h3' h h6', h4 h h6', h5' h h6', h6 h h6', h7 h h6']
    have hb : ∀ j < 16, (Bt (16 * (7 * k.val + t.val) + j)).toNat < 256 := fun j hj => hB _ (by omega)
    rw [t7_eq i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k h t z hchk₀ hchk hR]
    iintro ⟨HA, HX, H7, H9⟩
    iapply (group_wp d i arg12 arg13 arg7 arg9 Bt E (fun r => X (16 * (7 * k.val) + r)) (accS Bt E X (7 * k.val + t.val)) (16 * (7 * k.val + t.val)) (16 * t.val) _ _ (by rw [k1_off18_eq]; show 112 * k.val + 16 * t.val = _; omega) _ _ _ hchk₀ _ _ hchk slices hR
      (rowAt7 ⟨t.val, by omega⟩) ?_ ?_) $$ [HA HX H7 H9]
    · have a := accIn_of (hb 0 (by omega))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · intro j hj
      have a := accIn_of (hb j (mem_rows hj))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · isplitl [HA]; · iexact HA
      isplitl [HX]; · iexact HX
      isplitl [H7] <;> iassumption
    iintro ⟨HA, HX, H7, H9⟩
    isplitl [HA]
    · rw [show accS Bt E X (7 * k.val + (t.val + 1)) = grpSpec (fun j => Bt (16 * (7 * k.val + t.val) + j)) (fun j => E (16 * (7 * k.val + t.val) + j)) (fun j => (fun r => X (16 * (7 * k.val) + r)) (16 * t.val + j)) (accS Bt E X (7 * k.val + t.val))
        from by
          show grpSpec _ _ _ _ = _
          exact grpSpec_congr _ fun j hj => ⟨rfl, rfl, by show X (16 * (7 * k.val + t.val) + j) = X (16 * (7 * k.val) + (16 * t.val + j)); congr 1; omega⟩]
      iexact HA
    isplitl [HX]; · iexact HX
    isplitl [H7] <;> iassumption
  · iexact H
  iintro %z H
  iapply Hk $$ H

set_option maxHeartbeats 8000000 in
theorem t8_wp {R : sProp 𝕄} (k : Fin (k1_t6_loop i).trips) (h : k1_cond7 i k = 1#1) (Bt : ℕ → BitVec 32) (E : ℕ → F .f32) (X : ℕ → ℕ → F .f32)
    (hB : ∀ r < 16 * (7 * k.val + 7), (Bt r).toNat < 256) :
    (iprop(accAt d i arg12 (accS Bt E X (7 * k.val)) ∗ xbAt d i arg14 (fun r => X (16 * (7 * k.val) + r)) ∗ At (thr d i) arg7 fullShare (of1 Bt) ∗ At (thr d i) arg9 fullShare (of1 E)) : sProp 𝕄)
      ⊢ iprop((iprop(accAt d i arg12 (accS Bt E X (7 * k.val + 7)) ∗ xbAt d i arg14 (fun r => X (16 * (7 * k.val) + r)) ∗ At (thr d i) arg7 fullShare (of1 Bt)
            ∗ At (thr d i) arg9 fullShare (of1 E)) -∗ R)
        -∗ wp frame (wpE (defs₀ (F := F)) Variants.none (thr d i) bd) Set.univ (Scf.Loop.for k1_t8_loop (k1_t8_ok i k h) 0#32 (k1_t8_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k h)) (fun _ => R)) := by
  iintro H Hk
  iapply (loop_wp (c := thr d i) 7 t8_trips (fun t _ => iprop(accAt d i arg12 (accS Bt E X (7 * k.val + t)) ∗ xbAt d i arg14 (fun r => X (16 * (7 * k.val) + r))
    ∗ At (thr d i) arg7 fullShare (of1 Bt) ∗ At (thr d i) arg9 fullShare (of1 E))) ?_) $$ [H]
  · intro t z
    have ht : t.val < 7 := lt_of_lt_of_eq t.isLt t8_trips
    have hR : ∀ j ∈ rows, ∀ c ∈ cols, RowIn (Scf.iv 0#32 1#32 t.val) (BitVec.ofNat 32 j) c := rowIn7 ⟨t.val, by omega⟩
    have hchk₀ : ∀ u v, k1_chk36 i k u v → k1_cond5 u v = 1#1 → ∀ c ∈ cols, AccIn u c := by
      intro u v h h5 c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h5, h1 h h5, h2 h h5, h3' h h5, h4 h h5, h5' h h5, h6 h h5, h7 h h5]
    have hchk : ∀ u v b, k1_cond6 u v = 1#1 → k1_chk37 i k u v b → ∀ c ∈ cols, AccIn b c := by
      intro u v b h6' h c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h6', h1 h h6', h2 h h6', h3' h h6', h4 h h6', h5' h h6', h6 h h6', h7 h h6']
    have hb : ∀ j < 16, (Bt (16 * (7 * k.val + t.val) + j)).toNat < 256 := fun j hj => hB _ (by omega)
    rw [t8_eq i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 k h t z hchk₀ hchk hR]
    iintro ⟨HA, HX, H7, H9⟩
    iapply (group_wp d i arg12 arg14 arg7 arg9 Bt E (fun r => X (16 * (7 * k.val) + r)) (accS Bt E X (7 * k.val + t.val)) (16 * (7 * k.val + t.val)) (16 * t.val) _ _ (by rw [k1_off293_eq]; show 112 * k.val + 16 * t.val = _; omega) _ _ _ hchk₀ _ _ hchk slices hR
      (rowAt7 ⟨t.val, by omega⟩) ?_ ?_) $$ [HA HX H7 H9]
    · have a := accIn_of (hb 0 (by omega))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · intro j hj
      have a := accIn_of (hb j (mem_rows hj))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · isplitl [HA]; · iexact HA
      isplitl [HX]; · iexact HX
      isplitl [H7] <;> iassumption
    iintro ⟨HA, HX, H7, H9⟩
    isplitl [HA]
    · rw [show accS Bt E X (7 * k.val + (t.val + 1)) = grpSpec (fun j => Bt (16 * (7 * k.val + t.val) + j)) (fun j => E (16 * (7 * k.val + t.val) + j)) (fun j => (fun r => X (16 * (7 * k.val) + r)) (16 * t.val + j)) (accS Bt E X (7 * k.val + t.val))
        from by
          show grpSpec _ _ _ _ = _
          exact grpSpec_congr _ fun j hj => ⟨rfl, rfl, by show X (16 * (7 * k.val + t.val) + j) = X (16 * (7 * k.val) + (16 * t.val + j)); congr 1; omega⟩]
      iexact HA
    isplitl [HX]; · iexact HX
    isplitl [H7] <;> iassumption
  · iexact H
  iintro %z H
  iapply Hk $$ H

set_option maxHeartbeats 8000000 in
theorem t12_wp {R : sProp 𝕄} (h : k1_cond19 i = 1#1) (Bt : ℕ → BitVec 32) (E : ℕ → F .f32) (X Xc : ℕ → ℕ → F .f32) (hX : ∀ r < 96, Xc r = X (2688 + r))
    (hB : ∀ r < 16 * (168 + 6), (Bt r).toNat < 256) :
    (iprop(accAt d i arg12 (accS Bt E X (168)) ∗ xbAt d i arg13 Xc ∗ At (thr d i) arg7 fullShare (of1 Bt) ∗ At (thr d i) arg9 fullShare (of1 E)) : sProp 𝕄)
      ⊢ iprop((iprop(accAt d i arg12 (accS Bt E X (168 + 6)) ∗ xbAt d i arg13 Xc ∗ At (thr d i) arg7 fullShare (of1 Bt)
            ∗ At (thr d i) arg9 fullShare (of1 E)) -∗ R)
        -∗ wp frame (wpE (defs₀ (F := F)) Variants.none (thr d i) bd) Set.univ (Scf.Loop.for k1_t12_loop (k1_t12_ok i h) 0#32 (k1_t12_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 h)) (fun _ => R)) := by
  iintro H Hk
  iapply (loop_wp (c := thr d i) 6 t12_trips (fun t _ => iprop(accAt d i arg12 (accS Bt E X (168 + t)) ∗ xbAt d i arg13 Xc
    ∗ At (thr d i) arg7 fullShare (of1 Bt) ∗ At (thr d i) arg9 fullShare (of1 E))) ?_) $$ [H]
  · intro t z
    have ht : t.val < 6 := lt_of_lt_of_eq t.isLt t12_trips
    have hR : ∀ j ∈ rows, ∀ c ∈ cols, RowIn (Scf.iv 0#32 1#32 t.val) (BitVec.ofNat 32 j) c := rowIn7 ⟨t.val, by omega⟩
    have hchk₀ : ∀ u v, k1_chk87 i u v → k1_cond5 u v = 1#1 → ∀ c ∈ cols, AccIn u c := by
      intro u v h h5 c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h5, h1 h h5, h2 h h5, h3' h h5, h4 h h5, h5' h h5, h6 h h5, h7 h h5]
    have hchk : ∀ u v b, k1_cond6 u v = 1#1 → k1_chk88 i u v b → ∀ c ∈ cols, AccIn b c := by
      intro u v b h6' h c hc
      have hc' : c = 0 ∨ c = 16 ∨ c = 32 ∨ c = 48 ∨ c = 64 ∨ c = 80 ∨ c = 96 ∨ c = 112 := by revert c; decide
      obtain ⟨h0, h1, h2, h3', h4, h5', h6, h7⟩ := h
      rcases hc' with rfl | rfl | rfl | rfl | rfl | rfl | rfl | rfl
      exacts [h0 h h6', h1 h h6', h2 h h6', h3' h h6', h4 h h6', h5' h h6', h6 h h6', h7 h h6']
    have hb : ∀ j < 16, (Bt (16 * (168 + t.val) + j)).toNat < 256 := fun j hj => hB _ (by omega)
    rw [t12_eq i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 h t z hchk₀ hchk hR]
    iintro ⟨HA, HX, H7, H9⟩
    iapply (group_wp d i arg12 arg13 arg7 arg9 Bt E Xc (accS Bt E X (168 + t.val)) (16 * (168 + t.val)) (16 * t.val) _ _ (by rw [k1_off1117_eq]; show 16 * t.val + 2688 = _; omega) _ _ _ hchk₀ _ _ hchk slices hR
      (rowAt7 ⟨t.val, by omega⟩) ?_ ?_) $$ [HA HX H7 H9]
    · have a := accIn_of (hb 0 (by omega))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · intro j hj
      have a := accIn_of (hb j (mem_rows hj))
      exact ⟨fun _ _ => a 0 (by decide), fun _ _ => a 16 (by decide), fun _ _ => a 32 (by decide), fun _ _ => a 48 (by decide), fun _ _ => a 64 (by decide), fun _ _ => a 80 (by decide), fun _ _ => a 96 (by decide), fun _ _ => a 112 (by decide)⟩
    · isplitl [HA]; · iexact HA
      isplitl [HX]; · iexact HX
      isplitl [H7] <;> iassumption
    iintro ⟨HA, HX, H7, H9⟩
    isplitl [HA]
    · rw [show accS Bt E X (168 + (t.val + 1)) = grpSpec (fun j => Bt (16 * (168 + t.val) + j)) (fun j => E (16 * (168 + t.val) + j)) (fun j => Xc (16 * t.val + j)) (accS Bt E X (168 + t.val))
        from by
          show grpSpec _ _ _ _ = _
          exact grpSpec_congr _ fun j hj => ⟨rfl, rfl, by show X (16 * (168 + t.val) + j) = Xc (16 * t.val + j); rw [hX _ (by omega)]; congr 1; omega⟩]
      iexact HA
    isplitl [HX]; · iexact HX
    isplitl [H7] <;> iassumption
  · iexact H
  iintro %z H
  iapply Hk $$ H

def xchunk (X : ℕ → ℕ → F .f32) (k : ℕ) : S112x128.Idx → Elt F .f32 := of2 (fun r => X (16 * (7 * k) + r))

/-- A chunk's copy, started. -/
theorem startChunk_wp {R : sProp 𝕄} {buf : Memref sig .scVector .vmem S112x128 .f32} {off : Fin 2 → ℕ} {hoff : ∀ a, off a + S112x128.size a ≤ S100000x128.size a}
    {hr hsrc hdst hsem} (ι : Ix) (q : PosShare TreeShare) (Xg : ℕ → ℕ → F .f32) (C : S112x128.Idx → Elt F .f32) (k : ℕ) (ho : off = ![base i + 16 * (7 * k), 0]) :
    (iprop(At (thr d i) arg2 q (of2 Xg : S100000x128.Idx → Elt F .f32) ∗ At (thr d i) buf fullShare C ∗ semVal (thr d i, .dma arg15.sem) 0) : sProp 𝕄)
      ⊢ iprop((Fly (thr d i) (.dma arg15.sem) ι buf.view.dmaCredit iprop(At (thr d i) buf fullShare (xchunk (fun r => Xg (base i + r)) k) ∗ At (thr d i) arg2 q (of2 Xg : S100000x128.Idx → Elt F .f32)) -∗ R)
        -∗ wp frame (wpE (defs₀ (F := F)) Variants.none (thr d i) bd) Set.univ (Prog.lift (.enqueueDma (s := S112x128) (arg2.slice (Rect.unit (s := S100000x128) off S112x128.size hoff) hr) (.here buf) (.dma arg15.sem) hsrc hdst hsem)) (fun _ => R)) := by
  subst ho
  iintro H Hk
  iapply (startSlice_wp (c := thr d i) (r := Rect.unit (s := S100000x128) ![base i + 16 * (7 * k), 0] S112x128.size hoff) ι q (of2 Xg : S100000x128.Idx → Elt F .f32) C (by show 0 < S112x128.numel; decide)) $$ H
  iintro HF
  iapply Hk
  iapply Fly_frame
  isplitl [HF]; · iexact HF
  iintro ⟨HD, HX⟩
  isplitl [HD]
  · iapply (At_congr (c := thr d i) (fun x => ?_)) $$ HD
    show Xg _ _ = Xg _ _
    rw [unit_emb_val, unit_emb_val]
    show Xg (base i + 16 * (7 * k) + (x 0).val) (0 + (x 1).val) = Xg (base i + (16 * (7 * k) + (x 0).val)) (x 1).val
    rw [Nat.zero_add, Nat.add_assoc]
  · iexact HX

/-- The copies ahead of chunk `k`: its rows on the way to its buffer, or, past the last, both buffers free. -/
def Pipe (ι : Ix) (q : PosShare TreeShare) (Xg : ℕ → ℕ → F .f32) (k : ℕ) : sProp 𝕄 :=
  if k < nc i then
    if k % 2 = 0 then
      iprop(Fly (thr d i) (.dma arg15.sem) ι arg13.view.dmaCredit iprop(At (thr d i) arg13 fullShare (xchunk (fun r => Xg (base i + r)) k) ∗ At (thr d i) arg2 q (of2 Xg : S100000x128.Idx → Elt F .f32))
        ∗ ∃ C, At (thr d i) arg14 fullShare C)
    else
      iprop(Fly (thr d i) (.dma arg15.sem) ι arg14.view.dmaCredit iprop(At (thr d i) arg14 fullShare (xchunk (fun r => Xg (base i + r)) k) ∗ At (thr d i) arg2 q (of2 Xg : S100000x128.Idx → Elt F .f32))
        ∗ ∃ C, At (thr d i) arg13 fullShare C)
  else iprop(semVal (thr d i, .dma arg15.sem) 0 ∗ At (thr d i) arg2 q (of2 Xg : S100000x128.Idx → Elt F .f32) ∗ (∃ C, At (thr d i) arg13 fullShare C) ∗ ∃ C, At (thr d i) arg14 fullShare C)

theorem Pipe_even (ι : Ix) (q : PosShare TreeShare) (Xg : ℕ → ℕ → F .f32) (k : ℕ) (hk : k < nc i) (hp : k % 2 = 0) : (Pipe i arg2 arg13 arg14 arg15 d ι q Xg k : sProp 𝕄)
    = (iprop(Fly (thr d i) (.dma arg15.sem) ι arg13.view.dmaCredit iprop(At (thr d i) arg13 fullShare (xchunk (fun r => Xg (base i + r)) k) ∗ At (thr d i) arg2 q (of2 Xg : S100000x128.Idx → Elt F .f32))
        ∗ ∃ C, At (thr d i) arg14 fullShare C) : sProp 𝕄) := by
  unfold Pipe
  rw [if_pos hk, if_pos hp]

theorem Pipe_odd (ι : Ix) (q : PosShare TreeShare) (Xg : ℕ → ℕ → F .f32) (k : ℕ) (hk : k < nc i) (hp : ¬ k % 2 = 0) : (Pipe i arg2 arg13 arg14 arg15 d ι q Xg k : sProp 𝕄)
    = (iprop(Fly (thr d i) (.dma arg15.sem) ι arg14.view.dmaCredit iprop(At (thr d i) arg14 fullShare (xchunk (fun r => Xg (base i + r)) k) ∗ At (thr d i) arg2 q (of2 Xg : S100000x128.Idx → Elt F .f32))
        ∗ ∃ C, At (thr d i) arg13 fullShare C) : sProp 𝕄) := by
  unfold Pipe
  rw [if_pos hk, if_neg hp]

theorem Pipe_done (ι : Ix) (q : PosShare TreeShare) (Xg : ℕ → ℕ → F .f32) (k : ℕ) (hk : ¬ k < nc i) : (Pipe i arg2 arg13 arg14 arg15 d ι q Xg k : sProp 𝕄)
    = (iprop(semVal (thr d i, .dma arg15.sem) 0 ∗ At (thr d i) arg2 q (of2 Xg : S100000x128.Idx → Elt F .f32) ∗ (∃ C, At (thr d i) arg13 fullShare C) ∗ ∃ C, At (thr d i) arg14 fullShare C) : sProp 𝕄) := by
  unfold Pipe
  rw [if_neg hk]

theorem nc_ng : 7 * nc i ≤ ng i := by unfold nc ng; split <;> omega

set_option maxHeartbeats 8000000 in
theorem t6_wp {Q : BitVec 32 → sProp 𝕄} (ι : Ix) {O : CellTallies nD τ sig Ix} {W : Waits sig Ix} (q : PosShare TreeShare) (Bt : ℕ → BitVec 32) (E : ℕ → F .f32) (Xg : ℕ → ℕ → F .f32)
    (hB : ∀ r < 16 * ng i, (Bt r).toNat < 256) :
    (iprop(accAt d i arg12 (fun _ _ => fzero) ∗ At (thr d i) arg7 fullShare (of1 Bt) ∗ At (thr d i) arg9 fullShare (of1 E) ∗ Ow (thr d i) ι O W ∗ Pipe i arg2 arg13 arg14 arg15 d ι q Xg 0) : sProp 𝕄)
      ⊢ iprop((∀ z, iprop(accAt d i arg12 (accS Bt E (fun r => Xg (base i + r)) (7 * nc i)) ∗ At (thr d i) arg7 fullShare (of1 Bt) ∗ At (thr d i) arg9 fullShare (of1 E) ∗ Ow (thr d i) ι O W ∗ Pipe i arg2 arg13 arg14 arg15 d ι q Xg (nc i)) -∗ Q z)
        -∗ wp frame (wpE (defs₀ (F := F)) Variants.none (thr d i) bd) Set.univ (Scf.Loop.for (k1_t6_loop i) (k1_t6_ok i) 0#32 (k1_t6_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25)) Q) := by
  iintro H Hk
  iapply (loop_wp (c := thr d i) (nc i) (t6_trips i) (fun k _ => iprop(accAt d i arg12 (accS Bt E (fun r => Xg (base i + r)) (7 * k)) ∗ At (thr d i) arg7 fullShare (of1 Bt) ∗ At (thr d i) arg9 fullShare (of1 E)
    ∗ Ow (thr d i) ι O W ∗ Pipe i arg2 arg13 arg14 arg15 d ι q Xg k)) ?_) $$ [H]
  · intro k z
    have hk : k.val < nc i := lt_of_lt_of_eq k.isLt (t6_trips i)
    have hng := nc_ng i
    by_cases hp : k.val % 2 = 0
    · have hc := (cond3_iff i k).mpr hp
      have hn : ¬ k1_cond7 i k = 1#1 := fun h => by have := (cond7_iff i k).mp h; omega
      rw [Pipe_even i arg2 arg13 arg14 arg15 d ι q Xg _ hk hp]
      unfold k1_t6_body
      iintro ⟨HA, H7, H9, HO, HF, %C, HC⟩
      rw [dif_pos hc]
      simp only [wp_bind]
      iapply (wait_wp (c := thr d i) ι rfl (O := O) (W := W)) $$ [HF HO]
      · isplitl [HF]; · iexact HF
        iexact HO
      iintro ⟨⟨HX, H2⟩, Hv, HO⟩
      by_cases h4 : k1_cond4 i k = 1#1
      · have hk1 := (cond4_iff i k).mp h4
        rw [dif_pos h4]
        simp only [wp_bind]
        iapply (startChunk_wp i arg2 arg15 d ι q Xg C (k.val + 1) (by rw [k1_off17_eq]; unfold base; congr 1; omega)) $$ [H2 HC Hv]
        · isplitl [H2]; · iexact H2
          isplitl [HC] <;> iassumption
        iintro HF
        iapply (t7_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d k hc Bt E (fun r => Xg (base i + r)) (fun r hr => hB r (by omega))) $$ [HA HX H7 H9]
        · isplitl [HA]; · iexact HA
          isplitl [HX]; · iexact HX
          isplitl [H7] <;> iassumption
        iintro ⟨HA, HX, H7, H9⟩
        try (rw [wp_pure]; imodintro)
        rw [dif_neg hn]
        try (rw [wp_pure]; imodintro)
        try (rw [wp_pure]; imodintro)
        rw [Pipe_odd i arg2 arg13 arg14 arg15 d ι q Xg _ hk1 (by omega)]
        isplitl [HA]; · iexact HA
        isplitl [H7]; · iexact H7
        isplitl [H9]; · iexact H9
        isplitl [HO]; · iexact HO
        isplitl [HF]; · iexact HF
        iexists _
        iexact HX
      · have hk1 : ¬ k.val + 1 < nc i := fun h => h4 ((cond4_iff i k).mpr h)
        rw [dif_neg h4]
        try (rw [wp_pure]; imodintro)
        simp only [wp_bind]
        iapply (t7_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d k hc Bt E (fun r => Xg (base i + r)) (fun r hr => hB r (by omega))) $$ [HA HX H7 H9]
        · isplitl [HA]; · iexact HA
          isplitl [HX]; · iexact HX
          isplitl [H7] <;> iassumption
        iintro ⟨HA, HX, H7, H9⟩
        try (rw [wp_pure]; imodintro)
        rw [dif_neg hn]
        try (rw [wp_pure]; imodintro)
        try (rw [wp_pure]; imodintro)
        rw [Pipe_done i arg2 arg13 arg14 arg15 d ι q Xg _ hk1]
        isplitl [HA]; · iexact HA
        isplitl [H7]; · iexact H7
        isplitl [H9]; · iexact H9
        isplitl [HO]; · iexact HO
        isplitl [Hv]; · iexact Hv
        isplitl [H2]; · iexact H2
        isplitl [HX]
        · iexists _
          iexact HX
        · iexists _
          iexact HC
    · have hp' : k.val % 2 = 1 := by omega
      have hc := (cond7_iff i k).mpr hp'
      have hn : ¬ k1_cond3 i k = 1#1 := fun h => hp ((cond3_iff i k).mp h)
      rw [Pipe_odd i arg2 arg13 arg14 arg15 d ι q Xg _ hk hp]
      unfold k1_t6_body
      iintro ⟨HA, H7, H9, HO, HF, %C, HC⟩
      rw [dif_neg hn]
      try (rw [wp_pure]; imodintro)
      rw [dif_pos hc]
      simp only [wp_bind]
      iapply (wait_wp (c := thr d i) ι rfl (O := O) (W := W)) $$ [HF HO]
      · isplitl [HF]; · iexact HF
        iexact HO
      iintro ⟨⟨HX, H2⟩, Hv, HO⟩
      by_cases h4 : k1_cond8 i k = 1#1
      · have hk1 := (cond8_iff i k).mp h4
        rw [dif_pos h4]
        simp only [wp_bind]
        iapply (startChunk_wp i arg2 arg15 d ι q Xg C (k.val + 1) (by rw [k1_off292_eq]; unfold base; congr 1; omega)) $$ [H2 HC Hv]
        · isplitl [H2]; · iexact H2
          isplitl [HC] <;> iassumption
        iintro HF
        iapply (t8_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d k hc Bt E (fun r => Xg (base i + r)) (fun r hr => hB r (by omega))) $$ [HA HX H7 H9]
        · isplitl [HA]; · iexact HA
          isplitl [HX]; · iexact HX
          isplitl [H7] <;> iassumption
        iintro ⟨HA, HX, H7, H9⟩
        try (rw [wp_pure]; imodintro)
        try (rw [wp_pure]; imodintro)
        rw [Pipe_even i arg2 arg13 arg14 arg15 d ι q Xg _ hk1 (by omega)]
        isplitl [HA]; · iexact HA
        isplitl [H7]; · iexact H7
        isplitl [H9]; · iexact H9
        isplitl [HO]; · iexact HO
        isplitl [HF]; · iexact HF
        iexists _
        iexact HX
      · have hk1 : ¬ k.val + 1 < nc i := fun h => h4 ((cond8_iff i k).mpr h)
        rw [dif_neg h4]
        try (rw [wp_pure]; imodintro)
        simp only [wp_bind]
        iapply (t8_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d k hc Bt E (fun r => Xg (base i + r)) (fun r hr => hB r (by omega))) $$ [HA HX H7 H9]
        · isplitl [HA]; · iexact HA
          isplitl [HX]; · iexact HX
          isplitl [H7] <;> iassumption
        iintro ⟨HA, HX, H7, H9⟩
        try (rw [wp_pure]; imodintro)
        try (rw [wp_pure]; imodintro)
        rw [Pipe_done i arg2 arg13 arg14 arg15 d ι q Xg _ hk1]
        isplitl [HA]; · iexact HA
        isplitl [H7]; · iexact H7
        isplitl [H9]; · iexact H9
        isplitl [HO]; · iexact HO
        isplitl [Hv]; · iexact Hv
        isplitl [H2]; · iexact H2
        isplitl [HC]
        · iexists _
          iexact HC
        · iexists _
          iexact HX
  · iexact H
  iintro %z H
  iapply Hk $$ %z H

end Cert.KernelIdeal.Own

end
-- ==== Proof.TileD.lean ====
/- The second half of a tile as a whole: its chunks, its last rows, the two results copied out; and the tile. -/
module

public import proofs.«01_k».proof.Proof.TileC

@[expose] public section

noncomputable section

namespace Cert.KernelIdeal.Own

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable [CountersIn U] [Infinite Name]

local notation "𝕄" => MT nD τ sig Ix (Elt F) Name U Lvl

/-- The tile's part of each result. -/
abbrev O5 (i : grid1.Coords) (arg5 : Memref sig .scVector .hbm S32x256x128 .f32) : Memref sig .scVector .hbm S1x256x128 .f32 :=
  arg5.slice (Rect.unit (s := S32x256x128) (k1_off1390 i) S1x256x128.size (k1_off1390_inb i)) (fun _ => rfl)
abbrev O6 (i : grid1.Coords) (arg6 : Memref sig .scVector .hbm S32x256 .f32) : Memref sig .scVector .hbm S1x256 .f32 :=
  arg6.slice (Rect.unit (s := S32x256) (k1_off1391 i) S1x256.size (k1_off1391_inb i)) (fun _ => rfl)

/-- A position of a matrix. -/
def at2 {n m : ℕ} (r c : ℕ) (h : r < n) (h' : c < m) : (⟨2, ![n, m]⟩ : Shape).Idx := fun | ⟨0, _⟩ => ⟨r, h⟩ | ⟨1, _⟩ => ⟨c, h'⟩

variable (i : grid1.Coords) (arg2 : Memref sig .scVector .hbm S100000x128 .f32) (harg2 : arg2.IsWhole) (arg3 : Memref sig .scVector .hbm S100000 .i32) (harg3 : arg3.IsWhole) (arg4 : Memref sig .scVector .hbm S100000 .f32) (harg4 : arg4.IsWhole) (arg5 : Memref sig .scVector .hbm S32x256x128 .f32) (harg5 : arg5.IsWhole) (arg6 : Memref sig .scVector .hbm S32x256 .f32) (harg6 : arg6.IsWhole) (arg7 : Memref sig .scVector .vmem S3136 .i32) (harg7 : arg7.IsWhole) (arg8 : Memref sig .scVector .vmem S3136 .f32) (harg8 : arg8.IsWhole) (arg9 : Memref sig .scVector .vmem S3136 .f32) (harg9 : arg9.IsWhole) (arg10 : Memref sig .scVector .vmem S256x16 .f32) (harg10 : arg10.IsWhole) (arg11 : Memref sig .scVector .vmem S256 .f32) (harg11 : arg11.IsWhole) (arg12 : Memref sig .scVector .vmem S256x128 .f32) (harg12 : arg12.IsWhole) (arg13 : Memref sig .scVector .vmem S112x128 .f32) (harg13 : arg13.IsWhole) (arg14 : Memref sig .scVector .vmem S112x128 .f32) (harg14 : arg14.IsWhole) (arg15 : DmaSems sig S_) (v40_r0 : DmaSems sig S_) (v40_r1 : DmaSems sig S_) (v40_r2 : DmaSems sig S_) (v40_r3 : DmaSems sig S_) (v43_r4 : DmaSems sig S_) (v40_r5 : DmaSems sig S_) (v40_r6 : DmaSems sig S_)

variable (d : Dev nD) {bd : Option (Variants.none).V}

section

variable (v1 : BitVec 32) (v3 : BitVec 32) (v25 : BitVec 1)

/-- The last rows of the last tile. -/
theorem tail_wp {R : sProp 𝕄} (ι : Ix) {O : CellTallies nD τ sig Ix} {W : Waits sig Ix} (q : PosShare TreeShare) (Bt : ℕ → BitVec 32) (E : ℕ → F .f32) (Xg : ℕ → ℕ → F .f32)
    (hB : ∀ r < 16 * 174, (Bt r).toNat < 256) (C : S112x128.Idx → Elt F .f32) (h : k1_cond19 i = 1#1) {hr hr' hr1 hr1' hsrc hdst hsem hsrcw hdstw} :
    (iprop(accAt d i arg12 (accS Bt E (fun r => Xg (base i + r)) 168) ∗ At (thr d i) arg7 fullShare (of1 Bt) ∗ At (thr d i) arg9 fullShare (of1 E) ∗ At (thr d i) arg2 q (of2 Xg : S100000x128.Idx → Elt F .f32)
        ∗ At (thr d i) arg13 fullShare C ∗ semVal (thr d i, .dma v43_r4.sem) 0 ∗ Ow (thr d i) ι O W) : sProp 𝕄)
      ⊢ iprop((accAt d i arg12 (accS Bt E (fun r => Xg (base i + r)) 174) -∗ At (thr d i) arg7 fullShare (of1 Bt) -∗ At (thr d i) arg9 fullShare (of1 E) -∗ At (thr d i) arg2 q (of2 Xg : S100000x128.Idx → Elt F .f32)
        -∗ (∃ C, At (thr d i) arg13 fullShare C) -∗ semVal (thr d i, .dma v43_r4.sem) 0 -∗ Ow (thr d i) ι O W -∗ R)
        -∗ wp frame (wpE (defs₀ (F := F)) Variants.none (thr d i) bd) Set.univ (Prog.lift (.enqueueDma (s := S96x128) (arg2.slice (Rect.unit (s := S100000x128) (k1_off1116 i) S96x128.size (k1_off1116_inb i h)) hr) (.here (arg13.slice (Rect.unit (s := S112x128) ![0, 0] S96x128.size inb_S112x128_S96x128_0_0) hr')) (.dma v43_r4.sem) hsrc hdst hsem)) (fun _ =>
          wp frame (wpE (defs₀ (F := F)) Variants.none (thr d i) bd) Set.univ (Prog.lift (.waitDma2 v43_r4.sem (arg2.slice (Rect.unit (s := S100000x128) (k1_off1116 i) S96x128.size (k1_off1116_inb i h)) hr1) (arg13.slice (Rect.unit (s := S112x128) ![0, 0] S96x128.size inb_S112x128_S96x128_0_0) hr1') hsrcw hdstw)) (fun _ =>
          wp frame (wpE (defs₀ (F := F)) Variants.none (thr d i) bd) Set.univ (Scf.Loop.for k1_t12_loop (k1_t12_ok i h) 0#32 (k1_t12_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 h)) (fun _ => R)))) := by
  iintro ⟨HA, H7, H9, H2, HC, Hv, HO⟩ Hk
  iapply (copyIn_wp (c := thr d i) ι q (of2 Xg : S100000x128.Idx → Elt F .f32) C (by decide)) $$ [H2 HC Hv HO]
  · isplitl [H2]; · iexact H2
    isplitl [HC]; · iexact HC
    isplitl [Hv] <;> iassumption
  iintro %C' %hC H2 HC Hv HO
  have hx : ∀ r, ∀ hr : r < 96, ∀ c, ∀ hc : c < 128, C' (at2 r c (show r < 112 by omega) hc) = Xg (base i + (2688 + r)) c := by
    intro r hr c hc
    have e := hC.1 (at2 r c hr hc)
    have e1 : (Rect.unit (s := S112x128) ![0, 0] S96x128.size inb_S112x128_S96x128_0_0).emb (at2 r c hr hc) = at2 r c (show r < 112 by omega) hc := by
      funext a
      match a with
      | ⟨0, _⟩ => refine Fin.ext ?_; rw [unit_emb_val]; show 0 + r = r; omega
      | ⟨1, _⟩ => refine Fin.ext ?_; rw [unit_emb_val]; show 0 + c = c; omega
    refine (congrArg C' e1.symm).trans (e.trans ?_)
    show Xg _ _ = _
    rw [unit_emb_val, unit_emb_val]
    show Xg (k1_off1116 i 0 + r) (k1_off1116 i 1 + c) = _
    rw [k1_off1116_eq]
    show Xg (50176 * (i 0).val + 3136 * (i 1).val + 2688 + r) (0 + c) = _
    rw [Nat.zero_add, Nat.add_assoc]; rfl
  have e3 : C' = (of2 (fun r => if r < 96 then fun c => Xg (base i + (2688 + r)) c else un2 C' fzero r) : S112x128.Idx → Elt F .f32) := by
    funext y
    show _ = (if (y 0).val < 96 then fun c => Xg (base i + (2688 + (y 0).val)) c else un2 C' fzero (y 0).val) (y 1).val
    by_cases hy : (y 0).val < 96
    · rw [if_pos hy, ← hx (y 0).val hy (y 1).val (y 1).isLt]
      congr 1
      funext a
      match a with
      | ⟨0, _⟩ => rfl
      | ⟨1, _⟩ => rfl
    · rw [if_neg hy]
      exact (congrFun (of2_un2 C' fzero) y).symm
  rw [e3]
  iapply (t12_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d h Bt E (fun r => Xg (base i + r)) (fun r => if r < 96 then fun c => Xg (base i + (2688 + r)) c else un2 C' fzero r) (fun r hr => if_pos hr) hB) $$ [HA HC H7 H9]
  · isplitl [HA]; · iexact HA
    isplitl [HC]; · iexact HC
    isplitl [H7] <;> iassumption
  iintro ⟨HA, HC, H7, H9⟩
  iapply Hk $$ HA H7 H9 H2 [HC] Hv HO
  iexists _
  iexact HC

/-- The two results copied out. -/
theorem outs_wp {Q : PUnit → sProp 𝕄} (ι : Ix) {O : CellTallies nD τ sig Ix} {W : Waits sig Ix} (A : ℕ → ℕ → F .f32) (Dn : ℕ → F .f32)
    (Y5 : S1x256x128.Idx → Elt F .f32) (Y6 : S1x256.Idx → Elt F .f32) {h1 h2 h3 h4 h5 h6 h7 h8 h9 h10} :
    (iprop(accAt d i arg12 A ∗ At (thr d i) arg11 fullShare (of1 Dn : S256.Idx → Elt F .f32)
        ∗ At (thr d i) (O5 i arg5) fullShare Y5 ∗ At (thr d i) (O6 i arg6) fullShare Y6
        ∗ semVal (thr d i, .dma v40_r5.sem) 0 ∗ semVal (thr d i, .dma v40_r6.sem) 0 ∗ Ow (thr d i) ι O W) : sProp 𝕄)
      ⊢ iprop((accAt d i arg12 A -∗ At (thr d i) arg11 fullShare (of1 Dn : S256.Idx → Elt F .f32)
        -∗ At (thr d i) (O5 i arg5) fullShare (fun y => A (y 1).val (y 2).val) -∗ At (thr d i) (O6 i arg6) fullShare (fun y => Dn (y 1).val)
        -∗ semVal (thr d i, .dma v40_r5.sem) 0 -∗ semVal (thr d i, .dma v40_r6.sem) 0 -∗ Ow (thr d i) ι O W -∗ Q ⟨⟩)
        -∗ wp frame (wpE (defs₀ (F := F)) Variants.none (thr d i) bd) Set.univ (Prog.lift (.enqueueDma arg12 (.here ((O5 i arg5).squeeze S256x128 squeezes_S1x256x128_S256x128)) (.dma v40_r5.sem) h1 h2 h3)) (fun _ =>
          wp frame (wpE (defs₀ (F := F)) Variants.none (thr d i) bd) Set.univ (Prog.lift (.waitDma2 v40_r5.sem arg12 ((O5 i arg5).squeeze S256x128 squeezes_S1x256x128_S256x128) h4 h5)) (fun _ =>
          wp frame (wpE (defs₀ (F := F)) Variants.none (thr d i) bd) Set.univ (Prog.lift (.enqueueDma arg11 (.here ((O6 i arg6).squeeze S256 squeezes_S1x256_S256)) (.dma v40_r6.sem) h6 h7 h8)) (fun _ =>
          wp frame (wpE (defs₀ (F := F)) Variants.none (thr d i) bd) Set.univ (Prog.lift (.waitDma2 v40_r6.sem arg11 ((O6 i arg6).squeeze S256 squeezes_S1x256_S256) h9 h10)) Q)))) := by
  iintro ⟨HA, HD, H5, H6, S5, S6, HO⟩ Hk
  ihave H5 := (At_squeeze (c := thr d i) (O5 i arg5) squeezes_S1x256x128_S256x128 fullShare Y5) $$ H5
  ihave H6 := (At_squeeze (c := thr d i) (O6 i arg6) squeezes_S1x256_S256 fullShare Y6) $$ H6
  unfold accAt
  iapply (start_wp (c := thr d i) ι fullShare (of2 A : S256x128.Idx → Elt F .f32) _ (by decide)) $$ [HA H5 S5]
  · isplitl [HA]; · iexact HA
    isplitl [H5] <;> iassumption
  iintro HF
  iapply (wait_wp (c := thr d i) ι rfl (O := O) (W := W)) $$ [HF HO]
  · isplitl [HF]; · iexact HF
    iexact HO
  iintro ⟨⟨H5, HA⟩, S5, HO⟩
  iapply (start_wp (c := thr d i) ι fullShare (of1 Dn : S256.Idx → Elt F .f32) _ (by decide)) $$ [HD H6 S6]
  · isplitl [HD]; · iexact HD
    isplitl [H6] <;> iassumption
  iintro HF
  iapply (wait_wp (c := thr d i) ι rfl (O := O) (W := W)) $$ [HF HO]
  · isplitl [HF]; · iexact HF
    iexact HO
  iintro ⟨⟨H6, HD⟩, S6, HO⟩
  iapply Hk $$ HA HD [H5] [H6] S5 S6 HO
  · iapply (At_unsqueeze (c := thr d i) (O5 i arg5) squeezes_S1x256x128_S256x128 fullShare (fun y => A (y 1).val (y 2).val) (of2 A : S256x128.Idx → Elt F .f32) ?_) $$ H5
    intro x
    rw [Shape.reshapeEquiv_cons_one]
    rfl
  · iapply (At_unsqueeze (c := thr d i) (O6 i arg6) squeezes_S1x256_S256 fullShare (fun y => Dn (y 1).val) (of1 Dn : S256.Idx → Elt F .f32) ?_) $$ H6
    intro x
    rw [Shape.reshapeEquiv_cons_one]
    rfl

theorem t9_skip {R : sProp 𝕄} (z : BitVec 32) :
    R ⊢ wp frame (wpE (defs₀ (F := F)) Variants.none (thr d i) bd) Set.univ (Scf.Loop.for (k1_t9_loop i) (k1_t9_ok i) z (k1_t9_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25)) (fun _ => R) := by
  iintro H
  iapply (loop_wp (c := thr d i) 0 (t9_trips i) (fun _ _ => R) (fun k => absurd (lt_of_lt_of_eq k.isLt (t9_trips i)) (Nat.not_lt_zero _))) $$ H
  iintro %z H
  iexact H

set_option maxHeartbeats 8000000 in
theorem part353_wp {Q : PUnit → sProp 𝕄} (ι : Ix) {O : CellTallies nD τ sig Ix} {W : Waits sig Ix} (q : PosShare TreeShare) (Bt : ℕ → BitVec 32) (E : ℕ → F .f32) (Xg : ℕ → ℕ → F .f32)
    (Dn : ℕ → F .f32) (hB : ∀ r < 16 * ng i, (Bt r).toNat < 256) (C13 C14 : S112x128.Idx → Elt F .f32) (Y5 : S1x256x128.Idx → Elt F .f32) (Y6 : S1x256.Idx → Elt F .f32) :
    (iprop(accAt d i arg12 (fun _ _ => fzero) ∗ At (thr d i) arg7 fullShare (of1 Bt) ∗ At (thr d i) arg9 fullShare (of1 E) ∗ At (thr d i) arg2 q (of2 Xg : S100000x128.Idx → Elt F .f32)
        ∗ At (thr d i) arg13 fullShare C13 ∗ At (thr d i) arg14 fullShare C14 ∗ At (thr d i) arg11 fullShare (of1 Dn : S256.Idx → Elt F .f32)
        ∗ At (thr d i) (O5 i arg5) fullShare Y5 ∗ At (thr d i) (O6 i arg6) fullShare Y6
        ∗ semVal (thr d i, .dma arg15.sem) 0 ∗ semVal (thr d i, .dma v43_r4.sem) 0 ∗ semVal (thr d i, .dma v40_r5.sem) 0 ∗ semVal (thr d i, .dma v40_r6.sem) 0 ∗ Ow (thr d i) ι O W) : sProp 𝕄)
      ⊢ iprop((accAt d i arg12 (accS Bt E (fun r => Xg (base i + r)) (ng i)) -∗ At (thr d i) arg7 fullShare (of1 Bt) -∗ At (thr d i) arg9 fullShare (of1 E) -∗ At (thr d i) arg2 q (of2 Xg : S100000x128.Idx → Elt F .f32)
        -∗ (∃ C, At (thr d i) arg13 fullShare C) -∗ (∃ C, At (thr d i) arg14 fullShare C) -∗ At (thr d i) arg11 fullShare (of1 Dn : S256.Idx → Elt F .f32)
        -∗ At (thr d i) (O5 i arg5) fullShare (fun y => accS Bt E (fun r => Xg (base i + r)) (ng i) (y 1).val (y 2).val) -∗ At (thr d i) (O6 i arg6) fullShare (fun y => Dn (y 1).val)
        -∗ semVal (thr d i, .dma arg15.sem) 0 -∗ semVal (thr d i, .dma v43_r4.sem) 0 -∗ semVal (thr d i, .dma v40_r5.sem) 0 -∗ semVal (thr d i, .dma v40_r6.sem) 0 -∗ Ow (thr d i) ι O W -∗ Q ⟨⟩)
        -∗ wp frame (wpE (defs₀ (F := F)) Variants.none (thr d i) bd) Set.univ (k1_part353 i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25) Q) := by
  rw [k1_part353_eq_skeleton]
  unfold k1_part353_skel
  simp only [wp_bind]
  iintro ⟨HA, H7, H9, H2, H13, H14, H11, H5, H6, S15, S4, S5, S6, HO⟩ Hk
  iapply (startChunk_wp i arg2 arg15 d ι q Xg C13 0 (by rw [k1_off15_eq]; rfl)) $$ [H2 H13 S15]
  · isplitl [H2]; · iexact H2
    isplitl [H13] <;> iassumption
  iintro HF
  iapply (t6_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 v1 v3 v25 d ι q Bt E Xg hB) $$ [HA H7 H9 HO HF H14]
  · isplitl [HA]; · iexact HA
    isplitl [H7]; · iexact H7
    isplitl [H9]; · iexact H9
    isplitl [HO]; · iexact HO
    rw [Pipe_even i arg2 arg13 arg14 arg15 d ι q Xg 0 (by unfold nc; split <;> omega) rfl]
    isplitl [HF]; · iexact HF
    iexists _
    iexact H14
  iintro %z6 ⟨HA, H7, H9, HO, HP⟩
  ihave HP := (Entails.of_eq (Pipe_done i arg2 arg13 arg14 arg15 d ι q Xg (nc i) (Nat.lt_irrefl _))) $$ HP
  icases HP with ⟨S15, H2, ⟨%C13, H13⟩, H14⟩
  iapply (t9_skip i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d v1 v3 v25)
  by_cases hl : tid i = 31
  · have h19 := (cond19_iff i).mpr hl
    have hn : ng i = 174 := by unfold ng; simp [hl]
    have hc : nc i = 24 := by unfold nc; simp [hl]
    rw [dif_pos h19]
    simp only [wp_bind]
    rw [hc]
    iapply (tail_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d v1 v3 v25 ι q Bt E Xg (by rw [hn] at hB; exact hB) C13 h19) $$ [HA H7 H9 H2 H13 S4 HO]
    · isplitl [HA]; · iexact HA
      isplitl [H7]; · iexact H7
      isplitl [H9]; · iexact H9
      isplitl [H2]; · iexact H2
      isplitl [H13]; · iexact H13
      isplitl [S4] <;> iassumption
    iintro HA H7 H9 H2 H13 S4 HO
    try (rw [wp_pure]; imodintro)
    iapply (outs_wp i arg5 arg6 arg11 arg12 v40_r5 v40_r6 d ι _ Dn Y5 Y6) $$ [HA H11 H5 H6 S5 S6 HO]
    · isplitl [HA]; · iexact HA
      isplitl [H11]; · iexact H11
      isplitl [H5]; · iexact H5
      isplitl [H6]; · iexact H6
      isplitl [S5]; · iexact S5
      isplitl [S6] <;> iassumption
    iintro HA H11 H5 H6 S5 S6 HO
    rw [wp_pure]; imodintro
    rw [hn]
    iapply Hk $$ HA H7 H9 H2 H13 H14 H11 H5 H6 S15 S4 S5 S6 HO
  · have h19 : ¬ k1_cond19 i = 1#1 := fun h => hl ((cond19_iff i).mp h)
    have hn : ng i = 7 * nc i := by unfold ng nc; simp [hl]
    rw [dif_neg h19]
    try (rw [wp_pure]; imodintro)
    simp only [wp_bind]
    rw [← hn]
    iapply (outs_wp i arg5 arg6 arg11 arg12 v40_r5 v40_r6 d ι _ Dn Y5 Y6) $$ [HA H11 H5 H6 S5 S6 HO]
    · isplitl [HA]; · iexact HA
      isplitl [H11]; · iexact H11
      isplitl [H5]; · iexact H5
      isplitl [H6]; · iexact H6
      isplitl [S5]; · iexact S5
      isplitl [S6] <;> iassumption
    iintro HA H11 H5 H6 S5 S6 HO
    rw [wp_pure]; imodintro
    iapply Hk $$ HA H7 H9 H2 [H13] H14 H11 H5 H6 S15 S4 S5 S6 HO
    iexists _
    iexact H13

end

/-- The tile's scratch, at any contents. -/
def Scr : sProp 𝕄 :=
  iprop((∃ A, At (thr d i) arg7 fullShare A) ∗ (∃ A, At (thr d i) arg8 fullShare A) ∗ (∃ A, At (thr d i) arg9 fullShare A) ∗ (∃ A, At (thr d i) arg10 fullShare A)
    ∗ (∃ A, At (thr d i) arg11 fullShare A) ∗ (∃ A, At (thr d i) arg12 fullShare A) ∗ (∃ A, At (thr d i) arg13 fullShare A) ∗ (∃ A, At (thr d i) arg14 fullShare A))

/-- Its copies' counters, at zero. -/
def Sms : sProp 𝕄 :=
  iprop(semVal (thr d i, .dma arg15.sem) 0 ∗ semVal (thr d i, .dma v40_r0.sem) 0 ∗ semVal (thr d i, .dma v40_r1.sem) 0 ∗ semVal (thr d i, .dma v40_r2.sem) 0 ∗ semVal (thr d i, .dma v40_r3.sem) 0
    ∗ semVal (thr d i, .dma v43_r4.sem) 0 ∗ semVal (thr d i, .dma v40_r5.sem) 0 ∗ semVal (thr d i, .dma v40_r6.sem) 0)

/-- A tile's sums of weighted rows, batch by batch. -/
def numT (Bg : ℕ → BitVec 32) (Lg : ℕ → F .f32) (Xg : ℕ → ℕ → F .f32) : ℕ → ℕ → F .f32 :=
  accS (fun r => Bg (base i + r)) (fun r => FloatOps.exp (Lg (base i + r))) (fun r => Xg (base i + r)) (ng i)
/-- A tile's sums of weights, batch by batch. -/
def denT (Bg : ℕ → BitVec 32) (Lg : ℕ → F .f32) : ℕ → F .f32 :=
  denS (tabS (fun r => Bg (base i + r)) (fun r => FloatOps.exp (Lg (base i + r))) (ng i))

theorem rows_lt (r : ℕ) (h : r < 16 * ng i) : base i + r < 100000 := by
  have h1 := tid_lt i
  rw [base_eq]
  unfold ng at h
  split at h <;> omega

/-- One tile's run. -/
theorem body_wp {Q : PUnit → sProp 𝕄} (ι : Ix) {O : CellTallies nD τ sig Ix} {W : Waits sig Ix} (q2 q3 q4 : PosShare TreeShare)
    (Bg : ℕ → BitVec 32) (Lg : ℕ → F .f32) (Xg : ℕ → ℕ → F .f32) (hBg : ∀ r, r < 100000 → (Bg r).toNat < 256) (Y5 : S1x256x128.Idx → Elt F .f32) (Y6 : S1x256.Idx → Elt F .f32) :
    (iprop(At (thr d i) arg2 q2 (of2 Xg : S100000x128.Idx → Elt F .f32) ∗ At (thr d i) arg3 q3 (of1 Bg : S100000.Idx → Elt F .i32) ∗ At (thr d i) arg4 q4 (of1 Lg : S100000.Idx → Elt F .f32)
        ∗ At (thr d i) (O5 i arg5) fullShare Y5 ∗ At (thr d i) (O6 i arg6) fullShare Y6 ∗ Scr i arg7 arg8 arg9 arg10 arg11 arg12 arg13 arg14 d ∗ Sms i arg15 v40_r0 v40_r1 v40_r2 v40_r3 v43_r4 v40_r5 v40_r6 d ∗ Ow (thr d i) ι O W) : sProp 𝕄)
      ⊢ iprop((At (thr d i) arg2 q2 (of2 Xg : S100000x128.Idx → Elt F .f32) -∗ At (thr d i) arg3 q3 (of1 Bg : S100000.Idx → Elt F .i32) -∗ At (thr d i) arg4 q4 (of1 Lg : S100000.Idx → Elt F .f32)
        -∗ At (thr d i) (O5 i arg5) fullShare (fun y => numT i Bg Lg Xg (y 1).val (y 2).val) -∗ At (thr d i) (O6 i arg6) fullShare (fun y => denT i Bg Lg (y 1).val)
        -∗ Scr i arg7 arg8 arg9 arg10 arg11 arg12 arg13 arg14 d -∗ Sms i arg15 v40_r0 v40_r1 v40_r2 v40_r3 v43_r4 v40_r5 v40_r6 d -∗ Ow (thr d i) ι O W -∗ Q ⟨⟩)
        -∗ wp frame (wpE (defs₀ (F := F)) Variants.none (thr d i) bd) Set.univ (cc1__sc_body i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6) Q) := by
  rw [cc1__sc_body_eq_skeleton]
  unfold cc1__sc_body_skel Scr Sms
  simp only [wp_bind]
  iintro ⟨H2, H3, H4, H5, H6, ⟨⟨%A7, H7⟩, ⟨%A8, H8⟩, ⟨%A9, H9⟩, ⟨%A10, H10⟩, ⟨%A11, H11⟩, ⟨%A12, H12⟩, ⟨%A13, H13⟩, ⟨%A14, H14⟩⟩, ⟨S15, S0, S1, S2, S3, S4, S5, S6⟩, HO⟩ Hk
  iapply (part352_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d ι q3 q4 Bg Lg hBg A7 A8 A9 A10 A11 A12) $$ [H3 H4 H7 H8 H9 H10 H11 H12 S0 S1 S2 S3 HO]
  · isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3] <;> iassumption
  iintro %z ⟨%Bt, %E, %hE, H7, H9⟩ H3 H4 H11 H12 HO H8 H10 S0 S1 S2 S3
  obtain ⟨v1, v3, v25⟩ := z
  have hB : ∀ r < 16 * ng i, (Bt r).toNat < 256 := fun r hr => by rw [(hE r hr).1]; exact hBg _ (rows_lt i r hr)
  have he : accS Bt E (fun r => Xg (base i + r)) (ng i) = numT i Bg Lg Xg := accS_congr _ fun r hr => ⟨(hE r hr).1, (hE r hr).2, rfl⟩
  iapply (part353_wp i arg2 harg2 arg3 harg3 arg4 harg4 arg5 harg5 arg6 harg6 arg7 harg7 arg8 harg8 arg9 harg9 arg10 harg10 arg11 harg11 arg12 harg12 arg13 harg13 arg14 harg14 arg15 v40_r0 v40_r1 v40_r2 v40_r3 v43_r4 v40_r5 v40_r6 d v1 v3 v25 ι q2 Bt E Xg (denT i Bg Lg) hB A13 A14 Y5 Y6) $$ [H12 H7 H9 H2 H13 H14 H11 H5 H6 S15 S4 S5 S6 HO]
  · isplitl [H12]; · iexact H12
    isplitl [H7]; · iexact H7
    isplitl [H9]; · iexact H9
    isplitl [H2]; · iexact H2
    isplitl [H13]; · iexact H13
    isplitl [H14]; · iexact H14
    isplitl [H11]; · iexact H11
    isplitl [H5]; · iexact H5
    isplitl [H6]; · iexact H6
    isplitl [S15]; · iexact S15
    isplitl [S4]; · iexact S4
    isplitl [S5]; · iexact S5
    isplitl [S6] <;> iassumption
  iintro H12 H7 H9 H2 H13 H14 H11 H5 H6 S15 S4 S5 S6 HO
  rw [he]
  try (rw [wp_pure]; imodintro)
  iapply Hk $$ H2 H3 H4 H5 H6 [H7 H8 H9 H10 H11 H12 H13 H14] [S15 S0 S1 S2 S3 S4 S5 S6] HO
  · isplitl [H7]; · iexists _; iexact H7
    isplitl [H8]; · iexact H8
    isplitl [H9]; · iexists _; iexact H9
    isplitl [H10]; · iexact H10
    isplitl [H11]; · iexists _; iexact H11
    isplitl [H12]; · iexists _; unfold accAt; iexact H12
    isplitl [H13]; · iexact H13
    iexact H14
  · isplitl [S15]; · iexact S15
    isplitl [S0]; · iexact S0
    isplitl [S1]; · iexact S1
    isplitl [S2]; · iexact S2
    isplitl [S3]; · iexact S3
    isplitl [S4]; · iexact S4
    isplitl [S5]; · iexact S5
    iexact S6

end Cert.KernelIdeal.Own

end
-- ==== Proof.TC.lean ====
/- The two TensorCore kernels as regions of the program: the scores at the start, the quotient at the end. -/
module

public import proofs.«01_k».proof.Proof.TileD
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Pipeline.FrameBody
public import Idealize.ShloMosaic.Lib.Pipeline.Value

@[expose] public section

noncomputable section

namespace Cert.KernelIdeal.Own

open Idealize.ShloMosaic Cert.KernelIdeal Cert.KernelIdeal.Gen
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The two bodies -/

section Bodies

variable {Ix : Type} [DecidableEq Ix] {Name : Type} [DecidableEq Name] {U : Type} [URA U] {Lvl : Type} [Preorder Lvl]
variable [CountersIn U] [Infinite Name]

local notation "𝕄" => MT nD τ sig Ix (Elt F) Name U Lvl

/-- Reading all of an array from its first position on reads it. -/
theorem unit_zero {s : Shape} {off : Fin s.rank → ℕ} (h0 : ∀ a, off a = 0) (h : ∀ a, off a + s.size a ≤ s.size a) {α : Type} (A : s.Idx → α)
    (x : (Rect.unit (s := s) off s.size h).shape.Idx) : A ((Rect.unit (s := s) off s.size h).emb x) = A x := by
  refine congrArg A (funext fun a => Fin.ext ?_)
  rw [unit_emb_val h x a, h0 a, Nat.zero_add]

theorem unit_zero_mem {s : Shape} {off : Fin s.rank → ℕ} (h0 : ∀ a, off a = 0) (h : ∀ a, off a + s.size a ≤ s.size a) (y : s.Idx) :
    y ∈ (Rect.unit (s := s) off s.size h).set := by
  rw [Rect.mem_set_unit]
  intro a
  rw [h0 a]
  exact ⟨Nat.zero_le _, by rw [Nat.zero_add]; exact (y a).isLt⟩

theorem zero2 (a : Fin 2) : (![0, 0] : Fin 2 → ℕ) a = 0 := by fin_cases a <;> rfl
theorem zero3 (a : Fin 3) : (![0, 0, 0] : Fin 3 → ℕ) a = 0 := by fin_cases a <;> rfl

variable (d : Dev nD)

theorem logits_wp {Q : PUnit → sProp 𝕄} (i : grid0.Coords) (arg1 : Memref sig .tc .vmem S20000x128 .f32) (h1 : arg1.IsWhole) (arg2 : Memref sig .tc .vmem S128x1 .f32) (h2 : arg2.IsWhole)
    (arg3 : Memref sig .tc .vmem S1x1 .f32) (h3 : arg3.IsWhole) (arg4 : Memref sig .tc .vmem S20000x1 .f32) (h4 : arg4.IsWhole)
    (X : S20000x128.Idx → Elt F .f32) (W : S128x1.Idx → Elt F .f32) (B : S1x1.Idx → Elt F .f32) (Y : S20000x1.Idx → Elt F .f32) :
    iprop(At (T d) arg1 fullShare X ∗ At (T d) arg2 fullShare W ∗ At (T d) arg3 fullShare B ∗ At (T d) arg4 fullShare Y)
      ⊢ iprop((At (T d) arg1 fullShare X -∗ At (T d) arg2 fullShare W -∗ At (T d) arg3 fullShare B -∗ At (T d) arg4 fullShare (k0_pay1 X W B) -∗ Q ⟨⟩)
        -∗ wp frame (wpE (defs₀ (F := F)) Variants.none (T d) none) Set.univ (cc0__k1_logits i arg1 h1 arg2 h2 arg3 h3 arg4 h4) Q) := by
  rw [cc0__k1_logits_eq_skeleton]
  unfold cc0__k1_logits_skel
  simp only [wp_bind, wp_pure]
  iintro ⟨H1, H2, H3, H4⟩ Hk
  iapply (load_wp (c := T d) (m := arg1) fullShare X) $$ H1
  iintro H1
  iapply (load_wp (c := T d) (m := arg2) fullShare W) $$ H2
  iintro H2
  iapply (load_wp (c := T d) (m := arg3) fullShare B) $$ H3
  iintro H3
  iapply (load_wp (c := T d) (m := arg4) fullShare Y) $$ H4
  iintro H4
  iapply (store_wp (c := T d) (m := arg4) Y (k0_pay1 X W B) (fun x => by
    rw [unit_zero (s := S20000x1) zero2 _ (k0_pay1 X W B) x]
    congr 1
    · exact funext fun x => (unit_zero (s := S20000x128) zero2 _ X x).symm
    · exact funext fun x => (unit_zero (s := S128x1) zero2 _ W x).symm
    · exact funext fun x => (unit_zero (s := S1x1) zero2 _ B x).symm)
    (fun y hy => absurd (unit_zero_mem zero2 _ y) hy)) $$ H4
  iintro H4
  imodintro
  iapply Hk $$ H1 H2 H3 H4

theorem norm_wp {Q : PUnit → sProp 𝕄} (arg0 : Memref sig .tc .vmem S32x256x128 .f32) (h0 : arg0.IsWhole) (arg1 : Memref sig .tc .vmem S32x256 .f32) (h1 : arg1.IsWhole)
    (arg2 : Memref sig .tc .vmem S256x128 .f32) (h2 : arg2.IsWhole)
    (X : S32x256x128.Idx → Elt F .f32) (W : S32x256.Idx → Elt F .f32) (Y : S256x128.Idx → Elt F .f32) :
    iprop(At (T d) arg0 fullShare X ∗ At (T d) arg1 fullShare W ∗ At (T d) arg2 fullShare Y)
      ⊢ iprop((At (T d) arg0 fullShare X -∗ At (T d) arg1 fullShare W -∗ At (T d) arg2 fullShare (k2_pay1 X W) -∗ Q ⟨⟩)
        -∗ wp frame (wpE (defs₀ (F := F)) Variants.none (T d) none) Set.univ (cc2__k2_norm arg0 h0 arg1 h1 arg2 h2) Q) := by
  rw [cc2__k2_norm_eq_skeleton]
  unfold cc2__k2_norm_skel
  simp only [wp_bind, wp_pure]
  iintro ⟨H1, H2, H4⟩ Hk
  iapply (load_wp (c := T d) (m := arg0) fullShare X) $$ H1
  iintro H1
  iapply (load_wp (c := T d) (m := arg1) fullShare W) $$ H2
  iintro H2
  iapply (load_wp (c := T d) (m := arg2) fullShare Y) $$ H4
  iintro H4
  iapply (store_wp (c := T d) (m := arg2) Y (k2_pay1 X W) (fun x => by
    rw [unit_zero (s := S256x128) zero2 _ (k2_pay1 X W) x]
    congr 1
    · exact funext fun x => (unit_zero (s := S32x256x128) zero3 _ X x).symm
    · exact funext fun x => (unit_zero (s := S32x256) zero2 _ W x).symm)
    (fun y hy => absurd (unit_zero_mem zero2 _ y) hy)) $$ H4
  iintro H4
  imodintro
  iapply Hk $$ H1 H2 H4

end Bodies

/-! ## The program's resource algebra -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP (F := F)).LandsIn (upEmb : UEmb _ 𝕄) := by unfold EP; infer_instance

abbrev adm : (p : Fin 2) → (pcfgs (F := F) p).Adm := fun p => (cfgs p).toPCfg_adm

/-- Proof data for a pipeline that is not run. -/
def junk {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The recorded waits that sit at or below a level. -/
abbrev below (c : Dev nD) (b : ℕ) : Set (SemLoc sig × HIx 1) := {p | (K (F := F)).lev (T c, p.1) p.2 ≤ b}

/-! ## The scores -/

section Logits

variable (X : S100000x128.Idx → Elt F .f32) (Wt : S128x1.Idx → Elt F .f32) (Bi : S1x1.Idx → Elt F .f32) (Y : S100000x1.Idx → Elt F .f32)

abbrev blkX (t : Fin cfg0.N) : S20000x128.Idx → Elt F .f32 := ((cfg0.win 0).blk t).view.read (Elt F) X
abbrev blkW (t : Fin cfg0.N) : S128x1.Idx → Elt F .f32 := ((cfg0.win 1).blk t).view.read (Elt F) Wt
abbrev blkB (t : Fin cfg0.N) : S1x1.Idx → Elt F .f32 := ((cfg0.win 2).blk t).view.read (Elt F) Bi

def dat0 (c : Dev nD) : Dat τ (Elt F) (HIx 1) ℕ UU ℕ cfg0 c where
  A w := match w with
    | ⟨0, _⟩ => X
    | ⟨1, _⟩ => Wt
    | ⟨2, _⟩ => Bi
    | ⟨3, _⟩ => Y
  after w t := match w with
    | ⟨0, _⟩ => blkX X t
    | ⟨1, _⟩ => blkW Wt t
    | ⟨2, _⟩ => blkB Bi t
    | ⟨3, _⟩ => k0_pay1 (blkX X t) (blkW Wt t) (blkB Bi t)
  Φ _ := Pipeline.scopedRest (Ix := HIx 1) (Name := ℕ) (U := UU) (Lvl := ℕ) (Val := Elt F) spec0 c
  q _ := fullShare
  owed _ := (K (F := F)).Otc c 0
  recorded _ := below (F := F) c 0

def pdats0 : (p : Fin 2) → (c : Dev nD) → Dat τ (Elt F) (HIx 1) ℕ UU ℕ (Pipeline.pin (pcfgs (F := F)) adm p) c
  | ⟨0, _⟩ => fun c => dat0 X Wt Bi Y c
  | ⟨1, _⟩ => fun c => junk c

theorem before0_0 (c : Dev nD) (t : Fin cfg0.N) (e) : (dat0 X Wt Bi Y c).before 0 t e = blkX X t :=
  ((dat0 X Wt Bi Y c).before_in_eq_fetched 0 rfl (fun _ => rfl) (fun _ _ _ => rfl) (fun _ => rfl) t e).trans rfl
theorem before0_1 (c : Dev nD) (t : Fin cfg0.N) (e) : (dat0 X Wt Bi Y c).before 1 t e = blkW Wt t :=
  ((dat0 X Wt Bi Y c).before_in_eq_fetched 1 rfl (fun _ => rfl) (fun _ _ _ => rfl) (fun _ => rfl) t e).trans rfl
theorem before0_2 (c : Dev nD) (t : Fin cfg0.N) (e) : (dat0 X Wt Bi Y c).before 2 t e = blkB Bi t :=
  ((dat0 X Wt Bi Y c).before_in_eq_fetched 2 rfl (fun _ => rfl) (fun _ _ _ => rfl) (fun _ => rfl) t e).trans rfl

theorem body0 (c : Dev nD) : BodyObligation (dat0 X Wt Bi Y c) (defs₀ (F := F)) 𝒱₀ none Set.univ := fun t => by
  rw [bigSep_W0, bigSep_W0]
  change iprop((dat0 X Wt Bi Y c).Φ t.castSucc ∗ (dat0 X Wt Bi Y c).owesAt none t.castSucc
      ∗ (∃ e, At (T c) (win0_0.stage (cfg0.slots t 0)) fullShare ((dat0 X Wt Bi Y c).before 0 t e))
      ∗ (∃ e, At (T c) (win0_1.stage (cfg0.slots t 1)) fullShare ((dat0 X Wt Bi Y c).before 1 t e))
      ∗ (∃ e, At (T c) (win0_2.stage (cfg0.slots t 2)) fullShare ((dat0 X Wt Bi Y c).before 2 t e))
      ∗ (∃ e, At (T c) (win0_3.stage (cfg0.slots t 3)) fullShare ((dat0 X Wt Bi Y c).before 3 t e)))
    ⊢ wp frame (wpE (defs₀ (F := F)) Variants.none (T c) none) Set.univ (bodyAt0 t) fun _ => iprop((dat0 X Wt Bi Y c).Φ t.castSucc ∗ (dat0 X Wt Bi Y c).owesAt none t.castSucc
      ∗ At (T c) (win0_0.stage (cfg0.slots t 0)) fullShare (blkX X t)
      ∗ At (T c) (win0_1.stage (cfg0.slots t 1)) fullShare (blkW Wt t)
      ∗ At (T c) (win0_2.stage (cfg0.slots t 2)) fullShare (blkB Bi t)
      ∗ At (T c) (win0_3.stage (cfg0.slots t 3)) fullShare (k0_pay1 (blkX X t) (blkW Wt t) (blkB Bi t)))
  unfold bodyAt0
  iintro ⟨HΦ, Howes, ⟨%e0, H0⟩, ⟨%e1, H1⟩, ⟨%e2, H2⟩, ⟨%e3, H3⟩⟩
  rw [before0_0, before0_1, before0_2]
  iapply (logits_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (blkX X t) (blkW Wt t) (blkB Bi t) _) $$ [H0 H1 H2 H3]
  · isplitl [H0]; · iexact H0
    isplitl [H1]; · iexact H1
    isplitl [H2]; · iexact H2
    iexact H3
  iintro H0 H1 H2 H3
  isplitl [HΦ]; · iexact HΦ
  isplitl [Howes]; · iexact Howes
  isplitl [H0]; · iexact H0
  isplitl [H1]; · iexact H1
  isplitl [H2]; · iexact H2
  iexact H3

theorem idx0 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem emb0_0 (t : Fin cfg0.N) (j : S20000x1.Idx) : (((cfg0.win 3).blk t).view.emb j 0).val = 20000 * t.val + (j 0).val := by
  obtain ⟨e, -⟩ := idx0 t
  show win0_3.index t (0 : Fin 2) * 20000 + 1 * (j 0).val = _
  omega

/-- The grid point that writes a row. -/
abbrev pt0 (y : S100000x1.Idx) : Fin cfg0.N := ⟨(y 0).val / 20000, by
  have h : (y 0).val < 100000 := (y 0).isLt
  show _ < grid0.N
  rw [N_0]; omega⟩

/-- The row's place in the point's block. -/
def row0 (y : S100000x1.Idx) : S20000x1.Idx := at2 ((y 0).val % 20000) 0 (Nat.mod_lt _ (by decide)) (by decide)

/-- The scores, row by row. -/
def out0 : S100000x1.Idx → Elt F .f32 := fun y =>
  k0_pay1 (blkX X (pt0 y)) (blkW Wt (pt0 y)) (blkB Bi (pt0 y)) (row0 y)

theorem arr0 (c : Dev nD) : (dat0 X Wt Bi Y c).arrAt 3 cfg0.N = out0 X Wt Bi :=
  (dat0 X Wt Bi Y c).arrAt_eq_of_cover 3 (out0 X Wt Bi)
    (fun t _ => funext fun j => by
      show k0_pay1 (blkX X t) (blkW Wt t) (blkB Bi t) j = out0 X Wt Bi (((cfg0.win 3).blk t).view.emb j)
      have h0 := emb0_0 t j
      have hj : (j 0).val < 20000 := (j 0).isLt
      have hj1 : (j 1).val < 1 := (j 1).isLt
      have ht : pt0 (((cfg0.win 3).blk t).view.emb j) = t := Fin.ext (by
        show (((cfg0.win 3).blk t).view.emb j 0).val / 20000 = t.val
        rw [h0]; omega)
      unfold out0
      rw [ht]
      refine congrArg _ (funext fun a => Fin.ext ?_)
      match a with
      | ⟨0, _⟩ =>
        show (j 0).val = (((cfg0.win 3).blk t).view.emb j 0).val % 20000
        rw [h0]; omega
      | ⟨1, _⟩ => show (j 1).val = 0; omega)
    (fun y => ⟨pt0 y, flush0_3 _, by
      have hy : (y 0).val < 100000 := (y 0).isLt
      have hy1 : (y 1).val < 1 := (y 1).isLt
      refine Finset.mem_map.mpr ⟨row0 y, Finset.mem_univ _, funext fun a => Fin.ext ?_⟩
      obtain ⟨e0, e1⟩ := idx0 (pt0 y)
      match a with
      | ⟨0, _⟩ =>
        show win0_3.index (pt0 y) (0 : Fin 2) * 20000 + 1 * ((y 0).val % 20000) = (y 0).val
        rw [e0]; show (y 0).val / 20000 * 20000 + 1 * ((y 0).val % 20000) = (y 0).val; omega
      | ⟨1, _⟩ =>
        show win0_3.index (pt0 y) (1 : Fin 2) * 1 + 1 * 0 = (y 1).val
        rw [e1]; omega⟩)

/-- What the TensorCore owes around a region, its recorded waits at or below a level. -/
abbrev owesB (c : Dev nD) (n : ℕ) (b : ℕ) : sProp 𝕄 :=
  iprop(∃ W, ⌜(K (F := F)).WBelow (T c) W b⌝ ∗ owes (T c) ((K (F := F)).Otc c n) W)

theorem lev_dma (c : Dev nD) (s : DmaSem sig) : (K (F := F)).lev (T c, .dma s) none = 0 := rfl

abbrev L0 : (c : Dev nD) → (b : Ref sig .tc) → Loc nD τ sig := fun c b => (T c : Thread nD τ).loc b

def reg0 : Pipeline.RegionSeg (Name := ℕ) (U := UU) (pcfgs (F := F)) adm (pdats0 X Wt Bi Y) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 X Wt Bi Y c).loose
  hwaits c := Pipeline.cellsWaits_of_cut (Pipeline.pin (pcfgs (F := F)) adm) (pdats0 X Wt Bi Y) none 0 c 0 ((K (F := F)).Otc c 0) (fun _ => rfl)
    (fun _ _ => Finset.mem_univ _) (fun _ _ => le_of_eq (lev_dma c _))
    (fun g i h => ⟨Finset.mem_univ _, lt_of_lt_of_le (by omega) ((K (F := F)).lev_of_Otc_pos h)⟩)
  pre c := iprop(((L0 c main_arg0 ↦{fullShare} X) ∗ (L0 c main_v0 ↦{fullShare} Wt) ∗ (L0 c main_v1 ↦{fullShare} Bi) ∗ (L0 c main_v2 ↦{fullShare} Y)) ∗ owesB c 0 0)
  post c := iprop(((L0 c main_arg0 ↦{fullShare} X) ∗ (L0 c main_v0 ↦{fullShare} Wt) ∗ (L0 c main_v1 ↦{fullShare} Bi) ∗ (L0 c main_v2 ↦{fullShare} out0 X Wt Bi)) ∗ owesB c 0 0)
  X _ := BI.emp
  Y _ := BI.emp
  Z _ := BI.emp
  hentry c := by
    rw [Pipeline.ownSems0_none, Pipeline.prefHeld_of_none _ rfl,
      Pipeline.arrays_eq (Pipeline.pin (pcfgs (F := F)) adm) (pdats0 X Wt Bi Y) 0 c launch0.arr_whole ((pdats0 X Wt Bi Y 0 c).share_full fun _ => rfl)]
    erw [bigSep_W0]
    iintro ⟨⟨⟨H0, H1, H2, H3⟩, ⟨%W, %hW, HO⟩⟩, -, -⟩
    imodintro
    isplitl [H0 H1 H2 H3]
    · isplitl [H0]; · iexact H0
      isplitl [H1]; · iexact H1
      isplitl [H2]; · iexact H2
      iexact H3
    isplitr; · iempintro
    isplitl [HO]
    · unfold Pipeline.Dat.owesAt Pipeline.owesWithin
      iexists W; isplitr
      · ipureintro; exact fun p hp => Or.inl (hW p hp)
      iexact HO
    isplitr; · iempintro
    iempintro
  hin c := by
    rw [show (pdats0 X Wt Bi Y 0 c).Φ 0 = Pipeline.scopedRest spec0 c from rfl]
    iintro ⟨-, -, Hr⟩; iexact Hr
  hout c := by
    rw [Pipeline.ownSems0_none, show (pdats0 X Wt Bi Y 0 c).Φ (Fin.last _) = Pipeline.scopedRest spec0 c from rfl]
    iintro Hr
    isplitr; · iempintro
    isplitr; · iempintro
    iexact Hr
  hexit c := by
    rw [Pipeline.arrays_eq (Pipeline.pin (pcfgs (F := F)) adm) (pdats0 X Wt Bi Y) 0 c launch0.arr_whole ((pdats0 X Wt Bi Y 0 c).share_full fun _ => rfl)]
    erw [bigSep_W0]
    rw [show (pdats0 X Wt Bi Y 0 c).arrAt 0 (Pipeline.pin (pcfgs (F := F)) adm 0).N = X from (dat0 X Wt Bi Y c).arrAt_in 0 rfl _,
      show (pdats0 X Wt Bi Y 0 c).arrAt 1 (Pipeline.pin (pcfgs (F := F)) adm 0).N = Wt from (dat0 X Wt Bi Y c).arrAt_in 1 rfl _,
      show (pdats0 X Wt Bi Y 0 c).arrAt 2 (Pipeline.pin (pcfgs (F := F)) adm 0).N = Bi from (dat0 X Wt Bi Y c).arrAt_in 2 rfl _,
      show (pdats0 X Wt Bi Y 0 c).arrAt 3 (Pipeline.pin (pcfgs (F := F)) adm 0).N = out0 X Wt Bi from arr0 X Wt Bi Y c]
    unfold Pipeline.Dat.owesAt Pipeline.owesWithin
    iintro ⟨⟨H0, H1, H2, H3⟩, ⟨%W, %hW, HO⟩, -, -⟩
    imodintro
    isplitl [H0 H1 H2 H3]
    · isplitl [H0]; · iexact H0
      isplitl [H1]; · iexact H1
      isplitl [H2]; · iexact H2
      iexact H3
    iexists W
    isplitr
    · ipureintro
      intro p hp
      rcases hW hp with h | ⟨w, s, rfl⟩
      · exact h
      · exact le_of_eq (lev_dma c _)
    iexact HO

theorem logits_region (c : Dev nD) {Q : PUnit → sProp 𝕄} :
    iprop(levAts (K (F := F)).L (K (F := F)).lev ∗ boundary (T c)
        ∗ ((L0 c main_arg0 ↦{fullShare} X) ∗ (L0 c main_v0 ↦{fullShare} Wt) ∗ (L0 c main_v1 ↦{fullShare} Bi) ∗ (L0 c main_v2 ↦{fullShare} Y)) ∗ owesB c 0 0
        ∗ Pipeline.cellsGhost (Pipeline.pin (pcfgs (F := F)) adm) EP 0 c ∗ Pipeline.toksInit (Pipeline.pin (pcfgs (F := F)) adm) EP 0 c)
      ⊢ iprop((boundary (T c) -∗ (L0 c main_arg0 ↦{fullShare} X) -∗ (L0 c main_v0 ↦{fullShare} Wt) -∗ (L0 c main_v1 ↦{fullShare} Bi) -∗ (L0 c main_v2 ↦{fullShare} out0 X Wt Bi) -∗ owesB c 0 0 -∗ Q ⟨⟩)
        -∗ wp frame (wpE ((K (F := F)).defs D) 𝒱 (T c) none) Set.univ (Prog.lift (.customCall (SparseCore.inner (Pipeline.entry 0)) ())) Q) := by
  have h := Pipeline.RegionSeg.wp (pcfgs (F := F)) adm (pdats0 X Wt Bi Y) none cellOf_inj EP defs₀ 𝒱₀ (K (F := F)).L (K (F := F)).lev (reg0 X Wt Bi Y) c none
    (fun u h => nomatch h) (fun _ => .ret ⟨⟩) Q
  have h' := (K (F := F)).wp_liftProg D 𝒱 (T c) Set.univ none (.op (.customCall (Pipeline.entry 0) ()) fun _ => .ret ⟨⟩) Q
  iintro ⟨Hl, Hb, HA, HO, Hg, Ht⟩ Hk
  iapply (h.trans h')
  isplitl [Hk]
  · rw [wp_ret]
    rw [show (reg0 X Wt Bi Y).post c = iprop(((L0 c main_arg0 ↦{fullShare} X) ∗ (L0 c main_v0 ↦{fullShare} Wt) ∗ (L0 c main_v1 ↦{fullShare} Bi) ∗ (L0 c main_v2 ↦{fullShare} out0 X Wt Bi)) ∗ owesB c 0 0) from rfl]
    iintro ⟨Hb, ⟨H0, H1, H2, H3⟩, HO⟩
    imodintro
    iapply Hk $$ Hb H0 H1 H2 H3 HO
  isplitl [Hb]; · iexact Hb
  isplitl [HA HO]
  · rw [show (reg0 X Wt Bi Y).pre c = iprop(((L0 c main_arg0 ↦{fullShare} X) ∗ (L0 c main_v0 ↦{fullShare} Wt) ∗ (L0 c main_v1 ↦{fullShare} Bi) ∗ (L0 c main_v2 ↦{fullShare} Y)) ∗ owesB c 0 0) from rfl]
    isplitl [HA]; · iexact HA
    iexact HO
  isplitl [Hl]; · iexact Hl
  isplitl [Hg]; · iexact Hg
  iexact Ht

end Logits

end Cert.KernelIdeal.Own

end
-- ==== Proof.TC2.lean ====
/- The last TensorCore kernel, the quotient of the summed tables, as a region of the program. -/
module

public import proofs.«01_k».proof.Proof.TC

@[expose] public section

noncomputable section

namespace Cert.KernelIdeal.Own

open Idealize.ShloMosaic Cert.KernelIdeal Cert.KernelIdeal.Gen
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (X : S32x256x128.Idx → Elt F .f32) (W : S32x256.Idx → Elt F .f32) (Y : S256x128.Idx → Elt F .f32)

abbrev blkN (t : Fin cfg2.N) : S32x256x128.Idx → Elt F .f32 := ((cfg2.win 0).blk t).view.read (Elt F) X
abbrev blkD (t : Fin cfg2.N) : S32x256.Idx → Elt F .f32 := ((cfg2.win 1).blk t).view.read (Elt F) W

def dat1 (c : Dev nD) : Dat τ (Elt F) (HIx 1) ℕ UU ℕ cfg2 c where
  A w := match w with
    | ⟨0, _⟩ => X
    | ⟨1, _⟩ => W
    | ⟨2, _⟩ => Y
  after w t := match w with
    | ⟨0, _⟩ => blkN X t
    | ⟨1, _⟩ => blkD W t
    | ⟨2, _⟩ => k2_pay1 (blkN X t) (blkD W t)
  Φ _ := Pipeline.scopedRest (Ix := HIx 1) (Name := ℕ) (U := UU) (Lvl := ℕ) (Val := Elt F) spec2 c
  q _ := fullShare
  owed _ := (K (F := F)).Otc c 1
  recorded _ := below (F := F) c 8

def pdats1 : (p : Fin 2) → (c : Dev nD) → Dat τ (Elt F) (HIx 1) ℕ UU ℕ (Pipeline.pin (pcfgs (F := F)) adm p) c
  | ⟨0, _⟩ => fun c => junk c
  | ⟨1, _⟩ => fun c => dat1 X W Y c

theorem before1_0 (c : Dev nD) (t : Fin cfg2.N) (e) : (dat1 X W Y c).before 0 t e = blkN X t :=
  ((dat1 X W Y c).before_in_eq_fetched 0 rfl (fun _ => rfl) (fun _ _ _ => rfl) (fun _ => rfl) t e).trans rfl
theorem before1_1 (c : Dev nD) (t : Fin cfg2.N) (e) : (dat1 X W Y c).before 1 t e = blkD W t :=
  ((dat1 X W Y c).before_in_eq_fetched 1 rfl (fun _ => rfl) (fun _ _ _ => rfl) (fun _ => rfl) t e).trans rfl

theorem body1 (c : Dev nD) : BodyObligation (dat1 X W Y c) (defs₀ (F := F)) 𝒱₀ none Set.univ := fun t => by
  rw [bigSep_W2, bigSep_W2]
  change iprop((dat1 X W Y c).Φ t.castSucc ∗ (dat1 X W Y c).owesAt none t.castSucc
      ∗ (∃ e, At (T c) (win2_0.stage (cfg2.slots t 0)) fullShare ((dat1 X W Y c).before 0 t e))
      ∗ (∃ e, At (T c) (win2_1.stage (cfg2.slots t 1)) fullShare ((dat1 X W Y c).before 1 t e))
      ∗ (∃ e, At (T c) (win2_2.stage (cfg2.slots t 2)) fullShare ((dat1 X W Y c).before 2 t e)))
    ⊢ wp frame (wpE (defs₀ (F := F)) Variants.none (T c) none) Set.univ (bodyAt2 t) fun _ => iprop((dat1 X W Y c).Φ t.castSucc ∗ (dat1 X W Y c).owesAt none t.castSucc
      ∗ At (T c) (win2_0.stage (cfg2.slots t 0)) fullShare (blkN X t)
      ∗ At (T c) (win2_1.stage (cfg2.slots t 1)) fullShare (blkD W t)
      ∗ At (T c) (win2_2.stage (cfg2.slots t 2)) fullShare (k2_pay1 (blkN X t) (blkD W t)))
  unfold bodyAt2
  iintro ⟨HΦ, Howes, ⟨%e0, H0⟩, ⟨%e1, H1⟩, ⟨%e2, H2⟩⟩
  rw [before1_0, before1_1]
  iapply (norm_wp (F := F) c (win2_0.stage (cfg2.slots t 0)) (hstage2_0 0) (win2_1.stage (cfg2.slots t 1)) (hstage2_1 0) (win2_2.stage (cfg2.slots t 2)) (hstage2_2 0)
    (blkN X t) (blkD W t) _) $$ [H0 H1 H2]
  · isplitl [H0]; · iexact H0
    isplitl [H1]; · iexact H1
    iexact H2
  iintro H0 H1 H2
  isplitl [HΦ]; · iexact HΦ
  isplitl [Howes]; · iexact Howes
  isplitl [H0]; · iexact H0
  isplitl [H1]; · iexact H1
  iexact H2

theorem idx1 : ∀ t : Fin cfg2.N, win2_0.index t (0 : Fin 3) = 0 ∧ win2_0.index t (1 : Fin 3) = 0 ∧ win2_0.index t (2 : Fin 3) = 0
    ∧ win2_1.index t (0 : Fin 2) = 0 ∧ win2_1.index t (1 : Fin 2) = 0 ∧ win2_2.index t (0 : Fin 2) = 0 ∧ win2_2.index t (1 : Fin 2) = 0 :=
  (by decide +kernel : ∀ t : Fin grid2.N, win2_0.index t (0 : Fin 3) = 0 ∧ win2_0.index t (1 : Fin 3) = 0 ∧ win2_0.index t (2 : Fin 3) = 0
    ∧ win2_1.index t (0 : Fin 2) = 0 ∧ win2_1.index t (1 : Fin 2) = 0 ∧ win2_2.index t (0 : Fin 2) = 0 ∧ win2_2.index t (1 : Fin 2) = 0)

theorem embN (t : Fin cfg2.N) (j : S32x256x128.Idx) : ((cfg2.win 0).blk t).view.emb j = j := by
  obtain ⟨e0, e1, e2, -⟩ := idx1 t
  funext a; apply Fin.ext
  match a with
  | ⟨0, _⟩ => show win2_0.index t (0 : Fin 3) * 32 + 1 * (j 0).val = (j 0).val; omega
  | ⟨1, _⟩ => show win2_0.index t (1 : Fin 3) * 256 + 1 * (j 1).val = (j 1).val; omega
  | ⟨2, _⟩ => show win2_0.index t (2 : Fin 3) * 128 + 1 * (j 2).val = (j 2).val; omega

theorem embD (t : Fin cfg2.N) (j : S32x256.Idx) : ((cfg2.win 1).blk t).view.emb j = j := by
  obtain ⟨-, -, -, e0, e1, -⟩ := idx1 t
  funext a; apply Fin.ext
  match a with
  | ⟨0, _⟩ => show win2_1.index t (0 : Fin 2) * 32 + 1 * (j 0).val = (j 0).val; omega
  | ⟨1, _⟩ => show win2_1.index t (1 : Fin 2) * 256 + 1 * (j 1).val = (j 1).val; omega

theorem embO (t : Fin cfg2.N) (j : S256x128.Idx) : ((cfg2.win 2).blk t).view.emb j = j := by
  obtain ⟨-, -, -, -, -, e0, e1⟩ := idx1 t
  funext a; apply Fin.ext
  match a with
  | ⟨0, _⟩ => show win2_2.index t (0 : Fin 2) * 256 + 1 * (j 0).val = (j 0).val; omega
  | ⟨1, _⟩ => show win2_2.index t (1 : Fin 2) * 128 + 1 * (j 1).val = (j 1).val; omega

theorem blkN_eq (t : Fin cfg2.N) : blkN X t = X := funext fun j => congrArg X (embN t j)
theorem blkD_eq (t : Fin cfg2.N) : blkD W t = W := funext fun j => congrArg W (embD t j)

theorem arr1 (c : Dev nD) : (dat1 X W Y c).arrAt 2 cfg2.N = k2_pay1 X W :=
  (dat1 X W Y c).arrAt_eq_of_cover 2 (k2_pay1 X W)
    (fun t _ => funext fun j => by
      show k2_pay1 (blkN X t) (blkD W t) j = k2_pay1 X W (((cfg2.win 2).blk t).view.emb j)
      rw [blkN_eq, blkD_eq, embO t j])
    (fun y => ⟨t2_0, flush2_2 _, Finset.mem_map.mpr ⟨y, Finset.mem_univ _, embO t2_0 y⟩⟩)

def reg1 : Pipeline.RegionSeg (Name := ℕ) (U := UU) (pcfgs (F := F)) adm (pdats1 X W Y) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body1 X W Y c).loose
  hwaits c := Pipeline.cellsWaits_of_cut (Pipeline.pin (pcfgs (F := F)) adm) (pdats1 X W Y) none 1 c 8 ((K (F := F)).Otc c 1) (fun _ => rfl)
    (fun _ _ => Finset.mem_univ _) (fun _ _ => le_of_eq_of_le (lev_dma c _) (by decide))
    (fun g i h => ⟨Finset.mem_univ _, lt_of_lt_of_le (show 8 < 8 * 1 + 1 by decide) ((K (F := F)).lev_of_Otc_pos h)⟩)
  pre c := iprop(((L0 c main_v4_0 ↦{fullShare} X) ∗ (L0 c main_v4_1 ↦{fullShare} W) ∗ (L0 c main_v5 ↦{fullShare} Y)) ∗ owesB c 1 8)
  post c := iprop(((L0 c main_v4_0 ↦{fullShare} X) ∗ (L0 c main_v4_1 ↦{fullShare} W) ∗ (L0 c main_v5 ↦{fullShare} k2_pay1 X W)) ∗ owesB c 1 8)
  X _ := BI.emp
  Y _ := BI.emp
  Z _ := BI.emp
  hentry c := by
    rw [Pipeline.ownSems0_none, Pipeline.prefHeld_of_none _ rfl,
      Pipeline.arrays_eq (Pipeline.pin (pcfgs (F := F)) adm) (pdats1 X W Y) 1 c launch2.arr_whole ((pdats1 X W Y 1 c).share_full fun _ => rfl)]
    erw [bigSep_W2]
    iintro ⟨⟨⟨H0, H1, H2⟩, ⟨%W, %hW, HO⟩⟩, -, -⟩
    imodintro
    isplitl [H0 H1 H2]
    · isplitl [H0]; · iexact H0
      isplitl [H1]; · iexact H1
      iexact H2
    isplitr; · iempintro
    isplitl [HO]
    · unfold Pipeline.Dat.owesAt Pipeline.owesWithin
      iexists W; isplitr
      · ipureintro; exact fun p hp => Or.inl (hW p hp)
      iexact HO
    isplitr; · iempintro
    iempintro
  hin c := by
    rw [show (pdats1 X W Y 1 c).Φ 0 = Pipeline.scopedRest spec2 c from rfl]
    iintro ⟨-, -, Hr⟩; iexact Hr
  hout c := by
    rw [Pipeline.ownSems0_none, show (pdats1 X W Y 1 c).Φ (Fin.last _) = Pipeline.scopedRest spec2 c from rfl]
    iintro Hr
    isplitr; · iempintro
    isplitr; · iempintro
    iexact Hr
  hexit c := by
    rw [Pipeline.arrays_eq (Pipeline.pin (pcfgs (F := F)) adm) (pdats1 X W Y) 1 c launch2.arr_whole ((pdats1 X W Y 1 c).share_full fun _ => rfl)]
    erw [bigSep_W2]
    rw [show (pdats1 X W Y 1 c).arrAt 0 (Pipeline.pin (pcfgs (F := F)) adm 1).N = X from (dat1 X W Y c).arrAt_in 0 rfl _,
      show (pdats1 X W Y 1 c).arrAt 1 (Pipeline.pin (pcfgs (F := F)) adm 1).N = W from (dat1 X W Y c).arrAt_in 1 rfl _,
      show (pdats1 X W Y 1 c).arrAt 2 (Pipeline.pin (pcfgs (F := F)) adm 1).N = k2_pay1 X W from arr1 X W Y c]
    unfold Pipeline.Dat.owesAt Pipeline.owesWithin
    iintro ⟨⟨H0, H1, H2⟩, ⟨%W, %hW, HO⟩, -, -⟩
    imodintro
    isplitl [H0 H1 H2]
    · isplitl [H0]; · iexact H0
      isplitl [H1]; · iexact H1
      iexact H2
    iexists W
    isplitr
    · ipureintro
      intro p hp
      rcases hW hp with h | ⟨w, s, rfl⟩
      · exact h
      · exact le_of_eq_of_le (lev_dma c _) (by decide)
    iexact HO

theorem norm_region (c : Dev nD) {Q : PUnit → sProp 𝕄} :
    iprop(levAts (K (F := F)).L (K (F := F)).lev ∗ boundary (T c)
        ∗ ((L0 c main_v4_0 ↦{fullShare} X) ∗ (L0 c main_v4_1 ↦{fullShare} W) ∗ (L0 c main_v5 ↦{fullShare} Y)) ∗ owesB c 1 8
        ∗ Pipeline.cellsGhost (Pipeline.pin (pcfgs (F := F)) adm) EP 1 c ∗ Pipeline.toksInit (Pipeline.pin (pcfgs (F := F)) adm) EP 1 c)
      ⊢ iprop((boundary (T c) -∗ (L0 c main_v4_0 ↦{fullShare} X) -∗ (L0 c main_v4_1 ↦{fullShare} W) -∗ (L0 c main_v5 ↦{fullShare} k2_pay1 X W) -∗ owesB c 1 8 -∗ Q ⟨⟩)
        -∗ wp frame (wpE ((K (F := F)).defs D) 𝒱 (T c) none) Set.univ (Prog.lift (.customCall (SparseCore.inner (Pipeline.entry 1)) ())) Q) := by
  have h := Pipeline.RegionSeg.wp (pcfgs (F := F)) adm (pdats1 X W Y) none cellOf_inj EP defs₀ 𝒱₀ (K (F := F)).L (K (F := F)).lev (reg1 X W Y) c none
    (fun u h => nomatch h) (fun _ => .ret ⟨⟩) Q
  have h' := (K (F := F)).wp_liftProg D 𝒱 (T c) Set.univ none (.op (.customCall (Pipeline.entry 1) ()) fun _ => .ret ⟨⟩) Q
  iintro ⟨Hl, Hb, HA, HO, Hg, Ht⟩ Hk
  iapply (h.trans h')
  isplitl [Hk]
  · rw [wp_ret]
    rw [show (reg1 X W Y).post c = iprop(((L0 c main_v4_0 ↦{fullShare} X) ∗ (L0 c main_v4_1 ↦{fullShare} W) ∗ (L0 c main_v5 ↦{fullShare} k2_pay1 X W)) ∗ owesB c 1 8) from rfl]
    iintro ⟨Hb, ⟨H0, H1, H2⟩, HO⟩
    imodintro
    iapply Hk $$ Hb H0 H1 H2 HO
  isplitl [Hb]; · iexact Hb
  isplitl [HA HO]
  · rw [show (reg1 X W Y).pre c = iprop(((L0 c main_v4_0 ↦{fullShare} X) ∗ (L0 c main_v4_1 ↦{fullShare} W) ∗ (L0 c main_v5 ↦{fullShare} Y)) ∗ owesB c 1 8) from rfl]
    isplitl [HA]; · iexact HA
    iexact HO
  isplitl [Hl]; · iexact Hl
  isplitl [Hg]; · iexact Hg
  iexact Ht

end Cert.KernelIdeal.Own

end
-- ==== Proof.Task.lean ====
/- The tiles' tasks: what each is handed and hands back, and its body run from that. -/
module

public import proofs.«01_k».proof.Proof.TC2

@[expose] public section

noncomputable section

namespace Cert.KernelIdeal.Own

open Idealize.ShloMosaic Cert.KernelIdeal Cert.KernelIdeal.Gen
open Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

instance At_storable (c : Thread nD τ) {sp : Space} {s : Shape} {e : EltTy} (m : Memref sig c.2.kind sp s e) (q : PosShare TreeShare) (A : s.Idx → Elt F e) :
    BI.Storable (upEmb : UEmb _ 𝕄) (At c m q A) := by
  unfold At; infer_instance

/-! ## Whole buffers -/

theorem At_whole (c : Thread nD τ) (b : Ref sig c.2.kind) (q : PosShare TreeShare) (f : Buf (Elt F) (c.loc b)) :
    (At c (Memref.whole b) q f : sProp 𝕄) = (c.loc b ↦{q} f) := by
  have h : (At c (Memref.whole b) q f : sProp 𝕄) = iprop(∃ g : Buf (Elt F) (c.loc b), ⌜g = f⌝ ∗ (c.loc b ↦{q} g)) := by
    unfold At; rw [View.set_whole]; rfl
  rw [h]
  have h1 : (iprop(∃ g : Buf (Elt F) (c.loc b), ⌜g = f⌝ ∗ (c.loc b ↦{q} g)) : sProp 𝕄) ⊢ (c.loc b ↦{q} f) := by
    iintro ⟨%g, %hg, H⟩
    subst hg
    iexact H
  have h2 : (c.loc b ↦{q} f : sProp 𝕄) ⊢ iprop(∃ g : Buf (Elt F) (c.loc b), ⌜g = f⌝ ∗ (c.loc b ↦{q} g)) := by
    iintro H
    iexists f
    isplitr
    · ipureintro; rfl
    iexact H
  exact BI.Entails.antisymm h1 h2

/-! ## The tasks -/

/-- A task's place, from its SparseCore and its tile. -/
def cv (c : Fin (grid1.bound 0)) (s : Fin (grid1.bound 1)) : grid1.Coords :=
  fun | 0 => c | 1 => s | ⟨_ + 2, h⟩ => absurd h (Nat.not_lt.2 (Nat.le_add_left _ _))

variable (Xg : Dev nD → ℕ → ℕ → F .f32) (Bg : Dev nD → ℕ → BitVec 32) (Lg : Dev nD → ℕ → F .f32)

/-- A task's share of the arrays every task reads. -/
def shr (L : grid1.Coords) : PosShare TreeShare := Transfers.shareTokN fullShare (tid L)

/-- What a task is handed: its shares of the rows, the batches and the scores, and its rows of the two results. -/
def goP (d : Dev nD) (L : grid1.Coords) : sProp 𝕄 :=
  iprop(At (thr d L) (Memref.whole main_arg0_scv) (shr L) (of2 (Xg d) : S100000x128.Idx → Elt F .f32)
    ∗ At (thr d L) (Memref.whole main_arg1_scv) (shr L) (of1 (Bg d) : S100000.Idx → Elt F .i32)
    ∗ At (thr d L) (Memref.whole main_v3_scv) (shr L) (of1 (Lg d) : S100000.Idx → Elt F .f32)
    ∗ (∃ Y, At (thr d L) (O5 L (Memref.whole main_v4_0_scv)) fullShare Y) ∗ (∃ Y, At (thr d L) (O6 L (Memref.whole main_v4_1_scv)) fullShare Y))

/-- What it hands back: the shares, and its rows holding the tile's sums. -/
def tdP (d : Dev nD) (L : grid1.Coords) : sProp 𝕄 :=
  iprop(At (thr d L) (Memref.whole main_arg0_scv) (shr L) (of2 (Xg d) : S100000x128.Idx → Elt F .f32)
    ∗ At (thr d L) (Memref.whole main_arg1_scv) (shr L) (of1 (Bg d) : S100000.Idx → Elt F .i32)
    ∗ At (thr d L) (Memref.whole main_v3_scv) (shr L) (of1 (Lg d) : S100000.Idx → Elt F .f32)
    ∗ At (thr d L) (O5 L (Memref.whole main_v4_0_scv)) fullShare (fun y => numT L (Bg d) (Lg d) (Xg d) (y 1).val (y 2).val)
    ∗ At (thr d L) (O6 L (Memref.whole main_v4_1_scv)) fullShare (fun y => denT L (Bg d) (Lg d) (y 1).val))

instance goP_storable (d : Dev nD) (L : grid1.Coords) : BI.Storable (upEmb : UEmb _ 𝕄) (goP Xg Bg Lg d L) := by unfold goP; infer_instance
instance tdP_storable (d : Dev nD) (L : grid1.Coords) : BI.Storable (upEmb : UEmb _ 𝕄) (tdP Xg Bg Lg d L) := by unfold tdP; infer_instance

/-- What a SparseCore's tasks are handed, and hand back. -/
def stP (d : Dev nD) (c : Fin (grid1.bound 0)) : sProp 𝕄 := bigSep Finset.univ fun s : Fin (grid1.bound 1) => goP Xg Bg Lg d (cv c s)
def dnP (d : Dev nD) (c : Fin (grid1.bound 0)) : sProp 𝕄 := bigSep Finset.univ fun s : Fin (grid1.bound 1) => tdP Xg Bg Lg d (cv c s)

instance stP_storable (d : Dev nD) (c : Fin (grid1.bound 0)) : BI.Storable (upEmb : UEmb _ 𝕄) (stP Xg Bg Lg d c) := by unfold stP; infer_instance
instance dnP_storable (d : Dev nD) (c : Fin (grid1.bound 0)) : BI.Storable (upEmb : UEmb _ 𝕄) (dnP Xg Bg Lg d c) := by unfold dnP; infer_instance

attribute [irreducible] goP tdP stP dnP

theorem nSub_zero : (K (F := F)).nSub 0 = grid1.bound 1 := rfl
theorem nCore_zero : (K (F := F)).nCore 0 = grid1.bound 0 := rfl

def P : (K (F := F)).Pay (nD := nD) (Val := Elt F) (Name := ℕ) (U := UU) where
  st := fun q d c => match q with | 0 => stP Xg Bg Lg d (Fin.cast nCore_zero c)
  dn := fun q d c => match q with | 0 => dnP Xg Bg Lg d (Fin.cast nCore_zero c)
  go := fun q d c s => match q with | 0 => goP Xg Bg Lg d (cv (Fin.cast nCore_zero c) (Fin.cast nSub_zero s))
  td := fun q d c s => match q with | 0 => tdP Xg Bg Lg d (cv (Fin.cast nCore_zero c) (Fin.cast nSub_zero s))
  x := fun _ _ => iprop(emp)

instance P_storable : (P Xg Bg Lg).IsStorable where
  st q d c := match q with | 0 => stP_storable Xg Bg Lg d (Fin.cast nCore_zero c)
  dn q d c := match q with | 0 => dnP_storable Xg Bg Lg d (Fin.cast nCore_zero c)
  go q d c s := match q with | 0 => goP_storable Xg Bg Lg d (cv (Fin.cast nCore_zero c) (Fin.cast nSub_zero s))
  td q d c s := match q with | 0 => tdP_storable Xg Bg Lg d (cv (Fin.cast nCore_zero c) (Fin.cast nSub_zero s))

theorem bigSep_tasks (Φ : Fin (grid1.bound 1) → sProp 𝕄) :
    (bigSep Finset.univ fun i : Fin ((K (F := F)).nSub 0) => Φ (Fin.cast nSub_zero i)) = bigSep Finset.univ Φ :=
  bigSep_congr fun i _ => congrArg Φ (Fin.ext rfl)

theorem bigSep_self (A B : sProp 𝕄) : A ⊢ |={Set.univ}=> iprop(A ∗ (B -∗ B)) := by
  iintro H
  imodintro
  isplitl [H]; · iexact H
  iintro H
  iexact H

theorem P_st (d : Dev nD) (c : Fin ((K (F := F)).nCore 0)) : (P Xg Bg Lg).st 0 d c = stP Xg Bg Lg d (Fin.cast nCore_zero c) := rfl
theorem P_dn (d : Dev nD) (c : Fin ((K (F := F)).nCore 0)) : (P Xg Bg Lg).dn 0 d c = dnP Xg Bg Lg d (Fin.cast nCore_zero c) := rfl
theorem P_go (d : Dev nD) (c : Fin ((K (F := F)).nCore 0)) (s : Fin ((K (F := F)).nSub 0)) :
    (P Xg Bg Lg).go 0 d c s = goP Xg Bg Lg d (cv (Fin.cast nCore_zero c) (Fin.cast nSub_zero s)) := rfl
theorem P_td (d : Dev nD) (c : Fin ((K (F := F)).nCore 0)) (s : Fin ((K (F := F)).nSub 0)) :
    (P Xg Bg Lg).td 0 d c s = tdP Xg Bg Lg d (cv (Fin.cast nCore_zero c) (Fin.cast nSub_zero s)) := rfl

theorem vecSplit : (K (F := F)).VecSplit' (P Xg Bg Lg) 0 := by
  intro d c
  simp only [P_st, P_dn, P_go, P_td]
  rw [bigSep_tasks (F := F) (fun i => goP Xg Bg Lg d (cv (Fin.cast nCore_zero c) i)), bigSep_tasks (F := F) (fun i => tdP Xg Bg Lg d (cv (Fin.cast nCore_zero c) i))]
  unfold stP dnP
  exact bigSep_self _ _

/-! ## A tile's own buffers and counters -/

variable (d : Dev nD) (L : grid1.Coords)

def scr8 : Fin 8 → Ref sig .scVector := fun | 0 => cc1_scratch0 | 1 => cc1_scratch1 | 2 => cc1_scratch2 | 3 => cc1_scratch3 | 4 => cc1_scratch4 | 5 => cc1_scratch5 | 6 => cc1_scratch6 | 7 => cc1_scratch7
def sem8 : Fin 8 → DmaSem sig := fun | 0 => cc1_scratch8.sem | 1 => cc1_scoped0.sem | 2 => cc1_scoped1.sem | 3 => cc1_scoped2.sem | 4 => cc1_scoped3.sem | 5 => cc1_scoped4.sem | 6 => cc1_scoped5.sem | 7 => cc1_scoped6.sem

theorem scr8_inj : Function.Injective scr8 := by decide
theorem sem8_inj : Function.Injective sem8 := by decide

theorem univ8 : (Finset.univ : Finset (Fin 8)) = {0, 1, 2, 3, 4, 5, 6, 7} := by decide

theorem bigSep8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [univ8, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev cell8 (k : Fin 8) : GSem nD τ sig := (thr d L, .dma (sem8 k))

theorem cell8_mem (k : Fin 8) : cell8 d L k ∈ ownCells (thr d L) :=
  mem_ownCells.mpr ⟨rfl, (show ∀ s : DmaSem sig, (SemLoc.dma s : SemLoc sig).isScoped .scVector = true by decide) _⟩

/-- The counters the task names, at zero, and the rest. -/
theorem ownSems0_L :
    (ownSems0 (thr d L) : sProp 𝕄)
      = iprop(Sms L cc1_scratch8 cc1_scoped0 cc1_scoped1 cc1_scoped2 cc1_scoped3 cc1_scoped4 cc1_scoped5 cc1_scoped6 d ∗ bigSep (ownCells (thr d L) \ Finset.univ.image (cell8 d L)) fun g => semVal g 0) := by
  unfold ownSems0
  rw [SparseCore.bigSep_sdiff_split' (t := Finset.univ.image (cell8 d L)) (Finset.image_subset_iff.mpr fun k _ => cell8_mem d L k),
    SparseCore.bigSep_image_of_injOn (fun a _ b _ h => by
      have := congrArg (fun g : GSem nD τ sig => g.2) h
      simp only [SemLoc.dma.injEq] at this; exact sem8_inj this), bigSep8]
  rfl

abbrev buf8 (k : Fin 8) : DevRef τ sig := (thr d L).2.devRef (scr8 k)

theorem buf8_owner (k : Fin 8) : (buf8 d L k).owner = Owner.proc (thr d L).2 := by
  fin_cases k <;> rfl

/-- The task's scratch buffers, and the rest of the tile's own. -/
theorem ownBufs_L :
    (ownBufs (thr d L) : sProp 𝕄)
      = iprop(Scr L (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) d ∗ bigSep (ownRefs (τ := τ) (sig := sig) (thr d L).2 \ Finset.univ.image (buf8 d L)) fun b => iprop(∃ f, ((d, b) : Loc nD τ sig) ↦{fullShare} f)) := by
  unfold ownBufs Scr
  rw [SparseCore.bigSep_sdiff_split' (t := Finset.univ.image (buf8 d L)) (Finset.image_subset_iff.mpr fun k _ => SparseCore.Cfg.mem_ownRefs_of_owner (p := (thr d L).2) (b := buf8 d L k) (buf8_owner d L k)),
    SparseCore.bigSep_image_of_injOn (fun a _ b _ h => scr8_inj (Proc.devRef_injective _ h)), bigSep8]
  simp only [At_whole]
  rfl

/-! ## The task's body -/

theorem tile_body (hB : ∀ d r, r < 100000 → (Bg d r).toNat < 256) (O : CellTallies nD τ sig (HIx 1)) (W : Waits sig (HIx 1)) (hO : ∀ g, O g none = 0) :
    iprop(levAts (K (F := F)).L (K (F := F)).lev ∗ (emp : sProp 𝕄) ∗ goP Xg Bg Lg d L ∗ scopedBufs (thr d L) ∗ scopedSems0 (thr d L) ∗ owes (thr d L) O W)
      ⊢ wp frame (wpE (defs₀ (F := F)) 𝒱₀ (thr d L) none) Set.univ
          (cc1__sc_body L (Memref.whole main_arg0_scv) (Memref.isWhole_whole _) (Memref.whole main_arg1_scv) (Memref.isWhole_whole _) (Memref.whole main_v3_scv) (Memref.isWhole_whole _) (Memref.whole main_v4_0_scv) (Memref.isWhole_whole _) (Memref.whole main_v4_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scoped0 cc1_scoped1 cc1_scoped2 cc1_scoped3 cc1_scoped4 cc1_scoped5 cc1_scoped6)
          fun _ => iprop(tdP Xg Bg Lg d L ∗ scopedBufs (thr d L) ∗ scopedSems0 (thr d L)
            ∗ ∃ W', ⌜∀ p ∈ W', p ∈ W ∨ p.2 = none ∨ p.2 = some 0⌝ ∗ owes (thr d L) O W') := by
  rw [(K (F := F)).scopedBufs_V facts d ((L 0).castLE hcore1) ((L 1).castLE hsub1), SparseCore.Cfg.scopedSems0_V (Val := Elt F) d ((L 0).castLE hcore1) ((L 1).castLE hsub1),
    ownSems0_L, ownBufs_L]
  unfold goP tdP
  iintro ⟨Hlv, -, ⟨H2, H3, H4, ⟨%Y5, H5⟩, ⟨%Y6, H6⟩⟩, ⟨Hscr, Hbufs⟩, ⟨Hsms, Hsems⟩, HO⟩
  ihave Hmw := (show levAts (K (F := F)).L (K (F := F)).lev ⊢ Transfers.MayWaits (thr d L) (none : HIx 1) O from (K (F := F)).mayWaits_none (thr := thr d L) hO) $$ Hlv
  iapply (body_wp (bd := none) L (Memref.whole main_arg0_scv) (Memref.isWhole_whole _) (Memref.whole main_arg1_scv) (Memref.isWhole_whole _) (Memref.whole main_v3_scv) (Memref.isWhole_whole _) (Memref.whole main_v4_0_scv) (Memref.isWhole_whole _) (Memref.whole main_v4_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scoped0 cc1_scoped1 cc1_scoped2 cc1_scoped3 cc1_scoped4 cc1_scoped5 cc1_scoped6 d (none : HIx 1) (O := O) (W := W) (shr L) (shr L) (shr L) (Bg d) (Lg d) (Xg d) (hB d) Y5 Y6) $$ [H2 H3 H4 H5 H6 Hscr Hsms Hmw HO]
  · isplitl [H2]; · iexact H2
    isplitl [H3]; · iexact H3
    isplitl [H4]; · iexact H4
    isplitl [H5]; · iexact H5
    isplitl [H6]; · iexact H6
    isplitl [Hscr]; · iexact Hscr
    isplitl [Hsms]; · iexact Hsms
    unfold Ow
    isplitl [Hmw]; · iexact Hmw
    iexists W
    isplitr
    · ipureintro; exact fun p hp => Or.inl hp
    iexact HO
  iintro H2 H3 H4 H5 H6 Hscr Hsms HOw
  unfold Ow
  icases HOw with ⟨-, %W', %hW', HO⟩
  isplitl [H2 H3 H4 H5 H6]
  · isplitl [H2]; · iexact H2
    isplitl [H3]; · iexact H3
    isplitl [H4]; · iexact H4
    isplitl [H5]; · iexact H5
    iexact H6
  isplitl [Hscr Hbufs]
  · isplitl [Hscr]; · iexact Hscr
    iexact Hbufs
  isplitl [Hsms Hsems]
  · isplitl [Hsms]; · iexact Hsms
    iexact Hsems
  iexists W'
  isplitr
  · ipureintro
    intro p hp
    rcases hW' p hp with h | h
    · exact Or.inl h
    · exact Or.inr (Or.inl h)
  iexact HO

theorem defs₀_vector (c : Fin τ.nSC) (s : Fin τ.nSub) :
    defs₀ (F := F) (.scVector c s) 1 ()
      = SparseCore.onTile hcore1 hsub1 (fun c s => cc1__sc_body (cv c s) (Memref.whole main_arg0_scv) (Memref.isWhole_whole _) (Memref.whole main_arg1_scv) (Memref.isWhole_whole _) (Memref.whole main_v3_scv) (Memref.isWhole_whole _) (Memref.whole main_v4_0_scv) (Memref.isWhole_whole _) (Memref.whole main_v4_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scoped0 cc1_scoped1 cc1_scoped2 cc1_scoped3 cc1_scoped4 cc1_scoped5 cc1_scoped6) ⟨⟩ c s := rfl

theorem tileObl (hB : ∀ d r, r < 100000 → (Bg d r).toNat < 256) : (K (F := F)).TileObl (D (F := F)) 𝒱 (P Xg Bg Lg) v₀ 0 := by
  intro d c s O W hO _ _
  simp only [show (P Xg Bg Lg).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Xg Bg Lg d (cv ⟨_, hci.1⟩ ⟨_, hci.2⟩) hB O W hO

end Cert.KernelIdeal.Own

end
-- ==== Proof.Join.lean ====
/- The arrays the tasks share, split into the tasks' pieces and put together again. -/
module

public import proofs.«01_k».proof.Proof.Task

@[expose] public section

noncomputable section

namespace Cert.KernelIdeal.Own

open Idealize.ShloMosaic Cert.KernelIdeal Cert.KernelIdeal.Gen
open Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The tasks: a SparseCore and a tile. -/
abbrev Tk : Type := Fin (grid1.bound 0) × Fin (grid1.bound 1)
abbrev Lp (p : Tk) : grid1.Coords := cv p.1 p.2
/-- The task of a number below 32. -/
def pk (w : Fin 32) : Tk := (⟨w.val / 16, show w.val / 16 < 2 by omega⟩, ⟨w.val % 16, show w.val % 16 < 16 by omega⟩)

theorem tid_pk (w : Fin 32) : tid (Lp (pk w)) = w.val := by
  show 16 * (w.val / 16) + w.val % 16 = w.val
  omega

theorem tid_Lp_inj : Function.Injective fun p : Tk => tid (Lp p) := by
  intro p p' h
  have h' : 16 * p.1.val + p.2.val = 16 * p'.1.val + p'.2.val := h
  have h1 : p.2.val < 16 := p.2.isLt
  have h2 : p'.2.val < 16 := p'.2.isLt
  exact Prod.ext (Fin.ext (by omega)) (Fin.ext (by omega))

theorem tids : (Finset.univ : Finset Tk).image (fun p => tid (Lp p)) = Finset.range 32 := by
  ext w
  simp only [Finset.mem_image, Finset.mem_univ, true_and, Finset.mem_range]
  constructor
  · rintro ⟨p, rfl⟩; exact tid_lt _
  · intro h; exact ⟨pk ⟨w, h⟩, tid_pk ⟨w, h⟩⟩

/-- An array every task reads, as the tasks' shares of it and what is left over. -/
theorem shares (ℓ : Loc nD τ sig) (f : Buf (Elt F) ℓ) :
    (ℓ ↦{fullShare} f : sProp 𝕄) = iprop((ℓ ↦{Transfers.shareDrop fullShare 32} f) ∗ bigSep Finset.univ fun p : Tk => ℓ ↦{shr (Lp p)} f) := by
  rw [BI.Entails.antisymm (Transfers.pointsTo_toks_range (ℓ := ℓ) (S := Finset.univ) (f := f) fullShare 32).1 (Transfers.pointsTo_toks_range (ℓ := ℓ) (S := Finset.univ) (f := f) fullShare 32).2,
    ← tids, SparseCore.bigSep_image_of_injOn (fun a _ b _ h => tid_Lp_inj h)]
  rfl

theorem off1390_0 : ∀ p, k1_off1390 (Lp p) 0 = tid (Lp p) := by decide +kernel
theorem off1390_1 : ∀ p, k1_off1390 (Lp p) 1 = 0 := by decide +kernel
theorem off1390_2 : ∀ p, k1_off1390 (Lp p) 2 = 0 := by decide +kernel

/-- A task's part of the 5 array of sums. -/
def S5 (d : Dev nD) (p : Tk) : Finset (Idx (L0 d main_v4_0)) := (O5 (Lp p) (Memref.whole main_v4_0_scv)).view.set

theorem mem_S5 (d : Dev nD) (p : Tk) (y : S32x256x128.Idx) : y ∈ S5 d p ↔ (y 0).val = tid (Lp p) := by
  have e : S5 d p = (Rect.unit (s := S32x256x128) (k1_off1390 (Lp p)) S1x256x128.size (k1_off1390_inb (Lp p))).set := by
    show ((View.whole (main_v4_0_scv : Ref sig .scVector)).slice (Rect.unit (s := S32x256x128) (k1_off1390 (Lp p)) S1x256x128.size (k1_off1390_inb (Lp p)))).set = _
    rw [View.set_slice]; exact Finset.map_refl
  rw [e, Rect.mem_set_unit]
  constructor
  · intro h
    have h0 := h 0
    have h1 : k1_off1390 (Lp p) 0 ≤ (y 0).val ∧ (y 0).val < k1_off1390 (Lp p) 0 + 1 := h0
    rw [off1390_0] at h1
    omega
  · intro h a
    match a with
    | ⟨0, _⟩ =>
      show k1_off1390 (Lp p) 0 ≤ (y 0).val ∧ (y 0).val < k1_off1390 (Lp p) 0 + 1
      rw [off1390_0]; omega
    | ⟨1, _⟩ =>
      show k1_off1390 (Lp p) 1 ≤ (y 1).val ∧ (y 1).val < k1_off1390 (Lp p) 1 + 256
      rw [off1390_1]
      have h : (y 1).val < 256 := (y 1).isLt
      omega
    | ⟨2, _⟩ =>
      show k1_off1390 (Lp p) 2 ≤ (y 2).val ∧ (y 2).val < k1_off1390 (Lp p) 2 + 128
      rw [off1390_2]
      have h : (y 2).val < 128 := (y 2).isLt
      omega

theorem S5_disj (d : Dev nD) : ∀ p ∈ (Finset.univ : Finset Tk), ∀ p' ∈ (Finset.univ : Finset Tk), p ≠ p' → Disjoint (S5 d p) (S5 d p') := by
  intro p _ p' _ h
  rw [Finset.disjoint_left]
  intro y hy hy'
  exact h (tid_Lp_inj (((mem_S5 d p y).1 hy).symm.trans ((mem_S5 d p' y).1 hy')))

theorem S5_cover (d : Dev nD) : (Finset.univ : Finset Tk).biUnion (S5 d) = Finset.univ := by
  refine Finset.eq_univ_of_forall fun y => Finset.mem_biUnion.mpr ?_
  have hy : ((y : S32x256x128.Idx) 0).val < 32 := ((y : S32x256x128.Idx) 0).isLt
  exact ⟨pk ⟨_, hy⟩, Finset.mem_univ _, (mem_S5 d _ y).2 (tid_pk ⟨_, hy⟩).symm⟩

theorem at_S5 (d : Dev nD) (f : Buf (Elt F) (L0 d main_v4_0)) :
    (L0 d main_v4_0 ↦{fullShare} f : sProp 𝕄) = bigSep Finset.univ fun p : Tk => L0 d main_v4_0 ↦[S5 d p]{fullShare} f := by
  rw [← pointsTo_biUnion Finset.univ (ℓ := L0 d main_v4_0) (S5 d) (S5_disj d), S5_cover]; try rfl

theorem split5 (d : Dev nD) (f : Buf (Elt F) (L0 d main_v4_0)) :
    (L0 d main_v4_0 ↦{fullShare} f : sProp 𝕄) ⊢ bigSep Finset.univ fun p : Tk => iprop(∃ Y, At (thr d (Lp p)) (O5 (Lp p) (Memref.whole main_v4_0_scv)) fullShare Y) := by
  rw [at_S5]
  refine bigSep_mono fun p _ => ?_
  show (_ : sProp 𝕄) ⊢ _
  iintro H
  iexists (O5 (Lp p) (Memref.whole main_v4_0_scv)).view.read (Elt F) f
  unfold At
  iexists f
  isplitr
  · ipureintro; rfl
  iexact H

theorem piece5 (d : Dev nD) (p : Tk) (G : S32x256x128.Idx → Elt F .f32) (Y : S1x256x128.Idx → Elt F .f32)
    (h : ∀ z, G ((Rect.unit (s := S32x256x128) (k1_off1390 (Lp p)) S1x256x128.size (k1_off1390_inb (Lp p))).emb z) = Y z) :
    (At (thr d (Lp p)) (O5 (Lp p) (Memref.whole main_v4_0_scv)) fullShare Y : sProp 𝕄) ⊢ (L0 d main_v4_0 ↦[S5 d p]{fullShare} G) := by
  unfold At
  iintro ⟨%f, %hf, H⟩
  rw [pointsTo_congr (ℓ := L0 d main_v4_0) (I := S5 d p) (f := G) (g := f) (fun i hi => by
    obtain ⟨z, -, rfl⟩ := Finset.mem_map.mp hi
    exact (h z).trans (congrFun hf z).symm)]
  iexact H

theorem off1391_0 : ∀ p, k1_off1391 (Lp p) 0 = tid (Lp p) := by decide +kernel
theorem off1391_1 : ∀ p, k1_off1391 (Lp p) 1 = 0 := by decide +kernel

/-- A task's part of the 6 array of sums. -/
def S6 (d : Dev nD) (p : Tk) : Finset (Idx (L0 d main_v4_1)) := (O6 (Lp p) (Memref.whole main_v4_1_scv)).view.set

theorem mem_S6 (d : Dev nD) (p : Tk) (y : S32x256.Idx) : y ∈ S6 d p ↔ (y 0).val = tid (Lp p) := by
  have e : S6 d p = (Rect.unit (s := S32x256) (k1_off1391 (Lp p)) S1x256.size (k1_off1391_inb (Lp p))).set := by
    show ((View.whole (main_v4_1_scv : Ref sig .scVector)).slice (Rect.unit (s := S32x256) (k1_off1391 (Lp p)) S1x256.size (k1_off1391_inb (Lp p)))).set = _
    rw [View.set_slice]; exact Finset.map_refl
  rw [e, Rect.mem_set_unit]
  constructor
  · intro h
    have h0 := h 0
    have h1 : k1_off1391 (Lp p) 0 ≤ (y 0).val ∧ (y 0).val < k1_off1391 (Lp p) 0 + 1 := h0
    rw [off1391_0] at h1
    omega
  · intro h a
    match a with
    | ⟨0, _⟩ =>
      show k1_off1391 (Lp p) 0 ≤ (y 0).val ∧ (y 0).val < k1_off1391 (Lp p) 0 + 1
      rw [off1391_0]; omega
    | ⟨1, _⟩ =>
      show k1_off1391 (Lp p) 1 ≤ (y 1).val ∧ (y 1).val < k1_off1391 (Lp p) 1 + 256
      rw [off1391_1]
      have h : (y 1).val < 256 := (y 1).isLt
      omega

theorem S6_disj (d : Dev nD) : ∀ p ∈ (Finset.univ : Finset Tk), ∀ p' ∈ (Finset.univ : Finset Tk), p ≠ p' → Disjoint (S6 d p) (S6 d p') := by
  intro p _ p' _ h
  rw [Finset.disjoint_left]
  intro y hy hy'
  exact h (tid_Lp_inj (((mem_S6 d p y).1 hy).symm.trans ((mem_S6 d p' y).1 hy')))

theorem S6_cover (d : Dev nD) : (Finset.univ : Finset Tk).biUnion (S6 d) = Finset.univ := by
  refine Finset.eq_univ_of_forall fun y => Finset.mem_biUnion.mpr ?_
  have hy : ((y : S32x256.Idx) 0).val < 32 := ((y : S32x256.Idx) 0).isLt
  exact ⟨pk ⟨_, hy⟩, Finset.mem_univ _, (mem_S6 d _ y).2 (tid_pk ⟨_, hy⟩).symm⟩

theorem at_S6 (d : Dev nD) (f : Buf (Elt F) (L0 d main_v4_1)) :
    (L0 d main_v4_1 ↦{fullShare} f : sProp 𝕄) = bigSep Finset.univ fun p : Tk => L0 d main_v4_1 ↦[S6 d p]{fullShare} f := by
  rw [← pointsTo_biUnion Finset.univ (ℓ := L0 d main_v4_1) (S6 d) (S6_disj d), S6_cover]; try rfl

theorem split6 (d : Dev nD) (f : Buf (Elt F) (L0 d main_v4_1)) :
    (L0 d main_v4_1 ↦{fullShare} f : sProp 𝕄) ⊢ bigSep Finset.univ fun p : Tk => iprop(∃ Y, At (thr d (Lp p)) (O6 (Lp p) (Memref.whole main_v4_1_scv)) fullShare Y) := by
  rw [at_S6]
  refine bigSep_mono fun p _ => ?_
  show (_ : sProp 𝕄) ⊢ _
  iintro H
  iexists (O6 (Lp p) (Memref.whole main_v4_1_scv)).view.read (Elt F) f
  unfold At
  iexists f
  isplitr
  · ipureintro; rfl
  iexact H

theorem piece6 (d : Dev nD) (p : Tk) (G : S32x256.Idx → Elt F .f32) (Y : S1x256.Idx → Elt F .f32)
    (h : ∀ z, G ((Rect.unit (s := S32x256) (k1_off1391 (Lp p)) S1x256.size (k1_off1391_inb (Lp p))).emb z) = Y z) :
    (At (thr d (Lp p)) (O6 (Lp p) (Memref.whole main_v4_1_scv)) fullShare Y : sProp 𝕄) ⊢ (L0 d main_v4_1 ↦[S6 d p]{fullShare} G) := by
  unfold At
  iintro ⟨%f, %hf, H⟩
  rw [pointsTo_congr (ℓ := L0 d main_v4_1) (I := S6 d p) (f := G) (g := f) (fun i hi => by
    obtain ⟨z, -, rfl⟩ := Finset.mem_map.mp hi
    exact (h z).trans (congrFun hf z).symm)]
  iexact H

end Cert.KernelIdeal.Own

end
-- ==== Proof.Launch.lean ====
/- The program on the TensorCore, and the launch: the run over any float values. -/
module

public import proofs.«01_k».proof.Proof.Join

@[expose] public section

noncomputable section

namespace Cert.KernelIdeal.Own

open Idealize.ShloMosaic Cert.KernelIdeal Cert.KernelIdeal.Gen
open Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

open Idealize.ShloMosaic.StableHlo (held wp_hlo_within)

variable {F : FTy → Type} [FloatOps F]

local notation "𝕄" => MT nD τ sig (HIx 1) (Elt F) ℕ UU ℕ

/-! ## The values -/

variable (m : (ℓ : Loc nD τ sig) → Buf (Elt F) ℓ) (ρ : Dev nD → PrngReg)

def xA (d : Dev nD) : S100000x128.Idx → F .f32 := m (L0 d main_arg0)
def bA (d : Dev nD) : S100000.Idx → BitVec 32 := m (L0 d main_arg1)
/-- The weights as a column, the offset as a matrix, the scores as a column and as a list. -/
def wA (d : Dev nD) : S128x1.Idx → F .f32 := shapeCast S128x1 (m (L0 d main_arg2) : S128.Idx → F .f32) shapeCasts_S128_S128x1
def oA (d : Dev nD) : S1x1.Idx → F .f32 := shapeCast S1x1 (m (L0 d main_arg3) : S1.Idx → F .f32) shapeCasts_S1_S1x1
def sA (d : Dev nD) : S100000x1.Idx → F .f32 := out0 (xA m d) (wA m d) (oA m d)
def lA (d : Dev nD) : S100000.Idx → F .f32 := shapeCast S100000 (sA m d) shapeCasts_S100000x1_S100000

def zf (d : Dev nD) : F .f32 := xA m d (at2 0 0 (by decide) (by decide))
def Xg (d : Dev nD) : ℕ → ℕ → F .f32 := un2 (xA m d) (zf m d)
def Bg (d : Dev nD) : ℕ → BitVec 32 := un1 (bA m d) 0#32
def Lg (d : Dev nD) : ℕ → F .f32 := un1 (lA m d) (zf m d)

/-- The tiles' sums, tile by tile. -/
def nA (d : Dev nD) : S32x256x128.Idx → F .f32 := fun y => numT (Lp (pk (y 0))) (Bg m d) (Lg m d) (Xg m d) (y 1).val (y 2).val
def dA (d : Dev nD) : S32x256.Idx → F .f32 := fun y => denT (Lp (pk (y 0))) (Bg m d) (Lg m d) (y 1).val
/-- The result. -/
def rA (d : Dev nD) : S256x128.Idx → F .f32 := k2_pay1 (nA m d) (dA m d)

/-- Every batch number is below 256. -/
def PreOK : Prop := ∀ d (y : S100000.Idx), (bA m d y).toNat < 256

theorem hB_of (h : PreOK m) : ∀ d r, r < 100000 → (Bg m d r).toNat < 256 := by
  intro d r hr
  unfold Bg
  rw [un1_eq _ _ _ hr]
  exact h d _

theorem pk_tid (p : Tk) (w : Fin 32) (h : w.val = tid (Lp p)) : pk w = p :=
  tid_Lp_inj ((tid_pk w).trans h)

/-! ## What the call takes and gives -/

abbrev PP : (K (F := F)).Pay (nD := nD) (Val := Elt F) (Name := ℕ) (U := UU) := P (Xg m) (Bg m) (Lg m)

theorem bigSep_cores (Φ : Fin (grid1.bound 0) → sProp 𝕄) :
    (bigSep Finset.univ fun c : Fin ((K (F := F)).nCore 0) => Φ (Fin.cast nCore_zero c)) = bigSep Finset.univ Φ :=
  bigSep_congr fun i _ => congrArg Φ (Fin.ext rfl)

theorem st_eq (d : Dev nD) : (bigSep Finset.univ fun c : Fin ((K (F := F)).nCore 0) => (PP m).st 0 d c)
    = bigSep Finset.univ fun p : Tk => goP (Xg m) (Bg m) (Lg m) d (Lp p) := by
  simp only [P_st]
  rw [bigSep_cores (F := F) (fun c => stP (Xg m) (Bg m) (Lg m) d c), BI.bigSep_univ_prod]
  refine bigSep_congr fun c _ => ?_
  unfold stP
  rfl
theorem dn_eq (d : Dev nD) : (bigSep Finset.univ fun c : Fin ((K (F := F)).nCore 0) => (PP m).dn 0 d c)
    = bigSep Finset.univ fun p : Tk => tdP (Xg m) (Bg m) (Lg m) d (Lp p) := by
  simp only [P_dn]
  rw [bigSep_cores (F := F) (fun c => dnP (Xg m) (Bg m) (Lg m) d c), BI.bigSep_univ_prod]
  refine bigSep_congr fun c _ => ?_
  unfold dnP
  rfl

/-- What is left of an array every task reads while they read it. -/
def lft (ℓ : Loc nD τ sig) (f : Buf (Elt F) ℓ) : sProp 𝕄 := ℓ ↦{Transfers.shareDrop fullShare 32} f

theorem give (d : Dev nD) (Y0 : Buf (Elt F) (L0 d main_v4_0)) (Y1 : Buf (Elt F) (L0 d main_v4_1)) :
    (iprop((L0 d main_arg0 ↦{fullShare} xA m d) ∗ (L0 d main_arg1 ↦{fullShare} bA m d) ∗ (L0 d main_v3 ↦{fullShare} lA m d)
        ∗ (L0 d main_v4_0 ↦{fullShare} Y0) ∗ (L0 d main_v4_1 ↦{fullShare} Y1)) : sProp 𝕄)
      ⊢ iprop((lft (L0 d main_arg0) (xA m d) ∗ lft (L0 d main_arg1) (bA m d) ∗ lft (L0 d main_v3) (lA m d))
        ∗ bigSep Finset.univ fun p : Tk => goP (Xg m) (Bg m) (Lg m) d (Lp p)) := by
  rw [shares (L0 d main_arg0), shares (L0 d main_arg1), shares (L0 d main_v3)]
  unfold goP
  simp only [At_whole]
  rw [bigSep_sep', bigSep_sep', bigSep_sep', bigSep_sep']
  unfold Xg Bg Lg
  simp only [of2_un2, of1_un1]
  unfold lft
  iintro ⟨⟨H0, B0⟩, ⟨H1, B1⟩, ⟨H2, B2⟩, H5, H6⟩
  isplitl [H0 H1 H2]
  · isplitl [H0]; · iexact H0
    isplitl [H1]; · iexact H1
    iexact H2
  isplitl [B0]; · iexact B0
  isplitl [B1]; · iexact B1
  isplitl [B2]; · iexact B2
  isplitl [H5]
  · iapply (split5 d Y0)
    iexact H5
  iapply (split6 d Y1)
  iexact H6

theorem nA_emb (d : Dev nD) (p : Tk) (z : S1x256x128.Idx) :
    nA m d ((Rect.unit (s := S32x256x128) (k1_off1390 (Lp p)) S1x256x128.size (k1_off1390_inb (Lp p))).emb z)
      = numT (Lp p) (Bg m d) (Lg m d) (Xg m d) (z 1).val (z 2).val := by
  unfold nA
  have hz : (z 0).val < 1 := (z 0).isLt
  have key : ∀ (w : Tk) (a b : ℕ), w = p → a = (z 1).val → b = (z 2).val → numT (Lp w) (Bg m d) (Lg m d) (Xg m d) a b = numT (Lp p) (Bg m d) (Lg m d) (Xg m d) (z 1).val (z 2).val := by
    rintro _ _ _ rfl rfl rfl; rfl
  exact key _ _ _ (pk_tid p _ (by rw [unit_emb_val, off1390_0]; omega)) (by rw [unit_emb_val, off1390_1, Nat.zero_add]) (by rw [unit_emb_val, off1390_2, Nat.zero_add])

theorem dA_emb (d : Dev nD) (p : Tk) (z : S1x256.Idx) :
    dA m d ((Rect.unit (s := S32x256) (k1_off1391 (Lp p)) S1x256.size (k1_off1391_inb (Lp p))).emb z)
      = denT (Lp p) (Bg m d) (Lg m d) (z 1).val := by
  unfold dA
  have hz : (z 0).val < 1 := (z 0).isLt
  have key : ∀ (w : Tk) (a : ℕ), w = p → a = (z 1).val → denT (Lp w) (Bg m d) (Lg m d) a = denT (Lp p) (Bg m d) (Lg m d) (z 1).val := by
    rintro _ _ rfl rfl; rfl
  exact key _ _ (pk_tid p _ (by rw [unit_emb_val, off1391_0]; omega)) (by rw [unit_emb_val, off1391_1, Nat.zero_add])

theorem join5 (d : Dev nD) : (bigSep Finset.univ fun p : Tk => At (thr d (Lp p)) (O5 (Lp p) (Memref.whole main_v4_0_scv)) fullShare
      (fun y => numT (Lp p) (Bg m d) (Lg m d) (Xg m d) (y 1).val (y 2).val) : sProp 𝕄) ⊢ (L0 d main_v4_0 ↦{fullShare} nA m d) := by
  rw [at_S5]
  exact bigSep_mono fun p _ => piece5 d p (nA m d) _ (nA_emb m d p)

theorem join6 (d : Dev nD) : (bigSep Finset.univ fun p : Tk => At (thr d (Lp p)) (O6 (Lp p) (Memref.whole main_v4_1_scv)) fullShare
      (fun y => denT (Lp p) (Bg m d) (Lg m d) (y 1).val) : sProp 𝕄) ⊢ (L0 d main_v4_1 ↦{fullShare} dA m d) := by
  rw [at_S6]
  exact bigSep_mono fun p _ => piece6 d p (dA m d) _ (dA_emb m d p)

theorem take (d : Dev nD) :
    (iprop((lft (L0 d main_arg0) (xA m d) ∗ lft (L0 d main_arg1) (bA m d) ∗ lft (L0 d main_v3) (lA m d))
        ∗ bigSep Finset.univ fun p : Tk => tdP (Xg m) (Bg m) (Lg m) d (Lp p)) : sProp 𝕄)
      ⊢ iprop((L0 d main_arg0 ↦{fullShare} xA m d) ∗ (L0 d main_arg1 ↦{fullShare} bA m d) ∗ (L0 d main_v3 ↦{fullShare} lA m d)
        ∗ (L0 d main_v4_0 ↦{fullShare} nA m d) ∗ (L0 d main_v4_1 ↦{fullShare} dA m d)) := by
  have e0 : (of2 (Xg m d) : S100000x128.Idx → Elt F .f32) = xA m d := of2_un2 _ _
  have e1 : (of1 (Bg m d) : S100000.Idx → Elt F .i32) = bA m d := of1_un1 _ _
  have e2 : (of1 (Lg m d) : S100000.Idx → Elt F .f32) = lA m d := of1_un1 _ _
  rw [shares (L0 d main_arg0), shares (L0 d main_arg1), shares (L0 d main_v3)]
  unfold tdP
  simp only [e0, e1, e2]
  simp only [At_whole]
  rw [bigSep_sep', bigSep_sep', bigSep_sep', bigSep_sep']
  unfold lft
  iintro ⟨⟨H0, H1, H2⟩, B0, B1, B2, H5, H6⟩
  isplitl [H0 B0]
  · isplitl [H0]; · iexact H0
    iexact B0
  isplitl [H1 B1]
  · isplitl [H1]; · iexact H1
    iexact B1
  isplitl [H2 B2]
  · isplitl [H2]; · iexact H2
    iexact B2
  isplitl [H5]
  · iapply (join5 m d)
    iexact H5
  iapply (join6 m d)
  iexact H6

/-! ## The reshapes -/

include m in
theorem reshape_wp {Q : PUnit → sProp 𝕄} (x y : Ref sig .tc) (hxy : (Proc.devRef .tc x : DevRef τ sig) ≠ Proc.devRef .tc y) (he : x.ty.elt = y.ty.elt) (hn : x.ty.shape.ShapeCasts y.ty.shape)
    (hx : x.space ≠ .host ∧ (x : DevRef τ sig).isScoped = false) (hy : y.space ≠ .host ∧ (y : DevRef τ sig).isScoped = false)
    (d : Dev nD) (f : Buf (Elt F) (L0 d x)) (g : Buf (Elt F) (L0 d y)) :
    (iprop(boundary (T d) ∗ (L0 d x ↦{fullShare} f) ∗ (L0 d y ↦{fullShare} g)) : sProp 𝕄)
      ⊢ iprop((boundary (T d) -∗ (L0 d x ↦{fullShare} f) -∗ (L0 d y ↦{fullShare} fun i => he ▸ shapeCast y.ty.shape f hn i) -∗ Q ⟨⟩)
        -∗ wp frame (wpE ((K (F := F)).defs (D (F := F))) 𝒱 (T d) none) Set.univ
            (hlo rfl (StableHlo.reshape x y he hn hx hy) (fun _ => .ret ⟨⟩)) Q) := by
  let V : Valuation τ sig (Elt F) := Function.update (Function.update (fun b => m (d, b)) (Proc.devRef .tc x) f) (Proc.devRef .tc y) g
  have hVx : V (Proc.devRef .tc x) = f := (Function.update_of_ne hxy _ _).trans (Function.update_self _ _ _)
  have hVy : V (Proc.devRef .tc y) = g := Function.update_self _ _ _
  have hheld (W : Valuation τ sig (Elt F)) : (held (T d) {(Proc.devRef .tc x : DevRef τ sig), Proc.devRef .tc y} W : sProp 𝕄)
      = iprop((L0 d x ↦{fullShare} W (Proc.devRef .tc x)) ∗ (L0 d y ↦{fullShare} W (Proc.devRef .tc y))) := by
    unfold held
    rw [SparseCore.bigSep_insert' (by rw [Finset.mem_singleton]; exact hxy), bigSep_singleton]
  have hRx : (StableHlo.reshape x y he hn hx hy : HloOp τ sig (Elt F)).result V (Proc.devRef .tc x) = f :=
    (HloOp.result_of_not_mem _ V (by show _ ∉ ({_} : Finset (DevRef τ sig)); rw [Finset.mem_singleton]; exact hxy)).trans hVx
  have hRy : (StableHlo.reshape x y he hn hx hy : HloOp τ sig (Elt F)).result V (Proc.devRef .tc y) = fun i => he ▸ shapeCast y.ty.shape f hn i := by
    rw [StableHlo.reshape_result, hVx]
  have h := wp_hlo_within (defs := (K (F := F)).defs (D (F := F))) 𝒱 (T d) none Set.univ (hp := rfl) (op := (StableHlo.reshape x y he hn hx hy : HloOp τ sig (Elt F)))
    (k := fun _ => .ret ⟨⟩) (S := {(Proc.devRef .tc x : DevRef τ sig), Proc.devRef .tc y}) (Finset.Subset.refl _) (V := V) (Q := Q)
  rw [hheld, hheld, hVx, hVy, hRx, hRy, wp_ret] at h
  refine h.trans ?_
  iintro H Hk
  iapply H
  iintro ⟨Hb, Hx, Hy⟩
  imodintro
  iapply Hk $$ Hb Hx Hy

/-! ## The program on the TensorCore -/

theorem unscopedBufs_eq (d : Dev nD) (W : (b : Ref sig .tc) → Buf (Elt F) ((d.tc : Thread nD τ).loc b)) :
    (unscopedBufs d W : sProp 𝕄) = iprop((L0 d main_arg0 ↦{fullShare} W main_arg0) ∗ (L0 d main_arg1 ↦{fullShare} W main_arg1) ∗ (L0 d main_arg2 ↦{fullShare} W main_arg2) ∗ (L0 d main_arg3 ↦{fullShare} W main_arg3)
      ∗ (L0 d main_v0 ↦{fullShare} W main_v0) ∗ (L0 d main_v1 ↦{fullShare} W main_v1) ∗ (L0 d main_v2 ↦{fullShare} W main_v2) ∗ (L0 d main_v3 ↦{fullShare} W main_v3)
      ∗ (L0 d main_v4_0 ↦{fullShare} W main_v4_0) ∗ (L0 d main_v4_1 ↦{fullShare} W main_v4_1) ∗ (L0 d main_v5 ↦{fullShare} W main_v5)) := by
  unfold unscopedBufs
  rw [show (Finset.univ.filter fun b : Ref sig .tc => ¬ b.isScoped) = {main_arg0, main_arg1, main_arg2, main_arg3, main_v0, main_v1, main_v2, main_v3, main_v4_0, main_v4_1, main_v5} by decide,
    SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]

/-- The handshake state is what is owed and the rest. -/
theorem tcSt_ex0 (d : Dev nD) : ∃ R : sProp 𝕄, ((K (F := F)).tcSt EH d 0 : sProp 𝕄) = iprop(owesB d 0 0 ∗ R) := ⟨_, rfl⟩
theorem tcSt_ex1 (d : Dev nD) : ∃ R : sProp 𝕄, ((K (F := F)).tcSt EH d 1 : sProp 𝕄) = iprop(owesB d 1 8 ∗ R) := ⟨_, rfl⟩
def R0 (d : Dev nD) : sProp 𝕄 := (tcSt_ex0 (F := F) d).choose
def R1 (d : Dev nD) : sProp 𝕄 := (tcSt_ex1 (F := F) d).choose
theorem tcSt_0 (d : Dev nD) : ((K (F := F)).tcSt EH d 0 : sProp 𝕄) = iprop(owesB d 0 0 ∗ R0 d) := (tcSt_ex0 (F := F) d).choose_spec
theorem tcSt_1 (d : Dev nD) : ((K (F := F)).tcSt EH d 1 : sProp 𝕄) = iprop(owesB d 1 8 ∗ R1 d) := (tcSt_ex1 (F := F) d).choose_spec
theorem tcSt_0' (d : Dev nD) : ((K (F := F)).tcSt EH d (0 : Fin 1).val : sProp 𝕄) = iprop(owesB d 0 0 ∗ R0 d) := tcSt_0 d
theorem tcSt_1' (d : Dev nD) : ((K (F := F)).tcSt EH d ((0 : Fin 1).val + 1) : sProp 𝕄) = iprop(owesB d 1 8 ∗ R1 d) := tcSt_1 d

/-- What the pipelines' regions start from. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- What the program leaves: its arguments as they were, and the result. -/
def FIN (d : Dev nD) : sProp 𝕄 :=
  iprop((L0 d main_arg0 ↦{fullShare} m (L0 d main_arg0)) ∗ (L0 d main_arg1 ↦{fullShare} m (L0 d main_arg1)) ∗ (L0 d main_arg2 ↦{fullShare} m (L0 d main_arg2))
    ∗ (L0 d main_arg3 ↦{fullShare} m (L0 d main_arg3)) ∗ (L0 d main_v5 ↦{fullShare} rA m d))

set_option maxHeartbeats 1000000 in
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G FIN
  rw [unscopedBufs_eq, tcSt_0, tcSt_1]
  simp only [main, wp_bind, wp_pure]
  iintro ⟨#Hctx, ⟨HO, HR⟩, ⟨Hb, ⟨A0, A1, A2, A3, V0, V1, V2, V3, V40, V41, V5⟩, Hts, -⟩, ⟨⟨C0, T0⟩, ⟨C1, T1⟩⟩⟩
  ihave #Hlv := (SparseCore.Cfg.ctx_levAts κ) $$ Hctx
  iapply (reshape_wp m main_arg2 main_v0 (by decide) rfl shapeCasts_S128_S128x1 _ _ d (m (L0 d main_arg2)) (m (L0 d main_v0))) $$ [Hb A2 V0]
  · isplitl [Hb]; · iexact Hb
    isplitl [A2]; · iexact A2
    iexact V0
  iintro Hb A2 V0
  iapply (reshape_wp m main_arg3 main_v1 (by decide) rfl shapeCasts_S1_S1x1 _ _ d (m (L0 d main_arg3)) (m (L0 d main_v1))) $$ [Hb A3 V1]
  · isplitl [Hb]; · iexact Hb
    isplitl [A3]; · iexact A3
    iexact V1
  iintro Hb A3 V1
  iapply (logits_region (xA m d) (wA m d) (oA m d) (m (L0 d main_v2)) d) $$ [Hb A0 V0 V1 V2 HO C0 T0]
  · isplitr; · iexact Hlv
    isplitl [Hb]; · iexact Hb
    isplitl [A0 V0 V1 V2]
    · isplitl [A0]; · iexact A0
      isplitl [V0]; · iexact V0
      isplitl [V1]; · iexact V1
      iexact V2
    isplitl [HO]; · iexact HO
    isplitl [C0]; · iexact C0
    iexact T0
  iintro Hb A0 V0 V1 V2 HO
  iapply (reshape_wp m main_v2 main_v3 (by decide) rfl shapeCasts_S100000x1_S100000 _ _ d (sA m d) (m (L0 d main_v3))) $$ [Hb V2 V3]
  · isplitl [Hb]; · iexact Hb
    isplitl [V2]; · iexact V2
    iexact V3
  iintro Hb V2 V3
  ihave HG := (give m d (m (L0 d main_v4_0)) (m (L0 d main_v4_1))) $$ [A0 A1 V3 V40 V41]
  · isplitl [A0]; · iexact A0
    isplitl [A1]; · iexact A1
    isplitl [V3]; · iexact V3
    isplitl [V40]; · iexact V40
    iexact V41
  icases HG with ⟨Hl, Hst⟩
  iapply ((K (F := F)).wp_run (D (F := F)) 𝒱 (EH := EH) (P := PP m) κ d 0)
  isplitr; · iexact Hctx
  isplitl [HO HR]
  · iapply (Entails.of_eq (tcSt_0' (F := F) d).symm)
    isplitl [HO]; · iexact HO
    iexact HR
  isplitl [Hst]
  · rw [st_eq]
    iexact Hst
  iintro ⟨Htc, Hdn⟩
  ihave Htc' := (Entails.of_eq (tcSt_1' (F := F) d)) $$ Htc
  icases Htc' with ⟨HO, HR⟩
  ihave Hdn' := (Entails.of_eq (dn_eq m d)) $$ Hdn
  ihave HT := (take m d) $$ [Hl Hdn']
  · isplitl [Hl]; · iexact Hl
    iexact Hdn'
  icases HT with ⟨A0, A1, V3, V40, V41⟩
  iapply (norm_region (nA m d) (dA m d) (m (L0 d main_v5)) d) $$ [Hb V40 V41 V5 HO C1 T1]
  · isplitr; · iexact Hlv
    isplitl [Hb]; · iexact Hb
    isplitl [V40 V41 V5]
    · isplitl [V40]; · iexact V40
      isplitl [V41]; · iexact V41
      iexact V5
    isplitl [HO]; · iexact HO
    isplitl [C1]; · iexact C1
    iexact T1
  iintro Hb V40 V41 V5 HO
  imodintro
  isplitl [HO HR]
  · isplitl [HO]; · iexact HO
    iexact HR
  isplitr [Hb Hts]
  · isplitl [A0]; · iexact A0
    isplitl [A1]; · iexact A1
    isplitl [A2]; · iexact A2
    isplitl [A3]; · iexact A3
    iexact V5
  isplitl [Hb]; · iexact Hb
  iexact Hts

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

theorem bigSep_emp' {I : Type} (s : Finset I) : (bigSep s fun _ => iprop(emp)) = (iprop(emp) : sProp 𝕄) := bigSep_emp_const s

theorem own_EP (a : UP) : (BI.own (embR ((a, (1 : Counters)) : UP × Counters)) : sProp 𝕄) ⊢ BI.own ((EP (F := F)) a) := by
  exact BI.Entails.refl _

theorem G_eq : (bigSep Finset.univ fun d : Dev nD => (G d : sProp 𝕄))
    = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) := by
  rw [← bigSep_sep']
  refine bigSep_congr fun d _ => ?_
  unfold G
  have h : ∀ A B C D : sProp 𝕄, iprop((A ∗ B) ∗ (C ∗ D)) = iprop((A ∗ C) ∗ (B ∗ D)) := by
    intro A B C D
    have h1 : ∀ A B C D : sProp 𝕄, iprop((A ∗ B) ∗ (C ∗ D)) ⊢ iprop((A ∗ C) ∗ (B ∗ D)) := by
      intro A B C D
      iintro ⟨⟨C0, T0⟩, ⟨C1, T1⟩⟩
      isplitl [C0 C1]
      · isplitl [C0]; · iexact C0
        iexact C1
      isplitl [T0]; · iexact T0
      iexact T1
    exact BI.Entails.antisymm (h1 A B C D) (h1 A C B D)
  rw [h]
  exact congrArg₂ (fun a b : sProp 𝕄 => iprop(a ∗ b)) (bigSep_fin_two fun p => Pipeline.cellsGhost (Pipeline.pin (pcfgs (F := F)) adm) EP p d).symm
    (bigSep_fin_two fun p => (Pipeline.toksInit (Pipeline.pin (pcfgs (F := F)) adm) EP p d : sProp 𝕄)).symm

theorem hu₀ : (ownU (u₀ (F := F)) : sProp 𝕄)
    ⊢ |={Set.univ}=> iprop(BI.own ((EH (F := F)) (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  rw [G_eq]
  iintro Hu
  ihave H := (ownU_pair _ _) $$ Hu
  icases H with ⟨HH, HP⟩
  ihave HP' := (own_EP (F := F) _) $$ HP
  imod (Pipeline.fund_ghost (Pipeline.pin (pcfgs (F := F)) adm) EP cellOf_inj) $$ HP' with HG
  imodintro
  isplitl [HH]; · iexact HH
  isplitl [HG]; · iexact HG
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_emp']
  iempintro

/-! ## The run -/

def fq (d : Dev nD) (s' : Phys nD τ sig (Elt F)) : Prop :=
  s'.mem.mem (L0 d main_arg0) = m (L0 d main_arg0) ∧ s'.mem.mem (L0 d main_arg1) = m (L0 d main_arg1) ∧ s'.mem.mem (L0 d main_arg2) = m (L0 d main_arg2)
    ∧ s'.mem.mem (L0 d main_arg3) = m (L0 d main_arg3) ∧ s'.mem.mem (L0 d main_v5) = rA m d

theorem agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h1, HSI, -⟩
  isplitr
  · ipureintro
    exact funext fun (i : Idx ℓ) => h1 i (by simp)
  iexact HSI

theorem hfin (d : Dev nD) (s' : Phys nD τ sig (Elt F)) : iprop(FIN m d ∗ SI s') ⊢ (⌜fq m d s'⌝ : sProp 𝕄) := by
  unfold FIN
  iintro ⟨⟨A0, A1, A2, A3, V5⟩, HSI⟩
  ihave H := (agree s' _ _) $$ [HSI A0]
  · isplitl [HSI] <;> iassumption
  icases H with ⟨%h0, HSI⟩
  ihave H := (agree s' _ _) $$ [HSI A1]
  · isplitl [HSI] <;> iassumption
  icases H with ⟨%h1, HSI⟩
  ihave H := (agree s' _ _) $$ [HSI A2]
  · isplitl [HSI] <;> iassumption
  icases H with ⟨%h2, HSI⟩
  ihave H := (agree s' _ _) $$ [HSI A3]
  · isplitl [HSI] <;> iassumption
  icases H with ⟨%h3, HSI⟩
  ihave H := (agree s' _ _) $$ [HSI V5]
  · isplitl [HSI] <;> iassumption
  icases H with ⟨%h5, HSI⟩
  ipureintro
  exact ⟨h0, h1, h2, h3, h5⟩

def QC : PUnit × MemSt nD τ sig (Elt F) → Prop := fun r =>
  (∀ c : Dev nD, r.2.mem (L0 c main_arg0) = m (L0 c main_arg0) ∧ r.2.mem (L0 c main_arg1) = m (L0 c main_arg1) ∧ r.2.mem (L0 c main_arg2) = m (L0 c main_arg2)
    ∧ r.2.mem (L0 c main_arg3) = m (L0 c main_arg3) ∧ r.2.mem (L0 c main_v5) = rA m c) ∧ r.2.sem = fun _ => 0

/-- The run: from any memory whose batch numbers are in range and zero counters, the program ends, its arguments as they were, the result at its value, every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Xg m) (Bg m) (Lg m) (hB_of m hpre))
    (fun q _ => match q with | 0 => SparseCore.Cfg.VecSplit.of_plain (vecSplit (Xg m) (Bg m) (Lg m)))
    m ρ main G (FIN m) (u₀ (F := F)) (sep_elim_left.trans (hu₀ m)) (hmain m ρ) (fq m) (hfin m) (QC m) (fun _ h hz => ⟨h, hz⟩)

end Cert.KernelIdeal.Own

end
-- ==== Proof.MathK.lean ====
/- The kernel's sums over the extended reals: each tile's sums of weights and of weighted rows, batch by batch, and
   their totals over the tiles, as sums over all rows. -/
module

public import proofs.«01_k».proof.Proof.Launch
public import Idealize.ShloMosaic.PureOps.Ideal.Laws
public import Idealize.ShloMosaic.Lib.Pointwise.Tactic
public import Idealize.ShloMosaic.Lib.ValueIdx

@[expose] public section

noncomputable section

namespace Cert.KernelIdeal.Own

open Idealize.ShloMosaic Cert.KernelIdeal Cert.KernelIdeal.Gen
open scoped BigOperators

/-- The rows of one batch, picked out of a summand. -/
def pick (B : ℕ → BitVec 32) (b : ℕ) (f : ℕ → EReal) (j : ℕ) : EReal := if (B j).toNat = b then f j else 0

theorem fzero_ideal : (fzero : Ideal .f32) = (0 : EReal) := Ideal.ofBits_zero_f32

theorem sum_rows (f : ℕ → EReal) : (rows.map f).sum = ∑ j ∈ Finset.range 16, f j := by
  have key : ∀ n, ((List.range n).map f).sum = ∑ j ∈ Finset.range n, f j := by
    intro n
    induction n with
    | zero => rfl
    | succ n ih => rw [List.range_succ, List.map_append, List.sum_append, ih, Finset.sum_range_succ]; simp
  exact key 16

theorem sumSpec_sum (a : ℕ → EReal) (X : ℕ → ℕ → EReal) : ∀ (js : List ℕ) (G : ℕ → EReal) (c : ℕ),
    sumSpec (F := Ideal) a X js G c = G c + (js.map fun j => a j * X j c).sum
  | [], G, c => by simp [sumSpec]
  | j :: js, G, c => by
    rw [List.map_cons, List.sum_cons, ← add_assoc]
    exact sumSpec_sum a X js (fun e => G e + a j * X j e) c

theorem mixSpec_sum (B : ℕ → BitVec 32) (a : ℕ → EReal) (X : ℕ → ℕ → EReal) : ∀ (js : List ℕ) (A : ℕ → ℕ → EReal) (b c : ℕ),
    mixSpec (F := Ideal) B a X js A b c = A b c + (js.map (pick B b fun j => a j * X j c)).sum
  | [], A, b, c => by simp [mixSpec]
  | j :: js, A, b, c => by
    rw [List.map_cons, List.sum_cons, ← add_assoc]
    refine (mixSpec_sum B a X js (addRow (F := Ideal) A (B j).toNat fun e => a j * X j e) b c).trans ?_
    congr 1
    unfold addRow pick
    by_cases h : b = (B j).toNat
    · rw [if_pos h, if_pos h.symm]; rfl
    · rw [if_neg h, if_neg (Ne.symm h), add_zero]

/-- One group of sixteen rows in order of their batches. -/
theorem grpSpec_sum (B : ℕ → BitVec 32) (a : ℕ → EReal) (X A : ℕ → ℕ → EReal)
    (h : ∀ j, j < 16 → (B 0).toNat ≤ (B j).toNat ∧ (B j).toNat ≤ (B 15).toNat) (b c : ℕ) :
    grpSpec (F := Ideal) B a X A b c = A b c + ∑ j ∈ Finset.range 16, pick B b (fun j => a j * X j c) j := by
  unfold grpSpec
  by_cases h0 : B 0 = B 15
  · rw [if_pos h0]
    have e : ∀ j ∈ Finset.range 16, pick B b (fun j => a j * X j c) j = if (B 0).toNat = b then a j * X j c else 0 := by
      intro j hj
      have h1 := h j (Finset.mem_range.1 hj)
      rw [← h0] at h1
      unfold pick
      rw [show (B j).toNat = (B 0).toNat from le_antisymm h1.2 h1.1]
    rw [Finset.sum_congr rfl e]
    unfold addRow
    by_cases hb : b = (B 0).toNat
    · rw [if_pos hb]
      simp only [if_pos hb.symm]
      refine congrArg (fun z : EReal => A b c + z) ?_
      rw [sumSpec_sum, sum_rows, fzero_ideal, zero_add]
    · rw [if_neg hb]
      simp only [if_neg (Ne.symm hb), Finset.sum_const_zero, add_zero]
  · rw [if_neg h0, mixSpec_sum, sum_rows]

theorem accS_sum (B : ℕ → BitVec 32) (a : ℕ → EReal) (X : ℕ → ℕ → EReal) (b c : ℕ) : ∀ (g : ℕ),
    (∀ i j, i ≤ j → j < 16 * g → (B i).toNat ≤ (B j).toNat) →
    accS (F := Ideal) B a X g b c = ∑ j ∈ Finset.range (16 * g), pick B b (fun j => a j * X j c) j
  | 0, _ => fzero_ideal
  | g + 1, h => by
    rw [Nat.mul_succ, Finset.sum_range_add, ← accS_sum B a X b c g fun i j hij hj => h i j hij (by omega)]
    exact grpSpec_sum (fun j => B (16 * g + j)) (fun j => a (16 * g + j)) (fun j => X (16 * g + j)) (accS (F := Ideal) B a X g) (fun j hj => ⟨h _ _ (by omega) (by omega), h _ _ (by omega) (by omega)⟩) b c

theorem denS_sum (T : ℕ → ℕ → EReal) (r : ℕ) : denS (F := Ideal) T r = ∑ c ∈ Finset.range 16, T r c := by
  have key : ∀ (l : List ℕ) (s : EReal), l.foldl (fun s c => fadd (F := Ideal) s (T r c)) s = s + (l.map (T r)).sum := by
    intro l
    induction l with
    | nil => intro s; simp
    | cons c l ih => intro s; rw [List.foldl_cons, ih, List.map_cons, List.sum_cons, ← add_assoc]; rfl
  refine (key _ _).trans ?_
  rw [fzero_ideal, zero_add]
  exact sum_rows (T r)

theorem den_sum (B : ℕ → BitVec 32) (a : ℕ → EReal) (b : ℕ) : ∀ g,
    denS (F := Ideal) (tabS (F := Ideal) B a g) b = ∑ j ∈ Finset.range (16 * g), pick B b a j
  | 0 => by
    rw [denS_sum]
    exact Finset.sum_eq_zero fun c _ => fzero_ideal
  | g + 1 => by
    rw [Nat.mul_succ, Finset.sum_range_add, ← den_sum B a b g, denS_sum, denS_sum, ← Finset.sum_add_distrib]
    refine Finset.sum_congr rfl fun c _ => ?_
    show (if (B (16 * g + c)).toNat = b then tabS (F := Ideal) B a g b c + a (16 * g + c) else tabS (F := Ideal) B a g b c) = _
    unfold pick
    split <;> simp

/-! ## All tiles -/

theorem sum_blocks (f : ℕ → EReal) (k : ℕ) : ∀ n, ∑ w ∈ Finset.range n, ∑ j ∈ Finset.range k, f (k * w + j) = ∑ i ∈ Finset.range (k * n), f i
  | 0 => by simp
  | n + 1 => by rw [Finset.sum_range_succ, sum_blocks f k n, Nat.mul_succ, Finset.sum_range_add]

theorem sum_tiles (f : ℕ → EReal) :
    ∑ w : Fin 32, ∑ j ∈ Finset.range (16 * ng (Lp (pk w))), f (base (Lp (pk w)) + j) = ∑ i ∈ Finset.range 100000, f i := by
  have e : ∀ w : Fin 32, ∑ j ∈ Finset.range (16 * ng (Lp (pk w))), f (base (Lp (pk w)) + j)
      = (fun w : ℕ => ∑ j ∈ Finset.range (if w = 31 then 2784 else 3136), f (3136 * w + j)) w.val := by
    intro w
    have h1 : base (Lp (pk w)) = 3136 * w.val := by rw [base_eq, tid_pk]
    have h2 : 16 * ng (Lp (pk w)) = if w.val = 31 then 2784 else 3136 := by
      unfold ng; rw [tid_pk]; split <;> rfl
    rw [h1, h2]
  rw [Finset.sum_congr rfl fun w _ => e w, Fin.sum_univ_eq_sum_range (fun w : ℕ => ∑ j ∈ Finset.range (if w = 31 then 2784 else 3136), f (3136 * w + j)) 32,
    Finset.sum_range_succ, if_pos rfl, show (100000 : ℕ) = 3136 * 31 + 2784 from rfl, Finset.sum_range_add, ← sum_blocks f 3136 31]
  refine congrArg (· + _) (Finset.sum_congr rfl fun w hw => ?_)
  have : w < 31 := Finset.mem_range.1 hw
  rw [if_neg (by omega)]

/-- The sum of the weights of a batch, and of its weighted rows. -/
def den (B : ℕ → BitVec 32) (L : ℕ → EReal) (b : ℕ) : EReal := ∑ i ∈ Finset.range 100000, pick B b (fun i => Ideal.exp (L i)) i
def num (B : ℕ → BitVec 32) (L : ℕ → EReal) (X : ℕ → ℕ → EReal) (b c : ℕ) : EReal :=
  ∑ i ∈ Finset.range 100000, pick B b (fun i => Ideal.exp (L i) * X i c) i

theorem dens (B : ℕ → BitVec 32) (L : ℕ → EReal) (b : ℕ) :
    ∑ w : Fin 32, denT (F := Ideal) (Lp (pk w)) B L b = den B L b := by
  rw [den, ← sum_tiles]
  exact Finset.sum_congr rfl fun w _ => den_sum _ _ _ _

theorem nums (B : ℕ → BitVec 32) (L : ℕ → EReal) (X : ℕ → ℕ → EReal) (b c : ℕ)
    (h : ∀ i j, i ≤ j → j < 100000 → (B i).toNat ≤ (B j).toNat) :
    ∑ w : Fin 32, numT (F := Ideal) (Lp (pk w)) B L X b c = num B L X b c := by
  rw [num, ← sum_tiles]
  refine Finset.sum_congr rfl fun w _ => accS_sum _ _ _ _ _ _ fun i j hij hj => h _ _ (by omega) ?_
  exact rows_lt _ _ hj

/-! ## The quotient -/

theorem cast_col {α : Type} (v : S256.Idx → α) (h : S256.ShapeCasts S256x1) (r : Fin 256) :
    shapeCast S256x1 v h (ix2 r 0) = v (ix1 r) := by
  refine shapeCast_apply v h _ _ ?_
  rw [Shape.rowMajor_val_one, Shape.rowMajor_val_two]
  show r.val = r.val * 1 + 0
  omega

theorem cast_same {α : Type} (v : S256x1.Idx → α) (h : S256x1.ShapeCasts S256x1) : shapeCast S256x1 v h = v := shapeCast_self v h

/-- The quotient where the divisor is positive, zero elsewhere. -/
def quot (V : FVec Ideal S256x128 .f32) (D : FVec Ideal S256 .f32) : FVec Ideal S256x128 .f32 :=
  select (broadcastTo S256x128 (shapeCast S256x1 (cmpf .ogt (shapeCast S256x1 D shapeCasts_S256_S256x1) (broadcast S256x1 (0 : EReal))) shapeCasts_S256x1_S256x1) broadcasts_S256x1_S256x128)
    (divf V (broadcastTo S256x128 (shapeCast S256x1 D shapeCasts_S256_S256x1) broadcasts_S256x1_S256x128))
    (broadcast S256x128 (0 : EReal))

theorem quot_apply (V : FVec Ideal S256x128 .f32) (D : FVec Ideal S256 .f32) (y : S256x128.Idx) :
    quot V D y = Scalar.select (Ideal.cmp .ogt (D (ix1 (y 0))) 0) (Ideal.div (V y) (D (ix1 (y 0)))) 0 := by
  have e : ∀ h, shapeCast S256x1 D h = fun x : S256x1.Idx => D (ix1 (x 0)) := by
    intro h
    funext x
    rw [← cast_col D h (x 0)]
    refine congrArg _ (funext fun a => ?_)
    match a with
    | ⟨0, _⟩ => rfl
    | ⟨1, _⟩ => exact Fin.ext (by have := (x 1).isLt; show (x 1).val = 0; change (x 1).val < 1 at this; omega)
  unfold quot
  rw [cast_same, e]
  pointwise
  rfl

theorem k2_apply (N : FVec Ideal S32x256x128 .f32) (D : FVec Ideal S32x256 .f32) (y : S256x128.Idx) :
    k2_pay1 (F := Ideal) N D y
      = Scalar.select (Ideal.cmp .ogt (∑ w : Fin 32, D (ix2 w (y 0))) 0)
          (Ideal.div (∑ w : Fin 32, N (ix3 w (y 0) (y 1))) (∑ w : Fin 32, D (ix2 w (y 0)))) 0 := by
  have hD : ∀ z : S256.Idx, multiReduction (F := Ideal) .add [0] S256 D 0x00000000#32 reduces_S32x256_S256 (.inl rfl) rfl z = ∑ w : Fin 32, D (ix2 w (z 0)) := by
    intro z
    refine (Ideal.multiReduction_add_single D _ _ _ _ z).trans ?_
    refine Finset.sum_congr rfl fun w _ => congrArg D (funext fun a => Fin.ext ?_)
    match a with
    | ⟨0, _⟩ => rfl
    | ⟨1, _⟩ => rfl
  have hN : ∀ z : S256x128.Idx, multiReduction (F := Ideal) .add [0] S256x128 N 0x00000000#32 reduces_S32x256x128_S256x128 (.inl rfl) rfl z = ∑ w : Fin 32, N (ix3 w (z 0) (z 1)) := by
    intro z
    refine (Ideal.multiReduction_add_single N _ _ _ _ z).trans ?_
    refine Finset.sum_congr rfl fun w _ => congrArg N (funext fun a => Fin.ext ?_)
    match a with
    | ⟨0, _⟩ => rfl
    | ⟨1, _⟩ => rfl
    | ⟨2, _⟩ => rfl
  have e : k2_pay1 (F := Ideal) N D = quot (multiReduction (F := Ideal) .add [0] S256x128 N 0x00000000#32 reduces_S32x256x128_S256x128 (.inl rfl) rfl)
      (multiReduction (F := Ideal) .add [0] S256 D 0x00000000#32 reduces_S32x256_S256 (.inl rfl) rfl) := by
    unfold k2_pay1 quot
    rw [shapeCast_self, shapeCast_self]
    simp only [Ideal.ofBits_zero_f32, Scalar.ofBits]
  rw [e, quot_apply, hD, hN]
  rfl

theorem rA_apply (m : (ℓ : Loc nD τ sig) → Buf (Elt Ideal) ℓ) (d : Dev nD) (y : S256x128.Idx)
    (h : ∀ i j, i ≤ j → j < 100000 → (Bg m d i).toNat ≤ (Bg m d j).toNat) :
    rA m d y = Scalar.select (Ideal.cmp .ogt (den (Bg m d) (Lg m d) (y 0).val) 0)
      (Ideal.div (num (Bg m d) (Lg m d) (Xg m d) (y 0).val (y 1).val) (den (Bg m d) (Lg m d) (y 0).val)) 0 := by
  have hd : ∑ w : Fin 32, dA m d (ix2 w (y 0)) = den (Bg m d) (Lg m d) (y 0).val := dens (Bg m d) (Lg m d) (y 0).val
  have hn : ∑ w : Fin 32, nA m d (ix3 w (y 0) (y 1)) = num (Bg m d) (Lg m d) (Xg m d) (y 0).val (y 1).val := nums (Bg m d) (Lg m d) (Xg m d) (y 0).val (y 1).val h
  refine (k2_apply (nA m d) (dA m d) y).trans ?_
  rw [hd, hn]

end Cert.KernelIdeal.Own

end
-- ==== Proof.MathL.lean ====
/- A row's score: the row times the weights, plus the offset. -/
module

public import proofs.«01_k».proof.Proof.MathK

@[expose] public section

noncomputable section

namespace Cert.KernelIdeal.Own

open Idealize.ShloMosaic Cert.KernelIdeal Cert.KernelIdeal.Gen
open scoped BigOperators

theorem k0_apply (X : FVec Ideal S20000x128 .f32) (W : FVec Ideal S128x1 .f32) (O : FVec Ideal S1x1 .f32) (r : Fin 20000) :
    k0_pay1 (F := Ideal) X W O (ix2 r 0) = (∑ k : Fin 128, X (ix2 r k) * W (ix2 k 0)) + O (ix2 0 0) := by
  unfold k0_pay1
  rw [shapeCast_self]
  have h : matmul (F := Ideal) dot_S20000x128_S128x1_S20000x1_1_0_0_1_n_n none X W (constant S20000x1 .f32 0x00000000#32) (ix2 r 0) = ∑ k : Fin 128, X (ix2 r k) * W (ix2 k 0) := by
    simp only [matmul]
    rw [Ideal.matmul_constant_zero_apply, ← Equiv.sum_comp (ValueIdx.contrEquiv1 dot_S20000x128_S128x1_S20000x1_1_0_0_1_n_n 128 rfl rfl).symm]
    refine Finset.sum_congr rfl fun k _ => ?_
    have hk := ValueIdx.contrEquiv1_symm_val dot_S20000x128_S128x1_S20000x1_1_0_0_1_n_n 128 rfl rfl k
    refine congrArg₂ (fun a b : EReal => a * b) (congrArg X (funext fun a => Fin.ext ?_)) (congrArg W (funext fun a => Fin.ext ?_))
    · match a with
      | ⟨0, _⟩ => rfl
      | ⟨1, _⟩ => exact hk
    · match a with
      | ⟨0, _⟩ => exact hk
      | ⟨1, _⟩ => rfl
  have e : extractAt ![0, 0] O inpos_S1x1_p0_0 = O (ix2 0 0) := by
    refine congrArg O (funext fun a => Fin.ext ?_)
    match a with
    | ⟨0, _⟩ => rfl
    | ⟨1, _⟩ => rfl
  show matmul (F := Ideal) dot_S20000x128_S128x1_S20000x1_1_0_0_1_n_n none X W (constant S20000x1 .f32 0x00000000#32) (ix2 r 0) + extractAt ![0, 0] O inpos_S1x1_p0_0 = _
  rw [h, e]

theorem idxX : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxW : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idxO : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem blkX_apply (X : S100000x128.Idx → EReal) (t : Fin cfg0.N) (r : Fin 20000) (k : Fin 128) (i : Fin 100000) (h : i.val = 20000 * t.val + r.val) :
    blkX (F := Ideal) X t (ix2 r k) = X (ix2 i k) := by
  obtain ⟨e0, e1⟩ := idxX t
  show X (((cfg0.win 0).blk t).view.emb (ix2 r k)) = X (ix2 i k)
  refine congrArg X (funext fun a => Fin.ext ?_)
  match a with
  | ⟨0, _⟩ => show win0_0.index t (0 : Fin 2) * 20000 + 1 * r.val = i.val; omega
  | ⟨1, _⟩ => show win0_0.index t (1 : Fin 2) * 128 + 1 * k.val = k.val; omega

theorem blkW_apply (W : S128x1.Idx → EReal) (t : Fin cfg0.N) (k : Fin 128) : blkW (F := Ideal) W t (ix2 k 0) = W (ix2 k 0) := by
  obtain ⟨e0, e1⟩ := idxW t
  show W (((cfg0.win 1).blk t).view.emb (ix2 k 0)) = W (ix2 k 0)
  refine congrArg W (funext fun a => Fin.ext ?_)
  match a with
  | ⟨0, _⟩ => show win0_1.index t (0 : Fin 2) * 128 + 1 * k.val = k.val; omega
  | ⟨1, _⟩ => show win0_1.index t (1 : Fin 2) * 1 + 1 * 0 = 0; omega

theorem blkB_apply (O : S1x1.Idx → EReal) (t : Fin cfg0.N) : blkB (F := Ideal) O t (ix2 0 0) = O (ix2 0 0) := by
  obtain ⟨e0, e1⟩ := idxO t
  show O (((cfg0.win 2).blk t).view.emb (ix2 0 0)) = O (ix2 0 0)
  refine congrArg O (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

theorem out0_apply (X : FVec Ideal S100000x128 .f32) (W : FVec Ideal S128x1 .f32) (O : FVec Ideal S1x1 .f32) (i : Fin 100000) :
    out0 (F := Ideal) X W O (ix2 i 0) = (∑ k : Fin 128, X (ix2 i k) * W (ix2 k 0)) + O (ix2 0 0) := by
  have hr : row0 (ix2 i 0) = ix2 ⟨i.val % 20000, Nat.mod_lt _ (by decide)⟩ 0 := by
    funext a
    match a with
    | ⟨0, _⟩ => rfl
    | ⟨1, _⟩ => rfl
  unfold out0
  rw [hr, k0_apply, blkB_apply]
  refine congrArg (fun z : EReal => z + O (ix2 0 0)) (Finset.sum_congr rfl fun k _ => ?_)
  rw [blkW_apply, blkX_apply X (pt0 (ix2 i 0)) _ k i (by show i.val = 20000 * (i.val / 20000) + i.val % 20000; omega)]

theorem cast_w (w : S128.Idx → EReal) (h : S128.ShapeCasts S128x1) (k : Fin 128) : shapeCast S128x1 w h (ix2 k 0) = w (ix1 k) := by
  refine shapeCast_apply _ _ _ _ ?_
  rw [Shape.rowMajor_val_one, Shape.rowMajor_val_two]
  show k.val = k.val * 1 + 0
  omega
theorem cast_o (o : S1.Idx → EReal) (h : S1.ShapeCasts S1x1) : shapeCast S1x1 o h (ix2 0 0) = o (ix1 0) := by
  refine shapeCast_apply _ _ _ _ ?_
  rw [Shape.rowMajor_val_one, Shape.rowMajor_val_two]
  rfl

theorem lA_apply (m : (ℓ : Loc nD τ sig) → Buf (Elt Ideal) ℓ) (d : Dev nD) (i : Fin 100000) :
    lA m d (ix1 i) = (∑ k : Fin 128, xA m d (ix2 i k) * (m (L0 d main_arg2) : S128.Idx → EReal) (ix1 k)) + (m (L0 d main_arg3) : S1.Idx → EReal) (ix1 0) := by
  have h1 : lA m d (ix1 i) = sA m d (ix2 i 0) := by
    refine shapeCast_apply _ _ _ _ ?_
    rw [Shape.rowMajor_val_one, Shape.rowMajor_val_two]
    show i.val * 1 + 0 = i.val
    omega
  have h2 : ∀ k : Fin 128, wA m d (ix2 k 0) = (m (L0 d main_arg2) : S128.Idx → EReal) (ix1 k) := fun k => cast_w _ _ k
  have h3 : oA m d (ix2 0 0) = (m (L0 d main_arg3) : S1.Idx → EReal) (ix1 0) := cast_o _ _
  rw [h1]
  refine (out0_apply (xA m d) (wA m d) (oA m d) i).trans ?_
  rw [h3]
  exact congrArg (fun z : EReal => z + _) (Finset.sum_congr rfl fun k _ => by rw [h2])

end Cert.KernelIdeal.Own

end
-- ==== Proof.MathS.lean ====
/- Weights over their total, and sums over their total: the same numbers, whatever is taken off the scores first. -/
module

public import Idealize.ShloMosaic.PureOps.Ideal.Laws

@[expose] public section

noncomputable section

namespace Cert.Own

open Idealize.ShloMosaic
open scoped BigOperators

theorem coe_sum {ι : Type} (S : Finset ι) (f : ι → ℝ) : ((∑ i ∈ S, f i : ℝ) : EReal) = ∑ i ∈ S, (f i : EReal) := by
  classical
  induction S using Finset.induction_on with
  | empty => rfl
  | insert a S h ih => rw [Finset.sum_insert h, Finset.sum_insert h, EReal.coe_add, ih]

theorem coe_pick (p : Prop) [Decidable p] (a : ℝ) : (if p then (a : EReal) else 0) = ((if p then a else 0 : ℝ) : EReal) := by
  split <;> rfl

/-- Over the reals. -/
theorem real_softmax {ι : Type} (S : Finset ι) (l x : ι → ℝ) (μ : ℝ) :
    ∑ i ∈ S, x i * (Real.exp (l i - μ) * (1 / ∑ j ∈ S, Real.exp (l j - μ))) = (∑ i ∈ S, Real.exp (l i) * x i) * (1 / ∑ j ∈ S, Real.exp (l j)) := by
  have e : ∀ i, Real.exp (l i - μ) = Real.exp (l i) * Real.exp (-μ) := fun i => by rw [sub_eq_add_neg, Real.exp_add]
  have hμ : Real.exp (-μ) ≠ 0 := (Real.exp_pos _).ne'
  have hd : ∑ j ∈ S, Real.exp (l j - μ) = (∑ j ∈ S, Real.exp (l j)) * Real.exp (-μ) := by simp only [e, Finset.sum_mul]
  rw [hd, Finset.sum_mul S (fun i => Real.exp (l i) * x i)]
  refine Finset.sum_congr rfl fun i _ => ?_
  rw [e, one_div, one_div, mul_inv]
  generalize ∑ j ∈ S, Real.exp (l j) = E
  have h1 : x i * (Real.exp (l i) * Real.exp (-μ) * (E⁻¹ * (Real.exp (-μ))⁻¹)) = Real.exp (l i) * x i * E⁻¹ * (Real.exp (-μ) * (Real.exp (-μ))⁻¹) := by ring
  rw [h1, mul_inv_cancel₀ hμ, mul_one]

theorem softmax_eq {n : ℕ} (B : Fin n → ℕ) (l x : Fin n → ℝ) (μ : ℝ) (r : ℕ) :
    (∑ i, if B i = r then (x i : EReal) * Ideal.div (Ideal.exp ((l i : EReal) - (μ : EReal))) (∑ j, if B j = r then Ideal.exp ((l j : EReal) - (μ : EReal)) else 0) else 0)
      = Scalar.select (Ideal.cmp .ogt (∑ j, if B j = r then Ideal.exp (l j : EReal) else 0) 0)
          (Ideal.div (∑ i, if B i = r then Ideal.exp (l i : EReal) * (x i : EReal) else 0) (∑ j, if B j = r then Ideal.exp (l j : EReal) else 0)) 0 := by
  classical
  have hs : ∀ i, ((l i : EReal) - (μ : EReal)) = ((l i - μ : ℝ) : EReal) := fun i => (EReal.coe_sub _ _).symm
  simp only [hs, Ideal.exp_coe, ← EReal.coe_mul, coe_pick, ← coe_sum]
  set S := Finset.univ.filter fun i => B i = r with hS
  have f : ∀ g : Fin n → ℝ, (∑ i, if B i = r then g i else 0) = ∑ i ∈ S, g i := fun g => (Finset.sum_filter _ _).symm
  simp only [f]
  rcases S.eq_empty_or_nonempty with h | h
  · have hB : ∀ i, ¬ B i = r := by
      intro i hi
      have : i ∈ S := by rw [hS]; exact Finset.mem_filter.2 ⟨Finset.mem_univ _, hi⟩
      rw [h] at this
      exact absurd this (Finset.notMem_empty _)
    rw [h]
    simp [hB, Ideal.cmp, Scalar.select]
  · have p1 : 0 < ∑ j ∈ S, Real.exp (l j) := Finset.sum_pos (fun _ _ => Real.exp_pos _) h
    have p2 : 0 < ∑ j ∈ S, Real.exp (l j - μ) := Finset.sum_pos (fun _ _ => Real.exp_pos _) h
    simp only [Ideal.div_coe p1.ne', Ideal.div_coe p2.ne', ← EReal.coe_mul, coe_pick, ← coe_sum, f]
    rw [real_softmax]
    have c : Ideal.cmp .ogt ((∑ j ∈ S, Real.exp (l j) : ℝ) : EReal) 0 = 1#1 := by
      simp only [Ideal.cmp]
      rw [decide_eq_true (EReal.coe_pos.2 p1)]
      rfl
    rw [c]
    rfl

end Cert.Own

end
-- ==== Proof.MathR.lean ====
/- The reference's result read at an index: the scores, the shift of each batch, the weights over their total, the sums. -/
module

public import proofs.«01_k».proof.Proof.Gen.ReferenceIdeal.Run
public import proofs.«01_k».proof.Proof.MathS
public import Idealize.ShloMosaic.Lib.Routing.OpsSet
public import Idealize.ShloMosaic.Lib.Routing.OpsPair
public import Idealize.ShloMosaic.Lib.Pipeline.Value
public import Idealize.ShloMosaic.Lib.ValueIdx

@[expose] public section

noncomputable section

namespace Cert.ReferenceIdeal.Own

open Idealize.ShloMosaic Idealize.ShloMosaic.Routing Cert.ReferenceIdeal Cert.ReferenceIdeal.Gen
open Idealize.ShloMosaic.ValueIdx (ix1 ix2 eq_ix1 eq_ix2 contrEquiv1 contrEquiv1_symm_val sum_idx2)
open scoped BigOperators

/-! ## The pieces -/

def lgR (x : FVec Ideal S100000x128 .f32) (w : FVec Ideal S128 .f32) (o : FVec Ideal S1 .f32) : FVec Ideal S100000 .f32 :=
  addf (Host.dotGeneral dot_S100000x128_S128_S100000_1_0_0_n_n_n none x w) (broadcastInDim S100000 ![] bcast_S_S100000 (shapeCast _ o shapeCasts_S1_S_))

/-- The greatest score of each batch, and zero where it is not a real number. -/
def mxR (b : IVec S100000 32) (l : FVec Ideal S100000 .f32) : FVec Ideal S256 .f32 :=
  Host.reduce FloatOps.maximumf (select (cmpi .eq (broadcastInDim S256x100000 ![0, 1] bcast_S1x100000_S256x100000_0_1 (broadcastInDim S1x100000 ![1] bcast_S100000_S1x100000_1 b)) (broadcastInDim S256x100000 ![0, 1] bcast_S256x1_S256x100000_0_1 (broadcastInDim S256x1 ![0] bcast_S256_S256x1_0 (iotaInDim S256 32 0))))
    (broadcastInDim S256x100000 ![0, 1] bcast_S1x100000_S256x100000_0_1 (broadcastInDim S1x100000 ![1] bcast_S100000_S1x100000_1 l)) (broadcastInDim S256x100000 ![] bcast_S_S256x100000 (id (constant S_ .f32 0xFF800000#32)))) (constant S_ .f32 0xFF800000#32) reducesTo_S256x100000_S256_d1 h_S_
def mhR (M : FVec Ideal S256 .f32) : FVec Ideal S256 .f32 :=
  select (cmpf .olt (Host.absf M) (broadcastInDim S256 ![] bcast_S_S256 (constant S_ .f32 0x7F800000#32))) M (broadcastInDim S256 ![] bcast_S_S256 (id (constant S_ .f32 0x00000000#32)))
/-- The batch numbers as a column, a negative one counted from the end. -/
def ixR (b : IVec S100000 32) : IVec S100000x1 32 :=
  broadcastInDim S100000x1 ![0] bcast_S100000_S100000x1_0 (select (cmpi .slt b (broadcastInDim S100000 ![] bcast_S_S100000 (constantI S_ 32 0#32))) (addi b (broadcastInDim S100000 ![] bcast_S_S100000 (constantI S_ 32 256#32))) b)
def colR (b : IVec S100000 32) : IVec S100000x1 32 := broadcastInDim S100000x1 ![0] bcast_S100000_S100000x1_0 b
def takeR (v : FVec Ideal S256 .f32) (b : IVec S100000 32) : FVec Ideal S100000 .f32 := Host.gather gather_S256_S100000x1_S100000_n_0_n_n_0_1_1 v (ixR b)
def exR (l : FVec Ideal S100000 .f32) (b : IVec S100000 32) (M : FVec Ideal S256 .f32) : FVec Ideal S100000 .f32 := Host.exp (subf l (takeR M b))
def sum1 (b : IVec S100000 32) (e : FVec Ideal S100000 .f32) : FVec Ideal S256 .f32 :=
  Host.scatterAdd scatter_S256_S100000x1_S100000_n_0_0_1 (broadcastInDim S256 ![] bcast_S_S256 (constant S_ .f32 0x00000000#32)) (colR b) e
def sum2 (b : IVec S100000 32) (u : FVec Ideal S100000x128 .f32) : FVec Ideal S256x128 .f32 :=
  Host.scatterAdd scatter_S256x128_S100000x1_S100000x128_1_0_0_1 (broadcastInDim S256x128 ![] bcast_S_S256x128 (constant S_ .f32 0x00000000#32)) (colR b) u
def wtR (e d : FVec Ideal S100000 .f32) : FVec Ideal S100000x128 .f32 :=
  broadcastInDim S100000x128 ![0, 1] bcast_S100000x1_S100000x128_0_1 (broadcastInDim S100000x1 ![0] bcast_S100000_S100000x1_0 (Host.divf e d))
def outR (x : FVec Ideal S100000x128 .f32) (b : IVec S100000 32) (l : FVec Ideal S100000 .f32) (M : FVec Ideal S256 .f32) : FVec Ideal S256x128 .f32 :=
  sum2 b (mulf x (wtR (exR l b M) (takeR (sum1 b (exR l b M)) b)))

set_option maxRecDepth 8192 in
theorem res_eq (m : (ℓ : Loc nD τ sig) → Buf (Elt Ideal) ℓ) (c : Dev nD) (x : FVec Ideal S100000x128 .f32) (b : IVec S100000 32) (w : FVec Ideal S128 .f32) (o : FVec Ideal S1 .f32)
    (hx : m ((c.tc : Thread nD τ).loc main_arg0) = x) (hb : m ((c.tc : Thread nD τ).loc main_arg1) = b) (hw : m ((c.tc : Thread nD τ).loc main_arg2) = w) (ho : m ((c.tc : Thread nD τ).loc main_arg3) = o) :
    Cert.ReferenceIdeal.Value.res_main_v42 m c = outR x b (lgR x w o) (mhR (mxR b (lgR x w o))) := by
  subst hx hb hw ho
  unfold Cert.ReferenceIdeal.Value.res_main_v42
  rfl

/-! ## The pieces at an index -/

theorem lgR_apply (x : FVec Ideal S100000x128 .f32) (w : FVec Ideal S128 .f32) (o : FVec Ideal S1 .f32) (i : Fin 100000) :
    lgR x w o (ix1 i) = (∑ k : Fin 128, x (ix2 i k) * w (ix1 k)) + o (ix1 0) := by
  have h : Host.dotGeneral (F := Ideal) dot_S100000x128_S128_S100000_1_0_0_n_n_n none x w (ix1 i) = ∑ k : Fin 128, x (ix2 i k) * w (ix1 k) := by
    simp only [Host.dotGeneral]
    rw [Ideal.dotGeneral_apply, ← Equiv.sum_comp (contrEquiv1 dot_S100000x128_S128_S100000_1_0_0_n_n_n 128 rfl rfl).symm]
    refine Finset.sum_congr rfl fun k _ => ?_
    have hk := contrEquiv1_symm_val dot_S100000x128_S128_S100000_1_0_0_n_n_n 128 rfl rfl k
    refine congrArg₂ (fun a b : EReal => a * b) (congrArg x (funext fun a => Fin.ext ?_)) (congrArg w (funext fun a => Fin.ext ?_))
    · match a with
      | ⟨0, _⟩ => rfl
      | ⟨1, _⟩ => exact hk
    · match a with
      | ⟨0, _⟩ => exact hk
  have e : broadcastInDim S100000 ![] bcast_S_S100000 (shapeCast S_ o shapeCasts_S1_S_) (ix1 i) = o (ix1 0) := by
    unfold broadcastInDim shapeCast
    refine congrArg o ?_
    rw [eq_ix1 (Shape.reshapeEquiv _ _)]
    exact congrArg ix1 (Subsingleton.elim (α := Fin 1) _ _)
  show Host.dotGeneral (F := Ideal) dot_S100000x128_S128_S100000_1_0_0_n_n_n none x w (ix1 i) + broadcastInDim S100000 ![] bcast_S_S100000 (shapeCast S_ o shapeCasts_S1_S_) (ix1 i) = _
  rw [h, e]

theorem mhR_real (M : FVec Ideal S256 .f32) (y : S256.Idx) : ∃ μ : ℝ, mhR M y = (μ : EReal) := by
  have e : mhR M y = Scalar.select (Ideal.cmp .olt (max (M y) (-(M y))) (Ideal.ofBits .f32 0x7F800000#32)) (M y) (Ideal.ofBits .f32 0x00000000#32) := rfl
  rw [e, Ideal.ofBits_zero_f32, show Ideal.ofBits .f32 0x7F800000#32 = ⊤ by simp [Ideal.ofBits, Ideal.ieee]]
  have key : ∀ z : EReal, ∃ μ : ℝ, Scalar.select (Ideal.cmp .olt (max z (-z)) ⊤) z 0 = (μ : EReal) := by
   intro z
   induction z with
   | bot => exact ⟨0, by simp [Ideal.cmp, Scalar.select]⟩
   | top => exact ⟨0, by simp [Ideal.cmp, Scalar.select]⟩
   | coe r =>
    by_cases h : max (r : EReal) (-(r : EReal)) < ⊤
    · exact ⟨r, by simp [Ideal.cmp, Scalar.select, h]⟩
    · exact ⟨0, by simp [Ideal.cmp, Scalar.select, h]⟩
  exact key (M y)

theorem toInt_small (v : BitVec 32) (h : v.toNat < 256) : v.toInt = (v.toNat : Int) := by
  rw [BitVec.toInt_eq_toNat_cond, if_pos (by omega)]

theorem colR_apply (b : IVec S100000 32) (i : Fin 100000) : colR b (ix2 i 0) = b (ix1 i) := by
  refine congrArg b (funext fun a => Fin.ext ?_)
  match a with
  | ⟨0, _⟩ => rfl

theorem ixR_apply (b : IVec S100000 32) (i : Fin 100000) (h : (b (ix1 i)).toNat < 256) : ixR b (ix2 i 0) = b (ix1 i) := by
  have e : ixR b (ix2 i 0) = Scalar.select (Scalar.cmpi .slt (b (ix1 i)) 0#32) (b (ix1 i) + 256#32) (b (ix1 i)) := by
    have : ∀ v : IVec S100000 32, broadcastInDim S100000x1 ![0] bcast_S100000_S100000x1_0 v (ix2 i 0) = v (ix1 i) := fun v => colR_apply v i
    unfold ixR
    rw [this]
    rfl
  rw [e]
  have : Scalar.cmpi .slt (b (ix1 i)) 0#32 = 0#1 := by
    have hs : (b (ix1 i)).slt 0#32 = false := by
      rw [BitVec.slt, toInt_small _ h]
      simp
    show IntOp.cmpi .slt (b (ix1 i)) 0#32 = 0#1
    unfold IntOp.cmpi
    simp only [hs]
    rfl
  rw [this]
  rfl

theorem takeR_apply (v : FVec Ideal S256 .f32) (b : IVec S100000 32) (i : Fin 100000) (h : (b (ix1 i)).toNat < 256) :
    takeR v b (ix1 i) = v (ix1 ⟨(b (ix1 i)).toNat, h⟩) := by
  refine gather_take1 _ rfl rfl rfl rfl v (ixR b) i ⟨(b (ix1 i)).toNat, h⟩ ?_ (by decide)
  refine (ixR_apply b i h).trans ?_
  exact (BitVec.ofNat_toNat _ _ ▸ (BitVec.setWidth_eq _).symm)

theorem land1 (idx : IVec S100000x1 32) (i : Fin 100000) (r : Fin 256) :
    scatter_S256_S100000x1_S100000_n_0_0_1.resultIdx? (ix1 i) idx = some (ix1 r) ↔ (idx (ix2 i 0)).toInt = (r.val : Int) := by
  rw [resultIdx?_ix1 scatter_S256_S100000x1_S100000_n_0_0_1 (ix1 i) idx r]
  have h1 : scatter_S256_S100000x1_S100000_n_0_0_1.window (ix1 i) 0 = 0 := rfl
  have h2 : scatter_S256_S100000x1_S100000_n_0_0_1.start (ix1 i) idx 0 = (idx (ix2 i 0)).toInt := by
    refine congrArg (fun z => BitVec.toInt (idx z)) (funext fun a => Fin.ext ?_)
    match a with
    | ⟨0, _⟩ => rfl
    | ⟨1, _⟩ => rfl
  rw [h1, h2]
  simp

theorem land2 (idx : IVec S100000x1 32) (i : Fin 100000) (k : Fin 128) (r : Fin 256) (c : Fin 128) :
    scatter_S256x128_S100000x1_S100000x128_1_0_0_1.resultIdx? (ix2 i k) idx = some (ix2 r c) ↔ (idx (ix2 i 0)).toInt = (r.val : Int) ∧ k = c := by
  rw [resultIdx?_ix2 scatter_S256x128_S100000x1_S100000x128_1_0_0_1 (ix2 i k) idx r c]
  have h1 : scatter_S256x128_S100000x1_S100000x128_1_0_0_1.window (ix2 i k) 0 = 0 := rfl
  have h3 : scatter_S256x128_S100000x1_S100000x128_1_0_0_1.window (ix2 i k) 1 = k.val := rfl
  have h4 : scatter_S256x128_S100000x1_S100000x128_1_0_0_1.start (ix2 i k) idx 1 = 0 := rfl
  have h2 : scatter_S256x128_S100000x1_S100000x128_1_0_0_1.start (ix2 i k) idx 0 = (idx (ix2 i 0)).toInt := by
    refine congrArg (fun z => BitVec.toInt (idx z)) (funext fun a => Fin.ext ?_)
    match a with
    | ⟨0, _⟩ => rfl
    | ⟨1, _⟩ => rfl
  rw [h1, h2, h3, h4]
  simp [Fin.ext_iff]

def eq1 : Fin 100000 ≃ S100000.Idx where
  toFun i := ix1 i
  invFun y := y 0
  left_inv i := rfl
  right_inv y := (eq_ix1 y).symm

theorem sum1_apply (b : IVec S100000 32) (hb : ∀ i : Fin 100000, (b (ix1 i)).toNat < 256) (e : FVec Ideal S100000 .f32) (r : Fin 256) :
    sum1 b e (ix1 r) = ∑ i : Fin 100000, if (b (ix1 i)).toNat = r.val then e (ix1 i) else 0 := by
  classical
  have h : sum1 b e (ix1 r) = Ideal.ofBits .f32 0x00000000#32 + ∑ j ∈ Finset.univ.filter (fun j => scatter_S256_S100000x1_S100000_n_0_0_1.resultIdx? j (colR b) = some (ix1 r)), e j := by
    unfold sum1
    simp only [Host.scatterAdd, Ideal.hostScatterAdd_def]
    unfold Ideal.hostScatterAdd
    refine congrArg₂ (fun a b : EReal => a + b) rfl (Finset.sum_congr (Finset.filter_congr_decidable ..) fun _ _ => rfl)
  rw [h, Ideal.ofBits_zero_f32, zero_add, Finset.sum_filter, ← Equiv.sum_comp eq1]
  refine Finset.sum_congr rfl fun i _ => ?_
  show (if scatter_S256_S100000x1_S100000_n_0_0_1.resultIdx? (ix1 i) (colR b) = some (ix1 r) then e (ix1 i) else 0) = _
  refine if_congr ?_ rfl rfl
  rw [land1, colR_apply, toInt_small _ (hb i)]
  omega

theorem sum2_apply (b : IVec S100000 32) (hb : ∀ i : Fin 100000, (b (ix1 i)).toNat < 256) (u : FVec Ideal S100000x128 .f32) (r : Fin 256) (c : Fin 128) :
    sum2 b u (ix2 r c) = ∑ i : Fin 100000, if (b (ix1 i)).toNat = r.val then u (ix2 i c) else 0 := by
  classical
  have h : sum2 b u (ix2 r c) = Ideal.ofBits .f32 0x00000000#32 + ∑ j ∈ Finset.univ.filter (fun j => scatter_S256x128_S100000x1_S100000x128_1_0_0_1.resultIdx? j (colR b) = some (ix2 r c)), u j := by
    unfold sum2
    simp only [Host.scatterAdd, Ideal.hostScatterAdd_def]
    unfold Ideal.hostScatterAdd
    refine congrArg₂ (fun a b : EReal => a + b) rfl (Finset.sum_congr (Finset.filter_congr_decidable ..) fun _ _ => rfl)
  rw [h, Ideal.ofBits_zero_f32, zero_add, Finset.sum_filter, sum_idx2]
  refine Finset.sum_congr rfl fun i _ => ?_
  have e : ∀ k : Fin 128, (if scatter_S256x128_S100000x1_S100000x128_1_0_0_1.resultIdx? (ix2 i k) (colR b) = some (ix2 r c) then u (ix2 i k) else 0)
      = if k = c then (if (b (ix1 i)).toNat = r.val then u (ix2 i c) else 0) else 0 := by
    intro k
    have hl := land2 (colR b) i k r c
    rw [colR_apply, toInt_small _ (hb i)] at hl
    by_cases hk : k = c
    · subst hk
      rw [if_pos rfl]
      exact if_congr (hl.trans (by constructor <;> intro h <;> [exact_mod_cast h.1; exact ⟨by exact_mod_cast h, rfl⟩])) rfl rfl
    · rw [if_neg hk, if_neg fun h => hk (hl.1 h).2]
  rw [Finset.sum_congr rfl fun k _ => e k, Finset.sum_ite_eq' Finset.univ c, if_pos (Finset.mem_univ _)]

theorem exR_apply (l : FVec Ideal S100000 .f32) (b : IVec S100000 32) (M : FVec Ideal S256 .f32) (i : Fin 100000) (h : (b (ix1 i)).toNat < 256) :
    exR l b M (ix1 i) = Ideal.exp (l (ix1 i) - M (ix1 ⟨(b (ix1 i)).toNat, h⟩)) := by
  rw [← takeR_apply M b i h]
  rfl

theorem wtR_apply (e d : FVec Ideal S100000 .f32) (i : Fin 100000) (c : Fin 128) : wtR e d (ix2 i c) = Ideal.div (e (ix1 i)) (d (ix1 i)) := by
  have h : ∀ v : FVec Ideal S100000 .f32, broadcastInDim S100000x128 ![0, 1] bcast_S100000x1_S100000x128_0_1 (broadcastInDim S100000x1 ![0] bcast_S100000_S100000x1_0 v) (ix2 i c) = v (ix1 i) := by
    intro v
    refine congrArg v (funext fun a => Fin.ext ?_)
    match a with
    | ⟨0, _⟩ => rfl
  unfold wtR
  rw [h]
  rfl

theorem mulf_at (x u : FVec Ideal S100000x128 .f32) (y : S100000x128.Idx) : mulf x u y = (x y * u y : EReal) := rfl

/-- The reference's result. -/
theorem outR_apply (x : FVec Ideal S100000x128 .f32) (b : IVec S100000 32) (l : FVec Ideal S100000 .f32) (M : FVec Ideal S256 .f32)
    (hb : ∀ i : Fin 100000, (b (ix1 i)).toNat < 256) (r : Fin 256) (c : Fin 128) :
    outR x b l M (ix2 r c) = ∑ i : Fin 100000, if (b (ix1 i)).toNat = r.val then
      x (ix2 i c) * Ideal.div (Ideal.exp (l (ix1 i) - M (ix1 r))) (∑ j : Fin 100000, if (b (ix1 j)).toNat = r.val then Ideal.exp (l (ix1 j) - M (ix1 r)) else 0) else 0 := by
  have hr : ∀ i : Fin 100000, (b (ix1 i)).toNat = r.val → exR l b M (ix1 i) = Ideal.exp (l (ix1 i) - M (ix1 r)) := by
    intro i hi
    rw [exR_apply l b M i (hb i)]
    exact congrArg (fun z => Ideal.exp (l (ix1 i) - M (ix1 z))) (Fin.ext hi)
  unfold outR
  rw [sum2_apply b hb]
  refine Finset.sum_congr rfl fun i _ => ?_
  by_cases hi : (b (ix1 i)).toNat = r.val
  · rw [if_pos hi, if_pos hi]
    have hs : (∑ j : Fin 100000, if (b (ix1 j)).toNat = r.val then exR l b M (ix1 j) else 0)
        = ∑ j : Fin 100000, if (b (ix1 j)).toNat = r.val then Ideal.exp (l (ix1 j) - M (ix1 r)) else 0 := by
      refine Finset.sum_congr rfl fun j _ => ?_
      by_cases hj : (b (ix1 j)).toNat = r.val
      · rw [if_pos hj, if_pos hj, hr j hj]
      · rw [if_neg hj, if_neg hj]
    rw [mulf_at, wtR_apply, takeR_apply _ b i (hb i), show (⟨(b (ix1 i)).toNat, hb i⟩ : Fin 256) = r from Fin.ext hi, sum1_apply b hb, hr i hi, hs]
  · rw [if_neg hi, if_neg hi]

end Cert.ReferenceIdeal.Own

end
-- ==== Proof.Same.lean ====
/- The program over bits and the program over the extended reals have one text, so that one run serves both. -/
module

public import proofs.«01_k».proof.Defs
public import proofs.«01_k».proof.Proof.Gen.Kernel
public import proofs.«01_k».proof.Proof.Gen.KernelIdeal

@[expose] public section

noncomputable section

namespace Cert.KernelIdeal.Own

open Idealize.ShloMosaic Idealize.SL.Sem

variable {F : FTy → Type} [FloatOps F]

set_option maxHeartbeats 0 in
set_option maxRecDepth 10000 in
theorem same_body : Cert.Kernel.cc1__sc_body (F := F) = Cert.KernelIdeal.cc1__sc_body (F := F) := rfl

theorem same0 : Cert.Kernel.cc0__k1_logits (F := F) = Cert.KernelIdeal.cc0__k1_logits (F := F) := rfl
theorem same2 : Cert.Kernel.cc2__k2_norm (F := F) = Cert.KernelIdeal.cc2__k2_norm (F := F) := rfl

set_option maxHeartbeats 0 in
set_option maxRecDepth 10000 in
theorem same_defs₀ : Cert.Kernel.defs₀ (F := F) = Cert.KernelIdeal.defs₀ (F := F) := by
  unfold Cert.Kernel.defs₀ Cert.KernelIdeal.defs₀
  simp only [same_body, same0, same2]
  generalize Cert.KernelIdeal.cc1__sc_body (F := F) = b1
  generalize Cert.KernelIdeal.cc0__k1_logits (F := F) = b0
  generalize Cert.KernelIdeal.cc2__k2_norm (F := F) = b2
  funext p l a
  cases p with
  | tc =>
    match l with
    | 0 => rfl
    | 1 => rfl
    | 2 => rfl
  | scVector c s =>
    match l with
    | 0 => rfl
    | 1 => rfl
    | 2 => rfl
  | scScalar c => rfl

theorem same_defs : Cert.Kernel.defs (F := F) = Cert.KernelIdeal.defs (F := F) :=
  (congrArg (fun D => Cert.Kernel.sc.defs (Pipeline.defs Cert.Kernel.pcfgs D)) same_defs₀).trans rfl

end Cert.KernelIdeal.Own

end
-- ==== Proof.Frames.lean ====
/- The frames: what the preconditions say of the arguments, and the runs of the three programs. -/
module

public import proofs.«01_k».proof.Defs
public import proofs.«01_k».proof.Proof.Launch
public import proofs.«01_k».proof.Proof.Same
public import proofs.«01_k».proof.Proof.Gen.Kernel
public import proofs.«01_k».proof.Proof.Gen.ReferenceIdeal
public import proofs.«01_k».proof.Proof.Gen.ReferenceIdeal.Run
public import proofs.«01_k».proof.Proof.Gen.Pre_valid
public import proofs.«01_k».proof.Proof.Gen.Pre_ranged
public import Idealize.ShloMosaic.Lib.ReduceAll
public import Idealize.ShloMosaic.Lib.Quiescent

@[expose] public section

noncomputable section

namespace Cert.KernelIdeal.Own

open Idealize.ShloMosaic Idealize.SL.Sem Cert.KernelIdeal

theorem andi_parts {s : Shape} {x y : IVec s 1} {i : s.Idx} (h : andi x y i = 1#1) : x i = 1#1 ∧ y i = 1#1 :=
  IntOp.andi_eq_one.1 h

/-- A word that is at least 0 and below 256, both as signed words. -/
theorem word_lt {v : BitVec 32} (h0 : IntOp.cmpi .sge v 0#32 = 1#1) (h1 : IntOp.cmpi .slt v 256#32 = 1#1) : v.toNat < 256 := by
  have a := IntOp.cmpi_sge.1 h0
  have b := IntOp.cmpi_slt.1 h1
  have z0 : (0#32 : BitVec 32).toInt = 0 := by decide
  have z1 : (256#32 : BitVec 32).toInt = 256 := by decide
  rw [z0] at a
  rw [z1] at b
  rw [BitVec.toInt_eq_toNat_cond] at a b
  have := v.isLt
  split at a <;> split at b <;> omega

instance : Subsingleton (Cert.Pre_ranged.S_).Idx := ⟨fun a b => funext fun i => i.elim0⟩
instance : Subsingleton (Cert.Pre_valid.S_).Idx := ⟨fun a b => funext fun i => i.elim0⟩

theorem ranged_lt {F : FTy → Type} [FloatOps F] (a0 : FVec F Cert.Pre_ranged.S100000x128 .f32) (a1 : IVec Cert.Pre_ranged.S100000 32)
    (a2 : FVec F Cert.Pre_ranged.S128 .f32) (a3 : FVec F Cert.Pre_ranged.S1 .f32)
    (h : Cert.Pre_ranged.fn a0 a1 a2 a3 = fun _ => 1#1) (y : Cert.Pre_ranged.S100000.Idx) : (a1 y).toNat < 256 := by
  have h1 := congrFun h (fun i => i.elim0)
  dsimp only [Cert.Pre_ranged.fn] at h1
  obtain ⟨p, q⟩ := andi_parts h1
  exact word_lt (Host.reduce_andi_all _ _ _ _ _ p y) (Host.reduce_andi_all _ _ _ _ _ q y)

/-- What the precondition of the value claim says. -/
structure ValidArgs (a0 : FVec Ideal Cert.Pre_valid.S100000x128 .f32) (a1 : IVec Cert.Pre_valid.S100000 32)
    (a2 : FVec Ideal Cert.Pre_valid.S128 .f32) (a3 : FVec Ideal Cert.Pre_valid.S1 .f32) : Prop where
  lt : ∀ y, (a1 y).toNat < 256
  x_fin : ∀ y, Host.absf a0 y < (⊤ : EReal)
  w_fin : ∀ y, Host.absf a2 y < (⊤ : EReal)
  o_fin : ∀ y, Host.absf a3 y < (⊤ : EReal)
  sorted : ∀ (n : ℕ) (h : n + 1 < 100000), (a1 (at1 n (by omega))).toNat ≤ (a1 (at1 (n + 1) h)).toNat

theorem fin_of {s : Shape} {x : FVec Ideal s .f32} {i : s.Idx} (bc : (⟨0, ![]⟩ : Shape).BroadcastsInDim s ![])
    (h : cmpf .olt (Host.absf x) (broadcastInDim s ![] bc (constant (⟨0, ![]⟩ : Shape) .f32 0x7F800000#32)) i = 1#1) :
    Host.absf x i < (⊤ : EReal) := by
  have h2 : Ideal.cmp .olt (Host.absf x i) (Ideal.ofBits .f32 0x7F800000#32) = 1#1 := h
  have e : Ideal.ofBits .f32 0x7F800000#32 = ⊤ := by simp [Ideal.ofBits, Ideal.ieee]
  rw [e] at h2
  simp only [Ideal.cmp] at h2
  by_contra hn
  rw [decide_eq_false hn] at h2
  exact absurd h2 (by decide)

theorem valid_args (a0 : FVec Ideal Cert.Pre_valid.S100000x128 .f32) (a1 : IVec Cert.Pre_valid.S100000 32)
    (a2 : FVec Ideal Cert.Pre_valid.S128 .f32) (a3 : FVec Ideal Cert.Pre_valid.S1 .f32)
    (h : Cert.Pre_valid.fn a0 a1 a2 a3 = fun _ => 1#1) : ValidArgs a0 a1 a2 a3 := by
  have h1 := congrFun h (fun i => i.elim0)
  dsimp only [Cert.Pre_valid.fn, Cert.Pre_valid.fn_part1] at h1
  obtain ⟨p, q⟩ := andi_parts h1
  obtain ⟨p1, p2⟩ := andi_parts p
  obtain ⟨p3, p4⟩ := andi_parts p1
  obtain ⟨p5, p6⟩ := andi_parts p3
  obtain ⟨r1, r2⟩ := andi_parts p2
  have lt : ∀ y, (a1 y).toNat < 256 := fun y =>
    word_lt (Host.reduce_andi_all _ _ _ _ _ r1 y) (Host.reduce_andi_all _ _ _ _ _ r2 y)
  refine ⟨lt, fun y => fin_of _ (Host.reduce_andi_all _ _ _ _ _ p5 y), fun y => fin_of _ (Host.reduce_andi_all _ _ _ _ _ p6 y),
    fun y => fin_of _ (Host.reduce_andi_all _ _ _ _ _ p4 y), fun n hn => ?_⟩
  have e := IntOp.cmpi_sle.1 (Host.reduce_andi_all _ _ _ _ _ q (at1 n (by omega)))
  have e1 : extractStridedSlice Cert.Pre_valid.S99999 ![0] a1 Cert.Pre_valid.Facts.slices_S100000_S99999_0 (at1 n (by omega))
      = a1 (at1 n (by omega)) := by
    refine congrArg a1 (funext fun a => Fin.ext ?_)
    obtain rfl : a = 0 := Subsingleton.elim _ _
    show 0 + n = n
    omega
  have e2 : extractStridedSlice Cert.Pre_valid.S99999 ![1] a1 Cert.Pre_valid.Facts.slices_S100000_S99999_1 (at1 n (by omega))
      = a1 (at1 (n + 1) hn) := by
    refine congrArg a1 (funext fun a => Fin.ext ?_)
    obtain rfl : a = 0 := Subsingleton.elim _ _
    show 1 + n = n + 1
    omega
  rw [e1, e2, BitVec.toInt_eq_toNat_cond, BitVec.toInt_eq_toNat_cond] at e
  have := lt (at1 n (by omega))
  have := lt (at1 (n + 1) hn)
  split at e <;> split at e <;> omega

/-- The run of the kernel, of its arguments and its counters only. -/
theorem run_args {F : FTy → Type} [FloatOps F] [∀ e, Nonempty (Elt F e)] (m : (ℓ : Loc nD τ sig) → Buf (Elt F) ℓ) (ρ : Dev nD → PrngReg)
    (hpre : PreOK m) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run Cert.KernelIdeal.defs _ _).mono (fun _ h => ⟨fun c => ⟨(h.1 c).1, (h.1 c).2.1, (h.1 c).2.2.1, (h.1 c).2.2.2.1⟩, h.2⟩)
    (run_main m ρ hpre)

theorem frame_kernel : Cert.quiescent_Kernel := fun m ρ hpre => by
  rw [same_defs]
  exact run_args (F := Bits) m ρ (fun d y => ranged_lt _ _ _ _ (hpre d) y)

theorem frame_ideal : Cert.quiescent_KernelIdeal := fun m ρ hpre =>
  run_args (F := Ideal) m ρ (fun d y => ranged_lt _ _ _ _ (hpre d) y)

theorem frame_ideal_valid : Cert.quiescent_KernelIdeal_pre_valid := fun m ρ hpre =>
  run_args (F := Ideal) m ρ (fun d y => (valid_args _ _ _ _ (hpre d)).lt y)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_valid : Cert.quiescent_ReferenceIdeal_pre_valid := fun m ρ _ => frame_ref m ρ trivial

end Cert.KernelIdeal.Own

end
-- ==== Proof.Alg.lean ====
/- The kernel's result and the reference's are the same function of the arguments. -/
module

public import proofs.«01_k».proof.Proof.MathL
public import proofs.«01_k».proof.Proof.MathR
public import proofs.«01_k».proof.Proof.Frames

@[expose] public section

noncomputable section

namespace Cert.KernelIdeal.Own

open Idealize.ShloMosaic Idealize.SL.Sem Cert.KernelIdeal Cert.KernelIdeal.Gen
open Cert.ReferenceIdeal.Own (outR outR_apply lgR lgR_apply mhR mxR mhR_real res_eq)
open Cert.Own (softmax_eq coe_sum)
open scoped BigOperators

theorem real_of_abs (z : EReal) (h : max z (-z) < ⊤) : ∃ r : ℝ, z = (r : EReal) := by
  induction z with
  | bot => simp at h
  | top => simp at h
  | coe r => exact ⟨r, rfl⟩

theorem at1_eq {n : ℕ} (i : Fin n) : (at1 i.val i.isLt : (⟨1, ![n]⟩ : Shape).Idx) = ValueIdx.ix1 i := by
  funext a
  match a with
  | ⟨0, _⟩ => rfl

theorem un1_ix {α : Type} {n : ℕ} (E : (⟨1, ![n]⟩ : Shape).Idx → α) (z : α) (i : Fin n) : un1 E z i.val = E (ValueIdx.ix1 i) := by
  rw [un1_eq E z i.val i.isLt, at1_eq]

theorem un2_ix {α : Type} {m n : ℕ} (E : (⟨2, ![m, n]⟩ : Shape).Idx → α) (z : α) (i : Fin m) (j : Fin n) : un2 E z i.val j.val = E (ValueIdx.ix2 i j) := by
  refine (dif_pos ⟨i.isLt, j.isLt⟩ : un2 E z i.val j.val = _).trans (congrArg E (funext fun a => ?_))
  match a with
  | ⟨0, _⟩ => rfl
  | ⟨1, _⟩ => rfl

theorem den_fin (b : IVec S100000 32) (l : FVec Ideal S100000 .f32) (z : EReal) (r : ℕ) :
    den (un1 b 0#32) (un1 l z) r = ∑ i : Fin 100000, if (b (ValueIdx.ix1 i)).toNat = r then Ideal.exp (l (ValueIdx.ix1 i)) else 0 := by
  unfold den
  rw [Finset.sum_range]
  refine Finset.sum_congr rfl fun i _ => ?_
  unfold pick
  beta_reduce
  rw [un1_ix, un1_ix]

theorem num_fin (b : IVec S100000 32) (l : FVec Ideal S100000 .f32) (x : FVec Ideal S100000x128 .f32) (z : EReal) (r : ℕ) (c : Fin 128) :
    num (un1 b 0#32) (un1 l z) (un2 x z) r c.val
      = ∑ i : Fin 100000, if (b (ValueIdx.ix1 i)).toNat = r then Ideal.exp (l (ValueIdx.ix1 i)) * x (ValueIdx.ix2 i c) else 0 := by
  unfold num
  rw [Finset.sum_range]
  refine Finset.sum_congr rfl fun i _ => ?_
  unfold pick
  beta_reduce
  rw [un1_ix, un1_ix, un2_ix]

/-- The two results at an index, the scores and the rows real numbers. -/
theorem out_eq (x : FVec Ideal S100000x128 .f32) (b : IVec S100000 32) (l : FVec Ideal S100000 .f32) (M : FVec Ideal S256 .f32) (z : EReal)
    (hb : ∀ i : Fin 100000, (b (ValueIdx.ix1 i)).toNat < 256) (hx : ∀ y, ∃ ρ : ℝ, x y = (ρ : EReal)) (hl : ∀ y, ∃ ρ : ℝ, l y = (ρ : EReal))
    (hM : ∀ y, ∃ ρ : ℝ, M y = (ρ : EReal)) (r : Fin 256) (c : Fin 128) :
    Scalar.select (Ideal.cmp .ogt (den (un1 b 0#32) (un1 l z) r.val) 0)
      (Ideal.div (num (un1 b 0#32) (un1 l z) (un2 x z) r.val c.val) (den (un1 b 0#32) (un1 l z) r.val)) 0
      = outR x b l M (ValueIdx.ix2 r c) := by
  choose xr hxr using hx
  choose lr hlr using hl
  choose Mr hMr using hM
  have key := softmax_eq (fun i : Fin 100000 => (b (ValueIdx.ix1 i)).toNat) (fun i => lr (ValueIdx.ix1 i)) (fun i => xr (ValueIdx.ix2 i c)) (Mr (ValueIdx.ix1 r)) r.val
  rw [den_fin, num_fin, outR_apply x b l M hb r c]
  simp only [hxr, hlr, hMr]
  exact key.symm

/-- The scores are real numbers. -/
theorem lg_real (x : FVec Ideal S100000x128 .f32) (w : FVec Ideal S128 .f32) (o : FVec Ideal S1 .f32)
    (hx : ∀ y, ∃ ρ : ℝ, x y = (ρ : EReal)) (hw : ∀ y, ∃ ρ : ℝ, w y = (ρ : EReal)) (ho : ∀ y, ∃ ρ : ℝ, o y = (ρ : EReal)) (y : S100000.Idx) :
    ∃ ρ : ℝ, lgR x w o y = (ρ : EReal) := by
  choose xr hxr using hx
  choose wr hwr using hw
  choose or hor using ho
  obtain ⟨i, rfl⟩ : ∃ i : Fin 100000, y = ValueIdx.ix1 i := ⟨y 0, ValueIdx.eq_ix1 y⟩
  refine ⟨(∑ k : Fin 128, xr (ValueIdx.ix2 i k) * wr (ValueIdx.ix1 k)) + or (ValueIdx.ix1 0), ?_⟩
  rw [lgR_apply]
  simp only [hxr, hwr, hor, ← EReal.coe_mul, ← coe_sum, ← EReal.coe_add]

theorem sorted_of (b : IVec S100000 32) (h : ∀ (n : ℕ) (h : n + 1 < 100000), (b (at1 n (by omega))).toNat ≤ (b (at1 (n + 1) h)).toNat) (i : ℕ) :
    ∀ j, i ≤ j → j < 100000 → (un1 b 0#32 i).toNat ≤ (un1 b 0#32 j).toNat := by
  intro j hij
  induction j, hij using Nat.le_induction with
  | base => intro _; exact le_refl _
  | succ j hj ih =>
    intro hlt
    refine (ih (by omega)).trans ?_
    rw [un1_eq b _ j (by omega), un1_eq b _ (j + 1) hlt]
    exact h j hlt

theorem lA_eq (m : (ℓ : Loc nD τ sig) → Buf (Elt Ideal) ℓ) (d : Dev nD) (w : FVec Ideal S128 .f32) (o : FVec Ideal S1 .f32)
    (hw : m (L0 d main_arg2) = w) (ho : m (L0 d main_arg3) = o) : lA m d = lgR (xA m d) w o := by
  subst hw ho
  funext y
  obtain ⟨i, rfl⟩ : ∃ i : Fin 100000, y = ValueIdx.ix1 i := ⟨y 0, ValueIdx.eq_ix1 y⟩
  rw [lgR_apply]
  exact lA_apply m d i

/-- The kernel's result is the reference's. -/
theorem rA_eq (m : (ℓ : Loc nD τ sig) → Buf (Elt Ideal) ℓ) (d : Dev nD) (w : FVec Ideal S128 .f32) (o : FVec Ideal S1 .f32)
    (hw : m (L0 d main_arg2) = w) (ho : m (L0 d main_arg3) = o) (hv : ValidArgs (xA m d) (bA m d) w o) :
    rA m d = outR (xA m d) (bA m d) (lgR (xA m d) w o) (mhR (mxR (bA m d) (lgR (xA m d) w o))) := by
  have hx : ∀ y, ∃ ρ : ℝ, xA m d y = (ρ : EReal) := fun y => real_of_abs _ (hv.x_fin y)
  have hwr : ∀ y, ∃ ρ : ℝ, w y = (ρ : EReal) := fun y => real_of_abs _ (hv.w_fin y)
  have hor : ∀ y, ∃ ρ : ℝ, o y = (ρ : EReal) := fun y => real_of_abs _ (hv.o_fin y)
  have hl := lg_real (xA m d) w o hx hwr hor
  funext y
  have h := rA_apply m d y fun i j hij hj => sorted_of (bA m d) hv.sorted i j hij hj
  refine h.trans ?_
  have e : y = ValueIdx.ix2 (y 0) (y 1) := ValueIdx.eq_ix2 y
  have hLg : Lg m d = un1 (lgR (xA m d) w o) (zf m d) := by unfold Lg; rw [lA_eq m d w o hw ho]
  rw [hLg]
  refine (out_eq (xA m d) (bA m d) (lgR (xA m d) w o) (mhR (mxR (bA m d) (lgR (xA m d) w o))) (zf m d)
    (fun i => hv.lt _) hx hl (fun y => mhR_real _ y) (y 0) (y 1)).trans ?_
  exact congrArg (outR (xA m d) (bA m d) (lgR (xA m d) w o) (mhR (mxR (bA m d) (lgR (xA m d) w o)))) e.symm

theorem algebraic : Cert.algebraic_KernelIdeal_ReferenceIdeal_pre_valid := by
  intro m g m' g' hpre hargs
  refine ⟨fun c => rA m c, ?_, ?_⟩
  · exact (θ_run Cert.KernelIdeal.defs _ _).mono (fun _ h c => ⟨(h.1 c).2.2.2.2, (h.1 c).1, (h.1 c).2.1, (h.1 c).2.2.1, (h.1 c).2.2.2.1⟩)
      (run_main (F := Ideal) m g (fun d y => (valid_args _ _ _ _ (hpre d)).lt y))
  · refine (θ_run Cert.ReferenceIdeal.defs _ _).mono (fun _ h c => ⟨(h c).1.trans ?_, (h c).2⟩) (Cert.ReferenceIdeal.Value.run (F := Ideal) m' g')
    refine (res_eq m' c (xA m c) (bA m c) (m (L0 c main_arg2)) (m (L0 c main_arg3)) (hargs c).1 (hargs c).2.1 (hargs c).2.2.1 (hargs c).2.2.2).trans ?_
    exact (rA_eq m c _ _ rfl rfl (valid_args _ _ _ _ (hpre c))).symm

end Cert.KernelIdeal.Own

end
-- ==== Proof.lean ====
module

public import proofs.«01_k».proof.Defs
public import proofs.«01_k».proof.Proof.Alg
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_valid
public import proofs.«01_k».proof.Proof.Gen.Pre_ranged
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ranged.Gen.facts, Cert.Pre_valid.Gen.facts,
  Cert.KernelIdeal.Own.frame_kernel, Cert.KernelIdeal.Own.frame_ideal, Cert.KernelIdeal.Own.frame_ideal_valid, Cert.KernelIdeal.Own.frame_ref, Cert.KernelIdeal.Own.frame_ref_valid,
  trivial, Cert.KernelIdeal.Own.algebraic⟩

end Cert.Proof

end
